-- ==== Defs.lean ====
def Pre_Nsa (m : (ℓ : Loc Cert.Nsa.nD Cert.Nsa.τ Cert.Nsa.sig) → Buf (Elt Bits) ℓ) : Prop :=
  True

def Pre_NsaIdeal [hPre_finite : Cert.Pre_finite.Facts] (m : (ℓ : Loc Cert.NsaIdeal.nD Cert.NsaIdeal.τ Cert.NsaIdeal.sig) → Buf (Elt Ideal) ℓ) : Prop :=
  ∀ c : Dev Cert.NsaIdeal.nD,
    (Cert.Pre_finite.fn (F := Ideal) (m ((c.tc : Thread Cert.NsaIdeal.nD Cert.NsaIdeal.τ).loc Cert.NsaIdeal.main_arg0)) (m ((c.tc : Thread Cert.NsaIdeal.nD Cert.NsaIdeal.τ).loc Cert.NsaIdeal.main_arg1)) (m ((c.tc : Thread Cert.NsaIdeal.nD Cert.NsaIdeal.τ).loc Cert.NsaIdeal.main_arg2)) (m ((c.tc : Thread Cert.NsaIdeal.nD Cert.NsaIdeal.τ).loc Cert.NsaIdeal.main_arg3)) (m ((c.tc : Thread Cert.NsaIdeal.nD Cert.NsaIdeal.τ).loc Cert.NsaIdeal.main_arg4)) (m ((c.tc : Thread Cert.NsaIdeal.nD Cert.NsaIdeal.τ).loc Cert.NsaIdeal.main_arg5))) = (fun _ => 1#1)

def Pre_NsaIdeal_none (m : (ℓ : Loc Cert.NsaIdeal.nD Cert.NsaIdeal.τ Cert.NsaIdeal.sig) → Buf (Elt Ideal) ℓ) : Prop :=
  True

def Pre_RefIdeal [hPre_finite : Cert.Pre_finite.Facts] (m : (ℓ : Loc Cert.RefIdeal.nD Cert.RefIdeal.τ Cert.RefIdeal.sig) → Buf (Elt Ideal) ℓ) : Prop :=
  ∀ c : Dev Cert.RefIdeal.nD,
    (Cert.Pre_finite.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_Moe [hPre_experts : Cert.Pre_experts.Facts] (m : (ℓ : Loc Cert.Moe.nD Cert.Moe.τ Cert.Moe.sig) → Buf (Elt Bits) ℓ) : Prop :=
  ∀ c : Dev Cert.Moe.nD,
    (Cert.Pre_experts.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_experts : Cert.Pre_experts.Facts] (m : (ℓ : Loc Cert.MoeIdeal.nD Cert.MoeIdeal.τ Cert.MoeIdeal.sig) → Buf (Elt Ideal) ℓ) : Prop :=
  ∀ c : Dev Cert.MoeIdeal.nD,
    (Cert.Pre_experts.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_RefMoeIdeal [hPre_experts : Cert.Pre_experts.Facts] (m : (ℓ : Loc Cert.RefMoeIdeal.nD Cert.RefMoeIdeal.τ Cert.RefMoeIdeal.sig) → Buf (Elt Ideal) ℓ) : Prop :=
  ∀ c : Dev Cert.RefMoeIdeal.nD,
    (Cert.Pre_experts.fn (F := Ideal) (m ((c.tc : Thread Cert.RefMoeIdeal.nD Cert.RefMoeIdeal.τ).loc Cert.RefMoeIdeal.main_arg0)) (m ((c.tc : Thread Cert.RefMoeIdeal.nD Cert.RefMoeIdeal.τ).loc Cert.RefMoeIdeal.main_arg1)) (m ((c.tc : Thread Cert.RefMoeIdeal.nD Cert.RefMoeIdeal.τ).loc Cert.RefMoeIdeal.main_arg2)) (m ((c.tc : Thread Cert.RefMoeIdeal.nD Cert.RefMoeIdeal.τ).loc Cert.RefMoeIdeal.main_arg3)) (m ((c.tc : Thread Cert.RefMoeIdeal.nD Cert.RefMoeIdeal.τ).loc Cert.RefMoeIdeal.main_arg4)) (m ((c.tc : Thread Cert.RefMoeIdeal.nD Cert.RefMoeIdeal.τ).loc Cert.RefMoeIdeal.main_arg5))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_RefCombineIdeal (m : (ℓ : Loc Cert.RefCombineIdeal.nD Cert.RefCombineIdeal.τ Cert.RefCombineIdeal.sig) → Buf (Elt Ideal) ℓ) : Prop :=
  True

def Pre_Post (m : (ℓ : Loc Cert.Post.nD Cert.Post.τ Cert.Post.sig) → Buf (Elt Bits) ℓ) : Prop :=
  True

def Pre_PostIdeal [hPre_heads_finite : Cert.Pre_heads_finite.Facts] (m : (ℓ : Loc Cert.PostIdeal.nD Cert.PostIdeal.τ Cert.PostIdeal.sig) → Buf (Elt Ideal) ℓ) : Prop :=
  ∀ c : Dev Cert.PostIdeal.nD,
    (Cert.Pre_heads_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8))) = (fun _ => 1#1)

def Pre_PostIdeal_none (m : (ℓ : Loc Cert.PostIdeal.nD Cert.PostIdeal.τ Cert.PostIdeal.sig) → Buf (Elt Ideal) ℓ) : Prop :=
  True

def Pre_RefPostIdeal [hPre_heads_finite : Cert.Pre_heads_finite.Facts] (m : (ℓ : Loc Cert.RefPostIdeal.nD Cert.RefPostIdeal.τ Cert.RefPostIdeal.sig) → Buf (Elt Ideal) ℓ) : Prop :=
  ∀ c : Dev Cert.RefPostIdeal.nD,
    (Cert.Pre_heads_finite.fn (F := Ideal) (m ((c.tc : Thread Cert.RefPostIdeal.nD Cert.RefPostIdeal.τ).loc Cert.RefPostIdeal.main_arg0)) (m ((c.tc : Thread Cert.RefPostIdeal.nD Cert.RefPostIdeal.τ).loc Cert.RefPostIdeal.main_arg1)) (m ((c.tc : Thread Cert.RefPostIdeal.nD Cert.RefPostIdeal.τ).loc Cert.RefPostIdeal.main_arg2)) (m ((c.tc : Thread Cert.RefPostIdeal.nD Cert.RefPostIdeal.τ).loc Cert.RefPostIdeal.main_arg3)) (m ((c.tc : Thread Cert.RefPostIdeal.nD Cert.RefPostIdeal.τ).loc Cert.RefPostIdeal.main_arg4)) (m ((c.tc : Thread Cert.RefPostIdeal.nD Cert.RefPostIdeal.τ).loc Cert.RefPostIdeal.main_arg5)) (m ((c.tc : Thread Cert.RefPostIdeal.nD Cert.RefPostIdeal.τ).loc Cert.RefPostIdeal.main_arg6)) (m ((c.tc : Thread Cert.RefPostIdeal.nD Cert.RefPostIdeal.τ).loc Cert.RefPostIdeal.main_arg7)) (m ((c.tc : Thread Cert.RefPostIdeal.nD Cert.RefPostIdeal.τ).loc Cert.RefPostIdeal.main_arg8))) = (fun _ => 1#1)

def Pre_Pre (m : (ℓ : Loc Cert.Pre.nD Cert.Pre.τ Cert.Pre.sig) → Buf (Elt Bits) ℓ) : Prop :=
  True

def Pre_PreIdeal [hPre_projected : Cert.Pre_projected.Facts] (m : (ℓ : Loc Cert.PreIdeal.nD Cert.PreIdeal.τ Cert.PreIdeal.sig) → Buf (Elt Ideal) ℓ) : Prop :=
  ∀ c : Dev Cert.PreIdeal.nD,
    (Cert.Pre_projected.fn (F := Ideal) (m ((c.tc : Thread Cert.PreIdeal.nD Cert.PreIdeal.τ).loc Cert.PreIdeal.main_arg0)) (m ((c.tc : Thread Cert.PreIdeal.nD Cert.PreIdeal.τ).loc Cert.PreIdeal.main_arg1)) (m ((c.tc : Thread Cert.PreIdeal.nD Cert.PreIdeal.τ).loc Cert.PreIdeal.main_arg2)) (m ((c.tc : Thread Cert.PreIdeal.nD Cert.PreIdeal.τ).loc Cert.PreIdeal.main_arg3)) (m ((c.tc : Thread Cert.PreIdeal.nD Cert.PreIdeal.τ).loc Cert.PreIdeal.main_arg4)) (m ((c.tc : Thread Cert.PreIdeal.nD Cert.PreIdeal.τ).loc Cert.PreIdeal.main_arg5)) (m ((c.tc : Thread Cert.PreIdeal.nD Cert.PreIdeal.τ).loc Cert.PreIdeal.main_arg6)) (m ((c.tc : Thread Cert.PreIdeal.nD Cert.PreIdeal.τ).loc Cert.PreIdeal.main_arg7)) (m ((c.tc : Thread Cert.PreIdeal.nD Cert.PreIdeal.τ).loc Cert.PreIdeal.main_arg8)) (m ((c.tc : Thread Cert.PreIdeal.nD Cert.PreIdeal.τ).loc Cert.PreIdeal.main_arg9)) (m ((c.tc : Thread Cert.PreIdeal.nD Cert.PreIdeal.τ).loc Cert.PreIdeal.main_arg10))) = (fun _ => 1#1)

def Pre_PreIdeal_none (m : (ℓ : Loc Cert.PreIdeal.nD Cert.PreIdeal.τ Cert.PreIdeal.sig) → Buf (Elt Ideal) ℓ) : Prop :=
  True

def Pre_RefPreIdeal [hPre_projected : Cert.Pre_projected.Facts] (m : (ℓ : Loc Cert.RefPreIdeal.nD Cert.RefPreIdeal.τ Cert.RefPreIdeal.sig) → Buf (Elt Ideal) ℓ) : Prop :=
  ∀ c : Dev Cert.RefPreIdeal.nD,
    (Cert.Pre_projected.fn (F := Ideal) (m ((c.tc : Thread Cert.RefPreIdeal.nD Cert.RefPreIdeal.τ).loc Cert.RefPreIdeal.main_arg0)) (m ((c.tc : Thread Cert.RefPreIdeal.nD Cert.RefPreIdeal.τ).loc Cert.RefPreIdeal.main_arg1)) (m ((c.tc : Thread Cert.RefPreIdeal.nD Cert.RefPreIdeal.τ).loc Cert.RefPreIdeal.main_arg2)) (m ((c.tc : Thread Cert.RefPreIdeal.nD Cert.RefPreIdeal.τ).loc Cert.RefPreIdeal.main_arg3)) (m ((c.tc : Thread Cert.RefPreIdeal.nD Cert.RefPreIdeal.τ).loc Cert.RefPreIdeal.main_arg4)) (m ((c.tc : Thread Cert.RefPreIdeal.nD Cert.RefPreIdeal.τ).loc Cert.RefPreIdeal.main_arg5)) (m ((c.tc : Thread Cert.RefPreIdeal.nD Cert.RefPreIdeal.τ).loc Cert.RefPreIdeal.main_arg6)) (m ((c.tc : Thread Cert.RefPreIdeal.nD Cert.RefPreIdeal.τ).loc Cert.RefPreIdeal.main_arg7)) (m ((c.tc : Thread Cert.RefPreIdeal.nD Cert.RefPreIdeal.τ).loc Cert.RefPreIdeal.main_arg8)) (m ((c.tc : Thread Cert.RefPreIdeal.nD Cert.RefPreIdeal.τ).loc Cert.RefPreIdeal.main_arg9)) (m ((c.tc : Thread Cert.RefPreIdeal.nD Cert.RefPreIdeal.τ).loc Cert.RefPreIdeal.main_arg10))) = (fun _ => 1#1)

def Pre_Prompt (m : (ℓ : Loc Cert.Prompt.nD Cert.Prompt.τ Cert.Prompt.sig) → Buf (Elt Bits) ℓ) : Prop :=
  True

def Pre_PromptIdeal [hPre_projected_prompt : Cert.Pre_projected_prompt.Facts] (m : (ℓ : Loc Cert.PromptIdeal.nD Cert.PromptIdeal.τ Cert.PromptIdeal.sig) → Buf (Elt Ideal) ℓ) : Prop :=
  ∀ c : Dev Cert.PromptIdeal.nD,
    (Cert.Pre_projected_prompt.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (m ((c.tc : Thread Cert.PromptIdeal.nD Cert.PromptIdeal.τ).loc Cert.PromptIdeal.main_arg7)) (m ((c.tc : Thread Cert.PromptIdeal.nD Cert.PromptIdeal.τ).loc Cert.PromptIdeal.main_arg8)) (m ((c.tc : Thread Cert.PromptIdeal.nD Cert.PromptIdeal.τ).loc Cert.PromptIdeal.main_arg9)) (m ((c.tc : Thread Cert.PromptIdeal.nD Cert.PromptIdeal.τ).loc Cert.PromptIdeal.main_arg10))) = (fun _ => 1#1)

def Pre_PromptIdeal_none (m : (ℓ : Loc Cert.PromptIdeal.nD Cert.PromptIdeal.τ Cert.PromptIdeal.sig) → Buf (Elt Ideal) ℓ) : Prop :=
  True

def Pre_RefPromptIdeal [hPre_projected_prompt : Cert.Pre_projected_prompt.Facts] (m : (ℓ : Loc Cert.RefPromptIdeal.nD Cert.RefPromptIdeal.τ Cert.RefPromptIdeal.sig) → Buf (Elt Ideal) ℓ) : Prop :=
  ∀ c : Dev Cert.RefPromptIdeal.nD,
    (Cert.Pre_projected_prompt.fn (F := Ideal) (m ((c.tc : Thread Cert.RefPromptIdeal.nD Cert.RefPromptIdeal.τ).loc Cert.RefPromptIdeal.main_arg0)) (m ((c.tc : Thread Cert.RefPromptIdeal.nD Cert.RefPromptIdeal.τ).loc Cert.RefPromptIdeal.main_arg1)) (m ((c.tc : Thread Cert.RefPromptIdeal.nD Cert.RefPromptIdeal.τ).loc Cert.RefPromptIdeal.main_arg2)) (m ((c.tc : Thread Cert.RefPromptIdeal.nD Cert.RefPromptIdeal.τ).loc Cert.RefPromptIdeal.main_arg3)) (m ((c.tc : Thread Cert.RefPromptIdeal.nD Cert.RefPromptIdeal.τ).loc Cert.RefPromptIdeal.main_arg4)) (m ((c.tc : Thread Cert.RefPromptIdeal.nD Cert.RefPromptIdeal.τ).loc Cert.RefPromptIdeal.main_arg5)) (m ((c.tc : Thread Cert.RefPromptIdeal.nD Cert.RefPromptIdeal.τ).loc Cert.RefPromptIdeal.main_arg6)) (m ((c.tc : Thread Cert.RefPromptIdeal.nD Cert.RefPromptIdeal.τ).loc Cert.RefPromptIdeal.main_arg7)) (m ((c.tc : Thread Cert.RefPromptIdeal.nD Cert.RefPromptIdeal.τ).loc Cert.RefPromptIdeal.main_arg8)) (m ((c.tc : Thread Cert.RefPromptIdeal.nD Cert.RefPromptIdeal.τ).loc Cert.RefPromptIdeal.main_arg9)) (m ((c.tc : Thread Cert.RefPromptIdeal.nD Cert.RefPromptIdeal.τ).loc Cert.RefPromptIdeal.main_arg10))) = (fun _ => 1#1)

def quiescent_Nsa [hNsa : Cert.Nsa.Facts] : Prop :=
  ∀ (m : (ℓ : Loc Cert.Nsa.nD Cert.Nsa.τ Cert.Nsa.sig) → Buf (Elt Bits) ℓ) (g : Dev Cert.Nsa.nD → PrngReg), Pre_Nsa m →
    θ_run (Cert.Nsa.defs (F := Bits)) (onTc (τ := Cert.Nsa.τ) (Cert.Nsa.main (F := Bits))) ⟨m, fun _ => 0, g⟩ (fun r => (∀ c : Dev Cert.Nsa.nD,
      r.2.mem ((c.tc : Thread Cert.Nsa.nD Cert.Nsa.τ).loc Cert.Nsa.main_arg0) = m ((c.tc : Thread Cert.Nsa.nD Cert.Nsa.τ).loc Cert.Nsa.main_arg0)
      ∧ r.2.mem ((c.tc : Thread Cert.Nsa.nD Cert.Nsa.τ).loc Cert.Nsa.main_arg1) = m ((c.tc : Thread Cert.Nsa.nD Cert.Nsa.τ).loc Cert.Nsa.main_arg1)
      ∧ r.2.mem ((c.tc : Thread Cert.Nsa.nD Cert.Nsa.τ).loc Cert.Nsa.main_arg2) = m ((c.tc : Thread Cert.Nsa.nD Cert.Nsa.τ).loc Cert.Nsa.main_arg2)
      ∧ r.2.mem ((c.tc : Thread Cert.Nsa.nD Cert.Nsa.τ).loc Cert.Nsa.main_arg3) = m ((c.tc : Thread Cert.Nsa.nD Cert.Nsa.τ).loc Cert.Nsa.main_arg3)
      ∧ r.2.mem ((c.tc : Thread Cert.Nsa.nD Cert.Nsa.τ).loc Cert.Nsa.main_arg4) = m ((c.tc : Thread Cert.Nsa.nD Cert.Nsa.τ).loc Cert.Nsa.main_arg4)
      ∧ r.2.mem ((c.tc : Thread Cert.Nsa.nD Cert.Nsa.τ).loc Cert.Nsa.main_arg5) = m ((c.tc : Thread Cert.Nsa.nD Cert.Nsa.τ).loc Cert.Nsa.main_arg5))
      ∧ r.2.sem = fun _ => 0)

def quiescent_NsaIdeal [hNsaIdeal : Cert.NsaIdeal.Facts] [hPre_finite : Cert.Pre_finite.Facts] : Prop :=
  ∀ (m : (ℓ : Loc Cert.NsaIdeal.nD Cert.NsaIdeal.τ Cert.NsaIdeal.sig) → Buf (Elt Ideal) ℓ) (g : Dev Cert.NsaIdeal.nD → PrngReg), Pre_NsaIdeal m →
    θ_run (Cert.NsaIdeal.defs (F := Ideal)) (onTc (τ := Cert.NsaIdeal.τ) (Cert.NsaIdeal.main (F := Ideal))) ⟨m, fun _ => 0, g⟩ (fun r => (∀ c : Dev Cert.NsaIdeal.nD,
      r.2.mem ((c.tc : Thread Cert.NsaIdeal.nD Cert.NsaIdeal.τ).loc Cert.NsaIdeal.main_arg0) = m ((c.tc : Thread Cert.NsaIdeal.nD Cert.NsaIdeal.τ).loc Cert.NsaIdeal.main_arg0)
      ∧ r.2.mem ((c.tc : Thread Cert.NsaIdeal.nD Cert.NsaIdeal.τ).loc Cert.NsaIdeal.main_arg1) = m ((c.tc : Thread Cert.NsaIdeal.nD Cert.NsaIdeal.τ).loc Cert.NsaIdeal.main_arg1)
      ∧ r.2.mem ((c.tc : Thread Cert.NsaIdeal.nD Cert.NsaIdeal.τ).loc Cert.NsaIdeal.main_arg2) = m ((c.tc : Thread Cert.NsaIdeal.nD Cert.NsaIdeal.τ).loc Cert.NsaIdeal.main_arg2)
      ∧ r.2.mem ((c.tc : Thread Cert.NsaIdeal.nD Cert.NsaIdeal.τ).loc Cert.NsaIdeal.main_arg3) = m ((c.tc : Thread Cert.NsaIdeal.nD Cert.NsaIdeal.τ).loc Cert.NsaIdeal.main_arg3)
      ∧ r.2.mem ((c.tc : Thread Cert.NsaIdeal.nD Cert.NsaIdeal.τ).loc Cert.NsaIdeal.main_arg4) = m ((c.tc : Thread Cert.NsaIdeal.nD Cert.NsaIdeal.τ).loc Cert.NsaIdeal.main_arg4)
      ∧ r.2.mem ((c.tc : Thread Cert.NsaIdeal.nD Cert.NsaIdeal.τ).loc Cert.NsaIdeal.main_arg5) = m ((c.tc : Thread Cert.NsaIdeal.nD Cert.NsaIdeal.τ).loc Cert.NsaIdeal.main_arg5))
      ∧ r.2.sem = fun _ => 0)

def quiescent_NsaIdeal_pre_none [hNsaIdeal : Cert.NsaIdeal.Facts] : Prop :=
  ∀ (m : (ℓ : Loc Cert.NsaIdeal.nD Cert.NsaIdeal.τ Cert.NsaIdeal.sig) → Buf (Elt Ideal) ℓ) (g : Dev Cert.NsaIdeal.nD → PrngReg), Pre_NsaIdeal_none m →
    θ_run (Cert.NsaIdeal.defs (F := Ideal)) (onTc (τ := Cert.NsaIdeal.τ) (Cert.NsaIdeal.main (F := Ideal))) ⟨m, fun _ => 0, g⟩ (fun r => (∀ c : Dev Cert.NsaIdeal.nD,
      r.2.mem ((c.tc : Thread Cert.NsaIdeal.nD Cert.NsaIdeal.τ).loc Cert.NsaIdeal.main_arg0) = m ((c.tc : Thread Cert.NsaIdeal.nD Cert.NsaIdeal.τ).loc Cert.NsaIdeal.main_arg0)
      ∧ r.2.mem ((c.tc : Thread Cert.NsaIdeal.nD Cert.NsaIdeal.τ).loc Cert.NsaIdeal.main_arg1) = m ((c.tc : Thread Cert.NsaIdeal.nD Cert.NsaIdeal.τ).loc Cert.NsaIdeal.main_arg1)
      ∧ r.2.mem ((c.tc : Thread Cert.NsaIdeal.nD Cert.NsaIdeal.τ).loc Cert.NsaIdeal.main_arg2) = m ((c.tc : Thread Cert.NsaIdeal.nD Cert.NsaIdeal.τ).loc Cert.NsaIdeal.main_arg2)
      ∧ r.2.mem ((c.tc : Thread Cert.NsaIdeal.nD Cert.NsaIdeal.τ).loc Cert.NsaIdeal.main_arg3) = m ((c.tc : Thread Cert.NsaIdeal.nD Cert.NsaIdeal.τ).loc Cert.NsaIdeal.main_arg3)
      ∧ r.2.mem ((c.tc : Thread Cert.NsaIdeal.nD Cert.NsaIdeal.τ).loc Cert.NsaIdeal.main_arg4) = m ((c.tc : Thread Cert.NsaIdeal.nD Cert.NsaIdeal.τ).loc Cert.NsaIdeal.main_arg4)
      ∧ r.2.mem ((c.tc : Thread Cert.NsaIdeal.nD Cert.NsaIdeal.τ).loc Cert.NsaIdeal.main_arg5) = m ((c.tc : Thread Cert.NsaIdeal.nD Cert.NsaIdeal.τ).loc Cert.NsaIdeal.main_arg5))
      ∧ r.2.sem = fun _ => 0)

def quiescent_RefIdeal [hRefIdeal : Cert.RefIdeal.Facts] [hPre_finite : Cert.Pre_finite.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5))
      ∧ r.2.sem = fun _ => 0)

def quiescent_Moe [hMoe : Cert.Moe.Facts] [hPre_experts : Cert.Pre_experts.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_experts : Cert.Pre_experts.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_RefMoeIdeal [hRefMoeIdeal : Cert.RefMoeIdeal.Facts] [hPre_experts : Cert.Pre_experts.Facts] : Prop :=
  ∀ (m : (ℓ : Loc Cert.RefMoeIdeal.nD Cert.RefMoeIdeal.τ Cert.RefMoeIdeal.sig) → Buf (Elt Ideal) ℓ) (g : Dev Cert.RefMoeIdeal.nD → PrngReg), Pre_RefMoeIdeal m →
    θ_run (Cert.RefMoeIdeal.defs (F := Ideal)) (onTc (τ := Cert.RefMoeIdeal.τ) (Cert.RefMoeIdeal.main (F := Ideal))) ⟨m, fun _ => 0, g⟩ (fun r => (∀ c : Dev Cert.RefMoeIdeal.nD,
      r.2.mem ((c.tc : Thread Cert.RefMoeIdeal.nD Cert.RefMoeIdeal.τ).loc Cert.RefMoeIdeal.main_arg0) = m ((c.tc : Thread Cert.RefMoeIdeal.nD Cert.RefMoeIdeal.τ).loc Cert.RefMoeIdeal.main_arg0)
      ∧ r.2.mem ((c.tc : Thread Cert.RefMoeIdeal.nD Cert.RefMoeIdeal.τ).loc Cert.RefMoeIdeal.main_arg1) = m ((c.tc : Thread Cert.RefMoeIdeal.nD Cert.RefMoeIdeal.τ).loc Cert.RefMoeIdeal.main_arg1)
      ∧ r.2.mem ((c.tc : Thread Cert.RefMoeIdeal.nD Cert.RefMoeIdeal.τ).loc Cert.RefMoeIdeal.main_arg2) = m ((c.tc : Thread Cert.RefMoeIdeal.nD Cert.RefMoeIdeal.τ).loc Cert.RefMoeIdeal.main_arg2)
      ∧ r.2.mem ((c.tc : Thread Cert.RefMoeIdeal.nD Cert.RefMoeIdeal.τ).loc Cert.RefMoeIdeal.main_arg3) = m ((c.tc : Thread Cert.RefMoeIdeal.nD Cert.RefMoeIdeal.τ).loc Cert.RefMoeIdeal.main_arg3)
      ∧ r.2.mem ((c.tc : Thread Cert.RefMoeIdeal.nD Cert.RefMoeIdeal.τ).loc Cert.RefMoeIdeal.main_arg4) = m ((c.tc : Thread Cert.RefMoeIdeal.nD Cert.RefMoeIdeal.τ).loc Cert.RefMoeIdeal.main_arg4)
      ∧ r.2.mem ((c.tc : Thread Cert.RefMoeIdeal.nD Cert.RefMoeIdeal.τ).loc Cert.RefMoeIdeal.main_arg5) = m ((c.tc : Thread Cert.RefMoeIdeal.nD Cert.RefMoeIdeal.τ).loc Cert.RefMoeIdeal.main_arg5))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_RefCombineIdeal [hRefCombineIdeal : Cert.RefCombineIdeal.Facts] : Prop :=
  ∀ (m : (ℓ : Loc Cert.RefCombineIdeal.nD Cert.RefCombineIdeal.τ Cert.RefCombineIdeal.sig) → Buf (Elt Ideal) ℓ) (g : Dev Cert.RefCombineIdeal.nD → PrngReg), Pre_RefCombineIdeal m →
    θ_run (Cert.RefCombineIdeal.defs (F := Ideal)) (onTc (τ := Cert.RefCombineIdeal.τ) (Cert.RefCombineIdeal.main (F := Ideal))) ⟨m, fun _ => 0, g⟩ (fun r => (∀ c : Dev Cert.RefCombineIdeal.nD,
      r.2.mem ((c.tc : Thread Cert.RefCombineIdeal.nD Cert.RefCombineIdeal.τ).loc Cert.RefCombineIdeal.main_arg0) = m ((c.tc : Thread Cert.RefCombineIdeal.nD Cert.RefCombineIdeal.τ).loc Cert.RefCombineIdeal.main_arg0)
      ∧ r.2.mem ((c.tc : Thread Cert.RefCombineIdeal.nD Cert.RefCombineIdeal.τ).loc Cert.RefCombineIdeal.main_arg1) = m ((c.tc : Thread Cert.RefCombineIdeal.nD Cert.RefCombineIdeal.τ).loc Cert.RefCombineIdeal.main_arg1)
      ∧ r.2.mem ((c.tc : Thread Cert.RefCombineIdeal.nD Cert.RefCombineIdeal.τ).loc Cert.RefCombineIdeal.main_arg2) = m ((c.tc : Thread Cert.RefCombineIdeal.nD Cert.RefCombineIdeal.τ).loc Cert.RefCombineIdeal.main_arg2)
      ∧ r.2.mem ((c.tc : Thread Cert.RefCombineIdeal.nD Cert.RefCombineIdeal.τ).loc Cert.RefCombineIdeal.main_arg3) = m ((c.tc : Thread Cert.RefCombineIdeal.nD Cert.RefCombineIdeal.τ).loc Cert.RefCombineIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] [hPre_heads_finite : Cert.Pre_heads_finite.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostIdeal_pre_none [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal_none m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_RefPostIdeal [hRefPostIdeal : Cert.RefPostIdeal.Facts] [hPre_heads_finite : Cert.Pre_heads_finite.Facts] : Prop :=
  ∀ (m : (ℓ : Loc Cert.RefPostIdeal.nD Cert.RefPostIdeal.τ Cert.RefPostIdeal.sig) → Buf (Elt Ideal) ℓ) (g : Dev Cert.RefPostIdeal.nD → PrngReg), Pre_RefPostIdeal m →
    θ_run (Cert.RefPostIdeal.defs (F := Ideal)) (onTc (τ := Cert.RefPostIdeal.τ) (Cert.RefPostIdeal.main (F := Ideal))) ⟨m, fun _ => 0, g⟩ (fun r => (∀ c : Dev Cert.RefPostIdeal.nD,
      r.2.mem ((c.tc : Thread Cert.RefPostIdeal.nD Cert.RefPostIdeal.τ).loc Cert.RefPostIdeal.main_arg0) = m ((c.tc : Thread Cert.RefPostIdeal.nD Cert.RefPostIdeal.τ).loc Cert.RefPostIdeal.main_arg0)
      ∧ r.2.mem ((c.tc : Thread Cert.RefPostIdeal.nD Cert.RefPostIdeal.τ).loc Cert.RefPostIdeal.main_arg1) = m ((c.tc : Thread Cert.RefPostIdeal.nD Cert.RefPostIdeal.τ).loc Cert.RefPostIdeal.main_arg1)
      ∧ r.2.mem ((c.tc : Thread Cert.RefPostIdeal.nD Cert.RefPostIdeal.τ).loc Cert.RefPostIdeal.main_arg2) = m ((c.tc : Thread Cert.RefPostIdeal.nD Cert.RefPostIdeal.τ).loc Cert.RefPostIdeal.main_arg2)
      ∧ r.2.mem ((c.tc : Thread Cert.RefPostIdeal.nD Cert.RefPostIdeal.τ).loc Cert.RefPostIdeal.main_arg3) = m ((c.tc : Thread Cert.RefPostIdeal.nD Cert.RefPostIdeal.τ).loc Cert.RefPostIdeal.main_arg3)
      ∧ r.2.mem ((c.tc : Thread Cert.RefPostIdeal.nD Cert.RefPostIdeal.τ).loc Cert.RefPostIdeal.main_arg4) = m ((c.tc : Thread Cert.RefPostIdeal.nD Cert.RefPostIdeal.τ).loc Cert.RefPostIdeal.main_arg4)
      ∧ r.2.mem ((c.tc : Thread Cert.RefPostIdeal.nD Cert.RefPostIdeal.τ).loc Cert.RefPostIdeal.main_arg5) = m ((c.tc : Thread Cert.RefPostIdeal.nD Cert.RefPostIdeal.τ).loc Cert.RefPostIdeal.main_arg5)
      ∧ r.2.mem ((c.tc : Thread Cert.RefPostIdeal.nD Cert.RefPostIdeal.τ).loc Cert.RefPostIdeal.main_arg6) = m ((c.tc : Thread Cert.RefPostIdeal.nD Cert.RefPostIdeal.τ).loc Cert.RefPostIdeal.main_arg6)
      ∧ r.2.mem ((c.tc : Thread Cert.RefPostIdeal.nD Cert.RefPostIdeal.τ).loc Cert.RefPostIdeal.main_arg7) = m ((c.tc : Thread Cert.RefPostIdeal.nD Cert.RefPostIdeal.τ).loc Cert.RefPostIdeal.main_arg7)
      ∧ r.2.mem ((c.tc : Thread Cert.RefPostIdeal.nD Cert.RefPostIdeal.τ).loc Cert.RefPostIdeal.main_arg8) = m ((c.tc : Thread Cert.RefPostIdeal.nD Cert.RefPostIdeal.τ).loc Cert.RefPostIdeal.main_arg8))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6)
      ∧ r.2.mem ((c.tc : Thread Cert.Pre.nD Cert.Pre.τ).loc Cert.Pre.main_arg7) = m ((c.tc : Thread Cert.Pre.nD Cert.Pre.τ).loc Cert.Pre.main_arg7)
      ∧ r.2.mem ((c.tc : Thread Cert.Pre.nD Cert.Pre.τ).loc Cert.Pre.main_arg8) = m ((c.tc : Thread Cert.Pre.nD Cert.Pre.τ).loc Cert.Pre.main_arg8)
      ∧ r.2.mem ((c.tc : Thread Cert.Pre.nD Cert.Pre.τ).loc Cert.Pre.main_arg9) = m ((c.tc : Thread Cert.Pre.nD Cert.Pre.τ).loc Cert.Pre.main_arg9)
      ∧ r.2.mem ((c.tc : Thread Cert.Pre.nD Cert.Pre.τ).loc Cert.Pre.main_arg10) = m ((c.tc : Thread Cert.Pre.nD Cert.Pre.τ).loc Cert.Pre.main_arg10))
      ∧ r.2.sem = fun _ => 0)

def quiescent_PreIdeal [hPreIdeal : Cert.PreIdeal.Facts] [hPre_projected : Cert.Pre_projected.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
      ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
      ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
      ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
      ∧ r.2.mem ((c.tc : Thread Cert.PreIdeal.nD Cert.PreIdeal.τ).loc Cert.PreIdeal.main_arg10) = m ((c.tc : Thread Cert.PreIdeal.nD Cert.PreIdeal.τ).loc Cert.PreIdeal.main_arg10))
      ∧ r.2.sem = fun _ => 0)

def quiescent_PreIdeal_pre_none [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal_none m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
      ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
      ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
      ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
      ∧ r.2.mem ((c.tc : Thread Cert.PreIdeal.nD Cert.PreIdeal.τ).loc Cert.PreIdeal.main_arg10) = m ((c.tc : Thread Cert.PreIdeal.nD Cert.PreIdeal.τ).loc Cert.PreIdeal.main_arg10))
      ∧ r.2.sem = fun _ => 0)

def quiescent_RefPreIdeal [hRefPreIdeal : Cert.RefPreIdeal.Facts] [hPre_projected : Cert.Pre_projected.Facts] : Prop :=
  ∀ (m : (ℓ : Loc Cert.RefPreIdeal.nD Cert.RefPreIdeal.τ Cert.RefPreIdeal.sig) → Buf (Elt Ideal) ℓ) (g : Dev Cert.RefPreIdeal.nD → PrngReg), Pre_RefPreIdeal m →
    θ_run (Cert.RefPreIdeal.defs (F := Ideal)) (onTc (τ := Cert.RefPreIdeal.τ) (Cert.RefPreIdeal.main (F := Ideal))) ⟨m, fun _ => 0, g⟩ (fun r => (∀ c : Dev Cert.RefPreIdeal.nD,
      r.2.mem ((c.tc : Thread Cert.RefPreIdeal.nD Cert.RefPreIdeal.τ).loc Cert.RefPreIdeal.main_arg0) = m ((c.tc : Thread Cert.RefPreIdeal.nD Cert.RefPreIdeal.τ).loc Cert.RefPreIdeal.main_arg0)
      ∧ r.2.mem ((c.tc : Thread Cert.RefPreIdeal.nD Cert.RefPreIdeal.τ).loc Cert.RefPreIdeal.main_arg1) = m ((c.tc : Thread Cert.RefPreIdeal.nD Cert.RefPreIdeal.τ).loc Cert.RefPreIdeal.main_arg1)
      ∧ r.2.mem ((c.tc : Thread Cert.RefPreIdeal.nD Cert.RefPreIdeal.τ).loc Cert.RefPreIdeal.main_arg2) = m ((c.tc : Thread Cert.RefPreIdeal.nD Cert.RefPreIdeal.τ).loc Cert.RefPreIdeal.main_arg2)
      ∧ r.2.mem ((c.tc : Thread Cert.RefPreIdeal.nD Cert.RefPreIdeal.τ).loc Cert.RefPreIdeal.main_arg3) = m ((c.tc : Thread Cert.RefPreIdeal.nD Cert.RefPreIdeal.τ).loc Cert.RefPreIdeal.main_arg3)
      ∧ r.2.mem ((c.tc : Thread Cert.RefPreIdeal.nD Cert.RefPreIdeal.τ).loc Cert.RefPreIdeal.main_arg4) = m ((c.tc : Thread Cert.RefPreIdeal.nD Cert.RefPreIdeal.τ).loc Cert.RefPreIdeal.main_arg4)
      ∧ r.2.mem ((c.tc : Thread Cert.RefPreIdeal.nD Cert.RefPreIdeal.τ).loc Cert.RefPreIdeal.main_arg5) = m ((c.tc : Thread Cert.RefPreIdeal.nD Cert.RefPreIdeal.τ).loc Cert.RefPreIdeal.main_arg5)
      ∧ r.2.mem ((c.tc : Thread Cert.RefPreIdeal.nD Cert.RefPreIdeal.τ).loc Cert.RefPreIdeal.main_arg6) = m ((c.tc : Thread Cert.RefPreIdeal.nD Cert.RefPreIdeal.τ).loc Cert.RefPreIdeal.main_arg6)
      ∧ r.2.mem ((c.tc : Thread Cert.RefPreIdeal.nD Cert.RefPreIdeal.τ).loc Cert.RefPreIdeal.main_arg7) = m ((c.tc : Thread Cert.RefPreIdeal.nD Cert.RefPreIdeal.τ).loc Cert.RefPreIdeal.main_arg7)
      ∧ r.2.mem ((c.tc : Thread Cert.RefPreIdeal.nD Cert.RefPreIdeal.τ).loc Cert.RefPreIdeal.main_arg8) = m ((c.tc : Thread Cert.RefPreIdeal.nD Cert.RefPreIdeal.τ).loc Cert.RefPreIdeal.main_arg8)
      ∧ r.2.mem ((c.tc : Thread Cert.RefPreIdeal.nD Cert.RefPreIdeal.τ).loc Cert.RefPreIdeal.main_arg9) = m ((c.tc : Thread Cert.RefPreIdeal.nD Cert.RefPreIdeal.τ).loc Cert.RefPreIdeal.main_arg9)
      ∧ r.2.mem ((c.tc : Thread Cert.RefPreIdeal.nD Cert.RefPreIdeal.τ).loc Cert.RefPreIdeal.main_arg10) = m ((c.tc : Thread Cert.RefPreIdeal.nD Cert.RefPreIdeal.τ).loc Cert.RefPreIdeal.main_arg10))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7)
      ∧ r.2.mem ((c.tc : Thread Cert.Prompt.nD Cert.Prompt.τ).loc Cert.Prompt.main_arg8) = m ((c.tc : Thread Cert.Prompt.nD Cert.Prompt.τ).loc Cert.Prompt.main_arg8)
      ∧ r.2.mem ((c.tc : Thread Cert.Prompt.nD Cert.Prompt.τ).loc Cert.Prompt.main_arg9) = m ((c.tc : Thread Cert.Prompt.nD Cert.Prompt.τ).loc Cert.Prompt.main_arg9)
      ∧ r.2.mem ((c.tc : Thread Cert.Prompt.nD Cert.Prompt.τ).loc Cert.Prompt.main_arg10) = m ((c.tc : Thread Cert.Prompt.nD Cert.Prompt.τ).loc Cert.Prompt.main_arg10))
      ∧ r.2.sem = fun _ => 0)

def quiescent_PromptIdeal [hPromptIdeal : Cert.PromptIdeal.Facts] [hPre_projected_prompt : Cert.Pre_projected_prompt.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
      ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10))
      ∧ r.2.sem = fun _ => 0)

def quiescent_PromptIdeal_pre_none [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal_none m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
      ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10))
      ∧ r.2.sem = fun _ => 0)

def quiescent_RefPromptIdeal [hRefPromptIdeal : Cert.RefPromptIdeal.Facts] [hPre_projected_prompt : Cert.Pre_projected_prompt.Facts] : Prop :=
  ∀ (m : (ℓ : Loc Cert.RefPromptIdeal.nD Cert.RefPromptIdeal.τ Cert.RefPromptIdeal.sig) → Buf (Elt Ideal) ℓ) (g : Dev Cert.RefPromptIdeal.nD → PrngReg), Pre_RefPromptIdeal m →
    θ_run (Cert.RefPromptIdeal.defs (F := Ideal)) (onTc (τ := Cert.RefPromptIdeal.τ) (Cert.RefPromptIdeal.main (F := Ideal))) ⟨m, fun _ => 0, g⟩ (fun r => (∀ c : Dev Cert.RefPromptIdeal.nD,
      r.2.mem ((c.tc : Thread Cert.RefPromptIdeal.nD Cert.RefPromptIdeal.τ).loc Cert.RefPromptIdeal.main_arg0) = m ((c.tc : Thread Cert.RefPromptIdeal.nD Cert.RefPromptIdeal.τ).loc Cert.RefPromptIdeal.main_arg0)
      ∧ r.2.mem ((c.tc : Thread Cert.RefPromptIdeal.nD Cert.RefPromptIdeal.τ).loc Cert.RefPromptIdeal.main_arg1) = m ((c.tc : Thread Cert.RefPromptIdeal.nD Cert.RefPromptIdeal.τ).loc Cert.RefPromptIdeal.main_arg1)
      ∧ r.2.mem ((c.tc : Thread Cert.RefPromptIdeal.nD Cert.RefPromptIdeal.τ).loc Cert.RefPromptIdeal.main_arg2) = m ((c.tc : Thread Cert.RefPromptIdeal.nD Cert.RefPromptIdeal.τ).loc Cert.RefPromptIdeal.main_arg2)
      ∧ r.2.mem ((c.tc : Thread Cert.RefPromptIdeal.nD Cert.RefPromptIdeal.τ).loc Cert.RefPromptIdeal.main_arg3) = m ((c.tc : Thread Cert.RefPromptIdeal.nD Cert.RefPromptIdeal.τ).loc Cert.RefPromptIdeal.main_arg3)
      ∧ r.2.mem ((c.tc : Thread Cert.RefPromptIdeal.nD Cert.RefPromptIdeal.τ).loc Cert.RefPromptIdeal.main_arg4) = m ((c.tc : Thread Cert.RefPromptIdeal.nD Cert.RefPromptIdeal.τ).loc Cert.RefPromptIdeal.main_arg4)
      ∧ r.2.mem ((c.tc : Thread Cert.RefPromptIdeal.nD Cert.RefPromptIdeal.τ).loc Cert.RefPromptIdeal.main_arg5) = m ((c.tc : Thread Cert.RefPromptIdeal.nD Cert.RefPromptIdeal.τ).loc Cert.RefPromptIdeal.main_arg5)
      ∧ r.2.mem ((c.tc : Thread Cert.RefPromptIdeal.nD Cert.RefPromptIdeal.τ).loc Cert.RefPromptIdeal.main_arg6) = m ((c.tc : Thread Cert.RefPromptIdeal.nD Cert.RefPromptIdeal.τ).loc Cert.RefPromptIdeal.main_arg6)
      ∧ r.2.mem ((c.tc : Thread Cert.RefPromptIdeal.nD Cert.RefPromptIdeal.τ).loc Cert.RefPromptIdeal.main_arg7) = m ((c.tc : Thread Cert.RefPromptIdeal.nD Cert.RefPromptIdeal.τ).loc Cert.RefPromptIdeal.main_arg7)
      ∧ r.2.mem ((c.tc : Thread Cert.RefPromptIdeal.nD Cert.RefPromptIdeal.τ).loc Cert.RefPromptIdeal.main_arg8) = m ((c.tc : Thread Cert.RefPromptIdeal.nD Cert.RefPromptIdeal.τ).loc Cert.RefPromptIdeal.main_arg8)
      ∧ r.2.mem ((c.tc : Thread Cert.RefPromptIdeal.nD Cert.RefPromptIdeal.τ).loc Cert.RefPromptIdeal.main_arg9) = m ((c.tc : Thread Cert.RefPromptIdeal.nD Cert.RefPromptIdeal.τ).loc Cert.RefPromptIdeal.main_arg9)
      ∧ r.2.mem ((c.tc : Thread Cert.RefPromptIdeal.nD Cert.RefPromptIdeal.τ).loc Cert.RefPromptIdeal.main_arg10) = m ((c.tc : Thread Cert.RefPromptIdeal.nD Cert.RefPromptIdeal.τ).loc Cert.RefPromptIdeal.main_arg10))
      ∧ r.2.sem = fun _ => 0)

def preserves_Nsa_NsaIdeal : Prop :=
  IdealRules.named_const.Statement Cert.NsaIdeal.κ "log2e" .f32 0x3FB8AA3B#32 (((Real.log 2)⁻¹ : ℝ) : EReal)
  ∧ IdealRules.named_const.Statement Cert.NsaIdeal.κ "mask" .f32 0xF149F2CA#32 ⊥

def algebraic_NsaIdeal_RefIdeal [hNsaIdeal : Cert.NsaIdeal.Facts] [hRefIdeal : Cert.RefIdeal.Facts] [hPre_finite : Cert.Pre_finite.Facts] : Prop :=
  ∀ (m : (ℓ : Loc Cert.NsaIdeal.nD Cert.NsaIdeal.τ Cert.NsaIdeal.sig) → Buf (Elt Ideal) ℓ) (g : Dev Cert.NsaIdeal.nD → PrngReg)
    (m' : (ℓ : Loc Cert.RefIdeal.nD Cert.RefIdeal.τ Cert.RefIdeal.sig) → Buf (Elt Ideal) ℓ) (g' : Dev Cert.RefIdeal.nD → PrngReg), Pre_NsaIdeal m →
    (∀ c : Dev Cert.NsaIdeal.nD,
      m' ((c.tc : Thread Cert.RefIdeal.nD Cert.RefIdeal.τ).loc Cert.RefIdeal.main_arg0) = m ((c.tc : Thread Cert.NsaIdeal.nD Cert.NsaIdeal.τ).loc Cert.NsaIdeal.main_arg0)
      ∧ m' ((c.tc : Thread Cert.RefIdeal.nD Cert.RefIdeal.τ).loc Cert.RefIdeal.main_arg1) = m ((c.tc : Thread Cert.NsaIdeal.nD Cert.NsaIdeal.τ).loc Cert.NsaIdeal.main_arg1)
      ∧ m' ((c.tc : Thread Cert.RefIdeal.nD Cert.RefIdeal.τ).loc Cert.RefIdeal.main_arg2) = m ((c.tc : Thread Cert.NsaIdeal.nD Cert.NsaIdeal.τ).loc Cert.NsaIdeal.main_arg2)
      ∧ m' ((c.tc : Thread Cert.RefIdeal.nD Cert.RefIdeal.τ).loc Cert.RefIdeal.main_arg3) = m ((c.tc : Thread Cert.NsaIdeal.nD Cert.NsaIdeal.τ).loc Cert.NsaIdeal.main_arg3)
      ∧ m' ((c.tc : Thread Cert.RefIdeal.nD Cert.RefIdeal.τ).loc Cert.RefIdeal.main_arg4) = m ((c.tc : Thread Cert.NsaIdeal.nD Cert.NsaIdeal.τ).loc Cert.NsaIdeal.main_arg4)
      ∧ m' ((c.tc : Thread Cert.RefIdeal.nD Cert.RefIdeal.τ).loc Cert.RefIdeal.main_arg5) = m ((c.tc : Thread Cert.NsaIdeal.nD Cert.NsaIdeal.τ).loc Cert.NsaIdeal.main_arg5)) →
    ∃ (v0 : (c : Dev Cert.NsaIdeal.nD) → Buf (Elt Ideal) ((c.tc : Thread Cert.NsaIdeal.nD Cert.NsaIdeal.τ).loc Cert.NsaIdeal.main_v36)),
      θ_run (Cert.NsaIdeal.defs (F := Ideal)) (onTc (τ := Cert.NsaIdeal.τ) (Cert.NsaIdeal.main (F := Ideal))) ⟨m, fun _ => 0, g⟩ (fun r => ∀ c : Dev Cert.NsaIdeal.nD,
          r.2.mem ((c.tc : Thread Cert.NsaIdeal.nD Cert.NsaIdeal.τ).loc Cert.NsaIdeal.main_v36) = v0 c
          ∧ r.2.mem ((c.tc : Thread Cert.NsaIdeal.nD Cert.NsaIdeal.τ).loc Cert.NsaIdeal.main_arg0) = m ((c.tc : Thread Cert.NsaIdeal.nD Cert.NsaIdeal.τ).loc Cert.NsaIdeal.main_arg0)
          ∧ r.2.mem ((c.tc : Thread Cert.NsaIdeal.nD Cert.NsaIdeal.τ).loc Cert.NsaIdeal.main_arg1) = m ((c.tc : Thread Cert.NsaIdeal.nD Cert.NsaIdeal.τ).loc Cert.NsaIdeal.main_arg1)
          ∧ r.2.mem ((c.tc : Thread Cert.NsaIdeal.nD Cert.NsaIdeal.τ).loc Cert.NsaIdeal.main_arg2) = m ((c.tc : Thread Cert.NsaIdeal.nD Cert.NsaIdeal.τ).loc Cert.NsaIdeal.main_arg2)
          ∧ r.2.mem ((c.tc : Thread Cert.NsaIdeal.nD Cert.NsaIdeal.τ).loc Cert.NsaIdeal.main_arg3) = m ((c.tc : Thread Cert.NsaIdeal.nD Cert.NsaIdeal.τ).loc Cert.NsaIdeal.main_arg3)
          ∧ r.2.mem ((c.tc : Thread Cert.NsaIdeal.nD Cert.NsaIdeal.τ).loc Cert.NsaIdeal.main_arg4) = m ((c.tc : Thread Cert.NsaIdeal.nD Cert.NsaIdeal.τ).loc Cert.NsaIdeal.main_arg4)
          ∧ r.2.mem ((c.tc : Thread Cert.NsaIdeal.nD Cert.NsaIdeal.τ).loc Cert.NsaIdeal.main_arg5) = m ((c.tc : Thread Cert.NsaIdeal.nD Cert.NsaIdeal.τ).loc Cert.NsaIdeal.main_arg5))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v171) = v0 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5))

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)
      ∧ m' ((c.tc : Thread Cert.RefFfnIdeal.nD Cert.RefFfnIdeal.τ).loc Cert.RefFfnIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v13) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4)
          ∧ r.2.mem ((c.tc : Thread Cert.RefFfnIdeal.nD Cert.RefFfnIdeal.τ).loc Cert.RefFfnIdeal.main_arg5) = m' ((c.tc : Thread Cert.RefFfnIdeal.nD Cert.RefFfnIdeal.τ).loc Cert.RefFfnIdeal.main_arg5))

def preserves_Moe_MoeIdeal : Prop :=
  True

def algebraic_MoeIdeal_RefMoeIdeal [hMoeIdeal : Cert.MoeIdeal.Facts] [hRefMoeIdeal : Cert.RefMoeIdeal.Facts] [hPre_experts : Cert.Pre_experts.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.RefMoeIdeal.nD Cert.RefMoeIdeal.τ Cert.RefMoeIdeal.sig) → Buf (Elt Ideal) ℓ) (g' : Dev Cert.RefMoeIdeal.nD → PrngReg), Pre_MoeIdeal m →
    (∀ c : Dev Cert.MoeIdeal.nD,
      m' ((c.tc : Thread Cert.RefMoeIdeal.nD Cert.RefMoeIdeal.τ).loc Cert.RefMoeIdeal.main_arg0) = m ((c.tc : Thread Cert.MoeIdeal.nD Cert.MoeIdeal.τ).loc Cert.MoeIdeal.main_arg0)
      ∧ m' ((c.tc : Thread Cert.RefMoeIdeal.nD Cert.RefMoeIdeal.τ).loc Cert.RefMoeIdeal.main_arg1) = m ((c.tc : Thread Cert.MoeIdeal.nD Cert.MoeIdeal.τ).loc Cert.MoeIdeal.main_arg1)
      ∧ m' ((c.tc : Thread Cert.RefMoeIdeal.nD Cert.RefMoeIdeal.τ).loc Cert.RefMoeIdeal.main_arg2) = m ((c.tc : Thread Cert.MoeIdeal.nD Cert.MoeIdeal.τ).loc Cert.MoeIdeal.main_arg2)
      ∧ m' ((c.tc : Thread Cert.RefMoeIdeal.nD Cert.RefMoeIdeal.τ).loc Cert.RefMoeIdeal.main_arg3) = m ((c.tc : Thread Cert.MoeIdeal.nD Cert.MoeIdeal.τ).loc Cert.MoeIdeal.main_arg3)
      ∧ m' ((c.tc : Thread Cert.RefMoeIdeal.nD Cert.RefMoeIdeal.τ).loc Cert.RefMoeIdeal.main_arg4) = m ((c.tc : Thread Cert.MoeIdeal.nD Cert.MoeIdeal.τ).loc Cert.MoeIdeal.main_arg4)
      ∧ m' ((c.tc : Thread Cert.RefMoeIdeal.nD Cert.RefMoeIdeal.τ).loc Cert.RefMoeIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.RefMoeIdeal.defs (F := Ideal)) (onTc (τ := Cert.RefMoeIdeal.τ) (Cert.RefMoeIdeal.main (F := Ideal))) ⟨m', fun _ => 0, g'⟩ (fun r => ∀ c : Dev Cert.RefMoeIdeal.nD,
          r.2.mem ((c.tc : Thread Cert.RefMoeIdeal.nD Cert.RefMoeIdeal.τ).loc Cert.RefMoeIdeal.main_v36) = v0 c
          ∧ r.2.mem ((c.tc : Thread Cert.RefMoeIdeal.nD Cert.RefMoeIdeal.τ).loc Cert.RefMoeIdeal.main_arg0) = m' ((c.tc : Thread Cert.RefMoeIdeal.nD Cert.RefMoeIdeal.τ).loc Cert.RefMoeIdeal.main_arg0)
          ∧ r.2.mem ((c.tc : Thread Cert.RefMoeIdeal.nD Cert.RefMoeIdeal.τ).loc Cert.RefMoeIdeal.main_arg1) = m' ((c.tc : Thread Cert.RefMoeIdeal.nD Cert.RefMoeIdeal.τ).loc Cert.RefMoeIdeal.main_arg1)
          ∧ r.2.mem ((c.tc : Thread Cert.RefMoeIdeal.nD Cert.RefMoeIdeal.τ).loc Cert.RefMoeIdeal.main_arg2) = m' ((c.tc : Thread Cert.RefMoeIdeal.nD Cert.RefMoeIdeal.τ).loc Cert.RefMoeIdeal.main_arg2)
          ∧ r.2.mem ((c.tc : Thread Cert.RefMoeIdeal.nD Cert.RefMoeIdeal.τ).loc Cert.RefMoeIdeal.main_arg3) = m' ((c.tc : Thread Cert.RefMoeIdeal.nD Cert.RefMoeIdeal.τ).loc Cert.RefMoeIdeal.main_arg3)
          ∧ r.2.mem ((c.tc : Thread Cert.RefMoeIdeal.nD Cert.RefMoeIdeal.τ).loc Cert.RefMoeIdeal.main_arg4) = m' ((c.tc : Thread Cert.RefMoeIdeal.nD Cert.RefMoeIdeal.τ).loc Cert.RefMoeIdeal.main_arg4)
          ∧ r.2.mem ((c.tc : Thread Cert.RefMoeIdeal.nD Cert.RefMoeIdeal.τ).loc Cert.RefMoeIdeal.main_arg5) = m' ((c.tc : Thread Cert.RefMoeIdeal.nD Cert.RefMoeIdeal.τ).loc Cert.RefMoeIdeal.main_arg5))

def preserves_Combine_CombineIdeal : Prop :=
  True

def algebraic_CombineIdeal_RefCombineIdeal [hCombineIdeal : Cert.CombineIdeal.Facts] [hRefCombineIdeal : Cert.RefCombineIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.RefCombineIdeal.nD Cert.RefCombineIdeal.τ Cert.RefCombineIdeal.sig) → Buf (Elt Ideal) ℓ) (g' : Dev Cert.RefCombineIdeal.nD → PrngReg), Pre_CombineIdeal m →
    (∀ c : Dev Cert.CombineIdeal.nD,
      m' ((c.tc : Thread Cert.RefCombineIdeal.nD Cert.RefCombineIdeal.τ).loc Cert.RefCombineIdeal.main_arg0) = m ((c.tc : Thread Cert.CombineIdeal.nD Cert.CombineIdeal.τ).loc Cert.CombineIdeal.main_arg0)
      ∧ m' ((c.tc : Thread Cert.RefCombineIdeal.nD Cert.RefCombineIdeal.τ).loc Cert.RefCombineIdeal.main_arg1) = m ((c.tc : Thread Cert.CombineIdeal.nD Cert.CombineIdeal.τ).loc Cert.CombineIdeal.main_arg1)
      ∧ m' ((c.tc : Thread Cert.RefCombineIdeal.nD Cert.RefCombineIdeal.τ).loc Cert.RefCombineIdeal.main_arg2) = m ((c.tc : Thread Cert.CombineIdeal.nD Cert.CombineIdeal.τ).loc Cert.CombineIdeal.main_arg2)
      ∧ m' ((c.tc : Thread Cert.RefCombineIdeal.nD Cert.RefCombineIdeal.τ).loc Cert.RefCombineIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.RefCombineIdeal.defs (F := Ideal)) (onTc (τ := Cert.RefCombineIdeal.τ) (Cert.RefCombineIdeal.main (F := Ideal))) ⟨m', fun _ => 0, g'⟩ (fun r => ∀ c : Dev Cert.RefCombineIdeal.nD,
          r.2.mem ((c.tc : Thread Cert.RefCombineIdeal.nD Cert.RefCombineIdeal.τ).loc Cert.RefCombineIdeal.main_v8) = v0 c
          ∧ r.2.mem ((c.tc : Thread Cert.RefCombineIdeal.nD Cert.RefCombineIdeal.τ).loc Cert.RefCombineIdeal.main_arg0) = m' ((c.tc : Thread Cert.RefCombineIdeal.nD Cert.RefCombineIdeal.τ).loc Cert.RefCombineIdeal.main_arg0)
          ∧ r.2.mem ((c.tc : Thread Cert.RefCombineIdeal.nD Cert.RefCombineIdeal.τ).loc Cert.RefCombineIdeal.main_arg1) = m' ((c.tc : Thread Cert.RefCombineIdeal.nD Cert.RefCombineIdeal.τ).loc Cert.RefCombineIdeal.main_arg1)
          ∧ r.2.mem ((c.tc : Thread Cert.RefCombineIdeal.nD Cert.RefCombineIdeal.τ).loc Cert.RefCombineIdeal.main_arg2) = m' ((c.tc : Thread Cert.RefCombineIdeal.nD Cert.RefCombineIdeal.τ).loc Cert.RefCombineIdeal.main_arg2)
          ∧ r.2.mem ((c.tc : Thread Cert.RefCombineIdeal.nD Cert.RefCombineIdeal.τ).loc Cert.RefCombineIdeal.main_arg3) = m' ((c.tc : Thread Cert.RefCombineIdeal.nD Cert.RefCombineIdeal.τ).loc Cert.RefCombineIdeal.main_arg3))

def preserves_Post_PostIdeal : Prop :=
  True

def algebraic_PostIdeal_RefPostIdeal [hPostIdeal : Cert.PostIdeal.Facts] [hRefPostIdeal : Cert.RefPostIdeal.Facts] [hPre_heads_finite : Cert.Pre_heads_finite.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.RefPostIdeal.nD Cert.RefPostIdeal.τ Cert.RefPostIdeal.sig) → Buf (Elt Ideal) ℓ) (g' : Dev Cert.RefPostIdeal.nD → PrngReg), Pre_PostIdeal m →
    (∀ c : Dev Cert.PostIdeal.nD,
      m' ((c.tc : Thread Cert.RefPostIdeal.nD Cert.RefPostIdeal.τ).loc Cert.RefPostIdeal.main_arg0) = m ((c.tc : Thread Cert.PostIdeal.nD Cert.PostIdeal.τ).loc Cert.PostIdeal.main_arg0)
      ∧ m' ((c.tc : Thread Cert.RefPostIdeal.nD Cert.RefPostIdeal.τ).loc Cert.RefPostIdeal.main_arg1) = m ((c.tc : Thread Cert.PostIdeal.nD Cert.PostIdeal.τ).loc Cert.PostIdeal.main_arg1)
      ∧ m' ((c.tc : Thread Cert.RefPostIdeal.nD Cert.RefPostIdeal.τ).loc Cert.RefPostIdeal.main_arg2) = m ((c.tc : Thread Cert.PostIdeal.nD Cert.PostIdeal.τ).loc Cert.PostIdeal.main_arg2)
      ∧ m' ((c.tc : Thread Cert.RefPostIdeal.nD Cert.RefPostIdeal.τ).loc Cert.RefPostIdeal.main_arg3) = m ((c.tc : Thread Cert.PostIdeal.nD Cert.PostIdeal.τ).loc Cert.PostIdeal.main_arg3)
      ∧ m' ((c.tc : Thread Cert.RefPostIdeal.nD Cert.RefPostIdeal.τ).loc Cert.RefPostIdeal.main_arg4) = m ((c.tc : Thread Cert.PostIdeal.nD Cert.PostIdeal.τ).loc Cert.PostIdeal.main_arg4)
      ∧ m' ((c.tc : Thread Cert.RefPostIdeal.nD Cert.RefPostIdeal.τ).loc Cert.RefPostIdeal.main_arg5) = m ((c.tc : Thread Cert.PostIdeal.nD Cert.PostIdeal.τ).loc Cert.PostIdeal.main_arg5)
      ∧ m' ((c.tc : Thread Cert.RefPostIdeal.nD Cert.RefPostIdeal.τ).loc Cert.RefPostIdeal.main_arg6) = m ((c.tc : Thread Cert.PostIdeal.nD Cert.PostIdeal.τ).loc Cert.PostIdeal.main_arg6)
      ∧ m' ((c.tc : Thread Cert.RefPostIdeal.nD Cert.RefPostIdeal.τ).loc Cert.RefPostIdeal.main_arg7) = m ((c.tc : Thread Cert.PostIdeal.nD Cert.PostIdeal.τ).loc Cert.PostIdeal.main_arg7)
      ∧ m' ((c.tc : Thread Cert.RefPostIdeal.nD Cert.RefPostIdeal.τ).loc Cert.RefPostIdeal.main_arg8) = m ((c.tc : Thread Cert.PostIdeal.nD Cert.PostIdeal.τ).loc Cert.PostIdeal.main_arg8)) →
    ∃ (v0 : (c : Dev Cert.PostIdeal.nD) → Buf (Elt Ideal) ((c.tc : Thread Cert.PostIdeal.nD Cert.PostIdeal.τ).loc Cert.PostIdeal.main_v9_0)) (v1 : (c : Dev Cert.PostIdeal.nD) → Buf (Elt Ideal) ((c.tc : Thread Cert.PostIdeal.nD Cert.PostIdeal.τ).loc Cert.PostIdeal.main_v9_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v9_0) = v0 c
          ∧ r.2.mem ((c.tc : Thread Cert.PostIdeal.nD Cert.PostIdeal.τ).loc Cert.PostIdeal.main_v9_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ θ_run (Cert.RefPostIdeal.defs (F := Ideal)) (onTc (τ := Cert.RefPostIdeal.τ) (Cert.RefPostIdeal.main (F := Ideal))) ⟨m', fun _ => 0, g'⟩ (fun r => ∀ c : Dev Cert.RefPostIdeal.nD,
          r.2.mem ((c.tc : Thread Cert.RefPostIdeal.nD Cert.RefPostIdeal.τ).loc Cert.RefPostIdeal.main_v45) = v0 c
          ∧ r.2.mem ((c.tc : Thread Cert.RefPostIdeal.nD Cert.RefPostIdeal.τ).loc Cert.RefPostIdeal.main_v46) = v1 c
          ∧ r.2.mem ((c.tc : Thread Cert.RefPostIdeal.nD Cert.RefPostIdeal.τ).loc Cert.RefPostIdeal.main_arg0) = m' ((c.tc : Thread Cert.RefPostIdeal.nD Cert.RefPostIdeal.τ).loc Cert.RefPostIdeal.main_arg0)
          ∧ r.2.mem ((c.tc : Thread Cert.RefPostIdeal.nD Cert.RefPostIdeal.τ).loc Cert.RefPostIdeal.main_arg1) = m' ((c.tc : Thread Cert.RefPostIdeal.nD Cert.RefPostIdeal.τ).loc Cert.RefPostIdeal.main_arg1)
          ∧ r.2.mem ((c.tc : Thread Cert.RefPostIdeal.nD Cert.RefPostIdeal.τ).loc Cert.RefPostIdeal.main_arg2) = m' ((c.tc : Thread Cert.RefPostIdeal.nD Cert.RefPostIdeal.τ).loc Cert.RefPostIdeal.main_arg2)
          ∧ r.2.mem ((c.tc : Thread Cert.RefPostIdeal.nD Cert.RefPostIdeal.τ).loc Cert.RefPostIdeal.main_arg3) = m' ((c.tc : Thread Cert.RefPostIdeal.nD Cert.RefPostIdeal.τ).loc Cert.RefPostIdeal.main_arg3)
          ∧ r.2.mem ((c.tc : Thread Cert.RefPostIdeal.nD Cert.RefPostIdeal.τ).loc Cert.RefPostIdeal.main_arg4) = m' ((c.tc : Thread Cert.RefPostIdeal.nD Cert.RefPostIdeal.τ).loc Cert.RefPostIdeal.main_arg4)
          ∧ r.2.mem ((c.tc : Thread Cert.RefPostIdeal.nD Cert.RefPostIdeal.τ).loc Cert.RefPostIdeal.main_arg5) = m' ((c.tc : Thread Cert.RefPostIdeal.nD Cert.RefPostIdeal.τ).loc Cert.RefPostIdeal.main_arg5)
          ∧ r.2.mem ((c.tc : Thread Cert.RefPostIdeal.nD Cert.RefPostIdeal.τ).loc Cert.RefPostIdeal.main_arg6) = m' ((c.tc : Thread Cert.RefPostIdeal.nD Cert.RefPostIdeal.τ).loc Cert.RefPostIdeal.main_arg6)
          ∧ r.2.mem ((c.tc : Thread Cert.RefPostIdeal.nD Cert.RefPostIdeal.τ).loc Cert.RefPostIdeal.main_arg7) = m' ((c.tc : Thread Cert.RefPostIdeal.nD Cert.RefPostIdeal.τ).loc Cert.RefPostIdeal.main_arg7)
          ∧ r.2.mem ((c.tc : Thread Cert.RefPostIdeal.nD Cert.RefPostIdeal.τ).loc Cert.RefPostIdeal.main_arg8) = m' ((c.tc : Thread Cert.RefPostIdeal.nD Cert.RefPostIdeal.τ).loc Cert.RefPostIdeal.main_arg8))

def preserves_Pre_PreIdeal : Prop :=
  True

def algebraic_PreIdeal_RefPreIdeal [hPreIdeal : Cert.PreIdeal.Facts] [hRefPreIdeal : Cert.RefPreIdeal.Facts] [hPre_projected : Cert.Pre_projected.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.RefPreIdeal.nD Cert.RefPreIdeal.τ Cert.RefPreIdeal.sig) → Buf (Elt Ideal) ℓ) (g' : Dev Cert.RefPreIdeal.nD → PrngReg), Pre_PreIdeal m →
    (∀ c : Dev Cert.PreIdeal.nD,
      m' ((c.tc : Thread Cert.RefPreIdeal.nD Cert.RefPreIdeal.τ).loc Cert.RefPreIdeal.main_arg0) = m ((c.tc : Thread Cert.PreIdeal.nD Cert.PreIdeal.τ).loc Cert.PreIdeal.main_arg0)
      ∧ m' ((c.tc : Thread Cert.RefPreIdeal.nD Cert.RefPreIdeal.τ).loc Cert.RefPreIdeal.main_arg1) = m ((c.tc : Thread Cert.PreIdeal.nD Cert.PreIdeal.τ).loc Cert.PreIdeal.main_arg1)
      ∧ m' ((c.tc : Thread Cert.RefPreIdeal.nD Cert.RefPreIdeal.τ).loc Cert.RefPreIdeal.main_arg2) = m ((c.tc : Thread Cert.PreIdeal.nD Cert.PreIdeal.τ).loc Cert.PreIdeal.main_arg2)
      ∧ m' ((c.tc : Thread Cert.RefPreIdeal.nD Cert.RefPreIdeal.τ).loc Cert.RefPreIdeal.main_arg3) = m ((c.tc : Thread Cert.PreIdeal.nD Cert.PreIdeal.τ).loc Cert.PreIdeal.main_arg3)
      ∧ m' ((c.tc : Thread Cert.RefPreIdeal.nD Cert.RefPreIdeal.τ).loc Cert.RefPreIdeal.main_arg4) = m ((c.tc : Thread Cert.PreIdeal.nD Cert.PreIdeal.τ).loc Cert.PreIdeal.main_arg4)
      ∧ m' ((c.tc : Thread Cert.RefPreIdeal.nD Cert.RefPreIdeal.τ).loc Cert.RefPreIdeal.main_arg5) = m ((c.tc : Thread Cert.PreIdeal.nD Cert.PreIdeal.τ).loc Cert.PreIdeal.main_arg5)
      ∧ m' ((c.tc : Thread Cert.RefPreIdeal.nD Cert.RefPreIdeal.τ).loc Cert.RefPreIdeal.main_arg6) = m ((c.tc : Thread Cert.PreIdeal.nD Cert.PreIdeal.τ).loc Cert.PreIdeal.main_arg6)
      ∧ m' ((c.tc : Thread Cert.RefPreIdeal.nD Cert.RefPreIdeal.τ).loc Cert.RefPreIdeal.main_arg7) = m ((c.tc : Thread Cert.PreIdeal.nD Cert.PreIdeal.τ).loc Cert.PreIdeal.main_arg7)
      ∧ m' ((c.tc : Thread Cert.RefPreIdeal.nD Cert.RefPreIdeal.τ).loc Cert.RefPreIdeal.main_arg8) = m ((c.tc : Thread Cert.PreIdeal.nD Cert.PreIdeal.τ).loc Cert.PreIdeal.main_arg8)
      ∧ m' ((c.tc : Thread Cert.RefPreIdeal.nD Cert.RefPreIdeal.τ).loc Cert.RefPreIdeal.main_arg9) = m ((c.tc : Thread Cert.PreIdeal.nD Cert.PreIdeal.τ).loc Cert.PreIdeal.main_arg9)
      ∧ m' ((c.tc : Thread Cert.RefPreIdeal.nD Cert.RefPreIdeal.τ).loc Cert.RefPreIdeal.main_arg10) = m ((c.tc : Thread Cert.PreIdeal.nD Cert.PreIdeal.τ).loc Cert.PreIdeal.main_arg10)) →
    ∃ (v0 : (c : Dev Cert.PreIdeal.nD) → Buf (Elt Ideal) ((c.tc : Thread Cert.PreIdeal.nD Cert.PreIdeal.τ).loc Cert.PreIdeal.main_v13_2)) (v1 : (c : Dev Cert.PreIdeal.nD) → Buf (Elt Ideal) ((c.tc : Thread Cert.PreIdeal.nD Cert.PreIdeal.τ).loc Cert.PreIdeal.main_v13_3)) (v2 : (c : Dev Cert.PreIdeal.nD) → Buf (Elt Ideal) ((c.tc : Thread Cert.PreIdeal.nD Cert.PreIdeal.τ).loc Cert.PreIdeal.main_v13_6)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v13_2) = v0 c
          ∧ r.2.mem ((c.tc : Thread Cert.PreIdeal.nD Cert.PreIdeal.τ).loc Cert.PreIdeal.main_v13_3) = v1 c
          ∧ r.2.mem ((c.tc : Thread Cert.PreIdeal.nD Cert.PreIdeal.τ).loc Cert.PreIdeal.main_v13_6) = v2 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
          ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
          ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
          ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
          ∧ r.2.mem ((c.tc : Thread Cert.PreIdeal.nD Cert.PreIdeal.τ).loc Cert.PreIdeal.main_arg10) = m ((c.tc : Thread Cert.PreIdeal.nD Cert.PreIdeal.τ).loc Cert.PreIdeal.main_arg10))
      ∧ θ_run (Cert.RefPreIdeal.defs (F := Ideal)) (onTc (τ := Cert.RefPreIdeal.τ) (Cert.RefPreIdeal.main (F := Ideal))) ⟨m', fun _ => 0, g'⟩ (fun r => ∀ c : Dev Cert.RefPreIdeal.nD,
          r.2.mem ((c.tc : Thread Cert.RefPreIdeal.nD Cert.RefPreIdeal.τ).loc Cert.RefPreIdeal.main_v94) = v0 c
          ∧ r.2.mem ((c.tc : Thread Cert.RefPreIdeal.nD Cert.RefPreIdeal.τ).loc Cert.RefPreIdeal.main_v137) = v1 c
          ∧ r.2.mem ((c.tc : Thread Cert.RefPreIdeal.nD Cert.RefPreIdeal.τ).loc Cert.RefPreIdeal.main_v51) = v2 c
          ∧ r.2.mem ((c.tc : Thread Cert.RefPreIdeal.nD Cert.RefPreIdeal.τ).loc Cert.RefPreIdeal.main_arg0) = m' ((c.tc : Thread Cert.RefPreIdeal.nD Cert.RefPreIdeal.τ).loc Cert.RefPreIdeal.main_arg0)
          ∧ r.2.mem ((c.tc : Thread Cert.RefPreIdeal.nD Cert.RefPreIdeal.τ).loc Cert.RefPreIdeal.main_arg1) = m' ((c.tc : Thread Cert.RefPreIdeal.nD Cert.RefPreIdeal.τ).loc Cert.RefPreIdeal.main_arg1)
          ∧ r.2.mem ((c.tc : Thread Cert.RefPreIdeal.nD Cert.RefPreIdeal.τ).loc Cert.RefPreIdeal.main_arg2) = m' ((c.tc : Thread Cert.RefPreIdeal.nD Cert.RefPreIdeal.τ).loc Cert.RefPreIdeal.main_arg2)
          ∧ r.2.mem ((c.tc : Thread Cert.RefPreIdeal.nD Cert.RefPreIdeal.τ).loc Cert.RefPreIdeal.main_arg3) = m' ((c.tc : Thread Cert.RefPreIdeal.nD Cert.RefPreIdeal.τ).loc Cert.RefPreIdeal.main_arg3)
          ∧ r.2.mem ((c.tc : Thread Cert.RefPreIdeal.nD Cert.RefPreIdeal.τ).loc Cert.RefPreIdeal.main_arg4) = m' ((c.tc : Thread Cert.RefPreIdeal.nD Cert.RefPreIdeal.τ).loc Cert.RefPreIdeal.main_arg4)
          ∧ r.2.mem ((c.tc : Thread Cert.RefPreIdeal.nD Cert.RefPreIdeal.τ).loc Cert.RefPreIdeal.main_arg5) = m' ((c.tc : Thread Cert.RefPreIdeal.nD Cert.RefPreIdeal.τ).loc Cert.RefPreIdeal.main_arg5)
          ∧ r.2.mem ((c.tc : Thread Cert.RefPreIdeal.nD Cert.RefPreIdeal.τ).loc Cert.RefPreIdeal.main_arg6) = m' ((c.tc : Thread Cert.RefPreIdeal.nD Cert.RefPreIdeal.τ).loc Cert.RefPreIdeal.main_arg6)
          ∧ r.2.mem ((c.tc : Thread Cert.RefPreIdeal.nD Cert.RefPreIdeal.τ).loc Cert.RefPreIdeal.main_arg7) = m' ((c.tc : Thread Cert.RefPreIdeal.nD Cert.RefPreIdeal.τ).loc Cert.RefPreIdeal.main_arg7)
          ∧ r.2.mem ((c.tc : Thread Cert.RefPreIdeal.nD Cert.RefPreIdeal.τ).loc Cert.RefPreIdeal.main_arg8) = m' ((c.tc : Thread Cert.RefPreIdeal.nD Cert.RefPreIdeal.τ).loc Cert.RefPreIdeal.main_arg8)
          ∧ r.2.mem ((c.tc : Thread Cert.RefPreIdeal.nD Cert.RefPreIdeal.τ).loc Cert.RefPreIdeal.main_arg9) = m' ((c.tc : Thread Cert.RefPreIdeal.nD Cert.RefPreIdeal.τ).loc Cert.RefPreIdeal.main_arg9)
          ∧ r.2.mem ((c.tc : Thread Cert.RefPreIdeal.nD Cert.RefPreIdeal.τ).loc Cert.RefPreIdeal.main_arg10) = m' ((c.tc : Thread Cert.RefPreIdeal.nD Cert.RefPreIdeal.τ).loc Cert.RefPreIdeal.main_arg10))

def preserves_Prompt_PromptIdeal : Prop :=
  True

def algebraic_PromptIdeal_RefPromptIdeal [hPromptIdeal : Cert.PromptIdeal.Facts] [hRefPromptIdeal : Cert.RefPromptIdeal.Facts] [hPre_projected_prompt : Cert.Pre_projected_prompt.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.RefPromptIdeal.nD Cert.RefPromptIdeal.τ Cert.RefPromptIdeal.sig) → Buf (Elt Ideal) ℓ) (g' : Dev Cert.RefPromptIdeal.nD → PrngReg), Pre_PromptIdeal m →
    (∀ c : Dev Cert.PromptIdeal.nD,
      m' ((c.tc : Thread Cert.RefPromptIdeal.nD Cert.RefPromptIdeal.τ).loc Cert.RefPromptIdeal.main_arg0) = m ((c.tc : Thread Cert.PromptIdeal.nD Cert.PromptIdeal.τ).loc Cert.PromptIdeal.main_arg0)
      ∧ m' ((c.tc : Thread Cert.RefPromptIdeal.nD Cert.RefPromptIdeal.τ).loc Cert.RefPromptIdeal.main_arg1) = m ((c.tc : Thread Cert.PromptIdeal.nD Cert.PromptIdeal.τ).loc Cert.PromptIdeal.main_arg1)
      ∧ m' ((c.tc : Thread Cert.RefPromptIdeal.nD Cert.RefPromptIdeal.τ).loc Cert.RefPromptIdeal.main_arg2) = m ((c.tc : Thread Cert.PromptIdeal.nD Cert.PromptIdeal.τ).loc Cert.PromptIdeal.main_arg2)
      ∧ m' ((c.tc : Thread Cert.RefPromptIdeal.nD Cert.RefPromptIdeal.τ).loc Cert.RefPromptIdeal.main_arg3) = m ((c.tc : Thread Cert.PromptIdeal.nD Cert.PromptIdeal.τ).loc Cert.PromptIdeal.main_arg3)
      ∧ m' ((c.tc : Thread Cert.RefPromptIdeal.nD Cert.RefPromptIdeal.τ).loc Cert.RefPromptIdeal.main_arg4) = m ((c.tc : Thread Cert.PromptIdeal.nD Cert.PromptIdeal.τ).loc Cert.PromptIdeal.main_arg4)
      ∧ m' ((c.tc : Thread Cert.RefPromptIdeal.nD Cert.RefPromptIdeal.τ).loc Cert.RefPromptIdeal.main_arg5) = m ((c.tc : Thread Cert.PromptIdeal.nD Cert.PromptIdeal.τ).loc Cert.PromptIdeal.main_arg5)
      ∧ m' ((c.tc : Thread Cert.RefPromptIdeal.nD Cert.RefPromptIdeal.τ).loc Cert.RefPromptIdeal.main_arg6) = m ((c.tc : Thread Cert.PromptIdeal.nD Cert.PromptIdeal.τ).loc Cert.PromptIdeal.main_arg6)
      ∧ m' ((c.tc : Thread Cert.RefPromptIdeal.nD Cert.RefPromptIdeal.τ).loc Cert.RefPromptIdeal.main_arg7) = m ((c.tc : Thread Cert.PromptIdeal.nD Cert.PromptIdeal.τ).loc Cert.PromptIdeal.main_arg7)
      ∧ m' ((c.tc : Thread Cert.RefPromptIdeal.nD Cert.RefPromptIdeal.τ).loc Cert.RefPromptIdeal.main_arg8) = m ((c.tc : Thread Cert.PromptIdeal.nD Cert.PromptIdeal.τ).loc Cert.PromptIdeal.main_arg8)
      ∧ m' ((c.tc : Thread Cert.RefPromptIdeal.nD Cert.RefPromptIdeal.τ).loc Cert.RefPromptIdeal.main_arg9) = m ((c.tc : Thread Cert.PromptIdeal.nD Cert.PromptIdeal.τ).loc Cert.PromptIdeal.main_arg9)
      ∧ m' ((c.tc : Thread Cert.RefPromptIdeal.nD Cert.RefPromptIdeal.τ).loc Cert.RefPromptIdeal.main_arg10) = m ((c.tc : Thread Cert.PromptIdeal.nD Cert.PromptIdeal.τ).loc Cert.PromptIdeal.main_arg10)) →
    ∃ (v0 : (c : Dev Cert.PromptIdeal.nD) → Buf (Elt Ideal) ((c.tc : Thread Cert.PromptIdeal.nD Cert.PromptIdeal.τ).loc Cert.PromptIdeal.main_v16_6)) (v1 : (c : Dev Cert.PromptIdeal.nD) → Buf (Elt Ideal) ((c.tc : Thread Cert.PromptIdeal.nD Cert.PromptIdeal.τ).loc Cert.PromptIdeal.main_v16_7)) (v2 : (c : Dev Cert.PromptIdeal.nD) → Buf (Elt Ideal) ((c.tc : Thread Cert.PromptIdeal.nD Cert.PromptIdeal.τ).loc Cert.PromptIdeal.main_v16_8)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v16_6) = v0 c
          ∧ r.2.mem ((c.tc : Thread Cert.PromptIdeal.nD Cert.PromptIdeal.τ).loc Cert.PromptIdeal.main_v16_7) = v1 c
          ∧ r.2.mem ((c.tc : Thread Cert.PromptIdeal.nD Cert.PromptIdeal.τ).loc Cert.PromptIdeal.main_v16_8) = v2 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
          ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
          ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
          ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10))
      ∧ θ_run (Cert.RefPromptIdeal.defs (F := Ideal)) (onTc (τ := Cert.RefPromptIdeal.τ) (Cert.RefPromptIdeal.main (F := Ideal))) ⟨m', fun _ => 0, g'⟩ (fun r => ∀ c : Dev Cert.RefPromptIdeal.nD,
          r.2.mem ((c.tc : Thread Cert.RefPromptIdeal.nD Cert.RefPromptIdeal.τ).loc Cert.RefPromptIdeal.main_v68) = v0 c
          ∧ r.2.mem ((c.tc : Thread Cert.RefPromptIdeal.nD Cert.RefPromptIdeal.τ).loc Cert.RefPromptIdeal.main_v109) = v1 c
          ∧ r.2.mem ((c.tc : Thread Cert.RefPromptIdeal.nD Cert.RefPromptIdeal.τ).loc Cert.RefPromptIdeal.main_v150) = v2 c
          ∧ r.2.mem ((c.tc : Thread Cert.RefPromptIdeal.nD Cert.RefPromptIdeal.τ).loc Cert.RefPromptIdeal.main_arg0) = m' ((c.tc : Thread Cert.RefPromptIdeal.nD Cert.RefPromptIdeal.τ).loc Cert.RefPromptIdeal.main_arg0)
          ∧ r.2.mem ((c.tc : Thread Cert.RefPromptIdeal.nD Cert.RefPromptIdeal.τ).loc Cert.RefPromptIdeal.main_arg1) = m' ((c.tc : Thread Cert.RefPromptIdeal.nD Cert.RefPromptIdeal.τ).loc Cert.RefPromptIdeal.main_arg1)
          ∧ r.2.mem ((c.tc : Thread Cert.RefPromptIdeal.nD Cert.RefPromptIdeal.τ).loc Cert.RefPromptIdeal.main_arg2) = m' ((c.tc : Thread Cert.RefPromptIdeal.nD Cert.RefPromptIdeal.τ).loc Cert.RefPromptIdeal.main_arg2)
          ∧ r.2.mem ((c.tc : Thread Cert.RefPromptIdeal.nD Cert.RefPromptIdeal.τ).loc Cert.RefPromptIdeal.main_arg3) = m' ((c.tc : Thread Cert.RefPromptIdeal.nD Cert.RefPromptIdeal.τ).loc Cert.RefPromptIdeal.main_arg3)
          ∧ r.2.mem ((c.tc : Thread Cert.RefPromptIdeal.nD Cert.RefPromptIdeal.τ).loc Cert.RefPromptIdeal.main_arg4) = m' ((c.tc : Thread Cert.RefPromptIdeal.nD Cert.RefPromptIdeal.τ).loc Cert.RefPromptIdeal.main_arg4)
          ∧ r.2.mem ((c.tc : Thread Cert.RefPromptIdeal.nD Cert.RefPromptIdeal.τ).loc Cert.RefPromptIdeal.main_arg5) = m' ((c.tc : Thread Cert.RefPromptIdeal.nD Cert.RefPromptIdeal.τ).loc Cert.RefPromptIdeal.main_arg5)
          ∧ r.2.mem ((c.tc : Thread Cert.RefPromptIdeal.nD Cert.RefPromptIdeal.τ).loc Cert.RefPromptIdeal.main_arg6) = m' ((c.tc : Thread Cert.RefPromptIdeal.nD Cert.RefPromptIdeal.τ).loc Cert.RefPromptIdeal.main_arg6)
          ∧ r.2.mem ((c.tc : Thread Cert.RefPromptIdeal.nD Cert.RefPromptIdeal.τ).loc Cert.RefPromptIdeal.main_arg7) = m' ((c.tc : Thread Cert.RefPromptIdeal.nD Cert.RefPromptIdeal.τ).loc Cert.RefPromptIdeal.main_arg7)
          ∧ r.2.mem ((c.tc : Thread Cert.RefPromptIdeal.nD Cert.RefPromptIdeal.τ).loc Cert.RefPromptIdeal.main_arg8) = m' ((c.tc : Thread Cert.RefPromptIdeal.nD Cert.RefPromptIdeal.τ).loc Cert.RefPromptIdeal.main_arg8)
          ∧ r.2.mem ((c.tc : Thread Cert.RefPromptIdeal.nD Cert.RefPromptIdeal.τ).loc Cert.RefPromptIdeal.main_arg9) = m' ((c.tc : Thread Cert.RefPromptIdeal.nD Cert.RefPromptIdeal.τ).loc Cert.RefPromptIdeal.main_arg9)
          ∧ r.2.mem ((c.tc : Thread Cert.RefPromptIdeal.nD Cert.RefPromptIdeal.τ).loc Cert.RefPromptIdeal.main_arg10) = m' ((c.tc : Thread Cert.RefPromptIdeal.nD Cert.RefPromptIdeal.τ).loc Cert.RefPromptIdeal.main_arg10))

def Claim : Prop :=
  ∃ (hNsa : Cert.Nsa.Facts) (hNsaIdeal : Cert.NsaIdeal.Facts) (hRefIdeal : Cert.RefIdeal.Facts) (hFfn : Cert.Ffn.Facts) (hFfnIdeal : Cert.FfnIdeal.Facts) (hRefFfnIdeal : Cert.RefFfnIdeal.Facts) (hMoe : Cert.Moe.Facts) (hMoeIdeal : Cert.MoeIdeal.Facts) (hRefMoeIdeal : Cert.RefMoeIdeal.Facts) (hCombine : Cert.Combine.Facts) (hCombineIdeal : Cert.CombineIdeal.Facts) (hRefCombineIdeal : Cert.RefCombineIdeal.Facts) (hPost : Cert.Post.Facts) (hPostIdeal : Cert.PostIdeal.Facts) (hRefPostIdeal : Cert.RefPostIdeal.Facts) (hPre : Cert.Pre.Facts) (hPreIdeal : Cert.PreIdeal.Facts) (hRefPreIdeal : Cert.RefPreIdeal.Facts) (hPrompt : Cert.Prompt.Facts) (hPromptIdeal : Cert.PromptIdeal.Facts) (hRefPromptIdeal : Cert.RefPromptIdeal.Facts) (hPre_finite : Cert.Pre_finite.Facts) (hPre_experts : Cert.Pre_experts.Facts) (hPre_heads_finite : Cert.Pre_heads_finite.Facts) (hPre_projected : Cert.Pre_projected.Facts) (hPre_projected_prompt : Cert.Pre_projected_prompt.Facts),
    quiescent_Nsa (hNsa := hNsa)
    ∧ quiescent_NsaIdeal (hNsaIdeal := hNsaIdeal) (hPre_finite := hPre_finite)
    ∧ quiescent_NsaIdeal_pre_none (hNsaIdeal := hNsaIdeal)
    ∧ quiescent_RefIdeal (hRefIdeal := hRefIdeal) (hPre_finite := hPre_finite)
    ∧ quiescent_Ffn (hFfn := hFfn)
    ∧ quiescent_FfnIdeal (hFfnIdeal := hFfnIdeal)
    ∧ quiescent_RefFfnIdeal (hRefFfnIdeal := hRefFfnIdeal)
    ∧ quiescent_Moe (hMoe := hMoe) (hPre_experts := hPre_experts)
    ∧ quiescent_MoeIdeal (hMoeIdeal := hMoeIdeal) (hPre_experts := hPre_experts)
    ∧ quiescent_RefMoeIdeal (hRefMoeIdeal := hRefMoeIdeal) (hPre_experts := hPre_experts)
    ∧ quiescent_Combine (hCombine := hCombine)
    ∧ quiescent_CombineIdeal (hCombineIdeal := hCombineIdeal)
    ∧ quiescent_RefCombineIdeal (hRefCombineIdeal := hRefCombineIdeal)
    ∧ quiescent_Post (hPost := hPost)
    ∧ quiescent_PostIdeal (hPostIdeal := hPostIdeal) (hPre_heads_finite := hPre_heads_finite)
    ∧ quiescent_PostIdeal_pre_none (hPostIdeal := hPostIdeal)
    ∧ quiescent_RefPostIdeal (hRefPostIdeal := hRefPostIdeal) (hPre_heads_finite := hPre_heads_finite)
    ∧ quiescent_Pre (hPre := hPre)
    ∧ quiescent_PreIdeal (hPreIdeal := hPreIdeal) (hPre_projected := hPre_projected)
    ∧ quiescent_PreIdeal_pre_none (hPreIdeal := hPreIdeal)
    ∧ quiescent_RefPreIdeal (hRefPreIdeal := hRefPreIdeal) (hPre_projected := hPre_projected)
    ∧ quiescent_Prompt (hPrompt := hPrompt)
    ∧ quiescent_PromptIdeal (hPromptIdeal := hPromptIdeal) (hPre_projected_prompt := hPre_projected_prompt)
    ∧ quiescent_PromptIdeal_pre_none (hPromptIdeal := hPromptIdeal)
    ∧ quiescent_RefPromptIdeal (hRefPromptIdeal := hRefPromptIdeal) (hPre_projected_prompt := hPre_projected_prompt)
    ∧ preserves_Nsa_NsaIdeal
    ∧ algebraic_NsaIdeal_RefIdeal (hNsaIdeal := hNsaIdeal) (hRefIdeal := hRefIdeal) (hPre_finite := hPre_finite)
    ∧ preserves_Ffn_FfnIdeal
    ∧ algebraic_FfnIdeal_RefFfnIdeal (hFfnIdeal := hFfnIdeal) (hRefFfnIdeal := hRefFfnIdeal)
    ∧ preserves_Moe_MoeIdeal
    ∧ algebraic_MoeIdeal_RefMoeIdeal (hMoeIdeal := hMoeIdeal) (hRefMoeIdeal := hRefMoeIdeal) (hPre_experts := hPre_experts)
    ∧ preserves_Combine_CombineIdeal
    ∧ algebraic_CombineIdeal_RefCombineIdeal (hCombineIdeal := hCombineIdeal) (hRefCombineIdeal := hRefCombineIdeal)
    ∧ preserves_Post_PostIdeal
    ∧ algebraic_PostIdeal_RefPostIdeal (hPostIdeal := hPostIdeal) (hRefPostIdeal := hRefPostIdeal) (hPre_heads_finite := hPre_heads_finite)
    ∧ preserves_Pre_PreIdeal
    ∧ algebraic_PreIdeal_RefPreIdeal (hPreIdeal := hPreIdeal) (hRefPreIdeal := hRefPreIdeal) (hPre_projected := hPre_projected)
    ∧ preserves_Prompt_PromptIdeal
    ∧ algebraic_PromptIdeal_RefPromptIdeal (hPromptIdeal := hPromptIdeal) (hRefPromptIdeal := hRefPromptIdeal) (hPre_projected_prompt := hPre_projected_prompt)
-- ==== Pre_experts.lean ====
abbrev S264 : Shape := ⟨1, ![264]⟩
abbrev S1 : Shape := ⟨1, ![1]⟩
abbrev S270336x128 : Shape := ⟨2, ![270336, 128]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S264 : S_.BroadcastsInDim S264 (![] : Fin 0 → Fin S264.rank)
  reducesTo_S264_S_d0 : S264.ReducesTo [0] S_
  h_S_ : 0 < S_.numel

variable [Facts]

def fn {F : FTy → Type} [FloatOps F] (main_arg0 : IVec S264 32) (main_arg1 : IVec S1 32) (main_arg2 : FVec F S270336x128 .f32) (main_arg3 : FVec F S8x1024x2816 .bf16) (main_arg4 : FVec F S8x1024x2816 .bf16) (main_arg5 : FVec F S8x2816x1024 .bf16) : IVec S_ 1 :=
  let main_c : IVec S_ 32 := constantI S_ 32 0#32
  let main_v0 : IVec S264 32 := broadcastInDim S264 ![] bcast_S_S264 main_c
  let main_v1 : IVec S264 1 := cmpi .sge main_arg0 main_v0
  let main_c_0 : IVec S_ 32 := constantI S_ 32 8#32
  let main_v2 : IVec S264 32 := broadcastInDim S264 ![] bcast_S_S264 main_c_0
  let main_v3 : IVec S264 1 := cmpi .slt main_arg0 main_v2
  let main_v4 : IVec S264 1 := andi main_v1 main_v3
  let main_c_1 : IVec S_ 1 := constantI S_ 1 1#1
  let main_v5 : IVec S_ 1 := (fun x v => Host.reduce IntOp.andi x v reducesTo_S264_S_d0 h_S_) main_v4 main_c_1
  main_v5
-- ==== Pre_finite.lean ====
abbrev S16384x512 : Shape := ⟨2, ![16384, 512]⟩
abbrev S16384x128 : Shape := ⟨2, ![16384, 128]⟩
abbrev S1024x128 : Shape := ⟨2, ![1024, 128]⟩
abbrev S16384x256 : Shape := ⟨2, ![16384, 256]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bitsLt_bf16_f32 : FTy.bits .bf16 < FTy.bits .f32
  bcast_S_S1024x128 : S_.BroadcastsInDim S1024x128 (![] : Fin 0 → Fin S1024x128.rank)
  reducesTo_S1024x128_S_d0_1 : S1024x128.ReducesTo [0, 1] S_
  slices_S16384x256_S16384x128_0_0 : S16384x256.Slices ![0, 0] S16384x128
  bcast_S_S16384x128 : S_.BroadcastsInDim S16384x128 (![] : Fin 0 → Fin S16384x128.rank)
  reducesTo_S16384x128_S_d0_1 : S16384x128.ReducesTo [0, 1] S_

variable [Facts]

def fn_part1 {F : FTy → Type} [FloatOps F] (main_v16 : IVec S_ 1) (main_v17 : FVec F S16384x128 .bf16) : IVec S_ 1 :=
  let main_v18 : FVec F S16384x128 .f32 := (extf .f32 · bitsLt_bf16_f32) main_v17
  let main_v19 : FVec F S16384x128 .f32 := Host.absf main_v18
  let main_cst_4 : FVec F S_ .f32 := constant S_ .f32 0x7F800000#32
  let main_v20 : FVec F S16384x128 .f32 := broadcastInDim S16384x128 ![] bcast_S_S16384x128 main_cst_4
  let main_v21 : IVec S16384x128 1 := cmpf .olt main_v19 main_v20
  let main_c_5 : IVec S_ 1 := constantI S_ 1 1#1
  let main_v22 : IVec S_ 1 := (fun x v => Host.reduce IntOp.andi x v reducesTo_S16384x128_S_d0_1 h_S_) main_v21 main_c_5
  let main_v23 : IVec S_ 1 := andi main_v16 main_v22
  main_v23

def fn {F : FTy → Type} [FloatOps F] (main_arg0 : FVec F S16384x512 .f32) (main_arg1 : FVec F S16384x128 .f32) (main_arg2 : FVec F S1024x128 .bf16) (main_arg3 : FVec F S1024x128 .bf16) (main_arg4 : FVec F S16384x256 .bf16) (main_arg5 : FVec F S16384x256 .bf16) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1024x128 .f32 := (extf .f32 · bitsLt_bf16_f32) main_arg2
  let main_v5 : FVec F S1024x128 .f32 := Host.absf main_v4
  let main_cst_0 : FVec F S_ .f32 := constant S_ .f32 0x7F800000#32
  let main_v6 : FVec F S1024x128 .f32 := broadcastInDim S1024x128 ![] bcast_S_S1024x128 main_cst_0
  let main_v7 : IVec S1024x128 1 := cmpf .olt main_v5 main_v6
  let main_c_1 : IVec S_ 1 := constantI S_ 1 1#1
  let main_v8 : IVec S_ 1 := (fun x v => Host.reduce IntOp.andi x v reducesTo_S1024x128_S_d0_1 h_S_) main_v7 main_c_1
  let main_v9 : IVec S_ 1 := andi main_v3 main_v8
  let main_v10 : FVec F S16384x128 .bf16 := (extractStridedSlice S16384x128 ![0, 0] · slices_S16384x256_S16384x128_0_0) main_arg4
  let main_v11 : FVec F S16384x128 .f32 := (extf .f32 · bitsLt_bf16_f32) main_v10
  let main_v12 : FVec F S16384x128 .f32 := Host.absf main_v11
  let main_cst_2 : FVec F S_ .f32 := constant S_ .f32 0x7F800000#32
  let main_v13 : FVec F S16384x128 .f32 := broadcastInDim S16384x128 ![] bcast_S_S16384x128 main_cst_2
  let main_v14 : IVec S16384x128 1 := cmpf .olt main_v12 main_v13
  let main_c_3 : IVec S_ 1 := constantI S_ 1 1#1
  let main_v15 : IVec S_ 1 := (fun x v => Host.reduce IntOp.andi x v reducesTo_S16384x128_S_d0_1 h_S_) main_v14 main_c_3
  let main_v16 : IVec S_ 1 := andi main_v9 main_v15
  let main_v17 : FVec F S16384x128 .bf16 := (extractStridedSlice S16384x128 ![0, 0] · slices_S16384x256_S16384x128_0_0) main_arg5
  fn_part1 (F := F) main_v16 main_v17
-- ==== Pre_heads_finite.lean ====
abbrev S16384x512 : Shape := ⟨2, ![16384, 512]⟩
abbrev S16384x1024 : Shape := ⟨2, ![16384, 1024]⟩
abbrev S2x1x1024 : Shape := ⟨3, ![2, 1, 1024]⟩
abbrev S1x1024 : Shape := ⟨2, ![1, 1024]⟩
abbrev S1024x1024 : Shape := ⟨2, ![1024, 1024]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) (main_arg1 : FVec F S16384x512 .f32) (main_arg2 : FVec F S16384x1024 .f32) (main_arg3 : FVec F S2x1x1024 .f32) (main_arg4 : FVec F S1x1024 .f32) (main_arg5 : FVec F S1024x1024 .bf16) (main_arg6 : FVec F S1x1024 .f32) (main_arg7 : FVec F S2x1x1024 .f32) (main_arg8 : FVec F S2x1x1024 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  main_v8
-- ==== Pre_projected.lean ====
abbrev S128x1024 : Shape := ⟨2, ![128, 1024]⟩
abbrev S1x1024 : Shape := ⟨2, ![1, 1024]⟩
abbrev S1024x2432 : Shape := ⟨2, ![1024, 2432]⟩
abbrev S1x32 : Shape := ⟨2, ![1, 32]⟩
abbrev S1x512 : Shape := ⟨2, ![1, 512]⟩
abbrev S3x128 : Shape := ⟨2, ![3, 128]⟩
abbrev S_ : Shape := ⟨0, ![]⟩
abbrev S128 : Shape := ⟨1, ![128]⟩
abbrev S128x1 : Shape := ⟨2, ![128, 1]⟩
abbrev S1024 : Shape := ⟨1, ![1024]⟩
abbrev S128x2432 : Shape := ⟨2, ![128, 2432]⟩

class Facts : Prop where
  reducesTo_S128x1024_S128_d1 : S128x1024.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x1024_0_1 : S128x1.BroadcastsInDim S128x1024 (![0, 1] : Fin 2 → Fin S128x1024.rank)
  shapeCasts_S1x1024_S1024 : S1x1024.ShapeCasts S1024
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S_S128x1024 : S_.BroadcastsInDim S128x1024 (![] : Fin 0 → Fin S128x1024.rank)
  bitsLt_bf16_f32 : FTy.bits .bf16 < FTy.bits .f32
  bcast_S_S128x2432 : S_.BroadcastsInDim S128x2432 (![] : Fin 0 → Fin S128x2432.rank)
  reducesTo_S128x2432_S_d0_1 : S128x2432.ReducesTo [0, 1] S_
  dot_S128x1024_S1024x2432_S128x2432_1_0_0_1_n_n_wf : DotDims.WF S128x1024 S1024x2432 S128x2432 [1] [0] [0] [1] [] []

variable [Facts]

def dot_S128x1024_S1024x2432_S128x2432_1_0_0_1_n_n : DotDims S128x1024 S1024x2432 S128x2432 where
  lhsContracting := [1]
  rhsContracting := [0]
  lhsNonContracting := [0]
  rhsNonContracting := [1]
  lhsBatch := []
  rhsBatch := []
  wf := dot_S128x1024_S1024x2432_S128x2432_1_0_0_1_n_n_wf
def fn_part1 {F : FTy → Type} [FloatOps F] (main_v19 : FVec F S128x2432 .f32) : IVec S_ 1 :=
  let main_v20 : FVec F S128x2432 .f32 := Host.absf main_v19
  let main_cst_3 : FVec F S_ .f32 := constant S_ .f32 0x7F800000#32
  let main_v21 : FVec F S128x2432 .f32 := broadcastInDim S128x2432 ![] bcast_S_S128x2432 main_cst_3
  let main_v22 : IVec S128x2432 1 := cmpf .olt main_v20 main_v21
  let main_c : IVec S_ 1 := constantI S_ 1 1#1
  let main_v23 : IVec S_ 1 := (fun x v => Host.reduce IntOp.andi x v reducesTo_S128x2432_S_d0_1 h_S_) main_v22 main_c
  main_v23

def fn {F : FTy → Type} [FloatOps F] (main_arg0 : FVec F S128x1024 .f32) (main_arg1 : FVec F S1x1024 .f32) (main_arg2 : FVec F S128x1024 .f32) (main_arg3 : FVec F S128x1024 .f32) (main_arg4 : FVec F S1024x2432 .bf16) (main_arg5 : FVec F S1x32 .f32) (main_arg6 : FVec F S1x32 .f32) (main_arg7 : FVec F S1x512 .f32) (main_arg8 : FVec F S3x128 .f32) (main_arg9 : FVec F S1x512 .f32) (main_arg10 : FVec F S1x512 .f32) : IVec S_ 1 :=
  let main_v0 : FVec F S128x1024 .f32 := mulf main_arg0 main_arg0
  let main_cst : FVec F S_ .f32 := constant S_ .f32 0x00000000#32
  let main_v1 : FVec F S128 .f32 := (fun x v => Host.reduceAdd x v reducesTo_S128x1024_S128_d1 h_S_) main_v0 main_cst
  let main_v2 : FVec F S128x1 .f32 := broadcastInDim S128x1 ![0] bcast_S128_S128x1_0 main_v1
  let main_cst_0 : FVec F S_ .f32 := constant S_ .f32 0x44800000#32
  let main_v3 : FVec F S128x1 .f32 := broadcastInDim S128x1 ![] bcast_S_S128x1 main_cst_0
  let main_v4 : FVec F S128x1 .f32 := Host.divf main_v2 main_v3
  let main_cst_1 : FVec F S_ .f32 := constant S_ .f32 0x358637BD#32
  let main_v5 : FVec F S128x1 .f32 := broadcastInDim S128x1 ![] bcast_S_S128x1 main_cst_1
  let main_v6 : FVec F S128x1 .f32 := addf main_v4 main_v5
  let main_v7 : FVec F S128x1 .f32 := Host.rsqrt main_v6
  let main_v8 : FVec F S128x1024 .f32 := broadcastInDim S128x1024 ![0, 1] bcast_S128x1_S128x1024_0_1 main_v7
  let main_v9 : FVec F S128x1024 .f32 := mulf main_arg0 main_v8
  let main_v10 : FVec F S1024 .f32 := shapeCast S1024 main_arg1 shapeCasts_S1x1024_S1024
  let main_v11 : FVec F S1x1024 .f32 := broadcastInDim S1x1024 ![1] bcast_S1024_S1x1024_1 main_v10
  let main_v12 : FVec F S128x1024 .f32 := broadcastInDim S128x1024 ![0, 1] bcast_S1x1024_S128x1024_0_1 main_v11
  let main_v13 : FVec F S128x1024 .f32 := mulf main_v9 main_v12
  let main_cst_2 : FVec F S_ .f32 := constant S_ .f32 0x3F800000#32
  let main_v14 : FVec F S128x1024 .f32 := broadcastInDim S128x1024 ![] bcast_S_S128x1024 main_cst_2
  let main_v15 : FVec F S128x1024 .f32 := addf main_v14 main_arg3
  let main_v16 : FVec F S128x1024 .f32 := mulf main_v13 main_v15
  let main_v17 : FVec F S128x1024 .f32 := addf main_v16 main_arg2
  let main_v18 : FVec F S1024x2432 .f32 := (extf .f32 · bitsLt_bf16_f32) main_arg4
  let main_v19 : FVec F S128x2432 .f32 := (fun l r => Host.dotGeneral dot_S128x1024_S1024x2432_S128x2432_1_0_0_1_n_n none l r) main_v17 main_v18
  fn_part1 (F := F) main_v19
-- ==== Pre_projected_prompt.lean ====
abbrev S16384x1024 : Shape := ⟨2, ![16384, 1024]⟩
abbrev S1x1024 : Shape := ⟨2, ![1, 1024]⟩
abbrev S2x1x1024 : Shape := ⟨3, ![2, 1, 1024]⟩
abbrev S1024x2432 : Shape := ⟨2, ![1024, 2432]⟩
abbrev S8192x32 : Shape := ⟨2, ![8192, 32]⟩
abbrev S1x512 : Shape := ⟨2, ![1, 512]⟩
abbrev S3x128 : Shape := ⟨2, ![3, 128]⟩
abbrev S8x128x128 : Shape := ⟨3, ![8, 128, 128]⟩
abbrev S128x512 : Shape := ⟨2, ![128, 512]⟩
abbrev S_ : Shape := ⟨0, ![]⟩
abbrev S16384 : Shape := ⟨1, ![16384]⟩
abbrev S16384x1 : Shape := ⟨2, ![16384, 1]⟩
abbrev S1024 : Shape := ⟨1, ![1024]⟩
abbrev S2x8192x1024 : Shape := ⟨3, ![2, 8192, 1024]⟩
abbrev S16384x2432 : Shape := ⟨2, ![16384, 2432]⟩

class Facts : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  shapeCasts_S1x1024_S1024 : S1x1024.ShapeCasts S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S16384x1024_S2x8192x1024 : S16384x1024.ShapeCasts S2x8192x1024
  bcast_S_S2x1x1024 : S_.BroadcastsInDim S2x1x1024 (![] : Fin 0 → Fin S2x1x1024.rank)
  bcast_S2x1x1024_S2x8192x1024_0_1_2 : S2x1x1024.BroadcastsInDim S2x8192x1024 (![0, 1, 2] : Fin 3 → Fin S2x8192x1024.rank)
  shapeCasts_S2x8192x1024_S16384x1024 : S2x8192x1024.ShapeCasts S16384x1024
  bitsLt_bf16_f32 : FTy.bits .bf16 < FTy.bits .f32
  bcast_S_S16384x2432 : S_.BroadcastsInDim S16384x2432 (![] : Fin 0 → Fin S16384x2432.rank)
  reducesTo_S16384x2432_S_d0_1 : S16384x2432.ReducesTo [0, 1] S_
  dot_S16384x1024_S1024x2432_S16384x2432_1_0_0_1_n_n_wf : DotDims.WF S16384x1024 S1024x2432 S16384x2432 [1] [0] [0] [1] [] []

variable [Facts]

def dot_S16384x1024_S1024x2432_S16384x2432_1_0_0_1_n_n : DotDims S16384x1024 S1024x2432 S16384x2432 where
  lhsContracting := [1]
  rhsContracting := [0]
  lhsNonContracting := [0]
  rhsNonContracting := [1]
  lhsBatch := []
  rhsBatch := []
  wf := dot_S16384x1024_S1024x2432_S16384x2432_1_0_0_1_n_n_wf
def fn_part1 {F : FTy → Type} [FloatOps F] (main_arg4 : FVec F S1024x2432 .bf16) (main_v18 : FVec F S2x8192x1024 .f32) (main_v19 : FVec F S2x8192x1024 .f32) : IVec S_ 1 :=
  let main_v20 : FVec F S2x8192x1024 .f32 := addf main_v18 main_v19
  let main_v21 : FVec F S16384x1024 .f32 := shapeCast S16384x1024 main_v20 shapeCasts_S2x8192x1024_S16384x1024
  let main_v22 : FVec F S1024x2432 .f32 := (extf .f32 · bitsLt_bf16_f32) main_arg4
  let main_v23 : FVec F S16384x2432 .f32 := (fun l r => Host.dotGeneral dot_S16384x1024_S1024x2432_S16384x2432_1_0_0_1_n_n none l r) main_v21 main_v22
  let main_v24 : FVec F S16384x2432 .f32 := Host.absf main_v23
  let main_cst_3 : FVec F S_ .f32 := constant S_ .f32 0x7F800000#32
  let main_v25 : FVec F S16384x2432 .f32 := broadcastInDim S16384x2432 ![] bcast_S_S16384x2432 main_cst_3
  let main_v26 : IVec S16384x2432 1 := cmpf .olt main_v24 main_v25
  let main_c : IVec S_ 1 := constantI S_ 1 1#1
  let main_v27 : IVec S_ 1 := (fun x v => Host.reduce IntOp.andi x v reducesTo_S16384x2432_S_d0_1 h_S_) main_v26 main_c
  main_v27

def fn {F : FTy → Type} [FloatOps F] (main_arg0 : FVec F S16384x1024 .f32) (main_arg1 : FVec F S1x1024 .f32) (main_arg2 : FVec F S2x1x1024 .f32) (main_arg3 : FVec F S2x1x1024 .f32) (main_arg4 : FVec F S1024x2432 .bf16) (main_arg5 : FVec F S8192x32 .f32) (main_arg6 : FVec F S8192x32 .f32) (main_arg7 : FVec F S1x512 .f32) (main_arg8 : FVec F S3x128 .f32) (main_arg9 : FVec F S8x128x128 .bf16) (main_arg10 : FVec F S128x512 .f32) : IVec S_ 1 :=
  let main_v0 : FVec F S16384x1024 .f32 := mulf main_arg0 main_arg0
  let main_cst : FVec F S_ .f32 := constant S_ .f32 0x00000000#32
  let main_v1 : FVec F S16384 .f32 := (fun x v => Host.reduceAdd x v reducesTo_S16384x1024_S16384_d1 h_S_) main_v0 main_cst
  let main_v2 : FVec F S16384x1 .f32 := broadcastInDim S16384x1 ![0] bcast_S16384_S16384x1_0 main_v1
  let main_cst_0 : FVec F S_ .f32 := constant S_ .f32 0x44800000#32
  let main_v3 : FVec F S16384x1 .f32 := broadcastInDim S16384x1 ![] bcast_S_S16384x1 main_cst_0
  let main_v4 : FVec F S16384x1 .f32 := Host.divf main_v2 main_v3
  let main_cst_1 : FVec F S_ .f32 := constant S_ .f32 0x358637BD#32
  let main_v5 : FVec F S16384x1 .f32 := broadcastInDim S16384x1 ![] bcast_S_S16384x1 main_cst_1
  let main_v6 : FVec F S16384x1 .f32 := addf main_v4 main_v5
  let main_v7 : FVec F S16384x1 .f32 := Host.rsqrt main_v6
  let main_v8 : FVec F S16384x1024 .f32 := broadcastInDim S16384x1024 ![0, 1] bcast_S16384x1_S16384x1024_0_1 main_v7
  let main_v9 : FVec F S16384x1024 .f32 := mulf main_arg0 main_v8
  let main_v10 : FVec F S1024 .f32 := shapeCast S1024 main_arg1 shapeCasts_S1x1024_S1024
  let main_v11 : FVec F S1x1024 .f32 := broadcastInDim S1x1024 ![1] bcast_S1024_S1x1024_1 main_v10
  let main_v12 : FVec F S16384x1024 .f32 := broadcastInDim S16384x1024 ![0, 1] bcast_S1x1024_S16384x1024_0_1 main_v11
  let main_v13 : FVec F S16384x1024 .f32 := mulf main_v9 main_v12
  let main_v14 : FVec F S2x8192x1024 .f32 := shapeCast S2x8192x1024 main_v13 shapeCasts_S16384x1024_S2x8192x1024
  let main_cst_2 : FVec F S_ .f32 := constant S_ .f32 0x3F800000#32
  let main_v15 : FVec F S2x1x1024 .f32 := broadcastInDim S2x1x1024 ![] bcast_S_S2x1x1024 main_cst_2
  let main_v16 : FVec F S2x1x1024 .f32 := addf main_v15 main_arg3
  let main_v17 : FVec F S2x8192x1024 .f32 := broadcastInDim S2x8192x1024 ![0, 1, 2] bcast_S2x1x1024_S2x8192x1024_0_1_2 main_v16
  let main_v18 : FVec F S2x8192x1024 .f32 := mulf main_v14 main_v17
  let main_v19 : FVec F S2x8192x1024 .f32 := broadcastInDim S2x8192x1024 ![0, 1, 2] bcast_S2x1x1024_S2x8192x1024_0_1_2 main_arg2
  fn_part1 (F := F) main_arg4 main_v18 main_v19
-- ==== Nsa.lean ====
abbrev S16384x512 : Shape := ⟨2, ![16384, 512]⟩
abbrev S16384x128 : Shape := ⟨2, ![16384, 128]⟩
abbrev S1024x128 : Shape := ⟨2, ![1024, 128]⟩
abbrev S16384x256 : Shape := ⟨2, ![16384, 256]⟩
abbrev S512x128 : Shape := ⟨2, ![512, 128]⟩
abbrev S_ : Shape := ⟨0, ![]⟩
abbrev S128x8192 : Shape := ⟨2, ![128, 8192]⟩
abbrev S128x512 : Shape := ⟨2, ![128, 512]⟩
abbrev S128x128 : Shape := ⟨2, ![128, 128]⟩
abbrev S8192x256 : Shape := ⟨2, ![8192, 256]⟩
abbrev S128x1 : Shape := ⟨2, ![128, 1]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S256x512 : Shape := ⟨2, ![256, 512]⟩
abbrev S256x128 : Shape := ⟨2, ![256, 128]⟩
abbrev S256x1 : Shape := ⟨2, ![256, 1]⟩
abbrev S256 : Shape := ⟨1, ![256]⟩
abbrev S1x640 : Shape := ⟨2, ![1, 640]⟩
abbrev S128x640 : Shape := ⟨2, ![128, 640]⟩
abbrev S512x640 : Shape := ⟨2, ![512, 640]⟩
abbrev S640x128 : Shape := ⟨2, ![640, 128]⟩
abbrev S1x128 : Shape := ⟨2, ![1, 128]⟩
abbrev S128x1024 : Shape := ⟨2, ![128, 1024]⟩
abbrev S1x1024 : Shape := ⟨2, ![1, 1024]⟩
abbrev S512x1024 : Shape := ⟨2, ![512, 1024]⟩

abbrev nBuf : Space → Nat
  | .hbm => 61
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S1024x128, .bf16⟩
  | .hbm, ⟨3, _⟩ => ⟨S1024x128, .bf16⟩
  | .hbm, ⟨4, _⟩ => ⟨S16384x256, .bf16⟩
  | .hbm, ⟨5, _⟩ => ⟨S16384x256, .bf16⟩
  | .hbm, ⟨6, _⟩ => ⟨S512x128, .i32⟩
  | .hbm, ⟨7, _⟩ => ⟨S512x128, .i32⟩
  | .hbm, ⟨8, _⟩ => ⟨S_, .i32⟩
  | .hbm, ⟨9, _⟩ => ⟨S512x128, .i32⟩
  | .hbm, ⟨10, _⟩ => ⟨S512x128, .i32⟩
  | .hbm, ⟨11, _⟩ => ⟨S_, .i32⟩
  | .hbm, ⟨12, _⟩ => ⟨S512x128, .i32⟩
  | .hbm, ⟨13, _⟩ => ⟨S512x128, .i32⟩
  | .hbm, ⟨14, _⟩ => ⟨S_, .i32⟩
  | .hbm, ⟨15, _⟩ => ⟨S512x128, .i32⟩
  | .hbm, ⟨16, _⟩ => ⟨S512x128, .i32⟩
  | .hbm, ⟨17, _⟩ => ⟨S_, .i32⟩
  | .hbm, ⟨18, _⟩ => ⟨S512x128, .i32⟩
  | .hbm, ⟨19, _⟩ => ⟨S512x128, .i32⟩
  | .hbm, ⟨20, _⟩ => ⟨S512x128, .i32⟩
  | .hbm, ⟨21, _⟩ => ⟨S_, .i32⟩
  | .hbm, ⟨22, _⟩ => ⟨S512x128, .i32⟩
  | .hbm, ⟨23, _⟩ => ⟨S512x128, .i32⟩
  | .hbm, ⟨24, _⟩ => ⟨S_, .i32⟩
  | .hbm, ⟨25, _⟩ => ⟨S512x128, .i32⟩
  | .hbm, ⟨26, _⟩ => ⟨S512x128, .i32⟩
  | .hbm, ⟨27, _⟩ => ⟨S512x128, .i32⟩
  | .hbm, ⟨28, _⟩ => ⟨S512x128, .i32⟩
  | .hbm, ⟨29, _⟩ => ⟨S_, .i32⟩
  | .hbm, ⟨30, _⟩ => ⟨S512x128, .i32⟩
  | .hbm, ⟨31, _⟩ => ⟨S512x128, .i32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S_, .i32⟩
  | .hbm, ⟨37, _⟩ => ⟨S512x128, .i32⟩
  | .hbm, ⟨38, _⟩ => ⟨S512x128, .i1⟩
  | .hbm, ⟨39, _⟩ => ⟨S_, .i32⟩
  | .hbm, ⟨40, _⟩ => ⟨S512x128, .i32⟩
  | .hbm, ⟨41, _⟩ => ⟨S512x128, .i1⟩
  | .hbm, ⟨42, _⟩ => ⟨S512x128, .i1⟩
  | .hbm, ⟨43, _⟩ => ⟨S_, .f32⟩
  | .hbm, ⟨44, _⟩ => ⟨S_, .f32⟩
  | .hbm, ⟨45, _⟩ => ⟨S512x128, .f32⟩
  | .hbm, ⟨46, _⟩ => ⟨S512x128, .f32⟩
  | .hbm, ⟨47, _⟩ => ⟨S512x128, .bf16⟩
  | .hbm, ⟨48, _⟩ => ⟨S128x8192, .i32⟩
  | .hbm, ⟨49, _⟩ => ⟨S128x8192, .i32⟩
  | .hbm, ⟨50, _⟩ => ⟨S_, .i32⟩
  | .hbm, ⟨51, _⟩ => ⟨S128x8192, .i32⟩
  | .hbm, ⟨52, _⟩ => ⟨S128x8192, .i32⟩
  | .hbm, ⟨53, _⟩ => ⟨S128x8192, .i1⟩
  | .hbm, ⟨54, _⟩ => ⟨S_, .f32⟩
  | .hbm, ⟨55, _⟩ => ⟨S_, .f32⟩
  | .hbm, ⟨56, _⟩ => ⟨S128x8192, .f32⟩
  | .hbm, ⟨57, _⟩ => ⟨S128x8192, .f32⟩
  | .hbm, ⟨58, _⟩ => ⟨S128x8192, .f32⟩
  | .hbm, ⟨59, _⟩ => ⟨S128x8192, .bf16⟩
  | .hbm, ⟨60, _⟩ => ⟨S16384x512, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S8192x256, .bf16⟩
  | .local _ .vmem, ⟨9, _⟩ => ⟨S8192x256, .bf16⟩
  | .local _ .vmem, ⟨10, _⟩ => ⟨S8192x256, .bf16⟩
  | .local _ .vmem, ⟨11, _⟩ => ⟨S8192x256, .bf16⟩
  | .local _ .vmem, ⟨12, _⟩ => ⟨S512x128, .bf16⟩
  | .local _ .vmem, ⟨13, _⟩ => ⟨S128x8192, .bf16⟩
  | .local _ .vmem, ⟨14, _⟩ => ⟨S128x512, .f32⟩
  | .local _ .vmem, ⟨15, _⟩ => ⟨S128x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_c_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_call0_v0 : Ref sig .tc := ⟨.hbm, 44, rfl⟩
abbrev main_call0_v1 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_cst_11 : Ref sig .tc := ⟨.hbm, 55, rfl⟩
abbrev main_call1_v0 : Ref sig .tc := ⟨.hbm, 56, rfl⟩
abbrev main_call1_v1 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  let c512_i32 : BitVec 32 := 512#32
  let v389 : BitVec 32 := Scalar.subi v0 c512_i32
  let c0_i32_128 : BitVec 32 := 0#32
  let v390 : BitVec 32 := Scalar.maxsi v389 c0_i32_128
  v390
def k0_off1 (i : grid0.Coords) : Fin 2 → Nat :=
  let arg1 : BitVec 32 := BitVec.ofNat 32 (i 1).val
  let c128_i32 : BitVec 32 := 128#32
  let v0 : BitVec 32 := Scalar.muli arg1 c128_i32
  let c512_i32 : BitVec 32 := 512#32
  let v389 : BitVec 32 := Scalar.subi v0 c512_i32
  let c0_i32_128 : BitVec 32 := 0#32
  let v390 : BitVec 32 := Scalar.maxsi v389 c0_i32_128
  let v391 : BitVec 32 := v390
  let v408 : Index := Scalar.indexCast v391
  let c0_132 : Index := 0#32
  ![v408.toNat, 0]
def k0_off2 (i : grid0.Coords) : Fin 2 → Nat :=
  let arg1 : BitVec 32 := BitVec.ofNat 32 (i 1).val
  let c128_i32 : BitVec 32 := 128#32
  let v0 : BitVec 32 := Scalar.muli arg1 c128_i32
  let c512_i32 : BitVec 32 := 512#32
  let v389 : BitVec 32 := Scalar.subi v0 c512_i32
  let c0_i32_128 : BitVec 32 := 0#32
  let v390 : BitVec 32 := Scalar.maxsi v389 c0_i32_128
  let v391 : BitVec 32 := v390
  let v410 : Index := Scalar.indexCast v391
  let c128 : Index := 128#32
  ![v410.toNat, 128]
@[reducible] def k0_t1_loop (i : grid0.Coords) : Scf.Loop 32 :=
  let c0_i32_156 : BitVec 32 := 0#32
  let arg1 : BitVec 32 := BitVec.ofNat 32 (i 1).val
  let c128_i32 : BitVec 32 := 128#32
  let v0 : BitVec 32 := Scalar.muli arg1 c128_i32
  let c128_i32_147 : BitVec 32 := 128#32
  let v446 : BitVec 32 := Scalar.addi v0 c128_i32_147
  let c1024_i32 : BitVec 32 := 1024#32
  let v447 : BitVec 32 := Scalar.addi v446 c1024_i32
  let c1_i32_148 : BitVec 32 := 1#32
  let v448 : BitVec 32 := Scalar.subi v447 c1_i32_148
  let c0_i32_150 : BitVec 32 := 0#32
  let v450 : BitVec 1 := Scalar.cmpi .sgt v448 c0_i32_150
  let v451 : BitVec 32 := Scalar.extui v450
  let c0_i32_151 : BitVec 32 := 0#32
  let v452 : BitVec 1 := Scalar.cmpi .slt v448 c0_i32_151
  let v453 : BitVec 32 := Scalar.extui v452
  let v454 : BitVec 32 := Scalar.subi v451 v453
  let c1024_i32_149 : BitVec 32 := 1024#32
  let c0_i32_152 : BitVec 32 := 0#32
  let v455 : BitVec 1 := Scalar.cmpi .sgt c1024_i32_149 c0_i32_152
  let v456 : BitVec 32 := Scalar.extui v455
  let c0_i32_153 : BitVec 32 := 0#32
  let v457 : BitVec 1 := Scalar.cmpi .slt c1024_i32_149 c0_i32_153
  let v458 : BitVec 32 := Scalar.extui v457
  let v459 : BitVec 32 := Scalar.subi v456 v458
  let v460 : BitVec 1 := Scalar.cmpi .ne v454 v459
  let v461 : BitVec 32 := Scalar.remsi v448 c1024_i32_149
  let c0_i32_154 : BitVec 32 := 0#32
  let v462 : BitVec 1 := Scalar.cmpi .ne v461 c0_i32_154
  let v463 : BitVec 1 := Scalar.andi v460 v462
  let v449 : BitVec 32 := Scalar.divsi v448 c1024_i32_149
  let c1_i32_155 : BitVec 32 := 1#32
  let v464 : BitVec 32 := Scalar.subi v449 c1_i32_155
  let v465 : BitVec 32 := Scalar.select v463 v464 v449
  let v466 : BitVec 32 := Scalar.subi v465 c0_i32_156
  let c1_i32_157 : BitVec 32 := 1#32
  let v468 : BitVec 32 := Scalar.divsi v466 c1_i32_157
  let v469 : BitVec 32 := Scalar.muli v468 c1_i32_157
  let v470 : BitVec 32 := Scalar.addi c0_i32_156 v469
  let c1_i32_158 : BitVec 32 := 1#32
  ⟨c0_i32_156, v470, c1_i32_158⟩
def k0_mult2 (i : grid0.Coords) (k0_t1 : Fin (k0_t1_loop i).trips) : BitVec 32 :=
  let c0_i32_156 : BitVec 32 := 0#32
  let c1_i32_158 : BitVec 32 := 1#32
  let arg11 : BitVec 32 := Scf.iv c0_i32_156 c1_i32_158 k0_t1
  let c1024_i32_167 : BitVec 32 := 1024#32
  let v604 : BitVec 32 := Scalar.muli arg11 c1024_i32_167
  v604
def k0_off3 (i : grid0.Coords) (k0_t1 : Fin (k0_t1_loop i).trips) : Fin 2 → Nat :=
  let c0_i32_156 : BitVec 32 := 0#32
  let c1_i32_158 : BitVec 32 := 1#32
  let arg11 : BitVec 32 := Scf.iv c0_i32_156 c1_i32_158 k0_t1
  let c1024_i32_167 : BitVec 32 := 1024#32
  let v604 : BitVec 32 := Scalar.muli arg11 c1024_i32_167
  let v605 : BitVec 32 := v604
  let v606 : Index := Scalar.indexCast v605
  let c0_168 : Index := 0#32
  ![v606.toNat, 0]
def k0_off4 (i : grid0.Coords) (k0_t1 : Fin (k0_t1_loop i).trips) : Fin 2 → Nat :=
  let c0_i32_156 : BitVec 32 := 0#32
  let c1_i32_158 : BitVec 32 := 1#32
  let arg11 : BitVec 32 := Scf.iv c0_i32_156 c1_i32_158 k0_t1
  let c1024_i32_167 : BitVec 32 := 1024#32
  let v604 : BitVec 32 := Scalar.muli arg11 c1024_i32_167
  let v605 : BitVec 32 := v604
  let v608 : Index := Scalar.indexCast v605
  let c128_169 : Index := 128#32
  ![v608.toNat, 128]
def k0_off5 (i : grid0.Coords) (k0_t1 : Fin (k0_t1_loop i).trips) : Fin 2 → Nat :=
  let c0_170 : Index := 0#32
  let c0_i32_156 : BitVec 32 := 0#32
  let c1_i32_158 : BitVec 32 := 1#32
  let arg11 : BitVec 32 := Scf.iv c0_i32_156 c1_i32_158 k0_t1
  let c1024_i32_167 : BitVec 32 := 1024#32
  let v604 : BitVec 32 := Scalar.muli arg11 c1024_i32_167
  let v605 : BitVec 32 := v604
  let v610 : Index := Scalar.indexCast v605
  ![0, v610.toNat]
@[reducible] def k0_t2_loop (i : grid0.Coords) : Scf.Loop 32 :=
  let c0_i32_156 : BitVec 32 := 0#32
  let arg1 : BitVec 32 := BitVec.ofNat 32 (i 1).val
  let c128_i32 : BitVec 32 := 128#32
  let v0 : BitVec 32 := Scalar.muli arg1 c128_i32
  let c128_i32_147 : BitVec 32 := 128#32
  let v446 : BitVec 32 := Scalar.addi v0 c128_i32_147
  let c1024_i32 : BitVec 32 := 1024#32
  let v447 : BitVec 32 := Scalar.addi v446 c1024_i32
  let c1_i32_148 : BitVec 32 := 1#32
  let v448 : BitVec 32 := Scalar.subi v447 c1_i32_148
  let c0_i32_150 : BitVec 32 := 0#32
  let v450 : BitVec 1 := Scalar.cmpi .sgt v448 c0_i32_150
  let v451 : BitVec 32 := Scalar.extui v450
  let c0_i32_151 : BitVec 32 := 0#32
  let v452 : BitVec 1 := Scalar.cmpi .slt v448 c0_i32_151
  let v453 : BitVec 32 := Scalar.extui v452
  let v454 : BitVec 32 := Scalar.subi v451 v453
  let c1024_i32_149 : BitVec 32 := 1024#32
  let c0_i32_152 : BitVec 32 := 0#32
  let v455 : BitVec 1 := Scalar.cmpi .sgt c1024_i32_149 c0_i32_152
  let v456 : BitVec 32 := Scalar.extui v455
  let c0_i32_153 : BitVec 32 := 0#32
  let v457 : BitVec 1 := Scalar.cmpi .slt c1024_i32_149 c0_i32_153
  let v458 : BitVec 32 := Scalar.extui v457
  let v459 : BitVec 32 := Scalar.subi v456 v458
  let v460 : BitVec 1 := Scalar.cmpi .ne v454 v459
  let v461 : BitVec 32 := Scalar.remsi v448 c1024_i32_149
  let c0_i32_154 : BitVec 32 := 0#32
  let v462 : BitVec 1 := Scalar.cmpi .ne v461 c0_i32_154
  let v463 : BitVec 1 := Scalar.andi v460 v462
  let v449 : BitVec 32 := Scalar.divsi v448 c1024_i32_149
  let c1_i32_155 : BitVec 32 := 1#32
  let v464 : BitVec 32 := Scalar.subi v449 c1_i32_155
  let v465 : BitVec 32 := Scalar.select v463 v464 v449
  let v466 : BitVec 32 := Scalar.subi v465 c0_i32_156
  let c1_i32_157 : BitVec 32 := 1#32
  let v468 : BitVec 32 := Scalar.divsi v466 c1_i32_157
  let v469 : BitVec 32 := Scalar.muli v468 c1_i32_157
  let v470 : BitVec 32 := Scalar.addi c0_i32_156 v469
  let v467 : BitVec 32 := Scalar.addi c0_i32_156 v466
  let c1_i32_159 : BitVec 32 := 1#32
  ⟨v470, v467, c1_i32_159⟩
def k0_mult3 (i : grid0.Coords) (k0_t2 : Fin (k0_t2_loop i).trips) : BitVec 32 :=
  let c0_i32_156 : BitVec 32 := 0#32
  let arg1 : BitVec 32 := BitVec.ofNat 32 (i 1).val
  let c128_i32 : BitVec 32 := 128#32
  let v0 : BitVec 32 := Scalar.muli arg1 c128_i32
  let c128_i32_147 : BitVec 32 := 128#32
  let v446 : BitVec 32 := Scalar.addi v0 c128_i32_147
  let c1024_i32 : BitVec 32 := 1024#32
  let v447 : BitVec 32 := Scalar.addi v446 c1024_i32
  let c1_i32_148 : BitVec 32 := 1#32
  let v448 : BitVec 32 := Scalar.subi v447 c1_i32_148
  let c0_i32_150 : BitVec 32 := 0#32
  let v450 : BitVec 1 := Scalar.cmpi .sgt v448 c0_i32_150
  let v451 : BitVec 32 := Scalar.extui v450
  let c0_i32_151 : BitVec 32 := 0#32
  let v452 : BitVec 1 := Scalar.cmpi .slt v448 c0_i32_151
  let v453 : BitVec 32 := Scalar.extui v452
  let v454 : BitVec 32 := Scalar.subi v451 v453
  let c1024_i32_149 : BitVec 32 := 1024#32
  let c0_i32_152 : BitVec 32 := 0#32
  let v455 : BitVec 1 := Scalar.cmpi .sgt c1024_i32_149 c0_i32_152
  let v456 : BitVec 32 := Scalar.extui v455
  let c0_i32_153 : BitVec 32 := 0#32
  let v457 : BitVec 1 := Scalar.cmpi .slt c1024_i32_149 c0_i32_153
  let v458 : BitVec 32 := Scalar.extui v457
  let v459 : BitVec 32 := Scalar.subi v456 v458
  let v460 : BitVec 1 := Scalar.cmpi .ne v454 v459
  let v461 : BitVec 32 := Scalar.remsi v448 c1024_i32_149
  let c0_i32_154 : BitVec 32 := 0#32
  let v462 : BitVec 1 := Scalar.cmpi .ne v461 c0_i32_154
  let v463 : BitVec 1 := Scalar.andi v460 v462
  let v449 : BitVec 32 := Scalar.divsi v448 c1024_i32_149
  let c1_i32_155 : BitVec 32 := 1#32
  let v464 : BitVec 32 := Scalar.subi v449 c1_i32_155
  let v465 : BitVec 32 := Scalar.select v463 v464 v449
  let v466 : BitVec 32 := Scalar.subi v465 c0_i32_156
  let c1_i32_157 : BitVec 32 := 1#32
  let v468 : BitVec 32 := Scalar.divsi v466 c1_i32_157
  let v469 : BitVec 32 := Scalar.muli v468 c1_i32_157
  let v470 : BitVec 32 := Scalar.addi c0_i32_156 v469
  let c1_i32_159 : BitVec 32 := 1#32
  let arg11 : BitVec 32 := Scf.iv v470 c1_i32_159 k0_t2
  let c1024_i32_167 : BitVec 32 := 1024#32
  let v604 : BitVec 32 := Scalar.muli arg11 c1024_i32_167
  v604
def k0_off6 (i : grid0.Coords) (k0_t2 : Fin (k0_t2_loop i).trips) : Fin 2 → Nat :=
  let c0_i32_156 : BitVec 32 := 0#32
  let arg1 : BitVec 32 := BitVec.ofNat 32 (i 1).val
  let c128_i32 : BitVec 32 := 128#32
  let v0 : BitVec 32 := Scalar.muli arg1 c128_i32
  let c128_i32_147 : BitVec 32 := 128#32
  let v446 : BitVec 32 := Scalar.addi v0 c128_i32_147
  let c1024_i32 : BitVec 32 := 1024#32
  let v447 : BitVec 32 := Scalar.addi v446 c1024_i32
  let c1_i32_148 : BitVec 32 := 1#32
  let v448 : BitVec 32 := Scalar.subi v447 c1_i32_148
  let c0_i32_150 : BitVec 32 := 0#32
  let v450 : BitVec 1 := Scalar.cmpi .sgt v448 c0_i32_150
  let v451 : BitVec 32 := Scalar.extui v450
  let c0_i32_151 : BitVec 32 := 0#32
  let v452 : BitVec 1 := Scalar.cmpi .slt v448 c0_i32_151
  let v453 : BitVec 32 := Scalar.extui v452
  let v454 : BitVec 32 := Scalar.subi v451 v453
  let c1024_i32_149 : BitVec 32 := 1024#32
  let c0_i32_152 : BitVec 32 := 0#32
  let v455 : BitVec 1 := Scalar.cmpi .sgt c1024_i32_149 c0_i32_152
  let v456 : BitVec 32 := Scalar.extui v455
  let c0_i32_153 : BitVec 32 := 0#32
  let v457 : BitVec 1 := Scalar.cmpi .slt c1024_i32_149 c0_i32_153
  let v458 : BitVec 32 := Scalar.extui v457
  let v459 : BitVec 32 := Scalar.subi v456 v458
  let v460 : BitVec 1 := Scalar.cmpi .ne v454 v459
  let v461 : BitVec 32 := Scalar.remsi v448 c1024_i32_149
  let c0_i32_154 : BitVec 32 := 0#32
  let v462 : BitVec 1 := Scalar.cmpi .ne v461 c0_i32_154
  let v463 : BitVec 1 := Scalar.andi v460 v462
  let v449 : BitVec 32 := Scalar.divsi v448 c1024_i32_149
  let c1_i32_155 : BitVec 32 := 1#32
  let v464 : BitVec 32 := Scalar.subi v449 c1_i32_155
  let v465 : BitVec 32 := Scalar.select v463 v464 v449
  let v466 : BitVec 32 := Scalar.subi v465 c0_i32_156
  let c1_i32_157 : BitVec 32 := 1#32
  let v468 : BitVec 32 := Scalar.divsi v466 c1_i32_157
  let v469 : BitVec 32 := Scalar.muli v468 c1_i32_157
  let v470 : BitVec 32 := Scalar.addi c0_i32_156 v469
  let c1_i32_159 : BitVec 32 := 1#32
  let arg11 : BitVec 32 := Scf.iv v470 c1_i32_159 k0_t2
  let c1024_i32_167 : BitVec 32 := 1024#32
  let v604 : BitVec 32 := Scalar.muli arg11 c1024_i32_167
  let v605 : BitVec 32 := v604
  let v606 : Index := Scalar.indexCast v605
  let c0_168 : Index := 0#32
  ![v606.toNat, 0]
def k0_off7 (i : grid0.Coords) (k0_t2 : Fin (k0_t2_loop i).trips) : Fin 2 → Nat :=
  let c0_i32_156 : BitVec 32 := 0#32
  let arg1 : BitVec 32 := BitVec.ofNat 32 (i 1).val
  let c128_i32 : BitVec 32 := 128#32
  let v0 : BitVec 32 := Scalar.muli arg1 c128_i32
  let c128_i32_147 : BitVec 32 := 128#32
  let v446 : BitVec 32 := Scalar.addi v0 c128_i32_147
  let c1024_i32 : BitVec 32 := 1024#32
  let v447 : BitVec 32 := Scalar.addi v446 c1024_i32
  let c1_i32_148 : BitVec 32 := 1#32
  let v448 : BitVec 32 := Scalar.subi v447 c1_i32_148
  let c0_i32_150 : BitVec 32 := 0#32
  let v450 : BitVec 1 := Scalar.cmpi .sgt v448 c0_i32_150
  let v451 : BitVec 32 := Scalar.extui v450
  let c0_i32_151 : BitVec 32 := 0#32
  let v452 : BitVec 1 := Scalar.cmpi .slt v448 c0_i32_151
  let v453 : BitVec 32 := Scalar.extui v452
  let v454 : BitVec 32 := Scalar.subi v451 v453
  let c1024_i32_149 : BitVec 32 := 1024#32
  let c0_i32_152 : BitVec 32 := 0#32
  let v455 : BitVec 1 := Scalar.cmpi .sgt c1024_i32_149 c0_i32_152
  let v456 : BitVec 32 := Scalar.extui v455
  let c0_i32_153 : BitVec 32 := 0#32
  let v457 : BitVec 1 := Scalar.cmpi .slt c1024_i32_149 c0_i32_153
  let v458 : BitVec 32 := Scalar.extui v457
  let v459 : BitVec 32 := Scalar.subi v456 v458
  let v460 : BitVec 1 := Scalar.cmpi .ne v454 v459
  let v461 : BitVec 32 := Scalar.remsi v448 c1024_i32_149
  let c0_i32_154 : BitVec 32 := 0#32
  let v462 : BitVec 1 := Scalar.cmpi .ne v461 c0_i32_154
  let v463 : BitVec 1 := Scalar.andi v460 v462
  let v449 : BitVec 32 := Scalar.divsi v448 c1024_i32_149
  let c1_i32_155 : BitVec 32 := 1#32
  let v464 : BitVec 32 := Scalar.subi v449 c1_i32_155
  let v465 : BitVec 32 := Scalar.select v463 v464 v449
  let v466 : BitVec 32 := Scalar.subi v465 c0_i32_156
  let c1_i32_157 : BitVec 32 := 1#32
  let v468 : BitVec 32 := Scalar.divsi v466 c1_i32_157
  let v469 : BitVec 32 := Scalar.muli v468 c1_i32_157
  let v470 : BitVec 32 := Scalar.addi c0_i32_156 v469
  let c1_i32_159 : BitVec 32 := 1#32
  let arg11 : BitVec 32 := Scf.iv v470 c1_i32_159 k0_t2
  let c1024_i32_167 : BitVec 32 := 1024#32
  let v604 : BitVec 32 := Scalar.muli arg11 c1024_i32_167
  let v605 : BitVec 32 := v604
  let v608 : Index := Scalar.indexCast v605
  let c128_169 : Index := 128#32
  ![v608.toNat, 128]
def k0_off8 (i : grid0.Coords) (k0_t2 : Fin (k0_t2_loop i).trips) : Fin 2 → Nat :=
  let c0_170 : Index := 0#32
  let c0_i32_156 : BitVec 32 := 0#32
  let arg1 : BitVec 32 := BitVec.ofNat 32 (i 1).val
  let c128_i32 : BitVec 32 := 128#32
  let v0 : BitVec 32 := Scalar.muli arg1 c128_i32
  let c128_i32_147 : BitVec 32 := 128#32
  let v446 : BitVec 32 := Scalar.addi v0 c128_i32_147
  let c1024_i32 : BitVec 32 := 1024#32
  let v447 : BitVec 32 := Scalar.addi v446 c1024_i32
  let c1_i32_148 : BitVec 32 := 1#32
  let v448 : BitVec 32 := Scalar.subi v447 c1_i32_148
  let c0_i32_150 : BitVec 32 := 0#32
  let v450 : BitVec 1 := Scalar.cmpi .sgt v448 c0_i32_150
  let v451 : BitVec 32 := Scalar.extui v450
  let c0_i32_151 : BitVec 32 := 0#32
  let v452 : BitVec 1 := Scalar.cmpi .slt v448 c0_i32_151
  let v453 : BitVec 32 := Scalar.extui v452
  let v454 : BitVec 32 := Scalar.subi v451 v453
  let c1024_i32_149 : BitVec 32 := 1024#32
  let c0_i32_152 : BitVec 32 := 0#32
  let v455 : BitVec 1 := Scalar.cmpi .sgt c1024_i32_149 c0_i32_152
  let v456 : BitVec 32 := Scalar.extui v455
  let c0_i32_153 : BitVec 32 := 0#32
  let v457 : BitVec 1 := Scalar.cmpi .slt c1024_i32_149 c0_i32_153
  let v458 : BitVec 32 := Scalar.extui v457
  let v459 : BitVec 32 := Scalar.subi v456 v458
  let v460 : BitVec 1 := Scalar.cmpi .ne v454 v459
  let v461 : BitVec 32 := Scalar.remsi v448 c1024_i32_149
  let c0_i32_154 : BitVec 32 := 0#32
  let v462 : BitVec 1 := Scalar.cmpi .ne v461 c0_i32_154
  let v463 : BitVec 1 := Scalar.andi v460 v462
  let v449 : BitVec 32 := Scalar.divsi v448 c1024_i32_149
  let c1_i32_155 : BitVec 32 := 1#32
  let v464 : BitVec 32 := Scalar.subi v449 c1_i32_155
  let v465 : BitVec 32 := Scalar.select v463 v464 v449
  let v466 : BitVec 32 := Scalar.subi v465 c0_i32_156
  let c1_i32_157 : BitVec 32 := 1#32
  let v468 : BitVec 32 := Scalar.divsi v466 c1_i32_157
  let v469 : BitVec 32 := Scalar.muli v468 c1_i32_157
  let v470 : BitVec 32 := Scalar.addi c0_i32_156 v469
  let c1_i32_159 : BitVec 32 := 1#32
  let arg11 : BitVec 32 := Scf.iv v470 c1_i32_159 k0_t2
  let c1024_i32_167 : BitVec 32 := 1024#32
  let v604 : BitVec 32 := Scalar.muli arg11 c1024_i32_167
  let v605 : BitVec 32 := v604
  let v610 : Index := Scalar.indexCast v605
  ![0, v610.toNat]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== NsaIdeal.lean ====
variable {F : FTy → Type} [FloatOps F] [Named F]
def κ : String → Option EReal := fun
  | "log2e" => some (((Real.log 2)⁻¹ : ℝ) : EReal)
  | "mask" => some ⊥
  | _ => none
-- ==== RefIdeal.lean ====
abbrev S16384x512 : Shape := ⟨2, ![16384, 512]⟩
abbrev S16384x128 : Shape := ⟨2, ![16384, 128]⟩
abbrev S1024x128 : Shape := ⟨2, ![1024, 128]⟩
abbrev S16384x256 : Shape := ⟨2, ![16384, 256]⟩
abbrev S2x8192x2x4x64 : Shape := ⟨5, ![2, 8192, 2, 4, 64]⟩
abbrev S2x512x2x64 : Shape := ⟨4, ![2, 512, 2, 64]⟩
abbrev S2x511x2x64 : Shape := ⟨4, ![2, 511, 2, 64]⟩
abbrev S2x8192x2x2x64 : Shape := ⟨5, ![2, 8192, 2, 2, 64]⟩
abbrev S2x8192x1x2x64 : Shape := ⟨5, ![2, 8192, 1, 2, 64]⟩
abbrev S2x8192x2x64 : Shape := ⟨4, ![2, 8192, 2, 64]⟩
abbrev S8192 : Shape := ⟨1, ![8192]⟩
abbrev S511 : Shape := ⟨1, ![511]⟩
abbrev S_ : Shape := ⟨0, ![]⟩
abbrev S1x511 : Shape := ⟨2, ![1, 511]⟩
abbrev S8192x1 : Shape := ⟨2, ![8192, 1]⟩
abbrev S8192x511 : Shape := ⟨2, ![8192, 511]⟩
abbrev S1x1x8192x1x511 : Shape := ⟨5, ![1, 1, 8192, 1, 511]⟩
abbrev S2x2x8192x4x511 : Shape := ⟨5, ![2, 2, 8192, 4, 511]⟩
abbrev S2x2x8192x4 : Shape := ⟨4, ![2, 2, 8192, 4]⟩
abbrev S2x2x8192x4x1 : Shape := ⟨5, ![2, 2, 8192, 4, 1]⟩
abbrev S2x2x8192x4x64 : Shape := ⟨5, ![2, 2, 8192, 4, 64]⟩
abbrev S128 : Shape := ⟨1, ![128]⟩
abbrev S511x1 : Shape := ⟨2, ![511, 1]⟩
abbrev S1x128 : Shape := ⟨2, ![1, 128]⟩
abbrev S511x128 : Shape := ⟨2, ![511, 128]⟩
abbrev S2x2x8192x511 : Shape := ⟨4, ![2, 2, 8192, 511]⟩
abbrev S2x2x8192x128 : Shape := ⟨4, ![2, 2, 8192, 128]⟩
abbrev S8192x128 : Shape := ⟨2, ![8192, 128]⟩
abbrev S1x1x8192x128 : Shape := ⟨4, ![1, 1, 8192, 128]⟩
abbrev S2x2x8192x16 : Shape := ⟨4, ![2, 2, 8192, 16]⟩
abbrev S2x2x8192x16x1 : Shape := ⟨5, ![2, 2, 8192, 16, 1]⟩
abbrev S1x1x1x1x128 : Shape := ⟨5, ![1, 1, 1, 1, 128]⟩
abbrev S2x2x8192x16x128 : Shape := ⟨5, ![2, 2, 8192, 16, 128]⟩
abbrev S1x8192 : Shape := ⟨2, ![1, 8192]⟩
abbrev S8192x8192 : Shape := ⟨2, ![8192, 8192]⟩
abbrev S2x2x8192x128x1 : Shape := ⟨5, ![2, 2, 8192, 128, 1]⟩
abbrev S2x2x8192x128x64 : Shape := ⟨5, ![2, 2, 8192, 128, 64]⟩
abbrev S2x2x8192x8192 : Shape := ⟨4, ![2, 2, 8192, 8192]⟩
abbrev S1x1x8192x8192 : Shape := ⟨4, ![1, 1, 8192, 8192]⟩
abbrev S2x2x8192x4x8192 : Shape := ⟨5, ![2, 2, 8192, 4, 8192]⟩
abbrev S2x2x8192x1x8192 : Shape := ⟨5, ![2, 2, 8192, 1, 8192]⟩
abbrev S1x1x8192x1x8192 : Shape := ⟨5, ![1, 1, 8192, 1, 8192]⟩
abbrev S16384x24 : Shape := ⟨2, ![16384, 24]⟩
abbrev S2x8192x2x4x3 : Shape := ⟨5, ![2, 8192, 2, 4, 3]⟩
abbrev S2x2x8192x4x3 : Shape := ⟨5, ![2, 2, 8192, 4, 3]⟩

abbrev nBuf : Space → Nat
  | .hbm => 226
  | .vmem => 0
  | .smem => 0
  | _ => 0

abbrev hbmTy0_0 (i : Nat) : BufTy := match i % 128 with
  | 0 => ⟨S16384x512, .f32⟩
  | 1 => ⟨S16384x128, .f32⟩
  | 2 => ⟨S1024x128, .bf16⟩
  | 3 => ⟨S1024x128, .bf16⟩
  | 4 => ⟨S16384x256, .bf16⟩
  | 5 => ⟨S16384x256, .bf16⟩
  | 6 => ⟨S2x8192x2x4x64, .f32⟩
  | 7 => ⟨S1024x128, .f32⟩
  | 8 => ⟨S2x512x2x64, .f32⟩
  | 9 => ⟨S2x511x2x64, .f32⟩
  | 10 => ⟨S1024x128, .f32⟩
  | 11 => ⟨S2x512x2x64, .f32⟩
  | 12 => ⟨S2x511x2x64, .f32⟩
  | 13 => ⟨S16384x256, .f32⟩
  | 14 => ⟨S2x8192x2x2x64, .f32⟩
  | 15 => ⟨S2x8192x1x2x64, .f32⟩
  | 16 => ⟨S2x8192x2x64, .f32⟩
  | 17 => ⟨S16384x256, .f32⟩
  | 18 => ⟨S2x8192x2x2x64, .f32⟩
  | 19 => ⟨S2x8192x1x2x64, .f32⟩
  | 20 => ⟨S2x8192x2x64, .f32⟩
  | 21 => ⟨S16384x256, .f32⟩
  | 22 => ⟨S2x8192x2x2x64, .f32⟩
  | 23 => ⟨S2x8192x1x2x64, .f32⟩
  | 24 => ⟨S2x8192x2x64, .f32⟩
  | 25 => ⟨S16384x256, .f32⟩
  | 26 => ⟨S2x8192x2x2x64, .f32⟩
  | 27 => ⟨S2x8192x1x2x64, .f32⟩
  | 28 => ⟨S2x8192x2x64, .f32⟩
  | 29 => ⟨S8192, .i32⟩
  | 30 => ⟨S511, .i32⟩
  | 31 => ⟨S_, .i32⟩
  | 32 => ⟨S511, .i32⟩
  | 33 => ⟨S511, .i32⟩
  | 34 => ⟨S1x511, .i32⟩
  | 35 => ⟨S_, .i32⟩
  | 36 => ⟨S1x511, .i32⟩
  | 37 => ⟨S1x511, .i32⟩
  | 38 => ⟨S8192x1, .i32⟩
  | 39 => ⟨S8192x511, .i32⟩
  | 40 => ⟨S8192x511, .i32⟩
  | 41 => ⟨S8192x511, .i1⟩
  | 42 => ⟨S1x1x8192x1x511, .i1⟩
  | 43 => ⟨S2x2x8192x4x511, .f32⟩
  | 44 => ⟨S_, .f32⟩
  | 45 => ⟨S_, .f32⟩
  | 46 => ⟨S2x2x8192x4x511, .i1⟩
  | 47 => ⟨S2x2x8192x4x511, .f32⟩
  | 48 => ⟨S2x2x8192x4x511, .f32⟩
  | 49 => ⟨S_, .f32⟩
  | 50 => ⟨S2x2x8192x4, .f32⟩
  | 51 => ⟨S_, .f32⟩
  | 52 => ⟨S2x2x8192x4, .f32⟩
  | 53 => ⟨S2x2x8192x4, .f32⟩
  | 54 => ⟨S2x2x8192x4x1, .f32⟩
  | 55 => ⟨S2x2x8192x4x511, .f32⟩
  | 56 => ⟨S2x2x8192x4x511, .f32⟩
  | 57 => ⟨S2x2x8192x4x511, .f32⟩
  | 58 => ⟨S_, .f32⟩
  | 59 => ⟨S2x2x8192x4, .f32⟩
  | 60 => ⟨S2x2x8192x4x1, .f32⟩
  | 61 => ⟨S2x2x8192x4x511, .f32⟩
  | 62 => ⟨S2x2x8192x4x511, .f32⟩
  | 63 => ⟨S_, .f32⟩
  | 64 => ⟨S_, .f32⟩
  | 65 => ⟨S2x2x8192x4x511, .i1⟩
  | 66 => ⟨S2x2x8192x4x511, .f32⟩
  | 67 => ⟨S2x2x8192x4x511, .f32⟩
  | 68 => ⟨S2x2x8192x4x64, .f32⟩
  | 69 => ⟨S128, .i32⟩
  | 70 => ⟨S_, .i32⟩
  | 71 => ⟨S128, .i32⟩
  | 72 => ⟨S128, .i32⟩
  | 73 => ⟨S511x1, .i32⟩
  | 74 => ⟨S_, .i32⟩
  | 75 => ⟨S511x1, .i32⟩
  | 76 => ⟨S511x1, .i32⟩
  | 77 => ⟨S1x128, .i32⟩
  | 78 => ⟨S_, .i32⟩
  | 79 => ⟨S1x128, .i32⟩
  | 80 => ⟨S1x128, .i32⟩
  | 81 => ⟨S511x128, .i32⟩
  | 82 => ⟨S511x128, .i32⟩
  | 83 => ⟨S511x128, .i32⟩
  | 84 => ⟨S511x1, .i32⟩
  | 85 => ⟨S1x128, .i32⟩
  | 86 => ⟨S511x128, .i32⟩
  | 87 => ⟨S511x128, .i32⟩
  | 88 => ⟨S511x128, .i32⟩
  | 89 => ⟨S511x128, .i32⟩
  | 90 => ⟨S_, .i32⟩
  | 91 => ⟨S511x128, .i32⟩
  | 92 => ⟨S511x128, .i32⟩
  | 93 => ⟨S511x128, .f32⟩
  | 94 => ⟨S_, .f32⟩
  | 95 => ⟨S511x128, .f32⟩
  | 96 => ⟨S511x128, .f32⟩
  | 97 => ⟨S_, .f32⟩
  | 98 => ⟨S2x2x8192x511, .f32⟩
  | 99 => ⟨S2x2x8192x128, .f32⟩
  | 100 => ⟨S_, .i32⟩
  | 101 => ⟨S8192, .i32⟩
  | 102 => ⟨S8192, .i32⟩
  | 103 => ⟨S8192x1, .i32⟩
  | 104 => ⟨S128, .i32⟩
  | 105 => ⟨S1x128, .i32⟩
  | 106 => ⟨S_, .i32⟩
  | 107 => ⟨S1x128, .i32⟩
  | 108 => ⟨S1x128, .i1⟩
  | 109 => ⟨S8192x128, .i32⟩
  | 110 => ⟨S8192x128, .i32⟩
  | 111 => ⟨S8192x128, .i1⟩
  | 112 => ⟨S8192x128, .i1⟩
  | 113 => ⟨S8192x128, .i1⟩
  | 114 => ⟨S_, .i32⟩
  | 115 => ⟨S8192x1, .i32⟩
  | 116 => ⟨S8192x1, .i32⟩
  | 117 => ⟨S8192x128, .i32⟩
  | 118 => ⟨S8192x128, .i32⟩
  | 119 => ⟨S8192x128, .i1⟩
  | 120 => ⟨S8192x128, .i1⟩
  | 121 => ⟨S1x1x8192x128, .i1⟩
  | 122 => ⟨S_, .f32⟩
  | 123 => ⟨S_, .f32⟩
  | 124 => ⟨S2x2x8192x128, .i1⟩
  | 125 => ⟨S2x2x8192x128, .f32⟩
  | 126 => ⟨S2x2x8192x128, .f32⟩
  | 127 => ⟨S8192x128, .i32⟩
  | _ => ⟨S16384x512, .f32⟩

abbrev hbmTy0_1 (i : Nat) : BufTy := match i % 128 with
  | 0 => ⟨S8192x128, .i32⟩
  | 1 => ⟨S8192x128, .i1⟩
  | 2 => ⟨S1x1x8192x128, .i1⟩
  | 3 => ⟨S_, .f32⟩
  | 4 => ⟨S_, .f32⟩
  | 5 => ⟨S2x2x8192x128, .i1⟩
  | 6 => ⟨S2x2x8192x128, .f32⟩
  | 7 => ⟨S2x2x8192x128, .f32⟩
  | 8 => ⟨S2x2x8192x16, .f32⟩
  | 9 => ⟨S2x2x8192x16, .i32⟩
  | 10 => ⟨S2x2x8192x16x1, .i32⟩
  | 11 => ⟨S128, .i32⟩
  | 12 => ⟨S1x1x1x1x128, .i32⟩
  | 13 => ⟨S2x2x8192x16x128, .i32⟩
  | 14 => ⟨S2x2x8192x16x128, .i32⟩
  | 15 => ⟨S2x2x8192x16x128, .i1⟩
  | 16 => ⟨S_, .i1⟩
  | 17 => ⟨S2x2x8192x128, .i1⟩
  | 18 => ⟨S1x8192, .i32⟩
  | 19 => ⟨S8192x1, .i32⟩
  | 20 => ⟨S8192x8192, .i32⟩
  | 21 => ⟨S8192x8192, .i32⟩
  | 22 => ⟨S8192x8192, .i1⟩
  | 23 => ⟨S2x2x8192x128x1, .i1⟩
  | 24 => ⟨S2x2x8192x128x64, .i1⟩
  | 25 => ⟨S2x2x8192x8192, .i1⟩
  | 26 => ⟨S1x1x8192x8192, .i1⟩
  | 27 => ⟨S2x2x8192x8192, .i1⟩
  | 28 => ⟨S2x2x8192x8192, .i1⟩
  | 29 => ⟨S2x2x8192x4x8192, .f32⟩
  | 30 => ⟨S2x2x8192x1x8192, .i1⟩
  | 31 => ⟨S_, .f32⟩
  | 32 => ⟨S_, .f32⟩
  | 33 => ⟨S2x2x8192x4x8192, .i1⟩
  | 34 => ⟨S2x2x8192x4x8192, .f32⟩
  | 35 => ⟨S2x2x8192x4x8192, .f32⟩
  | 36 => ⟨S_, .f32⟩
  | 37 => ⟨S2x2x8192x4, .f32⟩
  | 38 => ⟨S_, .f32⟩
  | 39 => ⟨S2x2x8192x4, .f32⟩
  | 40 => ⟨S2x2x8192x4, .f32⟩
  | 41 => ⟨S2x2x8192x4x1, .f32⟩
  | 42 => ⟨S2x2x8192x4x8192, .f32⟩
  | 43 => ⟨S2x2x8192x4x8192, .f32⟩
  | 44 => ⟨S2x2x8192x4x8192, .f32⟩
  | 45 => ⟨S_, .f32⟩
  | 46 => ⟨S2x2x8192x4, .f32⟩
  | 47 => ⟨S2x2x8192x4x1, .f32⟩
  | 48 => ⟨S2x2x8192x4x8192, .f32⟩
  | 49 => ⟨S2x2x8192x4x8192, .f32⟩
  | 50 => ⟨S2x2x8192x4x64, .f32⟩
  | 51 => ⟨S1x8192, .i32⟩
  | 52 => ⟨S8192x1, .i32⟩
  | 53 => ⟨S_, .i32⟩
  | 54 => ⟨S8192x1, .i32⟩
  | 55 => ⟨S8192x1, .i32⟩
  | 56 => ⟨S8192x8192, .i32⟩
  | 57 => ⟨S8192x8192, .i32⟩
  | 58 => ⟨S8192x8192, .i1⟩
  | 59 => ⟨S8192x8192, .i1⟩
  | 60 => ⟨S1x1x8192x1x8192, .i1⟩
  | 61 => ⟨S2x2x8192x4x8192, .f32⟩
  | 62 => ⟨S_, .f32⟩
  | 63 => ⟨S_, .f32⟩
  | 64 => ⟨S2x2x8192x4x8192, .i1⟩
  | 65 => ⟨S2x2x8192x4x8192, .f32⟩
  | 66 => ⟨S2x2x8192x4x8192, .f32⟩
  | 67 => ⟨S_, .f32⟩
  | 68 => ⟨S2x2x8192x4, .f32⟩
  | 69 => ⟨S_, .f32⟩
  | 70 => ⟨S2x2x8192x4, .f32⟩
  | 71 => ⟨S2x2x8192x4, .f32⟩
  | 72 => ⟨S2x2x8192x4x1, .f32⟩
  | 73 => ⟨S2x2x8192x4x8192, .f32⟩
  | 74 => ⟨S2x2x8192x4x8192, .f32⟩
  | 75 => ⟨S2x2x8192x4x8192, .f32⟩
  | 76 => ⟨S_, .f32⟩
  | 77 => ⟨S2x2x8192x4, .f32⟩
  | 78 => ⟨S2x2x8192x4x1, .f32⟩
  | 79 => ⟨S2x2x8192x4x8192, .f32⟩
  | 80 => ⟨S2x2x8192x4x8192, .f32⟩
  | 81 => ⟨S2x2x8192x4x64, .f32⟩
  | 82 => ⟨S16384x24, .f32⟩
  | 83 => ⟨S2x8192x2x4x3, .f32⟩
  | 84 => ⟨S2x2x8192x4x3, .f32⟩
  | 85 => ⟨S2x2x8192x4x1, .f32⟩
  | 86 => ⟨S2x2x8192x4x64, .f32⟩
  | 87 => ⟨S2x2x8192x4x64, .f32⟩
  | 88 => ⟨S2x2x8192x4x1, .f32⟩
  | 89 => ⟨S2x2x8192x4x64, .f32⟩
  | 90 => ⟨S2x2x8192x4x64, .f32⟩
  | 91 => ⟨S2x2x8192x4x64, .f32⟩
  | 92 => ⟨S2x2x8192x4x1, .f32⟩
  | 93 => ⟨S2x2x8192x4x64, .f32⟩
  | 94 => ⟨S2x2x8192x4x64, .f32⟩
  | 95 => ⟨S2x2x8192x4x64, .f32⟩
  | 96 => ⟨S2x8192x2x4x64, .f32⟩
  | 97 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_0 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v36 : Ref sig .tc := ⟨.hbm, 48, rfl⟩
abbrev main_cst_1 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_3 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_4 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_5 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_6 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_7 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_8 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_9 : Ref sig .tc := ⟨.hbm, 94, rfl⟩
abbrev main_v71 : Ref sig .tc := ⟨.hbm, 95, rfl⟩
abbrev main_v72 : Ref sig .tc := ⟨.hbm, 96, rfl⟩
abbrev main_cst_10 : Ref sig .tc := ⟨.hbm, 97, rfl⟩
abbrev main_v73 : Ref sig .tc := ⟨.hbm, 98, rfl⟩
abbrev main_v74 : Ref sig .tc := ⟨.hbm, 99, rfl⟩
abbrev main_c_11 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_12 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_13 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_14 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_15 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v99 : Ref sig .tc := ⟨.hbm, 135, rfl⟩
abbrev main_values : Ref sig .tc := ⟨.hbm, 136, rfl⟩
abbrev main_indices : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_c_16 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_17 : Ref sig .tc := ⟨.hbm, 159, rfl⟩
abbrev main_call4_v0 : Ref sig .tc := ⟨.hbm, 160, rfl⟩
abbrev main_call4_v1 : Ref sig .tc := ⟨.hbm, 161, rfl⟩
abbrev main_call4_v2 : Ref sig .tc := ⟨.hbm, 162, rfl⟩
abbrev main_v120 : Ref sig .tc := ⟨.hbm, 163, rfl⟩
abbrev main_cst_18 : Ref sig .tc := ⟨.hbm, 164, rfl⟩
abbrev main_v121 : Ref sig .tc := ⟨.hbm, 165, rfl⟩
abbrev main_cst_19 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_20 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_c_21 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_22 : Ref sig .tc := ⟨.hbm, 190, rfl⟩
abbrev main_call5_v0 : Ref sig .tc := ⟨.hbm, 191, rfl⟩
abbrev main_call5_v1 : Ref sig .tc := ⟨.hbm, 192, rfl⟩
abbrev main_call5_v2 : Ref sig .tc := ⟨.hbm, 193, rfl⟩
abbrev main_v143 : Ref sig .tc := ⟨.hbm, 194, rfl⟩
abbrev main_cst_23 : Ref sig .tc := ⟨.hbm, 195, rfl⟩
abbrev main_v144 : Ref sig .tc := ⟨.hbm, 196, rfl⟩
abbrev main_cst_24 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_cst_25 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩

abbrev nD : Nat := 1
abbrev τ : Topo := Topo.v7x

variable {F : FTy → Type} [FloatOps F]
-- ==== Ffn.lean ====
abbrev S16384x1024 : Shape := ⟨2, ![16384, 1024]⟩
abbrev S2x1x1024 : Shape := ⟨3, ![2, 1, 1024]⟩
abbrev S1024x2816 : Shape := ⟨2, ![1024, 2816]⟩
abbrev S2816x1024 : Shape := ⟨2, ![2816, 1024]⟩
abbrev S512x1024 : Shape := ⟨2, ![512, 1024]⟩
abbrev S1x1x1024 : Shape := ⟨3, ![1, 1, 1024]⟩
abbrev S1024x1408 : Shape := ⟨2, ![1024, 1408]⟩
abbrev S512x1408 : Shape := ⟨2, ![512, 1408]⟩
abbrev S1408x1024 : Shape := ⟨2, ![1408, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2x1x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefFfnIdeal.lean ====
abbrev S16384x1024 : Shape := ⟨2, ![16384, 1024]⟩
abbrev S2x1x1024 : Shape := ⟨3, ![2, 1, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩
abbrev S2x8192x1024 : Shape := ⟨3, ![2, 8192, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2x1x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩

abbrev nD : Nat := 1
abbrev τ : Topo := Topo.v7x

variable {F : FTy → Type} [FloatOps F]
-- ==== Moe.lean ====
abbrev S264 : Shape := ⟨1, ![264]⟩
abbrev S1 : Shape := ⟨1, ![1]⟩
abbrev S270336x128 : Shape := ⟨2, ![270336, 128]⟩
abbrev S8x1024x2816 : Shape := ⟨3, ![8, 1024, 2816]⟩
abbrev S8x2816x1024 : Shape := ⟨3, ![8, 2816, 1024]⟩
abbrev S1024x128 : Shape := ⟨2, ![1024, 128]⟩
abbrev S1x1024x2816 : Shape := ⟨3, ![1, 1024, 2816]⟩
abbrev S1x2816x1024 : Shape := ⟨3, ![1, 2816, 1024]⟩
abbrev S128x128 : Shape := ⟨2, ![128, 128]⟩
abbrev S128x1024 : Shape := ⟨2, ![128, 1024]⟩
abbrev S1x1024x1408 : Shape := ⟨3, ![1, 1024, 1408]⟩
abbrev S1024x1408 : Shape := ⟨2, ![1024, 1408]⟩
abbrev S128x1408 : Shape := ⟨2, ![128, 1408]⟩
abbrev S1x1408x1024 : Shape := ⟨3, ![1, 1408, 1024]⟩
abbrev S1408x1024 : Shape := ⟨2, ![1408, 1024]⟩

abbrev nBuf : Space → Nat
  | .hbm => 5
  | .vmem => 10
  | .smem => 2
  | _ => 0

abbrev bufTy : (tb : Table) → Fin (tcTables nBuf tb) → BufTy
  | .hbm, ⟨0, _⟩ => ⟨S270336x128, .f32⟩
  | .hbm, ⟨1, _⟩ => ⟨S8x1024x2816, .bf16⟩
  | .hbm, ⟨2, _⟩ => ⟨S8x1024x2816, .bf16⟩
  | .hbm, ⟨3, _⟩ => ⟨S8x2816x1024, .bf16⟩
  | .hbm, ⟨4, _⟩ => ⟨S270336x128, .f32⟩
  | .local _ .vmem, ⟨0, _⟩ => ⟨S1024x128, .f32⟩
  | .local _ .vmem, ⟨1, _⟩ => ⟨S1024x128, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S1024x128, .f32⟩
  | .local _ .vmem, ⟨9, _⟩ => ⟨S1024x128, .f32⟩
  | .local _ .smem, ⟨0, _⟩ => ⟨S264, .i32⟩
  | .local _ .smem, ⟨1, _⟩ => ⟨S1, .i32⟩
  | _, _ => ⟨S270336x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![264], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefMoeIdeal.lean ====
abbrev S264 : Shape := ⟨1, ![264]⟩
abbrev S1 : Shape := ⟨1, ![1]⟩
abbrev S270336x128 : Shape := ⟨2, ![270336, 128]⟩
abbrev S8x1024x2816 : Shape := ⟨3, ![8, 1024, 2816]⟩
abbrev S8x2816x1024 : Shape := ⟨3, ![8, 2816, 1024]⟩
abbrev S_ : Shape := ⟨0, ![]⟩
abbrev S264x1 : Shape := ⟨2, ![264, 1]⟩
abbrev S264x1024x2816 : Shape := ⟨3, ![264, 1024, 2816]⟩
abbrev S264x2816x1024 : Shape := ⟨3, ![264, 2816, 1024]⟩
abbrev S264x128x1024 : Shape := ⟨3, ![264, 128, 1024]⟩
abbrev S264x128x2816 : Shape := ⟨3, ![264, 128, 2816]⟩
abbrev S264x1x1 : Shape := ⟨3, ![264, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S264, .i32⟩
  | .hbm, ⟨1, _⟩ => ⟨S1, .i32⟩
  | .hbm, ⟨2, _⟩ => ⟨S270336x128, .f32⟩
  | .hbm, ⟨3, _⟩ => ⟨S8x1024x2816, .bf16⟩
  | .hbm, ⟨4, _⟩ => ⟨S8x1024x2816, .bf16⟩
  | .hbm, ⟨5, _⟩ => ⟨S8x2816x1024, .bf16⟩
  | .hbm, ⟨6, _⟩ => ⟨S8x1024x2816, .f32⟩
  | .hbm, ⟨7, _⟩ => ⟨S_, .i32⟩
  | .hbm, ⟨8, _⟩ => ⟨S264, .i32⟩
  | .hbm, ⟨9, _⟩ => ⟨S264, .i1⟩
  | .hbm, ⟨10, _⟩ => ⟨S_, .i32⟩
  | .hbm, ⟨11, _⟩ => ⟨S264, .i32⟩
  | .hbm, ⟨12, _⟩ => ⟨S264, .i32⟩
  | .hbm, ⟨13, _⟩ => ⟨S264, .i32⟩
  | .hbm, ⟨14, _⟩ => ⟨S264x1, .i32⟩
  | .hbm, ⟨15, _⟩ => ⟨S264x1024x2816, .f32⟩
  | .hbm, ⟨16, _⟩ => ⟨S8x1024x2816, .f32⟩
  | .hbm, ⟨17, _⟩ => ⟨S_, .i32⟩
  | .hbm, ⟨18, _⟩ => ⟨S264, .i32⟩
  | .hbm, ⟨19, _⟩ => ⟨S264, .i1⟩
  | .hbm, ⟨20, _⟩ => ⟨S_, .i32⟩
  | .hbm, ⟨21, _⟩ => ⟨S264, .i32⟩
  | .hbm, ⟨22, _⟩ => ⟨S264, .i32⟩
  | .hbm, ⟨23, _⟩ => ⟨S264, .i32⟩
  | .hbm, ⟨24, _⟩ => ⟨S264x1, .i32⟩
  | .hbm, ⟨25, _⟩ => ⟨S264x1024x2816, .f32⟩
  | .hbm, ⟨26, _⟩ => ⟨S8x2816x1024, .f32⟩
  | .hbm, ⟨27, _⟩ => ⟨S_, .i32⟩
  | .hbm, ⟨28, _⟩ => ⟨S264, .i32⟩
  | .hbm, ⟨29, _⟩ => ⟨S264, .i1⟩
  | .hbm, ⟨30, _⟩ => ⟨S_, .i32⟩
  | .hbm, ⟨31, _⟩ => ⟨S264, .i32⟩
  | .hbm, ⟨32, _⟩ => ⟨S264, .i32⟩
  | .hbm, ⟨33, _⟩ => ⟨S264, .i32⟩
  | .hbm, ⟨34, _⟩ => ⟨S264x1, .i32⟩
  | .hbm, ⟨35, _⟩ => ⟨S264x2816x1024, .f32⟩
  | .hbm, ⟨36, _⟩ => ⟨S264x128x1024, .f32⟩
  | .hbm, ⟨37, _⟩ => ⟨S264x128x2816, .f32⟩
  | .hbm, ⟨38, _⟩ => ⟨S264x128x2816, .f32⟩
  | .hbm, ⟨39, _⟩ => ⟨S264x128x2816, .f32⟩
  | .hbm, ⟨40, _⟩ => ⟨S_, .f32⟩
  | .hbm, ⟨41, _⟩ => ⟨S264x128x2816, .f32⟩
  | .hbm, ⟨42, _⟩ => ⟨S264x128x2816, .f32⟩
  | .hbm, ⟨43, _⟩ => ⟨S_, .f32⟩
  | .hbm, ⟨44, _⟩ => ⟨S264x128x2816, .f32⟩
  | .hbm, ⟨45, _⟩ => ⟨S264x128x2816, .f32⟩
  | .hbm, ⟨46, _⟩ => ⟨S264x128x2816, .f32⟩
  | .hbm, ⟨47, _⟩ => ⟨S264x128x2816, .f32⟩
  | .hbm, ⟨48, _⟩ => ⟨S264x128x2816, .f32⟩
  | .hbm, ⟨49, _⟩ => ⟨S264x128x1024, .f32⟩
  | .hbm, ⟨50, _⟩ => ⟨S264, .i32⟩
  | .hbm, ⟨51, _⟩ => ⟨S_, .i32⟩
  | .hbm, ⟨52, _⟩ => ⟨S264, .i32⟩
  | .hbm, ⟨53, _⟩ => ⟨S264, .i1⟩
  | .hbm, ⟨54, _⟩ => ⟨S264x1x1, .i1⟩
  | .hbm, ⟨55, _⟩ => ⟨S_, .f32⟩
  | .hbm, ⟨56, _⟩ => ⟨S_, .f32⟩
  | .hbm, ⟨57, _⟩ => ⟨S264x128x1024, .i1⟩
  | .hbm, ⟨58, _⟩ => ⟨S264x128x1024, .f32⟩
  | .hbm, ⟨59, _⟩ => ⟨S264x128x1024, .f32⟩
  | .hbm, ⟨60, _⟩ => ⟨S270336x128, .f32⟩
  | _, _ => ⟨S264, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]
-- ==== Combine.lean ====
abbrev S262144x128 : Shape := ⟨2, ![262144, 128]⟩
abbrev S16384x128 : Shape := ⟨2, ![16384, 128]⟩
abbrev S16384x1024 : Shape := ⟨2, ![16384, 1024]⟩
abbrev S2x1x1024 : Shape := ⟨3, ![2, 1, 1024]⟩
abbrev S4096x128 : Shape := ⟨2, ![4096, 128]⟩
abbrev S512x128 : Shape := ⟨2, ![512, 128]⟩
abbrev S512x1024 : Shape := ⟨2, ![512, 1024]⟩
abbrev S1x1x1024 : Shape := ⟨3, ![1, 1, 1024]⟩
abbrev S512x1 : Shape := ⟨2, ![512, 1]⟩
abbrev S1x1024 : Shape := ⟨2, ![1, 1024]⟩

abbrev nBuf : Space → Nat
  | .hbm => 5
  | .vmem => 12
  | .smem => 0
  | _ => 0

abbrev bufTy : (tb : Table) → Fin (tcTables nBuf tb) → BufTy
  | .hbm, ⟨0, _⟩ => ⟨S262144x128, .f32⟩
  | .hbm, ⟨1, _⟩ => ⟨S16384x128, .f32⟩
  | .hbm, ⟨2, _⟩ => ⟨S16384x1024, .f32⟩
  | .hbm, ⟨3, _⟩ => ⟨S2x1x1024, .f32⟩
  | .hbm, ⟨4, _⟩ => ⟨S16384x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S512x128, .f32⟩
  | .local _ .vmem, ⟨5, _⟩ => ⟨S512x128, .f32⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefCombineIdeal.lean ====
abbrev S262144x128 : Shape := ⟨2, ![262144, 128]⟩
abbrev S16384x128 : Shape := ⟨2, ![16384, 128]⟩
abbrev S16384x1024 : Shape := ⟨2, ![16384, 1024]⟩
abbrev S2x1x1024 : Shape := ⟨3, ![2, 1, 1024]⟩
abbrev S2x16384x1024 : Shape := ⟨3, ![2, 16384, 1024]⟩
abbrev S16384x2 : Shape := ⟨2, ![16384, 2]⟩
abbrev S2x8192x1024 : Shape := ⟨3, ![2, 8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S16384x128, .f32⟩
  | .hbm, ⟨2, _⟩ => ⟨S16384x1024, .f32⟩
  | .hbm, ⟨3, _⟩ => ⟨S2x1x1024, .f32⟩
  | .hbm, ⟨4, _⟩ => ⟨S2x16384x1024, .f32⟩
  | .hbm, ⟨5, _⟩ => ⟨S16384x2, .f32⟩
  | .hbm, ⟨6, _⟩ => ⟨S16384x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S16384x1024, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Post.lean ====
abbrev S16384x512 : Shape := ⟨2, ![16384, 512]⟩
abbrev S16384x1024 : Shape := ⟨2, ![16384, 1024]⟩
abbrev S2x1x1024 : Shape := ⟨3, ![2, 1, 1024]⟩
abbrev S1x1024 : Shape := ⟨2, ![1, 1024]⟩
abbrev S1024x1024 : Shape := ⟨2, ![1024, 1024]⟩
abbrev S512x512 : Shape := ⟨2, ![512, 512]⟩
abbrev S_ : Shape := ⟨0, ![]⟩
abbrev S512x1024 : Shape := ⟨2, ![512, 1024]⟩
abbrev S1x1x1024 : Shape := ⟨3, ![1, 1, 1024]⟩
abbrev S1x512 : Shape := ⟨2, ![1, 512]⟩
abbrev S512 : Shape := ⟨1, ![512]⟩
abbrev S512x1 : Shape := ⟨2, ![512, 1]⟩

abbrev nBuf : Space → Nat
  | .hbm => 26
  | .vmem => 20
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S2x1x1024, .f32⟩
  | .hbm, ⟨4, _⟩ => ⟨S1x1024, .f32⟩
  | .hbm, ⟨5, _⟩ => ⟨S1024x1024, .bf16⟩
  | .hbm, ⟨6, _⟩ => ⟨S1x1024, .f32⟩
  | .hbm, ⟨7, _⟩ => ⟨S2x1x1024, .f32⟩
  | .hbm, ⟨8, _⟩ => ⟨S2x1x1024, .f32⟩
  | .hbm, ⟨9, _⟩ => ⟨S512x512, .i32⟩
  | .hbm, ⟨10, _⟩ => ⟨S_, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S_, .i32⟩
  | .hbm, ⟨15, _⟩ => ⟨S512x512, .i32⟩
  | .hbm, ⟨16, _⟩ => ⟨S512x512, .i32⟩
  | .hbm, ⟨17, _⟩ => ⟨S512x512, .i1⟩
  | .hbm, ⟨18, _⟩ => ⟨S_, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S512x512, .bf16⟩
  | .hbm, ⟨24, _⟩ => ⟨S16384x1024, .f32⟩
  | .hbm, ⟨25, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x1024, .bf16⟩
  | .local _ .vmem, ⟨10, _⟩ => ⟨S512x512, .bf16⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RefPostIdeal.lean ====
abbrev S16384x512 : Shape := ⟨2, ![16384, 512]⟩
abbrev S16384x1024 : Shape := ⟨2, ![16384, 1024]⟩
abbrev S2x1x1024 : Shape := ⟨3, ![2, 1, 1024]⟩
abbrev S1x1024 : Shape := ⟨2, ![1, 1024]⟩
abbrev S1024x1024 : Shape := ⟨2, ![1024, 1024]⟩
abbrev S16384x8x64 : Shape := ⟨3, ![16384, 8, 64]⟩
abbrev S16384x16x64 : Shape := ⟨3, ![16384, 16, 64]⟩
abbrev S16x64 : Shape := ⟨2, ![16, 64]⟩
abbrev S_ : Shape := ⟨0, ![]⟩
abbrev S16384x16 : Shape := ⟨2, ![16384, 16]⟩
abbrev S16384x16x1 : Shape := ⟨3, ![16384, 16, 1]⟩
abbrev S1x16x64 : Shape := ⟨3, ![1, 16, 64]⟩
abbrev S2x8192x1024 : Shape := ⟨3, ![2, 8192, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S2x1x1024, .f32⟩
  | .hbm, ⟨4, _⟩ => ⟨S1x1024, .f32⟩
  | .hbm, ⟨5, _⟩ => ⟨S1024x1024, .bf16⟩
  | .hbm, ⟨6, _⟩ => ⟨S1x1024, .f32⟩
  | .hbm, ⟨7, _⟩ => ⟨S2x1x1024, .f32⟩
  | .hbm, ⟨8, _⟩ => ⟨S2x1x1024, .f32⟩
  | .hbm, ⟨9, _⟩ => ⟨S16384x8x64, .f32⟩
  | .hbm, ⟨10, _⟩ => ⟨S16384x8x64, .f32⟩
  | .hbm, ⟨11, _⟩ => ⟨S16384x16x64, .f32⟩
  | .hbm, ⟨12, _⟩ => ⟨S16x64, .f32⟩
  | .hbm, ⟨13, _⟩ => ⟨S16384x16x64, .f32⟩
  | .hbm, ⟨14, _⟩ => ⟨S_, .f32⟩
  | .hbm, ⟨15, _⟩ => ⟨S16384x16, .f32⟩
  | .hbm, ⟨16, _⟩ => ⟨S16384x16x1, .f32⟩
  | .hbm, ⟨17, _⟩ => ⟨S_, .f32⟩
  | .hbm, ⟨18, _⟩ => ⟨S16384x16x1, .f32⟩
  | .hbm, ⟨19, _⟩ => ⟨S16384x16x1, .f32⟩
  | .hbm, ⟨20, _⟩ => ⟨S_, .f32⟩
  | .hbm, ⟨21, _⟩ => ⟨S16384x16x1, .f32⟩
  | .hbm, ⟨22, _⟩ => ⟨S16384x16x1, .f32⟩
  | .hbm, ⟨23, _⟩ => ⟨S16384x16x1, .f32⟩
  | .hbm, ⟨24, _⟩ => ⟨S16384x16x64, .f32⟩
  | .hbm, ⟨25, _⟩ => ⟨S16384x16x64, .f32⟩
  | .hbm, ⟨26, _⟩ => ⟨S1x16x64, .f32⟩
  | .hbm, ⟨27, _⟩ => ⟨S16384x16x64, .f32⟩
  | .hbm, ⟨28, _⟩ => ⟨S16384x16x64, .f32⟩
  | .hbm, ⟨29, _⟩ => ⟨S16384x1024, .f32⟩
  | .hbm, ⟨30, _⟩ => ⟨S1024x1024, .f32⟩
  | .hbm, ⟨31, _⟩ => ⟨S16384x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S1024, .f32⟩
  | .hbm, ⟨38, _⟩ => ⟨S2x8192x1024, .f32⟩
  | .hbm, ⟨39, _⟩ => ⟨S_, .f32⟩
  | .hbm, ⟨40, _⟩ => ⟨S2x8192, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S2x8192x1, .f32⟩
  | .hbm, ⟨49, _⟩ => ⟨S2x8192x1024, .f32⟩
  | .hbm, ⟨50, _⟩ => ⟨S2x8192x1024, .f32⟩
  | .hbm, ⟨51, _⟩ => ⟨S1x1x1024, .f32⟩
  | .hbm, ⟨52, _⟩ => ⟨S2x8192x1024, .f32⟩
  | .hbm, ⟨53, _⟩ => ⟨S2x8192x1024, .f32⟩
  | .hbm, ⟨54, _⟩ => ⟨S_, .f32⟩
  | .hbm, ⟨55, _⟩ => ⟨S2x1x1024, .f32⟩
  | .hbm, ⟨56, _⟩ => ⟨S2x1x1024, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S16384x1024, .f32⟩
  | .hbm, ⟨62, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Pre.lean ====
abbrev S128x1024 : Shape := ⟨2, ![128, 1024]⟩
abbrev S1x1024 : Shape := ⟨2, ![1, 1024]⟩
abbrev S1024x2432 : Shape := ⟨2, ![1024, 2432]⟩
abbrev S1x32 : Shape := ⟨2, ![1, 32]⟩
abbrev S1x512 : Shape := ⟨2, ![1, 512]⟩
abbrev S3x128 : Shape := ⟨2, ![3, 128]⟩
abbrev S1x128 : Shape := ⟨2, ![1, 128]⟩
abbrev S512x512 : Shape := ⟨2, ![512, 512]⟩
abbrev S_ : Shape := ⟨0, ![]⟩
abbrev S128x512 : Shape := ⟨2, ![128, 512]⟩
abbrev S128x256 : Shape := ⟨2, ![128, 256]⟩
abbrev S128x128 : Shape := ⟨2, ![128, 128]⟩
abbrev S128 : Shape := ⟨1, ![128]⟩
abbrev S128x1 : Shape := ⟨2, ![128, 1]⟩
abbrev S128x2432 : Shape := ⟨2, ![128, 2432]⟩

abbrev nBuf : Space → Nat
  | .hbm => 37
  | .vmem => 19
  | .smem => 0
  | _ => 0

abbrev bufTy : (tb : Table) → Fin (tcTables nBuf tb) → BufTy
  | .hbm, ⟨0, _⟩ => ⟨S128x1024, .f32⟩
  | .hbm, ⟨1, _⟩ => ⟨S1x1024, .f32⟩
  | .hbm, ⟨2, _⟩ => ⟨S128x1024, .f32⟩
  | .hbm, ⟨3, _⟩ => ⟨S128x1024, .f32⟩
  | .hbm, ⟨4, _⟩ => ⟨S1024x2432, .bf16⟩
  | .hbm, ⟨5, _⟩ => ⟨S1x32, .f32⟩
  | .hbm, ⟨6, _⟩ => ⟨S1x32, .f32⟩
  | .hbm, ⟨7, _⟩ => ⟨S1x512, .f32⟩
  | .hbm, ⟨8, _⟩ => ⟨S3x128, .f32⟩
  | .hbm, ⟨9, _⟩ => ⟨S1x512, .f32⟩
  | .hbm, ⟨10, _⟩ => ⟨S1x512, .f32⟩
  | .hbm, ⟨11, _⟩ => ⟨S1x128, .f32⟩
  | .hbm, ⟨12, _⟩ => ⟨S1x32, .f32⟩
  | .hbm, ⟨13, _⟩ => ⟨S1x32, .f32⟩
  | .hbm, ⟨14, _⟩ => ⟨S1x128, .f32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S512x512, .i32⟩
  | .hbm, ⟨20, _⟩ => ⟨S_, .i32⟩
  | .hbm, ⟨21, _⟩ => ⟨S512x512, .i32⟩
  | .hbm, ⟨22, _⟩ => ⟨S512x512, .i32⟩
  | .hbm, ⟨23, _⟩ => ⟨S512x512, .i1⟩
  | .hbm, ⟨24, _⟩ => ⟨S_, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S512x512, .bf16⟩
  | .hbm, ⟨30, _⟩ => ⟨S128x512, .f32⟩
  | .hbm, ⟨31, _⟩ => ⟨S128x512, .f32⟩
  | .hbm, ⟨32, _⟩ => ⟨S128x256, .f32⟩
  | .hbm, ⟨33, _⟩ => ⟨S128x256, .f32⟩
  | .hbm, ⟨34, _⟩ => ⟨S128x256, .f32⟩
  | .hbm, ⟨35, _⟩ => ⟨S128x128, .f32⟩
  | .hbm, ⟨36, _⟩ => ⟨S128x512, .f32⟩
  | .local _ .vmem, ⟨0, _⟩ => ⟨S128x1024, .f32⟩
  | .local _ .vmem, ⟨1, _⟩ => ⟨S1x1024, .f32⟩
  | .local _ .vmem, ⟨2, _⟩ => ⟨S128x1024, .f32⟩
  | .local _ .vmem, ⟨3, _⟩ => ⟨S128x1024, .f32⟩
  | .local _ .vmem, ⟨4, _⟩ => ⟨S1024x2432, .bf16⟩
  | .local _ .vmem, ⟨5, _⟩ => ⟨S1x128, .f32⟩
  | .local _ .vmem, ⟨6, _⟩ => ⟨S1x128, .f32⟩
  | .local _ .vmem, ⟨7, _⟩ => ⟨S512x512, .bf16⟩
  | .local _ .vmem, ⟨8, _⟩ => ⟨S1x512, .f32⟩
  | .local _ .vmem, ⟨9, _⟩ => ⟨S3x128, .f32⟩
  | .local _ .vmem, ⟨10, _⟩ => ⟨S1x512, .f32⟩
  | .local _ .vmem, ⟨11, _⟩ => ⟨S1x512, .f32⟩
  | .local _ .vmem, ⟨12, _⟩ => ⟨S128x512, .f32⟩
  | .local _ .vmem, ⟨13, _⟩ => ⟨S128x512, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x128, .f32⟩
  | .local _ .vmem, ⟨18, _⟩ => ⟨S128x512, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev main_v13_2 : Ref sig .tc := ⟨.hbm, 32, rfl⟩
abbrev main_v13_3 : Ref sig .tc := ⟨.hbm, 33, rfl⟩
abbrev main_v13_4 : Ref sig .tc := ⟨.hbm, 34, rfl⟩
abbrev main_v13_5 : Ref sig .tc := ⟨.hbm, 35, rfl⟩
abbrev main_v13_6 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x2432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== RefPreIdeal.lean ====
abbrev S128x1024 : Shape := ⟨2, ![128, 1024]⟩
abbrev S1x1024 : Shape := ⟨2, ![1, 1024]⟩
abbrev S1024x2432 : Shape := ⟨2, ![1024, 2432]⟩
abbrev S1x32 : Shape := ⟨2, ![1, 32]⟩
abbrev S1x512 : Shape := ⟨2, ![1, 512]⟩
abbrev S3x128 : Shape := ⟨2, ![3, 128]⟩
abbrev S1024 : Shape := ⟨1, ![1024]⟩
abbrev S_ : Shape := ⟨0, ![]⟩
abbrev S128 : Shape := ⟨1, ![128]⟩
abbrev S128x1 : Shape := ⟨2, ![128, 1]⟩
abbrev S128x2432 : Shape := ⟨2, ![128, 2432]⟩
abbrev S128x512 : Shape := ⟨2, ![128, 512]⟩
abbrev S128x8x64 : Shape := ⟨3, ![128, 8, 64]⟩
abbrev S128x8 : Shape := ⟨2, ![128, 8]⟩
abbrev S128x8x1 : Shape := ⟨3, ![128, 8, 1]⟩
abbrev S128x256 : Shape := ⟨2, ![128, 256]⟩
abbrev S128x2x2x64 : Shape := ⟨4, ![128, 2, 2, 64]⟩
abbrev S128x1x2x64 : Shape := ⟨4, ![128, 1, 2, 64]⟩
abbrev S128x2x64 : Shape := ⟨3, ![128, 2, 64]⟩
abbrev S1x128 : Shape := ⟨2, ![1, 128]⟩
abbrev S2x64 : Shape := ⟨2, ![2, 64]⟩
abbrev S128x2 : Shape := ⟨2, ![128, 2]⟩
abbrev S128x2x1 : Shape := ⟨3, ![128, 2, 1]⟩
abbrev S1x2x64 : Shape := ⟨3, ![1, 2, 64]⟩
abbrev S128x2x32 : Shape := ⟨3, ![128, 2, 32]⟩
abbrev S1x1x32 : Shape := ⟨3, ![1, 1, 32]⟩

abbrev nBuf : Space → Nat
  | .hbm => 168
  | .vmem => 0
  | .smem => 0
  | _ => 0

abbrev hbmTy0_0 (i : Nat) : BufTy := match i % 128 with
  | 0 => ⟨S128x1024, .f32⟩
  | 1 => ⟨S1x1024, .f32⟩
  | 2 => ⟨S128x1024, .f32⟩
  | 3 => ⟨S128x1024, .f32⟩
  | 4 => ⟨S1024x2432, .bf16⟩
  | 5 => ⟨S1x32, .f32⟩
  | 6 => ⟨S1x32, .f32⟩
  | 7 => ⟨S1x512, .f32⟩
  | 8 => ⟨S3x128, .f32⟩
  | 9 => ⟨S1x512, .f32⟩
  | 10 => ⟨S1x512, .f32⟩
  | 11 => ⟨S1024, .f32⟩
  | 12 => ⟨S128x1024, .f32⟩
  | 13 => ⟨S_, .f32⟩
  | 14 => ⟨S128, .f32⟩
  | 15 => ⟨S128x1, .f32⟩
  | 16 => ⟨S_, .f32⟩
  | 17 => ⟨S128x1, .f32⟩
  | 18 => ⟨S128x1, .f32⟩
  | 19 => ⟨S_, .f32⟩
  | 20 => ⟨S128x1, .f32⟩
  | 21 => ⟨S128x1, .f32⟩
  | 22 => ⟨S128x1, .f32⟩
  | 23 => ⟨S128x1024, .f32⟩
  | 24 => ⟨S128x1024, .f32⟩
  | 25 => ⟨S1x1024, .f32⟩
  | 26 => ⟨S128x1024, .f32⟩
  | 27 => ⟨S128x1024, .f32⟩
  | 28 => ⟨S_, .f32⟩
  | 29 => ⟨S128x1024, .f32⟩
  | 30 => ⟨S128x1024, .f32⟩
  | 31 => ⟨S128x1024, .f32⟩
  | 32 => ⟨S128x1024, .f32⟩
  | 33 => ⟨S1024x2432, .f32⟩
  | 34 => ⟨S128x2432, .f32⟩
  | 35 => ⟨S128x512, .f32⟩
  | 36 => ⟨S128x512, .f32⟩
  | 37 => ⟨S128x512, .f32⟩
  | 38 => ⟨S_, .f32⟩
  | 39 => ⟨S128x512, .f32⟩
  | 40 => ⟨S128x512, .f32⟩
  | 41 => ⟨S128x512, .f32⟩
  | 42 => ⟨S_, .f32⟩
  | 43 => ⟨S128x512, .f32⟩
  | 44 => ⟨S128x512, .f32⟩
  | 45 => ⟨S128x512, .f32⟩
  | 46 => ⟨S_, .f32⟩
  | 47 => ⟨S128x512, .f32⟩
  | 48 => ⟨S128x512, .f32⟩
  | 49 => ⟨S_, .f32⟩
  | 50 => ⟨S128x512, .f32⟩
  | 51 => ⟨S128x512, .f32⟩
  | 52 => ⟨S128x512, .f32⟩
  | 53 => ⟨S128x8x64, .f32⟩
  | 54 => ⟨S_, .f32⟩
  | 55 => ⟨S128x8, .f32⟩
  | 56 => ⟨S128x8x1, .f32⟩
  | 57 => ⟨S_, .f32⟩
  | 58 => ⟨S128x8x1, .f32⟩
  | 59 => ⟨S128x8x1, .f32⟩
  | 60 => ⟨S128x8x64, .f32⟩
  | 61 => ⟨S128x8x64, .f32⟩
  | 62 => ⟨S128x8x64, .f32⟩
  | 63 => ⟨S_, .f32⟩
  | 64 => ⟨S128x8, .f32⟩
  | 65 => ⟨S128x8x1, .f32⟩
  | 66 => ⟨S_, .f32⟩
  | 67 => ⟨S128x8x1, .f32⟩
  | 68 => ⟨S128x8x1, .f32⟩
  | 69 => ⟨S_, .f32⟩
  | 70 => ⟨S128x8x1, .f32⟩
  | 71 => ⟨S128x8x1, .f32⟩
  | 72 => ⟨S128x8x1, .f32⟩
  | 73 => ⟨S128x8x64, .f32⟩
  | 74 => ⟨S128x8x64, .f32⟩
  | 75 => ⟨S128x512, .f32⟩
  | 76 => ⟨S128x256, .f32⟩
  | 77 => ⟨S128x2x2x64, .f32⟩
  | 78 => ⟨S128x1x2x64, .f32⟩
  | 79 => ⟨S128x2x64, .f32⟩
  | 80 => ⟨S1x128, .f32⟩
  | 81 => ⟨S128, .f32⟩
  | 82 => ⟨S2x64, .f32⟩
  | 83 => ⟨S128x2x64, .f32⟩
  | 84 => ⟨S_, .f32⟩
  | 85 => ⟨S128x2, .f32⟩
  | 86 => ⟨S128x2x1, .f32⟩
  | 87 => ⟨S_, .f32⟩
  | 88 => ⟨S128x2x1, .f32⟩
  | 89 => ⟨S128x2x1, .f32⟩
  | 90 => ⟨S_, .f32⟩
  | 91 => ⟨S128x2x1, .f32⟩
  | 92 => ⟨S128x2x1, .f32⟩
  | 93 => ⟨S128x2x1, .f32⟩
  | 94 => ⟨S128x2x64, .f32⟩
  | 95 => ⟨S128x2x64, .f32⟩
  | 96 => ⟨S1x2x64, .f32⟩
  | 97 => ⟨S128x2x64, .f32⟩
  | 98 => ⟨S128x2x64, .f32⟩
  | 99 => ⟨S128x2x32, .f32⟩
  | 100 => ⟨S128x2x32, .f32⟩
  | 101 => ⟨S1x1x32, .f32⟩
  | 102 => ⟨S128x2x32, .f32⟩
  | 103 => ⟨S128x2x32, .f32⟩
  | 104 => ⟨S1x1x32, .f32⟩
  | 105 => ⟨S128x2x32, .f32⟩
  | 106 => ⟨S128x2x32, .f32⟩
  | 107 => ⟨S128x2x32, .f32⟩
  | 108 => ⟨S1x1x32, .f32⟩
  | 109 => ⟨S128x2x32, .f32⟩
  | 110 => ⟨S128x2x32, .f32⟩
  | 111 => ⟨S1x1x32, .f32⟩
  | 112 => ⟨S128x2x32, .f32⟩
  | 113 => ⟨S128x2x32, .f32⟩
  | 114 => ⟨S128x2x32, .f32⟩
  | 115 => ⟨S128x2x64, .f32⟩
  | 116 => ⟨S128x1x2x64, .f32⟩
  | 117 => ⟨S128x2x64, .f32⟩
  | 118 => ⟨S128x1x2x64, .f32⟩
  | 119 => ⟨S128x1x2x64, .f32⟩
  | 120 => ⟨S128x2x2x64, .f32⟩
  | 121 => ⟨S128x256, .f32⟩
  | 122 => ⟨S128x256, .f32⟩
  | 123 => ⟨S128x2x2x64, .f32⟩
  | 124 => ⟨S128x1x2x64, .f32⟩
  | 125 => ⟨S128x2x64, .f32⟩
  | 126 => ⟨S1x128, .f32⟩
  | 127 => ⟨S128, .f32⟩
  | _ => ⟨S128x1024, .f32⟩

abbrev hbmTy0_1 (i : Nat) : BufTy := match i % 128 with
  | 0 => ⟨S2x64, .f32⟩
  | 1 => ⟨S128x2x64, .f32⟩
  | 2 => ⟨S_, .f32⟩
  | 3 => ⟨S128x2, .f32⟩
  | 4 => ⟨S128x2x1, .f32⟩
  | 5 => ⟨S_, .f32⟩
  | 6 => ⟨S128x2x1, .f32⟩
  | 7 => ⟨S128x2x1, .f32⟩
  | 8 => ⟨S_, .f32⟩
  | 9 => ⟨S128x2x1, .f32⟩
  | 10 => ⟨S128x2x1, .f32⟩
  | 11 => ⟨S128x2x1, .f32⟩
  | 12 => ⟨S128x2x64, .f32⟩
  | 13 => ⟨S128x2x64, .f32⟩
  | 14 => ⟨S1x2x64, .f32⟩
  | 15 => ⟨S128x2x64, .f32⟩
  | 16 => ⟨S128x2x64, .f32⟩
  | 17 => ⟨S128x2x32, .f32⟩
  | 18 => ⟨S128x2x32, .f32⟩
  | 19 => ⟨S1x1x32, .f32⟩
  | 20 => ⟨S128x2x32, .f32⟩
  | 21 => ⟨S128x2x32, .f32⟩
  | 22 => ⟨S1x1x32, .f32⟩
  | 23 => ⟨S128x2x32, .f32⟩
  | 24 => ⟨S128x2x32, .f32⟩
  | 25 => ⟨S128x2x32, .f32⟩
  | 26 => ⟨S1x1x32, .f32⟩
  | 27 => ⟨S128x2x32, .f32⟩
  | 28 => ⟨S128x2x32, .f32⟩
  | 29 => ⟨S1x1x32, .f32⟩
  | 30 => ⟨S128x2x32, .f32⟩
  | 31 => ⟨S128x2x32, .f32⟩
  | 32 => ⟨S128x2x32, .f32⟩
  | 33 => ⟨S128x2x64, .f32⟩
  | 34 => ⟨S128x1x2x64, .f32⟩
  | 35 => ⟨S128x2x64, .f32⟩
  | 36 => ⟨S128x1x2x64, .f32⟩
  | 37 => ⟨S128x1x2x64, .f32⟩
  | 38 => ⟨S128x2x2x64, .f32⟩
  | 39 => ⟨S128x256, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_15 : Ref sig .tc := ⟨.hbm, 130, rfl⟩
abbrev main_v103 : Ref sig .tc := ⟨.hbm, 131, rfl⟩
abbrev main_v104 : Ref sig .tc := ⟨.hbm, 132, rfl⟩
abbrev main_cst_16 : Ref sig .tc := ⟨.hbm, 133, rfl⟩
abbrev main_v105 : Ref sig .tc := ⟨.hbm, 134, rfl⟩
abbrev main_v106 : Ref sig .tc := ⟨.hbm, 135, rfl⟩
abbrev main_cst_17 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩

abbrev nD : Nat := 1
abbrev τ : Topo := Topo.v7x

variable {F : FTy → Type} [FloatOps F]
-- ==== Prompt.lean ====
abbrev S16384x1024 : Shape := ⟨2, ![16384, 1024]⟩
abbrev S1x1024 : Shape := ⟨2, ![1, 1024]⟩
abbrev S2x1x1024 : Shape := ⟨3, ![2, 1, 1024]⟩
abbrev S1024x2432 : Shape := ⟨2, ![1024, 2432]⟩
abbrev S8192x32 : Shape := ⟨2, ![8192, 32]⟩
abbrev S1x512 : Shape := ⟨2, ![1, 512]⟩
abbrev S3x128 : Shape := ⟨2, ![3, 128]⟩
abbrev S8x128x128 : Shape := ⟨3, ![8, 128, 128]⟩
abbrev S128x512 : Shape := ⟨2, ![128, 512]⟩
abbrev S8192x128 : Shape := ⟨2, ![8192, 128]⟩
abbrev S_ : Shape := ⟨0, ![]⟩
abbrev S1x2x256x8192 : Shape := ⟨4, ![1, 2, 256, 8192]⟩
abbrev S512x512 : Shape := ⟨2, ![512, 512]⟩
abbrev S16384x512 : Shape := ⟨2, ![16384, 512]⟩
abbrev S16384x256 : Shape := ⟨2, ![16384, 256]⟩
abbrev S16384x128 : Shape := ⟨2, ![16384, 128]⟩
abbrev S256x1024 : Shape := ⟨2, ![256, 1024]⟩
abbrev S1x1x1024 : Shape := ⟨3, ![1, 1, 1024]⟩
abbrev S256x128 : Shape := ⟨2, ![256, 128]⟩
abbrev S256x512 : Shape := ⟨2, ![256, 512]⟩
abbrev S256x256 : Shape := ⟨2, ![256, 256]⟩
abbrev S1x1x256x256 : Shape := ⟨4, ![1, 1, 256, 256]⟩
abbrev S256 : Shape := ⟨1, ![256]⟩
abbrev S256x1 : Shape := ⟨2, ![256, 1]⟩
abbrev S256x2432 : Shape := ⟨2, ![256, 2432]⟩
abbrev S1x128 : Shape := ⟨2, ![1, 128]⟩
abbrev S128x128 : Shape := ⟨2, ![128, 128]⟩
abbrev S128x256 : Shape := ⟨2, ![128, 256]⟩
abbrev S1x1x128x256 : Shape := ⟨4, ![1, 1, 128, 256]⟩
abbrev S1x128x128 : Shape := ⟨3, ![1, 128, 128]⟩

abbrev nBuf : Space → Nat
  | .hbm => 45
  | .vmem => 35
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x2432, .bf16⟩
  | .hbm, ⟨5, _⟩ => ⟨S8192x32, .f32⟩
  | .hbm, ⟨6, _⟩ => ⟨S8192x32, .f32⟩
  | .hbm, ⟨7, _⟩ => ⟨S1x512, .f32⟩
  | .hbm, ⟨8, _⟩ => ⟨S3x128, .f32⟩
  | .hbm, ⟨9, _⟩ => ⟨S8x128x128, .bf16⟩
  | .hbm, ⟨10, _⟩ => ⟨S128x512, .f32⟩
  | .hbm, ⟨11, _⟩ => ⟨S8192x128, .f32⟩
  | .hbm, ⟨12, _⟩ => ⟨S8192x32, .f32⟩
  | .hbm, ⟨13, _⟩ => ⟨S8192x32, .f32⟩
  | .hbm, ⟨14, _⟩ => ⟨S8192x128, .f32⟩
  | .hbm, ⟨15, _⟩ => ⟨S_, .f32⟩
  | .hbm, ⟨16, _⟩ => ⟨S1x2x256x8192, .f32⟩
  | .hbm, ⟨17, _⟩ => ⟨S_, .f32⟩
  | .hbm, ⟨18, _⟩ => ⟨S1x2x256x8192, .f32⟩
  | .hbm, ⟨19, _⟩ => ⟨S_, .f32⟩
  | .hbm, ⟨20, _⟩ => ⟨S1x2x256x8192, .f32⟩
  | .hbm, ⟨21, _⟩ => ⟨S512x512, .i32⟩
  | .hbm, ⟨22, _⟩ => ⟨S_, .i32⟩
  | .hbm, ⟨23, _⟩ => ⟨S512x512, .i32⟩
  | .hbm, ⟨24, _⟩ => ⟨S512x512, .i32⟩
  | .hbm, ⟨25, _⟩ => ⟨S512x512, .i32⟩
  | .hbm, ⟨26, _⟩ => ⟨S_, .i32⟩
  | .hbm, ⟨27, _⟩ => ⟨S512x512, .i32⟩
  | .hbm, ⟨28, _⟩ => ⟨S512x512, .i32⟩
  | .hbm, ⟨29, _⟩ => ⟨S512x512, .i1⟩
  | .hbm, ⟨30, _⟩ => ⟨S_, .f32⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S512x512, .bf16⟩
  | .hbm, ⟨36, _⟩ => ⟨S16384x512, .f32⟩
  | .hbm, ⟨37, _⟩ => ⟨S16384x512, .f32⟩
  | .hbm, ⟨38, _⟩ => ⟨S16384x256, .f32⟩
  | .hbm, ⟨39, _⟩ => ⟨S16384x256, .bf16⟩
  | .hbm, ⟨40, _⟩ => ⟨S16384x256, .bf16⟩
  | .hbm, ⟨41, _⟩ => ⟨S16384x128, .f32⟩
  | .hbm, ⟨42, _⟩ => ⟨S1x2x256x8192, .f32⟩
  | .hbm, ⟨43, _⟩ => ⟨S1x2x256x8192, .f32⟩
  | .hbm, ⟨44, _⟩ => ⟨S1x2x256x8192, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2432, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S512x512, .bf16⟩
  | .local _ .vmem, ⟨13, _⟩ => ⟨S1x512, .f32⟩
  | .local _ .vmem, ⟨14, _⟩ => ⟨S3x128, .f32⟩
  | .local _ .vmem, ⟨15, _⟩ => ⟨S8x128x128, .bf16⟩
  | .local _ .vmem, ⟨16, _⟩ => ⟨S128x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x256, .f32⟩
  | .local _ .vmem, ⟨22, _⟩ => ⟨S256x256, .f32⟩
  | .local _ .vmem, ⟨23, _⟩ => ⟨S256x256, .bf16⟩
  | .local _ .vmem, ⟨24, _⟩ => ⟨S256x256, .bf16⟩
  | .local _ .vmem, ⟨25, _⟩ => ⟨S256x256, .bf16⟩
  | .local _ .vmem, ⟨26, _⟩ => ⟨S256x256, .bf16⟩
  | .local _ .vmem, ⟨27, _⟩ => ⟨S256x128, .f32⟩
  | .local _ .vmem, ⟨28, _⟩ => ⟨S256x128, .f32⟩
  | .local _ .vmem, ⟨29, _⟩ => ⟨S1x1x256x256, .f32⟩
  | .local _ .vmem, ⟨30, _⟩ => ⟨S1x1x256x256, .f32⟩
  | .local _ .vmem, ⟨31, _⟩ => ⟨S1x1x256x256, .f32⟩
  | .local _ .vmem, ⟨32, _⟩ => ⟨S1x1x256x256, .f32⟩
  | .local _ .vmem, ⟨33, _⟩ => ⟨S1x1x256x256, .f32⟩
  | .local _ .vmem, ⟨34, _⟩ => ⟨S1x1x256x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_v16_0 : Ref sig .tc := ⟨.hbm, 36, rfl⟩
abbrev main_v16_1 : Ref sig .tc := ⟨.hbm, 37, rfl⟩
abbrev main_v16_2 : Ref sig .tc := ⟨.hbm, 38, rfl⟩
abbrev main_v16_3 : Ref sig .tc := ⟨.hbm, 39, rfl⟩
abbrev main_v16_4 : Ref sig .tc := ⟨.hbm, 40, rfl⟩
abbrev main_v16_5 : Ref sig .tc := ⟨.hbm, 41, rfl⟩
abbrev main_v16_6 : Ref sig .tc := ⟨.hbm, 42, rfl⟩
abbrev main_v16_7 : Ref sig .tc := ⟨.hbm, 43, rfl⟩
abbrev main_v16_8 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_22 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_23 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x256x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== RefPromptIdeal.lean ====
abbrev S16384x1024 : Shape := ⟨2, ![16384, 1024]⟩
abbrev S1x1024 : Shape := ⟨2, ![1, 1024]⟩
abbrev S2x1x1024 : Shape := ⟨3, ![2, 1, 1024]⟩
abbrev S1024x2432 : Shape := ⟨2, ![1024, 2432]⟩
abbrev S8192x32 : Shape := ⟨2, ![8192, 32]⟩
abbrev S1x512 : Shape := ⟨2, ![1, 512]⟩
abbrev S3x128 : Shape := ⟨2, ![3, 128]⟩
abbrev S8x128x128 : Shape := ⟨3, ![8, 128, 128]⟩
abbrev S128x512 : Shape := ⟨2, ![128, 512]⟩
abbrev S16384x32 : Shape := ⟨2, ![16384, 32]⟩
abbrev S16384x1x32 : Shape := ⟨3, ![16384, 1, 32]⟩
abbrev S2x8192x1024 : Shape := ⟨3, ![2, 8192, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x2432 : Shape := ⟨2, ![16384, 2432]⟩
abbrev S16384x256 : Shape := ⟨2, ![16384, 256]⟩
abbrev S16384x2x2x64 : Shape := ⟨4, ![16384, 2, 2, 64]⟩
abbrev S16384x1x2x64 : Shape := ⟨4, ![16384, 1, 2, 64]⟩
abbrev S16384x2x64 : Shape := ⟨3, ![16384, 2, 64]⟩
abbrev S1x128 : Shape := ⟨2, ![1, 128]⟩
abbrev S128 : Shape := ⟨1, ![128]⟩
abbrev S2x64 : Shape := ⟨2, ![2, 64]⟩
abbrev S16384x2 : Shape := ⟨2, ![16384, 2]⟩
abbrev S16384x2x1 : Shape := ⟨3, ![16384, 2, 1]⟩
abbrev S1x2x64 : Shape := ⟨3, ![1, 2, 64]⟩
abbrev S16384x2x32 : Shape := ⟨3, ![16384, 2, 32]⟩
abbrev S2x8192x256 : Shape := ⟨3, ![2, 8192, 256]⟩
abbrev S2x256x8192 : Shape := ⟨3, ![2, 256, 8192]⟩
abbrev S1x2x256x8192 : Shape := ⟨4, ![1, 2, 256, 8192]⟩

abbrev nBuf : Space → Nat
  | .hbm => 175
  | .vmem => 0
  | .smem => 0
  | _ => 0

abbrev hbmTy0_0 (i : Nat) : BufTy := match i % 128 with
  | 0 => ⟨S16384x1024, .f32⟩
  | 1 => ⟨S1x1024, .f32⟩
  | 2 => ⟨S2x1x1024, .f32⟩
  | 3 => ⟨S2x1x1024, .f32⟩
  | 4 => ⟨S1024x2432, .bf16⟩
  | 5 => ⟨S8192x32, .f32⟩
  | 6 => ⟨S8192x32, .f32⟩
  | 7 => ⟨S1x512, .f32⟩
  | 8 => ⟨S3x128, .f32⟩
  | 9 => ⟨S8x128x128, .bf16⟩
  | 10 => ⟨S128x512, .f32⟩
  | 11 => ⟨S16384x32, .f32⟩
  | 12 => ⟨S16384x1x32, .f32⟩
  | 13 => ⟨S16384x32, .f32⟩
  | 14 => ⟨S16384x1x32, .f32⟩
  | 15 => ⟨S2x8192x1024, .f32⟩
  | 16 => ⟨S1024, .f32⟩
  | 17 => ⟨S2x8192x1024, .f32⟩
  | 18 => ⟨S_, .f32⟩
  | 19 => ⟨S2x8192, .f32⟩
  | 20 => ⟨S2x8192x1, .f32⟩
  | 21 => ⟨S_, .f32⟩
  | 22 => ⟨S2x8192x1, .f32⟩
  | 23 => ⟨S2x8192x1, .f32⟩
  | 24 => ⟨S_, .f32⟩
  | 25 => ⟨S2x8192x1, .f32⟩
  | 26 => ⟨S2x8192x1, .f32⟩
  | 27 => ⟨S2x8192x1, .f32⟩
  | 28 => ⟨S2x8192x1024, .f32⟩
  | 29 => ⟨S2x8192x1024, .f32⟩
  | 30 => ⟨S1x1x1024, .f32⟩
  | 31 => ⟨S2x8192x1024, .f32⟩
  | 32 => ⟨S2x8192x1024, .f32⟩
  | 33 => ⟨S_, .f32⟩
  | 34 => ⟨S2x1x1024, .f32⟩
  | 35 => ⟨S2x1x1024, .f32⟩
  | 36 => ⟨S2x8192x1024, .f32⟩
  | 37 => ⟨S2x8192x1024, .f32⟩
  | 38 => ⟨S2x8192x1024, .f32⟩
  | 39 => ⟨S2x8192x1024, .f32⟩
  | 40 => ⟨S16384x1024, .f32⟩
  | 41 => ⟨S1024x2432, .f32⟩
  | 42 => ⟨S16384x2432, .f32⟩
  | 43 => ⟨S16384x256, .f32⟩
  | 44 => ⟨S16384x2x2x64, .f32⟩
  | 45 => ⟨S16384x1x2x64, .f32⟩
  | 46 => ⟨S16384x2x64, .f32⟩
  | 47 => ⟨S1x128, .f32⟩
  | 48 => ⟨S128, .f32⟩
  | 49 => ⟨S2x64, .f32⟩
  | 50 => ⟨S16384x2x64, .f32⟩
  | 51 => ⟨S_, .f32⟩
  | 52 => ⟨S16384x2, .f32⟩
  | 53 => ⟨S16384x2x1, .f32⟩
  | 54 => ⟨S_, .f32⟩
  | 55 => ⟨S16384x2x1, .f32⟩
  | 56 => ⟨S16384x2x1, .f32⟩
  | 57 => ⟨S_, .f32⟩
  | 58 => ⟨S16384x2x1, .f32⟩
  | 59 => ⟨S16384x2x1, .f32⟩
  | 60 => ⟨S16384x2x1, .f32⟩
  | 61 => ⟨S16384x2x64, .f32⟩
  | 62 => ⟨S16384x2x64, .f32⟩
  | 63 => ⟨S1x2x64, .f32⟩
  | 64 => ⟨S16384x2x64, .f32⟩
  | 65 => ⟨S16384x2x64, .f32⟩
  | 66 => ⟨S16384x2x32, .f32⟩
  | 67 => ⟨S16384x2x32, .f32⟩
  | 68 => ⟨S16384x2x32, .f32⟩
  | 69 => ⟨S16384x2x32, .f32⟩
  | 70 => ⟨S16384x2x32, .f32⟩
  | 71 => ⟨S16384x2x32, .f32⟩
  | 72 => ⟨S16384x2x32, .f32⟩
  | 73 => ⟨S16384x2x32, .f32⟩
  | 74 => ⟨S16384x2x32, .f32⟩
  | 75 => ⟨S16384x2x32, .f32⟩
  | 76 => ⟨S16384x2x32, .f32⟩
  | 77 => ⟨S16384x2x32, .f32⟩
  | 78 => ⟨S16384x2x64, .f32⟩
  | 79 => ⟨S16384x1x2x64, .f32⟩
  | 80 => ⟨S16384x2x64, .f32⟩
  | 81 => ⟨S16384x1x2x64, .f32⟩
  | 82 => ⟨S16384x1x2x64, .f32⟩
  | 83 => ⟨S16384x2x2x64, .f32⟩
  | 84 => ⟨S2x8192x256, .f32⟩
  | 85 => ⟨S2x256x8192, .f32⟩
  | 86 => ⟨S1x2x256x8192, .f32⟩
  | 87 => ⟨S16384x256, .f32⟩
  | 88 => ⟨S16384x2x2x64, .f32⟩
  | 89 => ⟨S16384x1x2x64, .f32⟩
  | 90 => ⟨S16384x2x64, .f32⟩
  | 91 => ⟨S1x128, .f32⟩
  | 92 => ⟨S128, .f32⟩
  | 93 => ⟨S2x64, .f32⟩
  | 94 => ⟨S16384x2x64, .f32⟩
  | 95 => ⟨S_, .f32⟩
  | 96 => ⟨S16384x2, .f32⟩
  | 97 => ⟨S16384x2x1, .f32⟩
  | 98 => ⟨S_, .f32⟩
  | 99 => ⟨S16384x2x1, .f32⟩
  | 100 => ⟨S16384x2x1, .f32⟩
  | 101 => ⟨S_, .f32⟩
  | 102 => ⟨S16384x2x1, .f32⟩
  | 103 => ⟨S16384x2x1, .f32⟩
  | 104 => ⟨S16384x2x1, .f32⟩
  | 105 => ⟨S16384x2x64, .f32⟩
  | 106 => ⟨S16384x2x64, .f32⟩
  | 107 => ⟨S1x2x64, .f32⟩
  | 108 => ⟨S16384x2x64, .f32⟩
  | 109 => ⟨S16384x2x64, .f32⟩
  | 110 => ⟨S16384x2x32, .f32⟩
  | 111 => ⟨S16384x2x32, .f32⟩
  | 112 => ⟨S16384x2x32, .f32⟩
  | 113 => ⟨S16384x2x32, .f32⟩
  | 114 => ⟨S16384x2x32, .f32⟩
  | 115 => ⟨S16384x2x32, .f32⟩
  | 116 => ⟨S16384x2x32, .f32⟩
  | 117 => ⟨S16384x2x32, .f32⟩
  | 118 => ⟨S16384x2x32, .f32⟩
  | 119 => ⟨S16384x2x32, .f32⟩
  | 120 => ⟨S16384x2x32, .f32⟩
  | 121 => ⟨S16384x2x32, .f32⟩
  | 122 => ⟨S16384x2x64, .f32⟩
  | 123 => ⟨S16384x1x2x64, .f32⟩
  | 124 => ⟨S16384x2x64, .f32⟩
  | 125 => ⟨S16384x1x2x64, .f32⟩
  | 126 => ⟨S16384x1x2x64, .f32⟩
  | 127 => ⟨S16384x2x2x64, .f32⟩
  | _ => ⟨S16384x1024, .f32⟩

abbrev hbmTy0_1 (i : Nat) : BufTy := match i % 128 with
  | 0 => ⟨S2x8192x256, .f32⟩
  | 1 => ⟨S2x256x8192, .f32⟩
  | 2 => ⟨S1x2x256x8192, .f32⟩
  | 3 => ⟨S16384x256, .f32⟩
  | 4 => ⟨S16384x2x2x64, .f32⟩
  | 5 => ⟨S16384x1x2x64, .f32⟩
  | 6 => ⟨S16384x2x64, .f32⟩
  | 7 => ⟨S1x128, .f32⟩
  | 8 => ⟨S128, .f32⟩
  | 9 => ⟨S2x64, .f32⟩
  | 10 => ⟨S16384x2x64, .f32⟩
  | 11 => ⟨S_, .f32⟩
  | 12 => ⟨S16384x2, .f32⟩
  | 13 => ⟨S16384x2x1, .f32⟩
  | 14 => ⟨S_, .f32⟩
  | 15 => ⟨S16384x2x1, .f32⟩
  | 16 => ⟨S16384x2x1, .f32⟩
  | 17 => ⟨S_, .f32⟩
  | 18 => ⟨S16384x2x1, .f32⟩
  | 19 => ⟨S16384x2x1, .f32⟩
  | 20 => ⟨S16384x2x1, .f32⟩
  | 21 => ⟨S16384x2x64, .f32⟩
  | 22 => ⟨S16384x2x64, .f32⟩
  | 23 => ⟨S1x2x64, .f32⟩
  | 24 => ⟨S16384x2x64, .f32⟩
  | 25 => ⟨S16384x2x64, .f32⟩
  | 26 => ⟨S16384x2x32, .f32⟩
  | 27 => ⟨S16384x2x32, .f32⟩
  | 28 => ⟨S16384x2x32, .f32⟩
  | 29 => ⟨S16384x2x32, .f32⟩
  | 30 => ⟨S16384x2x32, .f32⟩
  | 31 => ⟨S16384x2x32, .f32⟩
  | 32 => ⟨S16384x2x32, .f32⟩
  | 33 => ⟨S16384x2x32, .f32⟩
  | 34 => ⟨S16384x2x32, .f32⟩
  | 35 => ⟨S16384x2x32, .f32⟩
  | 36 => ⟨S16384x2x32, .f32⟩
  | 37 => ⟨S16384x2x32, .f32⟩
  | 38 => ⟨S16384x2x64, .f32⟩
  | 39 => ⟨S16384x1x2x64, .f32⟩
  | 40 => ⟨S16384x2x64, .f32⟩
  | 41 => ⟨S16384x1x2x64, .f32⟩
  | 42 => ⟨S16384x1x2x64, .f32⟩
  | 43 => ⟨S16384x2x2x64, .f32⟩
  | 44 => ⟨S2x8192x256, .f32⟩
  | 45 => ⟨S2x256x8192, .f32⟩
  | 46 => ⟨S1x2x256x8192, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_6 : Ref sig .tc := ⟨.hbm, 95, rfl⟩
abbrev main_v77 : Ref sig .tc := ⟨.hbm, 96, rfl⟩
abbrev main_v78 : Ref sig .tc := ⟨.hbm, 97, rfl⟩
abbrev main_cst_7 : Ref sig .tc := ⟨.hbm, 98, rfl⟩
abbrev main_v79 : Ref sig .tc := ⟨.hbm, 99, rfl⟩
abbrev main_v80 : Ref sig .tc := ⟨.hbm, 100, rfl⟩
abbrev main_cst_8 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_cst_9 : Ref sig .tc := ⟨.hbm, 139, rfl⟩
abbrev main_v118 : Ref sig .tc := ⟨.hbm, 140, rfl⟩
abbrev main_v119 : Ref sig .tc := ⟨.hbm, 141, rfl⟩
abbrev main_cst_10 : Ref sig .tc := ⟨.hbm, 142, rfl⟩
abbrev main_v120 : Ref sig .tc := ⟨.hbm, 143, rfl⟩
abbrev main_v121 : Ref sig .tc := ⟨.hbm, 144, rfl⟩
abbrev main_cst_11 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩

abbrev nD : Nat := 1
abbrev τ : Topo := Topo.v7x

variable {F : FTy → Type} [FloatOps F]
-- ==== Proof.Nsa.Softmax.lean ====
/-
  Softmax over the extended reals: a row of scores none of which is `⊤` (a masked score is `⊥`), its weights
  `exp (w k - max w)`, and the ways a kernel may compute them — in powers of two of scaled scores, running over the
  keys a stretch at a time, over a window of the keys alone, dividing by the sum of the weights last.
-/
module

public import Idealize.ShloMosaic.PureOps.Ideal

@[expose] public section

set_option maxRecDepth 16384

noncomputable section

namespace Cert.Softmax

open Idealize.ShloMosaic

/-- `1 / log 2`, what a score is multiplied with to be an exponent of two. -/
abbrev c2 : EReal := (((Real.log 2)⁻¹ : ℝ) : EReal)

theorem c2_pos : (0 : ℝ) < (Real.log 2)⁻¹ := inv_pos.mpr (Real.log_pos (by norm_num))

theorem bot_mul_c2 : (⊥ : EReal) * c2 = ⊥ := EReal.bot_mul_coe_of_pos c2_pos

theorem top_mul_c2 : (⊤ : EReal) * c2 = ⊤ := EReal.top_mul_coe_of_pos c2_pos

/-- `2 ^ (u / log 2) = e ^ u`. -/
theorem exp2_scale (u : EReal) : Ideal.exp2 (u * c2) = Ideal.exp u := by
  induction u with
  | bot => rw [bot_mul_c2]; rfl
  | top => rw [top_mul_c2]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num)]
    congr 1
    have : Real.log 2 ≠ 0 := ne_of_gt (Real.log_pos (by norm_num))
    field_simp

theorem sub_scale {a b : EReal} (ha : a ≠ ⊤) (hb : b ≠ ⊤) : a * c2 - b * c2 = (a - b) * c2 := by
  induction a with
  | top => exact absurd rfl ha
  | bot => rw [bot_mul_c2, EReal.bot_sub, EReal.bot_sub, bot_mul_c2]
  | coe a =>
    induction b with
    | top => exact absurd rfl hb
    | bot => rw [bot_mul_c2, ← EReal.coe_mul, EReal.coe_sub_bot, EReal.coe_sub_bot, top_mul_c2]
    | coe b => rw [← EReal.coe_mul, ← EReal.coe_mul, ← EReal.coe_sub, ← EReal.coe_sub, ← EReal.coe_mul, sub_mul]

theorem mul_c2_mono : Monotone fun a : EReal => a * c2 := fun a b h =>
  mul_le_mul_of_nonneg_right h (EReal.coe_nonneg.mpr c2_pos.le)

variable {ι : Type} (s : Finset ι) (w : ι → EReal)

theorem sup_scale : (s.sup fun k => w k * c2) = s.sup w * c2 :=
  (Finset.comp_sup_eq_sup_comp_of_is_total (fun a : EReal => a * c2) mul_c2_mono bot_mul_c2).symm

theorem sup_ne_top (h : ∀ k ∈ s, w k ≠ ⊤) : s.sup w ≠ ⊤ := by
  refine ne_of_lt ((Finset.sup_lt_iff bot_lt_top).mpr fun k hk => lt_top_iff_ne_top.mpr (h k hk))

theorem sup_real (h : ∀ k ∈ s, w k ≠ ⊤) {k : ι} (hk : k ∈ s) (hb : w k ≠ ⊥) : ∃ r : ℝ, s.sup w = (r : EReal) := by
  have h1 := sup_ne_top s w h
  have h2 : s.sup w ≠ ⊥ := fun e => hb (le_bot_iff.mp (e ▸ Finset.le_sup hk))
  exact ⟨(s.sup w).toReal, (EReal.coe_toReal h1 h2).symm⟩

/-- A weight in powers of two of the scaled scores is the weight. -/
theorem weight_scale (h : ∀ k ∈ s, w k ≠ ⊤) {k : ι} (hk : k ∈ s) :
    Ideal.exp2 (w k * c2 - s.sup fun k => w k * c2) = Ideal.exp (w k - s.sup w) := by
  rw [sup_scale, sub_scale (h k hk) (sup_ne_top s w h), exp2_scale]

/-! ### Weights are reals, their sum a positive real -/

theorem exp_sub_real {a : EReal} (ha : a ≠ ⊤) (m : ℝ) : ∃ r : ℝ, 0 ≤ r ∧ Ideal.exp (a - (m : EReal)) = (r : EReal) := by
  induction a with
  | top => exact absurd rfl ha
  | bot => exact ⟨0, le_rfl, by rw [EReal.bot_sub]; rfl⟩
  | coe a => exact ⟨Real.exp (a - m), (Real.exp_pos _).le, by rw [← EReal.coe_sub]; rfl⟩

theorem sum_coe (f : ι → ℝ) : ((∑ k ∈ s, f k : ℝ) : EReal) = ∑ k ∈ s, (f k : EReal) :=
  map_sum (⟨⟨fun r : ℝ => (r : EReal), EReal.coe_zero⟩, EReal.coe_add⟩ : ℝ →+ EReal) f s

/-- The weights' sum is a positive real once one score is. -/
theorem sum_weight_real (h : ∀ k ∈ s, w k ≠ ⊤) {m : ℝ} {k : ι} (hk : k ∈ s) (hb : w k ≠ ⊥) :
    ∃ S : ℝ, 0 < S ∧ ∑ k ∈ s, Ideal.exp (w k - (m : EReal)) = (S : EReal) := by
  classical
  have hr : ∀ k ∈ s, ∃ r : ℝ, 0 ≤ r ∧ Ideal.exp (w k - (m : EReal)) = (r : EReal) := fun k hk => exp_sub_real (h k hk) m
  refine ⟨∑ k ∈ s, (Ideal.exp (w k - (m : EReal))).toReal, ?_, ?_⟩
  · refine Finset.sum_pos' (fun k hk => ?_) ⟨k, hk, ?_⟩
    · obtain ⟨r, h0, e⟩ := hr k hk
      rw [e]; exact h0
    · have : w k = ((w k).toReal : EReal) := (EReal.coe_toReal (h k hk) hb).symm
      rw [this, ← EReal.coe_sub]
      exact Real.exp_pos _
  · rw [sum_coe]
    refine Finset.sum_congr rfl fun k hk => ?_
    obtain ⟨r, h0, e⟩ := hr k hk
    rw [e]; rfl

/-! ### A real factor moves through a sum -/

theorem sum_mul_real (f : ι → EReal) {c : ℝ} (hc : 0 ≤ c) : (∑ k ∈ s, f k) * (c : EReal) = ∑ k ∈ s, f k * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

theorem real_mul_sum (f : ι → EReal) {c : ℝ} (hc : 0 ≤ c) : (c : EReal) * (∑ k ∈ s, f k) = ∑ k ∈ s, (c : EReal) * f k := by
  rw [mul_comm, sum_mul_real s f hc]
  exact Finset.sum_congr rfl fun k _ => mul_comm _ _

/-- A dot product of reals, its left factors scaled by `c`. -/
theorem dot_scale (a b : ι → EReal) (ha : ∀ k ∈ s, ∃ r : ℝ, a k = r) (hb : ∀ k ∈ s, ∃ r : ℝ, b k = r) (c : ℝ) :
    ∑ k ∈ s, a k * (c : EReal) * b k = (∑ k ∈ s, a k * b k) * (c : EReal) := by
  have e : ∀ k ∈ s, a k = ((a k).toReal : EReal) := fun k hk => by obtain ⟨r, h⟩ := ha k hk; rw [h]; rfl
  have e' : ∀ k ∈ s, b k = ((b k).toReal : EReal) := fun k hk => by obtain ⟨r, h⟩ := hb k hk; rw [h]; rfl
  rw [Finset.sum_congr rfl fun k hk => show a k * (c : EReal) * b k = (((a k).toReal * c * (b k).toReal : ℝ) : EReal) by
      rw [EReal.coe_mul, EReal.coe_mul, ← e k hk, ← e' k hk],
    Finset.sum_congr rfl fun k hk => show a k * b k = (((a k).toReal * (b k).toReal : ℝ) : EReal) by
      rw [EReal.coe_mul, ← e k hk, ← e' k hk],
    ← sum_coe, ← sum_coe, ← EReal.coe_mul, Finset.sum_mul]
  congr 1
  exact Finset.sum_congr rfl fun k _ => by ring

theorem dot_real (a b : ι → EReal) (ha : ∀ k ∈ s, ∃ r : ℝ, a k = r) (hb : ∀ k ∈ s, ∃ r : ℝ, b k = r) :
    ∃ r : ℝ, ∑ k ∈ s, a k * b k = (r : EReal) := by
  have e : ∀ k ∈ s, a k = ((a k).toReal : EReal) := fun k hk => by obtain ⟨r, h⟩ := ha k hk; rw [h]; rfl
  have e' : ∀ k ∈ s, b k = ((b k).toReal : EReal) := fun k hk => by obtain ⟨r, h⟩ := hb k hk; rw [h]; rfl
  exact ⟨∑ k ∈ s, (a k).toReal * (b k).toReal, by
    rw [sum_coe]; exact Finset.sum_congr rfl fun k hk => by rw [EReal.coe_mul, ← e k hk, ← e' k hk]⟩

/-! ### The softmax of a row against values -/

/-- The softmax of the scores `w` applied to the values `V`: each weight divided by the weights' sum. -/
def soft (V : ι → EReal) : EReal :=
  ∑ k ∈ s, Ideal.div (Ideal.exp (w k - s.sup w)) (∑ j ∈ s, Ideal.exp (w j - s.sup w)) * V k

/-- Dividing last: the weighted sum over the weights' sum. -/
theorem soft_eq_div (h : ∀ k ∈ s, w k ≠ ⊤) {k : ι} (hk : k ∈ s) (hb : w k ≠ ⊥) (V : ι → EReal) :
    soft s w V = Ideal.div (∑ k ∈ s, Ideal.exp (w k - s.sup w) * V k) (∑ j ∈ s, Ideal.exp (w j - s.sup w)) := by
  obtain ⟨m, hm⟩ := sup_real s w h hk hb
  obtain ⟨S, hS, e⟩ := sum_weight_real s w h (m := m) hk hb
  unfold soft
  rw [hm, e, Ideal.div_coe hS.ne', sum_mul_real _ _ (by positivity)]
  exact Finset.sum_congr rfl fun k _ => by rw [Ideal.div_coe hS.ne', mul_right_comm]

/-- The softmax over keys of which all but those of a part are masked is the softmax over the part. -/
theorem soft_part {κ : Type} (t : Finset κ) (e : κ → ι) (he : Set.InjOn e t) (hts : ∀ k ∈ t, e k ∈ s)
    (hout : ∀ k ∈ s, (∀ l ∈ t, e l ≠ k) → w k = ⊥) (V : ι → EReal) :
    (t.sup fun l => w (e l)) = s.sup w
      ∧ ∀ m : EReal, m ≠ ⊥ → ∑ l ∈ t, Ideal.exp (w (e l) - m) * V (e l) = ∑ k ∈ s, Ideal.exp (w k - m) * V k := by
  classical
  have hsub : t.image e ⊆ s := Finset.image_subset_iff.mpr hts
  constructor
  · apply le_antisymm
    · exact Finset.sup_le fun l hl => Finset.le_sup (f := w) (hts l hl)
    · refine Finset.sup_le fun k hk => ?_
      by_cases hex : ∃ l ∈ t, e l = k
      · obtain ⟨l, hl, rfl⟩ := hex
        exact Finset.le_sup (f := fun l => w (e l)) hl
      · rw [hout k hk (fun l hl e' => hex ⟨l, hl, e'⟩)]; exact bot_le
  · intro m hm
    rw [← Finset.sum_image (f := fun k => Ideal.exp (w k - m) * V k) he]
    refine Finset.sum_subset hsub fun k hk hk' => ?_
    rw [hout k hk (fun l hl e' => hk' (Finset.mem_image.mpr ⟨l, hl, e'⟩)), EReal.bot_sub]
    show (0 : EReal) * _ = 0
    rw [zero_mul]

/-! ### Running over the keys a stretch at a time -/

/-- The running maximum over the first `N` keys. -/
def runMax (t : ℕ → EReal) (N : ℕ) : EReal := (Finset.range N).sup t

/-- The running weighted sum over the first `N` keys, against the running maximum. -/
def runSum (t V : ℕ → EReal) (N : ℕ) : EReal := ∑ k ∈ Finset.range N, Ideal.exp2 (t k - runMax t N) * V k

theorem runMax_add (t : ℕ → EReal) (N K : ℕ) :
    max (runMax t N) (Finset.univ.sup fun l : Fin K => t (N + l.val)) = runMax t (N + K) := by
  unfold runMax
  apply le_antisymm
  · refine max_le (Finset.sup_mono (Finset.range_mono (Nat.le_add_right _ _))) (Finset.sup_le fun l _ => ?_)
    exact Finset.le_sup (f := t) (Finset.mem_range.mpr (by omega))
  · refine Finset.sup_le fun k hk => ?_
    have hk := Finset.mem_range.mp hk
    by_cases h : k < N
    · exact le_max_of_le_left (Finset.le_sup (f := t) (Finset.mem_range.mpr h))
    · refine le_max_of_le_right ?_
      have : t k = t (N + (⟨k - N, by omega⟩ : Fin K).val) := by congr 1; simp; omega
      rw [this]
      exact Finset.le_sup (f := fun l : Fin K => t (N + l.val)) (Finset.mem_univ _)

theorem exp2_sub_sub {a : EReal} (ha : a ≠ ⊤) (m m' : ℝ) :
    Ideal.exp2 ((m : EReal) - (m' : EReal)) * Ideal.exp2 (a - (m : EReal)) = Ideal.exp2 (a - (m' : EReal)) := by
  induction a with
  | top => exact absurd rfl ha
  | bot => rw [EReal.bot_sub, EReal.bot_sub]; show _ * (0 : EReal) = 0; rw [mul_zero]
  | coe a =>
    rw [← EReal.coe_sub, ← EReal.coe_sub, ← EReal.coe_sub]
    show ((Real.rpow 2 _ : ℝ) : EReal) * ((Real.rpow 2 _ : ℝ) : EReal) = ((Real.rpow 2 _ : ℝ) : EReal)
    rw [← EReal.coe_mul]
    congr 1
    simp only [Real.rpow_eq_pow]
    rw [← Real.rpow_add (by norm_num)]
    congr 1
    ring

theorem exp2_bot_sub (a : EReal) : Ideal.exp2 (⊥ - a) = 0 := by rw [EReal.bot_sub]; rfl

/-- One more stretch of `K` keys: what was gathered is rescaled to the new maximum, the stretch's sum added. -/
theorem runSum_add (t V : ℕ → EReal) (N K : ℕ) (h : ∀ k, t k ≠ ⊤) :
    Ideal.exp2 (runMax t N - runMax t (N + K)) * runSum t V N
        + ∑ l : Fin K, Ideal.exp2 (t (N + l.val) - runMax t (N + K)) * V (N + l.val) = runSum t V (N + K) := by
  unfold runSum
  rw [Finset.sum_range_add, ← Finset.sum_range (n := K) (fun l => Ideal.exp2 (t (N + l) - runMax t (N + K)) * V (N + l))]
  congr 1
  by_cases hb : runMax t N = ⊥
  · have hz : ∀ k ∈ Finset.range N, t k = ⊥ := fun k hk => le_bot_iff.mp (hb ▸ Finset.le_sup (f := t) hk)
    rw [hb, exp2_bot_sub, zero_mul]
    refine (Finset.sum_eq_zero fun k hk => ?_).symm
    rw [hz k hk, exp2_bot_sub, zero_mul]
  · have hle : runMax t N ≤ runMax t (N + K) := Finset.sup_mono (Finset.range_mono (Nat.le_add_right _ _))
    obtain ⟨m', hm'⟩ : ∃ m' : ℝ, runMax t (N + K) = (m' : EReal) :=
      ⟨_, (EReal.coe_toReal (sup_ne_top _ _ fun k _ => h k) (fun e => hb (le_bot_iff.mp (e ▸ hle)))).symm⟩
    obtain ⟨m, hm⟩ : ∃ m : ℝ, runMax t N = (m : EReal) := ⟨_, (EReal.coe_toReal (sup_ne_top _ _ fun k _ => h k) hb).symm⟩
    rw [hm, hm']
    have hc : Ideal.exp2 ((m : EReal) - (m' : EReal)) = ((Real.rpow 2 (m - m') : ℝ) : EReal) := by rw [← EReal.coe_sub]; rfl
    rw [hc, real_mul_sum _ _ (c := Real.rpow 2 (m - m')) (Real.rpow_nonneg (by norm_num) _), ← hc]
    refine Finset.sum_congr rfl fun k _ => ?_
    rw [← mul_assoc, exp2_sub_sub (h k)]

/-- The softmax over the keys before `N` of scores `w`, from the running sums of the scaled scores. -/
theorem soft_run (w V : ℕ → EReal) (N : ℕ) (h : ∀ k, w k ≠ ⊤) {k0 : ℕ} (hN : k0 < N) (h0 : w k0 ≠ ⊥) :
    Ideal.div (runSum (fun k => w k * c2) V N) (runSum (fun k => w k * c2) (fun _ => 1) N) = soft (Finset.range N) w V := by
  rw [soft_eq_div _ w (fun k _ => h k) (Finset.mem_range.mpr hN) h0]
  unfold runSum runMax
  congr 1
  · exact Finset.sum_congr rfl fun k hk => by rw [weight_scale _ w (fun k _ => h k) hk]
  · exact Finset.sum_congr rfl fun k hk => by rw [weight_scale _ w (fun k _ => h k) hk, mul_one]

/-- Masked keys at either end of a stretch may be left out. -/
theorem soft_window (w V : ℕ → EReal) (a K N : ℕ) (haN : a + K ≤ N) (hout : ∀ k < N, k < a ∨ a + K ≤ k → w k = ⊥)
    (h : ∀ k, w k ≠ ⊤) {k0 : ℕ} (hk0 : k0 < K) (h0 : w (a + k0) ≠ ⊥) :
    soft (Finset.range K) (fun l => w (a + l)) (fun l => V (a + l)) = soft (Finset.range N) w V := by
  have hp := fun V => soft_part (Finset.range N) w (Finset.range K) (fun l => a + l) (fun x _ y _ e => by simpa using e)
    (fun l hl => Finset.mem_range.mpr (by have := Finset.mem_range.mp hl; omega))
    (fun k hk hne => hout k (Finset.mem_range.mp hk) (by
      by_contra hc
      exact hne (k - a) (Finset.mem_range.mpr (by omega)) (by omega))) V
  have hm : (Finset.range N).sup w ≠ ⊥ := fun e => h0 (le_bot_iff.mp (e ▸ Finset.le_sup (f := w) (Finset.mem_range.mpr (by omega))))
  rw [soft_eq_div _ _ (fun k _ => h (a + k)) (Finset.mem_range.mpr hk0) h0,
    soft_eq_div _ w (fun k _ => h k) (Finset.mem_range.mpr (show a + k0 < N by omega)) h0]
  rw [(hp V).1, (hp V).2 _ hm]
  congr 1
  have := (hp fun _ => 1).2 _ hm
  simpa only [mul_one] using this

end Cert.Softmax

end
-- ==== Proof.Nsa.Topk.lean ====
/-
  Choosing the greatest entries of a row of extended reals, two ways: by a stable sort whose first positions are kept,
  and by rounds that each take the greatest entry left (the first of several equal ones) and strike it out.
  Both keep the entries of small RANK, the number of entries that come ahead of one.
-/
module

public import Idealize.ShloMosaic.PureOps.Ideal
public import Idealize.ShloMosaic.Lib.SortFacts
public import Idealize.ShloMosaic.Lib.SortPrefix

@[expose] public section

set_option maxRecDepth 16384

noncomputable section

namespace Cert.Topk

open Idealize.ShloMosaic

variable {n : ℕ} (w : Fin n → EReal)

/-- `k` comes ahead of `j`: its entry is greater, or the same at a lower place. -/
def Ahead (k j : Fin n) : Prop := w j < w k ∨ (w k = w j ∧ k < j)

open Classical in
/-- How many places come ahead of `j`. -/
def rank (j : Fin n) : ℕ := (Finset.univ.filter fun k => Ahead w k j).card

variable {w}

theorem Ahead.trans {a b c : Fin n} (h : Ahead w a b) (h' : Ahead w b c) : Ahead w a c := by
  rcases h with h | ⟨h, l⟩ <;> rcases h' with h' | ⟨h', l'⟩
  · exact Or.inl (h'.trans h)
  · exact Or.inl (h' ▸ h)
  · exact Or.inl (h ▸ h')
  · exact Or.inr ⟨h.trans h', l.trans l'⟩

theorem Ahead.irrefl (a : Fin n) : ¬Ahead w a a := by
  rintro (h | ⟨_, h⟩) <;> exact lt_irrefl _ h

theorem Ahead.total {a b : Fin n} (h : a ≠ b) : Ahead w a b ∨ Ahead w b a := by
  rcases lt_trichotomy (w a) (w b) with h' | h' | h'
  · exact Or.inr (Or.inl h')
  · rcases lt_or_gt_of_ne h with l | l
    · exact Or.inl (Or.inr ⟨h', l⟩)
    · exact Or.inr (Or.inr ⟨h'.symm, l⟩)
  · exact Or.inl (Or.inl h')

theorem rank_lt_of_ahead {k j : Fin n} (h : Ahead w k j) : rank w k < rank w j := by
  classical
  unfold rank
  refine Finset.card_lt_card ⟨fun i hi => ?_, fun hs => ?_⟩
  · simp only [Finset.mem_filter, Finset.mem_univ, true_and] at hi ⊢
    exact hi.trans h
  · have : k ∈ Finset.univ.filter fun i => Ahead w i k := hs (by simpa using h)
    exact Ahead.irrefl k (by simpa using this)

theorem rank_injective : Function.Injective (rank w) := by
  intro a b h
  by_contra hne
  rcases Ahead.total (w := w) hne with h' | h' <;> have := rank_lt_of_ahead h' <;> omega

/-! ### The sort -/

/-- A stable sort never looks at an earlier place against a later one the other way round: ties may be broken by place. -/
theorem stableSort_ties {ι : Type} [LinearOrder ι] (R R' : ι → ι → Bool) (h : ∀ a b, a < b → R b a = R' b a) (l : List ι)
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

open Classical in
/-- "Comes ahead" as a comparator. -/
def aheadB (w : Fin n → EReal) (a b : Fin n) : Bool := decide (Ahead w a b)

theorem aheadB_total : StrictTotalBefore (aheadB w) where
  irrefl a := by simp [aheadB, Ahead.irrefl]
  trans a b c h h' := by
    simp only [aheadB, decide_eq_true_eq] at h h' ⊢
    exact h.trans h'
  total a b h := by
    simp only [aheadB, decide_eq_true_eq]
    exact Ahead.total h

/-- The sort that puts greater entries first, equal ones in place order, is the sort by `Ahead`. -/
theorem sortedFrom_eq (R : Fin n → Fin n → Bool) (hR : ∀ a b, R a b = true ↔ w b < w a) :
    sortedFrom R = sortedFrom (aheadB w) := by
  have : sortPositions n R = sortPositions n (aheadB w) := by
    unfold sortPositions
    refine stableSort_ties R _ (fun a b hab => ?_) _ (List.pairwise_lt_finRange n)
    rw [Bool.eq_iff_iff, hR]
    unfold aheadB
    classical
    rw [decide_eq_true_iff]
    constructor
    · exact fun h => Or.inl h
    · rintro (h | ⟨_, h⟩)
      · exact h
      · exact absurd (hab.trans h) (lt_irrefl _)
  funext p
  unfold sortedFrom
  simp only [List.get_eq_getElem, this, Fin.val_cast]

theorem rank_sortedFrom (p : Fin n) : rank w (sortedFrom (aheadB w) p) = p.val := by
  classical
  have hB := aheadB_total (w := w)
  have hno := sortedFrom_noInversion (aheadB w) (aheadB w) (fun a b h => hB.asymm a b h) (fun _ _ h => h) hB.negTrans
  have hinj := sortedFrom_injective (aheadB w)
  have hlt : ∀ q q' : Fin n, Ahead w (sortedFrom (aheadB w) q) (sortedFrom (aheadB w) q') ↔ q < q' := by
    have fwd : ∀ q q' : Fin n, q < q' → Ahead w (sortedFrom (aheadB w) q) (sortedFrom (aheadB w) q') := by
      intro q q' h
      have h1 := hno q q' h
      rcases Ahead.total (w := w) (fun e => absurd (hinj e) (ne_of_lt h)) with h2 | h2
      · exact h2
      · rw [aheadB, decide_eq_true h2] at h1; exact absurd h1 (by decide)
    intro q q'
    refine ⟨fun h => ?_, fwd q q'⟩
    rcases lt_trichotomy q q' with l | l | l
    · exact l
    · subst l; exact absurd h (Ahead.irrefl _)
    · exact absurd (h.trans (fwd q' q l)) (Ahead.irrefl _)
  have : (Finset.univ.filter fun k => Ahead w k (sortedFrom (aheadB w) p))
      = (Finset.univ.filter fun q : Fin n => q < p).image (sortedFrom (aheadB w)) := by
    ext k
    simp only [Finset.mem_filter, Finset.mem_univ, true_and, Finset.mem_image]
    constructor
    · intro h
      obtain ⟨q, rfl⟩ := sortedFrom_surjective (aheadB w) k
      exact ⟨q, (hlt q p).mp h, rfl⟩
    · rintro ⟨q, h, rfl⟩
      exact (hlt q p).mpr h
  unfold rank
  rw [this, Finset.card_image_of_injective _ hinj]
  have : (Finset.univ.filter fun q : Fin n => q < p) = Finset.Iio p := by ext; simp
  rw [this, Fin.card_Iio]

/-- The first `m` places of the sort are the entries of rank below `m`. -/
theorem mem_sorted_iff (R : Fin n → Fin n → Bool) (hR : ∀ a b, R a b = true ↔ w b < w a) (m : ℕ) (j : Fin n) :
    (∃ p : Fin n, p.val < m ∧ sortedFrom R p = j) ↔ rank w j < m := by
  rw [sortedFrom_eq R hR]
  constructor
  · rintro ⟨p, h, rfl⟩
    rwa [rank_sortedFrom]
  · intro h
    obtain ⟨p, rfl⟩ := sortedFrom_surjective (aheadB w) j
    exact ⟨p, by rwa [rank_sortedFrom] at h, rfl⟩

/-! ### The rounds -/

/-- `f` is the first place holding the greatest entry of `w`. -/
structure First (w : Fin n → EReal) (f : Fin n) : Prop where
  max : ∀ k, w k ≤ w f
  first : ∀ k, w k = w f → f ≤ k

open Classical in
/-- Strike out the entries of `S`. -/
def strike (w : Fin n → EReal) (S : Finset (Fin n)) (j : Fin n) : EReal := if j ∈ S then ⊥ else w j

/-- What `i` rounds leave chosen: among the entries above `⊥`, those of rank below `i`. -/
theorem rounds (w : Fin n → EReal) (S : ℕ → Finset (Fin n)) (h0 : S 0 = ∅)
    (hs : ∀ i, ∃ f, First (strike w (S i)) f ∧ S (i + 1) = insert f (S i)) (i : ℕ) :
    ∀ j, w j ≠ ⊥ → (j ∈ S i ↔ rank w j < i) := by
  classical
  induction i with
  | zero => intro j _; simp [h0]
  | succ i ih =>
    intro j hj
    obtain ⟨f, hf, hS⟩ := hs i
    rw [hS, Finset.mem_insert]
    by_cases hji : j ∈ S i
    · have := (ih j hj).mp hji
      exact ⟨fun _ => by omega, fun _ => Or.inr hji⟩
    have hrk : ¬rank w j < i := fun h => hji ((ih j hj).mpr h)
    have hwj : strike w (S i) j = w j := if_neg hji
    constructor
    · rintro (rfl | h)
      · have hall : ∀ k, Ahead w k j → rank w k < i := by
          intro k hk
          have hkb : w k ≠ ⊥ := by
            rcases hk with hk | ⟨hk, _⟩
            · exact ne_bot_of_gt hk
            · rwa [hk]
          by_contra hc
          have hk' : k ∉ S i := fun h => hc ((ih k hkb).mp h)
          have hwk : strike w (S i) k = w k := if_neg hk'
          have hle := hf.max k
          rw [hwk, hwj] at hle
          rcases hk with hk | ⟨hk, l⟩
          · exact absurd hle (not_le.mpr hk)
          · have := hf.first k (by rw [hwk, hwj, hk])
            exact absurd l (not_lt.mpr this)
        have hsub : (Finset.univ.filter fun k => Ahead w k j).image (rank w) ⊆ Finset.range i := by
          intro r hr
          simp only [Finset.mem_image, Finset.mem_filter, Finset.mem_univ, true_and] at hr
          obtain ⟨k, hk, rfl⟩ := hr
          exact Finset.mem_range.mpr (hall k hk)
        have := Finset.card_le_card hsub
        rw [Finset.card_image_of_injective _ rank_injective, Finset.card_range] at this
        have : rank w j ≤ i := this
        omega
      · exact absurd h hji
    · intro h
      have hri : rank w j = i := by omega
      left
      by_contra hne
      have hfb : strike w (S i) f ≠ ⊥ := by
        intro e
        have := hf.max j
        rw [hwj, e, le_bot_iff] at this
        exact hj this
      have hfS : f ∉ S i := fun h' => hfb (if_pos h')
      have hwf : strike w (S i) f = w f := if_neg hfS
      have hahead : Ahead w f j := by
        have hle := hf.max j
        rw [hwj, hwf] at hle
        rcases lt_or_eq_of_le hle with l | e
        · exact Or.inl l
        · exact Or.inr ⟨e.symm, lt_of_le_of_ne (hf.first j (by rw [hwj, hwf, e])) (fun e => hne e.symm)⟩
      have := rank_lt_of_ahead hahead
      exact hfS ((ih f (by rw [← hwf]; exact hfb)).mpr (by omega))

end Cert.Topk

end
-- ==== Proof.Nsa.Spec.lean ====
/-
  The attention of one query as a function of numbered keys: compressed keys, the blocks their weights select, the keys
  of the selected blocks, a window of keys. Every array is read at natural numbers (`at2`), so that a block of an array,
  a stretch of keys or a half of the lanes is a shift of the number.
-/
module

public import proofs.«01_k».proof.Proof.Nsa.Softmax
public import proofs.«01_k».proof.Proof.Nsa.Topk
public import Idealize.ShloMosaic.Lib.Pointwise

@[expose] public section

set_option maxRecDepth 16384

noncomputable section

namespace Cert.Attn

open Idealize.ShloMosaic Cert.Softmax

/-- A matrix read at natural numbers, `0` outside it. -/
def at2 {n m : ℕ} (x : (⟨2, ![n, m]⟩ : Shape).Idx → EReal) (i j : ℕ) : EReal :=
  if h : i < n ∧ j < m then x (ix2 ⟨i, h.1⟩ ⟨j, h.2⟩) else 0

theorem at2_of {n m : ℕ} (x : (⟨2, ![n, m]⟩ : Shape).Idx → EReal) (i : Fin n) (j : Fin m) : x (ix2 i j) = at2 x i.val j.val := by
  unfold at2
  rw [dif_pos ⟨i.isLt, j.isLt⟩]

theorem at2_mk {n m : ℕ} (x : (⟨2, ![n, m]⟩ : Shape).Idx → EReal) {i j : ℕ} (hi : i < n) (hj : j < m) :
    at2 x i j = x (ix2 ⟨i, hi⟩ ⟨j, hj⟩) := at2_of x ⟨i, hi⟩ ⟨j, hj⟩ |>.symm

/-! ### The attention of one query -/

/-- A query against a key of 64 numbers. -/
def dot (Q k : ℕ → EReal) : EReal := ∑ d ∈ Finset.range 64, Q d * k d

/-- The score of compressed key `n`, which ends at place `16 n + 31`, for a query at place `t`. -/
def cmpW (t : ℕ) (Q : ℕ → EReal) (K : ℕ → ℕ → EReal) (n : ℕ) : EReal := if 16 * n + 31 ≤ t then dot Q (K n) else ⊥

/-- The weight of compressed key `n` among `N`: the softmax, `0` where masked. -/
def cmpP (N t : ℕ) (Q : ℕ → EReal) (K : ℕ → ℕ → EReal) (n : ℕ) : EReal :=
  if 16 * n + 31 ≤ t then
    Ideal.div (Ideal.exp (cmpW t Q K n - (Finset.range N).sup (cmpW t Q K)))
      (∑ j ∈ Finset.range N, Ideal.exp (cmpW t Q K j - (Finset.range N).sup (cmpW t Q K)))
  else 0

/-- How many of the 32 tokens of compressed key `n` lie in block `s`, as a part of 32. -/
def cover (n s : ℕ) : EReal :=
  ((((max (min (16 * n + 32 : ℤ) (64 * s + 64) - max (16 * n : ℤ) (64 * s)) 0 : ℤ) : ℝ) / 32 : ℝ) : EReal)

/-- The importance of block `s`: the weights of the four heads, by how much the compressed keys lie in the block. -/
def imp (N : ℕ) (P : ℕ → ℕ → EReal) (s : ℕ) : EReal := ∑ n ∈ Finset.range N, (∑ r ∈ Finset.range 4, P r n) * cover n s

/-- The score of block `s` for a query at place `t`: later blocks are masked; the first block, the query's own and the one before it are forced. -/
def score (t : ℕ) (I : ℕ → EReal) (s : ℕ) : EReal :=
  if s ≤ t / 64 then (if s = 0 ∨ s = t / 64 ∨ s + 1 = t / 64 then Ideal.ofBits .f32 0x7149F2CA#32 else I s) else ⊥

/-- Block `s` is one of the sixteen of the highest score, of equal scores the lower block. -/
def Sel (t : ℕ) (I : ℕ → EReal) (s : ℕ) : Prop := ∃ h : s < 128, Topk.rank (fun s : Fin 128 => score t I s.val) ⟨s, h⟩ < 16

open Classical in
/-- The score of key `k`: only keys of selected blocks, up to the query. -/
def slcW (t : ℕ) (S : ℕ → Prop) (Q : ℕ → EReal) (K : ℕ → ℕ → EReal) (k : ℕ) : EReal :=
  if S (k / 64) ∧ k ≤ t then dot Q (K k) else ⊥

/-- The score of key `k` in the window: the last 512 keys up to the query. -/
def winW (t : ℕ) (Q : ℕ → EReal) (K : ℕ → ℕ → EReal) (k : ℕ) : EReal :=
  if k ≤ t ∧ t < k + 512 then dot Q (K k) else ⊥

/-! ### The arrays -/

variable (q gates kc vc slc win : ℕ → ℕ → EReal)

/-- Head `r` of group `g` of the query at place `t` of sequence `b`. -/
def qv (b t g r d : ℕ) : EReal := q (b * 8192 + t) (g * 256 + r * 64 + d)

/-- The weights of the compressed keys. -/
def pv (b t g r n : ℕ) : EReal := cmpP 511 t (qv q b t g r) (fun n d => kc (b * 512 + n) (g * 64 + d)) n

/-- The blocks selected for a group. -/
def sel (b t g : ℕ) : ℕ → Prop := Sel t (imp 511 (fun r n => pv q kc b t g r n))

/-- The output of one head: the three branches, each times its gate. -/
def out (b t g r d : ℕ) : EReal :=
  gates (b * 8192 + t) (g * 12 + r * 3) * (∑ n ∈ Finset.range 511, pv q kc b t g r n * vc (b * 512 + n) (g * 64 + d))
    + gates (b * 8192 + t) (g * 12 + r * 3 + 1)
      * soft (Finset.range 8192) (slcW t (sel q kc b t g) (qv q b t g r) fun k d => slc (b * 8192 + k) (g * 64 + d))
          (fun k => slc (b * 8192 + k) (128 + g * 64 + d))
    + gates (b * 8192 + t) (g * 12 + r * 3 + 2)
      * soft (Finset.range 8192) (winW t (qv q b t g r) fun k d => win (b * 8192 + k) (g * 64 + d))
          (fun k => win (b * 8192 + k) (128 + g * 64 + d))

/-! ### Facts -/

/-- A number that is neither infinity. -/
def IsR (x : EReal) : Prop := ∃ r : ℝ, x = (r : EReal)

theorem IsR.ne_top {x : EReal} (h : IsR x) : x ≠ ⊤ := by obtain ⟨r, rfl⟩ := h; exact EReal.coe_ne_top r
theorem IsR.ne_bot {x : EReal} (h : IsR x) : x ≠ ⊥ := by obtain ⟨r, rfl⟩ := h; exact EReal.coe_ne_bot r
theorem IsR.mul {x y : EReal} (h : IsR x) (h' : IsR y) : IsR (x * y) := by
  obtain ⟨r, rfl⟩ := h; obtain ⟨r', rfl⟩ := h'; exact ⟨r * r', (EReal.coe_mul r r').symm⟩
theorem IsR.zero : IsR 0 := ⟨0, rfl⟩
theorem IsR.sum {ι : Type} (s : Finset ι) (f : ι → EReal) (h : ∀ k ∈ s, IsR (f k)) : IsR (∑ k ∈ s, f k) := by
  refine ⟨∑ k ∈ s, (f k).toReal, ?_⟩
  rw [sum_coe]
  exact Finset.sum_congr rfl fun k hk => by obtain ⟨r, e⟩ := h k hk; rw [e]; rfl
theorem IsR.sub_self {x : EReal} (h : IsR x) : x - x = 0 := by
  obtain ⟨r, rfl⟩ := h; rw [← EReal.coe_sub, _root_.sub_self]; rfl

theorem isR_dot {Q k : ℕ → EReal} (hQ : ∀ d < 64, IsR (Q d)) (hk : ∀ d < 64, IsR (k d)) : IsR (dot Q k) :=
  dot_real _ Q k (fun d hd => hQ d (Finset.mem_range.mp hd)) (fun d hd => hk d (Finset.mem_range.mp hd))

/-- A row of 128 lanes that holds a head in its lower or upper half, scaled, and zeros in the other. -/
theorem half_dot (g : ℕ) (hg : g < 2) (qg Q k : ℕ → EReal) (hq : ∀ l < 128, qg l = if l / 64 = g then Q (l % 64) * c2 else 0)
    (hQ : ∀ d < 64, IsR (Q d)) (hk : ∀ l < 128, IsR (k l)) :
    ∑ l ∈ Finset.range 128, qg l * k l = dot Q (fun d => k (g * 64 + d)) * c2 := by
  unfold dot
  rw [← dot_scale _ Q (fun d => k (g * 64 + d)) (fun d hd => hQ d (Finset.mem_range.mp hd))
    (fun d hd => hk _ (by have := Finset.mem_range.mp hd; omega))]
  rw [show (128 : ℕ) = 64 + 64 from rfl, Finset.sum_range_add]
  rcases (by omega : g = 0 ∨ g = 1) with rfl | rfl
  · rw [Finset.sum_eq_zero (s := Finset.range 64) (f := fun x => qg (64 + x) * k (64 + x)), add_zero]
    · refine Finset.sum_congr rfl fun d hd => ?_
      have hd := Finset.mem_range.mp hd
      rw [hq d (by omega), if_pos (by omega), Nat.mod_eq_of_lt hd, show 0 * 64 + d = d by omega]
    · intro d hd
      have hd := Finset.mem_range.mp hd
      rw [hq _ (by omega), if_neg (by omega), zero_mul]
  · rw [Finset.sum_eq_zero (s := Finset.range 64) (f := fun x => qg x * k x), zero_add]
    · refine Finset.sum_congr rfl fun d hd => ?_
      have hd := Finset.mem_range.mp hd
      rw [hq _ (by omega), if_pos (by omega), show (64 + d) % 64 = d by omega, show 1 * 64 + d = 64 + d by omega]
    · intro d hd
      have hd := Finset.mem_range.mp hd
      rw [hq _ (by omega), if_neg (by omega), zero_mul]

/-- A masked score, scaled: the scaled score plus a bias of `0` or `⊥`. -/
theorem bias_scale (c : Prop) [Decidable c] (x : EReal) : x * c2 + (if c then 0 else ⊥) = (if c then x else ⊥) * c2 := by
  split_ifs
  · rw [add_zero]
  · rw [EReal.add_bot, bot_mul_c2]

theorem sup_univ_range {N : ℕ} (f : ℕ → EReal) : (Finset.univ.sup fun k : Fin N => f k.val) = (Finset.range N).sup f := by
  apply le_antisymm
  · exact Finset.sup_le fun k _ => Finset.le_sup (f := f) (Finset.mem_range.mpr k.isLt)
  · exact Finset.sup_le fun k hk => Finset.le_sup (f := fun k : Fin N => f k.val) (Finset.mem_univ ⟨k, Finset.mem_range.mp hk⟩)

theorem fold_max_range {N : ℕ} (f : ℕ → EReal) :
    (Finset.univ.fold max (Ideal.ofBits .f32 0xFF800000#32) fun k : Fin N => f k.val) = (Finset.range N).sup f := by
  rw [← sup_univ_range, show Ideal.ofBits .f32 0xFF800000#32 = (⊥ : EReal) by simp [Ideal.ofBits, Ideal.ieee]]
  rfl

variable {N t : ℕ} {Q : ℕ → EReal} {K : ℕ → ℕ → EReal}

theorem cmpW_ne_top (hr : ∀ n, 16 * n + 31 ≤ t → IsR (dot Q (K n))) (n : ℕ) : cmpW t Q K n ≠ ⊤ := by
  unfold cmpW
  split_ifs with h
  · exact (hr n h).ne_top
  · exact bot_ne_top

/-- The weights as a kernel computes them: powers of two, times the reciprocal of their sum where a key is in reach. -/
theorem cmpP_kernel (hN : 0 < N) (hr : ∀ n, 16 * n + 31 ≤ t → IsR (dot Q (K n))) (n : ℕ) (hn : n < N) :
    Ideal.exp2 (cmpW t Q K n * c2 - (Finset.range N).sup fun k => cmpW t Q K k * c2)
        * Ideal.div (if 31 ≤ t then 1 else 0)
            (∑ j ∈ Finset.range N, Ideal.exp2 (cmpW t Q K j * c2 - (Finset.range N).sup fun k => cmpW t Q K k * c2))
      = cmpP N t Q K n := by
  have hw := cmpW_ne_top (K := K) hr
  rw [weight_scale _ _ (fun k _ => hw k) (Finset.mem_range.mpr hn),
    Finset.sum_congr rfl fun j hj => weight_scale _ _ (fun k _ => hw k) hj]
  unfold cmpP
  split_ifs with h31 hn'
  · have hb : cmpW t Q K n ≠ ⊥ := by unfold cmpW; rw [if_pos hn']; exact (hr n hn').ne_bot
    obtain ⟨m, hm⟩ := sup_real (Finset.range N) (cmpW t Q K) (fun k _ => hw k) (Finset.mem_range.mpr hn) hb
    obtain ⟨S, hS, e⟩ := sum_weight_real (Finset.range N) (cmpW t Q K) (fun k _ => hw k) (m := m) (Finset.mem_range.mpr hn) hb
    rw [hm, e, Ideal.div_coe hS.ne', Ideal.div_coe hS.ne', one_mul]
  · have : cmpW t Q K n = ⊥ := by unfold cmpW; rw [if_neg hn']
    rw [this, EReal.bot_sub]
    exact zero_mul _
  · omega
  · have : cmpW t Q K n = ⊥ := by unfold cmpW; rw [if_neg (by assumption)]
    rw [this, EReal.bot_sub]
    exact zero_mul _

/-- The weights are reals. -/
theorem cmpP_real (hr : ∀ n, 16 * n + 31 ≤ t → IsR (dot Q (K n))) (n : ℕ) (hn : n < N) : IsR (cmpP N t Q K n) := by
  have hw := cmpW_ne_top (K := K) hr
  unfold cmpP
  split_ifs with hn'
  · have hb : cmpW t Q K n ≠ ⊥ := by unfold cmpW; rw [if_pos hn']; exact (hr n hn').ne_bot
    obtain ⟨m, hm⟩ := sup_real (Finset.range N) (cmpW t Q K) (fun k _ => hw k) (Finset.mem_range.mpr hn) hb
    obtain ⟨S, hS, e⟩ := sum_weight_real (Finset.range N) (cmpW t Q K) (fun k _ => hw k) (m := m) (Finset.mem_range.mpr hn) hb
    obtain ⟨r, _, er⟩ := exp_sub_real (hw n) m
    rw [hm, e, Ideal.div_coe hS.ne', er]
    exact IsR.mul ⟨r, rfl⟩ ⟨_, rfl⟩
  · exact IsR.zero

/-- A key that no query reaches does not count. -/
theorem cmpP_succ (h : t < 16 * N + 31) (n : ℕ) : cmpP (N + 1) t Q K n = cmpP N t Q K n := by
  have hb : cmpW t Q K N = ⊥ := by unfold cmpW; rw [if_neg (by omega)]
  have hs : (Finset.range (N + 1)).sup (cmpW t Q K) = (Finset.range N).sup (cmpW t Q K) := by
    rw [Finset.range_add_one, Finset.sup_insert, hb, bot_sup_eq]
  unfold cmpP
  rw [hs, Finset.sum_range_succ, hb, EReal.bot_sub, show Ideal.exp ⊥ = 0 from rfl, add_zero]

theorem cmpP_last (h : t < 16 * N + 31) (M : ℕ) : cmpP M t Q K N = 0 := by unfold cmpP; rw [if_neg (by omega)]

theorem cover_real (n s : ℕ) : IsR (cover n s) := ⟨_, rfl⟩

theorem force_ne_bot : Ideal.ofBits .f32 0x7149F2CA#32 ≠ (⊥ : EReal) := by
  show Ideal.ieee 8 23 0x7149F2CA#32 ≠ ⊥
  unfold Ideal.ieee
  dsimp only
  rw [if_neg (by decide), if_neg (by decide)]
  exact EReal.coe_ne_bot _

/-- Some selected block is in reach. -/
theorem exists_sel (t : ℕ) (ht : t < 8192) (I : ℕ → EReal) : ∃ s, Sel t I s ∧ s ≤ t / 64 := by
  classical
  set w : Fin 128 → EReal := fun s => score t I s.val with hw
  obtain ⟨m, hm⟩ := Finite.exists_max w
  have hne : (Finset.univ.filter fun f : Fin 128 => ∀ k, w k ≤ w f).Nonempty := ⟨m, by simpa using hm⟩
  obtain ⟨f, hf, hmin⟩ : ∃ f, (∀ k, w k ≤ w f) ∧ ∀ j, (∀ k, w k ≤ w j) → f ≤ j :=
    ⟨_, (Finset.mem_filter.mp (Finset.min'_mem _ hne)).2, fun j hj => Finset.min'_le _ j (by simpa using hj)⟩
  have hr : Topk.rank w f = 0 := by
    unfold Topk.rank
    rw [Finset.card_eq_zero, Finset.filter_eq_empty_iff]
    rintro k _ (h | ⟨h, hl⟩)
    · exact absurd (hf k) (not_le.mpr h)
    · exact absurd (hmin k (fun j => h ▸ hf j)) (not_le.mpr hl)
  refine ⟨f.val, ⟨f.isLt, by show Topk.rank w f < 16; omega⟩, ?_⟩
  by_contra hc
  have h0 : w f = ⊥ := by show score t I f.val = ⊥; unfold score; rw [if_neg hc]
  have h1 : w 0 ≠ ⊥ := by
    show score t I 0 ≠ ⊥
    unfold score
    rw [if_pos (Nat.zero_le _), if_pos (Or.inl rfl)]
    exact force_ne_bot
  exact h1 (le_bot_iff.mp (h0 ▸ hf 0))

end Cert.Attn

end
-- ==== Proof.Nsa.Words.lean ====
/-
  Words of 32 bits that hold small integers: the integer operations of the two programs, read as integers.
-/
module

public import Idealize.ShloMosaic.Lib.Pointwise
public import Idealize.ShloMosaic.Lib.Routing.Words

@[expose] public section

set_option maxRecDepth 16384

namespace Cert.Word

open Idealize.ShloMosaic

/-- The word of an integer. -/
def W (z : ℤ) : BitVec 32 := BitVec.ofInt 32 z

theorem ofNat_W (n : ℕ) : BitVec.ofNat 32 n = W (n : ℤ) := rfl

theorem toInt_W {z : ℤ} (h : -2147483648 ≤ z) (h' : z < 2147483648) : (W z).toInt = z :=
  BitVec.toInt_ofInt_eq_self (by decide) (by simpa using h) (by simpa using h')

theorem addi_W (a b : ℤ) : IntOp.addi (W a) (W b) = W (a + b) := (BitVec.ofInt_add a b).symm
theorem muli_W (a b : ℤ) : IntOp.muli (W a) (W b) = W (a * b) := (BitVec.ofInt_mul a b).symm
theorem subi_W (a b : ℤ) : IntOp.subi (W a) (W b) = W (a - b) := by
  refine BitVec.eq_of_toInt_eq ?_
  unfold IntOp.subi W
  simp

theorem W_inj {a b : ℤ} (ha : -2147483648 ≤ a) (ha' : a < 2147483648) (hb : -2147483648 ≤ b) (hb' : b < 2147483648) :
    W a = W b ↔ a = b :=
  ⟨fun h => by rw [← toInt_W ha ha', h, toInt_W hb hb'], fun h => by rw [h]⟩

section Cmp
variable {a b : ℤ} (ha : -2147483648 ≤ a) (ha' : a < 2147483648) (hb : -2147483648 ≤ b) (hb' : b < 2147483648)
include ha ha' hb hb'

theorem sle_W : IntOp.cmpi .sle (W a) (W b) = BitVec.ofBool (decide (a ≤ b)) := by
  show BitVec.ofBool ((W a).sle (W b)) = _
  rw [BitVec.sle_eq_decide, toInt_W ha ha', toInt_W hb hb']
theorem slt_W : IntOp.cmpi .slt (W a) (W b) = BitVec.ofBool (decide (a < b)) := by
  show BitVec.ofBool ((W a).slt (W b)) = _
  rw [BitVec.slt_eq_decide, toInt_W ha ha', toInt_W hb hb']
theorem sge_W : IntOp.cmpi .sge (W a) (W b) = BitVec.ofBool (decide (b ≤ a)) := by
  show BitVec.ofBool ((W b).sle (W a)) = _
  rw [BitVec.sle_eq_decide, toInt_W ha ha', toInt_W hb hb']
theorem sgt_W : IntOp.cmpi .sgt (W a) (W b) = BitVec.ofBool (decide (b < a)) := by
  show BitVec.ofBool ((W b).slt (W a)) = _
  rw [BitVec.slt_eq_decide, toInt_W ha ha', toInt_W hb hb']
theorem eq_W : IntOp.cmpi .eq (W a) (W b) = BitVec.ofBool (decide (a = b)) := by
  show BitVec.ofBool (W a == W b) = _
  rw [beq_eq_decide]
  congr 1
  exact decide_eq_decide.mpr (W_inj ha ha' hb hb')
theorem ne_W : IntOp.cmpi .ne (W a) (W b) = BitVec.ofBool (decide (a ≠ b)) := by
  show BitVec.ofBool (W a != W b) = _
  rw [bne, beq_eq_decide, ← decide_not]
  congr 1
  exact decide_eq_decide.mpr (not_congr (W_inj ha ha' hb hb'))
theorem maxsi_W : IntOp.maxsi (W a) (W b) = W (max a b) := by
  unfold IntOp.maxsi
  rw [BitVec.slt_eq_decide, toInt_W ha ha', toInt_W hb hb']
  by_cases h : b < a
  · rw [if_pos (decide_eq_true h), max_eq_left h.le]
  · rw [if_neg (by simpa using h), max_eq_right (not_lt.mp h)]
theorem minsi_W : IntOp.minsi (W a) (W b) = W (min a b) := by
  unfold IntOp.minsi
  rw [BitVec.slt_eq_decide, toInt_W ha ha', toInt_W hb hb']
  by_cases h : a < b
  · rw [if_pos (decide_eq_true h), min_eq_left h.le]
  · rw [if_neg (by simpa using h), min_eq_right (not_lt.mp h)]
end Cmp

theorem divsi_W (u : ArithUnit) {a b : ℤ} (ha : 0 ≤ a) (ha' : a < 2147483648) (hb : 0 < b) (hb' : b < 2147483648) :
    IntOp.divsi u (W a) (W b) = W (a / b) := by
  obtain ⟨n, rfl⟩ := Int.eq_ofNat_of_zero_le ha
  obtain ⟨k, rfl⟩ := Int.eq_ofNat_of_zero_le hb.le
  exact Routing.divsi_word u (by omega) (by omega) (by omega)

theorem remsi_W (u : ArithUnit) {a b : ℤ} (ha : 0 ≤ a) (ha' : a < 2147483648) (hb : 0 < b) (hb' : b < 2147483648) :
    IntOp.remsi u (W a) (W b) = W (a % b) := by
  obtain ⟨n, rfl⟩ := Int.eq_ofNat_of_zero_le ha
  obtain ⟨k, rfl⟩ := Int.eq_ofNat_of_zero_le hb.le
  exact Routing.remsi_word u (by omega) (by omega) (by omega)

theorem select_ofBool {α : Type} (p : Prop) [Decidable p] (x y : α) : Scalar.select (BitVec.ofBool (decide p)) x y = if p then x else y := by
  unfold Scalar.select
  by_cases h : p
  · rw [decide_eq_true h, if_pos h]; rfl
  · rw [decide_eq_false h, if_neg h]; rfl
theorem andi_ofBool (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]
theorem ori_ofBool (p q : Prop) [Decidable p] [Decidable q] :
    IntOp.ori (BitVec.ofBool (decide p)) (BitVec.ofBool (decide q)) = BitVec.ofBool (decide (p ∨ q)) := by
  by_cases h : p <;> by_cases h' : q <;> simp [h, h', IntOp.ori]
theorem not_ofBool (p : Prop) [Decidable p] :
    IntOp.xori (BitVec.ofBool (decide p)) 1#1 = BitVec.ofBool (decide (¬p)) := by
  by_cases h : p <;> simp [h, IntOp.xori]
theorem extui_ofBool (p : Prop) [Decidable p] : (BitVec.ofBool (decide p)).setWidth 32 = W (if p then 1 else 0) := by
  by_cases h : p <;> simp [h] <;> rfl

theorem sitofp_W {z : ℤ} (h : -2147483648 ≤ z) (h' : z < 2147483648) :
    (FloatOps.sitofp (F := Ideal) FTy.f32 (W z)) = ((z : ℝ) : EReal) := by
  show ((((W z).toInt : ℤ) : ℝ) : EReal) = _
  rw [toInt_W h h']

/-- The disjunction over a row of marks. -/
theorem fold_ori {N : ℕ} (f : Fin N → Prop) [DecidablePred f] (s : Finset (Fin N)) :
    s.fold IntOp.ori 0#1 (fun x => BitVec.ofBool (decide (f x))) = BitVec.ofBool (decide (∃ x ∈ s, f x)) := by
  classical
  induction s using Finset.induction_on with
  | empty => simp
  | insert a s ha ih =>
    rw [Finset.fold_insert ha, ih, ori_ofBool]
    congr 1
    exact decide_eq_decide.mpr (by simp)

end Cert.Word
end
-- ==== Proof.Nsa.Reference.lean ====
/-
  What the reference computes: each of its named arrays at an index, and its result, as `Cert.Attn.out`.
-/
module

public import proofs.«01_k».proof.Proof.Gen.RefIdeal.Run
public import proofs.«01_k».proof.Proof.Nsa.Spec
public import proofs.«01_k».proof.Proof.Nsa.Words
public import Idealize.ShloMosaic.Lib.Pointwise
public import Idealize.ShloMosaic.Lib.Tactic
public import Idealize.ShloMosaic.Lib.Tactic.CleanTypes

@[expose] public section

set_option maxRecDepth 16384

noncomputable section

namespace Cert.RefIdeal.Read

open Idealize.ShloMosaic Idealize.ShloMosaic.TcCoe Idealize.SL.Sem
open Cert.RefIdeal Cert.RefIdeal.Gen Cert.RefIdeal.Value Cert.Attn Cert.Word Cert.Softmax

variable (V0 : Valuation τ sig (Elt Ideal))

/-- The queries. -/
def aq : ℕ → ℕ → EReal := at2 (n := 16384) (m := 512) (V0 (Proc.devRef .tc main_arg0))
/-- The gates. -/
def ag : ℕ → ℕ → EReal := at2 (n := 16384) (m := 128) (V0 (Proc.devRef .tc main_arg1))
/-- The compressed keys. -/
def akc : ℕ → ℕ → EReal := at2 (n := 1024) (m := 128) (V0 (Proc.devRef .tc main_arg2))
/-- The compressed values. -/
def avc : ℕ → ℕ → EReal := at2 (n := 1024) (m := 128) (V0 (Proc.devRef .tc main_arg3))
/-- The keys and values of the selected branch. -/
def asl : ℕ → ℕ → EReal := at2 (n := 16384) (m := 256) (V0 (Proc.devRef .tc main_arg4))
/-- The keys and values of the window. -/
def awin : ℕ → ℕ → EReal := at2 (n := 16384) (m := 256) (V0 (Proc.devRef .tc main_arg5))

theorem bot_f32 : Ideal.ofBits .f32 0xFF800000#32 = (⊥ : EReal) := by simp [Ideal.ofBits, Ideal.ieee]

theorem dot_fin (Q k : ℕ → EReal) : ∑ x : Fin 64, Q x.val * k x.val = dot Q k := by
  unfold dot
  rw [Finset.sum_range]

theorem red_cmp (x : FVec Ideal S2x2x8192x4x511 .f32) (b g : Fin 2) (t : Fin 8192) (r : Fin 4) :
    Host.reduce FloatOps.maximumf x (constant S_ .f32 0xFF800000#32) reducesTo_S2x2x8192x4x511_S2x2x8192x4_d4 h_S_ (ix4 b g t r)
      = Finset.univ.fold max (Ideal.ofBits .f32 0xFF800000#32) fun k => x (ix5 b g t r k) := by
  pointwise

theorem red_key (x : FVec Ideal S2x2x8192x4x8192 .f32) (b g : Fin 2) (t : Fin 8192) (r : Fin 4) :
    Host.reduce FloatOps.maximumf x (constant S_ .f32 0xFF800000#32) reducesTo_S2x2x8192x4x8192_S2x2x8192x4_d4 h_S_ (ix4 b g t r)
      = Finset.univ.fold max (Ideal.ofBits .f32 0xFF800000#32) fun k => x (ix5 b g t r k) := by
  pointwise

/-- The exponential of an array less a number of its row, at an index. -/
theorem exp_cmp (x : FVec Ideal S2x2x8192x4x511 .f32) (y : FVec Ideal S2x2x8192x4 .f32) (b g : Fin 2) (t : Fin 8192) (r : Fin 4) (n : Fin 511) :
    Host.exp (subf x (broadcastInDim S2x2x8192x4x511 ![0, 1, 2, 3, 4] bcast_S2x2x8192x4x1_S2x2x8192x4x511_0_1_2_3_4 (broadcastInDim S2x2x8192x4x1 ![0, 1, 2, 3] bcast_S2x2x8192x4_S2x2x8192x4x1_0_1_2_3 (maximumf (broadcastInDim S2x2x8192x4 ![] bcast_S_S2x2x8192x4 (constant S_ .f32 0xFF800000#32)) y)))) (ix5 b g t r n)
      = Ideal.exp (x (ix5 b g t r n) - max (Ideal.ofBits .f32 0xFF800000#32) (y (ix4 b g t r))) := by
  pointwise

/-- The same for rows of all keys. -/
theorem exp_key (x : FVec Ideal S2x2x8192x4x8192 .f32) (y : FVec Ideal S2x2x8192x4 .f32) (b g : Fin 2) (t : Fin 8192) (r : Fin 4) (n : Fin 8192) :
    Host.exp (subf x (broadcastInDim S2x2x8192x4x8192 ![0, 1, 2, 3, 4] bcast_S2x2x8192x4x1_S2x2x8192x4x8192_0_1_2_3_4 (broadcastInDim S2x2x8192x4x1 ![0, 1, 2, 3] bcast_S2x2x8192x4_S2x2x8192x4x1_0_1_2_3 (maximumf (broadcastInDim S2x2x8192x4 ![] bcast_S_S2x2x8192x4 (constant S_ .f32 0xFF800000#32)) y)))) (ix5 b g t r n)
      = Ideal.exp (x (ix5 b g t r n) - max (Ideal.ofBits .f32 0xFF800000#32) (y (ix4 b g t r))) := by
  pointwise

theorem thirty_two : Ideal.ofBits .f32 1107296256#32 = ((32 : ℝ) : EReal) := by
  show Ideal.ieee 8 23 1107296256#32 = _
  unfold Ideal.ieee
  dsimp only
  rw [if_neg (by decide), if_neg (by decide), if_neg (by decide)]
  norm_num [show (1107296256#32 : BitVec 32).extractLsb' 23 8 = 132#8 by decide, show (1107296256#32 : BitVec 32).extractLsb' 0 23 = 0#23 by decide]

/-- The score of a compressed key. -/
theorem v36_at (b g : Fin 2) (t : Fin 8192) (r : Fin 4) (n : Fin 511) :
    res_main_v36 V0 (ix5 b g t r n)
      = cmpW t (qv (aq V0) b t g r) (fun n d => akc V0 (b * 512 + n) (g * 64 + d)) n := by
  unfold res_main_v36
  clean_types
  pointwise [res_main_v34, res_main_v26, res_main_v23, res_main_v0]
  have ht := t.isLt
  have hn := n.isLt
  simp (disch := omega) only [ofNat_W, muli_W, addi_W, sle_W, select_ofBool]
  unfold cmpW
  refine (if_congr (by omega) ?_ ?_)
  · rw [← dot_fin]
    refine Finset.sum_congr rfl fun x _ => ?_
    exact congrArg₂ (· * ·) (at2_of _ _ _) (at2_of _ _ _)
  · exact bot_f32

/-- The exponential of a score of a compressed key, before the division by the sum. -/
theorem v43_at (b g : Fin 2) (t : Fin 8192) (r : Fin 4) (n : Fin 511) :
    res_main_v43 V0 (ix5 b g t r n)
      = Ideal.exp (cmpW t (qv (aq V0) b t g r) (fun n d => akc V0 (b * 512 + n) (g * 64 + d)) n
          - (Finset.range 511).sup (cmpW t (qv (aq V0) b t g r) (fun n d => akc V0 (b * 512 + n) (g * 64 + d)))) := by
  refine (exp_cmp (res_main_v36 V0) _ b g t r n).trans ?_
  rw [red_cmp, v36_at, show (fun k => res_main_v36 V0 (ix5 b g t r k)) = fun k : Fin 511 => cmpW t (qv (aq V0) b t g r) (fun n d => akc V0 (b * 512 + n) (g * 64 + d)) k.val
    from funext fun k => v36_at V0 b g t r k, fold_max_range, bot_f32, max_eq_right bot_le]

/-- The weight of a compressed key. -/
theorem v48_at (b g : Fin 2) (t : Fin 8192) (r : Fin 4) (n : Fin 511) :
    res_main_v48 V0 (ix5 b g t r n) = pv (aq V0) (akc V0) b t g r n := by
  unfold res_main_v48
  clean_types
  pointwise [res_main_v34, res_main_v26, res_main_v23]
  have ht := t.isLt
  have hn := n.isLt
  simp (disch := omega) only [ofNat_W, muli_W, addi_W, sle_W, select_ofBool, v43_at]
  unfold pv cmpP
  refine (if_congr (by omega) ?_ ?_)
  · rw [Finset.sum_range]
  · exact Ideal.ofBits_zero_f32

/-- The score of a block. -/
theorem v99_at (b g : Fin 2) (t : Fin 8192) (n : Fin 128) :
    res_main_v99 V0 (ix4 b g t n)
      = score t (imp 511 (fun r n => pv (aq V0) (akc V0) b t g r n)) n := by
  unfold res_main_v99
  clean_types
  pointwise [res_main_v79, res_main_v77, res_main_v23, res_main_v26, res_main_v52]
  have ht := t.isLt
  have hn := n.isLt
  have hdiv : (0 : ℤ) ≤ (t.val : ℤ) / 64 ∧ (t.val : ℤ) / 64 < 128 := by omega
  simp (disch := omega) only [ofNat_W, divsi_W, muli_W, addi_W, subi_W, sle_W, eq_W, ori_ofBool, select_ofBool, v48_at]
  unfold score
  refine if_congr (by omega) (if_congr (by omega) rfl ?_) bot_f32
  unfold imp
  rw [Finset.sum_range]
  refine Finset.sum_congr rfl fun x _ => ?_
  have hx := x.isLt
  rw [Finset.sum_range]
  congr 1
  rw [minsi_W (by omega) (by omega) (by omega) (by omega), maxsi_W (by omega) (by omega) (by omega) (by omega), subi_W,
    maxsi_W (by omega) (by omega) (by omega) (by omega), sitofp_W (by omega) (by omega)]
  unfold cover
  rw [← ofNat_W, thirty_two, Ideal.div_coe (by norm_num), ← EReal.coe_mul, div_eq_mul_one_div (_ : ℝ) 32]
  have hz : max (min ((x.val : ℤ) * (16 : ℕ) + (32 : ℕ)) ((n.val : ℤ) * (64 : ℕ) + (64 : ℕ)) - max ((x.val : ℤ) * (16 : ℕ)) ((n.val : ℤ) * (64 : ℕ))) (0 : ℕ)
      = max (min (16 * (x.val : ℤ) + 32) (64 * (n.val : ℤ) + 64) - max (16 * (x.val : ℤ)) (64 * (n.val : ℤ))) 0 := by omega
  rw [hz, one_mul, mul_one_div]

theorem along_at (b g : Fin 2) (t : Fin 8192) (q k : Fin 128) :
    Shape.Idx.along (s := S2x2x8192x128) (ix4 b g t q) (3 : Fin 4) k = ix4 b g t k := by
  funext a
  fin_cases a <;> rfl

/-- The places of the greatest entries of a row: the stable sort by the entries. -/
theorem topK_at (x : FVec Ideal S2x2x8192x128 .f32) (b g : Fin 2) (t : Fin 8192) (p : Fin 16) :
    (Host.topK S2x2x8192x16 3 (FloatOps.cmpfTotal (F := Ideal) (φ := .f32) .gt) x sliceFits_S2x2x8192x128_S2x2x8192x16).2 (ix4 b g t p)
      = BitVec.ofNat 32 (sortedFrom (fun k k' : Fin 128 =>
          FloatOps.cmpfTotal (F := Ideal) (φ := .f32) .gt (x (ix4 b g t k)) (x (ix4 b g t k')) == 1#1) ⟨p.val, by omega⟩).val := by
  have hix : ∀ Y : IVec S2x2x8192x128 32, extractStridedSlice S2x2x8192x16 (fun _ => 0) Y sliceFits_S2x2x8192x128_S2x2x8192x16 (ix4 b g t p)
      = Y (ix4 b g t ⟨p.val, by omega⟩) := by
    intro Y
    refine congrArg Y ?_
    funext a
    fin_cases a <;> exact Fin.ext (Nat.zero_add _)
  unfold Host.topK Host.sort2
  dsimp only
  rw [dif_pos (by decide), hix]
  dsimp only
  rw [dif_pos (by decide)]
  have hi : ∀ q k : Fin 128, iotaInDim S2x2x8192x128 32 (3 : Fin 4) (Shape.Idx.along (s := S2x2x8192x128) (ix4 b g t q) (3 : Fin 4) k)
      = BitVec.ofNat 32 k.val := fun q k => by rw [along_at]; rfl
  refine (hi _ _).trans ?_
  refine congrArg (fun f : Fin 128 → Fin 128 → Bool => BitVec.ofNat 32 (sortedFrom f ⟨p.val, by omega⟩).val) ?_
  funext k k'
  exact congrArg₂ (fun a c => FloatOps.cmpfTotal (F := Ideal) (φ := .f32) .gt (x a) (x c) == 1#1) (along_at b g t _ k) (along_at b g t _ k')

/-- The blocks that the sort puts first are the selected ones. -/
theorem top_at (b g : Fin 2) (t : Fin 8192) (s : ℕ) (hs : s < 128) :
    (∃ p ∈ (Finset.univ : Finset (Fin 16)),
      (Host.topK S2x2x8192x16 3 (FloatOps.cmpfTotal .gt) (res_main_v99 V0) sliceFits_S2x2x8192x128_S2x2x8192x16).2 (ix4 b g t p)
        = W s) ↔ sel (aq V0) (akc V0) b t g s := by
  have hcmp : ∀ a c : EReal, ((FloatOps.cmpfTotal (F := Ideal) (φ := .f32) .gt a c == 1#1) = true) ↔ c < a := by
    intro a c
    show ((BitVec.ofBool (decide (c < a)) == 1#1) = true) ↔ _
    by_cases h : c < a <;> simp [h]
  have hv : ∀ k : Fin 128, res_main_v99 V0 (ix4 b g t k) = score t (imp 511 (fun r n => pv (aq V0) (akc V0) b t g r n)) k.val :=
    fun k => v99_at V0 b g t k
  have hm := Topk.mem_sorted_iff (w := fun s : Fin 128 => score t (imp 511 (fun r n => pv (aq V0) (akc V0) b t g r n)) s.val) (fun k k' : Fin 128 =>
          FloatOps.cmpfTotal (F := Ideal) (φ := .f32) .gt (res_main_v99 V0 (ix4 b g t k)) (res_main_v99 V0 (ix4 b g t k')) == 1#1)
      (fun k k' => by rw [hcmp, hv, hv]) 16 ⟨s, hs⟩
  unfold sel Sel
  constructor
  · rintro ⟨p, _, hp⟩
    rw [topK_at, ofNat_W, W_inj (by omega) (by omega) (by omega) (by omega)] at hp
    exact ⟨hs, hm.mp ⟨⟨p.val, by omega⟩, p.isLt, Fin.ext (Int.ofNat_inj.mp hp)⟩⟩
  · rintro ⟨_, h⟩
    obtain ⟨p, hp, e⟩ := hm.mpr h
    refine ⟨⟨p.val, hp⟩, Finset.mem_univ _, ?_⟩
    rw [topK_at, ofNat_W]
    exact congrArg (fun k : Fin 128 => W k.val) e

/-- The score of a key of the selected branch. -/
theorem v120_at (b g : Fin 2) (t : Fin 8192) (r : Fin 4) (n : Fin 8192) :
    res_main_v120 V0 (ix5 b g t r n)
      = slcW t (sel (aq V0) (akc V0) b t g) (qv (aq V0) b t g r) (fun k d => asl V0 (b * 8192 + k) (g * 64 + d)) n := by
  classical
  unfold res_main_v120
  clean_types
  pointwise [res_main_v111, res_main_v23, res_main_v0]
  have ht := t.isLt
  have hn := n.isLt
  have hcm : ∀ x y : BitVec 32, IntOp.cmpi .eq x y = BitVec.ofBool (decide (x = y)) := fun x y => by
    show BitVec.ofBool (x == y) = _
    rw [beq_eq_decide]
  simp only [hcm]
  rw [fold_ori, ofNat_W n.val, ofNat_W t.val, ofNat_W (n.val / 64), sle_W (by omega) (by omega) (by omega) (by omega), andi_ofBool, select_ofBool]
  unfold slcW
  refine if_congr (and_congr (top_at V0 b g t (n.val / 64) (by omega)) (by omega)) ?_ bot_f32
  rw [← dot_fin]
  refine Finset.sum_congr rfl fun x _ => ?_
  exact congrArg₂ (· * ·) (at2_of _ _ _) (at2_of _ _ _)

/-- The score of a key of the window. -/
theorem v143_at (b g : Fin 2) (t : Fin 8192) (r : Fin 4) (n : Fin 8192) :
    res_main_v143 V0 (ix5 b g t r n)
      = winW t (qv (aq V0) b t g r) (fun k d => awin V0 (b * 8192 + k) (g * 64 + d)) n := by
  unfold res_main_v143
  clean_types
  pointwise [res_main_v111, res_main_v23, res_main_v0]
  have ht := t.isLt
  have hn := n.isLt
  simp (disch := omega) only [ofNat_W, subi_W, sle_W, sgt_W, andi_ofBool, select_ofBool]
  unfold winW
  refine if_congr (by omega) ?_ bot_f32
  rw [← dot_fin]
  refine Finset.sum_congr rfl fun x _ => ?_
  exact congrArg₂ (· * ·) (at2_of _ _ _) (at2_of _ _ _)

theorem v127_at (b g : Fin 2) (t : Fin 8192) (r : Fin 4) (n : Fin 8192) :
    res_main_v127 V0 (ix5 b g t r n)
      = Ideal.exp (slcW t (sel (aq V0) (akc V0) b t g) (qv (aq V0) b t g r) (fun k d => asl V0 (b * 8192 + k) (g * 64 + d)) n
          - (Finset.range 8192).sup (slcW t (sel (aq V0) (akc V0) b t g) (qv (aq V0) b t g r) fun k d => asl V0 (b * 8192 + k) (g * 64 + d))) := by
  refine (exp_key (res_main_v120 V0) _ b g t r n).trans ?_
  rw [red_key, v120_at, show (fun k => res_main_v120 V0 (ix5 b g t r k)) = fun k : Fin 8192 => slcW t (sel (aq V0) (akc V0) b t g) (qv (aq V0) b t g r) (fun k d => asl V0 (b * 8192 + k) (g * 64 + d)) k.val
    from funext fun k => v120_at V0 b g t r k, fold_max_range, bot_f32, max_eq_right bot_le]

theorem v150_at (b g : Fin 2) (t : Fin 8192) (r : Fin 4) (n : Fin 8192) :
    res_main_v150 V0 (ix5 b g t r n)
      = Ideal.exp (winW t (qv (aq V0) b t g r) (fun k d => awin V0 (b * 8192 + k) (g * 64 + d)) n
          - (Finset.range 8192).sup (winW t (qv (aq V0) b t g r) fun k d => awin V0 (b * 8192 + k) (g * 64 + d))) := by
  refine (exp_key (res_main_v143 V0) _ b g t r n).trans ?_
  rw [red_key, v143_at, show (fun k => res_main_v143 V0 (ix5 b g t r k)) = fun k : Fin 8192 => winW t (qv (aq V0) b t g r) (fun k d => awin V0 (b * 8192 + k) (g * 64 + d)) k.val
    from funext fun k => v143_at V0 b g t r k, fold_max_range, bot_f32, max_eq_right bot_le]

theorem v158_at (b g : Fin 2) (t : Fin 8192) (r : Fin 4) (n : Fin 3) :
    res_main_v158 V0 (ix5 b g t r n) = ag V0 (b * 8192 + t) (g * 12 + r * 3 + n) := by
  unfold res_main_v158
  clean_types
  pointwise
  exact at2_of _ _ _

/-- The reference's result at an index. -/
theorem result_at (R : Fin 16384) (C : Fin 512) :
    (val4 V0 (Proc.devRef .tc main_v171) : S16384x512.Idx → EReal) (ix2 R C)
      = out (aq V0) (ag V0) (akc V0) (avc V0) (asl V0) (awin V0) (R.val / 8192) (R.val % 8192) (C.val / 256) (C.val / 64 % 4) (C.val % 64) := by
  rw [val4_main_v171]
  clean_types
  pointwise
  simp only [v158_at, v127_at, v150_at, v48_at]
  unfold out soft
  simp only [Finset.sum_range]
  refine congrArg₂ (· + ·) (congrArg₂ (· + ·) (congrArg₂ (· * ·) rfl ?_) (congrArg₂ (· * ·) rfl ?_)) (congrArg₂ (· * ·) rfl ?_)
  · exact Finset.sum_congr rfl fun x _ => congrArg₂ (· * ·) rfl (at2_of _ _ _)
  · refine Finset.sum_congr rfl fun x _ => congrArg₂ (· * ·) rfl (at2_of _ _ _)
  · refine Finset.sum_congr rfl fun x _ => congrArg₂ (· * ·) rfl (at2_of _ _ _)

end Cert.RefIdeal.Read
end
end
-- ==== Proof.Nsa.Point.lean ====
/-
  One grid point of the kernel: its queries, and the branch of the compressed keys, at an index.
-/
module

public import proofs.«01_k».proof.Proof.Gen.NsaIdeal.Value
public import proofs.«01_k».proof.Proof.Nsa.Spec
public import proofs.«01_k».proof.Proof.Nsa.Words
public import Idealize.ShloMosaic.Lib.Pointwise
public import Idealize.ShloMosaic.Lib.Tactic
public import Idealize.ShloMosaic.Lib.Tactic.CleanTypes

@[expose] public section

set_option maxRecDepth 16384

noncomputable section

namespace Cert.NsaIdeal.Kernel

open Idealize.ShloMosaic Idealize.ShloMosaic.TcCoe Idealize.SL.Sem
open Cert.NsaIdeal Cert.NsaIdeal.Gen Cert.Attn Cert.Word Cert.Softmax

/-- The place of the query in row `a` of the block at a grid point. -/
def place (i : grid0.Coords) (a : ℕ) : ℕ := (i 1).val * 128 + a

theorem place_lt (i : grid0.Coords) {a : ℕ} (h : a < 128) : place i a < 8192 := by
  have : (i 1).val < 64 := (i 1).isLt
  unfold place; omega

/-- Head `r` of group `g` of the query in row `a` of a block of queries. -/
def head (x : S128x512.Idx → EReal) (g r a d : ℕ) : EReal := at2 x a (g * 256 + r * 64 + d)

/-- An array holds the scaled queries of a group, four heads one under the other, in its half of the lanes and zeros in the other. -/
def Holds (Q : ℕ → ℕ → ℕ → EReal) (g : ℕ) (v : S512x128.Idx → EReal) : Prop :=
  ∀ (R : Fin 512) (l : Fin 128), v (ix2 R l) = if l.val / 64 = g then Q (R.val / 128) (R.val % 128) (l.val % 64) * c2 else 0

theorem log2e_eq : (Named.named (F := Ideal) (φ := .f32) κ "log2e" 1069066811#32) = c2 := rfl
theorem mask_eq : (Named.named (F := Ideal) (φ := .f32) κ "mask" 4048155338#32) = ⊥ := rfl

theorem pay15_at (i : grid0.Coords) (a : Fin 128) (z : Fin 1) : k0_pay15 i (ix2 a z) = W (place i a : ℕ) := by
  unfold k0_pay15
  pointwise
  rw [ofNat_W, ofNat_W, ofNat_W]
  refine (congrArg₂ IntOp.addi (muli_W _ _) rfl).trans ?_
  rw [addi_W]
  congr 1

theorem pay16_at (i : grid0.Coords) (R : Fin 512) (z : Fin 1) : k0_pay16 i (ix2 R z) = W (place i (R.val % 128) : ℕ) := by
  unfold k0_pay16
  pointwise
  have hR := R.isLt
  split_ifs <;> rw [pay15_at] <;> refine congrArg (fun n : ℕ => W (place i n : ℕ)) ?_ <;> dsimp only <;> omega

theorem holds0 (x : S128x512.Idx → EReal) : Holds (head x 0) 0 (k0_pay17 (F := Ideal) x) := by
  intro R l
  unfold k0_pay17
  pointwise [k0_pay14]
  have hR := R.isLt
  have hl := l.isLt
  simp only [log2e_eq]
  simp (disch := omega) only [ofNat_W, slt_W, select_ofBool]
  have hc : ((l.val : ℤ) < ((64 : ℕ) : ℤ)) ↔ l.val / 64 = 0 := by omega
  simp only [hc]
  by_cases h0 : l.val / 64 = 0
  · simp only [if_pos h0]
    split_ifs <;>
      (refine congrArg (· * c2) ((at2_of x _ _).trans ?_)
       exact congrArg₂ (at2 x) (by dsimp only; omega) (by dsimp only; omega))
  · simp only [if_neg h0]
    split_ifs <;> rfl

theorem holds1 (x : S128x512.Idx → EReal) :
    Holds (head x 1) 1 (k0_pay22 (F := Ideal) (k0_pay14 (F := Ideal) x) k0_pay18 (k0_pay19 (F := Ideal) x) (k0_pay20 (F := Ideal) x) (k0_pay21 (F := Ideal) x)) := by
  intro R l
  unfold k0_pay22
  pointwise [k0_pay14, k0_pay18, k0_pay19, k0_pay20, k0_pay21]
  have hR := R.isLt
  have hl := l.isLt
  simp only [log2e_eq]
  simp (disch := omega) only [ofNat_W, slt_W]
  simp only [← ofNat_W, not_ofBool, select_ofBool]
  have hc : (¬(l.val : ℤ) < ((64 : ℕ) : ℤ)) ↔ l.val / 64 = 1 := by omega
  simp only [hc]
  by_cases h0 : l.val / 64 = 1
  · simp only [if_pos h0]
    split_ifs <;>
      (refine congrArg (· * c2) ((at2_of x _ _).trans ?_)
       exact congrArg₂ (at2 x) (by dsimp only; omega) (by dsimp only; omega))
  · simp only [if_neg h0]
    split_ifs <;> rfl

/-! ### Scores -/

/-- The numbers of the queries of a group are reals. -/
def RealQ (Q : ℕ → ℕ → ℕ → EReal) : Prop := ∀ r < 4, ∀ a < 128, ∀ d < 64, IsR (Q r a d)

/-- A row of queries against a row of keys. -/
theorem scores_at {Q : ℕ → ℕ → ℕ → EReal} {g : ℕ} (hg : g < 2) {v : S512x128.Idx → EReal} (hv : Holds Q g v) (hQ : RealQ Q)
    (k : ℕ → EReal) (hk : ∀ l < 128, IsR (k l)) (R : Fin 512) :
    ∑ l : Fin 128, v (ix2 R l) * k l.val = dot (Q (R.val / 128) (R.val % 128)) (fun d => k (g * 64 + d)) * c2 := by
  have hR := R.isLt
  rw [← half_dot g hg (fun l => if l / 64 = g then Q (R.val / 128) (R.val % 128) (l % 64) * c2 else 0) (Q (R.val / 128) (R.val % 128)) k
    (fun l _ => rfl) (hQ _ (by omega) _ (by omega)) hk, Finset.sum_range]
  exact Finset.sum_congr rfl fun l _ => by rw [hv]

theorem real_dot {Q : ℕ → ℕ → ℕ → EReal} (hQ : RealQ Q) {k : ℕ → EReal} (hk : ∀ d < 64, IsR (k d)) (R : Fin 512) :
    IsR (dot (Q (R.val / 128) (R.val % 128)) k) := by
  have hR := R.isLt
  exact isR_dot (hQ _ (by omega) _ (by omega)) hk

/-! ### The compressed keys -/

theorem pay23_at (i : grid0.Coords) (R n : Fin 512) :
    k0_pay23 (F := Ideal) (k0_pay16 i) (ix2 R n) = if 16 * n.val + 31 ≤ place i (R.val % 128) then 0 else ⊥ := by
  unfold k0_pay23
  pointwise
  have hp := place_lt i (a := R.val % 128) (by omega)
  have hn := n.isLt
  rw [pay16_at, mask_eq]
  simp (disch := omega) only [ofNat_W, muli_W, addi_W, sle_W, select_ofBool]
  exact if_congr (by omega) rfl rfl

theorem pay24_at (i : grid0.Coords) (R : Fin 512) (z : Fin 1) :
    k0_pay24 (F := Ideal) (k0_pay16 i) (ix2 R z) = if 31 ≤ place i (R.val % 128) then 1 else 0 := by
  unfold k0_pay24
  pointwise
  have hp := place_lt i (a := R.val % 128) (by omega)
  rw [pay16_at]
  simp (disch := omega) only [ofNat_W, sge_W, select_ofBool]
  exact if_congr (by omega) rfl rfl

/-- All numbers of an array are reals. -/
def RealM {n m : ℕ} (x : (⟨2, ![n, m]⟩ : Shape).Idx → EReal) : Prop := ∀ i < n, ∀ j < m, IsR (at2 x i j)

section Cmp
variable {Q : ℕ → ℕ → ℕ → EReal} {g : ℕ} (hg : g < 2) {v47 : S512x128.Idx → EReal} (hv : Holds Q g v47) (hQ : RealQ Q)
variable (i : grid0.Coords) (v48 v49 : S512x128.Idx → EReal) (hk : RealM v48)
include hg hv hQ hk

/-- The masked and scaled scores of the compressed keys. -/
theorem cmp_score (R n : Fin 512) :
    ∑ x, v47 (ix2 R x) * v48 (ix2 n x) + k0_pay23 (F := Ideal) (k0_pay16 i) (ix2 R n)
      = cmpW (place i (R.val % 128)) (Q (R.val / 128) (R.val % 128)) (fun n d => at2 v48 n (g * 64 + d)) n.val * c2 := by
  rw [pay23_at]
  have e := scores_at hg hv hQ (at2 v48 n.val) (fun l hl => hk _ n.isLt _ hl) R
  rw [show (∑ x : Fin 128, v47 (ix2 R x) * v48 (ix2 n x)) = ∑ l : Fin 128, v47 (ix2 R l) * at2 v48 n.val l.val from
    Finset.sum_congr rfl fun l _ => by rw [at2_of v48 n l], e, bias_scale]
  rfl

/-- The weights of the compressed keys. -/
theorem pay29_at (R n : Fin 512) :
    k0_pay29 (F := Ideal) v47 v48 (k0_pay23 (F := Ideal) (k0_pay16 i)) (k0_pay24 (F := Ideal) (k0_pay16 i)) (ix2 R n)
      = cmpP 511 (place i (R.val % 128)) (Q (R.val / 128) (R.val % 128)) (fun n d => at2 v48 n (g * 64 + d)) n.val := by
  have hp := place_lt i (a := R.val % 128) (by omega)
  unfold k0_pay29
  pointwise
  simp only [cmp_score hg hv hQ i v48 hk, pay24_at]
  rw [fold_max_range (fun x => cmpW (place i (R.val % 128)) (Q (R.val / 128) (R.val % 128)) (fun n d => at2 v48 n (g * 64 + d)) x * c2),
    ← cmpP_succ (by omega), ← cmpP_kernel (by omega) _ n.val n.isLt, Finset.sum_range]
  · rfl
  · intro n hn
    exact real_dot hQ (fun d hd => hk _ (by omega) _ (by omega)) R

theorem cmp_real (R : Fin 512) (n : ℕ) (hn : n < 512) :
    IsR (cmpP 511 (place i (R.val % 128)) (Q (R.val / 128) (R.val % 128)) (fun n d => at2 v48 n (g * 64 + d)) n) := by
  have hp := place_lt i (a := R.val % 128) (by omega)
  rcases (by omega : n < 511 ∨ n = 511) with h | rfl
  · exact cmpP_real (fun n hn => real_dot hQ (fun d hd => hk _ (by omega) _ (by omega)) R) n h
  · rw [cmpP_last (by omega)]; exact IsR.zero

/-- The output of the compressed keys. -/
theorem pay30_at (R : Fin 512) (l : Fin 128) :
    k0_pay30 (F := Ideal) v47 v48 v49 (k0_pay23 (F := Ideal) (k0_pay16 i)) (k0_pay24 (F := Ideal) (k0_pay16 i)) (ix2 R l)
      = ∑ n ∈ Finset.range 511, cmpP 511 (place i (R.val % 128)) (Q (R.val / 128) (R.val % 128)) (fun n d => at2 v48 n (g * 64 + d)) n
          * at2 v49 n l.val := by
  have hp := place_lt i (a := R.val % 128) (by omega)
  unfold k0_pay30
  pointwise
  have e := Finset.sum_range_succ (fun n => cmpP 511 (place i (R.val % 128)) (Q (R.val / 128) (R.val % 128)) (fun n d => at2 v48 n (g * 64 + d)) n
          * at2 v49 n l.val) 511
  rw [cmpP_last (by omega), zero_mul, add_zero] at e
  rw [← e, Finset.sum_range]
  exact Finset.sum_congr rfl fun n _ => by rw [pay29_at hg hv hQ i v48 hk, at2_of v49 n l]

end Cmp

/-- The importance of the blocks, from the weights of both groups. -/
theorem pay31_at (P : ℕ → ℕ → ℕ → ℕ → EReal) (v47 v48 v109 : S512x128.Idx → EReal) (v60 v77 : S512x512.Idx → EReal)
    (v65 : S512x1.Idx → EReal) (v80 v81 : S128x512.Idx → EReal)
    (h77 : ∀ R n : Fin 512, v77 (ix2 R n) = P 0 (R.val / 128) (R.val % 128) n.val)
    (h80 : ∀ (a : Fin 128) (n : Fin 512), v80 (ix2 a n) = P 0 0 a.val n.val)
    (h81 : ∀ (a : Fin 128) (n : Fin 512), v81 (ix2 a n) = P 0 1 a.val n.val)
    (h29 : ∀ R n : Fin 512, k0_pay29 (F := Ideal) v47 v48 v60 v65 (ix2 R n) = P 1 (R.val / 128) (R.val % 128) n.val)
    (hP : ∀ g < 2, ∀ r < 4, ∀ a < 128, ∀ n < 512, IsR (P g r a n)) (h0 : ∀ g < 2, ∀ r < 4, ∀ a < 128, P g r a 511 = 0)
    (hc : ∀ n < 511, ∀ s < 128, at2 v109 n s = cover n s) (A : Fin 256) (s : Fin 128) :
    k0_pay31 (F := Ideal) v47 v48 v60 v65 v77 v80 v81 v109 (ix2 A s)
      = imp 511 (fun r n => P (A.val / 128) r (A.val % 128) n) s.val := by
  have hA := A.isLt
  unfold k0_pay31
  pointwise
  simp only [h77, h80, h81, h29]
  have hS : ∀ n : Fin 512, (if h : A.val < 128 then
      P 0 0 A.val n.val + P 0 1 A.val n.val + P 0 ((256 + A.val) / 128) ((256 + A.val) % 128) n.val + P 0 ((384 + A.val) / 128) ((384 + A.val) % 128) n.val
    else P 1 ((A.val - 128) / 128) ((A.val - 128) % 128) n.val + P 1 ((128 + (A.val - 128)) / 128) ((128 + (A.val - 128)) % 128) n.val
      + P 1 ((256 + (A.val - 128)) / 128) ((256 + (A.val - 128)) % 128) n.val + P 1 ((384 + (A.val - 128)) / 128) ((384 + (A.val - 128)) % 128) n.val)
      = ∑ r ∈ Finset.range 4, P (A.val / 128) r (A.val % 128) n.val := by
    intro n
    simp only [Finset.sum_range_succ, Finset.sum_range_zero, zero_add]
    split_ifs with h
    · rw [show A.val / 128 = 0 by omega, show A.val % 128 = A.val by omega, show (256 + A.val) / 128 = 2 by omega,
        show (256 + A.val) % 128 = A.val by omega, show (384 + A.val) / 128 = 3 by omega, show (384 + A.val) % 128 = A.val by omega]
    · rw [show A.val / 128 = 1 by omega, show A.val % 128 = A.val - 128 by omega, show (A.val - 128) / 128 = 0 by omega, show (A.val - 128) % 128 = A.val - 128 by omega,
        show (128 + (A.val - 128)) / 128 = 1 by omega, show (128 + (A.val - 128)) % 128 = A.val - 128 by omega,
        show (256 + (A.val - 128)) / 128 = 2 by omega, show (256 + (A.val - 128)) % 128 = A.val - 128 by omega,
        show (384 + (A.val - 128)) / 128 = 3 by omega, show (384 + (A.val - 128)) % 128 = A.val - 128 by omega]
  have hR : ∀ n : Fin 512, IsR (∑ r ∈ Finset.range 4, P (A.val / 128) r (A.val % 128) n.val) := fun n =>
    IsR.sum _ _ fun r hr => hP _ (by omega) _ (Finset.mem_range.mp hr) _ (by omega) _ n.isLt
  simp only [hS]
  rw [Finset.sum_eq_zero (f := fun n : Fin 512 => (∑ r ∈ Finset.range 4, P (A.val / 128) r (A.val % 128) n.val - ∑ r ∈ Finset.range 4, P (A.val / 128) r (A.val % 128) n.val) * v109 (ix2 n s))
    (fun n _ => by rw [(hR n).sub_self, zero_mul]), add_zero]
  unfold imp
  have e := Finset.sum_range_succ (fun n => (∑ r ∈ Finset.range 4, P (A.val / 128) r (A.val % 128) n) * at2 v109 n s.val) 511
  rw [Finset.sum_eq_zero (f := fun r => P (A.val / 128) r (A.val % 128) 511)
    (fun r hr => h0 _ (by omega) _ (Finset.mem_range.mp hr) _ (by omega)), zero_mul, add_zero] at e
  rw [Finset.sum_congr rfl fun n (hn : n ∈ Finset.range 511) => by rw [← hc n (Finset.mem_range.mp hn) s.val s.isLt], ← e, Finset.sum_range]
  exact Finset.sum_congr rfl fun n _ => by rw [at2_of v109 n s]

end Cert.NsaIdeal.Kernel
end
end
-- ==== Proof.Nsa.Select.lean ====
/-
  The blocks that a grid point selects: their scores, and sixteen rounds that mark the first of the highest.
-/
module

public import proofs.«01_k».proof.Proof.Gen.NsaIdeal.Value
public import proofs.«01_k».proof.Proof.Nsa.Point
public import proofs.«01_k».proof.Proof.Nsa.Words
public import Idealize.ShloMosaic.Lib.Pointwise
public import Idealize.ShloMosaic.Lib.Tactic
public import Idealize.ShloMosaic.Lib.Tactic.CleanTypes

@[expose] public section

set_option maxRecDepth 16384

noncomputable section

namespace Cert.NsaIdeal.Kernel

open Idealize.ShloMosaic Idealize.ShloMosaic.TcCoe Idealize.SL.Sem
open Cert.NsaIdeal Cert.NsaIdeal.Gen Cert.Attn Cert.Word Cert.Softmax

/-! ### The scores of the blocks -/

/-- The number of a query's own block, as the kernel divides. -/
theorem own_at (i : grid0.Coords) (A : Fin 256) (z : Fin 1) :
    k0_pay35 (k0_pay32 (k0_pay15 i)) 64#32 (k0_pay33 (k0_pay15 i)) (k0_pay34 (k0_pay15 i)) 1#1 (ix2 A z) = W ((place i (A.val % 128) / 64 : ℕ)) := by
  have hA := A.isLt
  have h32 : ∀ z : Fin 1, k0_pay32 (k0_pay15 i) (ix2 A z) = W (place i (A.val % 128) : ℕ) := by
    intro z
    unfold k0_pay32
    pointwise
    split_ifs <;> rw [pay15_at] <;> refine congrArg (fun n : ℕ => W (place i n : ℕ)) ?_ <;> dsimp only <;> omega
  unfold k0_pay35
  pointwise [k0_pay33, k0_pay34]
  have hp := place_lt i (a := A.val % 128) (by omega)
  rw [h32]
  generalize place i (A.val % 128) = P at hp
  have h1 : Scalar.subi (Scalar.extui 1#1) (Scalar.extui (Scalar.cmpi CmpIPredicate.slt 64#32 0#32)) = W 1 := by decide
  rw [h1]
  simp (disch := omega) only [ofNat_W, sgt_W, slt_W, extui_ofBool, subi_W, remsi_W, divsi_W]
  rcases Nat.eq_zero_or_pos P with rfl | h0
  · rfl
  · rw [if_pos (by omega : ((0 : ℕ) : ℤ) < (P : ℤ)), if_neg (by omega : ¬(P : ℤ) < ((0 : ℕ) : ℤ))]
    simp (disch := omega) only [ne_W, andi_ofBool, select_ofBool]
    rw [if_neg (by omega)]
    exact congrArg W (by omega)

variable (v117 : S256x128.Idx → EReal) (v119 : IVec S256x128 32) (h119 : ∀ (A : Fin 256) (s : Fin 128), v119 (ix2 A s) = W (s.val : ℕ))
include h119

theorem valid_at (i : grid0.Coords) (A : Fin 256) (s : Fin 128) :
    k0_pay36 (k0_pay32 (k0_pay15 i)) v119 64#32 (k0_pay33 (k0_pay15 i)) (k0_pay34 (k0_pay15 i)) 1#1 (ix2 A s)
      = BitVec.ofBool (decide (s.val ≤ place i (A.val % 128) / 64)) := by
  unfold k0_pay36
  pointwise
  rw [own_at, h119]
  have hp := place_lt i (a := A.val % 128) (by omega)
  simp (disch := omega) only [sle_W, Nat.cast_le]

/-- The scores of the blocks. -/
theorem score_at (i : grid0.Coords) (A : Fin 256) (s : Fin 128) :
    k0_pay37 (F := Ideal) v117 (k0_pay32 (k0_pay15 i)) v119 64#32 (k0_pay33 (k0_pay15 i)) (k0_pay34 (k0_pay15 i)) 1#1 (ix2 A s)
      = score (place i (A.val % 128)) (fun s => at2 v117 A s) s := by
  unfold k0_pay37
  pointwise
  rw [valid_at v119 h119, own_at, h119, mask_eq]
  have hp := place_lt i (a := A.val % 128) (by omega)
  have hs := s.isLt
  simp (disch := omega) only [show (0#32 : BitVec 32) = W 0 from rfl, show (1#32 : BitVec 32) = W 1 from rfl, eq_W, subi_W, ori_ofBool, select_ofBool]
  unfold score
  refine if_congr Iff.rfl (if_congr (by omega) rfl ?_) rfl
  exact at2_of v117 A s
omit h119

/-! ### Sixteen rounds -/

/-- The scores after some rounds: each round strikes the first of the highest. -/
def workN (B w : S256x128.Idx → EReal) : ℕ → S256x128.Idx → EReal
  | 0 => w
  | n + 1 => k0_pay43 (F := Ideal) B (workN B w n)

/-- The marks after some rounds. -/
def selN (B w s : S256x128.Idx → EReal) : ℕ → S256x128.Idx → EReal
  | 0 => s
  | n + 1 => select (k0_pay42 (F := Ideal) B (workN B w n)) (broadcast S256x128 (Scalar.ofBits (F := Ideal) (φ := .f32) 0x3F800000#32)) (selN B w s n)

theorem workN_add (B w : S256x128.Idx → EReal) (m n : ℕ) : workN B (workN B w m) n = workN B w (m + n) := by
  induction n with
  | zero => rfl
  | succ n ih => rw [workN, ih]; rfl

theorem selN_add (B w s : S256x128.Idx → EReal) (m n : ℕ) : selN B (workN B w m) (selN B w s m) n = selN B w s (m + n) := by
  induction n with
  | zero => rfl
  | succ n ih => rw [selN, ih, workN_add]; rfl

/-- No marks. -/
def none0 : S256x128.Idx → EReal := broadcast S256x128 (Scalar.ofBits (F := Ideal) (φ := .f32) 0x00000000#32)

section Steps
variable (v118 v121 v128 : IVec S256x1 32) (c : BitVec 32) (v129 : BitVec 1) (B w s m v264 : S256x128.Idx → EReal)
variable (e : IVec S256x128 1) (v308 : S256.Idx → EReal)

theorem step1 : k0_pay40 (F := Ideal) v117 v118 v119 c v121 v128 v129
    = selN (k0_pay38 (F := Ideal) v119) (k0_pay37 (F := Ideal) v117 v118 v119 c v121 v128 v129) none0 1 := rfl
theorem step1' : k0_pay41 (F := Ideal) v117 v118 v119 c v121 v128 v129
    = workN (k0_pay38 (F := Ideal) v119) (k0_pay37 (F := Ideal) v117 v118 v119 c v121 v128 v129) 1 := rfl
theorem step2 : k0_pay47 (F := Ideal) B s w = selN B w s 3 := rfl
theorem step2' : k0_pay48 (F := Ideal) B w = workN B w 3 := rfl
theorem step3 : k0_pay55 (F := Ideal) B s (k0_pay48 (F := Ideal) B w) (k0_pay49 (F := Ideal) B w) = selN B (k0_pay48 (F := Ideal) B w) s 3 := rfl
theorem step3' : k0_pay56 (F := Ideal) B (k0_pay48 (F := Ideal) B w) (k0_pay49 (F := Ideal) B w) = workN B (k0_pay48 (F := Ideal) B w) 3 := rfl
theorem step4 : k0_pay64 (F := Ideal) B s (k0_pay56 (F := Ideal) B w m) (k0_pay57 (F := Ideal) B w m) (k0_pay58 (F := Ideal)) = selN B (k0_pay56 (F := Ideal) B w m) s 3 := rfl
theorem step4' : k0_pay65 (F := Ideal) B (k0_pay56 (F := Ideal) B w m) (k0_pay57 (F := Ideal) B w m) (k0_pay58 (F := Ideal)) = workN B (k0_pay56 (F := Ideal) B w m) 3 := rfl
theorem step5 : k0_pay72 (F := Ideal) B s (k0_pay65 (F := Ideal) B w e v264) (k0_pay66 (F := Ideal) B w e v264) = selN B (k0_pay65 (F := Ideal) B w e v264) s 3 := rfl
theorem step5' : k0_pay73 (F := Ideal) B (k0_pay65 (F := Ideal) B w e v264) (k0_pay66 (F := Ideal) B w e v264) = workN B (k0_pay65 (F := Ideal) B w e v264) 3 := rfl
theorem step6 : k0_pay75 (F := Ideal) e B s (k0_pay73 (F := Ideal) B w v308) (k0_pay74 (F := Ideal) B w v308)
    = select e (selN B (k0_pay73 (F := Ideal) B w v308) s 3) none0 := rfl
end Steps

theorem bot_bits : Ideal.ofBits .f32 0xFF800000#32 = (⊥ : EReal) := by simp [Ideal.ofBits, Ideal.ieee]
theorem top_bits : Ideal.ofBits .f32 0x7F800000#32 = (⊤ : EReal) := by simp [Ideal.ofBits, Ideal.ieee]
theorem lanes_bits : Ideal.ofBits .f32 0x43000000#32 = ((128 : ℝ) : EReal) := by
  show Ideal.ieee 8 23 0x43000000#32 = _
  unfold Ideal.ieee
  dsimp only
  rw [if_neg (by decide), if_neg (by decide), if_neg (by decide)]
  norm_num [show (0x43000000#32 : BitVec 32).extractLsb' 23 8 = 134#8 by decide, show (0x43000000#32 : BitVec 32).extractLsb' 0 23 = 0#23 by decide]

theorem exists_first {n : ℕ} (w : Fin (n + 1) → EReal) : ∃ f, Topk.First w f := by
  classical
  obtain ⟨m, hm⟩ := Finite.exists_max w
  have hne : (Finset.univ.filter fun f => ∀ k, w k ≤ w f).Nonempty := ⟨m, by simpa using hm⟩
  have h := (Finset.mem_filter.mp (Finset.min'_mem _ hne)).2
  exact ⟨_, h, fun k e => Finset.min'_le _ k (by simpa [e] using h)⟩

/-- One round: the mark is at the first of the highest. -/
theorem pay42_at (B w : S256x128.Idx → EReal) (hB : ∀ (A : Fin 256) (s : Fin 128), B (ix2 A s) = ((s.val : ℝ) : EReal)) (A : Fin 256) :
    ∃ f, Topk.First (fun s : Fin 128 => w (ix2 A s)) f ∧ ∀ s : Fin 128, k0_pay42 (F := Ideal) B w (ix2 A s) = BitVec.ofBool (decide (s = f)) := by
  obtain ⟨f, hf⟩ : ∃ f, Topk.First (fun s : Fin 128 => w (ix2 A s)) f := exists_first _
  refine ⟨f, hf, fun s => ?_⟩
  unfold k0_pay42
  pointwise
  have hmax : Finset.univ.fold max (Ideal.ofBits FTy.f32 4286578688#32) (fun x : Fin 128 => w (ix2 A x)) = w (ix2 A f) := by
    rw [bot_bits]
    exact le_antisymm (Finset.sup_le fun k _ => hf.max k) (Finset.le_sup (f := fun x : Fin 128 => w (ix2 A x)) (Finset.mem_univ f))
  have hmin : Finset.univ.fold min (Ideal.ofBits FTy.f32 2139095040#32) (fun x : Fin 128 => if w (ix2 A x) = w (ix2 A f) then B (ix2 A x) else Ideal.ofBits FTy.f32 1124073472#32)
      = ((f.val : ℝ) : EReal) := by
    rw [top_bits, lanes_bits]
    refine le_antisymm ((Finset.inf_le (f := fun x : Fin 128 => if w (ix2 A x) = w (ix2 A f) then B (ix2 A x) else ((128 : ℝ) : EReal)) (Finset.mem_univ f)).trans ?_)
      (Finset.le_inf (f := fun x : Fin 128 => if w (ix2 A x) = w (ix2 A f) then B (ix2 A x) else ((128 : ℝ) : EReal)) fun k _ => ?_)
    · simp only [if_true, hB]; exact le_rfl
    · split_ifs with h
      · rw [hB]
        exact EReal.coe_le_coe_iff.mpr (Nat.cast_le.mpr (hf.first k h))
      · exact EReal.coe_le_coe_iff.mpr (by have := f.isLt; exact_mod_cast this.le)
  rw [hmax, hmin, hB]
  congr 1
  refine decide_eq_decide.mpr ?_
  rw [EReal.coe_eq_coe_iff, Nat.cast_inj, Fin.val_inj]

section Rounds
variable (B w : S256x128.Idx → EReal) (hB : ∀ (A : Fin 256) (s : Fin 128), B (ix2 A s) = ((s.val : ℝ) : EReal)) (A : Fin 256)

/-- The place that a round marks in a row. -/
def mark (n : ℕ) : Fin 128 := (pay42_at B (workN B w n) hB A).choose
theorem mark_first (n : ℕ) : Topk.First (fun s : Fin 128 => workN B w n (ix2 A s)) (mark B w hB A n) := (pay42_at B (workN B w n) hB A).choose_spec.1
theorem mark_hit (n : ℕ) (s : Fin 128) :
    k0_pay42 (F := Ideal) B (workN B w n) (ix2 A s) = BitVec.ofBool (decide (s = mark B w hB A n)) := (pay42_at B (workN B w n) hB A).choose_spec.2 s

/-- The places marked before a round. -/
def marks : ℕ → Finset (Fin 128)
  | 0 => ∅
  | n + 1 => insert (mark B w hB A n) (marks n)

theorem workN_at (n : ℕ) (s : Fin 128) :
    workN B w n (ix2 A s) = Topk.strike (fun s : Fin 128 => w (ix2 A s)) (marks B w hB A n) s := by
  induction n with
  | zero => unfold Topk.strike marks; rw [if_neg (by simp)]; rfl
  | succ n ih =>
    unfold workN k0_pay43
    pointwise
    rw [mark_hit B w hB A, select_ofBool, ih, bot_bits]
    unfold Topk.strike
    rw [marks]
    by_cases h : s = mark B w hB A n
    · rw [if_pos h, if_pos (by rw [h]; exact Finset.mem_insert_self _ _)]
    · rw [if_neg h]
      exact if_congr (by rw [Finset.mem_insert]; exact ⟨Or.inr, fun h' => h'.resolve_left h⟩) rfl rfl

theorem selN_at (n : ℕ) (s : Fin 128) : selN B w none0 n (ix2 A s) = if s ∈ marks B w hB A n then 1 else 0 := by
  induction n with
  | zero =>
    unfold selN marks none0
    rw [if_neg (by simp)]
    exact Ideal.ofBits_zero_f32
  | succ n ih =>
    show Scalar.select (k0_pay42 (F := Ideal) B (workN B w n) (ix2 A s)) (Ideal.ofBits .f32 0x3F800000#32) (selN B w none0 n (ix2 A s)) = _
    rw [mark_hit B w hB A, select_ofBool, ih, Ideal.ofBits_one_f32, marks]
    by_cases h : s = mark B w hB A n
    · rw [if_pos h, if_pos (by rw [h]; exact Finset.mem_insert_self _ _)]
    · rw [if_neg h]
      exact if_congr (by rw [Finset.mem_insert]; exact ⟨Or.inr, fun h' => h'.resolve_left h⟩) rfl rfl

/-- The marks after some rounds: among the scores above `⊥`, those of that many highest. -/
theorem mem_marks (n : ℕ) (s : Fin 128) (hs : w (ix2 A s) ≠ ⊥) :
    s ∈ marks B w hB A n ↔ Topk.rank (fun s : Fin 128 => w (ix2 A s)) s < n := by
  refine Topk.rounds (fun s : Fin 128 => w (ix2 A s)) (marks B w hB A) rfl (fun n => ⟨mark B w hB A n, ?_, rfl⟩) n s hs
  have h := mark_first B w hB A n
  rwa [show (fun s : Fin 128 => workN B w n (ix2 A s)) = Topk.strike (fun s : Fin 128 => w (ix2 A s)) (marks B w hB A n) from
    funext fun s => workN_at B w hB A n s] at h
end Rounds

theorem pay38_at (h119 : ∀ (A : Fin 256) (s : Fin 128), v119 (ix2 A s) = W (s.val : ℕ)) (A : Fin 256) (s : Fin 128) :
    k0_pay38 (F := Ideal) v119 (ix2 A s) = ((s.val : ℝ) : EReal) := by
  show FloatOps.sitofp (F := Ideal) FTy.f32 (v119 (ix2 A s)) = _
  have hs := s.isLt
  rw [h119, sitofp_W (by omega) (by omega)]
  norm_cast

/-- What a grid point selects: `1` at the blocks in reach that are among the sixteen highest, `0` elsewhere. -/
theorem select_at (h119 : ∀ (A : Fin 256) (s : Fin 128), v119 (ix2 A s) = W (s.val : ℕ)) (i : grid0.Coords)
    (hI : ∀ (A : Fin 256) (s : Fin 128), IsR (v117 (ix2 A s))) (A : Fin 256) (s : Fin 128) [Decidable (Sel (place i (A.val % 128)) (fun s => at2 v117 A s) s)] :
    select (k0_pay36 (k0_pay32 (k0_pay15 i)) v119 64#32 (k0_pay33 (k0_pay15 i)) (k0_pay34 (k0_pay15 i)) 1#1)
      (selN (k0_pay38 (F := Ideal) v119) (k0_pay37 (F := Ideal) v117 (k0_pay32 (k0_pay15 i)) v119 64#32 (k0_pay33 (k0_pay15 i)) (k0_pay34 (k0_pay15 i)) 1#1) none0 16)
      none0 (ix2 A s)
      = if s.val ≤ place i (A.val % 128) / 64 ∧ Sel (place i (A.val % 128)) (fun s => at2 v117 A s) s then 1 else 0 := by
  show Scalar.select (k0_pay36 (k0_pay32 (k0_pay15 i)) v119 64#32 (k0_pay33 (k0_pay15 i)) (k0_pay34 (k0_pay15 i)) 1#1 (ix2 A s))
    (selN (k0_pay38 (F := Ideal) v119) (k0_pay37 (F := Ideal) v117 (k0_pay32 (k0_pay15 i)) v119 64#32 (k0_pay33 (k0_pay15 i)) (k0_pay34 (k0_pay15 i)) 1#1) none0 16 (ix2 A s)) (Ideal.ofBits .f32 0x00000000#32) = _
  rw [valid_at v119 h119, select_ofBool, selN_at _ _ (pay38_at v119 h119), Ideal.ofBits_zero_f32]
  have hsc := score_at v117 v119 h119 i A
  by_cases hv : s.val ≤ place i (A.val % 128) / 64
  · have hne : k0_pay37 (F := Ideal) v117 (k0_pay32 (k0_pay15 i)) v119 64#32 (k0_pay33 (k0_pay15 i)) (k0_pay34 (k0_pay15 i)) 1#1 (ix2 A s) ≠ ⊥ := by
      rw [hsc]
      unfold score
      rw [if_pos hv]
      split_ifs
      · exact force_ne_bot
      · show at2 v117 A s ≠ ⊥
        rw [← at2_of v117 A s]; exact (hI A s).ne_bot
    rw [if_pos hv]
    refine if_congr ((mem_marks _ _ (pay38_at v119 h119) A 16 s hne).trans ?_) rfl rfl
    rw [show (fun s : Fin 128 => k0_pay37 (F := Ideal) v117 (k0_pay32 (k0_pay15 i)) v119 64#32 (k0_pay33 (k0_pay15 i)) (k0_pay34 (k0_pay15 i)) 1#1 (ix2 A s))
      = fun s : Fin 128 => score (place i (A.val % 128)) (fun s => at2 v117 A s) s.val from funext hsc]
    exact ⟨fun h => ⟨hv, s.isLt, h⟩, fun h => h.2.2⟩
  · rw [if_neg hv, if_neg (fun h => hv h.1)]

/-- The marks of the sixteen rounds, as the kernel goes through them. -/
theorem picked {v118 v121 v128 : IVec S256x1 32} {c : BitVec 32} {v129 : BitVec 1} {e r28 r34 : IVec S256x128 1}
    {B r21 r22 r23 r24 r25 r26 r27 r29 r30 r32 r33 : S256x128.Idx → EReal} {e31 : S256.Idx → EReal}
    (hB : B = k0_pay38 (F := Ideal) v119)
    (h21 : r21 = k0_pay40 (F := Ideal) v117 v118 v119 c v121 v128 v129) (h22 : r22 = k0_pay41 (F := Ideal) v117 v118 v119 c v121 v128 v129)
    (h23 : r23 = k0_pay47 (F := Ideal) B r21 r22) (h24 : r24 = k0_pay48 (F := Ideal) B r22) (h25 : r25 = k0_pay49 (F := Ideal) B r22)
    (h26 : r26 = k0_pay55 (F := Ideal) B r23 r24 r25) (h27 : r27 = k0_pay56 (F := Ideal) B r24 r25) (h28 : r28 = k0_pay57 (F := Ideal) B r24 r25)
    (h29 : r29 = k0_pay64 (F := Ideal) B r26 r27 r28 (k0_pay58 (F := Ideal))) (h30 : r30 = k0_pay65 (F := Ideal) B r27 r28 (k0_pay58 (F := Ideal)))
    (h31 : e31 = k0_pay66 (F := Ideal) B r27 r28 (k0_pay58 (F := Ideal)))
    (h32 : r32 = k0_pay72 (F := Ideal) B r29 r30 e31) (h33 : r33 = k0_pay73 (F := Ideal) B r30 e31) (h34 : r34 = k0_pay74 (F := Ideal) B r30 e31) :
    k0_pay75 (F := Ideal) e B r32 r33 r34
      = select e (selN (k0_pay38 (F := Ideal) v119) (k0_pay37 (F := Ideal) v117 v118 v119 c v121 v128 v129) none0 16) none0 := by
  subst hB h34 h33 h32 h31 h30 h29 h28 h27 h26 h25 h24 h23 h22 h21
  rw [step6, step5, step5', step4, step4', step3, step3', step2, step2', step1, step1']
  simp only [workN_add, selN_add]

end Cert.NsaIdeal.Kernel
end
end
-- ==== Proof.Nsa.Window.lean ====
/-
  The window: the keys of the last 512 places.
-/
module

public import proofs.«01_k».proof.Proof.Gen.NsaIdeal.Value
public import proofs.«01_k».proof.Proof.Nsa.Point
public import proofs.«01_k».proof.Proof.Nsa.Words
public import Idealize.ShloMosaic.Lib.Pointwise
public import Idealize.ShloMosaic.Lib.Tactic
public import Idealize.ShloMosaic.Lib.Tactic.CleanTypes

@[expose] public section

set_option maxRecDepth 16384

noncomputable section

namespace Cert.NsaIdeal.Kernel

open Idealize.ShloMosaic Idealize.ShloMosaic.TcCoe Idealize.SL.Sem
open Cert.NsaIdeal Cert.NsaIdeal.Gen Cert.Attn Cert.Word Cert.Softmax

/-! ### The scores of the blocks -/

/-- The first place of a query block, as the kernel computes it. -/
abbrev base (i : grid0.Coords) : BitVec 32 := Scalar.muli (BitVec.ofNat 32 (i 1).val) 128#32

/-- The first key of the window of a query block. -/
def start (i : grid0.Coords) : ℕ := (i 1).val * 128 - 512

theorem qb_lt (i : grid0.Coords) : (i 1).val < 64 := (i 1).isLt
theorem place_eq (i : grid0.Coords) (a : ℕ) : place i a = (i 1).val * 128 + a := rfl

theorem start_W (i : grid0.Coords) : Scalar.maxsi (Scalar.subi (base i) 512#32) 0#32 = W (start i : ℕ) := by
  have h := qb_lt i
  show IntOp.maxsi (IntOp.subi (IntOp.muli (W ((i 1).val : ℕ)) (W (128 : ℕ))) (W (512 : ℕ))) (W (0 : ℕ)) = _
  rw [muli_W, subi_W, maxsi_W (by omega) (by omega) (by omega) (by omega)]
  refine congrArg W ?_
  unfold start
  omega

theorem start_nat (i : grid0.Coords) : (Scalar.maxsi (Scalar.subi (base i) 512#32) 0#32).toNat = start i := by
  have h := qb_lt i
  rw [start_W]
  show (BitVec.ofNat 32 (start i)).toNat = _
  rw [BitVec.toNat_ofNat, Nat.mod_eq_of_lt]
  unfold start
  omega

theorem pay78_at (i : grid0.Coords) (z : Fin 1) (k : Fin 640) : k0_pay78 (base i) (ix2 z k) = W ((start i + k.val : ℕ)) := by
  unfold k0_pay78
  pointwise
  rw [start_W, ofNat_W, addi_W]
  refine congrArg W ?_
  push_cast
  rfl

theorem pay79_at (i : grid0.Coords) (a : Fin 128) (k : Fin 640) :
    k0_pay79 (base i) (k0_pay15 i) (ix2 a k) = BitVec.ofBool (decide (start i + k.val ≤ place i a.val)) := by
  have hp := place_lt i (a := a.val) (by omega)
  have hb := qb_lt i
  have hs : start i < 8192 := by unfold start; omega
  unfold k0_pay79
  pointwise
  rw [pay78_at, pay15_at, sle_W (by omega) (by omega) (by omega) (by omega)]
  simp only [Nat.cast_le]

/-- The bias of a key: `0` in the window, `⊥` outside. -/
theorem pay81_at (i : grid0.Coords) (R : Fin 512) (k : Fin 640) :
    k0_pay81 (F := Ideal) (k0_pay15 i) (k0_pay78 (base i)) (k0_pay79 (base i) (k0_pay15 i)) k0_pay80 (ix2 R k)
      = if start i + k.val ≤ place i (R.val % 128) ∧ place i (R.val % 128) < start i + k.val + 512 then 0 else ⊥ := by
  have hp := place_lt i (a := R.val % 128) (by omega)
  have hb := qb_lt i
  have hs : start i < 8192 := by unfold start; omega
  have hR := R.isLt
  have key : ∀ a : Fin 128, a.val = R.val % 128 → Scalar.select (IntOp.andi (k0_pay79 (base i) (k0_pay15 i) (ix2 a k))
      (IntOp.cmpi .sgt (k0_pay78 (base i) (ix2 (0 : Fin 1) k)) (IntOp.subi (k0_pay15 i (ix2 a (0 : Fin 1))) 512#32))) (0 : EReal) ⊥
      = if start i + k.val ≤ place i (R.val % 128) ∧ place i (R.val % 128) < start i + k.val + 512 then 0 else ⊥ := by
    intro a ha
    rw [pay79_at, pay78_at, pay15_at, ha, ofNat_W, subi_W, sgt_W (by omega) (by omega) (by omega) (by omega), andi_ofBool, select_ofBool]
    exact if_congr (by omega) rfl rfl
  unfold k0_pay81
  pointwise [k0_pay80]
  rw [mask_eq]
  by_cases h1 : R.val < 128
  · rw [dif_pos h1]; exact key _ (by show R.val = _; omega)
  rw [dif_neg h1]
  by_cases h2 : R.val - 128 < 128
  · rw [dif_pos h2]; exact key _ (by show R.val - 128 = _; omega)
  rw [dif_neg h2]
  by_cases h3 : R.val - 128 - 128 < 128
  · rw [dif_pos h3]; exact key _ (by show R.val - 128 - 128 = _; omega)
  rw [dif_neg h3]
  exact key _ (by show R.val - 128 - 128 - 128 = _; omega)

section Win
variable {Q : ℕ → ℕ → ℕ → EReal} {g : ℕ} (hg : g < 2) {v47 : S512x128.Idx → EReal} (hv : Holds Q g v47) (hQ : RealQ Q)
variable (i : grid0.Coords) (K V : S640x128.Idx → EReal) (KK VV : ℕ → ℕ → EReal) (hK : RealM K)
variable (hKK : ∀ (k : Fin 640) (l : Fin 128), K (ix2 k l) = KK (start i + k.val) l.val)
variable (hVV : ∀ (k : Fin 640) (l : Fin 128), V (ix2 k l) = VV (start i + k.val) l.val)
include hg hv hQ hK hKK

theorem win_score (R : Fin 512) (k : Fin 640) :
    ∑ x, v47 (ix2 R x) * K (ix2 k x) + k0_pay81 (F := Ideal) (k0_pay15 i) (k0_pay78 (base i)) (k0_pay79 (base i) (k0_pay15 i)) k0_pay80 (ix2 R k)
      = winW (place i (R.val % 128)) (Q (R.val / 128) (R.val % 128)) (fun n d => KK n (g * 64 + d)) (start i + k.val) * c2 := by
  rw [pay81_at]
  have e := scores_at hg hv hQ (KK (start i + k.val)) (fun l hl => by rw [← hKK k ⟨l, hl⟩, at2_of K k ⟨l, hl⟩]; exact hK _ k.isLt _ hl) R
  rw [show (∑ x : Fin 128, v47 (ix2 R x) * K (ix2 k x)) = ∑ l : Fin 128, v47 (ix2 R l) * KK (start i + k.val) l.val from
    Finset.sum_congr rfl fun l _ => by rw [hKK], e, bias_scale]
  rfl

include hVV
/-- The output of the window: the softmax over all keys of the window's scores. -/
theorem pay85_at (R : Fin 512) (l : Fin 128) :
    k0_pay85 (F := Ideal) (k0_pay15 i) v47 (k0_pay78 (base i)) (k0_pay79 (base i) (k0_pay15 i)) k0_pay80 K V (ix2 R l)
      = soft (Finset.range 8192) (winW (place i (R.val % 128)) (Q (R.val / 128) (R.val % 128)) (fun n d => KK n (g * 64 + d))) (fun k => VV k l.val) := by
  have hp := place_lt i (a := R.val % 128) (by omega)
  have hb := qb_lt i
  have hr : R.val % 128 < 128 := by omega
  set w := winW (place i (R.val % 128)) (Q (R.val / 128) (R.val % 128)) (fun n d => KK n (g * 64 + d)) with hw
  have hin : ∀ k, k ≤ place i (R.val % 128) ∧ place i (R.val % 128) < k + 512 → start i ≤ k ∧ k < start i + 640 := by
    intro k hk
    have := place_eq i (R.val % 128)
    unfold start
    omega
  have hreal : ∀ k, k ≤ place i (R.val % 128) ∧ place i (R.val % 128) < k + 512 → IsR (w k) := by
    intro k hk
    rw [hw]
    unfold winW
    rw [if_pos hk]
    refine real_dot hQ (fun d hd => ?_) R
    have h := hin k hk
    have e := hKK ⟨k - start i, by omega⟩ ⟨g * 64 + d, by omega⟩
    dsimp only at e
    rw [show start i + (k - start i) = k by omega] at e
    show IsR (KK k (g * 64 + d))
    rw [← e, at2_of K]
    exact hK _ (by dsimp only; omega) _ (by dsimp only; omega)
  have hbot : ∀ k, ¬(k ≤ place i (R.val % 128) ∧ place i (R.val % 128) < k + 512) → w k = ⊥ := by
    intro k hk; rw [hw]; unfold winW; rw [if_neg hk]
  have hnt : ∀ k, w k ≠ ⊤ := by
    intro k
    by_cases hk : k ≤ place i (R.val % 128) ∧ place i (R.val % 128) < k + 512
    · exact (hreal k hk).ne_top
    · rw [hbot k hk]; exact bot_ne_top
  have h0 := hin (place i (R.val % 128)) ⟨le_rfl, by omega⟩
  have hk0 : w (start i + (place i (R.val % 128) - start i)) ≠ ⊥ := by
    rw [show start i + (place i (R.val % 128) - start i) = place i (R.val % 128) by omega]
    exact (hreal _ ⟨le_rfl, by omega⟩).ne_bot
  rw [← soft_window w (fun k => VV k l.val) (start i) 640 8192 (by unfold start; omega)
    (fun k _ hk => hbot k fun hk' => by have := hin k hk'; omega) hnt (k0 := place i (R.val % 128) - start i) (by omega) hk0,
    ← soft_run (fun l => w (start i + l)) (fun k => VV (start i + k) l.val) 640 (fun k => hnt _) (k0 := place i (R.val % 128) - start i) (by omega) hk0]
  unfold k0_pay85
  pointwise
  simp only [win_score hg hv hQ i K KK hK hKK, hVV]
  unfold runSum runMax
  rw [fold_max_range (fun k => w (start i + k) * c2), Finset.sum_range, Finset.sum_range]
  simp only [mul_one]
  rfl

theorem pay84_at (R : Fin 512) (l : Fin 128) :
    k0_pay84 (F := Ideal) (k0_pay15 i) v47 (k0_pay78 (base i)) (k0_pay79 (base i) (k0_pay15 i)) k0_pay80 K V (ix2 R l)
      = soft (Finset.range 8192) (winW (place i (R.val % 128)) (Q (R.val / 128) (R.val % 128)) (fun n d => KK n (g * 64 + d))) (fun k => VV k l.val) :=
  pay85_at hg hv hQ i K V KK VV hK hKK hVV R l
end Win

end Cert.NsaIdeal.Kernel
end
end
-- ==== Proof.Nsa.Loop.lean ====
/-
  The loop over the keys of the selected blocks: running maxima and running sums.
-/
module

public import proofs.«01_k».proof.Proof.Gen.NsaIdeal.Value
public import proofs.«01_k».proof.Proof.Nsa.Point
public import proofs.«01_k».proof.Proof.Nsa.Window
public import Idealize.ShloMosaic.Lib.Pointwise
public import Idealize.ShloMosaic.Lib.Tactic
public import Idealize.ShloMosaic.Lib.Tactic.CleanTypes

@[expose] public section

set_option maxRecDepth 16384

noncomputable section

namespace Cert.NsaIdeal.Kernel

open Idealize.ShloMosaic Idealize.ShloMosaic.TcCoe Idealize.SL.Sem
open Cert.NsaIdeal Cert.NsaIdeal.Gen Cert.Attn Cert.Word Cert.Softmax

/-! ### The scores of the blocks -/

/-! ### The trips -/

/-- How often the loop runs: as many stretches of 1024 keys as reach past the query block. -/
def runs (i : grid0.Coords) : ℕ := ((i 1).val * 128 + 1151) / 1024

theorem runs_le (i : grid0.Coords) : runs i ≤ 8 := by have := qb_lt i; unfold runs; omega

theorem ub_W (i : grid0.Coords) : (k0_t1_loop i).ub = W (runs i : ℕ) := by
  have hb := qb_lt i
  have hc : Scalar.subi (Scalar.extui (Scalar.cmpi .sgt 1024#32 0#32)) (Scalar.extui (Scalar.cmpi .slt 1024#32 0#32)) = W 1 := by decide
  unfold k0_t1_loop
  dsimp only
  rw [hc]
  simp only [Scalar.muli, Scalar.addi, Scalar.subi, Scalar.cmpi, Scalar.extui, Scalar.remsi, Scalar.divsi, Scalar.andi]
  simp (disch := omega) only [ofNat_W, muli_W, addi_W, subi_W, sgt_W, slt_W, extui_ofBool, remsi_W, divsi_W]
  rw [if_pos (by omega), if_neg (by omega)]
  simp (disch := omega) only [ne_W, andi_ofBool, select_ofBool]
  rw [if_neg (by omega)]
  simp (disch := omega) only [muli_W, addi_W, subi_W, divsi_W]
  exact congrArg W (by unfold runs; omega)

theorem ub2_W (i : grid0.Coords) : (k0_t2_loop i).ub = W (runs i : ℕ) := by
  have hb := qb_lt i
  have hc : Scalar.subi (Scalar.extui (Scalar.cmpi .sgt 1024#32 0#32)) (Scalar.extui (Scalar.cmpi .slt 1024#32 0#32)) = W 1 := by decide
  unfold k0_t2_loop
  dsimp only
  rw [hc]
  simp only [Scalar.muli, Scalar.addi, Scalar.subi, Scalar.cmpi, Scalar.extui, Scalar.remsi, Scalar.divsi, Scalar.andi]
  simp (disch := omega) only [ofNat_W, muli_W, addi_W, subi_W, sgt_W, slt_W, extui_ofBool, remsi_W, divsi_W]
  rw [if_pos (by omega), if_neg (by omega)]
  simp (disch := omega) only [ne_W, andi_ofBool, select_ofBool]
  rw [if_neg (by omega)]
  simp (disch := omega) only [muli_W, addi_W, subi_W, divsi_W]
  exact congrArg W (by unfold runs; omega)

theorem trips1 (i : grid0.Coords) : Scf.trips (k0_t1_loop i).lb (k0_t1_loop i).ub (k0_t1_loop i).st = runs i := by
  have h := runs_le i
  rw [ub_W]
  unfold Scf.trips
  rw [toInt_W (by omega) (by omega)]
  show ((((runs i : ℕ) : ℤ) - (0#32 : BitVec 32).toInt + (1#32 : BitVec 32).toInt - 1) / (1#32 : BitVec 32).toInt).toNat = _
  rw [show (0#32 : BitVec 32).toInt = 0 by decide, show (1#32 : BitVec 32).toInt = 1 by decide]
  omega

theorem trips2 (i : grid0.Coords) : Scf.trips (k0_t2_loop i).lb (k0_t2_loop i).ub (k0_t2_loop i).st = 0 := by
  have h := runs_le i
  have e : (k0_t2_loop i).lb = (k0_t1_loop i).ub := rfl
  rw [e, ub_W, ub2_W]
  unfold Scf.trips
  rw [toInt_W (by omega) (by omega)]
  show ((((runs i : ℕ) : ℤ) - ((runs i : ℕ) : ℤ) + (1#32 : BitVec 32).toInt - 1) / (1#32 : BitVec 32).toInt).toNat = _
  rw [show (1#32 : BitVec 32).toInt = 1 by decide]
  omega

theorem iv_W (k : ℕ) : Scf.iv 0#32 1#32 k = W (k : ℕ) := by
  unfold Scf.iv
  show BitVec.ofNat 32 0 + BitVec.ofNat 32 k * BitVec.ofNat 32 1 = BitVec.ofNat 32 k
  rw [← BitVec.ofNat_mul, ← BitVec.ofNat_add]
  congr 1
  omega

variable (i : grid0.Coords) (k : Fin (k0_t1_loop i).trips)

theorem trip_lt : k.val < runs i := lt_of_lt_of_eq k.isLt (trips1 i)
theorem trip_le : k.val < 8 := (trip_lt i k).trans_le (runs_le i)

/-! ### One trip's masks -/

theorem pay3_at (a : Fin 128) (n : Fin 1024) :
    k0_pay3 i (k0_pay15 i) 0#32 1#32 k (ix2 a n) = BitVec.ofBool (decide (k.val * 1024 + n.val ≤ place i a.val)) := by
  have hp := place_lt i (a := a.val) (by omega)
  have hk := trip_le i k
  unfold k0_pay3
  pointwise
  rw [iv_W, pay15_at]
  simp only [Scalar.muli]
  simp (disch := omega) only [ofNat_W, muli_W, addi_W, sle_W]
  congr 1
  exact decide_eq_decide.mpr (by omega)

theorem half_bits : Ideal.ofBits .f32 0x3F000000#32 = ((1 / 2 : ℝ) : EReal) := by
  show Ideal.ieee 8 23 0x3F000000#32 = _
  unfold Ideal.ieee
  dsimp only
  rw [if_neg (by decide), if_neg (by decide), if_neg (by decide)]
  norm_num [show (0x3F000000#32 : BitVec 32).extractLsb' 23 8 = 126#8 by decide, show (0x3F000000#32 : BitVec 32).extractLsb' 0 23 = 0#23 by decide]

/-- The selected blocks, spread over the keys. -/
theorem pay7_at (S : ℕ → ℕ → Prop) [∀ a s, Decidable (S a s)] (v388 : S128x128.Idx → EReal) (v611 : S128x1024.Idx → EReal)
    (hS : ∀ a s : Fin 128, v388 (ix2 a s) = if S a.val s.val then 1 else 0)
    (hE : ∀ (s : Fin 128) (n : Fin 1024), v611 (ix2 s n) = if s.val = (k.val * 1024 + n.val) / 64 then 1 else 0) (a : Fin 128) (n : Fin 1024) :
    k0_pay7 (F := Ideal) v388 v611 (ix2 a n) = BitVec.ofBool (decide (S a.val ((k.val * 1024 + n.val) / 64))) := by
  have hk := trip_le i k
  unfold k0_pay7
  pointwise [k0_pay2]
  simp only [hS, hE]
  rw [half_bits, Finset.sum_eq_single (⟨(k.val * 1024 + n.val) / 64, by omega⟩ : Fin 128)
    (fun s _ hs => by rw [if_neg (fun h => hs (Fin.ext h)), mul_zero]) (fun h => absurd (Finset.mem_univ _) h)]
  rw [if_pos rfl, mul_one]
  refine congrArg BitVec.ofBool (decide_eq_decide.mpr ?_)
  by_cases h : S a.val ((k.val * 1024 + n.val) / 64)
  · rw [if_pos h]
    exact ⟨fun _ => h, fun _ => by rw [← EReal.coe_one, EReal.coe_lt_coe_iff]; norm_num⟩
  · rw [if_neg h]
    exact ⟨fun h' => absurd h' (by rw [← EReal.coe_zero, EReal.coe_lt_coe_iff]; norm_num), fun h' => absurd h' h⟩

theorem mul_c2_ne_top {x : EReal} (h : x ≠ ⊤) : x * c2 ≠ ⊤ := by
  induction x with
  | top => exact absurd rfl h
  | bot => rw [bot_mul_c2]; exact bot_ne_top
  | coe a => unfold c2; rw [← EReal.coe_mul]; exact EReal.coe_ne_top _

section Trip
variable {Q : ℕ → ℕ → ℕ → EReal} {g : ℕ} (hg : g < 2) {v47 : S512x128.Idx → EReal} (hv : Holds Q g v47) (hQ : RealQ Q)
variable (KK VV : ℕ → ℕ → EReal) (hK : ∀ k < 8192, ∀ l < 128, IsR (KK k l)) (S : ℕ → ℕ → Prop)
variable (v607 v609 : S1024x128.Idx → EReal) (hKK : ∀ (n : Fin 1024) (l : Fin 128), v607 (ix2 n l) = KK (k.val * 1024 + n.val) l.val)
variable (hVV : ∀ (n : Fin 1024) (l : Fin 128), v609 (ix2 n l) = VV (k.val * 1024 + n.val) l.val)
variable (v648 : IVec S128x1024 1) (h7 : ∀ (a : Fin 128) (n : Fin 1024), v648 (ix2 a n) = open Classical in BitVec.ofBool (decide (S a.val ((k.val * 1024 + n.val) / 64))))

/-- The scores of a row, scaled, up to where the loop goes. -/
def keyW (Q : ℕ → ℕ → ℕ → EReal) (g : ℕ) (KK : ℕ → ℕ → EReal) (S : ℕ → ℕ → Prop) (R n : ℕ) : EReal :=
  slcW (place i (R % 128)) (S (R % 128)) (Q (R / 128) (R % 128)) (fun n d => KK n (g * 64 + d)) n

include hg hv hQ hK hKK h7
theorem pay90_at (R : Fin 512) (n : Fin 1024) :
    k0_pay90 (F := Ideal) v47 v607 (k0_pay3 i (k0_pay15 i) 0#32 1#32 k) v648 (ix2 R n) = keyW i Q g KK S R.val (k.val * 1024 + n.val) * c2 := by
  classical
  have hk := trip_le i k
  have e := scores_at hg hv hQ (KK (k.val * 1024 + n.val)) (fun l hl => hK _ (by omega) l hl) R
  have e' : (∑ x : Fin 128, v47 (ix2 R x) * v607 (ix2 n x)) = ∑ l : Fin 128, v47 (ix2 R l) * KK (k.val * 1024 + n.val) l.val :=
    Finset.sum_congr rfl fun l _ => by rw [hKK]
  have key : ∀ a : Fin 128, a.val = R.val % 128 → (∑ x : Fin 128, v47 (ix2 R x) * v607 (ix2 n x))
      + Scalar.select (IntOp.andi (v648 (ix2 a n)) (k0_pay3 i (k0_pay15 i) 0#32 1#32 k (ix2 a n))) (0 : EReal) ⊥ = keyW i Q g KK S R.val (k.val * 1024 + n.val) * c2 := by
    intro a ha
    rw [h7, pay3_at, andi_ofBool, select_ofBool, e', e, bias_scale, ha]
    rfl
  unfold k0_pay90
  pointwise
  rw [mask_eq]
  have hR := R.isLt
  by_cases h1 : R.val < 128
  · rw [dif_pos h1]; exact key _ (by show R.val = _; omega)
  rw [dif_neg h1]
  by_cases h2 : R.val - 128 < 128
  · rw [dif_pos h2]; exact key _ (by show R.val - 128 = _; omega)
  rw [dif_neg h2]
  by_cases h3 : R.val - 128 - 128 < 128
  · rw [dif_pos h3]; exact key _ (by show R.val - 128 - 128 = _; omega)
  rw [dif_neg h3]
  exact key _ (by show R.val - 128 - 128 - 128 = _; omega)

omit hv hK hKK h7 in
theorem keyW_ne_top (hK : ∀ k < 8192, ∀ l < 128, IsR (KK k l)) (R : Fin 512) (n : ℕ) : keyW i Q g KK S R.val n ≠ ⊤ := by
  classical
  have hp := place_lt i (a := R.val % 128) (by omega)
  unfold keyW slcW
  split_ifs with h
  · exact (real_dot hQ (fun d hd => hK _ (by omega) _ (by omega)) R).ne_top
  · exact bot_ne_top

variable (m : S512x1.Idx → EReal) (hm : ∀ (R : Fin 512) (z : Fin 1), m (ix2 R z) = runMax (fun n => keyW i Q g KK S R.val n * c2) (k.val * 1024))
include hm
/-- One trip extends the running maximum. -/
theorem pay91_at (R : Fin 512) (z : Fin 1) :
    k0_pay91 (F := Ideal) v47 m v607 (k0_pay3 i (k0_pay15 i) 0#32 1#32 k) v648 (ix2 R z)
      = runMax (fun n => keyW i Q g KK S R.val n * c2) ((k.val + 1) * 1024) := by
  unfold k0_pay91
  pointwise
  simp only [pay90_at i k hg hv hQ KK hK S v607 hKK v648 h7, hm]
  rw [show (k.val + 1) * 1024 = k.val * 1024 + 1024 by omega, ← runMax_add]
  congr 1

variable (v415 : IVec S1x128 1) (lane : ℕ → Prop) [DecidablePred lane] (h415 : ∀ (z : Fin 1) (l : Fin 128), v415 (ix2 z l) = BitVec.ofBool (decide (lane l.val)))
variable (acc : S512x128.Idx → EReal)
variable (hacc : ∀ (R : Fin 512) (l : Fin 128), acc (ix2 R l)
  = runSum (fun n => keyW i Q g KK S R.val n * c2) (fun n => if lane l.val then VV n l.val else 1) (k.val * 1024))
include hVV h415 hacc
/-- One trip extends the running sums: of the weighted values, and of the weights in the lanes that hold ones. -/
theorem pay92_at (R : Fin 512) (l : Fin 128) :
    k0_pay92 (F := Ideal) v47 v415 m acc v607 v609 (k0_pay3 i (k0_pay15 i) 0#32 1#32 k) v648 (ix2 R l)
      = runSum (fun n => keyW i Q g KK S R.val n * c2) (fun n => if lane l.val then VV n l.val else 1) ((k.val + 1) * 1024) := by
  unfold k0_pay92
  pointwise
  simp only [pay91_at i k hg hv hQ KK hK S v607 hKK v648 h7 m hm, pay90_at i k hg hv hQ KK hK S v607 hKK v648 h7, hm, hacc, h415, select_ofBool, hVV]
  rw [show (k.val + 1) * 1024 = k.val * 1024 + 1024 by omega,
    ← runSum_add (fun n => keyW i Q g KK S R.val n * c2) (fun n => if lane l.val then VV n l.val else 1) (k.val * 1024) 1024 (fun n => ?_)]
  · rfl
  · exact mul_c2_ne_top (keyW_ne_top i hg hQ KK S hK R n)
end Trip

/-! ### The loop -/

section Run
variable (𝒱 : Variants) (c : Dev nD) (bd : Option 𝒱.V) (arg2 : Memref sig .tc .vmem S128x512 .f32) (harg2 : arg2.IsWhole) (arg3 : Memref sig .tc .vmem S128x128 .f32) (harg3 : arg3.IsWhole) (arg4 : Memref sig .tc .vmem S512x128 .bf16) (harg4 : arg4.IsWhole) (arg5 : Memref sig .tc .vmem S512x128 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S512x128 .bf16) (harg8 : arg8.IsWhole) (arg9 : Memref sig .tc .vmem S128x8192 .bf16) (harg9 : arg9.IsWhole) (arg10 : Memref sig .tc .vmem S128x512 .f32) (harg10 : arg10.IsWhole) (v0 : BitVec 32) (v4 : Vec Ideal S128x128 .f32) (v7 : IVec S128x1 32) (v27 : FVec Ideal S512x128 .bf16) (v47 : FVec Ideal S512x128 .bf16) (v79 : FVec Ideal S512x128 .f32) (v387 : FVec Ideal S128x128 .bf16) (v388 : FVec Ideal S128x128 .bf16) (v414 : IVec S1x128 1) (v415 : IVec S1x128 1) (v428 : FVec Ideal S512x128 .f32) (v442 : FVec Ideal S512x1 .f32) (cst_144 : Ideal .f32) (X_arg6 : BufTy.Contents (Elt Ideal) arg6.view.ty) (X_arg9 : BufTy.Contents (Elt Ideal) arg9.view.ty)

/-- What one trip computes. -/
theorem trip_eq (acc : FVec Ideal S512x1 .f32 × FVec Ideal S512x128 .f32 × FVec Ideal S512x1 .f32 × FVec Ideal S512x128 .f32) :
    tripR_k0_t1 (F := Ideal) 𝒱 c bd i arg2 harg2 arg3 harg3 arg4 harg4 arg5 harg5 arg6 harg6 arg7 harg7 arg8 harg8 arg9 harg9 arg10 harg10 v0 v4 v7 v27 v47 v79 v387 v388 v414 v415 v428 v442 cst_144 X_arg6 X_arg9 k acc
      = (k0_pay5 (F := Ideal) i v7 v27 v387 0#32 1#32 k acc.1 (View.readAt (Elt Ideal) arg6.view (Rect.unit (s := S8192x256) (k0_off3 i k) S1024x128.size (Facts₀.k0_off3_inb i k)).toLoadRect X_arg6) (View.readAt (Elt Ideal) arg9.view (Rect.unit (s := S128x8192) (k0_off5 i k) S128x1024.size (Facts₀.k0_off5_inb i k)).toLoadRect X_arg9),
        k0_pay6 (F := Ideal) i v7 v27 v387 v414 0#32 1#32 k acc.1 acc.2.1 (View.readAt (Elt Ideal) arg6.view (Rect.unit (s := S8192x256) (k0_off3 i k) S1024x128.size (Facts₀.k0_off3_inb i k)).toLoadRect X_arg6) (View.readAt (Elt Ideal) arg6.view (Rect.unit (s := S8192x256) (k0_off4 i k) S1024x128.size (Facts₀.k0_off4_inb i k)).toLoadRect X_arg6) (View.readAt (Elt Ideal) arg9.view (Rect.unit (s := S128x8192) (k0_off5 i k) S128x1024.size (Facts₀.k0_off5_inb i k)).toLoadRect X_arg9),
        k0_pay91 (F := Ideal) v47 acc.2.2.1 (View.readAt (Elt Ideal) arg6.view (Rect.unit (s := S8192x256) (k0_off3 i k) S1024x128.size (Facts₀.k0_off3_inb i k)).toLoadRect X_arg6) (k0_pay3 i v7 0#32 1#32 k) (k0_pay7 (F := Ideal) v388 (View.readAt (Elt Ideal) arg9.view (Rect.unit (s := S128x8192) (k0_off5 i k) S128x1024.size (Facts₀.k0_off5_inb i k)).toLoadRect X_arg9)),
        k0_pay92 (F := Ideal) v47 v415 acc.2.2.1 acc.2.2.2 (View.readAt (Elt Ideal) arg6.view (Rect.unit (s := S8192x256) (k0_off3 i k) S1024x128.size (Facts₀.k0_off3_inb i k)).toLoadRect X_arg6) (View.readAt (Elt Ideal) arg6.view (Rect.unit (s := S8192x256) (k0_off4 i k) S1024x128.size (Facts₀.k0_off4_inb i k)).toLoadRect X_arg6) (k0_pay3 i v7 0#32 1#32 k) (k0_pay7 (F := Ideal) v388 (View.readAt (Elt Ideal) arg9.view (Rect.unit (s := S128x8192) (k0_off5 i k) S128x1024.size (Facts₀.k0_off5_inb i k)).toLoadRect X_arg9))) := by
  unfold tripR_k0_t1 trip_k0_t1
  rfl
end Run

end Cert.NsaIdeal.Kernel
end
end
-- ==== Proof.Nsa.Run.lean ====
/-
  The loop run to its end: the softmax over the keys of the selected blocks.
-/
module

public import proofs.«01_k».proof.Proof.Gen.NsaIdeal.Value
public import proofs.«01_k».proof.Proof.Nsa.Point
public import proofs.«01_k».proof.Proof.Nsa.Loop
public import Idealize.ShloMosaic.Lib.Pointwise
public import Idealize.ShloMosaic.Lib.Tactic
public import Idealize.ShloMosaic.Lib.Tactic.CleanTypes

@[expose] public section

set_option maxRecDepth 16384

noncomputable section

namespace Cert.NsaIdeal.Kernel

open Idealize.ShloMosaic Idealize.ShloMosaic.TcCoe Idealize.SL.Sem
open Cert.NsaIdeal Cert.NsaIdeal.Gen Cert.Attn Cert.Word Cert.Softmax

/-! ### The scores of the blocks -/

theorem pay82_at (z : Fin 1) (l : Fin 128) : k0_pay82 (ix2 z l) = BitVec.ofBool (decide (l.val < 64)) := by
  unfold k0_pay82
  pointwise
  simp (disch := omega) only [ofNat_W, slt_W]
  exact congrArg BitVec.ofBool (decide_eq_decide.mpr (by omega))

theorem pay83_at (z : Fin 1) (l : Fin 128) : k0_pay83 (ix2 z l) = BitVec.ofBool (decide (¬l.val < 64)) := by
  unfold k0_pay83
  pointwise
  rw [pay82_at, not_ofBool]

/-- What the loop carries: the running maximum and the running sums of both groups. -/
abbrev Carry := FVec Ideal S512x1 .f32 × FVec Ideal S512x128 .f32 × FVec Ideal S512x1 .f32 × FVec Ideal S512x128 .f32

section Run
variable (i : grid0.Coords) {Q0 Q1 : ℕ → ℕ → ℕ → EReal} {v27 v47 : S512x128.Idx → EReal} (hv0 : Holds Q0 0 v27) (hv1 : Holds Q1 1 v47) (hQ0 : RealQ Q0) (hQ1 : RealQ Q1)
variable (KK VV : ℕ → ℕ → EReal) (hK : ∀ k < 8192, ∀ l < 128, IsR (KK k l)) (S0 S1 : ℕ → ℕ → Prop) (v387 v388 : S128x128.Idx → EReal)
variable (hS0 : ∀ a s : Fin 128, v387 (ix2 a s) = open Classical in if S0 a.val s.val then 1 else 0)
variable (hS1 : ∀ a s : Fin 128, v388 (ix2 a s) = open Classical in if S1 a.val s.val then 1 else 0)
variable (K V : Fin (k0_t1_loop i).trips → S1024x128.Idx → EReal) (E : Fin (k0_t1_loop i).trips → S128x1024.Idx → EReal)
variable (hKK : ∀ k (n : Fin 1024) (l : Fin 128), K k (ix2 n l) = KK (k.val * 1024 + n.val) l.val)
variable (hVV : ∀ k (n : Fin 1024) (l : Fin 128), V k (ix2 n l) = VV (k.val * 1024 + n.val) l.val)
variable (hE : ∀ k (s : Fin 128) (n : Fin 1024), E k (ix2 s n) = if s.val = (k.val * 1024 + n.val) / 64 then 1 else 0)
variable (st : ℕ → Carry) (h0 : st 0 = (k0_pay86 (F := Ideal), k0_pay87 (F := Ideal) (Scalar.ofBits .f32 0x00000000#32), k0_pay88 (F := Ideal), k0_pay89 (F := Ideal)))
variable (hs : ∀ k : Fin (k0_t1_loop i).trips, st (k.val + 1) =
  (k0_pay5 (F := Ideal) i (k0_pay15 i) v27 v387 0#32 1#32 k (st k.val).1 (K k) (E k),
   k0_pay6 (F := Ideal) i (k0_pay15 i) v27 v387 k0_pay82 0#32 1#32 k (st k.val).1 (st k.val).2.1 (K k) (V k) (E k),
   k0_pay91 (F := Ideal) v47 (st k.val).2.2.1 (K k) (k0_pay3 i (k0_pay15 i) 0#32 1#32 k) (k0_pay7 (F := Ideal) v388 (E k)),
   k0_pay92 (F := Ideal) v47 k0_pay83 (st k.val).2.2.1 (st k.val).2.2.2 (K k) (V k) (k0_pay3 i (k0_pay15 i) 0#32 1#32 k) (k0_pay7 (F := Ideal) v388 (E k))))

/-- What is carried after `N` keys. -/
def Carried (i : grid0.Coords) (Q0 Q1 : ℕ → ℕ → ℕ → EReal) (KK VV : ℕ → ℕ → EReal) (S0 S1 : ℕ → ℕ → Prop) (c : Carry) (N : ℕ) : Prop :=
  (∀ (R : Fin 512) (z : Fin 1), c.1 (ix2 R z) = runMax (fun n => keyW i Q0 0 KK S0 R.val n * c2) N)
    ∧ (∀ (R : Fin 512) (l : Fin 128), c.2.1 (ix2 R l) = runSum (fun n => keyW i Q0 0 KK S0 R.val n * c2) (fun n => if l.val < 64 then VV n l.val else 1) N)
    ∧ (∀ (R : Fin 512) (z : Fin 1), c.2.2.1 (ix2 R z) = runMax (fun n => keyW i Q1 1 KK S1 R.val n * c2) N)
    ∧ (∀ (R : Fin 512) (l : Fin 128), c.2.2.2 (ix2 R l) = runSum (fun n => keyW i Q1 1 KK S1 R.val n * c2) (fun n => if ¬l.val < 64 then VV n l.val else 1) N)

include hv0 hv1 hQ0 hQ1 hK hS0 hS1 hKK hVV hE h0 hs
/-- The running maxima and sums after each trip. -/
theorem run_at (n : ℕ) (hn : n ≤ runs i) : Carried i Q0 Q1 KK VV S0 S1 (st n) (n * 1024) := by
  classical
  induction n with
  | zero =>
    rw [h0]
    have hz : ∀ t V, runSum t V (0 * 1024) = 0 := fun t V => by unfold runSum; rw [Nat.zero_mul, Finset.range_zero, Finset.sum_empty]
    have hb : ∀ t, runMax t (0 * 1024) = ⊥ := fun t => by unfold runMax; rw [Nat.zero_mul, Finset.range_zero, Finset.sup_empty]
    refine ⟨fun R z => ?_, fun R l => ?_, fun R z => ?_, fun R l => ?_⟩
    · rw [hb]; exact mask_eq
    · rw [hz]; exact Ideal.ofBits_zero_f32
    · rw [hb]; exact mask_eq
    · rw [hz]; exact Ideal.ofBits_zero_f32
  | succ n ih =>
    have hk : n < (k0_t1_loop i).trips := lt_of_lt_of_eq (by omega) (trips1 i).symm
    obtain ⟨a1, a2, a3, a4⟩ := ih (by omega)
    have e7 := pay7_at i ⟨n, hk⟩ S0 v387 (E ⟨n, hk⟩) (fun a s => by rw [hS0]) (hE ⟨n, hk⟩)
    have e7' := pay7_at i ⟨n, hk⟩ S1 v388 (E ⟨n, hk⟩) (fun a s => by rw [hS1]) (hE ⟨n, hk⟩)
    rw [hs ⟨n, hk⟩]
    refine ⟨?_, ?_, ?_, ?_⟩
    · exact pay91_at i ⟨n, hk⟩ (by omega) hv0 hQ0 KK hK S0 (K ⟨n, hk⟩) (hKK ⟨n, hk⟩) (k0_pay7 (F := Ideal) v387 (E ⟨n, hk⟩)) (fun a n => by rw [e7]) (st n).1 a1
    · exact pay92_at i ⟨n, hk⟩ (by omega) hv0 hQ0 KK VV hK S0 (K ⟨n, hk⟩) (V ⟨n, hk⟩) (hKK ⟨n, hk⟩) (hVV ⟨n, hk⟩) (k0_pay7 (F := Ideal) v387 (E ⟨n, hk⟩)) (fun a n => by rw [e7]) (st n).1 a1
        k0_pay82 (fun l => l < 64) pay82_at (st n).2.1 a2
    · exact pay91_at i ⟨n, hk⟩ (by omega) hv1 hQ1 KK hK S1 (K ⟨n, hk⟩) (hKK ⟨n, hk⟩) (k0_pay7 (F := Ideal) v388 (E ⟨n, hk⟩)) (fun a n => by rw [e7']) (st n).2.2.1 a3
    · exact pay92_at i ⟨n, hk⟩ (by omega) hv1 hQ1 KK VV hK S1 (K ⟨n, hk⟩) (V ⟨n, hk⟩) (hKK ⟨n, hk⟩) (hVV ⟨n, hk⟩) (k0_pay7 (F := Ideal) v388 (E ⟨n, hk⟩)) (fun a n => by rw [e7']) (st n).2.2.1 a3
        k0_pay83 (fun l => ¬l < 64) pay83_at (st n).2.2.2 a4
end Run

/-- The loop's sums divided: the softmax over all keys. -/
theorem run_soft (i : grid0.Coords) {Q : ℕ → ℕ → ℕ → EReal} {g : ℕ} (hg : g < 2) (hQ : RealQ Q) (KK : ℕ → ℕ → EReal) (hK : ∀ k < 8192, ∀ l < 128, IsR (KK k l)) (V : ℕ → EReal)
    (I : ℕ → ℕ → EReal) (R : Fin 512) :
    Ideal.div (runSum (fun n => keyW i Q g KK (fun a s => s ≤ place i a / 64 ∧ Sel (place i a) (I a) s) R.val n * c2) V (runs i * 1024))
        (runSum (fun n => keyW i Q g KK (fun a s => s ≤ place i a / 64 ∧ Sel (place i a) (I a) s) R.val n * c2) (fun _ => 1) (runs i * 1024))
      = soft (Finset.range 8192) (slcW (place i (R.val % 128)) (Sel (place i (R.val % 128)) (I (R.val % 128))) (Q (R.val / 128) (R.val % 128)) fun n d => KK n (g * 64 + d)) V := by
  classical
  have hp := place_lt i (a := R.val % 128) (by omega)
  have hb := qb_lt i
  have hr := runs_le i
  have hpe := place_eq i (R.val % 128)
  have hN : place i (R.val % 128) < runs i * 1024 := by unfold runs; omega
  have hnt := keyW_ne_top i hg hQ KK (fun a s => s ≤ place i a / 64 ∧ Sel (place i a) (I a) s) hK R
  obtain ⟨s, hs, hs'⟩ := exists_sel (place i (R.val % 128)) hp (I (R.val % 128))
  have hw : keyW i Q g KK (fun a s => s ≤ place i a / 64 ∧ Sel (place i a) (I a) s) R.val
      = slcW (place i (R.val % 128)) (Sel (place i (R.val % 128)) (I (R.val % 128))) (Q (R.val / 128) (R.val % 128)) fun n d => KK n (g * 64 + d) := by
    funext n
    unfold keyW slcW
    by_cases h : Sel (place i (R.val % 128)) (I (R.val % 128)) (n / 64) ∧ n ≤ place i (R.val % 128)
    · rw [if_pos h, if_pos ⟨⟨by omega, h.1⟩, h.2⟩]
    · rw [if_neg h, if_neg fun h' => h ⟨h'.1.2, h'.2⟩]
  have h0 : keyW i Q g KK (fun a s => s ≤ place i a / 64 ∧ Sel (place i a) (I a) s) R.val (s * 64) ≠ ⊥ := by
    rw [hw]
    unfold slcW
    rw [if_pos ⟨by rwa [Nat.mul_div_cancel _ (by omega)], by omega⟩]
    exact (real_dot hQ (fun d hd => hK _ (by omega) _ (by omega)) R).ne_bot
  rw [soft_run (keyW i Q g KK (fun a s => s ≤ place i a / 64 ∧ Sel (place i a) (I a) s) R.val) V _ hnt (k0 := s * 64) (by omega) h0]
  have e := soft_window (keyW i Q g KK (fun a s => s ≤ place i a / 64 ∧ Sel (place i a) (I a) s) R.val) V 0 (runs i * 1024) 8192 (by omega)
    (fun k _ hk => by rw [hw]; unfold slcW; rw [if_neg (by omega)]) hnt (k0 := s * 64) (by omega) (by rwa [Nat.zero_add])
  simp only [Nat.zero_add] at e
  rw [e, hw]

/-- The quotient by lane 64. -/
theorem pay96_at (v : S512x128.Idx → EReal) (R : Fin 512) (l : Fin 128) : k0_pay96 (F := Ideal) v (ix2 R l) = Ideal.div (v (ix2 R l)) (v (ix2 R (64 : Fin 128))) := by
  unfold k0_pay96
  pointwise
theorem pay104_at (v : S512x128.Idx → EReal) (R : Fin 512) (l : Fin 128) : k0_pay104 (F := Ideal) v (ix2 R l) = Ideal.div (v (ix2 R l)) (v (ix2 R (0 : Fin 128))) := by
  unfold k0_pay104
  pointwise

end Cert.NsaIdeal.Kernel
end
end
-- ==== Proof.Nsa.Output.lean ====
/-
  The output of a grid point: the three branches times their gates, the heads side by side.
-/
module

public import proofs.«01_k».proof.Proof.Gen.NsaIdeal.Value
public import proofs.«01_k».proof.Proof.Nsa.Point
public import proofs.«01_k».proof.Proof.Nsa.Run
public import Idealize.ShloMosaic.Lib.Pointwise
public import Idealize.ShloMosaic.Lib.Tactic
public import Idealize.ShloMosaic.Lib.Tactic.CleanTypes

@[expose] public section

set_option maxRecDepth 16384

noncomputable section

namespace Cert.NsaIdeal.Kernel

open Idealize.ShloMosaic Idealize.ShloMosaic.TcCoe Idealize.SL.Sem
open Cert.NsaIdeal Cert.NsaIdeal.Gen Cert.Attn Cert.Word Cert.Softmax

/-! ### The scores of the blocks -/

/-- The three branches of one head, each times its gate. -/
def mix (v4 : S128x128.Idx → EReal) (x y z : S512x128.Idx → EReal) (g r a l : ℕ) : EReal :=
  at2 v4 a (g * 12 + r * 3) * at2 x (r * 128 + a) l + at2 v4 a (g * 12 + r * 3 + 1) * at2 y (r * 128 + a) l + at2 v4 a (g * 12 + r * 3 + 2) * at2 z (r * 128 + a) l

theorem at2_pos {n m : ℕ} (x : (⟨2, ![n, m]⟩ : Shape).Idx → EReal) (i : Fin n) (j : Fin m) (a b : ℕ) (ha : i.val = a) (hb : j.val = b) : x (ix2 i j) = at2 x a b := by
  subst ha hb; exact at2_of x i j

theorem pay108_at (a l : Fin 128) : k0_pay108 (ix2 a l) = BitVec.ofBool (decide (l.val < 64)) := by
  unfold k0_pay108
  pointwise
  simp (disch := omega) only [ofNat_W, slt_W]
  exact congrArg BitVec.ofBool (decide_eq_decide.mpr (by omega))

theorem pay109_at (x y : S128x128.Idx → EReal) (a l : Fin 128) : k0_pay109 (F := Ideal) x y (ix2 a l) = if l.val < 64 then at2 x a l else at2 y a (l - 64) := by
  unfold k0_pay109
  pointwise
  rw [pay108_at, select_ofBool]
  split_ifs with h
  · exact at2_of x a l
  · exact at2_pos y _ _ _ _ rfl (by show (l.val + 128 - 64) % 128 = _; omega)

variable (v4 : S128x128.Idx → EReal) (x y z m : S512x128.Idx → EReal) (a l : Fin 128)

theorem head0 : k0_pay100 (F := Ideal) (k0_pay97 (F := Ideal) v4 x m) (k0_pay98 (F := Ideal) v4) (k0_pay99 (F := Ideal) z) (ix2 a l) = mix v4 x (k0_pay96 (F := Ideal) m) z 0 0 a l := by
  unfold k0_pay100 k0_pay97 k0_pay98 k0_pay99
  pointwise
  refine congrArg₂ (· + ·) (congrArg₂ (· + ·) (congrArg₂ (· * ·) ?_ ?_) (congrArg₂ (· * ·) ?_ ?_)) (congrArg₂ (· * ·) ?_ ?_)
  all_goals exact at2_pos _ _ _ _ _ (by first | rfl | (dsimp only; omega)) (by first | rfl | (dsimp only; omega))
theorem head1 : k0_pay101 (F := Ideal) v4 x z y (ix2 a l) = mix v4 x y z 0 1 a l := by
  unfold k0_pay101
  pointwise
  refine congrArg₂ (· + ·) (congrArg₂ (· + ·) (congrArg₂ (· * ·) ?_ ?_) (congrArg₂ (· * ·) ?_ ?_)) (congrArg₂ (· * ·) ?_ ?_)
  all_goals exact at2_pos _ _ _ _ _ (by first | rfl | (dsimp only; omega)) (by first | rfl | (dsimp only; omega))
theorem head2 : k0_pay102 (F := Ideal) v4 x z y (ix2 a l) = mix v4 x y z 0 2 a l := by
  unfold k0_pay102
  pointwise
  refine congrArg₂ (· + ·) (congrArg₂ (· + ·) (congrArg₂ (· * ·) ?_ ?_) (congrArg₂ (· * ·) ?_ ?_)) (congrArg₂ (· * ·) ?_ ?_)
  all_goals exact at2_pos _ _ _ _ _ (by first | rfl | (dsimp only; omega)) (by first | rfl | (dsimp only; omega))
theorem head3 : k0_pay103 (F := Ideal) v4 x z y (ix2 a l) = mix v4 x y z 0 3 a l := by
  unfold k0_pay103
  pointwise
  refine congrArg₂ (· + ·) (congrArg₂ (· + ·) (congrArg₂ (· * ·) ?_ ?_) (congrArg₂ (· * ·) ?_ ?_)) (congrArg₂ (· * ·) ?_ ?_)
  all_goals exact at2_pos _ _ _ _ _ (by first | rfl | (dsimp only; omega)) (by first | rfl | (dsimp only; omega))

theorem heads45 : k0_pay111 (F := Ideal) v4 x z (k0_pay104 (F := Ideal) m) (k0_pay105 (F := Ideal) v4 x m) (k0_pay106 (F := Ideal) z) (k0_pay107 (F := Ideal) v4) (ix2 a l)
    = if l.val < 64 then mix v4 x (k0_pay104 (F := Ideal) m) z 1 0 a (l + 64) else mix v4 x (k0_pay104 (F := Ideal) m) z 1 1 a l := by
  generalize hm : k0_pay104 (F := Ideal) m = y
  unfold k0_pay111 k0_pay105 k0_pay106 k0_pay107
  rw [hm]
  pointwise
  rw [pay108_at, select_ofBool]
  split_ifs with h
  all_goals
    refine congrArg₂ (· + ·) (congrArg₂ (· + ·) (congrArg₂ (· * ·) ?_ ?_) (congrArg₂ (· * ·) ?_ ?_)) (congrArg₂ (· * ·) ?_ ?_)
    all_goals exact at2_pos _ _ _ _ _ (by first | rfl | (dsimp only; omega)) (by first | rfl | (dsimp only; omega))
theorem heads67 : k0_pay112 (F := Ideal) v4 x z y (ix2 a l) = if l.val < 64 then mix v4 x y z 1 2 a (l + 64) else mix v4 x y z 1 3 a l := by
  unfold k0_pay112
  pointwise
  rw [pay108_at, select_ofBool]
  split_ifs with h
  all_goals
    refine congrArg₂ (· + ·) (congrArg₂ (· + ·) (congrArg₂ (· * ·) ?_ ?_) (congrArg₂ (· * ·) ?_ ?_)) (congrArg₂ (· * ·) ?_ ?_)
    all_goals exact at2_pos _ _ _ _ _ (by first | rfl | (dsimp only; omega)) (by first | rfl | (dsimp only; omega))

theorem pieces (p0 p1 p2 p3 : S128x128.Idx → EReal) (C : Fin 512) :
    k0_pay1 (F := Ideal) p0 p1 p2 p3 (ix2 a C)
      = if C.val / 128 = 0 then at2 p0 a (C % 128) else if C.val / 128 = 1 then at2 p1 a (C % 128) else if C.val / 128 = 2 then at2 p2 a (C % 128) else at2 p3 a (C % 128) := by
  have hC := C.isLt
  unfold k0_pay1
  pointwise
  by_cases h1 : C.val < 128
  · exact (dif_pos h1).trans ((at2_pos _ _ _ _ _ rfl (by show C.val = _; omega)).trans (if_pos (by omega)).symm)
  refine (dif_neg h1).trans (Eq.trans ?_ (if_neg (by omega)).symm)
  by_cases h2 : C.val - 128 < 128
  · exact (dif_pos h2).trans ((at2_pos _ _ _ _ _ rfl (by show C.val - 128 = _; omega)).trans (if_pos (by omega)).symm)
  refine (dif_neg h2).trans (Eq.trans ?_ (if_neg (by omega)).symm)
  by_cases h3 : C.val - 128 - 128 < 128
  · exact (dif_pos h3).trans ((at2_pos _ _ _ _ _ rfl (by show C.val - 128 - 128 = _; omega)).trans (if_pos (by omega)).symm)
  refine (dif_neg h3).trans (Eq.trans ?_ (if_neg (by omega)).symm)
  exact at2_pos _ _ _ _ _ rfl (by show C.val - 128 - 128 - 128 = _; omega)

/-- The output at a row and a column: the head's three branches, each times its gate. -/
theorem output_at (x0 z0 m0 x1 z1 m1 : S512x128.Idx → EReal) (C : Fin 512) :
    k0_pay1 (F := Ideal)
      (k0_pay109 (F := Ideal) (k0_pay100 (F := Ideal) (k0_pay97 (F := Ideal) v4 x0 m0) (k0_pay98 (F := Ideal) v4) (k0_pay99 (F := Ideal) z0))
        (k0_pay101 (F := Ideal) v4 x0 z0 (k0_pay96 (F := Ideal) m0)))
      (k0_pay110 (F := Ideal) (k0_pay102 (F := Ideal) v4 x0 z0 (k0_pay96 (F := Ideal) m0)) (k0_pay103 (F := Ideal) v4 x0 z0 (k0_pay96 (F := Ideal) m0)))
      (k0_pay111 (F := Ideal) v4 x1 z1 (k0_pay104 (F := Ideal) m1) (k0_pay105 (F := Ideal) v4 x1 m1) (k0_pay106 (F := Ideal) z1) (k0_pay107 (F := Ideal) v4))
      (k0_pay112 (F := Ideal) v4 x1 z1 (k0_pay104 (F := Ideal) m1)) (ix2 a C)
      = if C.val / 256 = 0 then mix v4 x0 (k0_pay96 (F := Ideal) m0) z0 0 (C.val / 64 % 4) a (C % 64)
        else mix v4 x1 (k0_pay104 (F := Ideal) m1) z1 1 (C.val / 64 % 4) a (64 + C % 64) := by
  have hC := C.isLt
  rw [pieces]
  have hl : C.val % 128 < 128 := by omega
  by_cases h0 : C.val / 128 = 0
  · rw [if_pos h0, if_pos (by omega), at2_mk _ a.isLt hl, pay109_at]
    by_cases h : C.val % 128 < 64
    · rw [if_pos h, at2_mk _ a.isLt hl, head0, show C.val / 64 % 4 = 0 by omega, show C.val % 64 = C.val % 128 by omega]
    · rw [if_neg h, at2_mk _ a.isLt (show C.val % 128 - 64 < 128 by omega), head1, show C.val / 64 % 4 = 1 by omega, show C.val % 64 = C.val % 128 - 64 by omega]
  rw [if_neg h0]
  by_cases h1 : C.val / 128 = 1
  · rw [if_pos h1, if_pos (by omega), at2_mk _ a.isLt hl]
    refine (pay109_at _ _ _ _).trans ?_
    by_cases h : C.val % 128 < 64
    · rw [if_pos h, at2_mk _ a.isLt hl, head2, show C.val / 64 % 4 = 2 by omega, show C.val % 64 = C.val % 128 by omega]
    · rw [if_neg h, at2_mk _ a.isLt (show C.val % 128 - 64 < 128 by omega), head3, show C.val / 64 % 4 = 3 by omega, show C.val % 64 = C.val % 128 - 64 by omega]
  rw [if_neg h1]
  by_cases h2 : C.val / 128 = 2
  · rw [if_pos h2, if_neg (by omega), at2_mk _ a.isLt hl, heads45]
    by_cases h : C.val % 128 < 64
    · rw [if_pos h, show C.val / 64 % 4 = 0 by omega, show 64 + C.val % 64 = C.val % 128 + 64 by omega]
    · rw [if_neg h, show C.val / 64 % 4 = 1 by omega, show 64 + C.val % 64 = C.val % 128 by omega]
  · rw [if_neg h2, if_neg (by omega), at2_mk _ a.isLt hl, heads67]
    by_cases h : C.val % 128 < 64
    · rw [if_pos h, show C.val / 64 % 4 = 2 by omega, show 64 + C.val % 64 = C.val % 128 + 64 by omega]
    · rw [if_neg h, show C.val / 64 % 4 = 3 by omega, show 64 + C.val % 64 = C.val % 128 by omega]

end Cert.NsaIdeal.Kernel
end
end
-- ==== Proof.Nsa.Reads.lean ====
/-
  The body of a grid point: what it reads of the blocks, and what it writes in terms of the arrays.
-/
module

public import proofs.«01_k».proof.Proof.Gen.NsaIdeal.Value
public import proofs.«01_k».proof.Proof.Nsa.Point
public import proofs.«01_k».proof.Proof.Nsa.Output
public import Idealize.ShloMosaic.Lib.Pointwise
public import Idealize.ShloMosaic.Lib.Tactic
public import Idealize.ShloMosaic.Lib.Tactic.CleanTypes

@[expose] public section

set_option maxRecDepth 16384

noncomputable section

namespace Cert.NsaIdeal.Kernel

open Idealize.ShloMosaic Idealize.ShloMosaic.TcCoe Idealize.SL.Sem
open Cert.NsaIdeal Cert.NsaIdeal.Gen Cert.Attn Cert.Word Cert.Softmax

/-! ### The scores of the blocks -/

open Idealize.ShloMosaic.Pipeline
theorem read_full {S : Shape} {e : EltTy} (m : Memref sig .tc .vmem S e) (h : m.IsWhole) (off : Fin S.rank → ℕ) (hz : off = fun _ => 0)
    (inb : ∀ a, off a + S.size a ≤ S.size a) (X : S.Idx → Elt Ideal e) :
    View.readAt (Elt Ideal) m.view (Rect.unit off S.size inb).toLoadRect (h.unread X) = X := by
  rw [View.readAt_eq_ld, h.read_unread, View.ld_unit_zero hz]

theorem read_part {S : Shape} {e : EltTy} (m : Memref sig .tc .vmem S e) (h : m.IsWhole) (off size : Fin S.rank → ℕ)
    (inb : ∀ a, off a + size a ≤ S.size a) (X : S.Idx → Elt Ideal e) (x : (Rect.unit off size inb).shape.Idx) (j : S.Idx) (hj : ∀ a, (j a : ℕ) = off a + x a) :
    View.readAt (Elt Ideal) m.view (Rect.unit off size inb).toLoadRect (h.unread X) x = X j := by
  rw [View.readAt_eq_ld, h.read_unread]
  exact congrArg X (funext fun a => Fin.ext ((congrArg (off a + ·) (Nat.one_mul (x a).val)).trans (hj a).symm))

theorem zero_off : (![0, 0] : Fin 2 → ℕ) = fun _ => 0 := by funext a; fin_cases a <;> rfl

theorem off1 (i : grid0.Coords) : k0_off1 i = ![start i, 0] := by
  unfold k0_off1; exact congrArg (fun n => ![n, 0]) (start_nat i)

theorem off2 (i : grid0.Coords) : k0_off2 i = ![start i, 128] := by
  unfold k0_off2; exact congrArg (fun n => ![n, 128]) (start_nat i)

theorem trip_nat (i : grid0.Coords) (k : Fin (k0_t1_loop i).trips) : (Scalar.muli (Scf.iv 0#32 1#32 k.val) 1024#32).toNat = k.val * 1024 := by
  have h := trip_le i k
  rw [iv_W]
  show ((W (k.val : ℕ)) * 1024#32 : BitVec 32).toNat = _
  rw [BitVec.toNat_mul]
  simp [W]
  omega

theorem off3 (i : grid0.Coords) (k : Fin (k0_t1_loop i).trips) : k0_off3 i k = ![k.val * 1024, 0] := by
  unfold k0_off3; exact congrArg (fun n => ![n, 0]) (trip_nat i k)

theorem off4 (i : grid0.Coords) (k : Fin (k0_t1_loop i).trips) : k0_off4 i k = ![k.val * 1024, 128] := by
  unfold k0_off4; exact congrArg (fun n => ![n, 128]) (trip_nat i k)

theorem off5 (i : grid0.Coords) (k : Fin (k0_t1_loop i).trips) : k0_off5 i k = ![0, k.val * 1024] := by
  unfold k0_off5; exact congrArg (fun n => ![0, n]) (trip_nat i k)

section Reads

variable (c : Dev nD) (i : grid0.Coords) (arg2 : Memref sig .tc .vmem S128x512 .f32) (harg2 : arg2.IsWhole) (arg3 : Memref sig .tc .vmem S128x128 .f32) (harg3 : arg3.IsWhole) (arg4 : Memref sig .tc .vmem S512x128 .bf16) (harg4 : arg4.IsWhole) (arg5 : Memref sig .tc .vmem S512x128 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S512x128 .bf16) (harg8 : arg8.IsWhole) (arg9 : Memref sig .tc .vmem S128x8192 .bf16) (harg9 : arg9.IsWhole) (arg10 : Memref sig .tc .vmem S128x512 .f32) (harg10 : arg10.IsWhole)
variable (x0 : Vec Ideal S128x512 .f32) (x1 : Vec Ideal S128x128 .f32) (x2 : Vec Ideal S512x128 .bf16) (x3 : Vec Ideal S512x128 .bf16) (x4 : Vec Ideal S8192x256 .bf16) (x5 : Vec Ideal S8192x256 .bf16) (x6 : Vec Ideal S512x128 .bf16) (x7 : Vec Ideal S128x8192 .bf16)

/-- The gates, read whole. -/
theorem read1 : kernelRun0_A.sl.r_1 c arg3 harg3 x1 = x1 := read_full arg3 harg3 _ zero_off _ x1

theorem read2 : kernelRun0_A.sl.r_2 (F := Ideal) c arg2 harg2 x0 = k0_pay17 (F := Ideal) x0 := congrArg (k0_pay17 (F := Ideal)) (read_full arg2 harg2 _ zero_off _ x0)

theorem read6 : kernelRun0_A.sl.r_6 (F := Ideal) c arg2 harg2 x0 = k0_pay22 (F := Ideal) (k0_pay14 (F := Ideal) x0) k0_pay18 (k0_pay19 (F := Ideal) x0) (k0_pay20 (F := Ideal) x0) (k0_pay21 (F := Ideal) x0) :=
  congrArg (fun x => k0_pay22 (F := Ideal) (k0_pay14 (F := Ideal) x) k0_pay18 (k0_pay19 (F := Ideal) x) (k0_pay20 (F := Ideal) x) (k0_pay21 (F := Ideal) x)) (read_full arg2 harg2 _ zero_off _ x0)

theorem read7 : kernelRun0_A.sl.r_7 c arg4 harg4 x2 = x2 := read_full arg4 harg4 _ zero_off _ x2

theorem read8 : kernelRun0_A.sl.r_8 c arg5 harg5 x3 = x3 := read_full arg5 harg5 _ zero_off _ x3

theorem read12 : kernelRun0_A.sl.r_12 (F := Ideal) c i arg2 harg2 arg4 harg4 arg5 harg5 x0 x2 x3
    = k0_pay30 (F := Ideal) (k0_pay17 (F := Ideal) x0) x2 x3 (k0_pay23 (F := Ideal) (k0_pay16 i)) (k0_pay24 (F := Ideal) (k0_pay16 i)) := by
  have h : kernelRun0_A.sl.r_12 (F := Ideal) c i arg2 harg2 arg4 harg4 arg5 harg5 x0 x2 x3 = k0_pay30 (F := Ideal) (kernelRun0_A.sl.r_2 (F := Ideal) c arg2 harg2 x0) (kernelRun0_A.sl.r_7 c arg4 harg4 x2) (kernelRun0_A.sl.r_8 c arg5 harg5 x3) (k0_pay23 (F := Ideal) (k0_pay16 i)) (k0_pay24 (F := Ideal) (k0_pay16 i)) := rfl
  rw [h, read2, read7, read8]

theorem read15 : kernelRun0_A.sl.r_15 (F := Ideal) c i arg2 harg2 arg4 harg4 arg5 harg5 x0 x2 x3
    = k0_pay30 (F := Ideal) (k0_pay22 (F := Ideal) (k0_pay14 (F := Ideal) x0) k0_pay18 (k0_pay19 (F := Ideal) x0) (k0_pay20 (F := Ideal) x0) (k0_pay21 (F := Ideal) x0)) x2 x3 (k0_pay23 (F := Ideal) (k0_pay16 i)) (k0_pay24 (F := Ideal) (k0_pay16 i)) := by
  have h : kernelRun0_A.sl.r_15 (F := Ideal) c i arg2 harg2 arg4 harg4 arg5 harg5 x0 x2 x3 = k0_pay30 (F := Ideal) (kernelRun0_A.sl.r_6 (F := Ideal) c arg2 harg2 x0) (kernelRun0_A.sl.r_7 c arg4 harg4 x2) (kernelRun0_A.sl.r_8 c arg5 harg5 x3) (k0_pay23 (F := Ideal) (k0_pay16 i)) (k0_pay24 (F := Ideal) (k0_pay16 i)) := rfl
  rw [h, read6, read7, read8]

/-- What the loop over the blocks of keys carries before each trip. -/
def carry : ℕ → Carry := fun n =>
  st_k0_t1 (F := Ideal) Variants.none c none i arg2 harg2 arg3 harg3 arg4 harg4 arg5 harg5 arg6 harg6 arg7 harg7 arg8 harg8 arg9 harg9 arg10 harg10 (kernelRun0_A.sl.v0 i) (kernelRun0_A.sl.r_1 c arg3 harg3 x1) (k0_pay15 i) (kernelRun0_A.sl.r_2 c arg2 harg2 x0) (kernelRun0_A.sl.r_6 c arg2 harg2 x0)
      (kernelRun0_A.sl.r_12 c i arg2 harg2 arg4 harg4 arg5 harg5 x0 x2 x3) (kernelRun0_A.sl.r_35 c i arg2 harg2 arg4 harg4 arg8 harg8 x0 x2 x6) (kernelRun0_A.sl.r_36 c i arg2 harg2 arg4 harg4 arg8 harg8 x0 x2 x6)
      k0_pay82 k0_pay83 (kernelRun0_A.sl.r_39 c i arg2 harg2 arg7 harg7 x0 x5) k0_pay86 kernelRun0_A.sl.cst_144 (harg6.unread x4) (harg9.unread x7)
      (k0_pay86 (F := Ideal), k0_pay87 (F := Ideal) kernelRun0_A.sl.cst_144, k0_pay88 (F := Ideal), k0_pay89 (F := Ideal)) n

/-- The output block at a row and a column: the branches of the head, from the loop's last carried sums. -/
theorem written (a : Fin 128) (C : Fin 512) :
    out0_A_8 (F := Ideal) c i arg2 harg2 arg3 harg3 arg4 harg4 arg5 harg5 arg6 harg6 arg7 harg7 arg8 harg8 arg9 harg9 arg10 harg10 x0 x1 x2 x3 x4 x5 x6 x7 (ix2 a C)
      = if C.val / 256 = 0 then mix x1 (kernelRun0_A.sl.r_12 c i arg2 harg2 arg4 harg4 arg5 harg5 x0 x2 x3) (k0_pay96 (F := Ideal) (carry c i arg2 harg2 arg3 harg3 arg4 harg4 arg5 harg5 arg6 harg6 arg7 harg7 arg8 harg8 arg9 harg9 arg10 harg10 x0 x1 x2 x3 x4 x5 x6 x7 (runs i)).2.1) (kernelRun0_A.sl.r_39 c i arg2 harg2 arg7 harg7 x0 x5) 0 (C.val / 64 % 4) a (C % 64)
        else mix x1 (kernelRun0_A.sl.r_15 c i arg2 harg2 arg4 harg4 arg5 harg5 x0 x2 x3) (k0_pay104 (F := Ideal) (carry c i arg2 harg2 arg3 harg3 arg4 harg4 arg5 harg5 arg6 harg6 arg7 harg7 arg8 harg8 arg9 harg9 arg10 harg10 x0 x1 x2 x3 x4 x5 x6 x7 (runs i)).2.2.2) (kernelRun0_A.sl.r_40 c i arg2 harg2 arg7 harg7 x0 x5) 1 (C.val / 64 % 4) a (64 + C % 64) := by
  refine Eq.trans ?_ (output_at x1 a (kernelRun0_A.sl.r_12 c i arg2 harg2 arg4 harg4 arg5 harg5 x0 x2 x3) (kernelRun0_A.sl.r_39 c i arg2 harg2 arg7 harg7 x0 x5) (carry c i arg2 harg2 arg3 harg3 arg4 harg4 arg5 harg5 arg6 harg6 arg7 harg7 arg8 harg8 arg9 harg9 arg10 harg10 x0 x1 x2 x3 x4 x5 x6 x7 (runs i)).2.1
    (kernelRun0_A.sl.r_15 c i arg2 harg2 arg4 harg4 arg5 harg5 x0 x2 x3) (kernelRun0_A.sl.r_40 c i arg2 harg2 arg7 harg7 x0 x5) (carry c i arg2 harg2 arg3 harg3 arg4 harg4 arg5 harg5 arg6 harg6 arg7 harg7 arg8 harg8 arg9 harg9 arg10 harg10 x0 x1 x2 x3 x4 x5 x6 x7 (runs i)).2.2.2 C)
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5 x6 x7)]
  unfold kernelRun0_A
  dsimp only
  rw [View.canon_unit_zero zero_off]
  have e1 := read1 c arg3 harg3 x1
  have e41 : kernelRun0_A.sl.r_41 (F := Ideal) c i arg2 harg2 arg3 harg3 arg4 harg4 arg5 harg5 arg6 harg6 arg7 harg7 arg8 harg8 arg9 harg9 arg10 harg10 x0 x1 x2 x3 x4 x5 x6 x7 = (carry c i arg2 harg2 arg3 harg3 arg4 harg4 arg5 harg5 arg6 harg6 arg7 harg7 arg8 harg8 arg9 harg9 arg10 harg10 x0 x1 x2 x3 x4 x5 x6 x7 (runs i)).2.2.2 := by
    rw [← trips1 i]
    show (st_k0_t2 (F := Ideal) _ _ _ _ _ _ _ _ _ _ _ _ _ _ _ _ _ _ _ _ _ _ _ _ _ _ _ _ _ _ _ _ _ _ _ _ _ _ _ (Scf.trips (k0_t2_loop i).lb (k0_t2_loop i).ub (k0_t2_loop i).st)).2.2.2 = _
    rw [trips2]
    rfl
  have e42 : kernelRun0_A.sl.r_42 (F := Ideal) c i arg2 harg2 arg3 harg3 arg4 harg4 arg5 harg5 arg6 harg6 arg7 harg7 arg8 harg8 arg9 harg9 arg10 harg10 x0 x1 x2 x3 x4 x5 x6 x7 = k0_pay96 (F := Ideal) (carry c i arg2 harg2 arg3 harg3 arg4 harg4 arg5 harg5 arg6 harg6 arg7 harg7 arg8 harg8 arg9 harg9 arg10 harg10 x0 x1 x2 x3 x4 x5 x6 x7 (runs i)).2.1 := by
    rw [← trips1 i]
    show k0_pay96 (F := Ideal) (st_k0_t2 (F := Ideal) _ _ _ _ _ _ _ _ _ _ _ _ _ _ _ _ _ _ _ _ _ _ _ _ _ _ _ _ _ _ _ _ _ _ _ _ _ _ _ (Scf.trips (k0_t2_loop i).lb (k0_t2_loop i).ub (k0_t2_loop i).st)).2.1 = _
    rw [trips2]
    rfl
  have e43 : kernelRun0_A.sl.r_43 (F := Ideal) c i arg2 harg2 arg3 harg3 arg4 harg4 arg5 harg5 arg6 harg6 arg7 harg7 arg8 harg8 arg9 harg9 arg10 harg10 x0 x1 x2 x3 x4 x5 x6 x7 = k0_pay97 (F := Ideal) (kernelRun0_A.sl.r_1 c arg3 harg3 x1) (kernelRun0_A.sl.r_12 c i arg2 harg2 arg4 harg4 arg5 harg5 x0 x2 x3) (carry c i arg2 harg2 arg3 harg3 arg4 harg4 arg5 harg5 arg6 harg6 arg7 harg7 arg8 harg8 arg9 harg9 arg10 harg10 x0 x1 x2 x3 x4 x5 x6 x7 (runs i)).2.1 := by
    rw [← trips1 i]
    show k0_pay97 (F := Ideal) _ _ (st_k0_t2 (F := Ideal) _ _ _ _ _ _ _ _ _ _ _ _ _ _ _ _ _ _ _ _ _ _ _ _ _ _ _ _ _ _ _ _ _ _ _ _ _ _ _ (Scf.trips (k0_t2_loop i).lb (k0_t2_loop i).ub (k0_t2_loop i).st)).2.1 = _
    rw [trips2]
    rfl
  unfold kernelRun0_A.sl.r_54 kernelRun0_A.sl.r_55 kernelRun0_A.sl.r_56 kernelRun0_A.sl.r_57 kernelRun0_A.sl.r_46 kernelRun0_A.sl.r_47 kernelRun0_A.sl.r_48 kernelRun0_A.sl.r_49 kernelRun0_A.sl.r_44 kernelRun0_A.sl.r_45 kernelRun0_A.sl.r_50 kernelRun0_A.sl.r_51 kernelRun0_A.sl.r_52 kernelRun0_A.sl.r_53
  rw [e41, e42, e43, e1]

end Reads

end Cert.NsaIdeal.Kernel
end
end
-- ==== Proof.Nsa.Block.lean ====
/-
  A block of the output in terms of the arrays.
-/
module

public import proofs.«01_k».proof.Proof.Gen.NsaIdeal.Value
public import proofs.«01_k».proof.Proof.Nsa.Point
public import proofs.«01_k».proof.Proof.Nsa.Select
public import proofs.«01_k».proof.Proof.Nsa.Window
public import proofs.«01_k».proof.Proof.Nsa.Reads
public import Idealize.ShloMosaic.Lib.Pointwise
public import Idealize.ShloMosaic.Lib.Tactic
public import Idealize.ShloMosaic.Lib.Tactic.CleanTypes

@[expose] public section

set_option maxRecDepth 16384

noncomputable section

namespace Cert.NsaIdeal.Kernel

open Idealize.ShloMosaic Idealize.ShloMosaic.TcCoe Idealize.SL.Sem
open Cert.NsaIdeal Cert.NsaIdeal.Gen Cert.Attn Cert.Word Cert.Softmax

/-! ### The scores of the blocks -/

/-! ### Congruence -/

theorem dot_congr {Q Q' K K' : ℕ → EReal} (hQ : ∀ d < 64, Q d = Q' d) (hK : ∀ d < 64, K d = K' d) : dot Q K = dot Q' K' :=
  Finset.sum_congr rfl fun d hd => by rw [hQ d (Finset.mem_range.mp hd), hK d (Finset.mem_range.mp hd)]

/-- The weights depend on the first `N` keys only. -/
theorem cmpP_congr {N t : ℕ} {Q : ℕ → EReal} {K K' : ℕ → ℕ → EReal} (hK : ∀ n < N, ∀ d < 64, K n d = K' n d) (n : ℕ) (hn : n < N) :
    cmpP N t Q K n = cmpP N t Q K' n := by
  have h : ∀ n < N, cmpW t Q K n = cmpW t Q K' n := fun n hn => by
    unfold cmpW; rw [dot_congr (fun _ _ => rfl) (hK n hn)]
  have hs : (Finset.range N).sup (cmpW t Q K) = (Finset.range N).sup (cmpW t Q K') :=
    Finset.sup_congr rfl fun n hn => h n (Finset.mem_range.mp hn)
  unfold cmpP
  rw [hs, h n hn, Finset.sum_congr rfl fun j hj => by rw [h j (Finset.mem_range.mp hj)]]

/-- The selection depends on the importance of the 128 blocks only. -/
theorem Sel_congr {t : ℕ} {I I' : ℕ → EReal} (h : ∀ s < 128, I s = I' s) : Sel t I = Sel t I' := by
  have e : (fun s : Fin 128 => score t I s.val) = fun s : Fin 128 => score t I' s.val := by
    funext s; unfold score; rw [h s.val s.isLt]
  funext s; unfold Sel; rw [e]

theorem holds_congr {Q Q' : ℕ → ℕ → ℕ → EReal} {g : ℕ} {v : S512x128.Idx → EReal} (h : Holds Q g v) (e : ∀ r < 4, ∀ a < 128, ∀ d < 64, Q r a d = Q' r a d) : Holds Q' g v := by
  intro R l
  rw [h R l, e _ (by omega) _ (by omega) _ (by omega)]

theorem slice0_at (x : S512x512.Idx → EReal) (a : Fin 128) (n : Fin 512) : extractStridedSlice S128x512 ![0, 0] x slices_S512x512_o0_0_S128x512 (ix2 a n) = x (ix2 ⟨a.val, by omega⟩ n) := by
  pointwise [S128x512]

theorem slice128_at (x : S512x512.Idx → EReal) (a : Fin 128) (n : Fin 512) : extractStridedSlice S128x512 ![128, 0] x slices_S512x512_o128_0_S128x512 (ix2 a n) = x (ix2 ⟨128 + a.val, by omega⟩ n) := by
  pointwise [S128x512]

theorem pick0_at (e : IVec S256x128 1) (B x y : S256x128.Idx → EReal) (z : IVec S256x128 1) (a s : Fin 128) : k0_pay76 (F := Ideal) e B x y z (ix2 a s) = k0_pay75 (F := Ideal) e B x y z (ix2 ⟨a.val, by omega⟩ s) := by
  unfold k0_pay76
  generalize k0_pay75 (F := Ideal) e B x y z = v
  pointwise [S128x128]

theorem pick1_at (e : IVec S256x128 1) (B x y : S256x128.Idx → EReal) (z : IVec S256x128 1) (a s : Fin 128) : k0_pay77 (F := Ideal) e B x y z (ix2 a s) = k0_pay75 (F := Ideal) e B x y z (ix2 ⟨128 + a.val, by omega⟩ s) := by
  unfold k0_pay77
  generalize k0_pay75 (F := Ideal) e B x y z = v
  pointwise [S128x128]

section Block

variable (c : Dev nD) (i : grid0.Coords) (arg2 : Memref sig .tc .vmem S128x512 .f32) (harg2 : arg2.IsWhole) (arg3 : Memref sig .tc .vmem S128x128 .f32) (harg3 : arg3.IsWhole) (arg4 : Memref sig .tc .vmem S512x128 .bf16) (harg4 : arg4.IsWhole) (arg5 : Memref sig .tc .vmem S512x128 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S512x128 .bf16) (harg8 : arg8.IsWhole) (arg9 : Memref sig .tc .vmem S128x8192 .bf16) (harg9 : arg9.IsWhole) (arg10 : Memref sig .tc .vmem S128x512 .f32) (harg10 : arg10.IsWhole)
variable (x0 : Vec Ideal S128x512 .f32) (x1 : Vec Ideal S128x128 .f32) (x2 : Vec Ideal S512x128 .bf16) (x3 : Vec Ideal S512x128 .bf16) (x4 : Vec Ideal S8192x256 .bf16) (x5 : Vec Ideal S8192x256 .bf16) (x6 : Vec Ideal S512x128 .bf16) (x7 : Vec Ideal S128x8192 .bf16)
variable (q gates kc vc slc win : ℕ → ℕ → EReal) (b : ℕ)
variable (hx0 : ∀ (a : Fin 128) (j : Fin 512), x0 (ix2 a j) = q (b * 8192 + place i a.val) j.val)
variable (hx1 : ∀ (a j : Fin 128), x1 (ix2 a j) = gates (b * 8192 + place i a.val) j.val)
variable (hx2 : ∀ (n : Fin 512) (l : Fin 128), x2 (ix2 n l) = kc (b * 512 + n.val) l.val)
variable (hx3 : ∀ (n : Fin 512) (l : Fin 128), x3 (ix2 n l) = vc (b * 512 + n.val) l.val)
variable (hx4 : ∀ (k : Fin 8192) (l : Fin 256), x4 (ix2 k l) = slc (b * 8192 + k.val) l.val)
variable (hx5 : ∀ (k : Fin 8192) (l : Fin 256), x5 (ix2 k l) = win (b * 8192 + k.val) l.val)
variable (hx6 : ∀ (n : Fin 512) (s : Fin 128), n.val < 511 → x6 (ix2 n s) = cover n.val s.val)
variable (hx7 : ∀ (s : Fin 128) (k : Fin 8192), x7 (ix2 s k) = if s.val = k.val / 64 then 1 else 0)
variable (rq : ∀ a < 128, ∀ j < 512, IsR (q (b * 8192 + place i a) j)) (rk : ∀ n < 512, ∀ l < 128, IsR (kc (b * 512 + n) l))
variable (rs : ∀ k < 8192, ∀ l < 128, IsR (slc (b * 8192 + k) l)) (rw' : ∀ k < 8192, ∀ l < 128, IsR (win (b * 8192 + k) l))

/-- The queries of a group at the block's rows. -/
def rows (q : ℕ → ℕ → EReal) (i : grid0.Coords) (b g : ℕ) : ℕ → ℕ → ℕ → EReal := fun r a d => qv q b (place i a) g r d

include hx0 in
theorem rows0 : Holds (rows q i b 0) 0 (kernelRun0_A.sl.r_2 (F := Ideal) c arg2 harg2 x0) := by
  rw [read2]
  refine holds_congr (holds0 x0) fun r hr a ha d hd => ?_
  exact (at2_mk x0 (by omega : a < 128) (by omega : 0 * 256 + r * 64 + d < 512)).trans (hx0 _ _)

include hx0 in
theorem rows1 : Holds (rows q i b 1) 1 (kernelRun0_A.sl.r_6 (F := Ideal) c arg2 harg2 x0) := by
  rw [read6]
  refine holds_congr (holds1 x0) fun r hr a ha d hd => ?_
  exact (at2_mk x0 (by omega : a < 128) (by omega : 1 * 256 + r * 64 + d < 512)).trans (hx0 _ _)

include rq in
theorem rows_real (g : ℕ) (hg : g < 2) : RealQ (rows q i b g) := fun r hr a ha d hd => rq a ha _ (by omega)

include hx2 rk in
theorem keys_real : RealM x2 := fun n hn l hl => by rw [at2_mk x2 hn hl, hx2]; exact rk n hn l hl

/-- The weights of the compressed keys at the block's rows. -/
def wts (q kc : ℕ → ℕ → EReal) (i : grid0.Coords) (b g r a n : ℕ) : EReal := pv q kc b (place i a) g r n

include hx2 in
theorem wts_eq (g : ℕ) (hg : g < 2) (r a n : ℕ) (hn : n < 511) :
    cmpP 511 (place i a) (rows q i b g r a) (fun n d => at2 x2 n (g * 64 + d)) n = wts q kc i b g r a n :=
  cmpP_congr (fun n hn d hd => (at2_mk x2 (by omega : n < 512) (by omega : g * 64 + d < 128)).trans (hx2 _ _)) n hn

include hx2 hx3 in
/-- The compressed branch. -/
theorem cmp_at {g : ℕ} (hg : g < 2) {v : S512x128.Idx → EReal} (hv : Holds (rows q i b g) g v) (hQ : RealQ (rows q i b g)) (hk : RealM x2) (R : Fin 512) (l : Fin 128) :
    k0_pay30 (F := Ideal) v x2 x3 (k0_pay23 (F := Ideal) (k0_pay16 i)) (k0_pay24 (F := Ideal) (k0_pay16 i)) (ix2 R l)
      = ∑ n ∈ Finset.range 511, wts q kc i b g (R.val / 128) (R.val % 128) n * vc (b * 512 + n) l.val := by
  rw [pay30_at hg hv hQ i x2 x3 hk R l]
  refine Finset.sum_congr rfl fun n hn => ?_
  have hn := Finset.mem_range.mp hn
  rw [wts_eq i x2 q kc b hx2 g hg _ _ n hn]
  exact congrArg _ ((at2_mk x3 (by omega : n < 512) l.isLt).trans (hx3 _ _))

/-- The importance of the blocks, the two groups one above the other. -/
abbrev imps : S256x128.Idx → EReal := kernelRun0_A.sl.r_16 (F := Ideal) c i arg2 harg2 arg4 harg4 arg8 harg8 x0 x2 x6

include hx0 hx2 hx6 rq rk in
theorem imps_at (A : Fin 256) (s : Fin 128) :
    imps c i arg2 harg2 arg4 harg4 arg8 harg8 x0 x2 x6 (ix2 A s) = imp 511 (fun r n => wts q kc i b (A.val / 128) r (A.val % 128) n) s.val
      ∧ IsR (imps c i arg2 harg2 arg4 harg4 arg8 harg8 x0 x2 x6 (ix2 A s)) := by
  have hv0 := rows0 c i arg2 harg2 x0 q b hx0
  have hv1 := rows1 c i arg2 harg2 x0 q b hx0
  have hQ := rows_real i q b rq
  have hk := keys_real x2 kc b hx2 rk
  set P : ℕ → ℕ → ℕ → ℕ → EReal := fun g r a n => cmpP 511 (place i a) (rows q i b g r a) (fun n d => at2 x2 n (g * 64 + d)) n with hP
  have h25 : ∀ R n : Fin 512, kernelRun0_A.sl.r_11 (F := Ideal) c i arg2 harg2 arg4 harg4 x0 x2 (ix2 R n) = P 0 (R.val / 128) (R.val % 128) n.val := fun R n => by
    refine Eq.trans ?_ (pay29_at (by omega : 0 < 2) hv0 (hQ 0 (by omega)) i x2 hk R n)
    exact congrArg (fun k => k0_pay29 (F := Ideal) (kernelRun0_A.sl.r_2 (F := Ideal) c arg2 harg2 x0) k (k0_pay23 (F := Ideal) (k0_pay16 i)) (k0_pay24 (F := Ideal) (k0_pay16 i)) (ix2 R n)) (read7 c arg4 harg4 x2)
  have hQ' : RealQ (rows q i b 1) := hQ 1 (by omega)
  have hr : ∀ g < 2, ∀ r < 4, ∀ a < 128, ∀ n < 512, IsR (P g r a n) := fun g hg r hr a ha n hn => by
    have e1 : (⟨r * 128 + a, by omega⟩ : Fin 512).val / 128 = r := by show (r * 128 + a) / 128 = r; omega
    have e2 : (⟨r * 128 + a, by omega⟩ : Fin 512).val % 128 = a := by show (r * 128 + a) % 128 = a; omega
    have h : ∀ {v : S512x128.Idx → EReal}, Holds (rows q i b g) g v → IsR (P g r a n) := fun hv => by
      have h := cmp_real hg hv (hQ g hg) i x2 hk ⟨r * 128 + a, by omega⟩ n hn
      rw [e1, e2] at h
      exact h
    rcases (by omega : g = 0 ∨ g = 1) with rfl | rfl
    · exact h hv0
    · exact h hv1
  have e : imps c i arg2 harg2 arg4 harg4 arg8 harg8 x0 x2 x6 (ix2 A s) = imp 511 (fun r n => P (A.val / 128) r (A.val % 128) n) s.val := by
    have e16 : imps c i arg2 harg2 arg4 harg4 arg8 harg8 x0 x2 x6
        = k0_pay31 (F := Ideal) (kernelRun0_A.sl.r_6 (F := Ideal) c arg2 harg2 x0) x2 (k0_pay23 (F := Ideal) (k0_pay16 i)) (k0_pay24 (F := Ideal) (k0_pay16 i)) (kernelRun0_A.sl.r_11 (F := Ideal) c i arg2 harg2 arg4 harg4 x0 x2)
          (kernelRun0_A.sl.r_13 (F := Ideal) c i arg2 harg2 arg4 harg4 x0 x2) (kernelRun0_A.sl.r_14 (F := Ideal) c i arg2 harg2 arg4 harg4 x0 x2) x6 :=
      congrArg₂ (fun k w => k0_pay31 (F := Ideal) (kernelRun0_A.sl.r_6 (F := Ideal) c arg2 harg2 x0) k (k0_pay23 (F := Ideal) (k0_pay16 i)) (k0_pay24 (F := Ideal) (k0_pay16 i)) (kernelRun0_A.sl.r_11 (F := Ideal) c i arg2 harg2 arg4 harg4 x0 x2)
          (kernelRun0_A.sl.r_13 (F := Ideal) c i arg2 harg2 arg4 harg4 x0 x2) (kernelRun0_A.sl.r_14 (F := Ideal) c i arg2 harg2 arg4 harg4 x0 x2) w) (read7 c arg4 harg4 x2) (read_full arg8 harg8 _ zero_off _ x6)
    rw [e16]
    refine pay31_at P _ _ _ _ _ _ _ _ h25 (fun a n => ?_) (fun a n => ?_) (fun R n => pay29_at (by omega : 1 < 2) hv1 hQ' i x2 hk R n) hr
      (fun g hg r hr a ha => cmpP_last (by have := place_lt i ha; omega) _) (fun n hn s hs => (at2_mk x6 (by omega : n < 512) hs).trans (hx6 _ _ hn)) A s
    · refine (slice0_at _ a n).trans ((h25 _ n).trans ?_)
      show P 0 (a.val / 128) (a.val % 128) n.val = _
      rw [Nat.div_eq_of_lt a.isLt, Nat.mod_eq_of_lt a.isLt]
    · refine (slice128_at _ a n).trans ((h25 _ n).trans ?_)
      show P 0 ((128 + a.val) / 128) ((128 + a.val) % 128) n.val = _
      rw [show (128 + a.val) / 128 = 1 by omega, show (128 + a.val) % 128 = a.val by omega]
  have e' : imp 511 (fun r n => P (A.val / 128) r (A.val % 128) n) s.val = imp 511 (fun r n => wts q kc i b (A.val / 128) r (A.val % 128) n) s.val :=
    Finset.sum_congr rfl fun n hn => by
      rw [Finset.sum_congr rfl fun r _ => wts_eq i x2 q kc b hx2 (A.val / 128) (by omega) r (A.val % 128) n (Finset.mem_range.mp hn)]
  refine ⟨e.trans e', ?_⟩
  rw [e]
  exact IsR.sum _ _ fun n hn => IsR.mul (IsR.sum _ _ fun r hr' => hr _ (by omega) r (Finset.mem_range.mp hr') _ (by omega) n (by have := Finset.mem_range.mp hn; omega)) (cover_real _ _)

theorem lane_words (A : Fin 256) (s : Fin 128) : kernelRun0_A.sl.v119 (ix2 A s) = W (s.val : ℕ) := by
  unfold kernelRun0_A.sl.v119
  pointwise
  exact ofNat_W _

/-- The choice of the blocks of both groups: the sixteen best, none later than the query's own. -/
theorem choice_at (hI : ∀ (A : Fin 256) (s : Fin 128), IsR (imps c i arg2 harg2 arg4 harg4 arg8 harg8 x0 x2 x6 (ix2 A s))) (A : Fin 256) (s : Fin 128) :
    k0_pay75 (F := Ideal) (kernelRun0_A.sl.r_20 i) (k0_pay38 (F := Ideal) kernelRun0_A.sl.v119) (kernelRun0_A.sl.r_32 (F := Ideal) c i arg2 harg2 arg4 harg4 arg8 harg8 x0 x2 x6)
      (kernelRun0_A.sl.r_33 (F := Ideal) c i arg2 harg2 arg4 harg4 arg8 harg8 x0 x2 x6) (kernelRun0_A.sl.r_34 (F := Ideal) c i arg2 harg2 arg4 harg4 arg8 harg8 x0 x2 x6) (ix2 A s)
      = open Classical in if s.val ≤ place i (A.val % 128) / 64 ∧ Sel (place i (A.val % 128)) (fun s => at2 (imps c i arg2 harg2 arg4 harg4 arg8 harg8 x0 x2 x6) A s) s then 1 else 0 := by
  classical
  refine (congrFun (picked (imps c i arg2 harg2 arg4 harg4 arg8 harg8 x0 x2 x6) kernelRun0_A.sl.v119 (v118 := k0_pay32 (k0_pay15 i)) (c := 64#32) (v121 := k0_pay33 (k0_pay15 i)) (v128 := k0_pay34 (k0_pay15 i)) (v129 := 1#1)
    (e := kernelRun0_A.sl.r_20 i) (B := k0_pay38 (F := Ideal) kernelRun0_A.sl.v119) (r21 := kernelRun0_A.sl.r_21 (F := Ideal) c i arg2 harg2 arg4 harg4 arg8 harg8 x0 x2 x6) (r22 := kernelRun0_A.sl.r_22 (F := Ideal) c i arg2 harg2 arg4 harg4 arg8 harg8 x0 x2 x6) (r23 := kernelRun0_A.sl.r_23 (F := Ideal) c i arg2 harg2 arg4 harg4 arg8 harg8 x0 x2 x6) (r24 := kernelRun0_A.sl.r_24 (F := Ideal) c i arg2 harg2 arg4 harg4 arg8 harg8 x0 x2 x6) (r25 := kernelRun0_A.sl.r_25 (F := Ideal) c i arg2 harg2 arg4 harg4 arg8 harg8 x0 x2 x6) (r26 := kernelRun0_A.sl.r_26 (F := Ideal) c i arg2 harg2 arg4 harg4 arg8 harg8 x0 x2 x6) (r27 := kernelRun0_A.sl.r_27 (F := Ideal) c i arg2 harg2 arg4 harg4 arg8 harg8 x0 x2 x6) (r28 := kernelRun0_A.sl.r_28 (F := Ideal) c i arg2 harg2 arg4 harg4 arg8 harg8 x0 x2 x6) (r29 := kernelRun0_A.sl.r_29 (F := Ideal) c i arg2 harg2 arg4 harg4 arg8 harg8 x0 x2 x6) (r30 := kernelRun0_A.sl.r_30 (F := Ideal) c i arg2 harg2 arg4 harg4 arg8 harg8 x0 x2 x6) (r32 := kernelRun0_A.sl.r_32 (F := Ideal) c i arg2 harg2 arg4 harg4 arg8 harg8 x0 x2 x6) (r33 := kernelRun0_A.sl.r_33 (F := Ideal) c i arg2 harg2 arg4 harg4 arg8 harg8 x0 x2 x6) (r34 := kernelRun0_A.sl.r_34 (F := Ideal) c i arg2 harg2 arg4 harg4 arg8 harg8 x0 x2 x6) (e31 := kernelRun0_A.sl.r_31 (F := Ideal) c i arg2 harg2 arg4 harg4 arg8 harg8 x0 x2 x6)
    rfl rfl rfl rfl rfl rfl rfl rfl rfl rfl rfl rfl rfl rfl rfl) (ix2 A s)).trans ?_
  refine (select_at (imps c i arg2 harg2 arg4 harg4 arg8 harg8 x0 x2 x6) kernelRun0_A.sl.v119 lane_words i hI A s).trans ?_
  by_cases h : s.val ≤ place i (A.val % 128) / 64 ∧ Sel (place i (A.val % 128)) (fun s => at2 (imps c i arg2 harg2 arg4 harg4 arg8 harg8 x0 x2 x6) A s) s
  · exact (if_pos h).trans (if_pos h).symm
  · exact (if_neg h).trans (if_neg h).symm

/-- The importance of group `g` at row `a`. -/
def impG (g : ℕ) (v : S256x128.Idx → EReal) (a s : ℕ) : EReal := at2 v (g * 128 + a) s

/-- A block is open to a row: picked for it, and not later than its own. -/
def Open (i : grid0.Coords) (I : ℕ → ℕ → EReal) (a s : ℕ) : Prop := s ≤ place i a / 64 ∧ Sel (place i a) (I a) s

theorem choice0_at (hI : ∀ (A : Fin 256) (s : Fin 128), IsR (imps c i arg2 harg2 arg4 harg4 arg8 harg8 x0 x2 x6 (ix2 A s))) (a s : Fin 128) :
    kernelRun0_A.sl.r_35 (F := Ideal) c i arg2 harg2 arg4 harg4 arg8 harg8 x0 x2 x6 (ix2 a s)
      = open Classical in if Open i (impG 0 (imps c i arg2 harg2 arg4 harg4 arg8 harg8 x0 x2 x6)) a.val s.val then 1 else 0 := by
  refine (pick0_at _ _ _ _ _ a s).trans ((choice_at c i arg2 harg2 arg4 harg4 arg8 harg8 x0 x2 x6 hI ⟨a.val, by omega⟩ s).trans ?_)
  have e1 : (⟨a.val, by omega⟩ : Fin 256).val % 128 = a.val := Nat.mod_eq_of_lt a.isLt
  have e2 : (fun s => at2 (imps c i arg2 harg2 arg4 harg4 arg8 harg8 x0 x2 x6) (⟨a.val, by omega⟩ : Fin 256).val s) = impG 0 (imps c i arg2 harg2 arg4 harg4 arg8 harg8 x0 x2 x6) a.val := by
    funext s; unfold impG; rw [Nat.zero_mul, Nat.zero_add]
  rw [e1, e2]
  by_cases h : Open i (impG 0 (imps c i arg2 harg2 arg4 harg4 arg8 harg8 x0 x2 x6)) a.val s.val
  · exact (if_pos h).trans (if_pos h).symm
  · exact (if_neg h).trans (if_neg h).symm

theorem choice1_at (hI : ∀ (A : Fin 256) (s : Fin 128), IsR (imps c i arg2 harg2 arg4 harg4 arg8 harg8 x0 x2 x6 (ix2 A s))) (a s : Fin 128) :
    kernelRun0_A.sl.r_36 (F := Ideal) c i arg2 harg2 arg4 harg4 arg8 harg8 x0 x2 x6 (ix2 a s)
      = open Classical in if Open i (impG 1 (imps c i arg2 harg2 arg4 harg4 arg8 harg8 x0 x2 x6)) a.val s.val then 1 else 0 := by
  refine (pick1_at _ _ _ _ _ a s).trans ((choice_at c i arg2 harg2 arg4 harg4 arg8 harg8 x0 x2 x6 hI ⟨128 + a.val, by omega⟩ s).trans ?_)
  have e1 : (⟨128 + a.val, by omega⟩ : Fin 256).val % 128 = a.val := by show (128 + a.val) % 128 = a.val; omega
  have e2 : (fun s => at2 (imps c i arg2 harg2 arg4 harg4 arg8 harg8 x0 x2 x6) (⟨128 + a.val, by omega⟩ : Fin 256).val s) = impG 1 (imps c i arg2 harg2 arg4 harg4 arg8 harg8 x0 x2 x6) a.val := by
    funext s; unfold impG; rw [Nat.one_mul]
  rw [e1, e2]
  by_cases h : Open i (impG 1 (imps c i arg2 harg2 arg4 harg4 arg8 harg8 x0 x2 x6)) a.val s.val
  · exact (if_pos h).trans (if_pos h).symm
  · exact (if_neg h).trans (if_neg h).symm

include hx0 hx2 hx6 rq rk in
theorem picks_eq (g : ℕ) (hg : g < 2) (a : ℕ) (ha : a < 128) :
    Sel (place i a) (impG g (imps c i arg2 harg2 arg4 harg4 arg8 harg8 x0 x2 x6) a) = sel q kc b (place i a) g := by
  refine Sel_congr fun s hs => ?_
  refine (at2_mk _ (by omega : g * 128 + a < 256) hs).trans ((imps_at c i arg2 harg2 arg4 harg4 arg8 harg8 x0 x2 x6 q kc b hx0 hx2 hx6 rq rk _ _).1.trans ?_)
  show imp 511 (fun r n => wts q kc i b ((g * 128 + a) / 128) r ((g * 128 + a) % 128) n) s = _
  rw [show (g * 128 + a) / 128 = g by omega, show (g * 128 + a) % 128 = a by omega]
  rfl

/-- The offset reads of the keys and the values, in the window and in the loop. -/
theorem win_keys (k : Fin 640) (l : Fin 128) (hx5 : ∀ (k : Fin 8192) (l : Fin 256), x5 (ix2 k l) = win (b * 8192 + k.val) l.val) :
    View.readAt (Elt Ideal) arg7.view (Rect.unit (s := S8192x256) (k0_off1 i) S640x128.size (Facts₀.k0_off1_inb i)).toLoadRect (harg7.unread x5) (ix2 k l) = win (b * 8192 + (start i + k.val)) l.val := by
  have hs : start i + 640 ≤ 8192 := by have := qb_lt i; unfold start; omega
  refine (read_part arg7 harg7 _ _ _ x5 (ix2 k l) (ix2 ⟨start i + k.val, by omega⟩ ⟨l.val, by omega⟩) (fun a => ?_)).trans (hx5 _ _)
  refine Eq.trans ?_ (congrArg (· + _) (congrFun (off1 i) a).symm)
  fin_cases a
  · rfl
  · exact (Nat.zero_add _).symm

theorem win_vals (k : Fin 640) (l : Fin 128) (hx5 : ∀ (k : Fin 8192) (l : Fin 256), x5 (ix2 k l) = win (b * 8192 + k.val) l.val) :
    View.readAt (Elt Ideal) arg7.view (Rect.unit (s := S8192x256) (k0_off2 i) S640x128.size (Facts₀.k0_off2_inb i)).toLoadRect (harg7.unread x5) (ix2 k l) = win (b * 8192 + (start i + k.val)) (128 + l.val) := by
  have hs : start i + 640 ≤ 8192 := by have := qb_lt i; unfold start; omega
  refine (read_part arg7 harg7 _ _ _ x5 (ix2 k l) (ix2 ⟨start i + k.val, by omega⟩ ⟨128 + l.val, by omega⟩) (fun a => ?_)).trans (hx5 _ _)
  refine Eq.trans ?_ (congrArg (· + _) (congrFun (off2 i) a).symm)
  fin_cases a <;> rfl

theorem loop_keys (k : Fin (k0_t1_loop i).trips) (n : Fin 1024) (l : Fin 128) (hx4 : ∀ (k : Fin 8192) (l : Fin 256), x4 (ix2 k l) = slc (b * 8192 + k.val) l.val) :
    View.readAt (Elt Ideal) arg6.view (Rect.unit (s := S8192x256) (k0_off3 i k) S1024x128.size (Facts₀.k0_off3_inb i k)).toLoadRect (harg6.unread x4) (ix2 n l) = slc (b * 8192 + (k.val * 1024 + n.val)) l.val := by
  have hk := trip_le i k
  refine (read_part arg6 harg6 _ _ _ x4 (ix2 n l) (ix2 ⟨k.val * 1024 + n.val, by omega⟩ ⟨l.val, by omega⟩) (fun a => ?_)).trans (hx4 _ _)
  refine Eq.trans ?_ (congrArg (· + _) (congrFun (off3 i k) a).symm)
  fin_cases a
  · rfl
  · exact (Nat.zero_add _).symm

theorem loop_vals (k : Fin (k0_t1_loop i).trips) (n : Fin 1024) (l : Fin 128) (hx4 : ∀ (k : Fin 8192) (l : Fin 256), x4 (ix2 k l) = slc (b * 8192 + k.val) l.val) :
    View.readAt (Elt Ideal) arg6.view (Rect.unit (s := S8192x256) (k0_off4 i k) S1024x128.size (Facts₀.k0_off4_inb i k)).toLoadRect (harg6.unread x4) (ix2 n l) = slc (b * 8192 + (k.val * 1024 + n.val)) (128 + l.val) := by
  have hk := trip_le i k
  refine (read_part arg6 harg6 _ _ _ x4 (ix2 n l) (ix2 ⟨k.val * 1024 + n.val, by omega⟩ ⟨128 + l.val, by omega⟩) (fun a => ?_)).trans (hx4 _ _)
  refine Eq.trans ?_ (congrArg (· + _) (congrFun (off4 i k) a).symm)
  fin_cases a <;> rfl

theorem loop_expand (k : Fin (k0_t1_loop i).trips) (s : Fin 128) (n : Fin 1024) (hx7 : ∀ (s : Fin 128) (k : Fin 8192), x7 (ix2 s k) = if s.val = k.val / 64 then 1 else 0) :
    View.readAt (Elt Ideal) arg9.view (Rect.unit (s := S128x8192) (k0_off5 i k) S128x1024.size (Facts₀.k0_off5_inb i k)).toLoadRect (harg9.unread x7) (ix2 s n) = if s.val = (k.val * 1024 + n.val) / 64 then 1 else 0 := by
  have hk := trip_le i k
  refine (read_part arg9 harg9 _ _ _ x7 (ix2 s n) (ix2 s ⟨k.val * 1024 + n.val, by omega⟩) (fun a => ?_)).trans (hx7 _ _)
  refine Eq.trans ?_ (congrArg (· + _) (congrFun (off5 i k) a).symm)
  fin_cases a
  · exact (Nat.zero_add _).symm
  · rfl

include hx5 rw' in
theorem win_real : RealM (n := 640) (m := 128) (View.readAt (Elt Ideal) arg7.view (Rect.unit (s := S8192x256) (k0_off1 i) S640x128.size (Facts₀.k0_off1_inb i)).toLoadRect (harg7.unread x5)) := fun k hk l hl => by
  have hs : start i + 640 ≤ 8192 := by have := qb_lt i; unfold start; omega
  have e := (at2_mk (n := 640) (m := 128) (View.readAt (Elt Ideal) arg7.view (Rect.unit (s := S8192x256) (k0_off1 i) S640x128.size (Facts₀.k0_off1_inb i)).toLoadRect (harg7.unread x5)) hk hl).trans
    (win_keys i arg7 harg7 x5 win b ⟨k, hk⟩ ⟨l, hl⟩ hx5)
  rw [e]
  exact rw' _ (by show start i + k < 8192; omega) _ hl

include hx0 hx5 rq rw' in
/-- The window branch of the first group. -/
theorem win0_at (R : Fin 512) (l : Fin 128) :
    kernelRun0_A.sl.r_39 (F := Ideal) c i arg2 harg2 arg7 harg7 x0 x5 (ix2 R l)
      = soft (Finset.range 8192) (winW (place i (R.val % 128)) (rows q i b 0 (R.val / 128) (R.val % 128)) (fun n d => win (b * 8192 + n) (0 * 64 + d))) (fun k => win (b * 8192 + k) (128 + l.val)) :=
  pay84_at (by omega : 0 < 2) (rows0 c i arg2 harg2 x0 q b hx0) (rows_real i q b rq 0 (by omega)) i _ _ (fun n d => win (b * 8192 + n) d) (fun n d => win (b * 8192 + n) (128 + d))
    (win_real i arg7 harg7 x5 win b hx5 rw') (fun k l => win_keys i arg7 harg7 x5 win b k l hx5) (fun k l => win_vals i arg7 harg7 x5 win b k l hx5) R l

include hx0 hx5 rq rw' in
/-- The window branch of the second group. -/
theorem win1_at (R : Fin 512) (l : Fin 128) :
    kernelRun0_A.sl.r_40 (F := Ideal) c i arg2 harg2 arg7 harg7 x0 x5 (ix2 R l)
      = soft (Finset.range 8192) (winW (place i (R.val % 128)) (rows q i b 1 (R.val / 128) (R.val % 128)) (fun n d => win (b * 8192 + n) (1 * 64 + d))) (fun k => win (b * 8192 + k) (128 + l.val)) :=
  pay85_at (by omega : 1 < 2) (rows1 c i arg2 harg2 x0 q b hx0) (rows_real i q b rq 1 (by omega)) i _ _ (fun n d => win (b * 8192 + n) d) (fun n d => win (b * 8192 + n) (128 + d))
    (win_real i arg7 harg7 x5 win b hx5 rw') (fun k l => win_keys i arg7 harg7 x5 win b k l hx5) (fun k l => win_vals i arg7 harg7 x5 win b k l hx5) R l

include hx0 hx2 hx4 hx6 hx7 rq rk rs in
/-- What the loop carries at its end. -/
theorem carried : Carried i (rows q i b 0) (rows q i b 1) (fun n d => slc (b * 8192 + n) d) (fun n d => slc (b * 8192 + n) (128 + d))
    (fun a s => s ≤ place i a / 64 ∧ Sel (place i a) (impG 0 (imps c i arg2 harg2 arg4 harg4 arg8 harg8 x0 x2 x6) a) s)
    (fun a s => s ≤ place i a / 64 ∧ Sel (place i a) (impG 1 (imps c i arg2 harg2 arg4 harg4 arg8 harg8 x0 x2 x6) a) s)
    (carry c i arg2 harg2 arg3 harg3 arg4 harg4 arg5 harg5 arg6 harg6 arg7 harg7 arg8 harg8 arg9 harg9 arg10 harg10 x0 x1 x2 x3 x4 x5 x6 x7 (runs i)) (runs i * 1024) := by
  have hI := fun A s => (imps_at c i arg2 harg2 arg4 harg4 arg8 harg8 x0 x2 x6 q kc b hx0 hx2 hx6 rq rk A s).2
  exact run_at i (rows0 c i arg2 harg2 x0 q b hx0) (rows1 c i arg2 harg2 x0 q b hx0) (rows_real i q b rq 0 (by omega)) (rows_real i q b rq 1 (by omega))
    (fun n d => slc (b * 8192 + n) d) (fun n d => slc (b * 8192 + n) (128 + d)) rs (Open i (impG 0 (imps c i arg2 harg2 arg4 harg4 arg8 harg8 x0 x2 x6))) (Open i (impG 1 (imps c i arg2 harg2 arg4 harg4 arg8 harg8 x0 x2 x6))) _ _
    (choice0_at c i arg2 harg2 arg4 harg4 arg8 harg8 x0 x2 x6 hI) (choice1_at c i arg2 harg2 arg4 harg4 arg8 harg8 x0 x2 x6 hI) _ _ _
    (fun k n l => loop_keys i arg6 harg6 x4 slc b k n l hx4) (fun k n l => loop_vals i arg6 harg6 x4 slc b k n l hx4) (fun k s n => loop_expand i arg9 harg9 x7 k s n hx7)
    (carry c i arg2 harg2 arg3 harg3 arg4 harg4 arg5 harg5 arg6 harg6 arg7 harg7 arg8 harg8 arg9 harg9 arg10 harg10 x0 x1 x2 x3 x4 x5 x6 x7) rfl (fun k => (st_k0_t1_succ ..).trans (trip_eq ..)) (runs i) le_rfl

include hx0 hx2 hx4 hx6 hx7 rq rk rs in
/-- The branch of the picked blocks, of the first group. -/
theorem slc0_at (R : Fin 512) (l : Fin 128) (hl : l.val < 64) :
    k0_pay96 (F := Ideal) (carry c i arg2 harg2 arg3 harg3 arg4 harg4 arg5 harg5 arg6 harg6 arg7 harg7 arg8 harg8 arg9 harg9 arg10 harg10 x0 x1 x2 x3 x4 x5 x6 x7 (runs i)).2.1 (ix2 R l)
      = soft (Finset.range 8192) (slcW (place i (R.val % 128)) (sel q kc b (place i (R.val % 128)) 0) (rows q i b 0 (R.val / 128) (R.val % 128)) (fun n d => slc (b * 8192 + n) (0 * 64 + d))) (fun k => slc (b * 8192 + k) (128 + l.val)) := by
  obtain ⟨-, h, -, -⟩ := carried c i arg2 harg2 arg3 harg3 arg4 harg4 arg5 harg5 arg6 harg6 arg7 harg7 arg8 harg8 arg9 harg9 arg10 harg10 x0 x1 x2 x3 x4 x5 x6 x7 q kc slc b hx0 hx2 hx4 hx6 hx7 rq rk rs
  rw [pay96_at, h R l, h R 64, ← picks_eq c i arg2 harg2 arg4 harg4 arg8 harg8 x0 x2 x6 q kc b hx0 hx2 hx6 rq rk 0 (by omega) (R.val % 128) (by omega)]
  refine Eq.trans ?_ (run_soft i (by omega : 0 < 2) (rows_real i q b rq 0 (by omega)) (fun n d => slc (b * 8192 + n) d) rs (fun k => slc (b * 8192 + k) (128 + l.val)) (impG 0 (imps c i arg2 harg2 arg4 harg4 arg8 harg8 x0 x2 x6)) R)
  congr 2
  · funext n; exact if_pos hl

include hx0 hx2 hx4 hx6 hx7 rq rk rs in
/-- The branch of the picked blocks, of the second group. -/
theorem slc1_at (R : Fin 512) (l : Fin 128) (hl : ¬l.val < 64) :
    k0_pay104 (F := Ideal) (carry c i arg2 harg2 arg3 harg3 arg4 harg4 arg5 harg5 arg6 harg6 arg7 harg7 arg8 harg8 arg9 harg9 arg10 harg10 x0 x1 x2 x3 x4 x5 x6 x7 (runs i)).2.2.2 (ix2 R l)
      = soft (Finset.range 8192) (slcW (place i (R.val % 128)) (sel q kc b (place i (R.val % 128)) 1) (rows q i b 1 (R.val / 128) (R.val % 128)) (fun n d => slc (b * 8192 + n) (1 * 64 + d))) (fun k => slc (b * 8192 + k) (128 + l.val)) := by
  obtain ⟨-, -, -, h⟩ := carried c i arg2 harg2 arg3 harg3 arg4 harg4 arg5 harg5 arg6 harg6 arg7 harg7 arg8 harg8 arg9 harg9 arg10 harg10 x0 x1 x2 x3 x4 x5 x6 x7 q kc slc b hx0 hx2 hx4 hx6 hx7 rq rk rs
  rw [pay104_at, h R l, h R 0, ← picks_eq c i arg2 harg2 arg4 harg4 arg8 harg8 x0 x2 x6 q kc b hx0 hx2 hx6 rq rk 1 (by omega) (R.val % 128) (by omega)]
  refine Eq.trans ?_ (run_soft i (by omega : 1 < 2) (rows_real i q b rq 1 (by omega)) (fun n d => slc (b * 8192 + n) d) rs (fun k => slc (b * 8192 + k) (128 + l.val)) (impG 1 (imps c i arg2 harg2 arg4 harg4 arg8 harg8 x0 x2 x6)) R)
  congr 2
  · funext n; exact if_pos hl

include hx1 in
/-- Three branches at a row and a lane, with their gates. -/
theorem mix_at {X Y Z : S512x128.Idx → EReal} {g r a d : ℕ} (hg : g < 2) (hr : r < 4) (ha : a < 128) (hd : d < 64) (lo : ℕ) (hlo : lo = g * 64)
    (hX : ∀ (R : Fin 512) (l : Fin 128), X (ix2 R l) = ∑ n ∈ Finset.range 511, wts q kc i b g (R.val / 128) (R.val % 128) n * vc (b * 512 + n) l.val)
    (hY : ∀ (R : Fin 512) (l : Fin 128), l.val / 64 = g → Y (ix2 R l) = soft (Finset.range 8192) (slcW (place i (R.val % 128)) (sel q kc b (place i (R.val % 128)) g) (rows q i b g (R.val / 128) (R.val % 128)) (fun n d => slc (b * 8192 + n) (g * 64 + d))) (fun k => slc (b * 8192 + k) (128 + l.val)))
    (hZ : ∀ (R : Fin 512) (l : Fin 128), Z (ix2 R l) = soft (Finset.range 8192) (winW (place i (R.val % 128)) (rows q i b g (R.val / 128) (R.val % 128)) (fun n d => win (b * 8192 + n) (g * 64 + d))) (fun k => win (b * 8192 + k) (128 + l.val))) :
    mix x1 X Y Z g r a (lo + d) = out q gates kc vc slc win b (place i a) g r d := by
  have hR : r * 128 + a < 512 := by omega
  have hl : lo + d < 128 := by omega
  have e1 : (⟨r * 128 + a, hR⟩ : Fin 512).val / 128 = r := by show (r * 128 + a) / 128 = r; omega
  have e2 : (⟨r * 128 + a, hR⟩ : Fin 512).val % 128 = a := by show (r * 128 + a) % 128 = a; omega
  have hX' := hX ⟨r * 128 + a, hR⟩ ⟨lo + d, hl⟩
  have hY' := hY ⟨r * 128 + a, hR⟩ ⟨lo + d, hl⟩ (by show (lo + d) / 64 = g; omega)
  have hZ' := hZ ⟨r * 128 + a, hR⟩ ⟨lo + d, hl⟩
  rw [e1, e2] at hX' hY' hZ'
  unfold mix out
  rw [at2_mk X hR hl, at2_mk Y hR hl, at2_mk Z hR hl, hX', hY', hZ',
    at2_mk x1 ha (by omega : g * 12 + r * 3 < 128), at2_mk x1 ha (by omega : g * 12 + r * 3 + 1 < 128), at2_mk x1 ha (by omega : g * 12 + r * 3 + 2 < 128), hx1, hx1, hx1]
  subst hlo
  simp only [← Nat.add_assoc]
  rfl

include hx0 hx1 hx2 hx3 hx4 hx5 hx6 hx7 rq rk rs rw' in
/-- A block of the output is the attention of its queries. -/
theorem block_at (a : Fin 128) (C : Fin 512) :
    out0_A_8 (F := Ideal) c i arg2 harg2 arg3 harg3 arg4 harg4 arg5 harg5 arg6 harg6 arg7 harg7 arg8 harg8 arg9 harg9 arg10 harg10 x0 x1 x2 x3 x4 x5 x6 x7 (ix2 a C) = out q gates kc vc slc win b (place i a.val) (C.val / 256) (C.val / 64 % 4) (C.val % 64) := by
  have hk := keys_real x2 kc b hx2 rk
  rw [written]
  split_ifs with h
  · rw [h, show C.val % 64 = 0 + C.val % 64 from (Nat.zero_add _).symm]
    refine (mix_at i x1 q gates kc vc slc win b hx1 (by omega : 0 < 2) (by omega) a.isLt (by omega) 0 rfl (fun R l => ?_) (fun R l hl => ?_) (fun R l => ?_)).trans ?_
    · rw [read12]; exact cmp_at i x2 x3 q kc vc b hx2 hx3 (by omega) (read2 c arg2 harg2 x0 ▸ rows0 c i arg2 harg2 x0 q b hx0) (rows_real i q b rq 0 (by omega)) hk R l
    · exact slc0_at c i arg2 harg2 arg3 harg3 arg4 harg4 arg5 harg5 arg6 harg6 arg7 harg7 arg8 harg8 arg9 harg9 arg10 harg10 x0 x1 x2 x3 x4 x5 x6 x7 q kc slc b hx0 hx2 hx4 hx6 hx7 rq rk rs R l (by omega)
    · exact win0_at c i arg2 harg2 arg7 harg7 x0 x5 q win b hx0 hx5 rq rw' R l
    · rw [Nat.zero_add]
  · have h : C.val / 256 = 1 := by omega
    rw [h]
    refine mix_at i x1 q gates kc vc slc win b hx1 (by omega : 1 < 2) (by omega) a.isLt (by omega) 64 rfl (fun R l => ?_) (fun R l hl => ?_) (fun R l => ?_)
    · rw [read15]; exact cmp_at i x2 x3 q kc vc b hx2 hx3 (by omega) (read6 c arg2 harg2 x0 ▸ rows1 c i arg2 harg2 x0 q b hx0) (rows_real i q b rq 1 (by omega)) hk R l
    · exact slc1_at c i arg2 harg2 arg3 harg3 arg4 harg4 arg5 harg5 arg6 harg6 arg7 harg7 arg8 harg8 arg9 harg9 arg10 harg10 x0 x1 x2 x3 x4 x5 x6 x7 q kc slc b hx0 hx2 hx4 hx6 hx7 rq rk rs R l (by omega)
    · exact win1_at c i arg2 harg2 arg7 harg7 x0 x5 q win b hx0 hx5 rq rw' R l

end Block

end Cert.NsaIdeal.Kernel
end
end
-- ==== Proof.Nsa.Host.lean ====
/-
  The two constant matrices the host writes before the kernel: how much a compressed key lies in a block of keys, and which
  block a key lies in.
-/
module

public import proofs.«01_k».proof.Proof.Gen.NsaIdeal.Value
public import proofs.«01_k».proof.Proof.Nsa.Spec
public import proofs.«01_k».proof.Proof.Nsa.Words
public import proofs.«01_k».proof.Proof.Nsa.Softmax
public import Idealize.ShloMosaic.Lib.StableHlo.ReadAt
public import Idealize.ShloMosaic.Lib.Pointwise

@[expose] public section

set_option maxRecDepth 16384

noncomputable section

namespace Cert.NsaIdeal.Kernel

open Idealize.ShloMosaic Idealize.ShloMosaic.TcCoe Idealize.SL.Sem
open Cert.NsaIdeal Cert.NsaIdeal.Gen Cert.Attn Cert.Word Cert.Softmax

variable (m : (ℓ : Loc nD τ sig) → Buf (Elt Ideal) ℓ)

theorem host_thirty_two : Ideal.ofBits .f32 1107296256#32 = ((32 : ℝ) : EReal) := by
  show Ideal.ieee 8 23 1107296256#32 = _
  unfold Ideal.ieee
  dsimp only
  rw [if_neg (by decide), if_neg (by decide), if_neg (by decide)]
  norm_num [show (1107296256#32 : BitVec 32).extractLsb' 23 8 = 132#8 by decide, show (1107296256#32 : BitVec 32).extractLsb' 0 23 = 0#23 by decide]

/-- The overlap of compressed key `n` with block `s`, as the kernel finds it. -/
theorem host_cover (c : Dev nD) (n : Fin 512) (s : Fin 128) (h : n.val < 511) :
    (V m c main_v28 : S512x128.Idx → EReal) (ix2 n s) = cover n.val s.val := by
  unfold V
  simp only [List.flatten_cons, List.flatten_nil, List.append_nil, List.cons_append, List.nil_append]
  after_reads_at
  have hn := n.isLt
  have hs := s.isLt
  simp (disch := omega) only [ofNat_W, muli_W, addi_W, subi_W, minsi_W, maxsi_W, slt_W, andi_ofBool, select_ofBool]
  refine (if_pos (by omega)).trans ?_
  rw [sitofp_W (by omega) (by omega), ← ofNat_W, host_thirty_two, Ideal.div_coe (by norm_num), ← EReal.coe_mul]
  unfold cover
  have hz : max (min ((n.val : ℤ) * (16 : ℕ) + (32 : ℕ)) ((s.val : ℤ) * (64 : ℕ) + (64 : ℕ)) - max ((n.val : ℤ) * (16 : ℕ)) ((s.val : ℤ) * (64 : ℕ))) (0 : ℕ)
      = max (min (16 * (n.val : ℤ) + 32) (64 * (s.val : ℤ) + 64) - max (16 * (n.val : ℤ)) (64 * (s.val : ℤ))) 0 := by omega
  rw [hz, mul_one_div]

/-- Whether key `k` lies in block `s`, as the kernel finds it. -/
theorem host_expand (c : Dev nD) (s : Fin 128) (k : Fin 8192) :
    (V m c main_v35 : S128x8192.Idx → EReal) (ix2 s k) = (if s.val = k.val / 64 then 1 else 0 : EReal) := by
  unfold V
  simp only [List.flatten_cons, List.flatten_nil, List.append_nil, List.cons_append, List.nil_append]
  after_reads_at
  have hk := k.isLt
  have hs := s.isLt
  simp (disch := omega) only [ofNat_W, divsi_W, eq_W, select_ofBool]
  refine (if_congr (by omega) ?_ ?_)
  · rfl
  · rfl

end Cert.NsaIdeal.Kernel

end
-- ==== Proof.Nsa.Equation.lean ====
/-
  The output array of the kernel: block by block what the block's point computes, hence `Cert.Attn.out` of the arguments at
  every row and column.
-/
module

public import proofs.«01_k».proof.Proof.Gen.NsaIdeal.Value
public import proofs.«01_k».proof.Proof.Nsa.Spec
public import proofs.«01_k».proof.Proof.Nsa.Block
public import proofs.«01_k».proof.Proof.Nsa.Host
public import Idealize.ShloMosaic.Lib.Pipeline.ValueKit
public import Idealize.ShloMosaic.Lib.Pointwise

@[expose] public section

set_option maxRecDepth 16384

noncomputable section

namespace Cert.NsaIdeal.Kernel

open Idealize.ShloMosaic Idealize.ShloMosaic.TcCoe Idealize.SL.Sem
open Cert.NsaIdeal Cert.NsaIdeal.Gen Cert.Attn

/-- The blocks of the queries, the gates and the output at a point of the grid. -/
theorem row_index : ∀ t : Fin cfg0.N, win0_0.index t = ![(grid0.coords t 0).val * 64 + (grid0.coords t 1).val, 0]
    ∧ win0_1.index t = ![(grid0.coords t 0).val * 64 + (grid0.coords t 1).val, 0]
    ∧ win0_8.index t = ![(grid0.coords t 0).val * 64 + (grid0.coords t 1).val, 0] :=
  (by decide +kernel : ∀ t : Fin grid0.N, _)

/-- The blocks of the keys and values. -/
theorem key_index : ∀ t : Fin cfg0.N, win0_2.index t = ![(grid0.coords t 0).val, 0] ∧ win0_3.index t = ![(grid0.coords t 0).val, 0]
    ∧ win0_4.index t = ![(grid0.coords t 0).val, 0] ∧ win0_5.index t = ![(grid0.coords t 0).val, 0] :=
  (by decide +kernel : ∀ t : Fin grid0.N, _)

/-- The constant matrices are whole. -/
theorem whole_index : ∀ t : Fin cfg0.N, win0_6.index t = ![0, 0] ∧ win0_7.index t = ![0, 0] :=
  (by decide +kernel : ∀ t : Fin grid0.N, _)

theorem batch_lt (t : Fin cfg0.N) : (grid0.coords t 0).val < 2 := (grid0.coords t 0).isLt
theorem block_lt (t : Fin cfg0.N) : (grid0.coords t 1).val < 64 := (grid0.coords t 1).isLt

variable (m : (ℓ : Loc nD τ sig) → Buf (Elt Ideal) ℓ)

/-- The queries, as launched. -/
def kq (c : Dev nD) : ℕ → ℕ → EReal := at2 (n := 16384) (m := 512) (m ((c : Thread nD τ).loc main_arg0))
/-- The gates, as launched. -/
def kg (c : Dev nD) : ℕ → ℕ → EReal := at2 (n := 16384) (m := 128) (m ((c : Thread nD τ).loc main_arg1))
/-- The compressed keys, as launched. -/
def kkc (c : Dev nD) : ℕ → ℕ → EReal := at2 (n := 1024) (m := 128) (m ((c : Thread nD τ).loc main_arg2))
/-- The compressed values, as launched. -/
def kvc (c : Dev nD) : ℕ → ℕ → EReal := at2 (n := 1024) (m := 128) (m ((c : Thread nD τ).loc main_arg3))
/-- The keys and values of the selected branch, as launched. -/
def ksl (c : Dev nD) : ℕ → ℕ → EReal := at2 (n := 16384) (m := 256) (m ((c : Thread nD τ).loc main_arg4))
/-- The keys and values of the window, as launched. -/
def kwin (c : Dev nD) : ℕ → ℕ → EReal := at2 (n := 16384) (m := 256) (m ((c : Thread nD τ).loc main_arg5))

/-- The block of the queries. -/
theorem blk0 (c : Dev nD) (t : Fin cfg0.N) (a : Fin 128) (j : Fin 512) :
    (iblk m c 0 t : S128x512.Idx → EReal) (ix2 a j) = kq m c ((grid0.coords t 0).val * 8192 + place (grid0.coords t) a.val) j.val := by
  have h0 := batch_lt t
  have h1 := block_lt t
  have e := (row_index t).1
  have ha := a.isLt
  unfold place
  blk_simp [iblk]
  rw [V_main_arg0]
  unfold kq
  refine Eq.trans (congrArg _ ?_) (at2_of (n := 16384) (m := 512) _ ⟨_, by omega⟩ j)
  blk_ext [e]

/-- The block of the gates. -/
theorem blk1 (c : Dev nD) (t : Fin cfg0.N) (a : Fin 128) (j : Fin 128) :
    (iblk m c 1 t : S128x128.Idx → EReal) (ix2 a j) = kg m c ((grid0.coords t 0).val * 8192 + place (grid0.coords t) a.val) j.val := by
  have h0 := batch_lt t
  have h1 := block_lt t
  have e := (row_index t).2.1
  have ha := a.isLt
  unfold place
  blk_simp [iblk]
  rw [V_main_arg1]
  unfold kg
  refine Eq.trans (congrArg _ ?_) (at2_of (n := 16384) (m := 128) _ ⟨_, by omega⟩ j)
  blk_ext [e]

/-- The block of the compressed keys. -/
theorem blk2 (c : Dev nD) (t : Fin cfg0.N) (a : Fin 512) (j : Fin 128) :
    (iblk m c 2 t : S512x128.Idx → EReal) (ix2 a j) = kkc m c ((grid0.coords t 0).val * 512 + a.val) j.val := by
  have h0 := batch_lt t
  have h1 := block_lt t
  have e := (key_index t).1
  have ha := a.isLt
  blk_simp [iblk]
  rw [V_main_arg2]
  unfold kkc
  refine Eq.trans (congrArg _ ?_) (at2_of (n := 1024) (m := 128) _ ⟨_, by omega⟩ j)
  blk_ext [e]

/-- The block of the compressed values. -/
theorem blk3 (c : Dev nD) (t : Fin cfg0.N) (a : Fin 512) (j : Fin 128) :
    (iblk m c 3 t : S512x128.Idx → EReal) (ix2 a j) = kvc m c ((grid0.coords t 0).val * 512 + a.val) j.val := by
  have h0 := batch_lt t
  have h1 := block_lt t
  have e := (key_index t).2.1
  have ha := a.isLt
  blk_simp [iblk]
  rw [V_main_arg3]
  unfold kvc
  refine Eq.trans (congrArg _ ?_) (at2_of (n := 1024) (m := 128) _ ⟨_, by omega⟩ j)
  blk_ext [e]

/-- The block of the keys and values of the selected branch. -/
theorem blk4 (c : Dev nD) (t : Fin cfg0.N) (a : Fin 8192) (j : Fin 256) :
    (iblk m c 4 t : S8192x256.Idx → EReal) (ix2 a j) = ksl m c ((grid0.coords t 0).val * 8192 + a.val) j.val := by
  have h0 := batch_lt t
  have h1 := block_lt t
  have e := (key_index t).2.2.1
  have ha := a.isLt
  blk_simp [iblk]
  rw [V_main_arg4]
  unfold ksl
  refine Eq.trans (congrArg _ ?_) (at2_of (n := 16384) (m := 256) _ ⟨_, by omega⟩ j)
  blk_ext [e]

/-- The block of the keys and values of the window. -/
theorem blk5 (c : Dev nD) (t : Fin cfg0.N) (a : Fin 8192) (j : Fin 256) :
    (iblk m c 5 t : S8192x256.Idx → EReal) (ix2 a j) = kwin m c ((grid0.coords t 0).val * 8192 + a.val) j.val := by
  have h0 := batch_lt t
  have h1 := block_lt t
  have e := (key_index t).2.2.2
  have ha := a.isLt
  blk_simp [iblk]
  rw [V_main_arg5]
  unfold kwin
  refine Eq.trans (congrArg _ ?_) (at2_of (n := 16384) (m := 256) _ ⟨_, by omega⟩ j)
  blk_ext [e]

/-- The constant matrix of window 6. -/
theorem blk6 (c : Dev nD) (t : Fin cfg0.N) (a : Fin 512) (j : Fin 128) :
    (iblk m c 6 t : S512x128.Idx → EReal) (ix2 a j) = (V m c main_v28 : S512x128.Idx → EReal) (ix2 a j) := by
  have e := (whole_index t).1
  blk_simp [iblk]
  refine congrArg _ ?_
  blk_ext [e]

/-- The constant matrix of window 7. -/
theorem blk7 (c : Dev nD) (t : Fin cfg0.N) (a : Fin 128) (j : Fin 8192) :
    (iblk m c 7 t : S128x8192.Idx → EReal) (ix2 a j) = (V m c main_v35 : S128x8192.Idx → EReal) (ix2 a j) := by
  have e := (whole_index t).2
  blk_simp [iblk]
  refine congrArg _ ?_
  blk_ext [e]

/-- Row `R`, column `C` of the output. -/
def result (c : Dev nD) : S16384x512.Idx → EReal := fun j =>
  out (kq m c) (kg m c) (kkc m c) (kvc m c) (ksl m c) (kwin m c) ((j 0).val / 8192) ((j 0).val % 8192) ((j 1).val / 256) ((j 1).val / 64 % 4) ((j 1).val % 64)

/-- The queries and the keys are real numbers. -/
def Real (c : Dev nD) : Prop :=
  (∀ R < 16384, ∀ j < 512, IsR (kq m c R j)) ∧ (∀ R < 1024, ∀ l < 128, IsR (kkc m c R l))
    ∧ (∀ R < 16384, ∀ l < 128, IsR (ksl m c R l)) ∧ ∀ R < 16384, ∀ l < 128, IsR (kwin m c R l)

/-- What the kernel leaves in its output array. -/
theorem final (c : Dev nD) (hR : Real m c) : (dats m 0 c).arrAt 8 cfg0.N = result m c := by
  obtain ⟨hq, hk, hs, hw⟩ := hR
  refine (dats m 0 c).arrAt_eq_of_covers 8 (result m c) (by decide +kernel) fun t hf y => ?_
  blk_simp
  rw [after0_8]
  unfold outsAt0
  have h0 := batch_lt t
  have h1 := block_lt t
  obtain ⟨a, C, rfl⟩ : ∃ (a : Fin 128) (C : Fin 512), y = ix2 a C := ⟨y 0, y 1, eq_ix2 y⟩
  have e : (win0_8.blk t).view.emb (ix2 a C) = ix2 (⟨(grid0.coords t 0).val * 8192 + ((grid0.coords t 1).val * 128 + a.val), by omega⟩ : Fin 16384) C := by
    have e := (row_index t).2.2
    blk_ext [e]
  rw [e]
  refine (block_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (iblk m c 0 t) (iblk m c 1 t) (iblk m c 2 t) (iblk m c 3 t) (iblk m c 4 t) (iblk m c 5 t) (iblk m c 6 t) (iblk m c 7 t)
    (kq m c) (kg m c) (kkc m c) (kvc m c) (ksl m c) (kwin m c) (grid0.coords t 0).val
    (blk0 m c t) (blk1 m c t) (blk2 m c t) (blk3 m c t) (blk4 m c t) (blk5 m c t)
    (fun n s h => (blk6 m c t n s).trans (host_cover m c n s h)) (fun s k => (blk7 m c t s k).trans (host_expand m c s k))
    (fun a ha j hj => hq _ (by unfold place; omega) j hj) (fun n hn l hl => hk _ (by omega) l hl)
    (fun k hk' l hl => hs _ (by omega) l hl) (fun k hk' l hl => hw _ (by omega) l hl) a C).trans ?_
  unfold result
  have ha := a.isLt
  have hp : place (grid0.coords t) a.val = (grid0.coords t 1).val * 128 + a.val := rfl
  rw [hp]
  congr 1
  · show _ = ((grid0.coords t 0).val * 8192 + ((grid0.coords t 1).val * 128 + a.val)) / 8192
    omega
  · show _ = ((grid0.coords t 0).val * 8192 + ((grid0.coords t 1).val * 128 + a.val)) % 8192
    omega

end Cert.NsaIdeal.Kernel

end
-- ==== Proof.Nsa.Finite.lean ====
/-
  The precondition as facts on the elements: the queries and the three kinds of keys are real numbers.
-/
module

public import proofs.«01_k».proof.Proof.Gen.Pre_finite
public import proofs.«01_k».proof.Proof.Nsa.Spec
public import proofs.«01_k».proof.Proof.Nsa.Softmax
public import Idealize.ShloMosaic.Lib.ReduceAll
public import Idealize.ShloMosaic.Lib.Affine
public import Idealize.ShloMosaic.Lib.Pointwise

@[expose] public section

set_option maxRecDepth 16384

noncomputable section

namespace Cert.Pre_finite.Read

open Idealize.ShloMosaic Idealize.ShloMosaic.TcCoe Idealize.SL.Sem
open Cert.Pre_finite Cert.Pre_finite.Facts Cert.Attn

theorem top_f32 : Ideal.ofBits .f32 0x7F800000#32 = (⊤ : EReal) := by simp [Ideal.ofBits, Ideal.ieee]

/-- A number whose absolute value is below infinity is real. -/
theorem real_of_lt (x : EReal) (h : Ideal.cmp .olt (max x (-x)) ⊤ = 1#1) : IsR x := by
  have h' : max x (-x) < ⊤ := by
    by_contra hn
    simp [Ideal.cmp, hn] at h
  induction x using EReal.rec with
  | bot => simp at h'
  | top => simp at h'
  | coe r => exact ⟨r, rfl⟩

instance : Subsingleton S_.Idx := ⟨fun a b => funext fun i => i.elim0⟩

variable [Cert.Pre_finite.Facts]

/-- The left half of an array of keys and values, at an index. -/
theorem left_at (x : FVec Ideal S16384x256 .bf16) (R : Fin 16384) (l : Fin 128) :
    extractStridedSlice S16384x128 ![0, 0] x slices_S16384x256_S16384x128_0_0 (ix2 R l) = x (ix2 R ⟨l.val, lt_trans l.isLt (by decide)⟩) := by
  refine congrArg x (funext fun a => Fin.ext ?_)
  fin_cases a
  · exact Nat.zero_add _
  · exact Nat.zero_add _

/-- What the precondition says of the arrays. -/
theorem parts (x0 : FVec Ideal S16384x512 .f32) (x1 : FVec Ideal S16384x128 .f32) (x2 x3 : FVec Ideal S1024x128 .bf16) (x4 x5 : FVec Ideal S16384x256 .bf16)
    (h : fn (F := Ideal) x0 x1 x2 x3 x4 x5 = fun _ => 1#1) :
    (∀ i, IsR (x0 i)) ∧ (∀ i, IsR (x2 i)) ∧ (∀ (R : Fin 16384) (l : Fin 128), IsR (x4 (ix2 R ⟨l.val, lt_trans l.isLt (by decide)⟩)))
      ∧ ∀ (R : Fin 16384) (l : Fin 128), IsR (x5 (ix2 R ⟨l.val, lt_trans l.isLt (by decide)⟩)) := by
  have h := congrFun h ix0
  dsimp only [fn, fn_part1] at h
  obtain ⟨h, h5⟩ := IntOp.andi_eq_one.mp h
  obtain ⟨h, h4⟩ := IntOp.andi_eq_one.mp h
  obtain ⟨h0, h2⟩ := IntOp.andi_eq_one.mp h
  refine ⟨fun i => ?_, fun i => ?_, fun R l => ?_, fun R l => ?_⟩
  · exact real_of_lt _ (top_f32 ▸ Host.reduce_andi_all _ _ _ _ _ h0 i)
  · exact real_of_lt _ (top_f32 ▸ Host.reduce_andi_all _ _ _ _ _ h2 i)
  · rw [← left_at x4]
    exact real_of_lt _ (top_f32 ▸ Host.reduce_andi_all _ _ _ _ _ h4 (ix2 R l))
  · rw [← left_at x5]
    exact real_of_lt _ (top_f32 ▸ Host.reduce_andi_all _ _ _ _ _ h5 (ix2 R l))

end Cert.Pre_finite.Read

end
-- ==== Proof.Nsa.Claims.lean ====
/-
  The claims on the attention of a prompt: the frames, the named constants, and that the kernel's output is the reference's.
-/
module

public import proofs.«01_k».proof.Defs
public import proofs.«01_k».proof.Proof.Gen.Nsa
public import proofs.«01_k».proof.Proof.Gen.Nsa.Frame
public import proofs.«01_k».proof.Proof.Gen.NsaIdeal
public import proofs.«01_k».proof.Proof.Gen.NsaIdeal.Frame
public import proofs.«01_k».proof.Proof.Gen.NsaIdeal.Value
public import proofs.«01_k».proof.Proof.Gen.RefIdeal
public import proofs.«01_k».proof.Proof.Gen.RefIdeal.Run
public import proofs.«01_k».proof.Proof.Gen.Pre_finite
public import proofs.«01_k».proof.Proof.Nsa.Reference
public import proofs.«01_k».proof.Proof.Nsa.Equation
public import proofs.«01_k».proof.Proof.Nsa.Finite
public import Idealize.ShloMosaic.Lib.Claim

@[expose] public section

set_option maxRecDepth 16384

noncomputable section

namespace Cert.Proof.NsaClaims

open Idealize.ShloMosaic Idealize.ShloMosaic.TcCoe Idealize.SL.Sem Cert.Attn

/-- The kernel runs, leaves its arguments, and ends quiescent. -/
theorem frame_p : Cert.quiescent_Nsa := fun m ρ _ => Cert.Nsa.Gen.frame m ρ

/-- So does the idealized kernel, from finite queries and keys, -/
theorem frame_pi : Cert.quiescent_NsaIdeal := fun m ρ _ => Cert.NsaIdeal.Gen.frame m ρ

/-- and from any arrays. -/
theorem frame_pi_any : Cert.quiescent_NsaIdeal_pre_none := fun m ρ _ => Cert.NsaIdeal.Gen.frame m ρ

/-- The reference runs, leaves its arguments, and ends quiescent. -/
theorem frame_ri : Cert.quiescent_RefIdeal := fun m ρ _ =>
  (θ_run Cert.RefIdeal.defs _ _).mono (fun r h => ⟨fun c => (h c).2, sem_eq_zero_of_no_sems (by decide) r.2⟩)
    (Cert.RefIdeal.Value.run (F := Ideal) m ρ)

/-- The two named constants: the logarithm of `e` to the base two, and the mask. -/
theorem preserves : Cert.preserves_Nsa_NsaIdeal :=
  ⟨IdealRules.named_const.statement Cert.NsaIdeal.κ "log2e" .f32 0x3FB8AA3B#32 (((Real.log 2)⁻¹ : ℝ) : EReal) rfl,
    IdealRules.named_const.statement Cert.NsaIdeal.κ "mask" .f32 0xF149F2CA#32 ⊥ rfl⟩

/-- The queries and keys the precondition speaks of are real numbers. -/
theorem real_of_pre (m : (ℓ : Loc Cert.NsaIdeal.nD Cert.NsaIdeal.τ Cert.NsaIdeal.sig) → Buf (Elt Ideal) ℓ) (h : Cert.Pre_NsaIdeal m)
    (c : Dev Cert.NsaIdeal.nD) : Cert.NsaIdeal.Kernel.Real m c := by
  obtain ⟨h0, h2, h4, h5⟩ := Cert.Pre_finite.Read.parts _ _ _ _ _ _ (h c)
  refine ⟨fun R hR j hj => ?_, fun R hR j hj => ?_, fun R hR j hj => ?_, fun R hR j hj => ?_⟩
  · exact Eq.mpr (congrArg IsR (at2_mk (n := 16384) (m := 512) _ hR hj)) (h0 _)
  · exact Eq.mpr (congrArg IsR (at2_mk (n := 1024) (m := 128) _ hR hj)) (h2 _)
  · exact Eq.mpr (congrArg IsR (at2_mk (n := 16384) (m := 256) _ hR (by omega : j < 256))) (h4 ⟨R, hR⟩ ⟨j, hj⟩)
  · exact Eq.mpr (congrArg IsR (at2_mk (n := 16384) (m := 256) _ hR (by omega : j < 256))) (h5 ⟨R, hR⟩ ⟨j, hj⟩)

/-- The kernel's output is the reference's, row by row and column by column. -/
theorem algebraic : Cert.algebraic_NsaIdeal_RefIdeal := by
  intro m g m' g' hpre hargs
  refine ⟨fun c => Cert.NsaIdeal.Kernel.result m c, ?_, ?_⟩
  · exact (θ_run _ _ _).mono (fun r h c => ⟨(h c).1.trans (Cert.NsaIdeal.Kernel.final m c (real_of_pre m hpre c)), (h c).2⟩)
      (Cert.NsaIdeal.Value.run_blocks m g)
  · refine (θ_run _ _ _).mono (fun r h c => ⟨(h c).1.trans ?_, (h c).2⟩) (Cert.RefIdeal.Value.run (F := Ideal) m' g')
    refine (Cert.RefIdeal.Value.val4_main_v171 (StableHlo.launchContents m' c)).symm.trans (funext fun j => ?_)
    obtain ⟨e0, e1, e2, e3, e4, e5⟩ := hargs c
    obtain ⟨R, C, rfl⟩ : ∃ (R : Fin 16384) (C : Fin 512), j = ix2 R C := ⟨j 0, j 1, eq_ix2 j⟩
    refine (Cert.RefIdeal.Read.result_at (StableHlo.launchContents m' c) R C).trans ?_
    have q : Cert.RefIdeal.Read.aq (StableHlo.launchContents m' c) = Cert.NsaIdeal.Kernel.kq m c := congrArg (at2 (n := 16384) (m := 512)) e0
    have ga : Cert.RefIdeal.Read.ag (StableHlo.launchContents m' c) = Cert.NsaIdeal.Kernel.kg m c := congrArg (at2 (n := 16384) (m := 128)) e1
    have kc : Cert.RefIdeal.Read.akc (StableHlo.launchContents m' c) = Cert.NsaIdeal.Kernel.kkc m c := congrArg (at2 (n := 1024) (m := 128)) e2
    have vc : Cert.RefIdeal.Read.avc (StableHlo.launchContents m' c) = Cert.NsaIdeal.Kernel.kvc m c := congrArg (at2 (n := 1024) (m := 128)) e3
    have sl : Cert.RefIdeal.Read.asl (StableHlo.launchContents m' c) = Cert.NsaIdeal.Kernel.ksl m c := congrArg (at2 (n := 16384) (m := 256)) e4
    have wi : Cert.RefIdeal.Read.awin (StableHlo.launchContents m' c) = Cert.NsaIdeal.Kernel.kwin m c := congrArg (at2 (n := 16384) (m := 256)) e5
    rw [q, ga, kc, vc, sl, wi]
    rfl

end Cert.Proof.NsaClaims

end
-- ==== Proof.Ffn.Gated.lean ====
/-
  The gated feed-forward part on one row: hidden units, each a gate times a value, and their weighted sums.
-/
module

public import proofs.«01_k».proof.Proof.Nsa.Spec

@[expose] public section

noncomputable section

namespace Cert.Gated

open Idealize.ShloMosaic

/-- Hidden unit `f` of a row `x` of `K` numbers: `g · sigmoid g · u`. -/
def unit (K : ℕ) (x : ℕ → EReal) (wg wu : ℕ → ℕ → EReal) (f : ℕ) : EReal :=
  (∑ d ∈ Finset.range K, x d * wg d f) * Ideal.div 1 (1 + Ideal.exp (-∑ d ∈ Finset.range K, x d * wg d f))
    * ∑ d ∈ Finset.range K, x d * wu d f

/-- Column `C` of the feed-forward part of a row: the sum over `N` hidden units. -/
def swiglu (K N : ℕ) (x : ℕ → EReal) (wg wu wd : ℕ → ℕ → EReal) (C : ℕ) : EReal :=
  ∑ f ∈ Finset.range N, unit K x wg wu f * wd f C

/-- A hidden unit depends on the row and the columns of the weights. -/
theorem unit_congr {K f : ℕ} {f' : ℕ} {x x' : ℕ → EReal} {wg wg' wu wu' : ℕ → ℕ → EReal} (hx : ∀ d < K, x d = x' d)
    (hg : ∀ d < K, wg d f = wg' d f') (hu : ∀ d < K, wu d f = wu' d f') : unit K x wg wu f = unit K x' wg' wu' f' := by
  have e : ∑ d ∈ Finset.range K, x d * wg d f = ∑ d ∈ Finset.range K, x' d * wg' d f' :=
    Finset.sum_congr rfl fun d hd => by rw [hx d (Finset.mem_range.mp hd), hg d (Finset.mem_range.mp hd)]
  have e' : ∑ d ∈ Finset.range K, x d * wu d f = ∑ d ∈ Finset.range K, x' d * wu' d f' :=
    Finset.sum_congr rfl fun d hd => by rw [hx d (Finset.mem_range.mp hd), hu d (Finset.mem_range.mp hd)]
  unfold unit
  rw [e, e']

theorem swiglu_congr {K N C C' : ℕ} {x x' : ℕ → EReal} {wg wg' wu wu' wd wd' : ℕ → ℕ → EReal} (hx : ∀ d < K, x d = x' d)
    (hg : ∀ d < K, ∀ f < N, wg d f = wg' d f) (hu : ∀ d < K, ∀ f < N, wu d f = wu' d f) (hd : ∀ f < N, wd f C = wd' f C') :
    swiglu K N x wg wu wd C = swiglu K N x' wg' wu' wd' C' :=
  Finset.sum_congr rfl fun f hf => by
    have hf := Finset.mem_range.mp hf
    rw [unit_congr hx (fun d h => hg d h f hf) (fun d h => hu d h f hf), hd f hf]

/-- The hidden units may be taken in two stretches of equal length, added up from zero. -/
theorem swiglu_halves (K N : ℕ) (x : ℕ → EReal) (wg wu wd : ℕ → ℕ → EReal) (C : ℕ) :
    0 + swiglu K N x wg wu wd C + swiglu K N x (fun d f => wg d (N + f)) (fun d f => wu d (N + f)) (fun f C => wd (N + f) C) C
      = swiglu K (N + N) x wg wu wd C := by
  unfold swiglu
  rw [zero_add, Finset.sum_range_add]
  rfl

end Cert.Gated

end
-- ==== Proof.Ffn.Equation.lean ====
/-
  The dense feed-forward part: the kernel's output array is `ffn` of the arguments at every row and column, and so is the
  reference's.
-/
module

public import proofs.«01_k».proof.Proof.Gen.FfnIdeal.Value
public import proofs.«01_k».proof.Proof.Gen.RefFfnIdeal.Run
public import proofs.«01_k».proof.Proof.Ffn.Gated
public import Idealize.ShloMosaic.Lib.Pipeline.ValueKit
public import Idealize.ShloMosaic.Lib.Pointwise
public import Idealize.ShloMosaic.Lib.Tactic
public import Idealize.ShloMosaic.Lib.Tactic.CleanTypes

@[expose] public section

set_option maxRecDepth 16384

noncomputable section

namespace Cert.Ffn

open Idealize.ShloMosaic Idealize.ShloMosaic.TcCoe Idealize.SL.Sem Cert.Attn Cert.Gated

/-- Row `R`, column `C` of the result: the residual plus the gated feed-forward part of the row. -/
def ffn (h y : ℕ → ℕ → EReal) (g : (⟨3, ![2, 1, 1024]⟩ : Shape).Idx → EReal) (wg wu wd : ℕ → ℕ → EReal) (R : Fin 16384) (C : Fin 1024) : EReal :=
  y R.val C.val + g (ix3 (⟨R.val / 8192, by omega⟩ : Fin 2) (0 : Fin 1) C) * swiglu 1024 2816 (h R.val) wg wu wd C.val

end Cert.Ffn

namespace Cert.FfnIdeal.Kernel

open Idealize.ShloMosaic Idealize.ShloMosaic.TcCoe Idealize.SL.Sem
open Cert.FfnIdeal Cert.FfnIdeal.Gen Cert.Attn Cert.Gated

/-- A sum over the rows and columns of matrices, as a sum over numbers. -/
theorem gated_of {n K N : ℕ} (x : (⟨2, ![n, K]⟩ : Shape).Idx → EReal) (wg wu : (⟨2, ![K, N]⟩ : Shape).Idx → EReal) (M : ℕ)
    (wd : (⟨2, ![N, M]⟩ : Shape).Idx → EReal) (a : Fin n) (C : Fin M) :
    (∑ f : Fin N, ((∑ d : Fin K, x (ix2 a d) * wg (ix2 d f)) * Ideal.div 1 (1 + Ideal.exp (-∑ d : Fin K, x (ix2 a d) * wg (ix2 d f)))
        * ∑ d : Fin K, x (ix2 a d) * wu (ix2 d f)) * wd (ix2 f C))
      = swiglu K N (at2 x a.val) (at2 wg) (at2 wu) (at2 wd) C.val := by
  simp only [swiglu, unit, Finset.sum_range, at2_of]

/-- What a point of the grid computes at a row and a column of its block. -/
theorem pay_at (v0 : Vec Ideal S512x1024 .f32) (v3 v5 : Vec Ideal S1024x1408 .bf16) (v11 : Vec Ideal S1408x1024 .bf16) (v14 v16 : Vec Ideal S1024x1408 .bf16)
    (v22 : Vec Ideal S1408x1024 .bf16) (v25 : Vec Ideal S512x1024 .f32) (v26 : Vec Ideal S1x1x1024 .f32) (a : Fin 512) (C : Fin 1024) :
    (k0_pay1 (F := Ideal) v0 v3 v5 v11 v14 v16 v22 v25 v26 (ix2 a C) : EReal)
      = (v25 (ix2 a C) : EReal) + v26 (ix3 (0 : Fin 1) (0 : Fin 1) C)
        * (0 + swiglu 1024 1408 (at2 (n := 512) (m := 1024) v0 a.val) (at2 (n := 1024) (m := 1408) v3) (at2 (n := 1024) (m := 1408) v5) (at2 (n := 1408) (m := 1024) v11) C.val
          + swiglu 1024 1408 (at2 (n := 512) (m := 1024) v0 a.val) (at2 (n := 1024) (m := 1408) v14) (at2 (n := 1024) (m := 1408) v16) (at2 (n := 1408) (m := 1024) v22) C.val) := by
  rw [zero_add, ← gated_of (n := 512) (K := 1024) (N := 1408) v0 v3 v5 1024 v11 a C, ← gated_of (n := 512) (K := 1024) (N := 1408) v0 v14 v16 1024 v22 a C]
  unfold k0_pay1
  pointwise
  rfl

/-- The blocks of the rows. -/
theorem row_index : ∀ t : Fin cfg0.N, win0_0.index t = ![t.val, 0] ∧ win0_1.index t = ![t.val, 0] ∧ win0_6.index t = ![t.val, 0] :=
  (by decide +kernel : ∀ t : Fin grid0.N, _)

/-- The block of the gate: the sequence of the row. -/
theorem gate_index : ∀ t : Fin cfg0.N, win0_2.index t = ![t.val / 16, 0, 0] :=
  (by decide +kernel : ∀ t : Fin grid0.N, _)

/-- The weights are whole. -/
theorem whole_index : ∀ t : Fin cfg0.N, win0_3.index t = ![0, 0] ∧ win0_4.index t = ![0, 0] ∧ win0_5.index t = ![0, 0] :=
  (by decide +kernel : ∀ t : Fin grid0.N, _)

theorem point_lt (t : Fin cfg0.N) : t.val < 32 := t.isLt

variable (m : (ℓ : Loc nD τ sig) → Buf (Elt Ideal) ℓ)

/-- The normalized rows, as launched. -/
def kh (c : Dev nD) : ℕ → ℕ → EReal := at2 (n := 16384) (m := 1024) (m ((c : Thread nD τ).loc main_arg0))
/-- The residual, as launched. -/
def ky (c : Dev nD) : ℕ → ℕ → EReal := at2 (n := 16384) (m := 1024) (m ((c : Thread nD τ).loc main_arg1))
/-- The gate, as launched. -/
def kgate (c : Dev nD) : S2x1x1024.Idx → EReal := m ((c : Thread nD τ).loc main_arg2)
/-- The weights of the gates, as launched. -/
def kwg (c : Dev nD) : ℕ → ℕ → EReal := at2 (n := 1024) (m := 2816) (m ((c : Thread nD τ).loc main_arg3))
/-- The weights of the values, as launched. -/
def kwu (c : Dev nD) : ℕ → ℕ → EReal := at2 (n := 1024) (m := 2816) (m ((c : Thread nD τ).loc main_arg4))
/-- The weights of the output, as launched. -/
def kwd (c : Dev nD) : ℕ → ℕ → EReal := at2 (n := 2816) (m := 1024) (m ((c : Thread nD τ).loc main_arg5))

theorem blk0 (c : Dev nD) (t : Fin cfg0.N) (a : Fin 512) (j : Fin 1024) :
    (iblk m c 0 t : S512x1024.Idx → EReal) (ix2 a j) = kh m c (t.val * 512 + a.val) j.val := by
  have h0 := point_lt t
  have e := (row_index t).1
  have ha := a.isLt
  blk_simp [iblk]
  rw [V_main_arg0]
  unfold kh
  refine Eq.trans (congrArg _ ?_) (at2_of (n := 16384) (m := 1024) _ ⟨_, by omega⟩ j)
  blk_ext [e]

theorem blk1 (c : Dev nD) (t : Fin cfg0.N) (a : Fin 512) (j : Fin 1024) :
    (iblk m c 1 t : S512x1024.Idx → EReal) (ix2 a j) = ky m c (t.val * 512 + a.val) j.val := by
  have h0 := point_lt t
  have e := (row_index t).2.1
  have ha := a.isLt
  blk_simp [iblk]
  rw [V_main_arg1]
  unfold ky
  refine Eq.trans (congrArg _ ?_) (at2_of (n := 16384) (m := 1024) _ ⟨_, by omega⟩ j)
  blk_ext [e]

theorem blk2 (c : Dev nD) (t : Fin cfg0.N) (j : Fin 1024) :
    (iblk m c 2 t : S1x1x1024.Idx → EReal) (ix3 0 0 j)
      = kgate m c (ix3 (⟨t.val / 16, by have := point_lt t; omega⟩ : Fin 2) (0 : Fin 1) j) := by
  have h0 := point_lt t
  have e := gate_index t
  blk_simp [iblk]
  rw [V_main_arg2]
  unfold kgate
  refine congrArg _ ?_
  blk_ext [e]

theorem blk3 (c : Dev nD) (t : Fin cfg0.N) (a : Fin 1024) (j : Fin 2816) :
    (iblk m c 3 t : S1024x2816.Idx → EReal) (ix2 a j) = kwg m c a.val j.val := by
  have e := (whole_index t).1
  blk_simp [iblk]
  rw [V_main_arg3]
  unfold kwg
  refine Eq.trans (congrArg _ ?_) (at2_of (n := 1024) (m := 2816) _ a j)
  blk_ext [e]

theorem blk4 (c : Dev nD) (t : Fin cfg0.N) (a : Fin 1024) (j : Fin 2816) :
    (iblk m c 4 t : S1024x2816.Idx → EReal) (ix2 a j) = kwu m c a.val j.val := by
  have e := (whole_index t).2.1
  blk_simp [iblk]
  rw [V_main_arg4]
  unfold kwu
  refine Eq.trans (congrArg _ ?_) (at2_of (n := 1024) (m := 2816) _ a j)
  blk_ext [e]

theorem blk5 (c : Dev nD) (t : Fin cfg0.N) (a : Fin 2816) (j : Fin 1024) :
    (iblk m c 5 t : S2816x1024.Idx → EReal) (ix2 a j) = kwd m c a.val j.val := by
  have e := (whole_index t).2.2
  blk_simp [iblk]
  rw [V_main_arg5]
  unfold kwd
  refine Eq.trans (congrArg _ ?_) (at2_of (n := 2816) (m := 1024) _ a j)
  blk_ext [e]

/-- A read through a rectangle of unit strides. -/
theorem ld_part {S : Shape} {e : EltTy} (off size : Fin S.rank → ℕ) (inb : ∀ a, off a + size a ≤ S.size a) (X : S.Idx → Elt Ideal e)
    (x : (Rect.unit off size inb).shape.Idx) (j : S.Idx) (hj : ∀ a, (j a : ℕ) = off a + x a) : View.ld X (Rect.unit off size inb) x = X j :=
  congrArg X (funext fun a => Fin.ext ((congrArg (off a + ·) (Nat.one_mul (x a).val)).trans (hj a).symm))

/-- A stretch of 1408 columns of a matrix of weights, read from column 0 or from column 1408. -/
theorem cols_at (x : S1024x2816.Idx → EReal) (a : Fin 1024) (j : Fin 1408) :
    (View.ld (Val := Elt Ideal) (e' := .bf16) x r0_1 : S1024x1408.Idx → EReal) (ix2 a j) = x (ix2 a (⟨j.val, by omega⟩ : Fin 2816))
      ∧ (View.ld (Val := Elt Ideal) (e' := .bf16) x r0_3 : S1024x1408.Idx → EReal) (ix2 a j) = x (ix2 a (⟨1408 + j.val, by omega⟩ : Fin 2816)) := by
  exact ⟨ld_part (S := S1024x2816) (e := .bf16) ![0, 0] S1024x1408.size inb_S1024x2816_S1024x1408_0_0 x (ix2 a j) _ (fun b => by fin_cases b <;> first | exact (Nat.zero_add _).symm | rfl),
    ld_part (S := S1024x2816) (e := .bf16) ![0, 1408] S1024x1408.size inb_S1024x2816_S1024x1408_0_1408 x (ix2 a j) _ (fun b => by fin_cases b <;> first | exact (Nat.zero_add _).symm | rfl)⟩

theorem rows_at (x : S2816x1024.Idx → EReal) (a : Fin 1408) (j : Fin 1024) :
    (View.ld (Val := Elt Ideal) (e' := .bf16) x r0_2 : S1408x1024.Idx → EReal) (ix2 a j) = x (ix2 (⟨a.val, by omega⟩ : Fin 2816) j)
      ∧ (View.ld (Val := Elt Ideal) (e' := .bf16) x r0_4 : S1408x1024.Idx → EReal) (ix2 a j) = x (ix2 (⟨1408 + a.val, by omega⟩ : Fin 2816) j) := by
  exact ⟨ld_part (S := S2816x1024) (e := .bf16) ![0, 0] S1408x1024.size inb_S2816x1024_S1408x1024_0_0 x (ix2 a j) _ (fun b => by fin_cases b <;> first | exact (Nat.zero_add _).symm | rfl),
    ld_part (S := S2816x1024) (e := .bf16) ![1408, 0] S1408x1024.size inb_S2816x1024_S1408x1024_1408_0 x (ix2 a j) _ (fun b => by fin_cases b <;> first | exact (Nat.zero_add _).symm | rfl)⟩

/-- Row `R`, column `C` of the output. -/
def result (c : Dev nD) : S16384x1024.Idx → EReal := fun j =>
  Cert.Ffn.ffn (kh m c) (ky m c) (kgate m c) (kwg m c) (kwu m c) (kwd m c) (j 0) (j 1)

/-- What the kernel leaves in its output array. -/
theorem final (c : Dev nD) : (dats m 0 c).arrAt 6 cfg0.N = result m c := by
  refine (dats m 0 c).arrAt_eq_of_covers 6 (result m c) (by decide +kernel) fun t hf y => ?_
  have h0 := point_lt t
  obtain ⟨a, C, rfl⟩ : ∃ (a : Fin 512) (C : Fin 1024), y = ix2 a C := ⟨y 0, y 1, eq_ix2 y⟩
  have ha := a.isLt
  blk_simp
  rw [after0_6]
  unfold out0_6
  frame_out
  have e : (win0_6.blk t).view.emb (ix2 a C) = ix2 (⟨t.val * 512 + a.val, by omega⟩ : Fin 16384) C := by
    have e := (row_index t).2.2
    blk_ext [e]
  refine Eq.trans ?_ (congrArg (result m c) e.symm)
  refine (pay_at _ _ _ _ _ _ _ _ _ a C).trans ?_
  unfold result Cert.Ffn.ffn
  dsimp only
  rw [blk1, blk2]
  have hb : (⟨t.val / 16, by omega⟩ : Fin 2) = ⟨(t.val * 512 + a.val) / 8192, by omega⟩ := Fin.ext (by dsimp only; omega)
  rw [hb]
  refine congrArg₂ (fun p q : EReal => p + q) rfl (congrArg₂ (fun p q : EReal => p * q) rfl ?_)
  refine Eq.trans ?_ (swiglu_halves 1024 1408 _ _ _ _ _)
  refine congrArg₂ (fun p q : EReal => p + q) (congrArg (fun p : EReal => 0 + p) ?_) ?_
  · refine swiglu_congr (fun d hd => ?_) (fun d hd f hf => ?_) (fun d hd f hf => ?_) fun f hf => ?_
    · exact (at2_mk (n := 512) (m := 1024) _ a.isLt hd).trans (blk0 m c t a ⟨d, hd⟩)
    · exact (at2_mk (n := 1024) (m := 1408) _ hd hf).trans ((cols_at _ ⟨d, hd⟩ ⟨f, hf⟩).1.trans (blk3 m c t _ _))
    · exact (at2_mk (n := 1024) (m := 1408) _ hd hf).trans ((cols_at _ ⟨d, hd⟩ ⟨f, hf⟩).1.trans (blk4 m c t _ _))
    · exact (at2_mk (n := 1408) (m := 1024) _ hf C.isLt).trans ((rows_at _ ⟨f, hf⟩ C).1.trans (blk5 m c t _ _))
  · refine swiglu_congr (fun d hd => ?_) (fun d hd f hf => ?_) (fun d hd f hf => ?_) fun f hf => ?_
    · exact (at2_mk (n := 512) (m := 1024) _ a.isLt hd).trans (blk0 m c t a ⟨d, hd⟩)
    · exact (at2_mk (n := 1024) (m := 1408) _ hd hf).trans ((cols_at _ ⟨d, hd⟩ ⟨f, hf⟩).2.trans (blk3 m c t _ _))
    · exact (at2_mk (n := 1024) (m := 1408) _ hd hf).trans ((cols_at _ ⟨d, hd⟩ ⟨f, hf⟩).2.trans (blk4 m c t _ _))
    · exact (at2_mk (n := 1408) (m := 1024) _ hf C.isLt).trans ((rows_at _ ⟨f, hf⟩ C).2.trans (blk5 m c t _ _))

end Cert.FfnIdeal.Kernel

end
-- ==== Proof.Ffn.Reference.lean ====
/-
  The reference's dense feed-forward part is `ffn` of its arguments at every row and column.
-/
module

public import proofs.«01_k».proof.Proof.Gen.RefFfnIdeal.Run
public import proofs.«01_k».proof.Proof.Ffn.Equation
public import Idealize.ShloMosaic.Lib.Pointwise

@[expose] public section

set_option maxRecDepth 16384

noncomputable section

namespace Cert.RefFfnIdeal.Read

open Idealize.ShloMosaic Idealize.ShloMosaic.TcCoe Idealize.SL.Sem
open Cert.RefFfnIdeal Cert.RefFfnIdeal.Gen Cert.Attn Cert.Gated

/-- The reference's result, in the terms of its operations. -/
def value (x0 x1 : FVec Ideal S16384x1024 .f32) (x2 : FVec Ideal S2x1x1024 .f32) (x3 x4 : FVec Ideal S1024x2816 .bf16) (x5 : FVec Ideal S2816x1024 .bf16) :
    Vec Ideal S16384x1024 .f32 :=
  shapeCast S16384x1024 (addf (F := Ideal) (shapeCast _ x1 shapeCasts_S16384x1024_S2x8192x1024) (mulf (broadcastInDim S2x8192x1024 ![0, 1, 2] bcast_S2x1x1024_S2x8192x1024_0_1_2 x2) (shapeCast _ (Host.dotGeneral dot_S16384x2816_S2816x1024_S16384x1024_1_0_0_1_n_n none (mulf (mulf (Host.dotGeneral dot_S16384x1024_S1024x2816_S16384x2816_1_0_0_1_n_n none x0 (extf .f32 x3 bitsLt_bf16_f32)) (Host.divf (broadcastInDim S16384x2816 ![] bcast_S_S16384x2816 (constant (F := Ideal) S_ .f32 0x3F800000#32)) (addf (broadcastInDim S16384x2816 ![] bcast_S_S16384x2816 (constant (F := Ideal) S_ .f32 0x3F800000#32)) (Host.exp (Host.negf (Host.dotGeneral dot_S16384x1024_S1024x2816_S16384x2816_1_0_0_1_n_n none x0 (extf .f32 x3 bitsLt_bf16_f32))))))) (Host.dotGeneral dot_S16384x1024_S1024x2816_S16384x2816_1_0_0_1_n_n none x0 (extf .f32 x4 bitsLt_bf16_f32))) (extf .f32 x5 bitsLt_bf16_f32)) shapeCasts_S16384x1024_S2x8192x1024))) shapeCasts_S2x8192x1024_S16384x1024

theorem value_at (x0 x1 : FVec Ideal S16384x1024 .f32) (x2 : FVec Ideal S2x1x1024 .f32) (x3 x4 : FVec Ideal S1024x2816 .bf16) (x5 : FVec Ideal S2816x1024 .bf16)
    (R : Fin 16384) (C : Fin 1024) :
    (value x0 x1 x2 x3 x4 x5 (ix2 R C) : EReal)
      = Cert.Ffn.ffn (at2 (n := 16384) (m := 1024) x0) (at2 (n := 16384) (m := 1024) x1) x2 (at2 (n := 1024) (m := 2816) x3)
        (at2 (n := 1024) (m := 2816) x4) (at2 (n := 2816) (m := 1024) x5) R C := by
  unfold Cert.Ffn.ffn
  rw [← Cert.FfnIdeal.Kernel.gated_of (n := 16384) (K := 1024) (N := 2816) x0 x3 x4 1024 x5 R C, ← at2_of (n := 16384) (m := 1024) x1 R C]
  unfold value
  pointwise

end Cert.RefFfnIdeal.Read

end
-- ==== Proof.Ffn.Claims.lean ====
/-
  The claims on the dense feed-forward part.
-/
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.RefFfnIdeal
public import proofs.«01_k».proof.Proof.Ffn.Reference
public import Idealize.ShloMosaic.Lib.Claim

@[expose] public section

set_option maxRecDepth 16384

noncomputable section

namespace Cert.Proof.FfnClaims

open Idealize.ShloMosaic Idealize.ShloMosaic.TcCoe Idealize.SL.Sem Cert.Attn

/-- The kernel runs, leaves its arguments, and ends quiescent. -/
theorem frame_p : Cert.quiescent_Ffn := fun m ρ _ => Cert.Ffn.Gen.frame m ρ

/-- So does the idealized kernel. -/
theorem frame_pi : Cert.quiescent_FfnIdeal := fun m ρ _ => Cert.FfnIdeal.Gen.frame m ρ

/-- The reference runs, leaves its arguments, and ends quiescent. -/
theorem frame_ri : Cert.quiescent_RefFfnIdeal := fun m ρ _ =>
  (θ_run Cert.RefFfnIdeal.defs _ _).mono (fun r h => ⟨fun c => (h c).2, sem_eq_zero_of_no_sems (by decide) r.2⟩)
    (Cert.RefFfnIdeal.Value.run (F := Ideal) m ρ)

/-- Nothing of the kernel is replaced. -/
theorem preserves : Cert.preserves_Ffn_FfnIdeal := trivial

/-- The kernel's output is the reference's, row by row and column by column. -/
theorem algebraic : Cert.algebraic_FfnIdeal_RefFfnIdeal := by
  intro m g m' g' hpre hargs
  refine ⟨fun c => Cert.FfnIdeal.Kernel.result m c, ?_, ?_⟩
  · exact (θ_run _ _ _).mono (fun r h c => ⟨(h c).1.trans (Cert.FfnIdeal.Kernel.final m c), (h c).2⟩) (Cert.FfnIdeal.Value.run_blocks m g)
  · refine (θ_run _ _ _).mono (fun r h c => ⟨(h c).1.trans (funext fun j => ?_), (h c).2⟩) (Cert.RefFfnIdeal.Value.run (F := Ideal) m' g')
    obtain ⟨e0, e1, e2, e3, e4, e5⟩ := hargs c
    obtain ⟨R, C, rfl⟩ : ∃ (R : Fin 16384) (C : Fin 1024), j = ix2 R C := ⟨j 0, j 1, eq_ix2 j⟩
    refine (Cert.RefFfnIdeal.Read.value_at _ _ _ _ _ _ R C).trans ?_
    rw [e0, e1, e2, e3, e4, e5]
    rfl

end Cert.Proof.FfnClaims

end
-- ==== Proof.Moe.Body.lean ====
/- The body of `moe_blocks` at one grid point, for any contents of its two tables: the two ways through it, what each
   leaves in the output block, and that each fills the block. -/
module

public import proofs.«01_k».proof.Proof.Gen.MoeIdeal.Skeleton
public import proofs.«01_k».proof.Proof.Gen.MoeIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.MoeIdeal.Blocks

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table of experts and the count of blocks in use, whole. -/
abbrev experts : Memref sig .tc .smem S264 .i32 := Memref.whole main_arg0
abbrev count : Memref sig .tc .smem S1 .i32 := Memref.whole main_arg1

/-- The count the body reads at each point. -/
def used (T1 : S1.Idx → Elt F .i32) : BitVec 32 :=
  View.readAt (Elt F) (count).view (Rect.unit (s := S1) ![0] S1.size inb_S1_S1_0).toLoadRect T1
    (Shape.Idx.first (numel1_S1.symm ▸ Nat.one_pos))

/-- What a run of the body is given and gives back, apart from the output block. -/
abbrev held (c : Dev nD) (arg3 : Memref sig .tc .vmem S1024x128 .f32) (arg4 arg5 : Memref sig .tc .vmem S1x1024x2816 .bf16)
    (arg6 : Memref sig .tc .vmem S1x2816x1024 .bf16) (T0 : S264.Idx → Elt F .i32) (T1 : S1.Idx → Elt F .i32)
    (x0 : S1024x128.Idx → Elt F .f32) (x1 x2 : S1x1024x2816.Idx → Elt F .bf16) (x3 : S1x2816x1024.Idx → Elt F .bf16) : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (experts.view.loc (c : Thread nD τ) ↦{fullShare.right} T0)
    ∗ (count.view.loc (c : Thread nD τ) ↦{fullShare.right} T1))

/-- A run of the body that leaves the pieces `L` in the output block. -/
abbrev Leaves (c : Dev nD) (i : grid0.Coords) (arg3 : Memref sig .tc .vmem S1024x128 .f32) (harg3 : arg3.IsWhole)
    (arg4 : Memref sig .tc .vmem S1x1024x2816 .bf16) (harg4 : arg4.IsWhole) (arg5 : Memref sig .tc .vmem S1x1024x2816 .bf16) (harg5 : arg5.IsWhole)
    (arg6 : Memref sig .tc .vmem S1x2816x1024 .bf16) (harg6 : arg6.IsWhole) (arg7 : Memref sig .tc .vmem S1024x128 .f32) (harg7 : arg7.IsWhole)
    (T0 : S264.Idx → Elt F .i32) (T1 : S1.Idx → Elt F .i32)
    (x0 : S1024x128.Idx → Elt F .f32) (x1 x2 : S1x1024x2816.Idx → Elt F .bf16) (x3 : S1x2816x1024.Idx → Elt F .bf16)
    (L : List (View.Piece (Elt F) S1024x128 .f32)) : Prop :=
  ∀ (K : PUnit → sProp 𝕄),
    iprop(held c arg3 arg4 arg5 arg6 T0 T1 x0 x1 x2 x3 ∗ (∃ d, owns (c : Thread nD τ) arg7 fullShare d)
      ∗ (iprop(held c arg3 arg4 arg5 arg6 T0 T1 x0 x1 x2 x3
          ∗ (∃ f, arg7.view.loc (c : Thread nD τ) ↦[arg7.view.set]{fullShare} arg7.view.writes (Elt F) f L)) -∗ K ⟨⟩))
      ⊢ wp frame (wpE (defs₀ (F := F)) Variants.none c none) Set.univ
          (cc0_moe_blocks i experts (Memref.isWhole_whole _) count (Memref.isWhole_whole _) arg3 harg3 arg4 harg4 arg5 harg5 arg6 harg6 arg7 harg7) K

variable (c : Dev nD) (i : grid0.Coords) (arg3 : Memref sig .tc .vmem S1024x128 .f32) (harg3 : arg3.IsWhole)
    (arg4 : Memref sig .tc .vmem S1x1024x2816 .bf16) (harg4 : arg4.IsWhole) (arg5 : Memref sig .tc .vmem S1x1024x2816 .bf16) (harg5 : arg5.IsWhole)
    (arg6 : Memref sig .tc .vmem S1x2816x1024 .bf16) (harg6 : arg6.IsWhole) (arg7 : Memref sig .tc .vmem S1024x128 .f32) (harg7 : arg7.IsWhole)
    (T0 : S264.Idx → Elt F .i32) (T1 : S1.Idx → Elt F .i32)
    (x0 : S1024x128.Idx → Elt F .f32) (x1 x2 : S1x1024x2816.Idx → Elt F .bf16) (x3 : S1x2816x1024.Idx → Elt F .bf16)

set_option backward.proofsInPublic true in
set_option maxHeartbeats 8000000 in
/-- A block past the count: the body stores zeros over the whole output block. -/
def idleRun (h1 : ¬(k0_cond1 i (used T1) = 1#1)) (h2 : k0_cond2 i (used T1) = 1#1) :
    { L : List (View.Piece (Elt F) S1024x128 .f32) //
      Leaves c i arg3 harg3 arg4 harg4 arg5 harg5 arg6 harg6 arg7 harg7 T0 T1 x0 x1 x2 x3 L } :=
  ⟨_, fun K => by
    unfold used at h1 h2
    unfold held owns
    rw [cc0_moe_blocks_eq_skeleton]; unfold cc0_moe_blocks_skel
    iintro ⟨⟨H0, H1, H2, H3, HT0, HT1⟩, ⟨%d4, %f4, -, HO4⟩, Hk⟩
    have hT0 : (experts).IsWhole := Memref.isWhole_whole _
    have hT1 : (count).IsWhole := Memref.isWhole_whole _
    sl_exec! (disch := first | (guard_target = ¬(k0_cond1 _ _ = _); exact h1) | (guard_target = k0_cond2 _ _ = _; exact h2))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    iexists _; iexact HO4⟩

set_option backward.proofsInPublic true in
set_option maxHeartbeats 8000000 in
/-- A block in use: the body gathers the tokens, runs the gated network in two halves and scatters the result. -/
def usedRun (h1 : k0_cond1 i (used T1) = 1#1) (h2 : ¬(k0_cond2 i (used T1) = 1#1)) :
    { L : List (View.Piece (Elt F) S1024x128 .f32) //
      Leaves c i arg3 harg3 arg4 harg4 arg5 harg5 arg6 harg6 arg7 harg7 T0 T1 x0 x1 x2 x3 L } :=
  ⟨_, fun K => by
    unfold used at h1 h2
    unfold held owns
    rw [cc0_moe_blocks_eq_skeleton]; unfold cc0_moe_blocks_skel
    iintro ⟨⟨H0, H1, H2, H3, HT0, HT1⟩, ⟨%d4, %f4, -, HO4⟩, Hk⟩
    have hT0 : (experts).IsWhole := Memref.isWhole_whole _
    have hT1 : (count).IsWhole := Memref.isWhole_whole _

    sl_exec! (disch := first | (guard_target = k0_cond1 _ _ = _; exact h1) | (guard_target = ¬(k0_cond2 _ _ = _); exact h2))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    iexists _; iexact HO4⟩

end Cert.MoeIdeal.Blocks

end
-- ==== Proof.Moe.Store.lean ====
/- What the body of `moe_blocks` leaves in its output block, in closed form: zeros past the count, and otherwise the
   rows of one matrix, dealt out eight tiles to a token. -/
module

public import proofs.«01_k».proof.Proof.Moe.Body
public import Idealize.ShloMosaic.Lib.Pipeline.Value
public import Idealize.ShloMosaic.Lib.Pipeline.ValueKit

@[expose] public section

set_option maxRecDepth 16384
set_option Elab.async false

noncomputable section

namespace Cert.MoeIdeal.Blocks

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What a load through `L` reads of a block that holds `X`. -/
def load {S : Shape} {e : EltTy} (L : LoadRect S) (X : S.Idx → Elt F e) : L.shape.Idx → Elt F e := fun x => X (L.idx x)

theorem readAt_load {S : Shape} {e : EltTy} (arg : Memref sig .tc .vmem S e) (L : LoadRect S) (X : S.Idx → Elt F e) :
    View.readAt (Elt F) arg.view L (arg.view.rep X) = load L X := View.readAt_rep _ _ _

section
variable (x0 : S1024x128.Idx → Elt F .f32) (x1 x2 : S1x1024x2816.Idx → Elt F .bf16) (x3 : S1x2816x1024.Idx → Elt F .bf16)

/-- Tile `c` of every token of the block. -/
abbrev tile0 : Vec F S128x128 .f32 := load (⟨![0, 0], S128x128.size, ![8, 1], inb_S1024x128_S128x128_0_0_s_8_1⟩ : LoadRect S1024x128) x0
abbrev tile1 : Vec F S128x128 .f32 := load (⟨![1, 0], S128x128.size, ![8, 1], inb_S1024x128_S128x128_1_0_s_8_1⟩ : LoadRect S1024x128) x0
abbrev tile2 : Vec F S128x128 .f32 := load (⟨![2, 0], S128x128.size, ![8, 1], inb_S1024x128_S128x128_2_0_s_8_1⟩ : LoadRect S1024x128) x0
abbrev tile3 : Vec F S128x128 .f32 := load (⟨![3, 0], S128x128.size, ![8, 1], inb_S1024x128_S128x128_3_0_s_8_1⟩ : LoadRect S1024x128) x0
abbrev tile4 : Vec F S128x128 .f32 := load (⟨![4, 0], S128x128.size, ![8, 1], inb_S1024x128_S128x128_4_0_s_8_1⟩ : LoadRect S1024x128) x0
abbrev tile5 : Vec F S128x128 .f32 := load (⟨![5, 0], S128x128.size, ![8, 1], inb_S1024x128_S128x128_5_0_s_8_1⟩ : LoadRect S1024x128) x0
abbrev tile6 : Vec F S128x128 .f32 := load (⟨![6, 0], S128x128.size, ![8, 1], inb_S1024x128_S128x128_6_0_s_8_1⟩ : LoadRect S1024x128) x0
abbrev tile7 : Vec F S128x128 .f32 := load (⟨![7, 0], S128x128.size, ![8, 1], inb_S1024x128_S128x128_7_0_s_8_1⟩ : LoadRect S1024x128) x0

/-- The halves of the expert's three matrices. -/
abbrev loCols (x : S1x1024x2816.Idx → Elt F .bf16) : Vec F S1x1024x1408 .bf16 :=
  load (Rect.unit (s := S1x1024x2816) ![0, 0, 0] S1x1024x1408.size inb_S1x1024x2816_S1x1024x1408_0_0_0).toLoadRect x
abbrev hiCols (x : S1x1024x2816.Idx → Elt F .bf16) : Vec F S1x1024x1408 .bf16 :=
  load (Rect.unit (s := S1x1024x2816) ![0, 0, 1408] S1x1024x1408.size inb_S1x1024x2816_S1x1024x1408_0_0_1408).toLoadRect x
abbrev loRows (x : S1x2816x1024.Idx → Elt F .bf16) : Vec F S1x1408x1024 .bf16 :=
  load (Rect.unit (s := S1x2816x1024) ![0, 0, 0] S1x1408x1024.size inb_S1x2816x1024_S1x1408x1024_0_0_0).toLoadRect x
abbrev hiRows (x : S1x2816x1024.Idx → Elt F .bf16) : Vec F S1x1408x1024 .bf16 :=
  load (Rect.unit (s := S1x2816x1024) ![0, 1408, 0] S1x1408x1024.size inb_S1x2816x1024_S1x1408x1024_0_1408_0).toLoadRect x

/-- The gated network of the block's 128 tokens, both halves summed: row `r` is token `r`. -/
def tokens : FVec F S128x1024 .f32 :=
  k0_pay5 (k0_pay2 (tile0 x0) (tile1 x0) (tile2 x0) (tile3 x0) (tile4 x0) (tile5 x0) (tile6 x0) (tile7 x0))
    (k0_pay3 (tile0 x0) (tile1 x0) (tile2 x0) (tile3 x0) (tile4 x0) (tile5 x0) (tile6 x0) (tile7 x0) (loCols x1) (loCols x2) (loRows x3))
    (k0_pay4 (hiCols x1)) (constant S128x1408 .f32 0x00000000#32) (hiCols x2) (hiRows x3)
end

/-- A matrix of 128 tokens by 1024 as the rows of tiles the program keeps it in: row `8 r + c` holds columns
    `128 c` to `128 c + 127` of token `r`. -/
def dealt (A : S128x1024.Idx → Elt F .f32) : S1024x128.Idx → Elt F .f32 := fun y =>
  A (ix2 (⟨(y 0).val / 8, by have := (y 0).isLt; simp at this; omega⟩ : Fin 128)
    (⟨(y 0).val % 8 * 128 + (y 1).val, by have := (y 1).isLt; simp at this; omega⟩ : Fin 1024))

/-- Columns `128 k …` of `A` are what `dealt A` holds in the rows `8 r + k`. -/
theorem tile_dealt (A : S128x1024.Idx → Elt F .f32) (k : ℕ) (hk : k < 8) (o : ℕ) (ho : o = k * 128) (h : S128x1024.Slices ![0, o] S128x128)
    (x : S128x128.Idx) (y : S1024x128.Idx) (h0 : (y 0).val = k + 8 * (x 0).val) (h1 : (y 1).val = 0 + 1 * (x 1).val) :
    extractStridedSlice S128x128 ![0, o] A h x = dealt A y := by
  unfold dealt
  refine extractStridedSlice_apply ![0, o] A h x _ fun a => ?_
  fin_cases a
  · show (y 0).val / 8 = 0 + (x 0).val
    omega
  · show (y 0).val % 8 * 128 + (y 1).val = o + (x 1).val
    omega

/-- The body's eight stores of a block in use. -/
def pieces (A : FVec F S128x1024 .f32) : List (View.Piece (Elt F) S1024x128 .f32) :=
  [⟨⟨⟨![7, 0], S128x128.size, ![8, 1], inb_S1024x128_S128x128_7_0_s_8_1⟩, spos_8_1⟩, extractStridedSlice S128x128 ![0, 896] A slices_S128x1024_o0_896_S128x128⟩,
   ⟨⟨⟨![6, 0], S128x128.size, ![8, 1], inb_S1024x128_S128x128_6_0_s_8_1⟩, spos_8_1⟩, extractStridedSlice S128x128 ![0, 768] A slices_S128x1024_o0_768_S128x128⟩,
   ⟨⟨⟨![5, 0], S128x128.size, ![8, 1], inb_S1024x128_S128x128_5_0_s_8_1⟩, spos_8_1⟩, extractStridedSlice S128x128 ![0, 640] A slices_S128x1024_o0_640_S128x128⟩,
   ⟨⟨⟨![4, 0], S128x128.size, ![8, 1], inb_S1024x128_S128x128_4_0_s_8_1⟩, spos_8_1⟩, extractStridedSlice S128x128 ![0, 512] A slices_S128x1024_o0_512_S128x128⟩,
   ⟨⟨⟨![3, 0], S128x128.size, ![8, 1], inb_S1024x128_S128x128_3_0_s_8_1⟩, spos_8_1⟩, extractStridedSlice S128x128 ![0, 384] A slices_S128x1024_o0_384_S128x128⟩,
   ⟨⟨⟨![2, 0], S128x128.size, ![8, 1], inb_S1024x128_S128x128_2_0_s_8_1⟩, spos_8_1⟩, extractStridedSlice S128x128 ![0, 256] A slices_S128x1024_o0_256_S128x128⟩,
   ⟨⟨⟨![1, 0], S128x128.size, ![8, 1], inb_S1024x128_S128x128_1_0_s_8_1⟩, spos_8_1⟩, extractStridedSlice S128x128 ![0, 128] A slices_S128x1024_o0_128_S128x128⟩,
   ⟨⟨⟨![0, 0], S128x128.size, ![8, 1], inb_S1024x128_S128x128_0_0_s_8_1⟩, spos_8_1⟩, extractStridedSlice S128x128 ![0, 0] A slices_S128x1024_o0_0_S128x128⟩]

theorem pieces_agree (A : FVec F S128x1024 .f32) : ∀ p ∈ pieces A, ∀ x : p.1.shape.Idx, p.2 x = dealt A (p.1.emb x) := by
  unfold pieces
  simp only [List.forall_mem_cons, List.not_mem_nil, false_imp_iff, implies_true, and_true]
  refine ⟨?_, ?_, ?_, ?_, ?_, ?_, ?_, ?_⟩
  · exact fun x => tile_dealt A 7 (by omega) _ rfl _ x _ rfl rfl
  · exact fun x => tile_dealt A 6 (by omega) _ rfl _ x _ rfl rfl
  · exact fun x => tile_dealt A 5 (by omega) _ rfl _ x _ rfl rfl
  · exact fun x => tile_dealt A 4 (by omega) _ rfl _ x _ rfl rfl
  · exact fun x => tile_dealt A 3 (by omega) _ rfl _ x _ rfl rfl
  · exact fun x => tile_dealt A 2 (by omega) _ rfl _ x _ rfl rfl
  · exact fun x => tile_dealt A 1 (by omega) _ rfl _ x _ rfl rfl
  · exact fun x => tile_dealt A 0 (by omega) _ rfl _ x _ rfl rfl

/-- A row is in the rectangle of its remainder by 8. -/
theorem mem_tile (y : S1024x128.Idx) (k : ℕ) (hy : (y 0).val % 8 = k) (inb) (pos) :
    y ∈ (⟨⟨![k, 0], S128x128.size, ![8, 1], inb⟩, pos⟩ : Rect S1024x128).set := by
  refine (LoadRect.mem_set _).mpr fun a => ?_
  have h0 : (y 0).val < 1024 := (y 0).isLt
  fin_cases a
  · exact ⟨(y 0).val / 8, by show (y 0).val / 8 < 128; omega, by show (y 0).val = k + 8 * ((y 0).val / 8); omega⟩
  · exact ⟨(y 1).val, (y 1).isLt, by show (y 1).val = 0 + 1 * (y 1).val; omega⟩

theorem pieces_cover (A : FVec F S128x1024 .f32) (y : S1024x128.Idx) : ∃ p ∈ pieces A, y ∈ p.1.set := by
  unfold pieces
  simp only [List.exists_mem_cons_iff, List.not_mem_nil, false_and, exists_false, or_false]
  have h : (y 0).val % 8 < 8 := Nat.mod_lt _ (by omega)
  rcases (by omega : (y 0).val % 8 = 7 ∨ (y 0).val % 8 = 6 ∨ (y 0).val % 8 = 5 ∨ (y 0).val % 8 = 4 ∨ (y 0).val % 8 = 3
      ∨ (y 0).val % 8 = 2 ∨ (y 0).val % 8 = 1 ∨ (y 0).val % 8 = 0) with h | h | h | h | h | h | h | h
  · exact Or.inl (mem_tile y _ h _ spos_8_1)
  · exact Or.inr (Or.inl (mem_tile y _ h _ spos_8_1))
  · exact Or.inr (Or.inr (Or.inl (mem_tile y _ h _ spos_8_1)))
  · exact Or.inr (Or.inr (Or.inr (Or.inl (mem_tile y _ h _ spos_8_1))))
  · exact Or.inr (Or.inr (Or.inr (Or.inr (Or.inl (mem_tile y _ h _ spos_8_1)))))
  · exact Or.inr (Or.inr (Or.inr (Or.inr (Or.inr (Or.inl (mem_tile y _ h _ spos_8_1))))))
  · exact Or.inr (Or.inr (Or.inr (Or.inr (Or.inr (Or.inr (Or.inl (mem_tile y _ h _ spos_8_1)))))))
  · exact Or.inr (Or.inr (Or.inr (Or.inr (Or.inr (Or.inr (Or.inr (mem_tile y _ h _ spos_8_1)))))))

/-- The store of zeros of a block past the count. -/
def zeros : List (View.Piece (Elt F) S1024x128 .f32) :=
  [⟨Rect.unit (s := S1024x128) ![0, 0] S1024x128.size inb_S1024x128_S1024x128_0_0, k0_pay1 (F := F)⟩]

theorem zeros_agree : ∀ p ∈ zeros (F := F), ∀ x : p.1.shape.Idx, p.2 x = k0_pay1 (F := F) (p.1.emb x) := by
  intro p hp x
  rw [zeros, List.mem_singleton] at hp
  subst hp
  rfl

theorem zeros_cover (y : S1024x128.Idx) : ∃ p ∈ zeros (F := F), y ∈ p.1.set := by
  refine ⟨_, List.mem_singleton_self _, (LoadRect.mem_set _).mpr fun a => ⟨(y a).val, ?_, ?_⟩⟩
  · fin_cases a
    · exact (y 0).isLt
    · exact (y 1).isLt
  · fin_cases a
    · show (y 0).val = 0 + 1 * (y 0).val
      omega
    · show (y 1).val = 0 + 1 * (y 1).val
      omega

variable (c : Dev nD) (i : grid0.Coords) (arg3 : Memref sig .tc .vmem S1024x128 .f32) (harg3 : arg3.IsWhole)
    (arg4 : Memref sig .tc .vmem S1x1024x2816 .bf16) (harg4 : arg4.IsWhole) (arg5 : Memref sig .tc .vmem S1x1024x2816 .bf16) (harg5 : arg5.IsWhole)
    (arg6 : Memref sig .tc .vmem S1x2816x1024 .bf16) (harg6 : arg6.IsWhole) (arg7 : Memref sig .tc .vmem S1024x128 .f32) (harg7 : arg7.IsWhole)
    (T0 : S264.Idx → Elt F .i32) (T1 : S1.Idx → Elt F .i32)
    (x0 : S1024x128.Idx → Elt F .f32) (x1 x2 : S1x1024x2816.Idx → Elt F .bf16) (x3 : S1x2816x1024.Idx → Elt F .bf16)

theorem used_pieces (h1 : k0_cond1 i (used T1) = 1#1) (h2 : ¬(k0_cond2 i (used T1) = 1#1)) :
    (usedRun c i arg3 harg3 arg4 harg4 arg5 harg5 arg6 harg6 arg7 harg7 T0 T1 x0 x1 x2 x3 h1 h2).1 = pieces (tokens x0 x1 x2 x3) := by
  unfold usedRun
  dsimp only
  sl_unfold_words
  simp only [readAt_load]
  rfl

theorem idle_pieces (h1 : ¬(k0_cond1 i (used T1) = 1#1)) (h2 : k0_cond2 i (used T1) = 1#1) :
    (idleRun c i arg3 harg3 arg4 harg4 arg5 harg5 arg6 harg6 arg7 harg7 T0 T1 x0 x1 x2 x3 h1 h2).1 = zeros := by
  unfold idleRun
  dsimp only
  sl_unfold_words
  rfl

/-- The block a point leaves. -/
def left : S1024x128.Idx → Elt F .f32 :=
  if k0_cond1 i (used T1) = 1#1 then dealt (tokens x0 x1 x2 x3) else k0_pay1

/-- A flag widened to a word and compared with zero is the flag. -/
theorem flag_word (b : Bool) : Scalar.cmpi .ne (Scalar.extui (BitVec.ofBool b)) 0#32 = 1#1 ↔ b = true := by
  cases b <;> decide

theorem cond1_iff (n : BitVec 32) : k0_cond1 i n = 1#1 ↔ BitVec.slt (BitVec.ofNat 32 (i 0).val) n = true := flag_word _

/-- The two conditions of the body are each other's negations. -/
theorem cond2_iff (n : BitVec 32) : k0_cond2 i n = 1#1 ↔ ¬(k0_cond1 i n = 1#1) := by
  rw [cond1_iff]
  refine (flag_word _).trans ?_
  show BitVec.sle n (BitVec.ofNat 32 (i 0).val) = true ↔ _
  rw [BitVec.sle_eq_decide, BitVec.slt_eq_decide, decide_eq_true_eq, decide_eq_true_eq, not_lt]

/-- One run of the body, from the blocks it is given to the block it leaves. -/
theorem body_run (K : PUnit → sProp 𝕄) :
    iprop(held c arg3 arg4 arg5 arg6 T0 T1 x0 x1 x2 x3 ∗ (∃ d, owns (c : Thread nD τ) arg7 fullShare d)
      ∗ (iprop(held c arg3 arg4 arg5 arg6 T0 T1 x0 x1 x2 x3
          ∗ owns (c : Thread nD τ) arg7 fullShare (left i T1 x0 x1 x2 x3)) -∗ K ⟨⟩))
      ⊢ wp frame (wpE (defs₀ (F := F)) Variants.none c none) Set.univ
          (cc0_moe_blocks i experts (Memref.isWhole_whole _) count (Memref.isWhole_whole _) arg3 harg3 arg4 harg4 arg5 harg5 arg6 harg6 arg7 harg7) K := by
  by_cases h1 : k0_cond1 i (used T1) = 1#1
  · have h2 : ¬(k0_cond2 i (used T1) = 1#1) := fun h => (cond2_iff i _).mp h h1
    have h := (usedRun c i arg3 harg3 arg4 harg4 arg5 harg5 arg6 harg6 arg7 harg7 T0 T1 x0 x1 x2 x3 h1 h2).2 K
    rw [used_pieces] at h
    iintro ⟨H, HO, Hk⟩
    iapply h
    isplitl [H]; · iexact H
    isplitl [HO]; · iexact HO
    iintro ⟨H, ⟨%f, HO⟩⟩
    iapply Hk
    isplitl [H]; · iexact H
    unfold owns; iexists _; isplitr; swap
    · iexact HO
    · ipureintro
      unfold left
      rw [if_pos h1]
      exact funext fun y => View.read_writes_apply_of_pieces _ _ (dealt (tokens x0 x1 x2 x3)) _ (pieces_agree _) y (pieces_cover _ y)
  · have h2 : k0_cond2 i (used T1) = 1#1 := (cond2_iff i _).mpr h1
    have h := (idleRun c i arg3 harg3 arg4 harg4 arg5 harg5 arg6 harg6 arg7 harg7 T0 T1 x0 x1 x2 x3 h1 h2).2 K
    rw [idle_pieces] at h
    iintro ⟨H, HO, Hk⟩
    iapply h
    isplitl [H]; · iexact H
    isplitl [HO]; · iexact HO
    iintro ⟨H, ⟨%f, HO⟩⟩
    iapply Hk
    isplitl [H]; · iexact H
    unfold owns; iexists _; isplitr; swap
    · iexact HO
    · ipureintro
      unfold left
      rw [if_neg h1]
      exact funext fun y => View.read_writes_apply_of_pieces _ _ _ _ zeros_agree y (zeros_cover y)

end Cert.MoeIdeal.Blocks

end
-- ==== Proof.Moe.Run.lean ====
/- The launch of `moe_blocks` at any admissible tables: what each staging block holds at each point, the body there, and
   the run: it terminates, its arguments and tables end unchanged, its counters at zero, its result as the blocks make it. -/
module

public import proofs.«01_k».proof.Proof.Moe.Store
public import proofs.«01_k».proof.Proof.Gen.MoeIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.MoeIdeal.Blocks

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The staging cells' resources, embedded whole. -/
abbrev EP : Emb (UR sig nD τ) 𝕄 := emb₁

variable (a : (pcfg0 (F := F)).Adm) (m : (ℓ : Loc nD τ sig) → Buf (Elt F) ℓ) (ρ : Dev nD → PrngReg)

/-- The pipeline at the tables `a`. -/
abbrev cfgA : Pipeline.Cfg sig Λ₀ := cfg0 (F := F) a
abbrev pcs : Fin 1 → Pipeline.Cfg sig Λ₀ := Pipeline.pin (pcfgs (F := F)) fun _ => a

abbrev crd (t : Fin (cfgA a).N) : (cfgA a).grid.Coords := (cfgA a).grid.coords t

/-- The two tables, at the types the body reads them at. -/
abbrev tabE : S264.Idx → Elt F .i32 := a.1 0
abbrev tabN : S1.Idx → Elt F .i32 := a.1 1

/-- Window `w`'s block at point `t`, of its array at launch. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- The output block after point `t`. -/
def after4 (c : Dev nD) (t : Fin (cfgA a).N) : S1024x128.Idx → Elt F .f32 :=
  left (crd a t) (tabN a) (iblk a m ρ c (0 : Fin 5) t) (iblk a m ρ c (1 : Fin 5) t) (iblk a m ρ c (2 : Fin 5) t) (iblk a m ρ c (3 : Fin 5) t)

/-- Between points the body keeps its halves of the tables. -/
def Phi (c : Dev nD) (t : Fin ((cfgA a).N + 1)) : sProp 𝕄 :=
  iprop((experts.view.loc (c : Thread nD τ) ↦{fullShare.right} tabE a) ∗ (count.view.loc (c : Thread nD τ) ↦{fullShare.right} tabN a))

def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => after4 a m ρ c t
  Φ t := Phi a c t
  q _ := fullShare
  owed _ := 0

theorem after_0 (c : Dev nD) (t : Fin (cfgA a).N) : (dats a m ρ 0 c).after (0 : Fin 5) t = iblk a m ρ c (0 : Fin 5) t := rfl
theorem after_1 (c : Dev nD) (t : Fin (cfgA a).N) : (dats a m ρ 0 c).after (1 : Fin 5) t = iblk a m ρ c (1 : Fin 5) t := rfl
theorem after_2 (c : Dev nD) (t : Fin (cfgA a).N) : (dats a m ρ 0 c).after (2 : Fin 5) t = iblk a m ρ c (2 : Fin 5) t := rfl
theorem after_3 (c : Dev nD) (t : Fin (cfgA a).N) : (dats a m ρ 0 c).after (3 : Fin 5) t = iblk a m ρ c (3 : Fin 5) t := rfl
theorem after_4 (c : Dev nD) (t : Fin (cfgA a).N) : (dats a m ρ 0 c).after (4 : Fin 5) t = after4 a m ρ c t := rfl

/-- An input's staging block holds the input's block when the body runs, fetched at this point or kept. -/
theorem before_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after_3]; unfold Dat.blockOf iblk; rfl) t d).trans
    (by unfold Dat.fetched Dat.blockOf iblk; rfl)

/-- The count the pipeline looks at is the one the body reads. -/
theorem count_word (pf : pre0.Contents (Elt F)) : pf.atD 1 ![0] = used (F := F) (pf 1) := by
  unfold Pipeline.Prefetch.Contents.atD used
  rw [dif_pos (fun b => by fin_cases b; decide)]
  exact congrArg (pf 1) (funext fun b => Fin.ext (by fin_cases b; rfl))

/-- Every point stores the output block: one of the body's conditions holds. -/
theorem never_idle (t : Fin (cfgA a).N) : (cfgA a).idle (4 : Fin 5) ((cfgA a).grid.coords t) = false := by
  show (!(k0_cond1 (grid0.coords t) (a.1.atD 1 ![0]) == 1#1) && !(k0_cond2 (grid0.coords t) (a.1.atD 1 ![0]) == 1#1)) = false
  by_cases h : k0_cond1 (grid0.coords t) (a.1.atD 1 ![0]) = 1#1
  · rw [h]; rfl
  · rw [(cond2_iff _ _).mpr h]; simp

abbrev st0 (t : Fin (cfgA a).N) : Memref sig .tc .vmem S1024x128 .f32 := spec0_0.stage ((cfgA a).slots t (0 : Fin 5))
abbrev st1 (t : Fin (cfgA a).N) : Memref sig .tc .vmem S1x1024x2816 .bf16 := spec0_1.stage ((cfgA a).slots t (1 : Fin 5))
abbrev st2 (t : Fin (cfgA a).N) : Memref sig .tc .vmem S1x1024x2816 .bf16 := spec0_2.stage ((cfgA a).slots t (2 : Fin 5))
abbrev st3 (t : Fin (cfgA a).N) : Memref sig .tc .vmem S1x2816x1024 .bf16 := spec0_3.stage ((cfgA a).slots t (3 : Fin 5))
abbrev st4 (t : Fin (cfgA a).N) : Memref sig .tc .vmem S1024x128 .f32 := spec0_4.stage ((cfgA a).slots t (4 : Fin 5))

/-- The body at point `t`, on the point's staging blocks. -/
abbrev bodyAt (t : Fin (cfgA a).N) : Prog (TpuEff nD τ sig (Elt F) Λ₀ .tc) PUnit :=
  cc0_moe_blocks (crd a t) experts (Memref.isWhole_whole _) count (Memref.isWhole_whole _)
    (st0 a t) (hstage0_0 (((cfgA a).slots t (0 : Fin 5)).cast nbuf0_0)) (st1 a t) (hstage0_1 (((cfgA a).slots t (1 : Fin 5)).cast nbuf0_1))
    (st2 a t) (hstage0_2 (((cfgA a).slots t (2 : Fin 5)).cast nbuf0_2)) (st3 a t) (hstage0_3 (((cfgA a).slots t (3 : Fin 5)).cast nbuf0_3))
    (st4 a t) (hstage0_4 (((cfgA a).slots t (4 : Fin 5)).cast nbuf0_4))

set_option maxHeartbeats 4000000 in
theorem body_at (c : Dev nD) (t : Fin (cfgA a).N) :
    iprop((dats a m ρ 0 c).Φ t.castSucc ∗ (dats a m ρ 0 c).owesAt () t.castSucc
        ∗ (∃ d, owns (c : Thread nD τ) (st0 a t) fullShare ((dats a m ρ 0 c).before (0 : Fin 5) t d))
        ∗ (∃ d, owns (c : Thread nD τ) (st1 a t) fullShare ((dats a m ρ 0 c).before (1 : Fin 5) t d))
        ∗ (∃ d, owns (c : Thread nD τ) (st2 a t) fullShare ((dats a m ρ 0 c).before (2 : Fin 5) t d))
        ∗ (∃ d, owns (c : Thread nD τ) (st3 a t) fullShare ((dats a m ρ 0 c).before (3 : Fin 5) t d))
        ∗ (∃ d, owns (c : Thread nD τ) (st4 a t) fullShare ((dats a m ρ 0 c).before (4 : Fin 5) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [never_idle a t]
  simp only [before_0, before_1, before_2, before_3, after_0, after_1, after_2, after_3, after_4]
  rewrite [show (dats a m ρ 0 c).Φ t.succ = Phi a c t.succ from rfl, show (dats a m ρ 0 c).Φ t.castSucc = Phi a c t.castSucc from rfl,
    show (dats a m ρ 0 c).owesAt () t.succ = (dats a m ρ 0 c).owesAt () t.castSucc from rfl]
  unfold Phi
  iintro ⟨⟨HT0, HT1⟩, Ho, ⟨%d0, H0⟩, ⟨%d1, H1⟩, ⟨%d2, H2⟩, ⟨%d3, H3⟩, ⟨%d4, H4⟩⟩
  iapply (body_run c (crd a t) (st0 a t) _ (st1 a t) _ (st2 a t) _ (st3 a t) _ (st4 a t) _ (tabE a) (tabN a)
    (iblk a m ρ c (0 : Fin 5) t) (iblk a m ρ c (1 : Fin 5) t) (iblk a m ρ c (2 : Fin 5) t) (iblk a m ρ c (3 : Fin 5) t) _)
  isplitl [H0 H1 H2 H3 HT0 HT1]
  · unfold held
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexists _; iexact H4
  unfold held
  iintro ⟨⟨H0, H1, H2, H3, HT0, HT1⟩, H4⟩
  isplitl [HT0 HT1]
  · isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexact H4

theorem body_obligation (c : Dev nD) : BodyObligation (dats a m ρ 0 c) (defs₀ (F := F)) Variants.none () Set.univ := fun t => by
  rw [bigSep_W0]
  exact body_at a m ρ c t

/-! ## The launch -/

def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a c 0 from rfl]
  unfold Phi
  iintro ⟨-, ⟨HT0, HT1⟩, -⟩
  isplitl [HT0]
  · iexact HT0
  iexact HT1

theorem phi_last (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a c (Fin.last _) from rfl]
  unfold Phi
  iintro ⟨-, -⟩
  isplitr; · iempintro
  iempintro

/-- The memory holds the tables `a`. -/
def Holds : Prop := ∀ (c : Dev nD) (j : Fin 2), m ((c : Thread nD τ).loc (pre0.ref j)) = a.1 j

/-- Every array as the library computes it, every table as it was. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
theorem run_all (hp : Holds a m) :
    θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_first a m ρ)
    (hout := phi_last a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run's arguments end as they began. -/
abbrev Kept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

theorem kept_of (hp : Holds a m) (r : PUnit × MemSt nD τ sig (Elt F)) (h : QC a m ρ r) : Kept m r := fun c =>
  ⟨((h c).2 0).trans (hp c 0).symm, ((h c).2 1).trans (hp c 1).symm,
    ((h c).1 (0 : Fin 5)).trans ((dats a m ρ 0 c).arrAt_in (0 : Fin 5) rfl _), ((h c).1 (1 : Fin 5)).trans ((dats a m ρ 0 c).arrAt_in (1 : Fin 5) rfl _),
    ((h c).1 (2 : Fin 5)).trans ((dats a m ρ 0 c).arrAt_in (2 : Fin 5) rfl _), ((h c).1 (3 : Fin 5)).trans ((dats a m ρ 0 c).arrAt_in (3 : Fin 5) rfl _)⟩

theorem frame_at (hp : Holds a m) : θ_run (defs (F := F)) (onTc (τ := τ) (main (F := F))) ⟨m, fun _ => 0, ρ⟩
    (fun r => Kept m r ∧ r.2.sem = fun _ => 0) :=
  (θ_run defs _ _).mono (fun r h => ⟨kept_of a m ρ hp r h.1, h.2⟩) (run_all a m ρ hp)

/-- The run with the result named: the sixth window's array after every point. -/
theorem value_at (hp : Holds a m) : θ_run (defs (F := F)) (onTc (τ := τ) (main (F := F))) ⟨m, fun _ => 0, ρ⟩
    (fun r => ∀ c : Dev nD, r.2.mem (((cfgA a).win (4 : Fin 5)).arr.view.loc (c : Thread nD τ)) = (dats a m ρ 0 c).arrAt (4 : Fin 5) (cfgA a).N) :=
  (θ_run defs _ _).mono (fun r h c => (h.1 c).1 (4 : Fin 5)) (run_all a m ρ hp)

end Cert.MoeIdeal.Blocks

end
-- ==== Proof.Moe.Tables.lean ====
/- The tables: experts in range make them admissible, and the words the block maps read are theirs. -/
module

public import proofs.«01_k».proof.Pre_experts
public import proofs.«01_k».proof.Proof.Moe.Run
public import Idealize.ShloMosaic.Lib.ReduceAll

@[expose] public section

set_option maxRecDepth 16384

noncomputable section

namespace Cert.MoeIdeal.Blocks

open Cert.MoeIdeal Cert.MoeIdeal.Gen
open Idealize.ShloMosaic Idealize.ShloMosaic.TcCoe Idealize.SL.Sem

/-- What the precondition says of the table: every entry names one of the eight experts. -/
theorem in_range {F : FTy → Type} [FloatOps F] [Cert.Pre_experts.Facts] (T0 : IVec Cert.Pre_experts.S264 32) (T1 : IVec Cert.Pre_experts.S1 32)
    (X : FVec F Cert.Pre_experts.S270336x128 .f32) (G U : FVec F Cert.Pre_experts.S8x1024x2816 .bf16) (D : FVec F Cert.Pre_experts.S8x2816x1024 .bf16)
    (h : Cert.Pre_experts.fn T0 T1 X G U D = fun _ => 1#1) (j : Cert.Pre_experts.S264.Idx) : (T0 j).toNat < 8 := by
  have e : IntOp.andi (IntOp.cmpi .sge (T0 j) 0#32) (IntOp.cmpi .slt (T0 j) 8#32) = 1#1 :=
    Host.reduce_andi_all _ _ _ _ (fun a => a.elim0) (congrFun h _) j
  have both : ∀ p q : BitVec 1, IntOp.andi p q = 1#1 → p = 1#1 ∧ q = 1#1 := by decide
  obtain ⟨hs, hl⟩ := both _ _ e
  have h0 : (0#32 : BitVec 32).toInt ≤ (T0 j).toInt := IntOp.cmpi_sge.1 hs
  have h1 : (T0 j).toInt < (8#32 : BitVec 32).toInt := IntOp.cmpi_slt.1 hl
  have e0 : (0#32 : BitVec 32).toInt = 0 := by decide
  have e1 : (8#32 : BitVec 32).toInt = 8 := by decide
  have c := BitVec.toInt_eq_toNat_cond (T0 j)
  have hb := (T0 j).isLt
  rw [e0] at h0
  rw [e1] at h1
  split at c <;> omega

variable {F : FTy → Type} [FloatOps F]

/-- The table's entry for block `i`. -/
def entry (T0 : S264.Idx → BitVec 32) (i : Fin 264) : BitVec 32 := T0 (ix1 i)

/-- A block number is the word that indexes the table. -/
theorem index_word (n : Fin 264) : (Scalar.indexCast (BitVec.ofNat 32 n.val)).toNat = n.val := by revert n; decide +kernel

/-- A block map reads the entry of its own block. -/
theorem word_at (pf : pre0.Contents (Elt F)) (i : grid0.Coords) :
    pf.at 0 (Rect.unit (s := S264) ![(Scalar.indexCast (BitVec.ofNat 32 (i 0).val)).toNat] S1.size (k0_off1_inb i)) numel1_S1
      = entry (pf 0) (i 0) := by
  refine congrArg (pf 0) (funext fun b => Fin.ext ?_)
  fin_cases b
  show (Scalar.indexCast (BitVec.ofNat 32 (i 0).val)).toNat + 0 = (i 0).val
  rw [index_word (i 0)]; rfl

theorem map1_at (pf : pre0.Contents (Elt F)) (i : grid0.Coords) :
    cc0_transform_1 k0_off1_inb numel1_S1 pf i = ![(entry (pf 0) (i 0)).toNat, 0, 0] :=
  congrArg (fun n : BitVec 32 => ![n.toNat, 0, 0]) (word_at pf i)

theorem map2_at (pf : pre0.Contents (Elt F)) (i : grid0.Coords) :
    cc0_transform_2 k0_off1_inb numel1_S1 pf i = ![(entry (pf 0) (i 0)).toNat, 0, 0] :=
  congrArg (fun n : BitVec 32 => ![n.toNat, 0, 0]) (word_at pf i)

theorem map3_at (pf : pre0.Contents (Elt F)) (i : grid0.Coords) :
    cc0_transform_3 k0_off1_inb numel1_S1 pf i = ![(entry (pf 0) (i 0)).toNat, 0, 0] :=
  congrArg (fun n : BitVec 32 => ![n.toNat, 0, 0]) (word_at pf i)

/-- Tables whose entries name experts are admissible. -/
theorem ok_of_range (pf : pre0.Contents (Elt F)) (h : ∀ i : Fin 264, (entry (pf 0) i).toNat < 8) : ok0 pf := by
  refine ⟨fun i => ⟨fun b => ?_, .inr (Affine.block_words_dvd (s := S8x1024x2816) (p := EltTy.packing .bf16) (by decide) (by decide))⟩,
    fun i => ⟨fun b => ?_, .inr (Affine.block_words_dvd (s := S8x1024x2816) (p := EltTy.packing .bf16) (by decide) (by decide))⟩,
    fun i => ⟨fun b => ?_, .inr (Affine.block_words_dvd (s := S8x2816x1024) (p := EltTy.packing .bf16) (by decide) (by decide))⟩⟩
  · rw [map1_at]
    have := h (i 0)
    fin_cases b
    · show ((entry (pf 0) (i 0)).toNat + 1) * 1 ≤ 8
      omega
    · show (0 + 1) * 1024 ≤ 1024
      omega
    · show (0 + 1) * 2816 ≤ 2816
      omega
  · rw [map2_at]
    have := h (i 0)
    fin_cases b
    · show ((entry (pf 0) (i 0)).toNat + 1) * 1 ≤ 8
      omega
    · show (0 + 1) * 1024 ≤ 1024
      omega
    · show (0 + 1) * 2816 ≤ 2816
      omega
  · rw [map3_at]
    have := h (i 0)
    fin_cases b
    · show ((entry (pf 0) (i 0)).toNat + 1) * 1 ≤ 8
      omega
    · show (0 + 1) * 2816 ≤ 2816
      omega
    · show (0 + 1) * 1024 ≤ 1024
      omega

/-- The one device. -/
def dev : Dev nD := ⟨0, by decide⟩

theorem dev_eq (c : Dev nD) : c = dev := by
  obtain ⟨n, hn⟩ := c
  have : n < 1 := hn
  exact Fin.ext (by show n = 0; omega)

/-- The tables a memory holds. -/
def tables (m : (ℓ : Loc nD τ sig) → Buf (Elt F) ℓ) : pre0.Contents (Elt F) := fun j => m ((dev : Thread nD τ).loc (pre0.ref j))

theorem holds (m : (ℓ : Loc nD τ sig) → Buf (Elt F) ℓ) (h : ok0 (tables m)) : Holds ⟨tables m, h⟩ m := fun c j => by
  rw [dev_eq c]; rfl

end Cert.MoeIdeal.Blocks

end
-- ==== Proof.Moe.Frame.lean ====
/- The expert blocks run and leave their arguments, as the hardware computes and as the ideal one does. -/
module

public import proofs.«01_k».proof.Defs
public import proofs.«01_k».proof.Proof.Gen.Pre_experts
public import proofs.«01_k».proof.Proof.Moe.Tables
public import proofs.«01_k».proof.Proof.MoeBits.Tables

@[expose] public section

set_option maxRecDepth 16384

noncomputable section

open Idealize.ShloMosaic Idealize.ShloMosaic.TcCoe Idealize.SL.Sem

namespace Cert.Proof.MoeClaims

open Cert.MoeIdeal Cert.MoeIdeal.Blocks in
/-- The precondition makes a memory's tables admissible. -/
theorem ok_of_pre (m : (ℓ : Loc nD τ sig) → Buf (Elt Ideal) ℓ) (h : Cert.Pre_MoeIdeal m) : ok0 (tables m) :=
  ok_of_range _ fun i => in_range _ _ _ _ _ _ (h dev) (ix1 i)

open Cert.Moe Cert.Moe.Blocks in
/-- So it does for the program as printed. -/
theorem ok_of_pre_bits (m : (ℓ : Loc nD τ sig) → Buf (Elt Bits) ℓ) (h : Cert.Pre_Moe m) : ok0 (tables m) :=
  ok_of_range _ fun i => in_range _ _ _ _ _ _ (h dev) (ix1 i)

open Cert.MoeIdeal.Blocks in
/-- The idealized kernel runs, leaves its arguments, and ends quiescent. -/
theorem frame_pi : Cert.quiescent_MoeIdeal := fun m g h => frame_at ⟨tables m, ok_of_pre m h⟩ m g (holds m (ok_of_pre m h))

open Cert.Moe.Blocks in
/-- So does the kernel as printed. -/
theorem frame_p : Cert.quiescent_Moe := fun m g h => frame_at ⟨tables m, ok_of_pre_bits m h⟩ m g (holds m (ok_of_pre_bits m h))

end Cert.Proof.MoeClaims

end
-- ==== Proof.Moe.Spec.lean ====
/- What the expert blocks compute: each of 264 blocks of 128 tokens goes through the gated network of the one expert its
   table entry names, and the blocks past the count are zero. A token's 1024 numbers are held as eight rows of 128. -/
module

public import proofs.«01_k».proof.Proof.Ffn.Equation

@[expose] public section

noncomputable section

namespace Cert.MoeSpec

open Idealize.ShloMosaic Cert.Attn Cert.Gated

/-- Matrix `b` of a stack. -/
def slab {n p q : ℕ} (x : (⟨3, ![n, p, q]⟩ : Shape).Idx → EReal) (b : Fin n) : (⟨2, ![p, q]⟩ : Shape).Idx → EReal :=
  fun y => x (ix3 b (y 0) (y 1))

/-- The tokens of block `i`, as a matrix. -/
def tokensOf (X : (⟨2, ![270336, 128]⟩ : Shape).Idx → EReal) (i : Fin 264) : (⟨2, ![128, 1024]⟩ : Shape).Idx → EReal := fun y =>
  X (ix2 (⟨i.val * 1024 + (y 0).val * 8 + (y 1).val / 128, by
      have h0 : (y 0).val < 128 := (y 0).isLt
      have h1 : (y 1).val < 1024 := (y 1).isLt
      have := i.isLt
      omega⟩ : Fin 270336)
    (⟨(y 1).val % 128, by omega⟩ : Fin 128))

/-- The expert an entry names. -/
def expert (w : BitVec 32) : Fin 8 := ⟨min w.toNat 7, by omega⟩

theorem expert_val {w : BitVec 32} (h : w.toNat < 8) : (expert w).val = w.toNat := by
  show min w.toNat 7 = w.toNat
  omega

/-- Token `r`, column `C` of block `i`: the network of expert `e` on the token. -/
def network (X : (⟨2, ![270336, 128]⟩ : Shape).Idx → EReal) (G U : (⟨3, ![8, 1024, 2816]⟩ : Shape).Idx → EReal) (D : (⟨3, ![8, 2816, 1024]⟩ : Shape).Idx → EReal)
    (e : Fin 8) (i : Fin 264) (r C : ℕ) : EReal :=
  swiglu 1024 2816 (at2 (tokensOf X i) r) (at2 (slab G e)) (at2 (slab U e)) (at2 (slab D e)) C

/-- Row `Y`, column `l` of the output. -/
def output (T0 : (⟨1, ![264]⟩ : Shape).Idx → BitVec 32) (T1 : (⟨1, ![1]⟩ : Shape).Idx → BitVec 32) (X : (⟨2, ![270336, 128]⟩ : Shape).Idx → EReal)
    (G U : (⟨3, ![8, 1024, 2816]⟩ : Shape).Idx → EReal) (D : (⟨3, ![8, 2816, 1024]⟩ : Shape).Idx → EReal) (Y : Fin 270336) (l : Fin 128) : EReal :=
  if BitVec.slt (BitVec.ofNat 32 (Y.val / 1024)) (T1 (ix1 0)) = true then
    network X G U D (expert (T0 (ix1 (⟨Y.val / 1024, by omega⟩ : Fin 264)))) (⟨Y.val / 1024, by omega⟩ : Fin 264) (Y.val % 1024 / 8) (Y.val % 8 * 128 + l.val)
  else 0

/-- The output at a row of block `i`. -/
theorem output_block (T0 : (⟨1, ![264]⟩ : Shape).Idx → BitVec 32) (T1 : (⟨1, ![1]⟩ : Shape).Idx → BitVec 32) (X : (⟨2, ![270336, 128]⟩ : Shape).Idx → EReal)
    (G U : (⟨3, ![8, 1024, 2816]⟩ : Shape).Idx → EReal) (D : (⟨3, ![8, 2816, 1024]⟩ : Shape).Idx → EReal) (i : Fin 264) (Y : Fin 1024) (l : Fin 128)
    (h : i.val * 1024 + Y.val < 270336) :
    output T0 T1 X G U D ⟨i.val * 1024 + Y.val, h⟩ l
      = if BitVec.slt (BitVec.ofNat 32 i.val) (T1 (ix1 0)) = true then network X G U D (expert (T0 (ix1 i))) i (Y.val / 8) (Y.val % 8 * 128 + l.val) else 0 := by
  have hY := Y.isLt
  have e0 : (i.val * 1024 + Y.val) / 1024 = i.val := by omega
  have e1 : (i.val * 1024 + Y.val) % 1024 / 8 = Y.val / 8 := by omega
  have e2 : (i.val * 1024 + Y.val) % 8 = Y.val % 8 := by omega
  unfold output
  simp only [e0, e1, e2]

end Cert.MoeSpec

end
-- ==== Proof.Moe.Equation.lean ====
/- What the expert blocks leave in the output array: `output` of the arguments, at every row and column. -/
module

public import proofs.«01_k».proof.Proof.Moe.Tables
public import proofs.«01_k».proof.Proof.Moe.Spec
public import Idealize.ShloMosaic.Lib.Pointwise
public import Idealize.ShloMosaic.Lib.Tactic.CleanTypes

@[expose] public section

set_option maxRecDepth 16384

noncomputable section

namespace Cert.MoeIdeal.Blocks

open Cert.MoeIdeal Cert.MoeIdeal.Gen Cert.Attn Cert.Gated Cert.MoeSpec
open Idealize.ShloMosaic Idealize.ShloMosaic.TcCoe Idealize.SL.Sem

/-- The tokens of a block of rows of tiles, as a matrix. -/
def gathered (x0 : S1024x128.Idx → EReal) : (⟨2, ![128, 1024]⟩ : Shape).Idx → EReal := fun y =>
  x0 (ix2 (⟨(y 0).val * 8 + (y 1).val / 128, by
      have h0 : (y 0).val < 128 := (y 0).isLt
      have h1 : (y 1).val < 1024 := (y 1).isLt
      omega⟩ : Fin 1024)
    (⟨(y 1).val % 128, by omega⟩ : Fin 128))

/-- Tile `k` of token `r`. -/
theorem tile_at (x0 : S1024x128.Idx → EReal) (k : ℕ) (inb) (r l : Fin 128) (C : Fin 1024) (hC : C.val = k * 128 + l.val) :
    (load (F := Ideal) (e := .f32) (⟨![k, 0], S128x128.size, ![8, 1], inb⟩ : LoadRect S1024x128) x0 (ix2 r l) : EReal) = gathered x0 (ix2 r C) := by
  have hl := l.isLt
  refine congrArg x0 (funext fun b => Fin.ext ?_)
  fin_cases b
  · show k + 8 * r.val = r.val * 8 + C.val / 128
    omega
  · show 0 + 1 * l.val = C.val % 128
    omega

/-- Piece `k` of eight tiles side by side. -/
theorem piece_at (xs : List ((s : Shape) × (s.Idx → EReal))) (h : Shape.Concatenates (xs.map (·.1)) S128x1024 1) (k : ℕ) (hk : k < xs.length)
    (x : S128x128.Idx → EReal) (hx : xs[k] = ⟨S128x128, x⟩)
    (hpre : (((xs.take k).map (·.1)).map fun s => if h : s.rank = S128x1024.rank then s.size ((1 : Fin S128x1024.rank).cast h.symm) else 0).sum = k * 128)
    (r : Fin 128) (C : Fin 1024) (hC : C.val / 128 = k) :
    concatenate S128x1024 1 xs h (ix2 r C) = x (ix2 r (⟨C.val % 128, by omega⟩ : Fin 128)) := by
  refine concatenate_apply_piece 1 xs h (ix2 r C) k hk S128x128 x hx rfl (k * 128) hpre (ix2 r (⟨C.val % 128, by omega⟩ : Fin 128)) (fun b hb => ?_) ?_
  · fin_cases b
    · rfl
    · exact absurd rfl hb
  · show k * 128 + C.val % 128 = C.val
    omega

/-- The eight tiles side by side are the tokens. -/
theorem joined_at (x0 : S1024x128.Idx → EReal) (r : Fin 128) (C : Fin 1024) :
    (k0_pay2 (F := Ideal) (tile0 (F := Ideal) x0) (tile1 (F := Ideal) x0) (tile2 (F := Ideal) x0) (tile3 (F := Ideal) x0) (tile4 (F := Ideal) x0)
      (tile5 (F := Ideal) x0) (tile6 (F := Ideal) x0) (tile7 (F := Ideal) x0) (ix2 r C) : EReal) = gathered x0 (ix2 r C) := by
  have hC := C.isLt
  show concatenate S128x1024 1 [⟨S128x128, tile0 (F := Ideal) x0⟩, ⟨S128x128, tile1 (F := Ideal) x0⟩, ⟨S128x128, tile2 (F := Ideal) x0⟩, ⟨S128x128, tile3 (F := Ideal) x0⟩, ⟨S128x128, tile4 (F := Ideal) x0⟩, ⟨S128x128, tile5 (F := Ideal) x0⟩, ⟨S128x128, tile6 (F := Ideal) x0⟩, ⟨S128x128, tile7 (F := Ideal) x0⟩]
    concatenates_S128x128_S128x128_S128x128_S128x128_S128x128_S128x128_S128x128_S128x128_S128x1024_d1 (ix2 r C) = _
  rcases (by omega : C.val / 128 = 0 ∨ C.val / 128 = 1 ∨ C.val / 128 = 2 ∨ C.val / 128 = 3 ∨ C.val / 128 = 4 ∨ C.val / 128 = 5 ∨ C.val / 128 = 6 ∨ C.val / 128 = 7)
    with h | h | h | h | h | h | h | h
  · exact Eq.trans (piece_at _ _ 0 (by simp) _ rfl rfl r C h) (tile_at x0 0 _ r _ C (by dsimp only; omega))
  · exact Eq.trans (piece_at _ _ 1 (by simp) _ rfl rfl r C h) (tile_at x0 1 _ r _ C (by dsimp only; omega))
  · exact Eq.trans (piece_at _ _ 2 (by simp) _ rfl rfl r C h) (tile_at x0 2 _ r _ C (by dsimp only; omega))
  · exact Eq.trans (piece_at _ _ 3 (by simp) _ rfl rfl r C h) (tile_at x0 3 _ r _ C (by dsimp only; omega))
  · exact Eq.trans (piece_at _ _ 4 (by simp) _ rfl rfl r C h) (tile_at x0 4 _ r _ C (by dsimp only; omega))
  · exact Eq.trans (piece_at _ _ 5 (by simp) _ rfl rfl r C h) (tile_at x0 5 _ r _ C (by dsimp only; omega))
  · exact Eq.trans (piece_at _ _ 6 (by simp) _ rfl rfl r C h) (tile_at x0 6 _ r _ C (by dsimp only; omega))
  · exact Eq.trans (piece_at _ _ 7 (by simp) _ rfl rfl r C h) (tile_at x0 7 _ r _ C (by dsimp only; omega))

/-- Half the hidden units, from the joined tokens `t` and the halves of the expert's matrices. -/
theorem half_at (t : FVec Ideal S128x1024 .bf16) (g u : FVec Ideal S1x1024x1408 .bf16) (d : FVec Ideal S1x1408x1024 .bf16) (acc : FVec Ideal S128x1024 .f32)
    (r : Fin 128) (C : Fin 1024) :
    (k0_pay5 (F := Ideal) t acc (k0_pay4 g) (constant (F := Ideal) S128x1408 .f32 0x00000000#32) u d (ix2 r C) : EReal)
      = (acc (ix2 r C) : EReal) + swiglu 1024 1408 (at2 (n := 128) (m := 1024) t r.val) (at2 (slab (n := 1) (p := 1024) (q := 1408) g 0))
        (at2 (slab (n := 1) (p := 1024) (q := 1408) u 0)) (at2 (slab (n := 1) (p := 1408) (q := 1024) d 0)) C.val := by
  rw [← Cert.FfnIdeal.Kernel.gated_of (n := 128) (K := 1024) (N := 1408) _ _ _ 1024 _ r C]
  unfold k0_pay5 k0_pay4
  pointwise
  rfl

/-- The lower and the upper columns of a matrix of an expert. -/
theorem cols_at (x : S1x1024x2816.Idx → EReal) (d : Fin 1024) (f : Fin 1408) :
    slab (n := 1) (p := 1024) (q := 1408) (loCols (F := Ideal) x) 0 (ix2 d f) = slab (n := 1) (p := 1024) (q := 2816) x 0 (ix2 d (⟨f.val, by omega⟩ : Fin 2816))
      ∧ slab (n := 1) (p := 1024) (q := 1408) (hiCols (F := Ideal) x) 0 (ix2 d f) = slab (n := 1) (p := 1024) (q := 2816) x 0 (ix2 d (⟨1408 + f.val, by omega⟩ : Fin 2816)) := by
  refine ⟨congrArg x (funext fun b => Fin.ext ?_), congrArg x (funext fun b => Fin.ext ?_)⟩
  · fin_cases b
    · rfl
    · show 0 + 1 * d.val = d.val
      omega
    · show 0 + 1 * f.val = f.val
      omega
  · fin_cases b
    · rfl
    · show 0 + 1 * d.val = d.val
      omega
    · show 1408 + 1 * f.val = 1408 + f.val
      omega

/-- The upper and the lower rows. -/
theorem rows_at (x : S1x2816x1024.Idx → EReal) (f : Fin 1408) (C : Fin 1024) :
    slab (n := 1) (p := 1408) (q := 1024) (loRows (F := Ideal) x) 0 (ix2 f C) = slab (n := 1) (p := 2816) (q := 1024) x 0 (ix2 (⟨f.val, by omega⟩ : Fin 2816) C)
      ∧ slab (n := 1) (p := 1408) (q := 1024) (hiRows (F := Ideal) x) 0 (ix2 f C) = slab (n := 1) (p := 2816) (q := 1024) x 0 (ix2 (⟨1408 + f.val, by omega⟩ : Fin 2816) C) := by
  refine ⟨congrArg x (funext fun b => Fin.ext ?_), congrArg x (funext fun b => Fin.ext ?_)⟩
  · fin_cases b
    · rfl
    · show 0 + 1 * f.val = f.val
      omega
    · show 0 + 1 * C.val = C.val
      omega
  · fin_cases b
    · rfl
    · show 1408 + 1 * f.val = 1408 + f.val
      omega
    · show 0 + 1 * C.val = C.val
      omega

/-- The two halves add up to the network of the expert on the block's tokens. -/
theorem tokens_at (x0 : S1024x128.Idx → EReal) (x1 x2 : S1x1024x2816.Idx → EReal) (x3 : S1x2816x1024.Idx → EReal) (r : Fin 128) (C : Fin 1024) :
    (tokens (F := Ideal) x0 x1 x2 x3 (ix2 r C) : EReal) = swiglu 1024 2816 (at2 (gathered x0) r.val) (at2 (slab (n := 1) (p := 1024) (q := 2816) x1 0))
      (at2 (slab (n := 1) (p := 1024) (q := 2816) x2 0)) (at2 (slab (n := 1) (p := 2816) (q := 1024) x3 0)) C.val := by
  refine (half_at _ _ _ _ _ r C).trans ?_
  refine Eq.trans ?_ (swiglu_halves 1024 1408 _ _ _ _ _)
  refine congrArg₂ (fun p q : EReal => p + q) ?_ ?_
  · refine (half_at (k0_pay2 (F := Ideal) (tile0 (F := Ideal) x0) (tile1 (F := Ideal) x0) (tile2 (F := Ideal) x0) (tile3 (F := Ideal) x0) (tile4 (F := Ideal) x0)
      (tile5 (F := Ideal) x0) (tile6 (F := Ideal) x0) (tile7 (F := Ideal) x0)) (loCols (F := Ideal) x1) (loCols (F := Ideal) x2) (loRows (F := Ideal) x3)
      (broadcast S128x1024 (Scalar.ofBits (F := Ideal) .f32 0x00000000#32)) r C).trans ?_
    refine congrArg₂ (fun p q : EReal => p + q) Ideal.ofBits_zero_f32 ?_
    refine swiglu_congr (fun d hd => ?_) (fun d hd f hf => ?_) (fun d hd f hf => ?_) fun f hf => ?_
    · exact (at2_mk (n := 128) (m := 1024) _ r.isLt hd).trans ((joined_at x0 _ _).trans (at2_mk (n := 128) (m := 1024) _ r.isLt hd).symm)
    · exact (at2_mk (n := 1024) (m := 1408) _ hd hf).trans ((cols_at x1 ⟨d, hd⟩ ⟨f, hf⟩).1.trans (at2_mk (n := 1024) (m := 2816) _ hd (by omega)).symm)
    · exact (at2_mk (n := 1024) (m := 1408) _ hd hf).trans ((cols_at x2 ⟨d, hd⟩ ⟨f, hf⟩).1.trans (at2_mk (n := 1024) (m := 2816) _ hd (by omega)).symm)
    · exact (at2_mk (n := 1408) (m := 1024) _ hf C.isLt).trans ((rows_at x3 ⟨f, hf⟩ C).1.trans (at2_mk (n := 2816) (m := 1024) _ (by omega) C.isLt).symm)
  · refine swiglu_congr (fun d hd => ?_) (fun d hd f hf => ?_) (fun d hd f hf => ?_) fun f hf => ?_
    · exact (at2_mk (n := 128) (m := 1024) _ r.isLt hd).trans ((joined_at x0 _ _).trans (at2_mk (n := 128) (m := 1024) _ r.isLt hd).symm)
    · exact (at2_mk (n := 1024) (m := 1408) _ hd hf).trans ((cols_at x1 ⟨d, hd⟩ ⟨f, hf⟩).2.trans (at2_mk (n := 1024) (m := 2816) _ hd (by omega)).symm)
    · exact (at2_mk (n := 1024) (m := 1408) _ hd hf).trans ((cols_at x2 ⟨d, hd⟩ ⟨f, hf⟩).2.trans (at2_mk (n := 1024) (m := 2816) _ hd (by omega)).symm)
    · exact (at2_mk (n := 1408) (m := 1024) _ hf C.isLt).trans ((rows_at x3 ⟨f, hf⟩ C).2.trans (at2_mk (n := 2816) (m := 1024) _ (by omega) C.isLt).symm)

variable (a : (pcfg0 (F := Ideal)).Adm) (m : (ℓ : Loc nD τ sig) → Buf (Elt Ideal) ℓ) (ρ : Dev nD → PrngReg)

theorem point_lt (t : Fin (cfgA a).N) : t.val < 264 := t.isLt

theorem coord_val : ∀ t : Fin grid0.N, (grid0.coords t 0).val = t.val := by decide +kernel

theorem index_0 (t : Fin (cfgA a).N) : ((cfgA a).win (0 : Fin 5)).index t = ![t.val, 0] :=
  (by decide +kernel : ∀ t : Fin grid0.N, cc0_transform_0 (grid0.coords t) = ![t.val, 0]) t

theorem index_4 (t : Fin (cfgA a).N) : ((cfgA a).win (4 : Fin 5)).index t = ![t.val, 0] :=
  (by decide +kernel : ∀ t : Fin grid0.N, cc0_transform_4 (grid0.coords t) = ![t.val, 0]) t

/-- The block a point works on. -/
def pt (t : Fin (cfgA a).N) : Fin 264 := ⟨t.val, point_lt a t⟩

theorem coord_pt (t : Fin (cfgA a).N) : grid0.coords t 0 = pt a t := Fin.ext (coord_val t)

theorem index_1 (t : Fin (cfgA a).N) : ((cfgA a).win (1 : Fin 5)).index t = ![(entry (a.1 0) (pt a t)).toNat, 0, 0] :=
  (map1_at a.1 (grid0.coords t)).trans (by rw [coord_pt])
theorem index_2 (t : Fin (cfgA a).N) : ((cfgA a).win (2 : Fin 5)).index t = ![(entry (a.1 0) (pt a t)).toNat, 0, 0] :=
  (map2_at a.1 (grid0.coords t)).trans (by rw [coord_pt])
theorem index_3 (t : Fin (cfgA a).N) : ((cfgA a).win (3 : Fin 5)).index t = ![(entry (a.1 0) (pt a t)).toNat, 0, 0] :=
  (map3_at a.1 (grid0.coords t)).trans (by rw [coord_pt])

theorem blk_0 (c : Dev nD) (t : Fin (cfgA a).N) (y : S1024x128.Idx) :
    (iblk a m ρ c (0 : Fin 5) t : S1024x128.Idx → EReal) y
      = (m ((c : Thread nD τ).loc main_arg2) : S270336x128.Idx → EReal)
        (ix2 (⟨t.val * 1024 + (y 0).val, by have := point_lt a t; have h : (y 0).val < 1024 := (y 0).isLt; omega⟩ : Fin 270336) (y 1)) := by
  have e := index_0 a t
  unfold iblk
  blk_simp
  show (m ((c : Thread nD τ).loc main_arg2) : S270336x128.Idx → EReal) _ = _
  refine congrArg _ ?_
  blk_ext [e]

theorem blk_1 (hr : ∀ i : Fin 264, (entry (a.1 0) i).toNat < 8) (c : Dev nD) (t : Fin (cfgA a).N) (d : Fin 1024) (f : Fin 2816) :
    slab (n := 1) (p := 1024) (q := 2816) (iblk a m ρ c (1 : Fin 5) t) 0 (ix2 d f)
      = slab (n := 8) (p := 1024) (q := 2816) (m ((c : Thread nD τ).loc main_arg3)) (expert (entry (a.1 0) (pt a t))) (ix2 d f) := by
  have e := index_1 a t
  have h := expert_val (hr (pt a t))
  unfold slab iblk
  blk_simp
  show (m ((c : Thread nD τ).loc main_arg3) : S8x1024x2816.Idx → EReal) _ = _
  refine congrArg _ ?_
  blk_ext [e, h]

theorem blk_2 (hr : ∀ i : Fin 264, (entry (a.1 0) i).toNat < 8) (c : Dev nD) (t : Fin (cfgA a).N) (d : Fin 1024) (f : Fin 2816) :
    slab (n := 1) (p := 1024) (q := 2816) (iblk a m ρ c (2 : Fin 5) t) 0 (ix2 d f)
      = slab (n := 8) (p := 1024) (q := 2816) (m ((c : Thread nD τ).loc main_arg4)) (expert (entry (a.1 0) (pt a t))) (ix2 d f) := by
  have e := index_2 a t
  have h := expert_val (hr (pt a t))
  unfold slab iblk
  blk_simp
  show (m ((c : Thread nD τ).loc main_arg4) : S8x1024x2816.Idx → EReal) _ = _
  refine congrArg _ ?_
  blk_ext [e, h]

theorem blk_3 (hr : ∀ i : Fin 264, (entry (a.1 0) i).toNat < 8) (c : Dev nD) (t : Fin (cfgA a).N) (f : Fin 2816) (C : Fin 1024) :
    slab (n := 1) (p := 2816) (q := 1024) (iblk a m ρ c (3 : Fin 5) t) 0 (ix2 f C)
      = slab (n := 8) (p := 2816) (q := 1024) (m ((c : Thread nD τ).loc main_arg5)) (expert (entry (a.1 0) (pt a t))) (ix2 f C) := by
  have e := index_3 a t
  have h := expert_val (hr (pt a t))
  unfold slab iblk
  blk_simp
  show (m ((c : Thread nD τ).loc main_arg5) : S8x2816x1024.Idx → EReal) _ = _
  refine congrArg _ ?_
  blk_ext [e, h]

/-- Row `Y`, column `l` of the output array. -/
def result (c : Dev nD) : S270336x128.Idx → EReal := fun j =>
  output (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (j 0) (j 1)

theorem flush_4 (t : Fin (cfgA a).N) : ((cfgA a).win (4 : Fin 5)).flush t = true :=
  (by decide +kernel : ∀ t : Fin grid0.N, Pipeline.Window.flushOf grid0 true cc0_transform_4 t = true) t

theorem covers : ((cfgA a).win (4 : Fin 5)).Covers := by
  refine ⟨fun b => ?_, fun β => ?_⟩
  · fin_cases b
    · show 0 < 1024
      omega
    · show 0 < 128
      omega
  · have h0 : (β (0 : Fin 2)).val < 264 := lt_of_lt_of_eq (β (0 : Fin 2)).isLt (by show (270336 + 1024 - 1) / 1024 = 264; norm_num)
    have h1 : (β (1 : Fin 2)).val < 1 := lt_of_lt_of_eq (β (1 : Fin 2)).isLt (by show (128 + 128 - 1) / 128 = 1; norm_num)
    refine ⟨⟨(β (0 : Fin 2)).val, h0⟩, flush_4 a _, fun b => ⟨?_, Or.inl ?_⟩⟩
    · rw [index_4]
      fin_cases b
      · rfl
      · show 0 = (β (1 : Fin 2)).val
        omega
    · rfl

/-- What the kernel leaves in its output array. -/
theorem final (hp : Holds a m) (hr : ∀ i : Fin 264, (entry (a.1 0) i).toNat < 8) (c : Dev nD) :
    (dats a m ρ 0 c).arrAt (4 : Fin 5) (cfgA a).N = result m c := by
  refine (dats a m ρ 0 c).arrAt_eq_of_covers (4 : Fin 5) (result m c) (covers a) fun t hf y => ?_
  have h0 := point_lt a t
  obtain ⟨Y, l, rfl⟩ : ∃ (Y : Fin 1024) (l : Fin 128), y = ix2 Y l := ⟨y 0, y 1, eq_ix2 y⟩
  have hY := Y.isLt
  have hl := l.isLt
  blk_simp
  rw [after_4]
  have e : (((cfgA a).win (4 : Fin 5)).blk t).view.emb (ix2 Y l) = ix2 (⟨t.val * 1024 + Y.val, by omega⟩ : Fin 270336) l := by
    have e := index_4 a t
    blk_ext [e]
  refine Eq.trans ?_ (congrArg (result m c) e.symm)
  refine Eq.trans ?_ (output_block (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (pt a t) Y l (by show t.val * 1024 + Y.val < 270336; omega)).symm
  have t0 : (m ((c : Thread nD τ).loc main_arg0) : S264.Idx → BitVec 32) = a.1 0 := hp c 0
  have t1 : (m ((c : Thread nD τ).loc main_arg1) : S1.Idx → BitVec 32) = a.1 1 := hp c 1
  rw [t0, t1]
  have w : used (F := Ideal) (tabN a) = (a.1 1 : S1.Idx → BitVec 32) (ix1 0) := congrArg (a.1 1) (funext fun b => Fin.ext (by fin_cases b; rfl))
  have k : k0_cond1 (crd a t) (used (F := Ideal) (tabN a)) = 1#1 ↔ BitVec.slt (BitVec.ofNat 32 (pt a t).val) ((a.1 1 : S1.Idx → BitVec 32) (ix1 0)) = true := by
    rw [cond1_iff, w]
    show BitVec.slt (BitVec.ofNat 32 (grid0.coords t 0).val) _ = true ↔ _
    rw [coord_pt]
  unfold after4 left
  by_cases q : k0_cond1 (crd a t) (used (F := Ideal) (tabN a)) = 1#1
  · rw [if_pos q, if_pos (k.mp q)]
    unfold network
    refine (tokens_at _ _ _ _ _ _).trans ?_
    refine swiglu_congr (fun d hd => ?_) (fun d hd f hf => ?_) (fun d hd f hf => ?_) fun f hf => ?_
    · refine (at2_mk (n := 128) (m := 1024) _ (by show Y.val / 8 < 128; omega) hd).trans ((blk_0 a m ρ c t _).trans ?_)
      have hr8 : Y.val / 8 < 128 := by omega
      refine Eq.trans ?_ (at2_mk (n := 128) (m := 1024) (tokensOf (m ((c : Thread nD τ).loc main_arg2)) (pt a t)) hr8 hd).symm
      refine congrArg (m ((c : Thread nD τ).loc main_arg2) : S270336x128.Idx → EReal) ?_
      refine congrArg₂ ix2 (Fin.ext ?_) rfl
      show t.val * 1024 + (Y.val / 8 * 8 + d / 128) = t.val * 1024 + Y.val / 8 * 8 + d / 128
      omega
    · exact (at2_mk (n := 1024) (m := 2816) _ hd hf).trans ((blk_1 a m ρ hr c t _ _).trans (at2_mk (n := 1024) (m := 2816) _ hd hf).symm)
    · exact (at2_mk (n := 1024) (m := 2816) _ hd hf).trans ((blk_2 a m ρ hr c t _ _).trans (at2_mk (n := 1024) (m := 2816) _ hd hf).symm)
    · exact (at2_mk (n := 2816) (m := 1024) _ hf (by show Y.val % 8 * 128 + l.val < 1024; omega)).trans
        ((blk_3 a m ρ hr c t _ _).trans (at2_mk (n := 2816) (m := 1024) _ hf (by omega)).symm)
  · rw [if_neg q, if_neg fun h => q (k.mpr h)]
    exact Ideal.ofBits_zero_f32

end Cert.MoeIdeal.Blocks

end
-- ==== Proof.Moe.Reference.lean ====
/- The reference's expert blocks are `output` of its arguments at every row and column. -/
module

public import proofs.«01_k».proof.Proof.Gen.RefMoeIdeal.Run
public import proofs.«01_k».proof.Proof.Moe.Spec
public import Idealize.ShloMosaic.Lib.Pointwise

@[expose] public section

set_option maxRecDepth 16384

noncomputable section

namespace Cert.RefMoeIdeal.Read

open Idealize.ShloMosaic Idealize.ShloMosaic.TcCoe Idealize.SL.Sem
open Cert.RefMoeIdeal Cert.RefMoeIdeal.Gen Cert.Attn Cert.Gated Cert.MoeSpec

/-- The dimension numbers of a gather of whole matrices of a stack. -/
abbrev stackDims (N B K M : ℕ) (wf : GatherDims.WF ⟨3, ![N, K, M]⟩ ⟨2, ![B, 1]⟩ ⟨3, ![B, K, M]⟩ [1, 2] [0] [] [0] [] 1 ![1, K, M]) :
    GatherDims ⟨3, ![N, K, M]⟩ ⟨2, ![B, 1]⟩ ⟨3, ![B, K, M]⟩ where
  offsetDims := [1, 2]
  collapsedSliceDims := [0]
  operandBatchingDims := []
  startIndicesBatchingDims := []
  startIndexMap := [0]
  indexVectorDim := 1
  sliceSizes := ![1, K, M]
  wf := wf

/-- Matrix `b` of a gather from a stack is the matrix its start index names, read signed and clamped. -/
theorem stack_at {α : Type} {N B K M w : ℕ} (hN : 0 < N) (wf) (x : (⟨3, ![N, K, M]⟩ : Shape).Idx → α) (idx : IVec ⟨2, ![B, 1]⟩ w)
    (b : Fin B) (k : Fin K) (f : Fin M) :
    Host.gather (stackDims N B K M wf) x idx (ix3 b k f) = x (ix3 ⟨min (idx (ix2 b 0)).toInt.toNat (N - 1), by omega⟩ k f) := by
  unfold Host.gather
  congr 1
  funext a
  refine Fin.ext ?_
  show (stackDims N B K M wf).start (ix3 b k f) idx a + (stackDims N B K M wf).batchCoord (ix3 b k f) a
      + (stackDims N B K M wf).offCoord (ix3 b k f) a = _
  rw [GatherDims.batchCoord_eq_zero _ _ _ List.not_mem_nil]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (stackDims N B K M wf).startIndexMap from List.mem_singleton.mpr rfl)]
    have hsi : (stackDims N B K M wf).siIdx (ix3 b k f) ⟨List.idxOf (0 : Fin 3) (stackDims N B K M wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  · unfold GatherDims.start
    rw [dif_neg (show (1 : Fin 3) ∉ (stackDims N B K M wf).startIndexMap from (by decide : (1 : Fin 3) ∉ [(0 : Fin 3)]))]
    unfold GatherDims.offCoord
    rw [dif_pos ((GatherDims.mem_sKept _ _).mpr ⟨(by decide : (1 : Fin 3) ∉ [(0 : Fin 3)]), List.not_mem_nil⟩)]
    simp only [Nat.zero_add]
    rfl
  · unfold GatherDims.start
    rw [dif_neg (show (2 : Fin 3) ∉ (stackDims N B K M wf).startIndexMap from (by decide : (2 : Fin 3) ∉ [(0 : Fin 3)]))]
    unfold GatherDims.offCoord
    rw [dif_pos ((GatherDims.mem_sKept _ _).mpr ⟨(by decide : (2 : Fin 3) ∉ [(0 : Fin 3)]), List.not_mem_nil⟩)]
    simp only [Nat.zero_add]
    rfl

/-- The start indices: the table's entries, those below zero counted from the end. -/
def picked (T0 : IVec S264 32) : IVec S264x1 32 :=
  broadcastInDim S264x1 ![0] bcast_S264_S264x1_0 (select (cmpi .slt T0 (broadcastInDim S264 ![] bcast_S_S264 (constantI S_ 32 0#32)))
    (addi T0 (broadcastInDim S264 ![] bcast_S_S264 (constantI S_ 32 8#32))) T0)

theorem picked_at (T0 : IVec S264 32) (b : Fin 264) (h : (T0 (ix1 b)).toNat < 8) : picked T0 (ix2 b 0) = T0 (ix1 b) := by
  have e : IntOp.cmpi .slt (T0 (ix1 b)) 0#32 = 0#1 := by
    have : ¬ IntOp.cmpi .slt (T0 (ix1 b)) 0#32 = 1#1 := fun c => by
      have c := IntOp.cmpi_slt.1 c
      rw [BitVec.toInt_eq_toNat_cond] at c
      have e0 : (0#32 : BitVec 32).toInt = 0 := by decide
      rw [e0] at c
      split at c <;> omega
    revert this
    generalize IntOp.cmpi .slt (T0 (ix1 b)) 0#32 = q
    revert q
    decide
  unfold picked
  pointwise
  rw [e]
  rfl

/-- The start index of a block is the expert its entry names. -/
theorem start_expert (w : BitVec 32) (h : w.toNat < 8) : min w.toInt.toNat (8 - 1) = (expert w).val := by
  rw [expert_val h, BitVec.toInt_eq_toNat_cond]
  split <;> omega

/-- The gathered matrices of the gates, or of the values. -/
def wide (T0 : IVec S264 32) (G : FVec Ideal S8x1024x2816 .bf16) : FVec Ideal S264x1024x2816 .f32 :=
  Host.gather gather_S8x1024x2816_S264x1_S264x1024x2816_12_0_n_n_0_1_110242816 (extf (F := Ideal) .f32 G bitsLt_bf16_f32) (picked T0)
/-- The gathered matrices of the outputs. -/
def tall (T0 : IVec S264 32) (D : FVec Ideal S8x2816x1024 .bf16) : FVec Ideal S264x2816x1024 .f32 :=
  Host.gather gather_S8x2816x1024_S264x1_S264x2816x1024_12_0_n_n_0_1_128161024 (extf (F := Ideal) .f32 D bitsLt_bf16_f32) (picked T0)

theorem wide_at (T0 : IVec S264 32) (G : FVec Ideal S8x1024x2816 .bf16) (b : Fin 264) (k : Fin 1024) (f : Fin 2816) (h : (T0 (ix1 b)).toNat < 8) :
    (wide T0 G (ix3 b k f) : EReal) = slab (n := 8) (p := 1024) (q := 2816) G (expert (T0 (ix1 b))) (ix2 k f) := by
  refine (stack_at (N := 8) (B := 264) (K := 1024) (M := 2816) (by omega) _ _ (picked T0) b k f).trans ?_
  refine congrArg (fun e : Fin 8 => (G (ix3 e k f) : EReal)) (Fin.ext ?_)
  show min (picked T0 (ix2 b 0)).toInt.toNat (8 - 1) = _
  rw [picked_at T0 b h, start_expert _ h]

theorem tall_at (T0 : IVec S264 32) (D : FVec Ideal S8x2816x1024 .bf16) (b : Fin 264) (k : Fin 2816) (f : Fin 1024) (h : (T0 (ix1 b)).toNat < 8) :
    (tall T0 D (ix3 b k f) : EReal) = slab (n := 8) (p := 2816) (q := 1024) D (expert (T0 (ix1 b))) (ix2 k f) := by
  refine (stack_at (N := 8) (B := 264) (K := 2816) (M := 1024) (by omega) _ _ (picked T0) b k f).trans ?_
  refine congrArg (fun e : Fin 8 => (D (ix3 e k f) : EReal)) (Fin.ext ?_)
  show min (picked T0 (ix2 b 0)).toInt.toNat (8 - 1) = _
  rw [picked_at T0 b h, start_expert _ h]

/-- The networks of all blocks. -/
def net (x : FVec Ideal S264x128x1024 .f32) (g u : FVec Ideal S264x1024x2816 .f32) (d : FVec Ideal S264x2816x1024 .f32) : FVec Ideal S264x128x1024 .f32 :=
  Host.dotGeneral dot_S264x128x2816_S264x2816x1024_S264x128x1024_2_1_1_2_0_0 none (mulf (mulf (Host.dotGeneral dot_S264x128x1024_S264x1024x2816_S264x128x2816_2_1_1_2_0_0 none x g) (Host.divf (broadcastInDim S264x128x2816 ![] bcast_S_S264x128x2816 (constant (F := Ideal) S_ .f32 0x3F800000#32)) (addf (broadcastInDim S264x128x2816 ![] bcast_S_S264x128x2816 (constant (F := Ideal) S_ .f32 0x3F800000#32)) (Host.exp (Host.negf (Host.dotGeneral dot_S264x128x1024_S264x1024x2816_S264x128x2816_2_1_1_2_0_0 none x g)))))) (Host.dotGeneral dot_S264x128x1024_S264x1024x2816_S264x128x2816_2_1_1_2_0_0 none x u)) d

theorem net_at (x : FVec Ideal S264x128x1024 .f32) (g u : FVec Ideal S264x1024x2816 .f32) (d : FVec Ideal S264x2816x1024 .f32)
    (b : Fin 264) (r : Fin 128) (C : Fin 1024) :
    (net x g u d (ix3 b r C) : EReal) = swiglu 1024 2816 (at2 (slab (n := 264) (p := 128) (q := 1024) x b) r.val)
      (at2 (slab (n := 264) (p := 1024) (q := 2816) g b)) (at2 (slab (n := 264) (p := 1024) (q := 2816) u b))
      (at2 (slab (n := 264) (p := 2816) (q := 1024) d b)) C.val := by
  rw [← Cert.FfnIdeal.Kernel.gated_of (n := 128) (K := 1024) (N := 2816) _ _ _ 1024 _ r C]
  unfold net
  pointwise
  rfl

/-- The reference's result, in the terms of its operations. -/
def value (T0 : IVec S264 32) (T1 : IVec S1 32) (X : FVec Ideal S270336x128 .f32) (G U : FVec Ideal S8x1024x2816 .bf16) (D : FVec Ideal S8x2816x1024 .bf16) :
    Vec Ideal S270336x128 .f32 :=
  shapeCast S270336x128 (select (broadcastInDim S264x128x1024 ![0, 1, 2] bcast_S264x1x1_S264x128x1024_0_1_2 (broadcastInDim S264x1x1 ![0] bcast_S264_S264x1x1_0 (cmpi .slt (iotaInDim S264 32 0) (broadcastInDim S264 ![] bcast_S_S264 (shapeCast S_ T1 shapeCasts_S1_S_)))))
    (net (shapeCast _ X shapeCasts_S270336x128_S264x128x1024) (wide T0 G) (wide T0 U) (tall T0 D))
    (broadcastInDim S264x128x1024 ![] bcast_S_S264x128x1024 (id (constant (F := Ideal) S_ .f32 0x00000000#32)))) shapeCasts_S264x128x1024_S270336x128

/-- The reshaped tokens. -/
theorem tokens_at (X : FVec Ideal S270336x128 .f32) (b : Fin 264) (r : Fin 128) (C : Fin 1024) :
    (shapeCast S264x128x1024 X shapeCasts_S270336x128_S264x128x1024 (ix3 b r C) : EReal) = tokensOf X b (ix2 r C) := by
  refine shapeCast_apply _ _ _ _ ?_
  have hb := b.isLt
  have hr := r.isLt
  have hC := C.isLt
  rw [rowMajor_val2 _ 128 rfl, rowMajor_val3 _ (128 * 1024) 1024 rfl rfl]
  show (b.val * 1024 + r.val * 8 + C.val / 128) * 128 + C.val % 128 = b.val * (128 * 1024) + r.val * 1024 + C.val
  omega

theorem value_at (T0 : IVec S264 32) (T1 : IVec S1 32) (X : FVec Ideal S270336x128 .f32) (G U : FVec Ideal S8x1024x2816 .bf16) (D : FVec Ideal S8x2816x1024 .bf16)
    (h : ∀ b : Fin 264, (T0 (ix1 b)).toNat < 8) (Y : Fin 270336) (l : Fin 128) :
    (value T0 T1 X G U D (ix2 Y l) : EReal) = output T0 T1 X G U D Y l := by
  have hY := Y.isLt
  have hl := l.isLt
  unfold value
  rw [shapeCast_apply _ _ _ (ix3 (⟨Y.val / 1024, by omega⟩ : Fin 264) (⟨Y.val % 1024 / 8, by omega⟩ : Fin 128) (⟨Y.val % 8 * 128 + l.val, by omega⟩ : Fin 1024)) (by
    rw [rowMajor_val2 _ 128 rfl, rowMajor_val3 _ (128 * 1024) 1024 rfl rfl]
    show Y.val / 1024 * (128 * 1024) + Y.val % 1024 / 8 * 1024 + (Y.val % 8 * 128 + l.val) = Y.val * 128 + l.val
    omega)]
  have n := net_at (shapeCast S264x128x1024 X shapeCasts_S270336x128_S264x128x1024) (wide T0 G) (wide T0 U) (tall T0 D)
    (⟨Y.val / 1024, by omega⟩ : Fin 264) (⟨Y.val % 1024 / 8, by omega⟩ : Fin 128) (⟨Y.val % 8 * 128 + l.val, by omega⟩ : Fin 1024)
  unfold output network
  pointwise
  rw [n]
  by_cases c : BitVec.slt (BitVec.ofNat 32 (Y.val / 1024)) (T1 (ix1 0)) = true
  · have e : IntOp.cmpi .slt (BitVec.ofNat 32 (Y.val / 1024)) (T1 (ix1 0)) = 1#1 := by
      show BitVec.ofBool _ = 1#1
      rw [c]; rfl
    rw [if_pos c, e]
    refine swiglu_congr (fun d hd => ?_) (fun d hd f hf => ?_) (fun d hd f hf => ?_) fun f hf => ?_
    · exact (at2_mk (n := 128) (m := 1024) _ (by omega) hd).trans ((tokens_at X _ _ _).trans (at2_mk (n := 128) (m := 1024) _ (by omega) hd).symm)
    · exact (at2_mk (n := 1024) (m := 2816) _ hd hf).trans ((wide_at T0 G _ _ _ (h _)).trans (at2_mk (n := 1024) (m := 2816) _ hd hf).symm)
    · exact (at2_mk (n := 1024) (m := 2816) _ hd hf).trans ((wide_at T0 U _ _ _ (h _)).trans (at2_mk (n := 1024) (m := 2816) _ hd hf).symm)
    · exact (at2_mk (n := 2816) (m := 1024) _ hf (by omega)).trans ((tall_at T0 D _ _ _ (h _)).trans (at2_mk (n := 2816) (m := 1024) _ hf (by omega)).symm)
  · have e : IntOp.cmpi .slt (BitVec.ofNat 32 (Y.val / 1024)) (T1 (ix1 0)) = 0#1 := by
      show BitVec.ofBool _ = 0#1
      rw [Bool.not_eq_true] at c
      rw [c]; rfl
    rw [if_neg c, e]
    exact Ideal.ofBits_zero_f32

end Cert.RefMoeIdeal.Read

end
-- ==== Proof.Moe.Claims.lean ====
/-
  The claims on the experts' blocks.
-/
module

public import proofs.«01_k».proof.Defs
public import proofs.«01_k».proof.Proof.Gen.RefMoeIdeal
public import proofs.«01_k».proof.Proof.Moe.Frame
public import proofs.«01_k».proof.Proof.Moe.Equation
public import proofs.«01_k».proof.Proof.Moe.Reference
public import Idealize.ShloMosaic.Lib.Claim

@[expose] public section

set_option maxRecDepth 16384

noncomputable section

namespace Cert.Proof.MoeClaims

open Idealize.ShloMosaic Idealize.ShloMosaic.TcCoe Idealize.SL.Sem Cert.Attn

/-- The reference runs, leaves its arguments, and ends quiescent. -/
theorem frame_ri : Cert.quiescent_RefMoeIdeal := fun m ρ _ =>
  (θ_run Cert.RefMoeIdeal.defs _ _).mono (fun r h => ⟨fun c => (h c).2, sem_eq_zero_of_no_sems (by decide) r.2⟩)
    (Cert.RefMoeIdeal.Value.run (F := Ideal) m ρ)

/-- Nothing of the kernel is replaced. -/
theorem preserves : Cert.preserves_Moe_MoeIdeal := trivial

open Cert.MoeIdeal Cert.MoeIdeal.Blocks in
/-- On every device the first table's entries are below the number of experts. -/
theorem below (m : (ℓ : Loc nD τ sig) → Buf (Elt Ideal) ℓ) (h : Cert.Pre_MoeIdeal m) (c : Dev nD) (i : Fin 264) :
    (entry (m ((c : Thread nD τ).loc main_arg0)) i).toNat < 8 :=
  in_range _ _ _ _ _ _ (h c) (ix1 i)

open Cert.MoeIdeal.Blocks in
/-- The kernel's output is the reference's, row by row and column by column. -/
theorem algebraic : Cert.algebraic_MoeIdeal_RefMoeIdeal := by
  intro m g m' g' hpre hargs
  refine ⟨fun c => Cert.MoeIdeal.Blocks.result m c, ?_, ?_⟩
  · exact (θ_run _ _ _).mono
      (fun r h c => ⟨((h.1 c).1 (4 : Fin 5)).trans
          (final ⟨tables m, ok_of_pre m hpre⟩ m g (holds m (ok_of_pre m hpre)) (below m hpre dev) c),
        kept_of ⟨tables m, ok_of_pre m hpre⟩ m g (holds m (ok_of_pre m hpre)) r h.1 c⟩)
      (run_all ⟨tables m, ok_of_pre m hpre⟩ m g (holds m (ok_of_pre m hpre)))
  · refine (θ_run _ _ _).mono (fun r h c => ⟨(h c).1.trans (funext fun j => ?_), (h c).2⟩) (Cert.RefMoeIdeal.Value.run (F := Ideal) m' g')
    obtain ⟨e0, e1, e2, e3, e4, e5⟩ := hargs c
    obtain ⟨R, C, rfl⟩ : ∃ (R : Fin 270336) (C : Fin 128), j = ix2 R C := ⟨j 0, j 1, eq_ix2 j⟩
    refine (Cert.RefMoeIdeal.Read.value_at _ _ _ _ _ _ (fun b => ?_) R C).trans ?_
    · rw [e0]
      exact below m hpre c b
    · rw [e0, e1, e2, e3, e4, e5]
      rfl

end Cert.Proof.MoeClaims

end
-- ==== Proof.Combine.Equation.lean ====
/-
  The combination of a token's two experts with the residual: what the kernel leaves in its output array.
-/
module

public import proofs.«01_k».proof.Proof.Gen.CombineIdeal.Value
public import proofs.«01_k».proof.Proof.Nsa.Spec
public import Idealize.ShloMosaic.Lib.Pipeline.ValueKit
public import Idealize.ShloMosaic.Lib.Pointwise
public import Idealize.ShloMosaic.Lib.Tactic
public import Idealize.ShloMosaic.Lib.Tactic.CleanTypes

@[expose] public section

set_option maxRecDepth 16384

noncomputable section

namespace Cert.CombineIdeal.Kernel

open Idealize.ShloMosaic Idealize.ShloMosaic.TcCoe Idealize.SL.Sem
open Cert.CombineIdeal Cert.CombineIdeal.Gen Cert.Attn

/-- Column `C` of token `n` in an array that holds a token in 8 rows of 128. -/
def tiled {N M : ℕ} (A : (⟨2, ![N, 128]⟩ : Shape).Idx → EReal) (n : ℕ) (C : Fin M) : EReal := at2 A (n * 8 + C.val / 128) (C.val % 128)

/-- The residual plus the gated sum of the two experts' outputs, each with its weight. -/
def combined (A : S262144x128.Idx → EReal) (R : S16384x128.Idx → EReal) (Y : S16384x1024.Idx → EReal) (G : S2x1x1024.Idx → EReal)
    (n : Fin 16384) (C : Fin 1024) : EReal :=
  Y (ix2 n C) + G (ix3 (⟨n.val / 8192, by omega⟩ : Fin 2) (0 : Fin 1) C)
    * (R (ix2 n (2 : Fin 128)) * tiled A n.val C + R (ix2 n (3 : Fin 128)) * tiled A (16384 + n.val) C)

theorem zero_off : (![0, 0] : Fin 2 → ℕ) = fun _ => 0 := by funext a; fin_cases a <;> rfl

theorem zero_off3 : (![0, 0, 0] : Fin 3 → ℕ) = fun _ => 0 := by funext a; fin_cases a <;> rfl

/-- Piece `k` of eight tiles side by side. -/
theorem piece_at (xs : List ((s : Shape) × (s.Idx → EReal))) (h : Shape.Concatenates (xs.map (·.1)) S512x1024 1) (k : ℕ) (hk : k < xs.length)
    (x : S512x128.Idx → EReal) (hx : xs[k] = ⟨S512x128, x⟩)
    (hpre : (((xs.take k).map (·.1)).map fun s => if h : s.rank = S512x1024.rank then s.size ((1 : Fin S512x1024.rank).cast h.symm) else 0).sum = k * 128)
    (r : Fin 512) (C : Fin 1024) (hC : C.val / 128 = k) :
    concatenate S512x1024 1 xs h (ix2 r C) = x (ix2 r (⟨C.val % 128, by omega⟩ : Fin 128)) := by
  refine concatenate_apply_piece 1 xs h (ix2 r C) k hk S512x128 x hx rfl (k * 128) hpre (ix2 r (⟨C.val % 128, by omega⟩ : Fin 128)) (fun b hb => ?_) ?_
  · fin_cases b
    · rfl
    · exact absurd rfl hb
  · show k * 128 + C.val % 128 = C.val
    omega

/-- Eight tiles, each the rows `k`, `8 + k`, … of one array, side by side are the tokens of the array. -/
theorem joined_at (x : S4096x128.Idx → EReal) (p : Fin 8 → S512x128.Idx → EReal)
    (hp : ∀ (k : Fin 8) (r : Fin 512) (l : Fin 128), p k (ix2 r l) = x (ix2 (⟨k.val + 8 * r.val, by omega⟩ : Fin 4096) l)) (r : Fin 512) (C : Fin 1024) :
    concatenate S512x1024 1 [⟨S512x128, p 0⟩, ⟨S512x128, p 1⟩, ⟨S512x128, p 2⟩, ⟨S512x128, p 3⟩, ⟨S512x128, p 4⟩, ⟨S512x128, p 5⟩, ⟨S512x128, p 6⟩, ⟨S512x128, p 7⟩]
      concatenates_S512x128_S512x128_S512x128_S512x128_S512x128_S512x128_S512x128_S512x128_S512x1024_d1 (ix2 r C) = tiled x r.val C := by
  have hC := C.isLt
  have hr := r.isLt
  have h8 : C.val / 128 < 8 := by omega
  have key : p ⟨C.val / 128, h8⟩ (ix2 r (⟨C.val % 128, by omega⟩ : Fin 128)) = tiled x r.val C := by
    rw [hp]
    unfold tiled
    refine Eq.trans ?_ (at2_mk (n := 4096) (m := 128) x (i := r.val * 8 + C.val / 128) (j := C.val % 128) (by omega) (by omega)).symm
    exact congrArg x (congrArg₂ ix2 (Fin.ext (by dsimp only; omega)) rfl)
  rcases (by omega : C.val / 128 = 0 ∨ C.val / 128 = 1 ∨ C.val / 128 = 2 ∨ C.val / 128 = 3 ∨ C.val / 128 = 4 ∨ C.val / 128 = 5 ∨ C.val / 128 = 6 ∨ C.val / 128 = 7)
    with h | h | h | h | h | h | h | h
  · exact Eq.trans (piece_at _ _ 0 (by simp) _ rfl rfl r C h) ((congrArg (fun k => p k _) (Fin.ext h.symm)).trans key)
  · exact Eq.trans (piece_at _ _ 1 (by simp) _ rfl rfl r C h) ((congrArg (fun k => p k _) (Fin.ext h.symm)).trans key)
  · exact Eq.trans (piece_at _ _ 2 (by simp) _ rfl rfl r C h) ((congrArg (fun k => p k _) (Fin.ext h.symm)).trans key)
  · exact Eq.trans (piece_at _ _ 3 (by simp) _ rfl rfl r C h) ((congrArg (fun k => p k _) (Fin.ext h.symm)).trans key)
  · exact Eq.trans (piece_at _ _ 4 (by simp) _ rfl rfl r C h) ((congrArg (fun k => p k _) (Fin.ext h.symm)).trans key)
  · exact Eq.trans (piece_at _ _ 5 (by simp) _ rfl rfl r C h) ((congrArg (fun k => p k _) (Fin.ext h.symm)).trans key)
  · exact Eq.trans (piece_at _ _ 6 (by simp) _ rfl rfl r C h) ((congrArg (fun k => p k _) (Fin.ext h.symm)).trans key)
  · exact Eq.trans (piece_at _ _ 7 (by simp) _ rfl rfl r C h) ((congrArg (fun k => p k _) (Fin.ext h.symm)).trans key)

/-- Rows `k`, `8 + k`, … of an array. -/
def stripe (x : S4096x128.Idx → EReal) (k : Fin 8) : S512x128.Idx → EReal := fun y =>
  x (ix2 (⟨k.val + 8 * (y 0).val, by have h : (y 0).val < 512 := (y 0).isLt; omega⟩ : Fin 4096) (y 1))

theorem read_stripe (m : Memref sig .tc .vmem S4096x128 .f32) (h : m.IsWhole) (k : Fin 8) (inb) (x : S4096x128.Idx → EReal) :
    View.readAt (Elt Ideal) m.view (⟨![k.val, 0], S512x128.size, ![8, 1], inb⟩ : LoadRect S4096x128) (h.unread x) = stripe x k := by
  funext y
  rw [View.readAt_apply, h.read_unread]
  refine congrArg x (funext fun b => Fin.ext ?_)
  fin_cases b
  · rfl
  · show 0 + 1 * (y 1).val = (y 1).val
    omega

theorem read_full {S : Shape} {e : EltTy} (m : Memref sig .tc .vmem S e) (h : m.IsWhole) (off : Fin S.rank → ℕ) (hz : off = fun _ => 0)
    (inb : ∀ a, off a + S.size a ≤ S.size a) (X : S.Idx → Elt Ideal e) :
    View.readAt (Elt Ideal) m.view (Rect.unit off S.size inb).toLoadRect (h.unread X) = X := by
  rw [View.readAt_eq_ld, h.read_unread, View.ld_unit_zero hz]

/-- Column `k` of the weights. -/
def column (x : S512x128.Idx → EReal) (k : Fin 128) : S512x1.Idx → EReal := fun y => x (ix2 (y 0) k)

theorem read_column (m : Memref sig .tc .vmem S512x128 .f32) (h : m.IsWhole) (k : Fin 128) (inb) (x : S512x128.Idx → EReal) :
    View.readAt (Elt Ideal) m.view (Rect.unit (s := S512x128) ![0, k.val] S512x1.size inb).toLoadRect (h.unread x) = column x k := by
  funext y
  rw [View.readAt_apply, h.read_unread]
  refine congrArg x (funext fun b => Fin.ext ?_)
  have h1 : (y 1).val < 1 := (y 1).isLt
  fin_cases b
  · show 0 + 1 * (y 0).val = (y 0).val
    omega
  · show k.val + 1 * (y 1).val = k.val
    omega

/-- What a point of the grid computes at a row and a column of its block. -/
theorem pay_at (w0 w1 : Vec Ideal S512x1 .f32) (v2 : Vec Ideal S512x1024 .f32) (v3 : Vec Ideal S1x1x1024 .f32) (x0 x1 : S4096x128.Idx → EReal)
    (r : Fin 512) (C : Fin 1024) :
    (k0_pay1 (F := Ideal) w1 v2 (k0_pay2 (F := Ideal) v3)
        (k0_pay3 (F := Ideal) w0 (stripe x0 0) (stripe x0 1) (stripe x0 2) (stripe x0 3) (stripe x0 4) (stripe x0 5) (stripe x0 6) (stripe x0 7))
        (stripe x1 0) (stripe x1 1) (stripe x1 2) (stripe x1 3) (stripe x1 4) (stripe x1 5) (stripe x1 6) (stripe x1 7) (ix2 r C) : EReal)
      = (v2 (ix2 r C) : EReal) + v3 (ix3 (0 : Fin 1) (0 : Fin 1) C)
        * (w0 (ix2 r (0 : Fin 1)) * tiled x0 r.val C + w1 (ix2 r (0 : Fin 1)) * tiled x1 r.val C) := by
  have j0 := joined_at x0 (stripe x0) (fun _ _ _ => rfl) r C
  have j1 := joined_at x1 (stripe x1) (fun _ _ _ => rfl) r C
  rw [← j0, ← j1]
  unfold k0_pay1 k0_pay2 k0_pay3
  dsimp only
  generalize concatenate S512x1024 1 [⟨S512x128, stripe x0 0⟩, ⟨S512x128, stripe x0 1⟩, ⟨S512x128, stripe x0 2⟩, ⟨S512x128, stripe x0 3⟩, ⟨S512x128, stripe x0 4⟩, ⟨S512x128, stripe x0 5⟩, ⟨S512x128, stripe x0 6⟩, ⟨S512x128, stripe x0 7⟩]
      concatenates_S512x128_S512x128_S512x128_S512x128_S512x128_S512x128_S512x128_S512x128_S512x1024_d1 = t0
  generalize concatenate S512x1024 1 [⟨S512x128, stripe x1 0⟩, ⟨S512x128, stripe x1 1⟩, ⟨S512x128, stripe x1 2⟩, ⟨S512x128, stripe x1 3⟩, ⟨S512x128, stripe x1 4⟩, ⟨S512x128, stripe x1 5⟩, ⟨S512x128, stripe x1 6⟩, ⟨S512x128, stripe x1 7⟩]
      concatenates_S512x128_S512x128_S512x128_S512x128_S512x128_S512x128_S512x128_S512x128_S512x1024_d1 = t1
  pointwise

/-- The block a point of the grid writes. -/
theorem written (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S512x128 .f32) (harg3 : arg3.IsWhole) (arg4 : Memref sig .tc .vmem S512x1024 .f32) (harg4 : arg4.IsWhole) (arg5 : Memref sig .tc .vmem S1x1x1024 .f32) (harg5 : arg5.IsWhole) (arg6 : Memref sig .tc .vmem S512x1024 .f32) (harg6 : arg6.IsWhole)
    (x0 : Vec Ideal S4096x128 .f32) (x1 : Vec Ideal S4096x128 .f32) (x2 : Vec Ideal S512x128 .f32) (x3 : Vec Ideal S512x1024 .f32) (x4 : Vec Ideal S1x1x1024 .f32)
    (r : Fin 512) (C : Fin 1024) :
    (out0_A_5 (F := Ideal) c i arg1 harg1 arg2 harg2 arg3 harg3 arg4 harg4 arg5 harg5 arg6 harg6 x0 x1 x2 x3 x4 (ix2 r C) : EReal)
      = (x3 (ix2 r C) : EReal) + x4 (ix3 (0 : Fin 1) (0 : Fin 1) C)
        * (x2 (ix2 r (2 : Fin 128)) * tiled (N := 4096) x0 r.val C + x2 (ix2 r (3 : Fin 128)) * tiled (N := 4096) x1 r.val C) := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  rw [View.canon_unit_zero zero_off]
  have e0 : kernelRun0_A.sl.r (F := Ideal) c arg3 harg3 x2 = column x2 3 := read_column arg3 harg3 3 _ x2
  have e1 : kernelRun0_A.sl.r_1 (F := Ideal) c arg4 harg4 x3 = x3 := read_full arg4 harg4 _ zero_off _ x3
  have e2 : kernelRun0_A.sl.r_2 (F := Ideal) c arg5 harg5 x4 = k0_pay2 (F := Ideal) x4 := congrArg (k0_pay2 (F := Ideal)) (read_full arg5 harg5 _ zero_off3 _ x4)
  have q : ∀ (k : Fin 8) (inb), View.readAt (Elt Ideal) arg1.view (⟨![k.val, 0], S512x128.size, ![8, 1], inb⟩ : LoadRect S4096x128) (harg1.unread x0) = stripe x0 k :=
    fun k inb => read_stripe arg1 harg1 k inb x0
  have e3 : kernelRun0_A.sl.r_3 (F := Ideal) c arg1 harg1 arg3 harg3 x0 x2
      = k0_pay3 (F := Ideal) (column x2 2) (stripe x0 0) (stripe x0 1) (stripe x0 2) (stripe x0 3) (stripe x0 4) (stripe x0 5) (stripe x0 6) (stripe x0 7) := by
    rw [← q 0 inb_S4096x128_S512x128_0_0_s_8_1, ← q 1 inb_S4096x128_S512x128_1_0_s_8_1, ← q 2 inb_S4096x128_S512x128_2_0_s_8_1, ← q 3 inb_S4096x128_S512x128_3_0_s_8_1,
      ← q 4 inb_S4096x128_S512x128_4_0_s_8_1, ← q 5 inb_S4096x128_S512x128_5_0_s_8_1, ← q 6 inb_S4096x128_S512x128_6_0_s_8_1, ← q 7 inb_S4096x128_S512x128_7_0_s_8_1,
      ← read_column arg3 harg3 2 inb_S512x128_S512x1_0_2 x2]
    rfl
  have e4 : kernelRun0_A.sl.r_4 (F := Ideal) c arg2 harg2 x1 = stripe x1 0 := read_stripe arg2 harg2 0 _ x1
  have e5 : kernelRun0_A.sl.r_5 (F := Ideal) c arg2 harg2 x1 = stripe x1 1 := read_stripe arg2 harg2 1 _ x1
  have e6 : kernelRun0_A.sl.r_6 (F := Ideal) c arg2 harg2 x1 = stripe x1 2 := read_stripe arg2 harg2 2 _ x1
  have e7 : kernelRun0_A.sl.r_7 (F := Ideal) c arg2 harg2 x1 = stripe x1 3 := read_stripe arg2 harg2 3 _ x1
  have e8 : kernelRun0_A.sl.r_8 (F := Ideal) c arg2 harg2 x1 = stripe x1 4 := read_stripe arg2 harg2 4 _ x1
  have e9 : kernelRun0_A.sl.r_9 (F := Ideal) c arg2 harg2 x1 = stripe x1 5 := read_stripe arg2 harg2 5 _ x1
  have e10 : View.readAt (Elt Ideal) arg2.view (⟨![6, 0], S512x128.size, ![8, 1], inb_S4096x128_S512x128_6_0_s_8_1⟩ : LoadRect S4096x128) (harg2.unread x1) = stripe x1 6 :=
    read_stripe arg2 harg2 6 _ x1
  have e11 : View.readAt (Elt Ideal) arg2.view (⟨![7, 0], S512x128.size, ![8, 1], inb_S4096x128_S512x128_7_0_s_8_1⟩ : LoadRect S4096x128) (harg2.unread x1) = stripe x1 7 :=
    read_stripe arg2 harg2 7 _ x1
  rw [e0, e1, e2, e3, e4, e5, e6, e7, e8, e9]
  refine (congrArg₂ (fun p q => k0_pay1 (F := Ideal) (column x2 3) x3 (k0_pay2 (F := Ideal) x4) _ (stripe x1 0) (stripe x1 1) (stripe x1 2) (stripe x1 3) (stripe x1 4) (stripe x1 5) p q (ix2 r C)) e10 e11).trans ?_
  exact pay_at (column x2 2) (column x2 3) x3 x4 x0 x1 r C

theorem point_lt (t : Fin cfg0.N) : t.val < 32 := t.isLt

theorem row_index : ∀ t : Fin cfg0.N, win0_0.index t = ![t.val, 0] ∧ win0_1.index t = ![t.val + 32, 0] ∧ win0_2.index t = ![t.val, 0]
    ∧ win0_3.index t = ![t.val, 0] ∧ win0_5.index t = ![t.val, 0] :=
  (by decide +kernel : ∀ t : Fin grid0.N, _)

/-- The block of the gate: the sequence of the row. -/
theorem gate_index : ∀ t : Fin cfg0.N, win0_4.index t = ![t.val / 16, 0, 0] :=
  (by decide +kernel : ∀ t : Fin grid0.N, _)

variable (m : (ℓ : Loc nD τ sig) → Buf (Elt Ideal) ℓ)

/-- The first experts' outputs of the block's tokens. -/
theorem blk0 (c : Dev nD) (t : Fin cfg0.N) (r : Fin 512) (C : Fin 1024) :
    tiled (N := 4096) (iblk m c 0 t) r.val C = tiled (N := 262144) (m ((c : Thread nD τ).loc main_arg0)) (t.val * 512 + r.val) C := by
  have h0 := point_lt t
  have e := (row_index t).1
  have hr := r.isLt
  have hC := C.isLt
  unfold tiled
  rw [at2_mk (n := 4096) (m := 128) _ (i := r.val * 8 + C.val / 128) (j := C.val % 128) (by omega) (by omega),
    at2_mk (n := 262144) (m := 128) _ (i := (t.val * 512 + r.val) * 8 + C.val / 128) (j := C.val % 128) (by omega) (by omega)]
  blk_simp [iblk]
  rw [V_main_arg0]
  refine congrArg _ ?_
  blk_ext [e]

/-- The second experts' outputs. -/
theorem blk1 (c : Dev nD) (t : Fin cfg0.N) (r : Fin 512) (C : Fin 1024) :
    tiled (N := 4096) (iblk m c 1 t) r.val C = tiled (N := 262144) (m ((c : Thread nD τ).loc main_arg0)) (16384 + (t.val * 512 + r.val)) C := by
  have h0 := point_lt t
  have e := (row_index t).2.1
  have hr := r.isLt
  have hC := C.isLt
  unfold tiled
  rw [at2_mk (n := 4096) (m := 128) _ (i := r.val * 8 + C.val / 128) (j := C.val % 128) (by omega) (by omega),
    at2_mk (n := 262144) (m := 128) _ (i := (16384 + (t.val * 512 + r.val)) * 8 + C.val / 128) (j := C.val % 128) (by omega) (by omega)]
  blk_simp [iblk]
  rw [V_main_arg0]
  refine congrArg _ ?_
  blk_ext [e]

/-- The weights. -/
theorem blk2 (c : Dev nD) (t : Fin cfg0.N) (r : Fin 512) (l : Fin 128) :
    (iblk m c 2 t : S512x128.Idx → EReal) (ix2 r l)
      = (m ((c : Thread nD τ).loc main_arg1) : S16384x128.Idx → EReal) (ix2 (⟨t.val * 512 + r.val, by have := point_lt t; omega⟩ : Fin 16384) l) := by
  have h0 := point_lt t
  have e := (row_index t).2.2.1
  blk_simp [iblk]
  rw [V_main_arg1]
  refine congrArg _ ?_
  blk_ext [e]

/-- The residual. -/
theorem blk3 (c : Dev nD) (t : Fin cfg0.N) (r : Fin 512) (C : Fin 1024) :
    (iblk m c 3 t : S512x1024.Idx → EReal) (ix2 r C)
      = (m ((c : Thread nD τ).loc main_arg2) : S16384x1024.Idx → EReal) (ix2 (⟨t.val * 512 + r.val, by have := point_lt t; omega⟩ : Fin 16384) C) := by
  have h0 := point_lt t
  have e := (row_index t).2.2.2.1
  blk_simp [iblk]
  rw [V_main_arg2]
  refine congrArg _ ?_
  blk_ext [e]

/-- The gate. -/
theorem blk4 (c : Dev nD) (t : Fin cfg0.N) (C : Fin 1024) :
    (iblk m c 4 t : S1x1x1024.Idx → EReal) (ix3 0 0 C)
      = (m ((c : Thread nD τ).loc main_arg3) : S2x1x1024.Idx → EReal) (ix3 (⟨t.val / 16, by have := point_lt t; omega⟩ : Fin 2) (0 : Fin 1) C) := by
  have h0 := point_lt t
  have e := gate_index t
  blk_simp [iblk]
  rw [V_main_arg3]
  refine congrArg _ ?_
  blk_ext [e]

/-- Row `n`, column `C` of the output. -/
def result (c : Dev nD) : S16384x1024.Idx → EReal := fun j =>
  combined (m ((c : Thread nD τ).loc main_arg0)) (m ((c : Thread nD τ).loc main_arg1)) (m ((c : Thread nD τ).loc main_arg2)) (m ((c : Thread nD τ).loc main_arg3)) (j 0) (j 1)

/-- What the kernel leaves in its output array. -/
theorem final (c : Dev nD) : (dats m 0 c).arrAt 5 cfg0.N = result m c := by
  refine (dats m 0 c).arrAt_eq_of_covers 5 (result m c) (by decide +kernel) fun t hf y => ?_
  have h0 := point_lt t
  obtain ⟨r, C, rfl⟩ : ∃ (r : Fin 512) (C : Fin 1024), y = ix2 r C := ⟨y 0, y 1, eq_ix2 y⟩
  have hr := r.isLt
  blk_simp
  rw [after0_5]
  unfold outsAt0
  have e : (win0_5.blk t).view.emb (ix2 r C) = ix2 (⟨t.val * 512 + r.val, by omega⟩ : Fin 16384) C := by
    have e := (row_index t).2.2.2.2
    blk_ext [e]
  refine Eq.trans ?_ (congrArg (result m c) e.symm)
  refine (written c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t) r C).trans ?_
  rw [blk0, blk1, blk2, blk2, blk3, blk4]
  unfold result combined
  have hb : (⟨t.val / 16, by omega⟩ : Fin 2) = ⟨(t.val * 512 + r.val) / 8192, by omega⟩ := Fin.ext (by dsimp only; omega)
  rw [hb]
  rfl

end Cert.CombineIdeal.Kernel

end
-- ==== Proof.Combine.Reference.lean ====
/-
  The reference's combination of a token's two experts is `combined` of its arguments at every row and column.
-/
module

public import proofs.«01_k».proof.Proof.Gen.RefCombineIdeal.Run
public import proofs.«01_k».proof.Proof.Combine.Equation
public import Idealize.ShloMosaic.Lib.Pointwise

@[expose] public section

set_option maxRecDepth 16384

noncomputable section

namespace Cert.RefCombineIdeal.Read

open Idealize.ShloMosaic Idealize.ShloMosaic.TcCoe Idealize.SL.Sem
open Cert.RefCombineIdeal Cert.RefCombineIdeal.Gen Cert.Attn Cert.CombineIdeal.Kernel

/-- The reference's result, in the terms of its operations. -/
def value (A : FVec Ideal S262144x128 .f32) (R : FVec Ideal S16384x128 .f32) (Y : FVec Ideal S16384x1024 .f32) (G : FVec Ideal S2x1x1024 .f32) :
    Vec Ideal S16384x1024 .f32 :=
  shapeCast S16384x1024 (addf (F := Ideal) (shapeCast _ Y shapeCasts_S16384x1024_S2x8192x1024) (mulf (broadcastInDim S2x8192x1024 ![0, 1, 2] bcast_S2x1x1024_S2x8192x1024_0_1_2 G) (shapeCast _ (Host.dotGeneral dot_S16384x2_S2x16384x1024_S16384x1024_1_0_n_2_0_1 none (extractStridedSlice S16384x2 ![0, 2] R slices_S16384x128_S16384x2_0_2) (shapeCast _ A shapeCasts_S262144x128_S2x16384x1024)) shapeCasts_S16384x1024_S2x8192x1024))) shapeCasts_S2x8192x1024_S16384x1024

theorem value_at (A : FVec Ideal S262144x128 .f32) (R : FVec Ideal S16384x128 .f32) (Y : FVec Ideal S16384x1024 .f32) (G : FVec Ideal S2x1x1024 .f32)
    (n : Fin 16384) (C : Fin 1024) : (value A R Y G (ix2 n C) : EReal) = combined A R Y G n C := by
  unfold value combined
  pointwise
  have hn := n.isLt
  have hC := C.isLt
  rw [Fin.sum_univ_two]
  unfold tiled
  rw [at2_mk (n := 262144) (m := 128) A (i := n.val * 8 + C.val / 128) (j := C.val % 128) (by omega) (by omega),
    at2_mk (n := 262144) (m := 128) A (i := (16384 + n.val) * 8 + C.val / 128) (j := C.val % 128) (by omega) (by omega)]
  refine congrArg (fun e : EReal => (Y (ix2 n C) : EReal) + (G (ix3 (⟨n.val / 8192, by omega⟩ : Fin 2) (0 : Fin 1) C) : EReal) * e) ?_
  refine congrArg₂ (· + ·) (congrArg₂ (· * ·) rfl (congrArg A ?_)) (congrArg₂ (· * ·) rfl (congrArg A ?_))
  · refine congrArg (fun a : Fin 262144 => ix2 a (⟨C.val % 128, by omega⟩ : Fin 128)) (Fin.ext ?_)
    show 0 * 131072 + n.val * 8 + C.val / 128 = n.val * 8 + C.val / 128
    omega
  · refine congrArg (fun a : Fin 262144 => ix2 a (⟨C.val % 128, by omega⟩ : Fin 128)) (Fin.ext ?_)
    show 1 * 131072 + n.val * 8 + C.val / 128 = (16384 + n.val) * 8 + C.val / 128
    omega

end Cert.RefCombineIdeal.Read

end
-- ==== Proof.Combine.Claims.lean ====
/-
  The claims on the combination of a token's two experts.
-/
module

public import proofs.«01_k».proof.Defs
public import proofs.«01_k».proof.Proof.Gen.Combine
public import proofs.«01_k».proof.Proof.Gen.Combine.Frame
public import proofs.«01_k».proof.Proof.Gen.CombineIdeal
public import proofs.«01_k».proof.Proof.Gen.CombineIdeal.Frame
public import proofs.«01_k».proof.Proof.Gen.RefCombineIdeal
public import proofs.«01_k».proof.Proof.Combine.Reference
public import Idealize.ShloMosaic.Lib.Claim

@[expose] public section

set_option maxRecDepth 16384

noncomputable section

namespace Cert.Proof.CombineClaims

open Idealize.ShloMosaic Idealize.ShloMosaic.TcCoe Idealize.SL.Sem Cert.Attn

/-- The kernel runs, leaves its arguments, and ends quiescent. -/
theorem frame_p : Cert.quiescent_Combine := fun m ρ _ => Cert.Combine.Gen.frame m ρ

/-- So does the idealized kernel. -/
theorem frame_pi : Cert.quiescent_CombineIdeal := fun m ρ _ => Cert.CombineIdeal.Gen.frame m ρ

/-- The reference runs, leaves its arguments, and ends quiescent. -/
theorem frame_ri : Cert.quiescent_RefCombineIdeal := fun m ρ _ =>
  (θ_run Cert.RefCombineIdeal.defs _ _).mono (fun r h => ⟨fun c => (h c).2, sem_eq_zero_of_no_sems (by decide) r.2⟩)
    (Cert.RefCombineIdeal.Value.run (F := Ideal) m ρ)

/-- Nothing of the kernel is replaced. -/
theorem preserves : Cert.preserves_Combine_CombineIdeal := trivial

/-- The kernel's output is the reference's, row by row and column by column. -/
theorem algebraic : Cert.algebraic_CombineIdeal_RefCombineIdeal := by
  intro m g m' g' hpre hargs
  refine ⟨fun c => Cert.CombineIdeal.Kernel.result m c, ?_, ?_⟩
  · exact (θ_run _ _ _).mono (fun r h c => ⟨(h c).1.trans (Cert.CombineIdeal.Kernel.final m c), (h c).2⟩) (Cert.CombineIdeal.Value.run_blocks m g)
  · refine (θ_run _ _ _).mono (fun r h c => ⟨(h c).1.trans (funext fun j => ?_), (h c).2⟩) (Cert.RefCombineIdeal.Value.run (F := Ideal) m' g')
    obtain ⟨e0, e1, e2, e3⟩ := hargs c
    obtain ⟨R, C, rfl⟩ : ∃ (R : Fin 16384) (C : Fin 1024), j = ix2 R C := ⟨j 0, j 1, eq_ix2 j⟩
    refine (Cert.RefCombineIdeal.Read.value_at _ _ _ _ R C).trans ?_
    rw [e0, e1, e2, e3]
    rfl

end Cert.Proof.CombineClaims

end
-- ==== Proof.Post.Spec.lean ====
/-
  The output of the mixing layer on one row: each head of 64 numbers scaled by its root mean square, the product with the
  weights, the residual, and the row's normalized and modulated copy.
-/
module

public import proofs.«01_k».proof.Proof.Nsa.Spec

@[expose] public section

set_option maxRecDepth 16384

noncomputable section

namespace Cert.Mix

open Idealize.ShloMosaic Cert.Attn Cert.Softmax

/-- What is added to a mean of squares before its root is taken. -/
def eps : EReal := Ideal.ofBits .f32 897988541#32

/-- One over the root mean square of head `h` of a row. -/
def scale (T : ℕ → EReal) (h : ℕ) : EReal :=
  Ideal.rsqrt (Ideal.div (∑ d ∈ Finset.range 64, T (h * 64 + d) * T (h * 64 + d)) (Ideal.ofBits .f32 1115684864#32) + eps)

/-- A row whose heads are scaled, times the gains. -/
def normed (T g : ℕ → EReal) (i : ℕ) : EReal := T i * scale T (i / 64) * g i

/-- Eight heads, then eight more. -/
def joined (A O : ℕ → EReal) (i : ℕ) : EReal := if i < 512 then A i else O (i - 512)

/-- Column `C` of a row: the residual plus the gate times the product of the scaled heads and the weights. -/
def mixed (A O : ℕ → EReal) (x g1 : EReal) (g : ℕ → EReal) (W : ℕ → ℕ → EReal) (C : ℕ) : EReal :=
  x + g1 * ∑ i ∈ Finset.range 1024, normed (joined A O) g i * W i C

/-- Column `C` of the normalized and modulated copy of a row. -/
def modulated (y : Fin 1024 → EReal) (ng sc sh : EReal) (C : Fin 1024) : EReal :=
  y C * Ideal.rsqrt (Ideal.div (∑ d : Fin 1024, y d * y d) (Ideal.ofBits .f32 1149239296#32) + eps) * ng * (1 + sc) + sh

theorem sixty_four : Ideal.ofBits .f32 1115684864#32 = ((64 : ℝ) : EReal) := by
  show Ideal.ieee 8 23 1115684864#32 = _
  unfold Ideal.ieee
  dsimp only
  rw [if_neg (by decide), if_neg (by decide), if_neg (by decide)]
  norm_num [show (1115684864#32 : BitVec 32).extractLsb' 23 8 = 133#8 by decide, show (1115684864#32 : BitVec 32).extractLsb' 0 23 = 0#23 by decide]

theorem part_bits : Ideal.ofBits .f32 1015021568#32 = ((1 / 64 : ℝ) : EReal) := by
  show Ideal.ieee 8 23 1015021568#32 = _
  unfold Ideal.ieee
  dsimp only
  rw [if_neg (by decide), if_neg (by decide), if_neg (by decide)]
  norm_num [show (1015021568#32 : BitVec 32).extractLsb' 23 8 = 121#8 by decide, show (1015021568#32 : BitVec 32).extractLsb' 0 23 = 0#23 by decide]

/-- A sum over the numbers of one head. -/
theorem sum_head (f : ℕ → ℝ) {h : ℕ} (hh : h < 8) :
    (∑ k ∈ Finset.range 512, if k / 64 = h then f k else 0) = ∑ d ∈ Finset.range 64, f (h * 64 + d) := by
  rw [← Finset.sum_filter]
  refine Finset.sum_nbij' (fun k => k - h * 64) (fun d => h * 64 + d) (fun k hk => ?_) (fun d hd => ?_) (fun k hk => ?_) (fun d hd => ?_) (fun k hk => ?_)
  · simp only [Finset.mem_filter, Finset.mem_range] at hk ⊢
    omega
  · simp only [Finset.mem_filter, Finset.mem_range] at hd ⊢
    omega
  · simp only [Finset.mem_filter, Finset.mem_range] at hk
    show h * 64 + (k - h * 64) = k
    omega
  · show h * 64 + d - h * 64 = d
    omega
  · simp only [Finset.mem_filter, Finset.mem_range] at hk
    show f k = f (h * 64 + (k - h * 64))
    rw [show h * 64 + (k - h * 64) = k by omega]

/-- The kernel's mean of a head's squares: their products with a matrix that is 1/64 within a head, once for the squares and
    once for what is left of them after the first rounding, which is zero for real numbers. -/
theorem mean_of (T : ℕ → EReal) (hT : ∀ k < 512, IsR (T k)) (b : ℕ → EReal) {i : ℕ} (hi : i < 512)
    (hb : ∀ k < 512, b k = if k / 64 = i / 64 then ((1 / 64 : ℝ) : EReal) else 0) :
    (∑ k ∈ Finset.range 512, T k * T k * b k) + (∑ k ∈ Finset.range 512, (T k * T k - T k * T k) * b k)
      = Ideal.div (∑ d ∈ Finset.range 64, T (i / 64 * 64 + d) * T (i / 64 * 64 + d)) (Ideal.ofBits .f32 1115684864#32) := by
  have hz : (∑ k ∈ Finset.range 512, (T k * T k - T k * T k) * b k) = 0 :=
    Finset.sum_eq_zero fun k hk => by
      have hk := hT k (Finset.mem_range.mp hk)
      rw [(hk.mul hk).sub_self, zero_mul]
  have hu : ∀ k < 512, T k = ((T k).toReal : EReal) := fun k hk => by obtain ⟨r, e⟩ := hT k hk; rw [e]; rfl
  have h1 : (∑ k ∈ Finset.range 512, T k * T k * b k)
      = ((∑ k ∈ Finset.range 512, if k / 64 = i / 64 then (T k).toReal * (T k).toReal * (1 / 64) else 0 : ℝ) : EReal) := by
    rw [sum_coe]
    refine Finset.sum_congr rfl fun k hk => ?_
    have hk := Finset.mem_range.mp hk
    rw [hb k hk]
    conv_lhs => rw [hu k hk]
    by_cases h : k / 64 = i / 64
    · rw [if_pos h, if_pos h, EReal.coe_mul, EReal.coe_mul]
    · rw [if_neg h, if_neg h, mul_zero]
      rfl
  have h2 : (∑ d ∈ Finset.range 64, T (i / 64 * 64 + d) * T (i / 64 * 64 + d))
      = ((∑ d ∈ Finset.range 64, (T (i / 64 * 64 + d)).toReal * (T (i / 64 * 64 + d)).toReal : ℝ) : EReal) := by
    rw [sum_coe]
    refine Finset.sum_congr rfl fun d hd => ?_
    have hd := Finset.mem_range.mp hd
    conv_lhs => rw [hu (i / 64 * 64 + d) (by omega)]
    rw [EReal.coe_mul]
  rw [hz, add_zero, h1, sum_head (fun k => (T k).toReal * (T k).toReal * (1 / 64)) (by omega : i / 64 < 8), h2, sixty_four,
    Ideal.div_coe (by norm_num), ← EReal.coe_mul, Finset.sum_mul]

/-- The product with the weights, head by head of the two halves. -/
theorem halves (A O g : ℕ → EReal) (W : ℕ → ℕ → EReal) (C : ℕ) :
    (∑ i ∈ Finset.range 512, normed A g i * W i C) + (∑ i ∈ Finset.range 512, normed O (fun k => g (512 + k)) i * W (512 + i) C)
      = ∑ i ∈ Finset.range 1024, normed (joined A O) g i * W i C := by
  refine Eq.trans ?_ (Finset.sum_range_add (fun i => normed (joined A O) g i * W i C) 512 512).symm
  refine congrArg₂ (fun p q : EReal => p + q) (Finset.sum_congr rfl fun i hi => ?_) (Finset.sum_congr rfl fun i hi => ?_)
  · have hi := Finset.mem_range.mp hi
    have e : scale A (i / 64) = scale (joined A O) (i / 64) := by
      unfold scale
      refine congrArg (fun s : EReal => Ideal.rsqrt (Ideal.div s _ + eps)) (Finset.sum_congr rfl fun d hd => ?_)
      have hd := Finset.mem_range.mp hd
      unfold joined
      rw [if_pos (by omega)]
    unfold normed
    rw [e]
    unfold joined
    rw [if_pos (by omega)]
  · have hi := Finset.mem_range.mp hi
    have e : scale O (i / 64) = scale (joined A O) ((512 + i) / 64) := by
      unfold scale
      refine congrArg (fun s : EReal => Ideal.rsqrt (Ideal.div s _ + eps)) (Finset.sum_congr rfl fun d hd => ?_)
      have hd := Finset.mem_range.mp hd
      unfold joined
      rw [if_neg (by omega), show (512 + i) / 64 * 64 + d - 512 = i / 64 * 64 + d by omega]
    unfold normed
    rw [e]
    unfold joined
    rw [if_neg (by omega), show 512 + i - 512 = i by omega]

end Cert.Mix

end
-- ==== Proof.Post.Reference.lean ====
/-
  The reference's two results of the mixing layer are the mixed rows and their modulated copies.
-/
module

public import proofs.«01_k».proof.Proof.Gen.RefPostIdeal.Run
public import proofs.«01_k».proof.Proof.Post.Spec
public import Idealize.ShloMosaic.Lib.Pointwise

@[expose] public section

set_option maxRecDepth 16384

noncomputable section

namespace Cert.RefPostIdeal.Read

open Idealize.ShloMosaic Idealize.ShloMosaic.TcCoe Idealize.SL.Sem
open Cert.RefPostIdeal Cert.RefPostIdeal.Gen Cert.Attn Cert.Mix

/-- The sixteen heads of every row. -/
def heads (A O : FVec Ideal S16384x512 .f32) : FVec Ideal S16384x16x64 .f32 :=
  concatenate S16384x16x64 1 [⟨S16384x8x64, (shapeCast _ A shapeCasts_S16384x512_S16384x8x64)⟩, ⟨S16384x8x64, (shapeCast _ O shapeCasts_S16384x512_S16384x8x64)⟩] concatenates_S16384x8x64_S16384x8x64_S16384x16x64_d1

/-- The scaled heads, a row of them in one. -/
def scaled (H : FVec Ideal S16384x16x64 .f32) (G : FVec Ideal S1x1024 .f32) : FVec Ideal S16384x1024 .f32 :=
  shapeCast _ (mulf (mulf H (broadcastInDim S16384x16x64 ![0, 1, 2] bcast_S16384x16x1_S16384x16x64_0_1_2 (Host.rsqrt (addf (Host.divf (broadcastInDim S16384x16x1 ![0, 1] bcast_S16384x16_S16384x16x1_0_1 (Host.reduceAdd (mulf H H) (constant S_ .f32 0x00000000#32) reducesTo_S16384x16x64_S16384x16_d2 h_S_)) (broadcastInDim S16384x16x1 ![] bcast_S_S16384x16x1 (constant S_ .f32 0x42800000#32))) (broadcastInDim S16384x16x1 ![] bcast_S_S16384x16x1 (constant S_ .f32 0x358637BD#32)))))) (broadcastInDim S16384x16x64 ![0, 1, 2] bcast_S1x16x64_S16384x16x64_0_1_2 (broadcastInDim S1x16x64 ![1, 2] bcast_S16x64_S1x16x64_1_2 (shapeCast _ G shapeCasts_S1x1024_S16x64)))) shapeCasts_S16384x16x64_S16384x1024

/-- The product with the weights, gated, with the residual. -/
def mix (N X : FVec Ideal S16384x1024 .f32) (G1 : FVec Ideal S2x1x1024 .f32) (W : FVec Ideal S1024x1024 .bf16) : FVec Ideal S2x8192x1024 .f32 :=
  addf (shapeCast _ X shapeCasts_S16384x1024_S2x8192x1024) (mulf (broadcastInDim S2x8192x1024 ![0, 1, 2] bcast_S2x1x1024_S2x8192x1024_0_1_2 G1) (shapeCast _ (Host.dotGeneral dot_S16384x1024_S1024x1024_S16384x1024_1_0_0_1_n_n none N (extf .f32 W bitsLt_bf16_f32)) shapeCasts_S16384x1024_S2x8192x1024))

/-- The modulated copy. -/
def copy (YY : FVec Ideal S2x8192x1024 .f32) (NG : FVec Ideal S1x1024 .f32) (SH SC : FVec Ideal S2x1x1024 .f32) : FVec Ideal S2x8192x1024 .f32 :=
  addf (mulf (mulf (mulf YY (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf YY YY) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ NG shapeCasts_S1x1024_S1024)))) (broadcastInDim S2x8192x1024 ![0, 1, 2] bcast_S2x1x1024_S2x8192x1024_0_1_2 (addf (broadcastInDim S2x1x1024 ![] bcast_S_S2x1x1024 (constant S_ .f32 0x3F800000#32)) SC))) (broadcastInDim S2x8192x1024 ![0, 1, 2] bcast_S2x1x1024_S2x8192x1024_0_1_2 SH)

theorem heads_at (A O : FVec Ideal S16384x512 .f32) (n : Fin 16384) (h : Fin 16) (d : Fin 64) :
    (heads A O (ix3 n h d) : EReal) = joined (at2 (n := 16384) (m := 512) A n.val) (at2 (n := 16384) (m := 512) O n.val) (h.val * 64 + d.val) := by
  have hn := n.isLt
  have hh := h.isLt
  have hd := d.isLt
  unfold heads joined
  pointwise
  by_cases h8 : h.val < 8
  · rw [dif_pos h8, if_pos (by omega), at2_mk (n := 16384) (m := 512) A (i := n.val) (j := h.val * 64 + d.val) (by omega) (by omega)]
  · rw [dif_neg h8]
    refine Eq.trans ?_ (if_neg (by omega)).symm
    rw [at2_mk (n := 16384) (m := 512) O (i := n.val) (j := h.val * 64 + d.val - 512) (by omega) (by omega)]
    refine congrArg (fun j : Fin 512 => O (ix2 n j)) (Fin.ext ?_)
    show (h.val - 8) * 64 + d.val = h.val * 64 + d.val - 512
    omega

theorem scaled_at (A O : FVec Ideal S16384x512 .f32) (G : FVec Ideal S1x1024 .f32) (n : Fin 16384) (i : Fin 1024) :
    (scaled (heads A O) G (ix2 n i) : EReal)
      = normed (joined (at2 (n := 16384) (m := 512) A n.val) (at2 (n := 16384) (m := 512) O n.val)) (at2 (n := 1) (m := 1024) G 0) i.val := by
  have hi := i.isLt
  unfold scaled normed scale eps
  generalize eH : heads A O = H
  pointwise
  rw [← eH]
  simp only [heads_at, Finset.sum_range]
  rw [show i.val / 64 * 64 + i.val % 64 = i.val by omega]
  exact congrArg (fun z : EReal => _ * z) (at2_of (n := 1) (m := 1024) G 0 i)

/-- A row of the first result. -/
theorem mix_at (A O : FVec Ideal S16384x512 .f32) (X : FVec Ideal S16384x1024 .f32) (G1 : FVec Ideal S2x1x1024 .f32) (G : FVec Ideal S1x1024 .f32)
    (W : FVec Ideal S1024x1024 .bf16) (n : Fin 16384) (C : Fin 1024) :
    (shapeCast S16384x1024 (mix (scaled (heads A O) G) X G1 W) shapeCasts_S2x8192x1024_S16384x1024 (ix2 n C) : EReal)
      = mixed (at2 (n := 16384) (m := 512) A n.val) (at2 (n := 16384) (m := 512) O n.val) (X (ix2 n C)) (G1 (ix3 (⟨n.val / 8192, by omega⟩ : Fin 2) (0 : Fin 1) C))
        (at2 (n := 1) (m := 1024) G 0) (at2 (n := 1024) (m := 1024) W) C.val := by
  unfold mixed
  rw [Finset.sum_range]
  simp only [← scaled_at, ← at2_of]
  generalize scaled (heads A O) G = N
  unfold mix
  pointwise

/-- A row of the second result, of a row of the first. -/
theorem copy_at (Y : FVec Ideal S2x8192x1024 .f32) (NG : FVec Ideal S1x1024 .f32) (SH SC : FVec Ideal S2x1x1024 .f32) (n : Fin 16384) (C : Fin 1024) :
    (shapeCast S16384x1024 (copy Y NG SH SC) shapeCasts_S2x8192x1024_S16384x1024 (ix2 n C) : EReal)
      = modulated (fun d => shapeCast S16384x1024 Y shapeCasts_S2x8192x1024_S16384x1024 (ix2 n d)) (NG (ix2 (0 : Fin 1) C))
        (SC (ix3 (⟨n.val / 8192, by omega⟩ : Fin 2) (0 : Fin 1) C)) (SH (ix3 (⟨n.val / 8192, by omega⟩ : Fin 2) (0 : Fin 1) C)) C := by
  unfold copy modulated eps
  pointwise

end Cert.RefPostIdeal.Read

end
-- ==== Proof.Post.Equation.lean ====
/-
  The output of the mixing layer: the kernel's two output arrays are the mixed rows and their modulated copies, at every row
  and column.
-/
module

public import proofs.«01_k».proof.Proof.Gen.PostIdeal.Value
public import proofs.«01_k».proof.Proof.Post.Spec
public import proofs.«01_k».proof.Proof.Nsa.Words
public import proofs.«01_k».proof.Proof.Ffn.Equation
public import Idealize.ShloMosaic.Lib.StableHlo.ReadAt
public import Idealize.ShloMosaic.Lib.Pipeline.ValueKit
public import Idealize.ShloMosaic.Lib.Pointwise
public import Idealize.ShloMosaic.Lib.Tactic
public import Idealize.ShloMosaic.Lib.Tactic.CleanTypes

@[expose] public section

set_option maxRecDepth 16384

noncomputable section

namespace Cert.PostIdeal.Kernel

open Idealize.ShloMosaic Idealize.ShloMosaic.TcCoe Idealize.SL.Sem
open Cert.PostIdeal Cert.PostIdeal.Gen Cert.Attn Cert.Word Cert.Mix

/-- A scaled row as the kernel finds it, its mean taken by products with the matrix `b`. -/
theorem normed_of (A g : ℕ → EReal) (hA : ∀ k < 512, IsR (A k)) (b : ℕ → ℕ → EReal)
    (hb : ∀ k < 512, ∀ i < 512, b k i = if k / 64 = i / 64 then ((1 / 64 : ℝ) : EReal) else 0) {i : ℕ} (hi : i < 512) :
    A i * Ideal.rsqrt ((∑ k ∈ Finset.range 512, A k * A k * b k i) + (∑ k ∈ Finset.range 512, (A k * A k - A k * A k) * b k i)
        + Ideal.ofBits .f32 897988541#32) * g i = normed A g i := by
  rw [mean_of A hA (fun k => b k i) hi fun k hk => hb k hk i hi]
  rfl

section Point
variable (v0 : Vec Ideal S512x512 .bf16) (v2 : Vec Ideal S512x512 .f32) (v3 : Vec Ideal S1x512 .f32) (v35 : Vec Ideal S512x1024 .bf16)
  (A g : ℕ → EReal) (a : Fin 512) (hA : ∀ k < 512, IsR (A k)) (eA : ∀ i : Fin 512, (v2 (ix2 a i) : EReal) = A i.val)
  (eg : ∀ i : Fin 512, (v3 (ix2 (0 : Fin 1) i) : EReal) = g i.val)
  (eb : ∀ k i : Fin 512, (v0 (ix2 k i) : EReal) = if k.val / 64 = i.val / 64 then ((1 / 64 : ℝ) : EReal) else 0)
include hA eA eg eb

theorem pay5_at (i : Fin 512) : (k0_pay5 (F := Ideal) v0 v2 v3 (ix2 a i) : EReal) = normed A g i.val := by
  have hb : ∀ k < 512, ∀ i < 512, at2 (n := 512) (m := 512) v0 k i = if k / 64 = i / 64 then ((1 / 64 : ℝ) : EReal) else 0 :=
    fun k hk i hi => (at2_mk (n := 512) (m := 512) v0 hk hi).trans (eb ⟨k, hk⟩ ⟨i, hi⟩)
  rw [← normed_of A g hA (at2 (n := 512) (m := 512) v0) hb i.isLt]
  unfold k0_pay5 k0_pay3
  pointwise
  simp only [eA, eg, Finset.sum_range, ← at2_of]

theorem pay4_at (W : ℕ → ℕ → EReal) (C : Fin 1024) (eW : ∀ i : Fin 512, (v35 (ix2 i C) : EReal) = W i.val C.val) :
    (k0_pay4 (F := Ideal) v0 v2 v3 v35 (ix2 a C) : EReal) = ∑ i ∈ Finset.range 512, normed A g i * W i C.val := by
  rw [Finset.sum_range]
  refine Eq.trans ?_ (Finset.sum_congr rfl fun i _ => congrArg₂ (fun p q : EReal => p * q) (pay5_at v0 v2 v3 A g a hA eA eg eb i) (eW i))
  unfold k0_pay4 k0_pay5 k0_pay3
  pointwise

end Point

theorem pay1_at (v36 : FVec Ideal S512x1024 .f32) (v37 : FVec Ideal S512x512 .bf16) (v38 : Vec Ideal S512x1024 .bf16) (v41 : Vec Ideal S512x1024 .f32)
    (v42 : Vec Ideal S1x1x1024 .f32) (a : Fin 512) (C : Fin 1024) :
    (k0_pay1 (F := Ideal) v36 v37 v38 v41 v42 (ix2 a C) : EReal)
      = (v41 (ix2 a C) : EReal) + v42 (ix3 (0 : Fin 1) (0 : Fin 1) C) * (v36 (ix2 a C) + ∑ x : Fin 512, (v37 (ix2 a x) : EReal) * v38 (ix2 x C)) := by
  unfold k0_pay1
  pointwise

theorem pay2_at (v36 : FVec Ideal S512x1024 .f32) (v37 : FVec Ideal S512x512 .bf16) (v38 : Vec Ideal S512x1024 .bf16) (v41 : Vec Ideal S512x1024 .f32)
    (v42 : Vec Ideal S1x1x1024 .f32) (v58 : Vec Ideal S1x1024 .f32) (v61 v67 : Vec Ideal S1x1x1024 .f32) (a : Fin 512) (C : Fin 1024) :
    (k0_pay2 (F := Ideal) v36 v37 v38 v41 v42 v58 v61 v67 (ix2 a C) : EReal)
      = modulated (fun d => k0_pay1 (F := Ideal) v36 v37 v38 v41 v42 (ix2 a d)) (v58 (ix2 (0 : Fin 1) C)) (v61 (ix3 (0 : Fin 1) (0 : Fin 1) C))
        (v67 (ix3 (0 : Fin 1) (0 : Fin 1) C)) C := by
  unfold k0_pay2 modulated eps
  generalize k0_pay1 (F := Ideal) v36 v37 v38 v41 v42 = y
  pointwise

/-- The blocks of the rows. -/
theorem row_index : ∀ t : Fin cfg0.N, win0_0.index t = ![t.val, 0] ∧ win0_1.index t = ![t.val, 0] ∧ win0_2.index t = ![t.val, 0]
    ∧ win0_10.index t = ![t.val, 0] ∧ win0_11.index t = ![t.val, 0] :=
  (by decide +kernel : ∀ t : Fin grid0.N, _)

/-- The blocks of the modulations: the sequence of the row. -/
theorem gate_index : ∀ t : Fin cfg0.N, win0_3.index t = ![t.val / 16, 0, 0] ∧ win0_8.index t = ![t.val / 16, 0, 0] ∧ win0_9.index t = ![t.val / 16, 0, 0] :=
  (by decide +kernel : ∀ t : Fin grid0.N, _)

/-- The gains, the weights and the constant matrix are whole. -/
theorem whole_index : ∀ t : Fin cfg0.N, win0_4.index t = ![0, 0] ∧ win0_5.index t = ![0, 0] ∧ win0_6.index t = ![0, 0] ∧ win0_7.index t = ![0, 0] :=
  (by decide +kernel : ∀ t : Fin grid0.N, _)

theorem point_lt (t : Fin cfg0.N) : t.val < 32 := t.isLt

variable (m : (ℓ : Loc nD τ sig) → Buf (Elt Ideal) ℓ)

/-- The matrix that takes the means. -/
theorem host_bd (c : Dev nD) (n s : Fin 512) :
    (V m c main_v8 : S512x512.Idx → EReal) (ix2 n s) = (if n.val / 64 = s.val / 64 then ((1 / 64 : ℝ) : EReal) else 0) := by
  unfold V
  simp only [List.flatten_cons, List.flatten_nil, List.append_nil, List.cons_append, List.nil_append]
  after_reads_at
  have hn := n.isLt
  have hs := s.isLt
  rw [← part_bits]
  simp (disch := omega) only [ofNat_W, divsi_W, eq_W, select_ofBool]
  exact if_congr (by omega) rfl rfl

/-- The first eight heads, as launched. -/
def ka (c : Dev nD) : ℕ → ℕ → EReal := at2 (n := 16384) (m := 512) (m ((c : Thread nD τ).loc main_arg0))
/-- The other eight heads, as launched. -/
def ko (c : Dev nD) : ℕ → ℕ → EReal := at2 (n := 16384) (m := 512) (m ((c : Thread nD τ).loc main_arg1))
/-- The residual, as launched. -/
def kx (c : Dev nD) : S16384x1024.Idx → EReal := m ((c : Thread nD τ).loc main_arg2)
/-- The gate, as launched. -/
def kg1 (c : Dev nD) : S2x1x1024.Idx → EReal := m ((c : Thread nD τ).loc main_arg3)
/-- The gains of the heads, as launched. -/
def kog (c : Dev nD) : ℕ → EReal := at2 (n := 1) (m := 1024) (m ((c : Thread nD τ).loc main_arg4)) 0
/-- The weights, as launched. -/
def kw (c : Dev nD) : ℕ → ℕ → EReal := at2 (n := 1024) (m := 1024) (m ((c : Thread nD τ).loc main_arg5))
/-- The gains of the row, as launched. -/
def kng (c : Dev nD) : S1x1024.Idx → EReal := m ((c : Thread nD τ).loc main_arg6)
/-- The shift, as launched. -/
def ksh (c : Dev nD) : S2x1x1024.Idx → EReal := m ((c : Thread nD τ).loc main_arg7)
/-- The scale, as launched. -/
def ksc (c : Dev nD) : S2x1x1024.Idx → EReal := m ((c : Thread nD τ).loc main_arg8)

theorem blk0 (c : Dev nD) (t : Fin cfg0.N) (a : Fin 512) (j : Fin 512) :
    (iblk m c 0 t : S512x512.Idx → EReal) (ix2 a j) = ka m c (t.val * 512 + a.val) j.val := by
  have h0 := point_lt t
  have e := (row_index t).1
  have ha := a.isLt
  blk_simp [iblk]
  rw [V_main_arg0]
  unfold ka
  refine Eq.trans (congrArg _ ?_) (at2_of (n := 16384) (m := 512) _ ⟨_, by omega⟩ j)
  blk_ext [e]

theorem blk1 (c : Dev nD) (t : Fin cfg0.N) (a : Fin 512) (j : Fin 512) :
    (iblk m c 1 t : S512x512.Idx → EReal) (ix2 a j) = ko m c (t.val * 512 + a.val) j.val := by
  have h0 := point_lt t
  have e := (row_index t).2.1
  have ha := a.isLt
  blk_simp [iblk]
  rw [V_main_arg1]
  unfold ko
  refine Eq.trans (congrArg _ ?_) (at2_of (n := 16384) (m := 512) _ ⟨_, by omega⟩ j)
  blk_ext [e]

theorem blk2 (c : Dev nD) (t : Fin cfg0.N) (a : Fin 512) (j : Fin 1024) :
    (iblk m c 2 t : S512x1024.Idx → EReal) (ix2 a j) = kx m c (ix2 (⟨t.val * 512 + a.val, by have := point_lt t; omega⟩ : Fin 16384) j) := by
  have h0 := point_lt t
  have e := (row_index t).2.2.1
  blk_simp [iblk]
  rw [V_main_arg2]
  unfold kx
  refine congrArg _ ?_
  blk_ext [e]

theorem blk3 (c : Dev nD) (t : Fin cfg0.N) (j : Fin 1024) :
    (iblk m c 3 t : S1x1x1024.Idx → EReal) (ix3 0 0 j) = kg1 m c (ix3 (⟨t.val / 16, by have := point_lt t; omega⟩ : Fin 2) (0 : Fin 1) j) := by
  have h0 := point_lt t
  have e := (gate_index t).1
  blk_simp [iblk]
  rw [V_main_arg3]
  unfold kg1
  refine congrArg _ ?_
  blk_ext [e]

theorem blk4 (c : Dev nD) (t : Fin cfg0.N) (j : Fin 1024) :
    (iblk m c 4 t : S1x1024.Idx → EReal) (ix2 0 j) = kog m c j.val := by
  have e := (whole_index t).1
  blk_simp [iblk]
  rw [V_main_arg4]
  unfold kog
  refine Eq.trans (congrArg _ ?_) (at2_of (n := 1) (m := 1024) _ 0 j)
  blk_ext [e]

theorem blk5 (c : Dev nD) (t : Fin cfg0.N) (a : Fin 1024) (j : Fin 1024) :
    (iblk m c 5 t : S1024x1024.Idx → EReal) (ix2 a j) = kw m c a.val j.val := by
  have e := (whole_index t).2.1
  blk_simp [iblk]
  rw [V_main_arg5]
  unfold kw
  refine Eq.trans (congrArg _ ?_) (at2_of (n := 1024) (m := 1024) _ a j)
  blk_ext [e]

theorem blk6 (c : Dev nD) (t : Fin cfg0.N) (k i : Fin 512) :
    (iblk m c 6 t : S512x512.Idx → EReal) (ix2 k i) = if k.val / 64 = i.val / 64 then ((1 / 64 : ℝ) : EReal) else 0 := by
  have e := (whole_index t).2.2.1
  refine Eq.trans ?_ (host_bd m c k i)
  blk_simp [iblk]
  refine congrArg _ ?_
  blk_ext [e]

theorem blk7 (c : Dev nD) (t : Fin cfg0.N) (j : Fin 1024) :
    (iblk m c 7 t : S1x1024.Idx → EReal) (ix2 0 j) = kng m c (ix2 (0 : Fin 1) j) := by
  have e := (whole_index t).2.2.2
  blk_simp [iblk]
  rw [V_main_arg6]
  unfold kng
  refine congrArg _ ?_
  blk_ext [e]

theorem blk8 (c : Dev nD) (t : Fin cfg0.N) (j : Fin 1024) :
    (iblk m c 8 t : S1x1x1024.Idx → EReal) (ix3 0 0 j) = ksh m c (ix3 (⟨t.val / 16, by have := point_lt t; omega⟩ : Fin 2) (0 : Fin 1) j) := by
  have h0 := point_lt t
  have e := (gate_index t).2.1
  blk_simp [iblk]
  rw [V_main_arg7]
  unfold ksh
  refine congrArg _ ?_
  blk_ext [e]

theorem blk9 (c : Dev nD) (t : Fin cfg0.N) (j : Fin 1024) :
    (iblk m c 9 t : S1x1x1024.Idx → EReal) (ix3 0 0 j) = ksc m c (ix3 (⟨t.val / 16, by have := point_lt t; omega⟩ : Fin 2) (0 : Fin 1) j) := by
  have h0 := point_lt t
  have e := (gate_index t).2.2
  blk_simp [iblk]
  rw [V_main_arg8]
  unfold ksc
  refine congrArg _ ?_
  blk_ext [e]

/-- The heads are real numbers. -/
def Real (c : Dev nD) : Prop := ∀ R < 16384, ∀ j < 512, IsR (ka m c R j) ∧ IsR (ko m c R j)

/-- Row `n` of the first output, at column `C`. -/
def row (c : Dev nD) (n : Fin 16384) (C : Fin 1024) : EReal :=
  mixed (ka m c n.val) (ko m c n.val) (kx m c (ix2 n C)) (kg1 m c (ix3 (⟨n.val / 8192, by omega⟩ : Fin 2) (0 : Fin 1) C)) (kog m c) (kw m c) C.val

/-- The first output. -/
def result (c : Dev nD) : S16384x1024.Idx → EReal := fun j => row m c (j 0) (j 1)

/-- Row `n` of the second output, at column `C`. -/
def row1 (c : Dev nD) (n : Fin 16384) (C : Fin 1024) : EReal :=
  modulated (row m c n) (kng m c (ix2 (0 : Fin 1) C)) (ksc m c (ix3 (⟨n.val / 8192, by omega⟩ : Fin 2) (0 : Fin 1) C))
    (ksh m c (ix3 (⟨n.val / 8192, by omega⟩ : Fin 2) (0 : Fin 1) C)) C

/-- The second output. -/
def result1 (c : Dev nD) : S16384x1024.Idx → EReal := fun j => row1 m c (j 0) (j 1)

theorem zero_off : (![0, 0] : Fin 2 → ℕ) = fun _ => 0 := by funext a; fin_cases a <;> rfl

theorem zero_off3 : (![0, 0, 0] : Fin 3 → ℕ) = fun _ => 0 := by funext a; fin_cases a <;> rfl

/-- Half of the gains. -/
theorem gains_at (x : S1x1024.Idx → EReal) (j : Fin 512) :
    (View.ld (Val := Elt Ideal) (e' := .f32) x r0_1 : S1x512.Idx → EReal) (ix2 (0 : Fin 1) j) = x (ix2 (0 : Fin 1) (⟨j.val, by omega⟩ : Fin 1024))
      ∧ (View.ld (Val := Elt Ideal) (e' := .f32) x r0_2 : S1x512.Idx → EReal) (ix2 (0 : Fin 1) j) = x (ix2 (0 : Fin 1) (⟨512 + j.val, by omega⟩ : Fin 1024)) := by
  exact ⟨Cert.FfnIdeal.Kernel.ld_part (S := S1x1024) (e := .f32) ![0, 0] S1x512.size inb_S1x1024_S1x512_0_0 x (ix2 (0 : Fin 1) j) _ (fun b => by fin_cases b <;> first | exact (Nat.zero_add _).symm | rfl),
    Cert.FfnIdeal.Kernel.ld_part (S := S1x1024) (e := .f32) ![0, 512] S1x512.size inb_S1x1024_S1x512_0_512 x (ix2 (0 : Fin 1) j) _ (fun b => by fin_cases b <;> first | exact (Nat.zero_add _).symm | rfl)⟩

/-- Half of the weights' rows. -/
theorem rows_at (x : S1024x1024.Idx → EReal) (a : Fin 512) (j : Fin 1024) :
    (View.ld (Val := Elt Ideal) (e' := .bf16) x r0_3 : S512x1024.Idx → EReal) (ix2 a j) = x (ix2 (⟨a.val, by omega⟩ : Fin 1024) j)
      ∧ (View.ld (Val := Elt Ideal) (e' := .bf16) x r0_4 : S512x1024.Idx → EReal) (ix2 a j) = x (ix2 (⟨512 + a.val, by omega⟩ : Fin 1024) j) := by
  exact ⟨Cert.FfnIdeal.Kernel.ld_part (S := S1024x1024) (e := .bf16) ![0, 0] S512x1024.size inb_S1024x1024_S512x1024_0_0 x (ix2 a j) _ (fun b => by fin_cases b <;> first | exact (Nat.zero_add _).symm | rfl),
    Cert.FfnIdeal.Kernel.ld_part (S := S1024x1024) (e := .bf16) ![512, 0] S512x1024.size inb_S1024x1024_S512x1024_512_0 x (ix2 a j) _ (fun b => by fin_cases b <;> first | exact (Nat.zero_add _).symm | rfl)⟩

/-- What a point of the grid computes of a row. -/
theorem block_row (c : Dev nD) (hR : Real m c) (t : Fin cfg0.N) (a : Fin 512) (C : Fin 1024) :
    (k0_pay1 (F := Ideal) (k0_pay6 (F := Ideal) (iblk m c 0 t) (iblk m c 1 t) (iblk m c 2 t) (iblk m c 3 t) (iblk m c 4 t) (iblk m c 5 t) (iblk m c 6 t) (iblk m c 7 t) (iblk m c 8 t) (iblk m c 9 t))
        (k0_pay7 (F := Ideal) (iblk m c 0 t) (iblk m c 1 t) (iblk m c 2 t) (iblk m c 3 t) (iblk m c 4 t) (iblk m c 5 t) (iblk m c 6 t) (iblk m c 7 t) (iblk m c 8 t) (iblk m c 9 t))
        (View.ld (iblk m c 5 t) r0_4) (iblk m c 2 t) (iblk m c 3 t) (ix2 a C) : EReal)
      = row m c ⟨t.val * 512 + a.val, by have := point_lt t; omega⟩ C := by
  have h0 := point_lt t
  have ha := a.isLt
  unfold k0_pay6 k0_pay7
  rw [View.ld_unit_zero (S := S512x512) zero_off _ (iblk m c 6 t), View.ld_unit_zero (S := S512x512) zero_off _ (iblk m c 0 t),
    View.ld_unit_zero (S := S512x512) zero_off _ (iblk m c 1 t)]
  rw [pay1_at, blk2, blk3,
    pay4_at _ _ _ _ (ka m c (t.val * 512 + a.val)) (kog m c) a (fun k hk => (hR _ (by omega) k hk).1) (fun i => blk0 m c t a i)
      (fun i => (gains_at _ i).1.trans (blk4 m c t _)) (fun k i => blk6 m c t k i) (kw m c) C (fun i => (rows_at _ i C).1.trans (blk5 m c t _ C))]
  have e5 : (∑ x : Fin 512, (k0_pay5 (F := Ideal) (iblk m c 6 t) (iblk m c 1 t) (View.ld (iblk m c 4 t) r0_2) (ix2 a x) : EReal) * View.ld (iblk m c 5 t) r0_4 (ix2 x C))
      = ∑ i ∈ Finset.range 512, normed (ko m c (t.val * 512 + a.val)) (fun k => kog m c (512 + k)) i * kw m c (512 + i) C.val := by
    rw [Finset.sum_range]
    refine Finset.sum_congr rfl fun i _ => congrArg₂ (fun p q : EReal => p * q) ?_ ((rows_at _ i C).2.trans (blk5 m c t _ C))
    exact pay5_at _ _ _ (ko m c (t.val * 512 + a.val)) (fun k => kog m c (512 + k)) a (fun k hk => (hR _ (by omega) k hk).2) (fun i => blk1 m c t a i)
      (fun i => (gains_at _ i).2.trans (blk4 m c t _)) (fun k i => blk6 m c t k i) i
  refine (congrArg (fun z : EReal => kx m c (ix2 (⟨t.val * 512 + a.val, by omega⟩ : Fin 16384) C) + kg1 m c (ix3 (⟨t.val / 16, by omega⟩ : Fin 2) (0 : Fin 1) C) * (_ + z)) e5).trans ?_
  rw [halves]
  unfold row mixed
  have hb : (⟨t.val / 16, by omega⟩ : Fin 2) = ⟨(t.val * 512 + a.val) / 8192, by omega⟩ := Fin.ext (by dsimp only; omega)
  rw [hb]

/-- What the kernel leaves in its first output array. -/
theorem final (c : Dev nD) (hR : Real m c) : (dats m 0 c).arrAt 10 cfg0.N = result m c := by
  refine (dats m 0 c).arrAt_eq_of_covers 10 (result m c) (by decide +kernel) fun t hf y => ?_
  have h0 := point_lt t
  obtain ⟨a, C, rfl⟩ : ∃ (a : Fin 512) (C : Fin 1024), y = ix2 a C := ⟨y 0, y 1, eq_ix2 y⟩
  have ha := a.isLt
  blk_simp
  rw [after0_10]
  unfold out0_10
  frame_out
  have e : (win0_10.blk t).view.emb (ix2 a C) = ix2 (⟨t.val * 512 + a.val, by omega⟩ : Fin 16384) C := by
    have e := (row_index t).2.2.2.1
    blk_ext [e]
  refine Eq.trans ?_ (congrArg (result m c) e.symm)
  exact block_row m c hR t a C

/-- What the kernel leaves in its second output array. -/
theorem final1 (c : Dev nD) (hR : Real m c) : (dats m 0 c).arrAt 11 cfg0.N = result1 m c := by
  refine (dats m 0 c).arrAt_eq_of_covers 11 (result1 m c) (by decide +kernel) fun t hf y => ?_
  have h0 := point_lt t
  obtain ⟨a, C, rfl⟩ : ∃ (a : Fin 512) (C : Fin 1024), y = ix2 a C := ⟨y 0, y 1, eq_ix2 y⟩
  have ha := a.isLt
  blk_simp
  rw [after0_11]
  unfold out0_11
  frame_out
  have e : (win0_11.blk t).view.emb (ix2 a C) = ix2 (⟨t.val * 512 + a.val, by omega⟩ : Fin 16384) C := by
    have e := (row_index t).2.2.2.2
    blk_ext [e]
  refine Eq.trans ?_ (congrArg (result1 m c) e.symm)
  refine (pay2_at _ _ _ _ _ _ _ _ a C).trans ?_
  show _ = row1 m c (⟨t.val * 512 + a.val, by omega⟩ : Fin 16384) C
  unfold row1
  have hb : (⟨t.val / 16, by omega⟩ : Fin 2) = ⟨(t.val * 512 + a.val) / 8192, by omega⟩ := Fin.ext (by dsimp only; omega)
  refine (congrArg (fun f : Fin 1024 → EReal => modulated f _ _ _ C) (funext (block_row m c hR t a))).trans ?_
  rw [blk7, blk8, blk9, hb]

end Cert.PostIdeal.Kernel

end
-- ==== Proof.Post.Finite.lean ====
/-
  The precondition as facts on the elements: the heads are real numbers.
-/
module

public import proofs.«01_k».proof.Proof.Gen.Pre_heads_finite
public import proofs.«01_k».proof.Proof.Nsa.Finite

@[expose] public section

set_option maxRecDepth 16384

noncomputable section

namespace Cert.Pre_heads_finite.Read

open Idealize.ShloMosaic Idealize.ShloMosaic.TcCoe Idealize.SL.Sem
open Cert.Pre_heads_finite Cert.Pre_heads_finite.Facts Cert.Attn
open Cert.Pre_finite.Read (real_of_lt top_f32)

instance : Subsingleton S_.Idx := ⟨fun a b => funext fun i => i.elim0⟩

variable [Cert.Pre_heads_finite.Facts]

/-- What the precondition says of the arrays. -/
theorem parts (x0 x1 : FVec Ideal S16384x512 .f32) (x2 : FVec Ideal S16384x1024 .f32) (x3 : FVec Ideal S2x1x1024 .f32) (x4 : FVec Ideal S1x1024 .f32)
    (x5 : FVec Ideal S1024x1024 .bf16) (x6 : FVec Ideal S1x1024 .f32) (x7 x8 : FVec Ideal S2x1x1024 .f32)
    (h : fn (F := Ideal) x0 x1 x2 x3 x4 x5 x6 x7 x8 = fun _ => 1#1) : (∀ i, IsR (x0 i)) ∧ ∀ i, IsR (x1 i) := by
  have h := congrFun h ix0
  dsimp only [fn] at h
  obtain ⟨h0, h1⟩ := IntOp.andi_eq_one.mp h
  exact ⟨fun i => real_of_lt _ (top_f32 ▸ Host.reduce_andi_all _ _ _ _ _ h0 i), fun i => real_of_lt _ (top_f32 ▸ Host.reduce_andi_all _ _ _ _ _ h1 i)⟩

end Cert.Pre_heads_finite.Read

end
-- ==== Proof.Post.Claims.lean ====
/-
  The claims on the mixing layer: the frames, and that the kernel's two outputs are the reference's.
-/
module

public import proofs.«01_k».proof.Defs
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostIdeal.Value
public import proofs.«01_k».proof.Proof.Gen.RefPostIdeal
public import proofs.«01_k».proof.Proof.Gen.RefPostIdeal.Run
public import proofs.«01_k».proof.Proof.Gen.Pre_heads_finite
public import proofs.«01_k».proof.Proof.Post.Reference
public import proofs.«01_k».proof.Proof.Post.Equation
public import proofs.«01_k».proof.Proof.Post.Finite
public import Idealize.ShloMosaic.Lib.Claim

@[expose] public section

set_option maxRecDepth 16384

noncomputable section

namespace Cert.Proof.PostClaims

open Idealize.ShloMosaic Idealize.ShloMosaic.TcCoe Idealize.SL.Sem Cert.Attn Cert.Mix

/-- The kernel runs, leaves its arguments, and ends quiescent. -/
theorem frame_p : Cert.quiescent_Post := fun m ρ _ => Cert.Post.Gen.frame m ρ

/-- So does the idealized kernel, from finite heads, -/
theorem frame_pi : Cert.quiescent_PostIdeal := fun m ρ _ => Cert.PostIdeal.Gen.frame m ρ

/-- and from any arrays. -/
theorem frame_pi_any : Cert.quiescent_PostIdeal_pre_none := fun m ρ _ => Cert.PostIdeal.Gen.frame m ρ

/-- The reference runs, leaves its arguments, and ends quiescent. -/
theorem frame_ri : Cert.quiescent_RefPostIdeal := fun m ρ _ =>
  (θ_run Cert.RefPostIdeal.defs _ _).mono (fun r h => ⟨fun c => (h c).2.2, sem_eq_zero_of_no_sems (by decide) r.2⟩)
    (Cert.RefPostIdeal.Value.run (F := Ideal) m ρ)

/-- No constant of the kernel is renamed. -/
theorem preserves : Cert.preserves_Post_PostIdeal := trivial

/-- The heads the precondition speaks of are real numbers. -/
theorem real_of_pre (m : (ℓ : Loc Cert.PostIdeal.nD Cert.PostIdeal.τ Cert.PostIdeal.sig) → Buf (Elt Ideal) ℓ) (h : Cert.Pre_PostIdeal m)
    (c : Dev Cert.PostIdeal.nD) : Cert.PostIdeal.Kernel.Real m c := by
  obtain ⟨h0, h1⟩ := Cert.Pre_heads_finite.Read.parts _ _ _ _ _ _ _ _ _ (h c)
  refine fun R hR j hj => ⟨?_, ?_⟩
  · exact Eq.mpr (congrArg IsR (at2_mk (n := 16384) (m := 512) _ hR hj)) (h0 _)
  · exact Eq.mpr (congrArg IsR (at2_mk (n := 16384) (m := 512) _ hR hj)) (h1 _)

/-- The reference's mixed rows, of the kernel's arrays. -/
theorem mixed_rows (m : (ℓ : Loc Cert.PostIdeal.nD Cert.PostIdeal.τ Cert.PostIdeal.sig) → Buf (Elt Ideal) ℓ)
    (m' : (ℓ : Loc Cert.RefPostIdeal.nD Cert.RefPostIdeal.τ Cert.RefPostIdeal.sig) → Buf (Elt Ideal) ℓ) (c : Dev Cert.PostIdeal.nD)
    (A O : FVec Ideal Cert.RefPostIdeal.S16384x512 .f32) (X : FVec Ideal Cert.RefPostIdeal.S16384x1024 .f32)
    (G1 : FVec Ideal Cert.RefPostIdeal.S2x1x1024 .f32) (G : FVec Ideal Cert.RefPostIdeal.S1x1024 .f32) (W : FVec Ideal Cert.RefPostIdeal.S1024x1024 .bf16)
    (e0 : A = m ((c.tc : Thread Cert.PostIdeal.nD Cert.PostIdeal.τ).loc Cert.PostIdeal.main_arg0))
    (e1 : O = m ((c.tc : Thread Cert.PostIdeal.nD Cert.PostIdeal.τ).loc Cert.PostIdeal.main_arg1))
    (e2 : X = m ((c.tc : Thread Cert.PostIdeal.nD Cert.PostIdeal.τ).loc Cert.PostIdeal.main_arg2))
    (e3 : G1 = m ((c.tc : Thread Cert.PostIdeal.nD Cert.PostIdeal.τ).loc Cert.PostIdeal.main_arg3))
    (e4 : G = m ((c.tc : Thread Cert.PostIdeal.nD Cert.PostIdeal.τ).loc Cert.PostIdeal.main_arg4))
    (e5 : W = m ((c.tc : Thread Cert.PostIdeal.nD Cert.PostIdeal.τ).loc Cert.PostIdeal.main_arg5)) (n : Fin 16384) (C : Fin 1024) :
    (shapeCast Cert.RefPostIdeal.S16384x1024 (Cert.RefPostIdeal.Read.mix (Cert.RefPostIdeal.Read.scaled (Cert.RefPostIdeal.Read.heads A O) G) X G1 W)
        Cert.RefPostIdeal.Gen.shapeCasts_S2x8192x1024_S16384x1024 (ix2 n C) : EReal)
      = Cert.PostIdeal.Kernel.row m c n C := by
  subst e0 e1 e2 e3 e4 e5
  exact Cert.RefPostIdeal.Read.mix_at _ _ _ _ _ _ n C

/-- The kernel's outputs are the reference's, row by row and column by column. -/
theorem algebraic : Cert.algebraic_PostIdeal_RefPostIdeal := by
  intro m g m' g' hpre hargs
  refine ⟨fun c => Cert.PostIdeal.Kernel.result m c, fun c => Cert.PostIdeal.Kernel.result1 m c, ?_, ?_⟩
  · exact (θ_run _ _ _).mono (fun r h c => ⟨(h c).1.trans (Cert.PostIdeal.Kernel.final m c (real_of_pre m hpre c)),
      (h c).2.1.trans (Cert.PostIdeal.Kernel.final1 m c (real_of_pre m hpre c)), (h c).2.2⟩)
      (Cert.PostIdeal.Value.run_blocks m g)
  · refine (θ_run _ _ _).mono (fun r h c => ⟨(h c).1.trans ?_, (h c).2.1.trans ?_, (h c).2.2⟩) (Cert.RefPostIdeal.Value.run (F := Ideal) m' g')
    · obtain ⟨e0, e1, e2, e3, e4, e5, e6, e7, e8⟩ := hargs c
      refine funext fun j => ?_
      obtain ⟨n, C, rfl⟩ : ∃ (n : Fin 16384) (C : Fin 1024), j = ix2 n C := ⟨j 0, j 1, eq_ix2 j⟩
      exact mixed_rows m m' c _ _ _ _ _ _ e0 e1 e2 e3 e4 e5 n C
    · obtain ⟨e0, e1, e2, e3, e4, e5, e6, e7, e8⟩ := hargs c
      refine funext fun j => ?_
      obtain ⟨n, C, rfl⟩ : ∃ (n : Fin 16384) (C : Fin 1024), j = ix2 n C := ⟨j 0, j 1, eq_ix2 j⟩
      unfold Cert.RefPostIdeal.Value.res_main_v46
      refine (Cert.RefPostIdeal.Read.copy_at _ _ _ _ n C).trans ?_
      refine (congrArg (fun f : Fin 1024 → EReal => modulated f _ _ _ C) (funext (mixed_rows m m' c _ _ _ _ _ _ e0 e1 e2 e3 e4 e5 n))).trans ?_
      show _ = Cert.PostIdeal.Kernel.row1 m c n C
      unfold Cert.PostIdeal.Kernel.row1
      refine congrArg₂ (fun (p : EReal) (q : EReal × EReal) => modulated _ p q.1 q.2 C) (congrFun e6 _) (congrArg₂ Prod.mk (congrFun e8 _) (congrFun e7 _))

end Cert.Proof.PostClaims

end
-- ==== Proof.Sample.Spec.lean ====
/-
  The projection of the samples' rows: the normalized and modulated row times the weights, and of its columns the normalized
  groups of the gated part and the rotated keys.
-/
module

public import proofs.«01_k».proof.Proof.Post.Spec

@[expose] public section

set_option maxRecDepth 16384

noncomputable section

namespace Cert.Proj

open Idealize.ShloMosaic Cert.Attn Cert.Softmax Cert.Mix

/-- Column `C` of the projected row `R`. -/
def zed (X : (⟨2, ![128, 1024]⟩ : Shape).Idx → EReal) (G : (⟨2, ![1, 1024]⟩ : Shape).Idx → EReal) (SH SC : (⟨2, ![128, 1024]⟩ : Shape).Idx → EReal)
    (W : (⟨2, ![1024, 2432]⟩ : Shape).Idx → EReal) (R : Fin 128) (C : Fin 2432) : EReal :=
  ∑ x : Fin 1024, modulated (fun d => X (ix2 R d)) (G (ix2 (0 : Fin 1) x)) (SC (ix2 R x)) (SH (ix2 R x)) x * W (ix2 x C)

/-- The smooth gate of a number. -/
def gelu (x : EReal) : EReal :=
  x * (Ideal.ofBits .f32 1056964608#32 * (1 + Ideal.tanh (Ideal.ofBits .f32 1061962282#32 * (x + Ideal.ofBits .f32 1027024659#32 * (x * x * x)))))

/-- The mean of group `h` of 64 numbers. -/
def mean (T : ℕ → EReal) (h : ℕ) : EReal := Ideal.div (∑ d ∈ Finset.range 64, T (h * 64 + d)) (Ideal.ofBits .f32 1115684864#32)

/-- A row less the means of its groups. -/
def centred (T : ℕ → EReal) (i : ℕ) : EReal := T i - mean T (i / 64)

/-- A row whose groups are normalized. -/
def layered (T : ℕ → EReal) (i : ℕ) : EReal :=
  centred T i * Ideal.rsqrt (mean (fun k => centred T k * centred T k) (i / 64) + eps)

/-- Heads of 64 numbers, each rotated. -/
def turned (N cs sn : ℕ → EReal) (i : ℕ) : EReal :=
  if i % 64 < 32 then N i * cs (i % 64) - N (i + 32) * sn (i % 64) else N i * cs (i % 64 - 32) + N (i - 32) * sn (i % 64 - 32)

/-- A branch's columns of a projected row: the rotated keys, then the values. -/
def branch (Z : ℕ → EReal) (o : ℕ) (g cs sn : ℕ → EReal) (i : ℕ) : EReal :=
  if i < 128 then turned (normed (fun k => Z (o + k)) g) cs sn i else Z (o + i)

theorem mean_congr {T S : ℕ → EReal} {h : ℕ} (e : ∀ d < 64, T (h * 64 + d) = S (h * 64 + d)) : mean T h = mean S h := by
  unfold mean
  exact congrArg (fun s : EReal => Ideal.div s _) (Finset.sum_congr rfl fun d hd => e d (Finset.mem_range.mp hd))

theorem centred_congr {T S : ℕ → EReal} {i n : ℕ} (e : ∀ k < n, T k = S k) (hi : i / 64 * 64 + 64 ≤ n) : centred T i = centred S i := by
  unfold centred
  rw [e i (by omega), mean_congr fun d hd => e (i / 64 * 64 + d) (by omega)]

theorem layered_congr {T S : ℕ → EReal} {i n : ℕ} (e : ∀ k < n, T k = S k) (hi : i / 64 * 64 + 64 ≤ n) : layered T i = layered S i := by
  unfold layered
  rw [centred_congr e hi, mean_congr (T := fun k => centred T k * centred T k) (S := fun k => centred S k * centred S k) fun d hd => by
    rw [centred_congr (i := i / 64 * 64 + d) e (by omega)]]

/-- The kernel's rotation: each number times its cosine, plus its partner times its signed sine. -/
theorem turn (N cs sn : ℕ → EReal) (i : ℕ) :
    N i * (if i % 64 < 32 then cs (i % 64) else cs (i % 64 - 32))
        + (if i % 64 < 32 then N (i + 32) else N (i - 32)) * (if i % 64 < 32 then -sn (i % 64) else sn (i % 64 - 32))
      = turned N cs sn i := by
  unfold turned
  by_cases h : i % 64 < 32
  · rw [if_pos h, if_pos h, if_pos h, if_pos h, mul_neg, ← sub_eq_add_neg]
  · rw [if_neg h, if_neg h, if_neg h, if_neg h]

/-- The kernel's cube is grouped the other way. -/
theorem gelu_of (x : EReal) :
    x * (Ideal.ofBits .f32 1056964608#32 * (1 + Ideal.tanh (Ideal.ofBits .f32 1061962282#32 * (x + Ideal.ofBits .f32 1027024659#32 * (x * (x * x))))))
      = gelu x := by
  unfold gelu
  rw [mul_assoc x x x]

theorem isR_add {x y : EReal} (h : IsR x) (h' : IsR y) : IsR (x + y) := by
  obtain ⟨r, rfl⟩ := h
  obtain ⟨s, rfl⟩ := h'
  exact ⟨r + s, (EReal.coe_add r s).symm⟩

theorem isR_sub {x y : EReal} (h : IsR x) (h' : IsR y) : IsR (x - y) := by
  obtain ⟨r, rfl⟩ := h
  obtain ⟨s, rfl⟩ := h'
  exact ⟨r - s, (EReal.coe_sub r s).symm⟩

theorem isR_half : IsR (Ideal.ofBits .f32 1056964608#32) := by
  show IsR (Ideal.ieee 8 23 1056964608#32)
  unfold Ideal.ieee
  dsimp only
  rw [if_neg (by decide), if_neg (by decide), if_neg (by decide)]
  exact ⟨_, rfl⟩

theorem isR_slope : IsR (Ideal.ofBits .f32 1061962282#32) := by
  show IsR (Ideal.ieee 8 23 1061962282#32)
  unfold Ideal.ieee
  dsimp only
  rw [if_neg (by decide), if_neg (by decide), if_neg (by decide)]
  exact ⟨_, rfl⟩

theorem isR_cubic : IsR (Ideal.ofBits .f32 1027024659#32) := by
  show IsR (Ideal.ieee 8 23 1027024659#32)
  unfold Ideal.ieee
  dsimp only
  rw [if_neg (by decide), if_neg (by decide), if_neg (by decide)]
  exact ⟨_, rfl⟩

theorem isR_gelu {x : EReal} (h : IsR x) : IsR (gelu x) := by
  refine h.mul (isR_half.mul (isR_add ⟨1, rfl⟩ ?_))
  obtain ⟨r, e⟩ := isR_slope.mul (isR_add h (isR_cubic.mul ((h.mul h).mul h)))
  rw [e]
  exact ⟨Real.tanh r, rfl⟩

/-- A sum over the numbers of one group, among `n`. -/
theorem sum_group (f : ℕ → ℝ) {n h : ℕ} (hh : h * 64 + 64 ≤ n) :
    (∑ k ∈ Finset.range n, if k / 64 = h then f k else 0) = ∑ d ∈ Finset.range 64, f (h * 64 + d) := by
  rw [← Finset.sum_filter]
  refine Finset.sum_nbij' (fun k => k - h * 64) (fun d => h * 64 + d) (fun k hk => ?_) (fun d hd => ?_) (fun k hk => ?_) (fun d hd => ?_) (fun k hk => ?_)
  · simp only [Finset.mem_filter, Finset.mem_range] at hk ⊢
    omega
  · simp only [Finset.mem_filter, Finset.mem_range] at hd ⊢
    omega
  · simp only [Finset.mem_filter, Finset.mem_range] at hk
    show h * 64 + (k - h * 64) = k
    omega
  · show h * 64 + d - h * 64 = d
    omega
  · simp only [Finset.mem_filter, Finset.mem_range] at hk
    show f k = f (h * 64 + (k - h * 64))
    rw [show h * 64 + (k - h * 64) = k by omega]

/-- The kernel's mean of a group: its products with a matrix that is 1/64 within a group, once for the numbers and once for
    what is left of them after the first rounding, which is zero for real numbers. -/
theorem mean_by (T : ℕ → EReal) {n : ℕ} (hT : ∀ k < n, IsR (T k)) (b : ℕ → EReal) {i : ℕ} (hi : i / 64 * 64 + 64 ≤ n)
    (hb : ∀ k < n, b k = if k / 64 = i / 64 then ((1 / 64 : ℝ) : EReal) else 0) :
    (∑ k ∈ Finset.range n, T k * b k) + (∑ k ∈ Finset.range n, (T k - T k) * b k) = mean T (i / 64) := by
  have hz : (∑ k ∈ Finset.range n, (T k - T k) * b k) = 0 :=
    Finset.sum_eq_zero fun k hk => by rw [(hT k (Finset.mem_range.mp hk)).sub_self, zero_mul]
  have hu : ∀ k < n, T k = ((T k).toReal : EReal) := fun k hk => by obtain ⟨r, e⟩ := hT k hk; rw [e]; rfl
  have h1 : (∑ k ∈ Finset.range n, T k * b k) = ((∑ k ∈ Finset.range n, if k / 64 = i / 64 then (T k).toReal * (1 / 64) else 0 : ℝ) : EReal) := by
    rw [sum_coe]
    refine Finset.sum_congr rfl fun k hk => ?_
    have hk := Finset.mem_range.mp hk
    rw [hb k hk]
    conv_lhs => rw [hu k hk]
    by_cases h : k / 64 = i / 64
    · rw [if_pos h, if_pos h, EReal.coe_mul]
    · rw [if_neg h, if_neg h, mul_zero]
      rfl
  have h2 : (∑ d ∈ Finset.range 64, T (i / 64 * 64 + d)) = ((∑ d ∈ Finset.range 64, (T (i / 64 * 64 + d)).toReal : ℝ) : EReal) := by
    rw [sum_coe]
    refine Finset.sum_congr rfl fun d hd => ?_
    have hd := Finset.mem_range.mp hd
    exact hu (i / 64 * 64 + d) (by omega)
  unfold mean
  rw [hz, add_zero, h1, sum_group (fun k => (T k).toReal * (1 / 64)) hi, h2, sixty_four, Ideal.div_coe (by norm_num), ← EReal.coe_mul, Finset.sum_mul]

/-- The same, summed over the indices below `n`. -/
theorem mean_fin (T : ℕ → EReal) {n : ℕ} (hT : ∀ k < n, IsR (T k)) (b : Fin n → EReal) {i : ℕ} (hi : i / 64 * 64 + 64 ≤ n)
    (hb : ∀ k : Fin n, b k = if k.val / 64 = i / 64 then ((1 / 64 : ℝ) : EReal) else 0) :
    (∑ k : Fin n, T k.val * b k) + (∑ k : Fin n, (T k.val - T k.val) * b k) = mean T (i / 64) := by
  rw [← mean_by T hT (fun k => if k / 64 = i / 64 then ((1 / 64 : ℝ) : EReal) else 0) hi fun k _ => rfl, Finset.sum_range, Finset.sum_range]
  simp only [hb]

theorem isR_mean (T : ℕ → EReal) {h : ℕ} (hT : ∀ d < 64, IsR (T (h * 64 + d))) : IsR (mean T h) := by
  obtain ⟨r, e⟩ := IsR.sum (Finset.range 64) (fun d => T (h * 64 + d)) fun d hd => hT d (Finset.mem_range.mp hd)
  unfold mean
  rw [e, sixty_four, Ideal.div_coe (by norm_num), ← EReal.coe_mul]
  exact ⟨_, rfl⟩

theorem isR_centred (T : ℕ → EReal) {i n : ℕ} (hT : ∀ k < n, IsR (T k)) (hi : i / 64 * 64 + 64 ≤ n) : IsR (centred T i) :=
  isR_sub (hT i (by omega)) (isR_mean T fun d hd => hT _ (by omega))

end Cert.Proj

end
-- ==== Proof.Sample.Reference.lean ====
/-
  The reference's results of the projection of the samples' rows: two branches' rows of keys and values, and the gated part's
  normalized groups.
-/
module

public import proofs.«01_k».proof.Proof.Gen.RefPreIdeal.Run
public import proofs.«01_k».proof.Proof.Sample.Spec
public import Idealize.ShloMosaic.Lib.Pointwise

@[expose] public section

set_option maxRecDepth 16384

noncomputable section

namespace Cert.RefPreIdeal.Read

open Idealize.ShloMosaic Idealize.ShloMosaic.TcCoe Idealize.SL.Sem
open Cert.RefPreIdeal Cert.RefPreIdeal.Gen Cert.Attn Cert.Mix Cert.Proj

/-- The projected rows. -/
def zz (a0 : FVec Ideal S128x1024 .f32) (a1 : FVec Ideal S1x1024 .f32) (a2 a3 : FVec Ideal S128x1024 .f32) (a4 : FVec Ideal S1024x2432 .bf16) : FVec Ideal S128x2432 .f32 :=
  Host.dotGeneral dot_S128x1024_S1024x2432_S128x2432_1_0_0_1_n_n none (addf (mulf (mulf (mulf a0 (broadcastInDim S128x1024 ![0, 1] bcast_S128x1_S128x1024_0_1 (Host.rsqrt (addf (Host.divf (broadcastInDim S128x1 ![0] bcast_S128_S128x1_0 (Host.reduceAdd (mulf a0 a0) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 (shapeCast _ a1 shapeCasts_S1x1024_S1024)))) (addf (broadcastInDim S128x1024 ![] bcast_S_S128x1024 (constant S_ .f32 0x3F800000#32)) a3)) a2) (extf .f32 a4 bitsLt_bf16_f32)

theorem zz_at (a0 : FVec Ideal S128x1024 .f32) (a1 : FVec Ideal S1x1024 .f32) (a2 a3 : FVec Ideal S128x1024 .f32) (a4 : FVec Ideal S1024x2432 .bf16) (R : Fin 128) (C : Fin 2432) :
    (zz a0 a1 a2 a3 a4 (ix2 R C) : EReal) = zed a0 a1 a2 a3 a4 R C := by
  unfold zz zed modulated eps
  pointwise

/-- The gated columns. -/
def uu (Z : FVec Ideal S128x2432 .f32) : FVec Ideal S128x512 .f32 :=
  mulf (extractStridedSlice S128x512 ![0, 512] Z slices_S128x2432_S128x512_0_512) (mulf (broadcastInDim S128x512 ![] bcast_S_S128x512 (constant S_ .f32 0x3F000000#32)) (addf (broadcastInDim S128x512 ![] bcast_S_S128x512 (constant S_ .f32 0x3F800000#32)) (Host.tanh (mulf (broadcastInDim S128x512 ![] bcast_S_S128x512 (constant S_ .f32 0x3F4C422A#32)) (addf (extractStridedSlice S128x512 ![0, 512] Z slices_S128x2432_S128x512_0_512) (mulf (broadcastInDim S128x512 ![] bcast_S_S128x512 (constant S_ .f32 0x3D372713#32)) (mulf (mulf (extractStridedSlice S128x512 ![0, 512] Z slices_S128x2432_S128x512_0_512) (extractStridedSlice S128x512 ![0, 512] Z slices_S128x2432_S128x512_0_512)) (extractStridedSlice S128x512 ![0, 512] Z slices_S128x2432_S128x512_0_512))))))))

theorem uu_at (Z : FVec Ideal S128x2432 .f32) (R : Fin 128) (i : Fin 512) :
    (uu Z (ix2 R i) : EReal) = gelu (Z (ix2 R (⟨512 + i.val, by omega⟩ : Fin 2432))) := by
  unfold uu gelu
  pointwise

/-- Groups of 64 less their means. -/
def cc (U : FVec Ideal S128x512 .f32) : FVec Ideal S128x8x64 .f32 :=
  subf (shapeCast _ U shapeCasts_S128x512_S128x8x64) (broadcastInDim S128x8x64 ![0, 1, 2] bcast_S128x8x1_S128x8x64_0_1_2 (Host.divf (broadcastInDim S128x8x1 ![0, 1] bcast_S128x8_S128x8x1_0_1 (Host.reduceAdd (shapeCast _ U shapeCasts_S128x512_S128x8x64) (constant S_ .f32 0x00000000#32) reducesTo_S128x8x64_S128x8_d2 h_S_)) (broadcastInDim S128x8x1 ![] bcast_S_S128x8x1 (constant S_ .f32 0x42800000#32))))

theorem cc_at (U : FVec Ideal S128x512 .f32) (R : Fin 128) (h : Fin 8) (d : Fin 64) :
    (cc U (ix3 R h d) : EReal) = centred (at2 (n := 128) (m := 512) U R.val) (h.val * 64 + d.val) := by
  have hh := h.isLt
  have hd := d.isLt
  unfold cc centred mean
  rw [show (h.val * 64 + d.val) / 64 = h.val by omega, Finset.sum_range]
  pointwise
  refine congrArg₂ (fun p q : EReal => p - Ideal.div q _) (at2_mk (n := 128) (m := 512) U R.isLt (by omega)).symm (Finset.sum_congr rfl fun x _ => ?_)
  exact (at2_mk (n := 128) (m := 512) U R.isLt (by omega)).symm

/-- The groups, normalized. -/
def ln (V : FVec Ideal S128x8x64 .f32) : FVec Ideal S128x512 .f32 :=
  shapeCast _ (mulf V (broadcastInDim S128x8x64 ![0, 1, 2] bcast_S128x8x1_S128x8x64_0_1_2 (Host.rsqrt (addf (Host.divf (broadcastInDim S128x8x1 ![0, 1] bcast_S128x8_S128x8x1_0_1 (Host.reduceAdd (mulf V V) (constant S_ .f32 0x00000000#32) reducesTo_S128x8x64_S128x8_d2 h_S_)) (broadcastInDim S128x8x1 ![] bcast_S_S128x8x1 (constant S_ .f32 0x42800000#32))) (broadcastInDim S128x8x1 ![] bcast_S_S128x8x1 (constant S_ .f32 0x358637BD#32)))))) shapeCasts_S128x8x64_S128x512

theorem ln_at (U : FVec Ideal S128x512 .f32) (R : Fin 128) (i : Fin 512) :
    (ln (cc U) (ix2 R i) : EReal) = layered (at2 (n := 128) (m := 512) U R.val) i.val := by
  have hi := i.isLt
  unfold ln layered
  generalize eV : cc U = V
  pointwise
  rw [← eV]
  simp only [cc_at]
  unfold mean eps
  rw [Finset.sum_range, show i.val / 64 * 64 + i.val % 64 = i.val by omega]

/-- The normalized keys of two heads. -/
def nk (K : FVec Ideal S128x2x64 .f32) (KG : FVec Ideal S128 .f32) : FVec Ideal S128x2x64 .f32 :=
  mulf (mulf K (broadcastInDim S128x2x64 ![0, 1, 2] bcast_S128x2x1_S128x2x64_0_1_2 (Host.rsqrt (addf (Host.divf (broadcastInDim S128x2x1 ![0, 1] bcast_S128x2_S128x2x1_0_1 (Host.reduceAdd (mulf K K) (constant S_ .f32 0x00000000#32) reducesTo_S128x2x64_S128x2_d2 h_S_)) (broadcastInDim S128x2x1 ![] bcast_S_S128x2x1 (constant S_ .f32 0x42800000#32))) (broadcastInDim S128x2x1 ![] bcast_S_S128x2x1 (constant S_ .f32 0x358637BD#32)))))) (broadcastInDim S128x2x64 ![0, 1, 2] bcast_S1x2x64_S128x2x64_0_1_2 (broadcastInDim S1x2x64 ![1, 2] bcast_S2x64_S1x2x64_1_2 (shapeCast _ KG shapeCasts_S128_S2x64)))

/-- The rotated keys. -/
def rot (N : FVec Ideal S128x2x64 .f32) (a5 a6 : FVec Ideal S1x32 .f32) : FVec Ideal S128x2x64 .f32 :=
  concatenate S128x2x64 2 [⟨S128x2x32, (subf (mulf (extractStridedSlice S128x2x32 ![0, 0, 0] N slices_S128x2x64_S128x2x32_0_0_0) (broadcastInDim S128x2x32 ![0, 1, 2] bcast_S1x1x32_S128x2x32_0_1_2 (broadcastInDim S1x1x32 ![1, 2] bcast_S1x32_S1x1x32_1_2 a5))) (mulf (extractStridedSlice S128x2x32 ![0, 0, 32] N slices_S128x2x64_S128x2x32_0_0_32) (broadcastInDim S128x2x32 ![0, 1, 2] bcast_S1x1x32_S128x2x32_0_1_2 (broadcastInDim S1x1x32 ![1, 2] bcast_S1x32_S1x1x32_1_2 a6))))⟩, ⟨S128x2x32, (addf (mulf (extractStridedSlice S128x2x32 ![0, 0, 32] N slices_S128x2x64_S128x2x32_0_0_32) (broadcastInDim S128x2x32 ![0, 1, 2] bcast_S1x1x32_S128x2x32_0_1_2 (broadcastInDim S1x1x32 ![1, 2] bcast_S1x32_S1x1x32_1_2 a5))) (mulf (extractStridedSlice S128x2x32 ![0, 0, 0] N slices_S128x2x64_S128x2x32_0_0_0) (broadcastInDim S128x2x32 ![0, 1, 2] bcast_S1x1x32_S128x2x32_0_1_2 (broadcastInDim S1x1x32 ![1, 2] bcast_S1x32_S1x1x32_1_2 a6))))⟩] concatenates_S128x2x32_S128x2x32_S128x2x64_d2

/-- Keys, then values. -/
def both (N V : FVec Ideal S128x2x64 .f32) : FVec Ideal S128x256 .f32 :=
  shapeCast _ (concatenate S128x2x2x64 1 [⟨S128x1x2x64, (broadcastInDim S128x1x2x64 ![0, 2, 3] bcast_S128x2x64_S128x1x2x64_0_2_3 N)⟩, ⟨S128x1x2x64, (broadcastInDim S128x1x2x64 ![0, 2, 3] bcast_S128x2x64_S128x1x2x64_0_2_3 V)⟩] concatenates_S128x1x2x64_S128x1x2x64_S128x2x2x64_d1) shapeCasts_S128x2x2x64_S128x256

/-- The keys' columns of a branch, as two heads. -/
def keys (KV : FVec Ideal S128x2x2x64 .f32) : FVec Ideal S128x2x64 .f32 :=
  shapeCast _ (extractStridedSlice S128x1x2x64 ![0, 0, 0, 0] KV slices_S128x2x2x64_S128x1x2x64_0_0_0_0) shapeCasts_S128x1x2x64_S128x2x64

/-- The values' columns of a branch, as two heads. -/
def vals (KV : FVec Ideal S128x2x2x64 .f32) : FVec Ideal S128x2x64 .f32 :=
  shapeCast _ (extractStridedSlice S128x1x2x64 ![0, 1, 0, 0] KV slices_S128x2x2x64_S128x1x2x64_0_1_0_0) shapeCasts_S128x1x2x64_S128x2x64

theorem keys_at (B : FVec Ideal S128x256 .f32) (T : ℕ → EReal) (R : Fin 128) (eB : ∀ j : Fin 256, (B (ix2 R j) : EReal) = T j.val) (h : Fin 2) (d : Fin 64) :
    (keys (shapeCast _ B shapeCasts_S128x256_S128x2x2x64) (ix3 R h d) : EReal) = T (h.val * 64 + d.val) := by
  have hh := h.isLt
  have hd := d.isLt
  refine Eq.trans ?_ (eB ⟨h.val * 64 + d.val, by omega⟩)
  unfold keys
  pointwise

theorem vals_at (B : FVec Ideal S128x256 .f32) (T : ℕ → EReal) (R : Fin 128) (eB : ∀ j : Fin 256, (B (ix2 R j) : EReal) = T j.val) (h : Fin 2) (d : Fin 64) :
    (vals (shapeCast _ B shapeCasts_S128x256_S128x2x2x64) (ix3 R h d) : EReal) = T (128 + (h.val * 64 + d.val)) := by
  have hh := h.isLt
  have hd := d.isLt
  refine Eq.trans ?_ (eB ⟨128 + (h.val * 64 + d.val), by omega⟩)
  unfold vals
  pointwise
  exact congrArg (fun j : Fin 256 => B (ix2 R j)) (Fin.ext (Nat.add_assoc 128 (h.val * 64) d.val))

theorem nk_at (K : FVec Ideal S128x2x64 .f32) (KG : FVec Ideal S128 .f32) (T g : ℕ → EReal) (R : Fin 128)
    (eK : ∀ (h : Fin 2) (d : Fin 64), (K (ix3 R h d) : EReal) = T (h.val * 64 + d.val)) (eg : ∀ i : Fin 128, (KG (ix1 i) : EReal) = g i.val)
    (h : Fin 2) (d : Fin 64) : (nk K KG (ix3 R h d) : EReal) = normed T g (h.val * 64 + d.val) := by
  have hh := h.isLt
  have hd := d.isLt
  unfold nk normed scale eps
  pointwise
  simp only [eK, eg, Finset.sum_range]
  rw [show (h.val * 64 + d.val) / 64 = h.val by omega]

theorem rot_at (N : FVec Ideal S128x2x64 .f32) (a5 a6 : FVec Ideal S1x32 .f32) (T : ℕ → EReal) (R : Fin 128)
    (eN : ∀ (h : Fin 2) (d : Fin 64), (N (ix3 R h d) : EReal) = T (h.val * 64 + d.val)) (h : Fin 2) (d : Fin 64) :
    (rot N a5 a6 (ix3 R h d) : EReal) = turned T (at2 (n := 1) (m := 32) a5 0) (at2 (n := 1) (m := 32) a6 0) (h.val * 64 + d.val) := by
  have hh := h.isLt
  have hd := d.isLt
  unfold rot turned
  rw [show (h.val * 64 + d.val) % 64 = d.val by omega]
  pointwise
  by_cases h32 : d.val < 32
  · rw [dif_pos h32, if_pos h32, eN, eN, at2_mk (n := 1) (m := 32) a5 (by omega) h32, at2_mk (n := 1) (m := 32) a6 (by omega) h32,
      show h.val * 64 + (32 + d.val) = h.val * 64 + d.val + 32 by omega]
    rfl
  · rw [dif_neg h32, if_neg h32, eN, eN, at2_mk (n := 1) (m := 32) a5 (by omega) (by omega : d.val - 32 < 32),
      at2_mk (n := 1) (m := 32) a6 (by omega) (by omega : d.val - 32 < 32),
      show h.val * 64 + (32 + (d.val - 32)) = h.val * 64 + d.val by omega, show h.val * 64 + (d.val - 32) = h.val * 64 + d.val - 32 by omega]
    rfl

theorem both_at (N V : FVec Ideal S128x2x64 .f32) (R : Fin 128) (i : Fin 256) (T S : ℕ → EReal)
    (eN : ∀ (h : Fin 2) (d : Fin 64), (N (ix3 R h d) : EReal) = T (h.val * 64 + d.val))
    (eV : ∀ (h : Fin 2) (d : Fin 64), (V (ix3 R h d) : EReal) = S (h.val * 64 + d.val)) :
    (both N V (ix2 R i) : EReal) = if i.val < 128 then T i.val else S (i.val - 128) := by
  have hi := i.isLt
  unfold both
  pointwise
  by_cases h1 : i.val < 128
  · rw [dif_pos (by omega), if_pos h1, eN]
    exact congrArg T (by dsimp only; omega)
  · rw [dif_neg (by omega), if_neg h1, eV]
    exact congrArg S (by dsimp only; omega)

/-- A branch's rows of keys and values. -/
theorem branch_at (B : FVec Ideal S128x256 .f32) (KG : FVec Ideal S128 .f32) (a5 a6 : FVec Ideal S1x32 .f32) (Z g : ℕ → EReal) (o : ℕ) (R : Fin 128)
    (eB : ∀ j : Fin 256, (B (ix2 R j) : EReal) = Z (o + j.val)) (eg : ∀ i : Fin 128, (KG (ix1 i) : EReal) = g i.val) (i : Fin 256) :
    (both (rot (nk (keys (shapeCast _ B shapeCasts_S128x256_S128x2x2x64)) KG) a5 a6) (vals (shapeCast _ B shapeCasts_S128x256_S128x2x2x64)) (ix2 R i) : EReal)
      = branch Z o g (at2 (n := 1) (m := 32) a5 0) (at2 (n := 1) (m := 32) a6 0) i.val := by
  have hi := i.isLt
  refine (both_at _ _ R i (turned (normed (fun k => Z (o + k)) g) (at2 (n := 1) (m := 32) a5 0) (at2 (n := 1) (m := 32) a6 0))
    (fun k => Z (o + (128 + k))) (fun h d => ?_) fun h d => ?_).trans ?_
  · exact rot_at _ a5 a6 _ R (fun h d => nk_at _ KG _ g R (fun h d => keys_at B (fun k => Z (o + k)) R eB h d) eg h d) h d
  · exact vals_at B (fun k => Z (o + k)) R eB h d
  · unfold branch
    by_cases h1 : i.val < 128
    · rw [if_pos h1, if_pos h1]
    · rw [if_neg h1, if_neg h1, show 128 + (i.val - 128) = i.val by omega]

theorem cols_at (Z : FVec Ideal S128x2432 .f32) (R : Fin 128) (j : Fin 256) :
    (extractStridedSlice S128x256 ![0, 1536] Z slices_S128x2432_S128x256_0_1536 (ix2 R j) : EReal) = at2 (n := 128) (m := 2432) Z R.val (1536 + j.val)
      ∧ (extractStridedSlice S128x256 ![0, 1792] Z slices_S128x2432_S128x256_0_1792 (ix2 R j) : EReal) = at2 (n := 128) (m := 2432) Z R.val (1792 + j.val) := by
  have hj := j.isLt
  rw [at2_mk (n := 128) (m := 2432) Z R.isLt (by omega), at2_mk (n := 128) (m := 2432) Z R.isLt (by omega)]
  refine ⟨?_, ?_⟩
  · pointwise
  · pointwise

theorem gain_at (a8 : FVec Ideal S3x128 .f32) (i : Fin 128) :
    (shapeCast S128 (extractStridedSlice S1x128 ![0, 0] a8 slices_S3x128_S1x128_0_0) shapeCasts_S1x128_S128 (ix1 i) : EReal) = at2 (n := 3) (m := 128) a8 0 i.val
      ∧ (shapeCast S128 (extractStridedSlice S1x128 ![1, 0] a8 slices_S3x128_S1x128_1_0) shapeCasts_S1x128_S128 (ix1 i) : EReal) = at2 (n := 3) (m := 128) a8 1 i.val := by
  rw [at2_mk (n := 3) (m := 128) a8 (by omega : 0 < 3) i.isLt, at2_mk (n := 3) (m := 128) a8 (by omega : 1 < 3) i.isLt]
  refine ⟨?_, ?_⟩
  · pointwise
  · pointwise

variable (m : (ℓ : Loc nD τ sig) → Buf (Elt Ideal) ℓ) (c : Dev nD)

/-- The projected rows of the launched arrays. -/
def za : FVec Ideal S128x2432 .f32 :=
  zz (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem cmp_at (R : Fin 128) (i : Fin 256) : (Value.res_main_v94 m c (ix2 R i) : EReal)
    = branch (at2 (n := 128) (m := 2432) (za m c) R.val) 1536 (at2 (n := 3) (m := 128) (m ((c.tc : Thread nD τ).loc main_arg8)) 0)
      (at2 (n := 1) (m := 32) (m ((c.tc : Thread nD τ).loc main_arg5)) 0) (at2 (n := 1) (m := 32) (m ((c.tc : Thread nD τ).loc main_arg6)) 0) i.val :=
  branch_at _ _ _ _ _ _ 1536 R (fun j => (cols_at (za m c) R j).1) (fun i => (gain_at _ i).1) i

theorem slc_at (R : Fin 128) (i : Fin 256) : (Value.res_main_v137 m c (ix2 R i) : EReal)
    = branch (at2 (n := 128) (m := 2432) (za m c) R.val) 1792 (at2 (n := 3) (m := 128) (m ((c.tc : Thread nD τ).loc main_arg8)) 1)
      (at2 (n := 1) (m := 32) (m ((c.tc : Thread nD τ).loc main_arg5)) 0) (at2 (n := 1) (m := 32) (m ((c.tc : Thread nD τ).loc main_arg6)) 0) i.val :=
  branch_at _ _ _ _ _ _ 1792 R (fun j => (cols_at (za m c) R j).2) (fun i => (gain_at _ i).2) i

theorem v_at (R : Fin 128) (i : Fin 512) : (Value.res_main_v51 m c (ix2 R i) : EReal)
    = layered (fun k => gelu (at2 (n := 128) (m := 2432) (za m c) R.val (512 + k))) i.val := by
  have hi := i.isLt
  refine (ln_at (uu (za m c)) R i).trans (layered_congr (fun k hk => ?_) (by omega : i.val / 64 * 64 + 64 ≤ 512))
  rw [at2_mk (n := 128) (m := 512) _ R.isLt hk, at2_mk (n := 128) (m := 2432) _ R.isLt (by omega)]
  exact uu_at (za m c) R ⟨k, hk⟩

end Cert.RefPreIdeal.Read

end
-- ==== Proof.Sample.Equation.lean ====
/-
  The projection of the samples' rows: what the kernel leaves in three of its output arrays, at every row and column.
-/
module

public import proofs.«01_k».proof.Proof.Gen.PreIdeal.Value
public import proofs.«01_k».proof.Proof.Sample.Spec
public import proofs.«01_k».proof.Proof.Nsa.Words
public import proofs.«01_k».proof.Proof.Ffn.Equation
public import Idealize.ShloMosaic.Lib.StableHlo.ReadAt
public import Idealize.ShloMosaic.Lib.Pipeline.ValueKit
public import Idealize.ShloMosaic.Lib.Pointwise
public import Idealize.ShloMosaic.Lib.Tactic
public import Idealize.ShloMosaic.Lib.Tactic.CleanTypes

@[expose] public section

set_option maxRecDepth 16384

noncomputable section

namespace Cert.PreIdeal.Kernel

open Idealize.ShloMosaic Idealize.ShloMosaic.TcCoe Idealize.SL.Sem
open Cert.PreIdeal Cert.PreIdeal.Gen Cert.Attn Cert.Word Cert.Mix Cert.Proj

theorem pay2_at (v0 : Vec Ideal S128x1024 .f32) (v11 : Vec Ideal S1x1024 .f32) (v14 v18 : Vec Ideal S128x1024 .f32) (v21 : Vec Ideal S1024x2432 .bf16)
    (R : Fin 128) (C : Fin 2432) : (k0_pay2 (F := Ideal) v0 v11 v14 v18 v21 (ix2 R C) : EReal) = zed v0 v11 v18 v14 v21 R C := by
  unfold k0_pay2 zed modulated eps
  pointwise

theorem pay5_at (v0 : Vec Ideal S128x1024 .f32) (v11 : Vec Ideal S1x1024 .f32) (v14 v18 : Vec Ideal S128x1024 .f32) (v21 : Vec Ideal S1024x2432 .bf16)
    (R : Fin 128) (i : Fin 512) :
    (k0_pay5 (F := Ideal) v0 v11 v14 v18 v21 (ix2 R i) : EReal) = gelu (zed v0 v11 v18 v14 v21 R ⟨512 + i.val, by omega⟩) := by
  rw [← gelu_of, ← pay2_at]
  unfold k0_pay5 k0_pay3
  pointwise

theorem pay6_eq (v39 : Vec Ideal S512x512 .bf16) (k i : Fin 512) : (k0_pay6 (F := Ideal) v39 (ix2 k i) : EReal) = v39 (ix2 k i) := by
  unfold k0_pay6
  pointwise

theorem pay7_at (v38 : FVec Ideal S128x512 .f32) (v39 : Vec Ideal S512x512 .bf16) (R : Fin 128) (T : ℕ → EReal)
    (eT : ∀ k : Fin 512, (v38 (ix2 R k) : EReal) = T k.val) (hT : ∀ k < 512, IsR (T k))
    (eb : ∀ k i : Fin 512, (v39 (ix2 k i) : EReal) = if k.val / 64 = i.val / 64 then ((1 / 64 : ℝ) : EReal) else 0) (i : Fin 512) :
    (k0_pay7 (F := Ideal) v38 v39 (ix2 R i) : EReal) = layered T i.val := by
  have hi := i.isLt
  have hm : ∀ k : Fin 512, (∑ x : Fin 512, T x.val * v39 (ix2 x k)) + (∑ x : Fin 512, (T x.val - T x.val) * v39 (ix2 x k)) = mean T (k.val / 64) :=
    fun k => mean_fin T hT (fun x => v39 (ix2 x k)) (by have := k.isLt; omega) fun x => eb x k
  unfold k0_pay7
  pointwise
  simp only [pay6_eq, eT, hm]
  unfold layered
  rw [← mean_fin (fun k => centred T k * centred T k) (n := 512) (fun k hk => (isR_centred T hT (by omega)).mul (isR_centred T hT (by omega)))
    (fun x => v39 (ix2 x i)) (by omega : i.val / 64 * 64 + 64 ≤ 512) fun x => eb x i]
  rfl

theorem pay36_at : ∀ i : Fin 128, k0_pay11 k0_pay10 32#32 (ix2 (0 : Fin 1) i) = BitVec.ofBool (decide (i.val % 64 < 32)) := by
  decide +kernel

/-- Of two rotations of a row of 128 numbers, the one whose number comes from the same head. -/
theorem partner (f : Fin 128 → EReal) (N : ℕ → EReal) (ef : ∀ i : Fin 128, f i = N i.val) (b : BitVec 1) (i : Fin 128)
    (eb : b = BitVec.ofBool (decide (i.val % 64 < 32))) (h h' : _) :
    Scalar.select b (f ⟨(i.val + 128 - 96) % 128, h⟩) (f ⟨(i.val + 128 - 32) % 128, h'⟩) = if i.val % 64 < 32 then N (i.val + 32) else N (i.val - 32) := by
  have hi := i.isLt
  rw [eb, select_ofBool, ef, ef]
  by_cases h : i.val % 64 < 32
  · rw [if_pos h, if_pos h]
    exact congrArg N (by dsimp only; omega)
  · rw [if_neg h, if_neg h]
    exact congrArg N (by dsimp only; omega)

section Branch
variable (v22 : FVec Ideal S128x2432 .f32) (v62 v64 : FVec Ideal S1x128 .f32) (v83 : IVec S1x128 1) (v156 v157 : Vec Ideal S128x128 .bf16) (g1 : Vec Ideal S1x128 .f32)
  (R : Fin 128) (Z g cs sn : ℕ → EReal)
  (eZ : ∀ k : Fin 2432, (v22 (ix2 R k) : EReal) = Z k.val) (hZ : ∀ k < 2432, IsR (Z k))
  (eg : ∀ i : Fin 128, (g1 (ix2 (0 : Fin 1) i) : EReal) = g i.val)
  (ec : ∀ i : Fin 128, (v62 (ix2 (0 : Fin 1) i) : EReal) = if i.val % 64 < 32 then cs (i.val % 64) else cs (i.val % 64 - 32))
  (es : ∀ i : Fin 128, (v64 (ix2 (0 : Fin 1) i) : EReal) = if i.val % 64 < 32 then -sn (i.val % 64) else sn (i.val % 64 - 32))
  (em : ∀ i : Fin 128, v83 (ix2 (0 : Fin 1) i) = BitVec.ofBool (decide (i.val % 64 < 32)))
  (eb : ∀ k i : Fin 128, (v156 (ix2 k i) : EReal) = if k.val / 64 = i.val / 64 then ((1 / 64 : ℝ) : EReal) else 0)

include eZ

theorem pay18_at (i : Fin 128) : (k0_pay18 (F := Ideal) v22 (ix2 R i) : EReal) = Z (1536 + i.val) := by
  refine Eq.trans ?_ (eZ ⟨1536 + i.val, by omega⟩)
  unfold k0_pay18
  pointwise

theorem pay19_at (i : Fin 128) : (k0_pay19 (F := Ideal) v22 (ix2 R i) : EReal) = Z (1536 + (128 + i.val)) := by
  refine Eq.trans ?_ (eZ ⟨1536 + (128 + i.val), by omega⟩)
  unfold k0_pay19
  pointwise
  exact congrArg (fun j : Fin 2432 => v22 (ix2 R j)) (Fin.ext (by dsimp only; omega))

theorem pay22_at (i : Fin 128) : (k0_pay22 (F := Ideal) v22 (ix2 R i) : EReal) = Z (1792 + (128 + i.val)) := by
  refine Eq.trans ?_ (eZ ⟨1792 + (128 + i.val), by omega⟩)
  unfold k0_pay22
  pointwise
  exact congrArg (fun j : Fin 2432 => v22 (ix2 R j)) (Fin.ext (by dsimp only; omega))

include hZ eb

theorem pay20_at (i : Fin 128) :
    (k0_pay20 (F := Ideal) v22 v156 (ix2 R i) : EReal) = mean (fun k => Z (1536 + k) * Z (1536 + k)) (i.val / 64) := by
  have hi := i.isLt
  rw [← mean_fin (fun k => Z (1536 + k) * Z (1536 + k)) (n := 128) (fun k hk => (hZ _ (by omega)).mul (hZ _ (by omega)))
    (fun x => v156 (ix2 x i)) (by omega : i.val / 64 * 64 + 64 ≤ 128) fun x => eb x i]
  have e17 : ∀ x : Fin 128, (k0_pay17 (F := Ideal) v156 (ix2 x i) : EReal) = v156 (ix2 x i) := fun x => by
    unfold k0_pay17
    pointwise
  unfold k0_pay20
  pointwise
  simp only [pay18_at v22 R Z eZ, e17]

include eg

theorem pay23_at (i : Fin 128) :
    (k0_pay23 (F := Ideal) v22 (k0_pay17 (F := Ideal) v156) g1 (ix2 R i) : EReal) = normed (fun k => Z (1792 + k)) g i.val := by
  have hi := i.isLt
  have e17 : ∀ x : Fin 128, (k0_pay17 (F := Ideal) v156 (ix2 x i) : EReal) = v156 (ix2 x i) := fun x => by
    unfold k0_pay17
    pointwise
  have eK : ∀ x : Fin 128, (v22 (ix2 R (⟨1792 + x.val, by omega⟩ : Fin 2432)) : EReal) = Z (1792 + x.val) := fun x => eZ _
  refine Eq.trans (b := Z (1792 + i.val) * Ideal.rsqrt (mean (fun k => Z (1792 + k) * Z (1792 + k)) (i.val / 64) + eps) * g i.val) ?_ rfl
  rw [← mean_fin (fun k => Z (1792 + k) * Z (1792 + k)) (n := 128) (fun k hk => (hZ _ (by omega)).mul (hZ _ (by omega)))
    (fun x => v156 (ix2 x i)) (by omega : i.val / 64 * 64 + 64 ≤ 128) fun x => eb x i]
  unfold k0_pay23 eps
  pointwise
  simp only [e17, eK, eg]

include ec es em

theorem keys0_at (i : Fin 128) :
    (k0_pay21 (F := Ideal) v62 v64 v83 (k0_pay18 (F := Ideal) v22) (k0_pay20 (F := Ideal) v22 v156) (Scalar.ofBits .f32 0x358637BD#32) g1 (ix2 R i) : EReal)
      = turned (normed (fun k => Z (1536 + k)) g) cs sn i.val := by
  have en : ∀ j : Fin 128, (k0_pay18 (F := Ideal) v22 (ix2 R j) : EReal)
      * Ideal.rsqrt ((k0_pay20 (F := Ideal) v22 v156 (ix2 R j) : EReal) + Ideal.ofBits .f32 897988541#32) * g1 (ix2 (0 : Fin 1) j)
        = normed (fun k => Z (1536 + k)) g j.val := fun j => by
    rw [pay18_at v22 R Z eZ, pay20_at v22 v156 R Z eZ hZ eb, eg]
    rfl
  rw [← turn, ← partner _ _ en _ i (em i) (Nat.mod_lt _ (by decide)) (Nat.mod_lt _ (by decide)), ← en i, ← ec, ← es]
  unfold k0_pay21
  pointwise

theorem keys1_at (i : Fin 128) :
    (k0_pay26 (F := Ideal) v64 (k0_pay24 (F := Ideal) v22 v83 (k0_pay17 (F := Ideal) v156) g1) (k0_pay25 (F := Ideal) v22 v62 (k0_pay17 (F := Ideal) v156) g1) (ix2 R i) : EReal)
      = turned (normed (fun k => Z (1792 + k)) g) cs sn i.val := by
  have en : ∀ j : Fin 128, (k0_pay23 (F := Ideal) v22 (k0_pay17 (F := Ideal) v156) g1 (ix2 R j) : EReal) = normed (fun k => Z (1792 + k)) g j.val :=
    pay23_at v22 v156 g1 R Z g eZ hZ eg eb
  rw [← turn, ← partner _ _ en _ i (em i) (Nat.mod_lt _ (by decide)) (Nat.mod_lt _ (by decide)), ← en i, ← ec, ← es]
  unfold k0_pay26 k0_pay25 k0_pay24
  generalize k0_pay23 (F := Ideal) v22 (k0_pay17 (F := Ideal) v156) g1 = N
  pointwise

end Branch

variable (m : (ℓ : Loc nD τ sig) → Buf (Elt Ideal) ℓ)

/-- The matrix that takes the means. -/
theorem host_bd (c : Dev nD) (n s : Fin 512) :
    (V m c main_v12 : S512x512.Idx → EReal) (ix2 n s) = (if n.val / 64 = s.val / 64 then ((1 / 64 : ℝ) : EReal) else 0) := by
  unfold V
  simp only [List.flatten_cons, List.flatten_nil, List.append_nil, List.cons_append, List.nil_append]
  after_reads_at
  have hn := n.isLt
  have hs := s.isLt
  rw [← part_bits]
  simp (disch := omega) only [ofNat_W, divsi_W, eq_W, select_ofBool]
  exact if_congr (by omega) rfl rfl

/-- The cosines, as launched. -/
def kcos (c : Dev nD) : FVec Ideal S1x32 .f32 := m ((c : Thread nD τ).loc main_arg5)
/-- The sines, as launched. -/
def ksin (c : Dev nD) : FVec Ideal S1x32 .f32 := m ((c : Thread nD τ).loc main_arg6)

theorem host_cos (c : Dev nD) :
    (V m c main_v0 : S1x128.Idx → EReal)
      = concatenate S1x128 1 [⟨S1x32, kcos m c⟩, ⟨S1x32, kcos m c⟩, ⟨S1x32, kcos m c⟩, ⟨S1x32, kcos m c⟩] concatenates_S1x32_S1x32_S1x32_S1x32_S1x128_d1 := by
  unfold V
  simp only [List.flatten_cons, List.flatten_nil, List.append_nil, List.cons_append, List.nil_append]
  after_reads_simp
  rfl

theorem host_sin (c : Dev nD) :
    (V m c main_v3 : S1x128.Idx → EReal)
      = concatenate S1x128 1 [⟨S1x32, Host.negf (ksin m c)⟩, ⟨S1x32, ksin m c⟩, ⟨S1x32, Host.negf (ksin m c)⟩, ⟨S1x32, ksin m c⟩] concatenates_S1x32_S1x32_S1x32_S1x32_S1x128_d1 := by
  unfold V
  simp only [List.flatten_cons, List.flatten_nil, List.append_nil, List.cons_append, List.nil_append]
  after_reads_simp
  rfl

/-- Four tables of 32 numbers side by side. -/
theorem pick (A B : Fin 32 → EReal) (a b : ℕ → EReal) (eA : ∀ j : Fin 32, A j = a j.val) (eB : ∀ j : Fin 32, B j = b j.val) (i : ℕ) (hi : i < 128) (p : _) :
    (if h : i < 32 then A ⟨i, h⟩ else if h : i - 32 < 32 then B ⟨i - 32, h⟩ else if h : i - 32 - 32 < 32 then A ⟨i - 32 - 32, h⟩ else B ⟨i - 32 - 32 - 32, p⟩)
      = if i % 64 < 32 then a (i % 64) else b (i % 64 - 32) := by
  by_cases h1 : i < 32
  · rw [dif_pos h1, if_pos (by omega), eA]
    exact congrArg a (by dsimp only; omega)
  · rw [dif_neg h1]
    by_cases h2 : i - 32 < 32
    · rw [dif_pos h2, if_neg (by omega), eB]
      exact congrArg b (by dsimp only; omega)
    · rw [dif_neg h2]
      by_cases h3 : i - 32 - 32 < 32
      · rw [dif_pos h3, if_pos (by omega), eA]
        exact congrArg a (by dsimp only; omega)
      · rw [dif_neg h3, if_neg (by omega), eB]
        exact congrArg b (by dsimp only; omega)

theorem cos_at (c : Dev nD) (i : Fin 128) :
    (V m c main_v0 : S1x128.Idx → EReal) (ix2 (0 : Fin 1) i)
      = if i.val % 64 < 32 then at2 (n := 1) (m := 32) (kcos m c) 0 (i.val % 64) else at2 (n := 1) (m := 32) (kcos m c) 0 (i.val % 64 - 32) := by
  rw [host_cos]
  generalize kcos m c = X
  have hi := i.isLt
  refine Eq.trans ?_ (pick (fun j => X (ix2 (0 : Fin 1) j)) (fun j => X (ix2 (0 : Fin 1) j)) (at2 (n := 1) (m := 32) X 0) (at2 (n := 1) (m := 32) X 0)
    (fun j => (at2_of (n := 1) (m := 32) X 0 j)) (fun j => (at2_of (n := 1) (m := 32) X 0 j)) i.val hi (by omega))
  pointwise

theorem sin_at (c : Dev nD) (i : Fin 128) :
    (V m c main_v3 : S1x128.Idx → EReal) (ix2 (0 : Fin 1) i)
      = if i.val % 64 < 32 then -at2 (n := 1) (m := 32) (ksin m c) 0 (i.val % 64) else at2 (n := 1) (m := 32) (ksin m c) 0 (i.val % 64 - 32) := by
  rw [host_sin]
  generalize ksin m c = X
  have hi := i.isLt
  refine Eq.trans ?_ (pick (fun j => -X (ix2 (0 : Fin 1) j)) (fun j => X (ix2 (0 : Fin 1) j)) (fun k => -at2 (n := 1) (m := 32) X 0 k) (at2 (n := 1) (m := 32) X 0)
    (fun j => congrArg (fun x : EReal => -x) (at2_of (n := 1) (m := 32) X 0 j)) (fun j => (at2_of (n := 1) (m := 32) X 0 j)) i.val hi (by omega))
  pointwise

/-- The rows, as launched. -/
def kx (c : Dev nD) : S128x1024.Idx → EReal := m ((c : Thread nD τ).loc main_arg0)
/-- The row's gains, as launched. -/
def kng (c : Dev nD) : S1x1024.Idx → EReal := m ((c : Thread nD τ).loc main_arg1)
/-- The shift, as launched. -/
def ksh (c : Dev nD) : S128x1024.Idx → EReal := m ((c : Thread nD τ).loc main_arg2)
/-- The scale, as launched. -/
def ksc (c : Dev nD) : S128x1024.Idx → EReal := m ((c : Thread nD τ).loc main_arg3)
/-- The weights, as launched. -/
def kw (c : Dev nD) : S1024x2432.Idx → EReal := m ((c : Thread nD τ).loc main_arg4)
/-- The keys' gains, as launched. -/
def kkg (c : Dev nD) : S3x128.Idx → EReal := m ((c : Thread nD τ).loc main_arg8)

/-- Every window is whole. -/
theorem whole_index : ∀ t : Fin cfg0.N, (win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0])
    ∧ win0_9.index t = ![0, 0] ∧ win0_14.index t = ![0, 0] ∧ win0_15.index t = ![0, 0] ∧ win0_18.index t = ![0, 0] :=
  (by decide +kernel : ∀ t : Fin grid0.N, _)

theorem blk0 (c : Dev nD) (t : Fin cfg0.N) : (iblk m c 0 t : S128x1024.Idx → EReal) = kx m c := by
  refine funext fun j => ?_
  obtain ⟨a, i, rfl⟩ : ∃ (a : Fin 128) (i : Fin 1024), j = ix2 a i := ⟨j 0, j 1, eq_ix2 j⟩
  have e := (whole_index t).1.1
  blk_simp [iblk]
  rw [V_main_arg0]
  unfold kx
  refine congrArg _ ?_
  blk_ext [e]

theorem blk1 (c : Dev nD) (t : Fin cfg0.N) : (iblk m c 1 t : S1x1024.Idx → EReal) = kng m c := by
  refine funext fun j => ?_
  obtain ⟨a, i, rfl⟩ : ∃ (a : Fin 1) (i : Fin 1024), j = ix2 a i := ⟨j 0, j 1, eq_ix2 j⟩
  have e := (whole_index t).1.2.1
  blk_simp [iblk]
  rw [V_main_arg1]
  unfold kng
  refine congrArg _ ?_
  blk_ext [e]

theorem blk2 (c : Dev nD) (t : Fin cfg0.N) : (iblk m c 2 t : S128x1024.Idx → EReal) = ksh m c := by
  refine funext fun j => ?_
  obtain ⟨a, i, rfl⟩ : ∃ (a : Fin 128) (i : Fin 1024), j = ix2 a i := ⟨j 0, j 1, eq_ix2 j⟩
  have e := (whole_index t).1.2.2.1
  blk_simp [iblk]
  rw [V_main_arg2]
  unfold ksh
  refine congrArg _ ?_
  blk_ext [e]

theorem blk3 (c : Dev nD) (t : Fin cfg0.N) : (iblk m c 3 t : S128x1024.Idx → EReal) = ksc m c := by
  refine funext fun j => ?_
  obtain ⟨a, i, rfl⟩ : ∃ (a : Fin 128) (i : Fin 1024), j = ix2 a i := ⟨j 0, j 1, eq_ix2 j⟩
  have e := (whole_index t).1.2.2.2.1
  blk_simp [iblk]
  rw [V_main_arg3]
  unfold ksc
  refine congrArg _ ?_
  blk_ext [e]

theorem blk4 (c : Dev nD) (t : Fin cfg0.N) : (iblk m c 4 t : S1024x2432.Idx → EReal) = kw m c := by
  refine funext fun j => ?_
  obtain ⟨a, i, rfl⟩ : ∃ (a : Fin 1024) (i : Fin 2432), j = ix2 a i := ⟨j 0, j 1, eq_ix2 j⟩
  have e := (whole_index t).1.2.2.2.2.1
  blk_simp [iblk]
  rw [V_main_arg4]
  unfold kw
  refine congrArg _ ?_
  blk_ext [e]

theorem blk9 (c : Dev nD) (t : Fin cfg0.N) : (iblk m c 9 t : S3x128.Idx → EReal) = kkg m c := by
  refine funext fun j => ?_
  obtain ⟨a, i, rfl⟩ : ∃ (a : Fin 3) (i : Fin 128), j = ix2 a i := ⟨j 0, j 1, eq_ix2 j⟩
  have e := (whole_index t).2.1
  blk_simp [iblk]
  rw [V_main_arg8]
  unfold kkg
  refine congrArg _ ?_
  blk_ext [e]

theorem blk5 (c : Dev nD) (t : Fin cfg0.N) (i : Fin 128) :
    (iblk m c 5 t : S1x128.Idx → EReal) (ix2 (0 : Fin 1) i) = if i.val % 64 < 32 then at2 (n := 1) (m := 32) (kcos m c) 0 (i.val % 64) else at2 (n := 1) (m := 32) (kcos m c) 0 (i.val % 64 - 32) := by
  have e := (whole_index t).1.2.2.2.2.2.1
  refine Eq.trans ?_ (cos_at m c i)
  blk_simp [iblk]
  refine congrArg _ ?_
  blk_ext [e]

theorem blk6 (c : Dev nD) (t : Fin cfg0.N) (i : Fin 128) :
    (iblk m c 6 t : S1x128.Idx → EReal) (ix2 (0 : Fin 1) i) = if i.val % 64 < 32 then -at2 (n := 1) (m := 32) (ksin m c) 0 (i.val % 64) else at2 (n := 1) (m := 32) (ksin m c) 0 (i.val % 64 - 32) := by
  have e := (whole_index t).1.2.2.2.2.2.2.1
  refine Eq.trans ?_ (sin_at m c i)
  blk_simp [iblk]
  refine congrArg _ ?_
  blk_ext [e]

theorem blk7 (c : Dev nD) (t : Fin cfg0.N) (k i : Fin 512) :
    (iblk m c 7 t : S512x512.Idx → EReal) (ix2 k i) = if k.val / 64 = i.val / 64 then ((1 / 64 : ℝ) : EReal) else 0 := by
  have e := (whole_index t).1.2.2.2.2.2.2.2
  refine Eq.trans ?_ (host_bd m c k i)
  blk_simp [iblk]
  refine congrArg _ ?_
  blk_ext [e]

/-- The projected rows. -/
def kz (c : Dev nD) : S128x2432.Idx → EReal := fun j => zed (kx m c) (kng m c) (ksh m c) (ksc m c) (kw m c) (j 0) (j 1)

/-- The projected rows are real numbers. -/
def Real (c : Dev nD) : Prop := ∀ R < 128, ∀ C < 2432, IsR (at2 (n := 128) (m := 2432) (kz m c) R C)

/-- The compressed branch's rows of keys and values. -/
def cmps (c : Dev nD) : S128x256.Idx → EReal := fun j =>
  branch (at2 (n := 128) (m := 2432) (kz m c) (j 0).val) 1536 (at2 (n := 3) (m := 128) (kkg m c) 0) (at2 (n := 1) (m := 32) (kcos m c) 0)
    (at2 (n := 1) (m := 32) (ksin m c) 0) (j 1).val

/-- The selected branch's rows of keys and values. -/
def slcs (c : Dev nD) : S128x256.Idx → EReal := fun j =>
  branch (at2 (n := 128) (m := 2432) (kz m c) (j 0).val) 1792 (at2 (n := 3) (m := 128) (kkg m c) 1) (at2 (n := 1) (m := 32) (kcos m c) 0)
    (at2 (n := 1) (m := 32) (ksin m c) 0) (j 1).val

/-- The gated part's normalized groups. -/
def gated (c : Dev nD) : S128x512.Idx → EReal := fun j =>
  layered (fun k => gelu (at2 (n := 128) (m := 2432) (kz m c) (j 0).val (512 + k))) (j 1).val

theorem zero_off : (![0, 0] : Fin 2 → ℕ) = fun _ => 0 := by funext a; fin_cases a <;> rfl

/-- Two stores side by side. -/
theorem sides (p0 p1 : FVec Ideal S128x128 .f32) (f : ℕ → EReal) (a : Fin 128) (h1 : ∀ i : Fin 128, (p1 (ix2 a i) : EReal) = f i.val)
    (h0 : ∀ i : Fin 128, (p0 (ix2 a i) : EReal) = f (128 + i.val)) (C : Fin 256) :
    (View.canon ([⟨r0_13, p0⟩, ⟨r0_12, p1⟩] : List (View.Piece (Elt Ideal) S128x256 .f32)) (ix2 a C) : EReal) = f C.val := by
  refine View.canon_eq_of_allAt _ _ _ (cover0_14 (F := Ideal) p0 p1 (ix2 a C)) (View.allAt_cons_unit _ _ _ _ _ (fun x hx => ?_)
    (View.allAt_cons_unit _ _ _ _ _ (fun x hx => ?_) fun p hp => absurd hp List.not_mem_nil))
  · obtain ⟨b, i, rfl⟩ : ∃ (b : Fin 128) (i : Fin 128), x = ix2 b i := ⟨x 0, x 1, eq_ix2 x⟩
    have hb : a = b := Fin.ext ((hx 0).trans (Nat.zero_add _))
    have hc : C.val = 128 + i.val := hx 1
    subst hb
    rw [hc]
    exact h0 i
  · obtain ⟨b, i, rfl⟩ : ∃ (b : Fin 128) (i : Fin 128), x = ix2 b i := ⟨x 0, x 1, eq_ix2 x⟩
    have hb : a = b := Fin.ext ((hx 0).trans (Nat.zero_add _))
    have hc : C.val = i.val := (hx 1).trans (Nat.zero_add _)
    subst hb
    rw [hc]
    exact h1 i

/-- The corner of the matrix. -/
theorem corner_at (x : S512x512.Idx → EReal) (k i : Fin 128) :
    (View.ld (Val := Elt Ideal) (e' := .bf16) x r0_10 : S128x128.Idx → EReal) (ix2 k i) = x (ix2 (⟨k.val, by omega⟩ : Fin 512) (⟨i.val, by omega⟩ : Fin 512)) :=
  Cert.FfnIdeal.Kernel.ld_part (S := S512x512) (e := .bf16) ![0, 0] S128x128.size inb_S512x512_S128x128_0_0 x (ix2 k i) _ (fun b => by fin_cases b <;> exact (Nat.zero_add _).symm)

/-- A row of the keys' gains. -/
theorem gain_at (x : S3x128.Idx → EReal) (i : Fin 128) :
    (View.ld (Val := Elt Ideal) (e' := .f32) x r0_11 : S1x128.Idx → EReal) (ix2 (0 : Fin 1) i) = at2 (n := 3) (m := 128) x 0 i.val
      ∧ (View.ld (Val := Elt Ideal) (e' := .f32) x r0_14 : S1x128.Idx → EReal) (ix2 (0 : Fin 1) i) = at2 (n := 3) (m := 128) x 1 i.val := by
  rw [at2_mk (n := 3) (m := 128) x (by omega : 0 < 3) i.isLt, at2_mk (n := 3) (m := 128) x (by omega : 1 < 3) i.isLt]
  exact ⟨Cert.FfnIdeal.Kernel.ld_part (S := S3x128) (e := .f32) ![0, 0] S1x128.size inb_S3x128_S1x128_0_0 x (ix2 (0 : Fin 1) i) _ (fun b => by fin_cases b <;> first | exact (Nat.zero_add _).symm | rfl),
    Cert.FfnIdeal.Kernel.ld_part (S := S3x128) (e := .f32) ![1, 0] S1x128.size inb_S3x128_S1x128_1_0 x (ix2 (0 : Fin 1) i) _ (fun b => by fin_cases b <;> first | exact (Nat.zero_add _).symm | rfl)⟩

theorem pay8_at (v : Vec Ideal S1x128 .f32) (i : Fin 128) : (k0_pay8 (F := Ideal) v (ix2 (0 : Fin 1) i) : EReal) = v (ix2 (0 : Fin 1) i) := by
  unfold k0_pay8
  pointwise

theorem pay9_at (v : Vec Ideal S1x128 .f32) (i : Fin 128) : (k0_pay9 (F := Ideal) v (ix2 (0 : Fin 1) i) : EReal) = v (ix2 (0 : Fin 1) i) := by
  unfold k0_pay9
  pointwise

section Blocks
variable (x0 : Vec Ideal S128x1024 .f32) (x1 : Vec Ideal S1x1024 .f32) (x2 x3 : Vec Ideal S128x1024 .f32) (x4 : Vec Ideal S1024x2432 .bf16) (x7 : Vec Ideal S512x512 .bf16)
  (X : S128x1024.Idx → EReal) (G : S1x1024.Idx → EReal) (SH SC : S128x1024.Idx → EReal) (W : S1024x2432.Idx → EReal)
  (e0 : x0 = X) (e1 : x1 = G) (e2 : x2 = SH) (e3 : x3 = SC) (e4 : x4 = W)

include e0 e1 e2 e3 e4

theorem zed_of (a : Fin 128) (C : Fin 2432) :
    (k0_pay2 (F := Ideal) (View.ld x0 r0_0) (View.ld x1 r0_1) (View.ld x3 r0_0) (View.ld x2 r0_0) (View.ld x4 r0_2) (ix2 a C) : EReal)
      = zed X G SH SC W a C := by
  subst e0 e1 e2 e3 e4
  rw [View.ld_unit_zero (S := S128x1024) zero_off _ x0, View.ld_unit_zero (S := S1x1024) zero_off _ x1, View.ld_unit_zero (S := S128x1024) zero_off _ x3,
    View.ld_unit_zero (S := S128x1024) zero_off _ x2, View.ld_unit_zero (S := S1024x2432) zero_off _ x4, pay2_at]

theorem gated_of (eb : ∀ k i : Fin 512, (x7 (ix2 k i) : EReal) = if k.val / 64 = i.val / 64 then ((1 / 64 : ℝ) : EReal) else 0) (a : Fin 128)
    (Z : ℕ → EReal) (eZ : ∀ C : Fin 2432, zed X G SH SC W a C = Z C.val) (hZ : ∀ k < 2432, IsR (Z k)) (i : Fin 512) :
    (k0_pay7 (F := Ideal) (k0_pay5 (F := Ideal) (View.ld x0 r0_0) (View.ld x1 r0_1) (View.ld x3 r0_0) (View.ld x2 r0_0) (View.ld x4 r0_2)) (View.ld x7 r0_3) (ix2 a i) : EReal)
      = layered (fun k => gelu (Z (512 + k))) i.val := by
  subst e0 e1 e2 e3 e4
  rw [View.ld_unit_zero (S := S128x1024) zero_off _ x0, View.ld_unit_zero (S := S1x1024) zero_off _ x1, View.ld_unit_zero (S := S128x1024) zero_off _ x3,
    View.ld_unit_zero (S := S128x1024) zero_off _ x2, View.ld_unit_zero (S := S1024x2432) zero_off _ x4, View.ld_unit_zero (S := S512x512) zero_off _ x7]
  refine pay7_at _ _ a _ (fun k => ?_) (fun k hk => isR_gelu (hZ _ (by omega))) eb i
  rw [pay5_at]
  exact congrArg gelu (eZ ⟨512 + k.val, by omega⟩)

end Blocks

/-- What the grid's point projects. -/
theorem block_zed (c : Dev nD) (t : Fin cfg0.N) (a : Fin 128) (C : Fin 2432) :
    (k0_pay2 (F := Ideal) (View.ld (iblk m c 0 t) r0_0) (View.ld (iblk m c 1 t) r0_1) (View.ld (iblk m c 3 t) r0_0) (View.ld (iblk m c 2 t) r0_0)
        (View.ld (iblk m c 4 t) r0_2) (ix2 a C) : EReal)
      = at2 (n := 128) (m := 2432) (kz m c) a.val C.val :=
  (zed_of _ _ _ _ _ _ _ _ _ _ (blk0 m c t) (blk1 m c t) (blk2 m c t) (blk3 m c t) (blk4 m c t) a C).trans
    (at2_of (n := 128) (m := 2432) (kz m c) a C)

/-- What the kernel leaves of the compressed branch. -/
theorem final14 (c : Dev nD) (hR : Real m c) : (dats m 0 c).arrAt 14 cfg0.N = cmps m c := by
  refine (dats m 0 c).arrAt_eq_of_covers 14 (cmps m c) (by decide +kernel) fun t hf y => ?_
  obtain ⟨a, C, rfl⟩ : ∃ (a : Fin 128) (C : Fin 256), y = ix2 a C := ⟨y 0, y 1, eq_ix2 y⟩
  have ha := a.isLt
  blk_simp
  rw [after0_14]
  unfold_out out0_14
  have e : (win0_14.blk t).view.emb (ix2 a C) = ix2 a C := by
    have e := (whole_index t).2.2.1
    blk_ext [e]
  refine Eq.trans ?_ (congrArg (cmps m c) e.symm)
  refine sides _ _ (branch (at2 (n := 128) (m := 2432) (kz m c) a.val) 1536 (at2 (n := 3) (m := 128) (kkg m c) 0) (at2 (n := 1) (m := 32) (kcos m c) 0)
    (at2 (n := 1) (m := 32) (ksin m c) 0)) a (fun i => ?_) (fun i => ?_) C
  · have hi := i.isLt
    refine (keys0_at _ _ _ _ _ _ a (at2 (n := 128) (m := 2432) (kz m c) a.val) (at2 (n := 3) (m := 128) (kkg m c) 0) (at2 (n := 1) (m := 32) (kcos m c) 0)
      (at2 (n := 1) (m := 32) (ksin m c) 0) (block_zed m c t a) (hR _ ha) (fun i => ?_) (fun i => ?_) (fun i => ?_) pay36_at (fun k i => ?_) i).trans (if_pos hi).symm
    · rw [(gain_at _ i).1]
      exact congrArg (fun x => at2 (n := 3) (m := 128) x 0 i.val) (blk9 m c t)
    · rw [View.ld_unit_zero (S := S1x128) zero_off _ (iblk m c 5 t), pay8_at]
      exact blk5 m c t i
    · rw [View.ld_unit_zero (S := S1x128) zero_off _ (iblk m c 6 t), pay9_at]
      exact blk6 m c t i
    · exact (corner_at _ k i).trans (blk7 m c t _ _)
  · refine (pay19_at _ a _ (block_zed m c t a) i).trans ?_
    exact (if_neg (by omega)).symm

/-- What the kernel leaves of the selected branch. -/
theorem final15 (c : Dev nD) (hR : Real m c) : (dats m 0 c).arrAt 15 cfg0.N = slcs m c := by
  refine (dats m 0 c).arrAt_eq_of_covers 15 (slcs m c) (by decide +kernel) fun t hf y => ?_
  obtain ⟨a, C, rfl⟩ : ∃ (a : Fin 128) (C : Fin 256), y = ix2 a C := ⟨y 0, y 1, eq_ix2 y⟩
  have ha := a.isLt
  blk_simp
  rw [after0_15]
  unfold_out out0_15
  have e : (win0_15.blk t).view.emb (ix2 a C) = ix2 a C := by
    have e := (whole_index t).2.2.2.1
    blk_ext [e]
  refine Eq.trans ?_ (congrArg (slcs m c) e.symm)
  refine sides _ _ (branch (at2 (n := 128) (m := 2432) (kz m c) a.val) 1792 (at2 (n := 3) (m := 128) (kkg m c) 1) (at2 (n := 1) (m := 32) (kcos m c) 0)
    (at2 (n := 1) (m := 32) (ksin m c) 0)) a (fun i => ?_) (fun i => ?_) C
  · have hi := i.isLt
    refine (keys1_at _ _ _ _ _ _ a (at2 (n := 128) (m := 2432) (kz m c) a.val) (at2 (n := 3) (m := 128) (kkg m c) 1) (at2 (n := 1) (m := 32) (kcos m c) 0)
      (at2 (n := 1) (m := 32) (ksin m c) 0) (block_zed m c t a) (hR _ ha) (fun i => ?_) (fun i => ?_) (fun i => ?_) pay36_at (fun k i => ?_) i).trans (if_pos hi).symm
    · rw [(gain_at _ i).2]
      exact congrArg (fun x => at2 (n := 3) (m := 128) x 1 i.val) (blk9 m c t)
    · rw [View.ld_unit_zero (S := S1x128) zero_off _ (iblk m c 5 t), pay8_at]
      exact blk5 m c t i
    · rw [View.ld_unit_zero (S := S1x128) zero_off _ (iblk m c 6 t), pay9_at]
      exact blk6 m c t i
    · exact (corner_at _ k i).trans (blk7 m c t _ _)
  · refine (pay22_at _ a _ (block_zed m c t a) i).trans ?_
    exact (if_neg (by omega)).symm

/-- What the kernel leaves of the gated part. -/
theorem final18 (c : Dev nD) (hR : Real m c) : (dats m 0 c).arrAt 18 cfg0.N = gated m c := by
  refine (dats m 0 c).arrAt_eq_of_covers 18 (gated m c) (by decide +kernel) fun t hf y => ?_
  obtain ⟨a, C, rfl⟩ : ∃ (a : Fin 128) (C : Fin 512), y = ix2 a C := ⟨y 0, y 1, eq_ix2 y⟩
  have ha := a.isLt
  blk_simp
  rw [after0_18]
  have e : (win0_18.blk t).view.emb (ix2 a C) = ix2 a C := by
    have e := (whole_index t).2.2.2.2
    blk_ext [e]
  refine Eq.trans ?_ (congrArg (gated m c) e.symm)
  unfold out0_18
  rw [View.canon_unit_zero zero_off]
  unfold k0_pay32
  exact gated_of _ _ _ _ _ _ _ _ _ _ _ (blk0 m c t) (blk1 m c t) (blk2 m c t) (blk3 m c t) (blk4 m c t) (blk7 m c t) a (at2 (n := 128) (m := 2432) (kz m c) a.val)
    (fun C => at2_of (n := 128) (m := 2432) (kz m c) a C) (hR _ ha) C

end Cert.PreIdeal.Kernel

end
-- ==== Proof.Sample.Finite.lean ====
/-
  The precondition as facts on the elements: the projected rows are real numbers.
-/
module

public import proofs.«01_k».proof.Proof.Gen.Pre_projected
public import proofs.«01_k».proof.Proof.Nsa.Finite
public import proofs.«01_k».proof.Proof.Sample.Spec
public import Idealize.ShloMosaic.Lib.Pointwise

@[expose] public section

set_option maxRecDepth 16384

noncomputable section

namespace Cert.Pre_projected.Read

open Idealize.ShloMosaic Idealize.ShloMosaic.TcCoe Idealize.SL.Sem
open Cert.Pre_projected Cert.Pre_projected.Facts Cert.Attn Cert.Mix Cert.Proj
open Cert.Pre_finite.Read (real_of_lt top_f32)

instance : Subsingleton S_.Idx := ⟨fun a b => funext fun i => i.elim0⟩

variable [Cert.Pre_projected.Facts]

theorem part (z : FVec Ideal S128x2432 .f32) (h : fn_part1 (F := Ideal) z = fun _ => 1#1) (i : S128x2432.Idx) : IsR (z i) := by
  have h := congrFun h ix0
  dsimp only [fn_part1] at h
  exact real_of_lt _ (top_f32 ▸ Host.reduce_andi_all _ _ _ _ _ h i)

/-- What the precondition says of the arrays. -/
theorem parts (x0 : FVec Ideal S128x1024 .f32) (x1 : FVec Ideal S1x1024 .f32) (x2 x3 : FVec Ideal S128x1024 .f32) (x4 : FVec Ideal S1024x2432 .bf16)
    (x5 x6 : FVec Ideal S1x32 .f32) (x7 : FVec Ideal S1x512 .f32) (x8 : FVec Ideal S3x128 .f32) (x9 x10 : FVec Ideal S1x512 .f32)
    (h : fn (F := Ideal) x0 x1 x2 x3 x4 x5 x6 x7 x8 x9 x10 = fun _ => 1#1) (R : Fin 128) (C : Fin 2432) : IsR (zed x0 x1 x2 x3 x4 R C) := by
  dsimp only [fn] at h
  have e := part _ h (ix2 R C)
  refine Eq.mp (congrArg IsR ?_) e
  unfold zed modulated eps
  pointwise

end Cert.Pre_projected.Read

end
-- ==== Proof.Sample.Claims.lean ====
/-
  The claims on the projection of the samples' rows: the frames, and that the kernel's three outputs are the reference's.
-/
module

public import proofs.«01_k».proof.Defs
public import proofs.«01_k».proof.Proof.Gen.Pre
public import proofs.«01_k».proof.Proof.Gen.Pre.Frame
public import proofs.«01_k».proof.Proof.Gen.PreIdeal
public import proofs.«01_k».proof.Proof.Gen.PreIdeal.Frame
public import proofs.«01_k».proof.Proof.Gen.PreIdeal.Value
public import proofs.«01_k».proof.Proof.Gen.RefPreIdeal
public import proofs.«01_k».proof.Proof.Gen.RefPreIdeal.Run
public import proofs.«01_k».proof.Proof.Gen.Pre_projected
public import proofs.«01_k».proof.Proof.Sample.Reference
public import proofs.«01_k».proof.Proof.Sample.Equation
public import proofs.«01_k».proof.Proof.Sample.Finite
public import Idealize.ShloMosaic.Lib.Claim

@[expose] public section

set_option maxRecDepth 16384

noncomputable section

namespace Cert.Proof.SampleClaims

open Idealize.ShloMosaic Idealize.ShloMosaic.TcCoe Idealize.SL.Sem Cert.Attn Cert.Mix Cert.Proj

/-- The kernel runs, leaves its arguments, and ends quiescent. -/
theorem frame_p : Cert.quiescent_Pre := fun m ρ _ => Cert.Pre.Gen.frame m ρ

/-- So does the idealized kernel, from a finite projection, -/
theorem frame_pi : Cert.quiescent_PreIdeal := fun m ρ _ => Cert.PreIdeal.Gen.frame m ρ

/-- and from any arrays. -/
theorem frame_pi_any : Cert.quiescent_PreIdeal_pre_none := fun m ρ _ => Cert.PreIdeal.Gen.frame m ρ

/-- The reference runs, leaves its arguments, and ends quiescent. -/
theorem frame_ri : Cert.quiescent_RefPreIdeal := fun m ρ _ =>
  (θ_run Cert.RefPreIdeal.defs _ _).mono (fun r h => ⟨fun c => (h c).2.2.2, sem_eq_zero_of_no_sems (by decide) r.2⟩)
    (Cert.RefPreIdeal.Value.run (F := Ideal) m ρ)

/-- No constant of the kernel is renamed. -/
theorem preserves : Cert.preserves_Pre_PreIdeal := trivial

/-- The projection the precondition speaks of is of real numbers. -/
theorem real_of_pre (m : (ℓ : Loc Cert.PreIdeal.nD Cert.PreIdeal.τ Cert.PreIdeal.sig) → Buf (Elt Ideal) ℓ) (h : Cert.Pre_PreIdeal m)
    (c : Dev Cert.PreIdeal.nD) : Cert.PreIdeal.Kernel.Real m c := by
  refine fun R hR C hC => ?_
  refine Eq.mpr (congrArg IsR (at2_mk (n := 128) (m := 2432) _ hR hC)) ?_
  exact Cert.Pre_projected.Read.parts _ _ _ _ _ _ _ _ _ _ _ (h c) ⟨R, hR⟩ ⟨C, hC⟩

/-- The reference's projected rows, of the kernel's arrays. -/
theorem same_rows (m : (ℓ : Loc Cert.PreIdeal.nD Cert.PreIdeal.τ Cert.PreIdeal.sig) → Buf (Elt Ideal) ℓ) (c : Dev Cert.PreIdeal.nD)
    (a0 : FVec Ideal Cert.RefPreIdeal.S128x1024 .f32) (a1 : FVec Ideal Cert.RefPreIdeal.S1x1024 .f32) (a2 a3 : FVec Ideal Cert.RefPreIdeal.S128x1024 .f32)
    (a4 : FVec Ideal Cert.RefPreIdeal.S1024x2432 .bf16)
    (e0 : a0 = m ((c.tc : Thread Cert.PreIdeal.nD Cert.PreIdeal.τ).loc Cert.PreIdeal.main_arg0))
    (e1 : a1 = m ((c.tc : Thread Cert.PreIdeal.nD Cert.PreIdeal.τ).loc Cert.PreIdeal.main_arg1))
    (e2 : a2 = m ((c.tc : Thread Cert.PreIdeal.nD Cert.PreIdeal.τ).loc Cert.PreIdeal.main_arg2))
    (e3 : a3 = m ((c.tc : Thread Cert.PreIdeal.nD Cert.PreIdeal.τ).loc Cert.PreIdeal.main_arg3))
    (e4 : a4 = m ((c.tc : Thread Cert.PreIdeal.nD Cert.PreIdeal.τ).loc Cert.PreIdeal.main_arg4)) :
    (Cert.RefPreIdeal.Read.zz a0 a1 a2 a3 a4 : Cert.PreIdeal.S128x2432.Idx → EReal) = Cert.PreIdeal.Kernel.kz m c := by
  subst e0 e1 e2 e3 e4
  refine funext fun j => ?_
  obtain ⟨R, C, rfl⟩ : ∃ (R : Fin 128) (C : Fin 2432), j = ix2 R C := ⟨j 0, j 1, eq_ix2 j⟩
  exact Cert.RefPreIdeal.Read.zz_at _ _ _ _ _ R C

/-- A branch's rows from equal arrays are equal. -/
theorem branch_same (o r : ℕ) (R i : ℕ) {Z Z' : Cert.PreIdeal.S128x2432.Idx → EReal} {g g' : Cert.PreIdeal.S3x128.Idx → EReal}
    {cs cs' sn sn' : Cert.PreIdeal.S1x32.Idx → EReal} (eZ : Z = Z') (eg : g = g') (ec : cs = cs') (es : sn = sn') :
    branch (at2 (n := 128) (m := 2432) Z R) o (at2 (n := 3) (m := 128) g r) (at2 (n := 1) (m := 32) cs 0) (at2 (n := 1) (m := 32) sn 0) i
      = branch (at2 (n := 128) (m := 2432) Z' R) o (at2 (n := 3) (m := 128) g' r) (at2 (n := 1) (m := 32) cs' 0) (at2 (n := 1) (m := 32) sn' 0) i := by
  subst eZ eg ec es
  rfl

/-- The gated part from equal projections is equal. -/
theorem gated_same (R i : ℕ) {Z Z' : Cert.PreIdeal.S128x2432.Idx → EReal} (eZ : Z = Z') :
    layered (fun k => gelu (at2 (n := 128) (m := 2432) Z R (512 + k))) i = layered (fun k => gelu (at2 (n := 128) (m := 2432) Z' R (512 + k))) i := by
  subst eZ
  rfl

/-- The kernel's outputs are the reference's, row by row and column by column. -/
theorem algebraic : Cert.algebraic_PreIdeal_RefPreIdeal := by
  intro m g m' g' hpre hargs
  refine ⟨fun c => Cert.PreIdeal.Kernel.cmps m c, fun c => Cert.PreIdeal.Kernel.slcs m c, fun c => Cert.PreIdeal.Kernel.gated m c, ?_, ?_⟩
  · refine (θ_run _ _ _).mono (fun r h c => ?_) (Cert.PreIdeal.Value.run_blocks m g)
    obtain ⟨-, -, h2, h3, -, -, h6, h7⟩ := h c
    exact ⟨h2.trans (Cert.PreIdeal.Kernel.final14 m c (real_of_pre m hpre c)), h3.trans (Cert.PreIdeal.Kernel.final15 m c (real_of_pre m hpre c)),
      h6.trans (Cert.PreIdeal.Kernel.final18 m c (real_of_pre m hpre c)), h7⟩
  · refine (θ_run _ _ _).mono (fun r h c => ⟨(h c).1.trans ?_, (h c).2.1.trans ?_, (h c).2.2.1.trans ?_, (h c).2.2.2⟩) (Cert.RefPreIdeal.Value.run (F := Ideal) m' g')
    · obtain ⟨e0, e1, e2, e3, e4, e5, e6, e7, e8, e9, e10⟩ := hargs c
      refine funext fun j => ?_
      obtain ⟨R, i, rfl⟩ : ∃ (R : Fin 128) (i : Fin 256), j = ix2 R i := ⟨j 0, j 1, eq_ix2 j⟩
      exact (Cert.RefPreIdeal.Read.cmp_at m' c R i).trans (branch_same 1536 0 R.val i.val (same_rows m c _ _ _ _ _ e0 e1 e2 e3 e4) e8 e5 e6)
    · obtain ⟨e0, e1, e2, e3, e4, e5, e6, e7, e8, e9, e10⟩ := hargs c
      refine funext fun j => ?_
      obtain ⟨R, i, rfl⟩ : ∃ (R : Fin 128) (i : Fin 256), j = ix2 R i := ⟨j 0, j 1, eq_ix2 j⟩
      exact (Cert.RefPreIdeal.Read.slc_at m' c R i).trans (branch_same 1792 1 R.val i.val (same_rows m c _ _ _ _ _ e0 e1 e2 e3 e4) e8 e5 e6)
    · obtain ⟨e0, e1, e2, e3, e4, e5, e6, e7, e8, e9, e10⟩ := hargs c
      refine funext fun j => ?_
      obtain ⟨R, i, rfl⟩ : ∃ (R : Fin 128) (i : Fin 512), j = ix2 R i := ⟨j 0, j 1, eq_ix2 j⟩
      exact (Cert.RefPreIdeal.Read.v_at m' c R i).trans (gated_same R.val i.val (same_rows m c _ _ _ _ _ e0 e1 e2 e3 e4))

end Cert.Proof.SampleClaims

end
-- ==== Proof.Prompt.Spec.lean ====
/-
  The projection of a prompt's rows: as that of the samples' rows, with one shift and one scale for each sequence.
-/
module

public import proofs.«01_k».proof.Proof.Sample.Spec

@[expose] public section

set_option maxRecDepth 16384

noncomputable section

namespace Cert.Proj

open Idealize.ShloMosaic Cert.Attn Cert.Softmax Cert.Mix

/-- Column `C` of the projected row `R` of a prompt. -/
def zedp (X : (⟨2, ![16384, 1024]⟩ : Shape).Idx → EReal) (G : (⟨2, ![1, 1024]⟩ : Shape).Idx → EReal) (SH SC : (⟨3, ![2, 1, 1024]⟩ : Shape).Idx → EReal)
    (W : (⟨2, ![1024, 2432]⟩ : Shape).Idx → EReal) (R : Fin 16384) (C : Fin 2432) : EReal :=
  ∑ x : Fin 1024, modulated (fun d => X (ix2 R d)) (G (ix2 (0 : Fin 1) x)) (SC (ix3 (⟨R.val / 8192, by omega⟩ : Fin 2) (0 : Fin 1) x))
    (SH (ix3 (⟨R.val / 8192, by omega⟩ : Fin 2) (0 : Fin 1) x)) x * W (ix2 x C)

end Cert.Proj

end
-- ==== Proof.Prompt.Reference.lean ====
/-
  The reference's results of the projection of a prompt's rows: three branches' rows of keys and values, one column for each
  token.
-/
module

public import proofs.«01_k».proof.Proof.Gen.RefPromptIdeal.Run
public import proofs.«01_k».proof.Proof.Prompt.Spec
public import Idealize.ShloMosaic.Lib.Pointwise

@[expose] public section

set_option maxRecDepth 16384

noncomputable section

namespace Cert.RefPromptIdeal.Read

open Idealize.ShloMosaic Idealize.ShloMosaic.TcCoe Idealize.SL.Sem
open Cert.RefPromptIdeal Cert.RefPromptIdeal.Gen Cert.Attn Cert.Mix Cert.Proj

/-- The normalized and modulated rows. -/
def hh (a0 : FVec Ideal S16384x1024 .f32) (a1 : FVec Ideal S1x1024 .f32) (a2 a3 : FVec Ideal S2x1x1024 .f32) : FVec Ideal S2x8192x1024 .f32 :=
  addf (mulf (mulf (mulf (shapeCast _ a0 shapeCasts_S16384x1024_S2x8192x1024) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (shapeCast _ a0 shapeCasts_S16384x1024_S2x8192x1024) (shapeCast _ a0 shapeCasts_S16384x1024_S2x8192x1024)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ a1 shapeCasts_S1x1024_S1024)))) (broadcastInDim S2x8192x1024 ![0, 1, 2] bcast_S2x1x1024_S2x8192x1024_0_1_2 (addf (broadcastInDim S2x1x1024 ![] bcast_S_S2x1x1024 (constant S_ .f32 0x3F800000#32)) a3))) (broadcastInDim S2x8192x1024 ![0, 1, 2] bcast_S2x1x1024_S2x8192x1024_0_1_2 a2)

theorem hh_at (a0 : FVec Ideal S16384x1024 .f32) (a1 : FVec Ideal S1x1024 .f32) (a2 a3 : FVec Ideal S2x1x1024 .f32) (b : Fin 2) (t : Fin 8192) (x : Fin 1024) :
    (hh a0 a1 a2 a3 (ix3 b t x) : EReal) = modulated (fun d => a0 (ix2 (⟨b.val * 8192 + t.val, by omega⟩ : Fin 16384) d)) (a1 (ix2 (0 : Fin 1) x)) (a3 (ix3 b (0 : Fin 1) x)) (a2 (ix3 b (0 : Fin 1) x)) x := by
  unfold hh modulated eps
  pointwise

/-- The projected rows. -/
def zz (a0 : FVec Ideal S16384x1024 .f32) (a1 : FVec Ideal S1x1024 .f32) (a2 a3 : FVec Ideal S2x1x1024 .f32) (a4 : FVec Ideal S1024x2432 .bf16) : FVec Ideal S16384x2432 .f32 :=
  Host.dotGeneral dot_S16384x1024_S1024x2432_S16384x2432_1_0_0_1_n_n none (shapeCast _ (hh a0 a1 a2 a3) shapeCasts_S2x8192x1024_S16384x1024) (extf .f32 a4 bitsLt_bf16_f32)

theorem zz_at (a0 : FVec Ideal S16384x1024 .f32) (a1 : FVec Ideal S1x1024 .f32) (a2 a3 : FVec Ideal S2x1x1024 .f32) (a4 : FVec Ideal S1024x2432 .bf16) (R : Fin 16384) (C : Fin 2432) :
    (zz a0 a1 a2 a3 a4 (ix2 R C) : EReal) = zedp a0 a1 a2 a3 a4 R C := by
  have hR := R.isLt
  unfold zz zedp
  pointwise
  refine Finset.sum_congr rfl fun x _ => ?_
  rw [hh_at]
  have e : (⟨R.val / 8192 * 8192 + R.val % 8192, by omega⟩ : Fin 16384) = R := Fin.ext (by dsimp only; omega)
  rw [e]

/-- A table for both sequences. -/
def twice (a : FVec Ideal S8192x32 .f32) : FVec Ideal S16384x32 .f32 :=
  concatenate S16384x32 0 [⟨S8192x32, a⟩, ⟨S8192x32, a⟩] concatenates_S8192x32_S8192x32_S16384x32_d0

theorem twice_at (a : FVec Ideal S8192x32 .f32) (R : Fin 16384) (j : Fin 32) :
    (twice a (ix2 R j) : EReal) = a (ix2 (⟨R.val % 8192, by omega⟩ : Fin 8192) j) := by
  have hR := R.isLt
  unfold twice
  pointwise
  by_cases h : R.val < 8192
  · rw [dif_pos h]
    exact congrArg (fun r : Fin 8192 => a (ix2 r j)) (Fin.ext (by dsimp only; omega))
  · rw [dif_neg h]
    exact congrArg (fun r : Fin 8192 => a (ix2 r j)) (Fin.ext (by dsimp only; omega))

/-- The normalized keys of two heads. -/
def nk (K : FVec Ideal S16384x2x64 .f32) (KG : FVec Ideal S128 .f32) : FVec Ideal S16384x2x64 .f32 :=
  mulf (mulf K (broadcastInDim S16384x2x64 ![0, 1, 2] bcast_S16384x2x1_S16384x2x64_0_1_2 (Host.rsqrt (addf (Host.divf (broadcastInDim S16384x2x1 ![0, 1] bcast_S16384x2_S16384x2x1_0_1 (Host.reduceAdd (mulf K K) (constant S_ .f32 0x00000000#32) reducesTo_S16384x2x64_S16384x2_d2 h_S_)) (broadcastInDim S16384x2x1 ![] bcast_S_S16384x2x1 (constant S_ .f32 0x42800000#32))) (broadcastInDim S16384x2x1 ![] bcast_S_S16384x2x1 (constant S_ .f32 0x358637BD#32)))))) (broadcastInDim S16384x2x64 ![0, 1, 2] bcast_S1x2x64_S16384x2x64_0_1_2 (broadcastInDim S1x2x64 ![1, 2] bcast_S2x64_S1x2x64_1_2 (shapeCast _ KG shapeCasts_S128_S2x64)))

/-- The rotated keys. -/
def rot (N : FVec Ideal S16384x2x64 .f32) (a5 a6 : FVec Ideal S16384x32 .f32) : FVec Ideal S16384x2x64 .f32 :=
  concatenate S16384x2x64 2 [⟨S16384x2x32, (subf (mulf (extractStridedSlice S16384x2x32 ![0, 0, 0] N slices_S16384x2x64_S16384x2x32_0_0_0) (broadcastInDim S16384x2x32 ![0, 1, 2] bcast_S16384x1x32_S16384x2x32_0_1_2 (broadcastInDim S16384x1x32 ![0, 2] bcast_S16384x32_S16384x1x32_0_2 a5))) (mulf (extractStridedSlice S16384x2x32 ![0, 0, 32] N slices_S16384x2x64_S16384x2x32_0_0_32) (broadcastInDim S16384x2x32 ![0, 1, 2] bcast_S16384x1x32_S16384x2x32_0_1_2 (broadcastInDim S16384x1x32 ![0, 2] bcast_S16384x32_S16384x1x32_0_2 a6))))⟩, ⟨S16384x2x32, (addf (mulf (extractStridedSlice S16384x2x32 ![0, 0, 32] N slices_S16384x2x64_S16384x2x32_0_0_32) (broadcastInDim S16384x2x32 ![0, 1, 2] bcast_S16384x1x32_S16384x2x32_0_1_2 (broadcastInDim S16384x1x32 ![0, 2] bcast_S16384x32_S16384x1x32_0_2 a5))) (mulf (extractStridedSlice S16384x2x32 ![0, 0, 0] N slices_S16384x2x64_S16384x2x32_0_0_0) (broadcastInDim S16384x2x32 ![0, 1, 2] bcast_S16384x1x32_S16384x2x32_0_1_2 (broadcastInDim S16384x1x32 ![0, 2] bcast_S16384x32_S16384x1x32_0_2 a6))))⟩] concatenates_S16384x2x32_S16384x2x32_S16384x2x64_d2

/-- Keys, then values, one column for each token. -/
def both (N V : FVec Ideal S16384x2x64 .f32) : FVec Ideal S1x2x256x8192 .f32 :=
  shapeCast _ (transpose S2x256x8192 [0, 2, 1] (shapeCast _ (concatenate S16384x2x2x64 1 [⟨S16384x1x2x64, (broadcastInDim S16384x1x2x64 ![0, 2, 3] bcast_S16384x2x64_S16384x1x2x64_0_2_3 N)⟩, ⟨S16384x1x2x64, (broadcastInDim S16384x1x2x64 ![0, 2, 3] bcast_S16384x2x64_S16384x1x2x64_0_2_3 V)⟩] concatenates_S16384x1x2x64_S16384x1x2x64_S16384x2x2x64_d1) shapeCasts_S16384x2x2x64_S2x8192x256) transposes_S2x8192x256_S2x256x8192_0_2_1) shapeCasts_S2x256x8192_S1x2x256x8192

/-- The keys' columns of a branch, as two heads. -/
def keys (KV : FVec Ideal S16384x2x2x64 .f32) : FVec Ideal S16384x2x64 .f32 :=
  shapeCast _ (extractStridedSlice S16384x1x2x64 ![0, 0, 0, 0] KV slices_S16384x2x2x64_S16384x1x2x64_0_0_0_0) shapeCasts_S16384x1x2x64_S16384x2x64

/-- The values' columns of a branch, as two heads. -/
def vals (KV : FVec Ideal S16384x2x2x64 .f32) : FVec Ideal S16384x2x64 .f32 :=
  shapeCast _ (extractStridedSlice S16384x1x2x64 ![0, 1, 0, 0] KV slices_S16384x2x2x64_S16384x1x2x64_0_1_0_0) shapeCasts_S16384x1x2x64_S16384x2x64

theorem keys_at (B : FVec Ideal S16384x256 .f32) (T : ℕ → EReal) (R : Fin 16384) (eB : ∀ j : Fin 256, (B (ix2 R j) : EReal) = T j.val) (h : Fin 2) (d : Fin 64) :
    (keys (shapeCast _ B shapeCasts_S16384x256_S16384x2x2x64) (ix3 R h d) : EReal) = T (h.val * 64 + d.val) := by
  have hh := h.isLt
  have hd := d.isLt
  refine Eq.trans ?_ (eB ⟨h.val * 64 + d.val, by omega⟩)
  unfold keys
  pointwise

theorem vals_at (B : FVec Ideal S16384x256 .f32) (T : ℕ → EReal) (R : Fin 16384) (eB : ∀ j : Fin 256, (B (ix2 R j) : EReal) = T j.val) (h : Fin 2) (d : Fin 64) :
    (vals (shapeCast _ B shapeCasts_S16384x256_S16384x2x2x64) (ix3 R h d) : EReal) = T (128 + (h.val * 64 + d.val)) := by
  have hh := h.isLt
  have hd := d.isLt
  refine Eq.trans ?_ (eB ⟨128 + (h.val * 64 + d.val), by omega⟩)
  unfold vals
  pointwise
  exact congrArg (fun j : Fin 256 => B (ix2 R j)) (Fin.ext (Nat.add_assoc 128 (h.val * 64) d.val))

theorem nk_at (K : FVec Ideal S16384x2x64 .f32) (KG : FVec Ideal S128 .f32) (T g : ℕ → EReal) (R : Fin 16384)
    (eK : ∀ (h : Fin 2) (d : Fin 64), (K (ix3 R h d) : EReal) = T (h.val * 64 + d.val)) (eg : ∀ i : Fin 128, (KG (ix1 i) : EReal) = g i.val)
    (h : Fin 2) (d : Fin 64) : (nk K KG (ix3 R h d) : EReal) = normed T g (h.val * 64 + d.val) := by
  have hh := h.isLt
  have hd := d.isLt
  unfold nk normed scale eps
  pointwise
  simp only [eK, eg, Finset.sum_range]
  rw [show (h.val * 64 + d.val) / 64 = h.val by omega]

theorem rot_at (N : FVec Ideal S16384x2x64 .f32) (a5 a6 : FVec Ideal S16384x32 .f32) (T : ℕ → EReal) (R : Fin 16384)
    (eN : ∀ (h : Fin 2) (d : Fin 64), (N (ix3 R h d) : EReal) = T (h.val * 64 + d.val)) (h : Fin 2) (d : Fin 64) :
    (rot N a5 a6 (ix3 R h d) : EReal) = turned T (at2 (n := 16384) (m := 32) a5 R.val) (at2 (n := 16384) (m := 32) a6 R.val) (h.val * 64 + d.val) := by
  have hh := h.isLt
  have hd := d.isLt
  unfold rot turned
  rw [show (h.val * 64 + d.val) % 64 = d.val by omega]
  pointwise
  by_cases h32 : d.val < 32
  · rw [dif_pos h32, if_pos h32, eN, eN, at2_mk (n := 16384) (m := 32) a5 R.isLt h32, at2_mk (n := 16384) (m := 32) a6 R.isLt h32,
      show h.val * 64 + (32 + d.val) = h.val * 64 + d.val + 32 by omega]
  · rw [dif_neg h32, if_neg h32, eN, eN, at2_mk (n := 16384) (m := 32) a5 R.isLt (by omega : d.val - 32 < 32),
      at2_mk (n := 16384) (m := 32) a6 R.isLt (by omega : d.val - 32 < 32),
      show h.val * 64 + (32 + (d.val - 32)) = h.val * 64 + d.val by omega, show h.val * 64 + (d.val - 32) = h.val * 64 + d.val - 32 by omega]

theorem both_at (N V : FVec Ideal S16384x2x64 .f32) (R : Fin 16384) (b : Fin 2) (t : Fin 8192) (eR : R.val = b.val * 8192 + t.val) (i : Fin 256) (T S : ℕ → EReal)
    (eN : ∀ (h : Fin 2) (d : Fin 64), (N (ix3 R h d) : EReal) = T (h.val * 64 + d.val))
    (eV : ∀ (h : Fin 2) (d : Fin 64), (V (ix3 R h d) : EReal) = S (h.val * 64 + d.val)) :
    (both N V (ix4 (0 : Fin 1) b i t) : EReal) = if i.val < 128 then T i.val else S (i.val - 128) := by
  have hi := i.isLt
  have ht := t.isLt
  have hb := b.isLt
  have hlt : b.val * 8192 + t.val < 16384 := by clear eR eN eV; clear R; omega
  obtain rfl : R = (⟨b.val * 8192 + t.val, hlt⟩ : Fin 16384) := Fin.ext eR
  unfold both
  pointwise
  by_cases h1 : i.val < 128
  · rw [dif_pos (by omega), if_pos h1, eN]
    exact congrArg T (by dsimp only; omega)
  · rw [dif_neg (by omega), if_neg h1, eV]
    exact congrArg S (by dsimp only; omega)

/-- A branch's rows of keys and values. -/
theorem branch_at (B : FVec Ideal S16384x256 .f32) (KG : FVec Ideal S128 .f32) (a5 a6 : FVec Ideal S16384x32 .f32) (Z g : ℕ → EReal) (o : ℕ) (R : Fin 16384)
    (b : Fin 2) (t : Fin 8192) (eR : R.val = b.val * 8192 + t.val) (eB : ∀ j : Fin 256, (B (ix2 R j) : EReal) = Z (o + j.val)) (eg : ∀ i : Fin 128, (KG (ix1 i) : EReal) = g i.val) (i : Fin 256) :
    (both (rot (nk (keys (shapeCast _ B shapeCasts_S16384x256_S16384x2x2x64)) KG) a5 a6) (vals (shapeCast _ B shapeCasts_S16384x256_S16384x2x2x64)) (ix4 (0 : Fin 1) b i t) : EReal)
      = branch Z o g (at2 (n := 16384) (m := 32) a5 R.val) (at2 (n := 16384) (m := 32) a6 R.val) i.val := by
  have hi := i.isLt
  refine (both_at _ _ R b t eR i (turned (normed (fun k => Z (o + k)) g) (at2 (n := 16384) (m := 32) a5 R.val) (at2 (n := 16384) (m := 32) a6 R.val))
    (fun k => Z (o + (128 + k))) (fun h d => ?_) fun h d => ?_).trans ?_
  · exact rot_at _ a5 a6 _ R (fun h d => nk_at _ KG _ g R (fun h d => keys_at B (fun k => Z (o + k)) R eB h d) eg h d) h d
  · exact vals_at B (fun k => Z (o + k)) R eB h d
  · unfold branch
    by_cases h1 : i.val < 128
    · rw [if_pos h1, if_pos h1]
    · rw [if_neg h1, if_neg h1, show 128 + (i.val - 128) = i.val by omega]

theorem cols1536_at (Z : FVec Ideal S16384x2432 .f32) (R : Fin 16384) (j : Fin 256) :
    (extractStridedSlice S16384x256 ![0, 1536] Z slices_S16384x2432_S16384x256_0_1536 (ix2 R j) : EReal) = at2 (n := 16384) (m := 2432) Z R.val (1536 + j.val) := by
  have hj := j.isLt
  rw [at2_mk (n := 16384) (m := 2432) Z R.isLt (by omega)]
  pointwise

theorem cols1792_at (Z : FVec Ideal S16384x2432 .f32) (R : Fin 16384) (j : Fin 256) :
    (extractStridedSlice S16384x256 ![0, 1792] Z slices_S16384x2432_S16384x256_0_1792 (ix2 R j) : EReal) = at2 (n := 16384) (m := 2432) Z R.val (1792 + j.val) := by
  have hj := j.isLt
  rw [at2_mk (n := 16384) (m := 2432) Z R.isLt (by omega)]
  pointwise

theorem cols2048_at (Z : FVec Ideal S16384x2432 .f32) (R : Fin 16384) (j : Fin 256) :
    (extractStridedSlice S16384x256 ![0, 2048] Z slices_S16384x2432_S16384x256_0_2048 (ix2 R j) : EReal) = at2 (n := 16384) (m := 2432) Z R.val (2048 + j.val) := by
  have hj := j.isLt
  rw [at2_mk (n := 16384) (m := 2432) Z R.isLt (by omega)]
  pointwise

theorem gain0_at (a8 : FVec Ideal S3x128 .f32) (i : Fin 128) :
    (shapeCast S128 (extractStridedSlice S1x128 ![0, 0] a8 slices_S3x128_S1x128_0_0) shapeCasts_S1x128_S128 (ix1 i) : EReal) = at2 (n := 3) (m := 128) a8 0 i.val := by
  rw [at2_mk (n := 3) (m := 128) a8 (by omega : 0 < 3) i.isLt]
  pointwise

theorem gain1_at (a8 : FVec Ideal S3x128 .f32) (i : Fin 128) :
    (shapeCast S128 (extractStridedSlice S1x128 ![1, 0] a8 slices_S3x128_S1x128_1_0) shapeCasts_S1x128_S128 (ix1 i) : EReal) = at2 (n := 3) (m := 128) a8 1 i.val := by
  rw [at2_mk (n := 3) (m := 128) a8 (by omega : 1 < 3) i.isLt]
  pointwise

theorem gain2_at (a8 : FVec Ideal S3x128 .f32) (i : Fin 128) :
    (shapeCast S128 (extractStridedSlice S1x128 ![2, 0] a8 slices_S3x128_S1x128_2_0) shapeCasts_S1x128_S128 (ix1 i) : EReal) = at2 (n := 3) (m := 128) a8 2 i.val := by
  rw [at2_mk (n := 3) (m := 128) a8 (by omega : 2 < 3) i.isLt]
  pointwise

variable (m : (ℓ : Loc nD τ sig) → Buf (Elt Ideal) ℓ) (c : Dev nD)

/-- The projected rows of the launched arrays. -/
def za : FVec Ideal S16384x2432 .f32 :=
  zz (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem twice_row (a : FVec Ideal S8192x32 .f32) (R : ℕ) (hR : R < 16384) : at2 (n := 16384) (m := 32) (twice a) R = at2 (n := 8192) (m := 32) a (R % 8192) := by
  refine funext fun j => ?_
  by_cases hj : j < 32
  · rw [at2_mk (n := 16384) (m := 32) _ hR hj, at2_mk (n := 8192) (m := 32) _ (by omega) hj]
    exact twice_at a ⟨R, hR⟩ ⟨j, hj⟩
  · unfold at2
    rw [dif_neg (by omega), dif_neg (by omega)]

theorem cmp_at (b : Fin 2) (i : Fin 256) (t : Fin 8192) : (Value.res_main_v68 m c (ix4 (0 : Fin 1) b i t) : EReal)
    = branch (at2 (n := 16384) (m := 2432) (za m c) (b.val * 8192 + t.val)) 1536 (at2 (n := 3) (m := 128) (m ((c.tc : Thread nD τ).loc main_arg8)) 0)
      (at2 (n := 8192) (m := 32) (m ((c.tc : Thread nD τ).loc main_arg5)) t.val) (at2 (n := 8192) (m := 32) (m ((c.tc : Thread nD τ).loc main_arg6)) t.val) i.val := by
  have hb := b.isLt
  have ht := t.isLt
  have e := branch_at _ _ (twice (m ((c.tc : Thread nD τ).loc main_arg5))) (twice (m ((c.tc : Thread nD τ).loc main_arg6))) _ _ 1536 (⟨b.val * 8192 + t.val, by omega⟩ : Fin 16384) b t rfl
    (fun j => cols1536_at (za m c) _ j) (fun i => gain0_at (m ((c.tc : Thread nD τ).loc main_arg8)) i) i
  rw [twice_row _ _ (by omega), twice_row _ _ (by omega), show (b.val * 8192 + t.val) % 8192 = t.val by omega] at e
  exact e

theorem slc_at (b : Fin 2) (i : Fin 256) (t : Fin 8192) : (Value.res_main_v109 m c (ix4 (0 : Fin 1) b i t) : EReal)
    = branch (at2 (n := 16384) (m := 2432) (za m c) (b.val * 8192 + t.val)) 1792 (at2 (n := 3) (m := 128) (m ((c.tc : Thread nD τ).loc main_arg8)) 1)
      (at2 (n := 8192) (m := 32) (m ((c.tc : Thread nD τ).loc main_arg5)) t.val) (at2 (n := 8192) (m := 32) (m ((c.tc : Thread nD τ).loc main_arg6)) t.val) i.val := by
  have hb := b.isLt
  have ht := t.isLt
  have e := branch_at _ _ (twice (m ((c.tc : Thread nD τ).loc main_arg5))) (twice (m ((c.tc : Thread nD τ).loc main_arg6))) _ _ 1792 (⟨b.val * 8192 + t.val, by omega⟩ : Fin 16384) b t rfl
    (fun j => cols1792_at (za m c) _ j) (fun i => gain1_at (m ((c.tc : Thread nD τ).loc main_arg8)) i) i
  rw [twice_row _ _ (by omega), twice_row _ _ (by omega), show (b.val * 8192 + t.val) % 8192 = t.val by omega] at e
  exact e

theorem win_at (b : Fin 2) (i : Fin 256) (t : Fin 8192) : (Value.res_main_v150 m c (ix4 (0 : Fin 1) b i t) : EReal)
    = branch (at2 (n := 16384) (m := 2432) (za m c) (b.val * 8192 + t.val)) 2048 (at2 (n := 3) (m := 128) (m ((c.tc : Thread nD τ).loc main_arg8)) 2)
      (at2 (n := 8192) (m := 32) (m ((c.tc : Thread nD τ).loc main_arg5)) t.val) (at2 (n := 8192) (m := 32) (m ((c.tc : Thread nD τ).loc main_arg6)) t.val) i.val := by
  have hb := b.isLt
  have ht := t.isLt
  have e := branch_at _ _ (twice (m ((c.tc : Thread nD τ).loc main_arg5))) (twice (m ((c.tc : Thread nD τ).loc main_arg6))) _ _ 2048 (⟨b.val * 8192 + t.val, by omega⟩ : Fin 16384) b t rfl
    (fun j => cols2048_at (za m c) _ j) (fun i => gain2_at (m ((c.tc : Thread nD τ).loc main_arg8)) i) i
  rw [twice_row _ _ (by omega), twice_row _ _ (by omega), show (b.val * 8192 + t.val) % 8192 = t.val by omega] at e
  exact e

end Cert.RefPromptIdeal.Read

end
-- ==== Proof.Prompt.Equation.lean ====
/-
  The projection of a prompt's rows: what the kernel leaves in the three branches' buffers, at every place.
-/
module

public import proofs.«01_k».proof.Proof.Gen.PromptIdeal.Value
public import proofs.«01_k».proof.Proof.Prompt.Spec
public import proofs.«01_k».proof.Proof.Nsa.Words
public import Idealize.ShloMosaic.Lib.StableHlo.ReadAt
public import Idealize.ShloMosaic.Lib.Pipeline.ValueKit
public import Idealize.ShloMosaic.Lib.Pointwise
public import Idealize.ShloMosaic.Lib.Tactic
public import Idealize.ShloMosaic.Lib.Tactic.CleanTypes

@[expose] public section

set_option maxRecDepth 16384

noncomputable section

namespace Cert.PromptIdeal.Kernel

open Idealize.ShloMosaic Idealize.ShloMosaic.TcCoe Idealize.SL.Sem
open Cert.PromptIdeal Cert.PromptIdeal.Gen Cert.Attn Cert.Word Cert.Mix Cert.Proj

/-- What a point of the grid projects. -/
theorem pay3_at (v0 : Vec Ideal S256x1024 .f32) (v11 : Vec Ideal S1x1024 .f32) (v14 v20 : Vec Ideal S1x1x1024 .f32) (v25 : Vec Ideal S1024x2432 .bf16)
    (R : Fin 256) (C : Fin 2432) : (k0_pay3 (F := Ideal) v0 v11 v14 v20 v25 (ix2 R C) : EReal)
      = ∑ x : Fin 1024, modulated (fun d => (v0 (ix2 R d) : EReal)) (v11 (ix2 (0 : Fin 1) x)) (v14 (ix3 (0 : Fin 1) (0 : Fin 1) x)) (v20 (ix3 (0 : Fin 1) (0 : Fin 1) x)) x * v25 (ix2 x C) := by
  unfold k0_pay3 modulated eps
  pointwise

theorem mask_at : ∀ i : Fin 128, k0_pay16 64#32 k0_pay12 k0_pay13 k0_pay14 k0_pay15 (ix2 (0 : Fin 1) i) = BitVec.ofBool (decide (i.val % 64 < 32)) := by
  decide +kernel

/-- Of two rotations of a row of 128 numbers, the one whose number comes from the same head. -/
theorem partner (f : Fin 128 → EReal) (N : ℕ → EReal) (ef : ∀ i : Fin 128, f i = N i.val) (b : BitVec 1) (i : Fin 128)
    (eb : b = BitVec.ofBool (decide (i.val % 64 < 32))) (h h' : _) :
    Scalar.select b (f ⟨(i.val + 128 - 96) % 128, h⟩) (f ⟨(i.val + 128 - 32) % 128, h'⟩) = if i.val % 64 < 32 then N (i.val + 32) else N (i.val - 32) := by
  have hi := i.isLt
  rw [eb, select_ofBool, ef, ef]
  by_cases h : i.val % 64 < 32
  · rw [if_pos h, if_pos h]
    exact congrArg N (by dsimp only; omega)
  · rw [if_neg h, if_neg h]
    exact congrArg N (by dsimp only; omega)

theorem turned_at (v66 v68 : FVec Ideal S256x128 .f32) (v87 : IVec S1x128 1) (P : FVec Ideal S256x128 .f32) (g1 : Vec Ideal S1x128 .f32) (r : Fin 256) (N cs sn : ℕ → EReal)
    (en : ∀ j : Fin 128, (P (ix2 r j) : EReal) * g1 (ix2 (0 : Fin 1) j) = N j.val)
    (ec : ∀ i : Fin 128, (v66 (ix2 r i) : EReal) = if i.val % 64 < 32 then cs (i.val % 64) else cs (i.val % 64 - 32))
    (es : ∀ i : Fin 128, (v68 (ix2 r i) : EReal) = if i.val % 64 < 32 then -sn (i.val % 64) else sn (i.val % 64 - 32))
    (em : ∀ i : Fin 128, v87 (ix2 (0 : Fin 1) i) = BitVec.ofBool (decide (i.val % 64 < 32))) (i : Fin 128) :
    (k0_pay33 (F := Ideal) v66 v68 v87 P g1 (ix2 r i) : EReal) = turned N cs sn i.val := by
  rw [← turn, ← partner _ _ en _ i (em i) (Nat.mod_lt _ (by decide)) (Nat.mod_lt _ (by decide)), ← en i, ← ec, ← es]
  unfold k0_pay33
  pointwise

section Branch
variable (v26 : FVec Ideal S256x2432 .f32) (v152 : Vec Ideal S128x128 .bf16) (g1 : Vec Ideal S1x128 .f32) (r : Fin 256) (Z g : ℕ → EReal)
  (eZ : ∀ k : Fin 2432, (v26 (ix2 r k) : EReal) = Z k.val) (hZ : ∀ k < 2432, IsR (Z k))
  (eg : ∀ i : Fin 128, (g1 (ix2 (0 : Fin 1) i) : EReal) = g i.val)
  (eb : ∀ k i : Fin 128, (v152 (ix2 k i) : EReal) = if k.val / 64 = i.val / 64 then ((1 / 64 : ℝ) : EReal) else 0)

theorem pay24_at (x i : Fin 128) : (k0_pay24 (F := Ideal) v152 (ix2 x i) : EReal) = v152 (ix2 x i) := by
  unfold k0_pay24
  pointwise

include eZ

theorem pay25_at (i : Fin 128) : (k0_pay25 (F := Ideal) v26 (ix2 r i) : EReal) = Z (1536 + i.val) := by
  refine Eq.trans ?_ (eZ ⟨1536 + i.val, by omega⟩)
  unfold k0_pay25
  pointwise

theorem pay26_at (i : Fin 128) : (k0_pay26 (F := Ideal) v26 (ix2 r i) : EReal) = Z (1536 + (128 + i.val)) := by
  refine Eq.trans ?_ (eZ ⟨1536 + (128 + i.val), by omega⟩)
  unfold k0_pay26
  pointwise
  exact congrArg (fun j : Fin 2432 => v26 (ix2 r j)) (Fin.ext (by dsimp only; omega))

theorem pay31_at (i : Fin 128) : (k0_pay31 (F := Ideal) v26 (ix2 r i) : EReal) = Z (1792 + (128 + i.val)) := by
  refine Eq.trans ?_ (eZ ⟨1792 + (128 + i.val), by omega⟩)
  unfold k0_pay31
  pointwise
  exact congrArg (fun j : Fin 2432 => v26 (ix2 r j)) (Fin.ext (by dsimp only; omega))

theorem pay38_at (i : Fin 128) : (k0_pay38 (F := Ideal) v26 (ix2 r i) : EReal) = Z (2048 + (128 + i.val)) := by
  refine Eq.trans ?_ (eZ ⟨2048 + (128 + i.val), by omega⟩)
  unfold k0_pay38
  pointwise
  exact congrArg (fun j : Fin 2432 => v26 (ix2 r j)) (Fin.ext (by dsimp only; omega))

include hZ eb eg

theorem norm0_at (i : Fin 128) :
    (k0_pay25 (F := Ideal) v26 (ix2 r i) : EReal) * Ideal.rsqrt (k0_pay27 (F := Ideal) v26 v152 (ix2 r i) : EReal) * g1 (ix2 (0 : Fin 1) i) = normed (fun k => Z (1536 + k)) g i.val := by
  have hi := i.isLt
  have e27 : (k0_pay27 (F := Ideal) v26 v152 (ix2 r i) : EReal) = mean (fun k => Z (1536 + k) * Z (1536 + k)) (i.val / 64) + eps := by
    rw [← mean_fin (fun k => Z (1536 + k) * Z (1536 + k)) (n := 128) (fun k hk => (hZ _ (by omega)).mul (hZ _ (by omega)))
      (fun x => v152 (ix2 x i)) (by omega : i.val / 64 * 64 + 64 ≤ 128) fun x => eb x i]
    unfold k0_pay27 eps
    pointwise
    simp only [pay25_at v26 r Z eZ, pay24_at]
  rw [e27, pay25_at v26 r Z eZ, eg]
  rfl

theorem norm1_at (i : Fin 128) :
    (k0_pay32 (F := Ideal) v26 (k0_pay24 (F := Ideal) v152) (ix2 r i) : EReal) * g1 (ix2 (0 : Fin 1) i) = normed (fun k => Z (1792 + k)) g i.val := by
  have hi := i.isLt
  have eK : ∀ x : Fin 128, (v26 (ix2 r (⟨1792 + x.val, by omega⟩ : Fin 2432)) : EReal) = Z (1792 + x.val) := fun x => eZ _
  refine Eq.trans (b := Z (1792 + i.val) * Ideal.rsqrt (mean (fun k => Z (1792 + k) * Z (1792 + k)) (i.val / 64) + eps) * g i.val) ?_ rfl
  rw [← mean_fin (fun k => Z (1792 + k) * Z (1792 + k)) (n := 128) (fun k hk => (hZ _ (by omega)).mul (hZ _ (by omega)))
    (fun x => v152 (ix2 x i)) (by omega : i.val / 64 * 64 + 64 ≤ 128) fun x => eb x i, ← eg]
  refine congrArg (fun w : EReal => w * g1 (ix2 (0 : Fin 1) i)) ?_
  unfold k0_pay32 eps
  pointwise
  simp only [pay24_at, eK]

theorem norm2_at (i : Fin 128) :
    (k0_pay39 (F := Ideal) v26 (k0_pay24 (F := Ideal) v152) (ix2 r i) : EReal) * g1 (ix2 (0 : Fin 1) i) = normed (fun k => Z (2048 + k)) g i.val := by
  have hi := i.isLt
  have eK : ∀ x : Fin 128, (v26 (ix2 r (⟨2048 + x.val, by omega⟩ : Fin 2432)) : EReal) = Z (2048 + x.val) := fun x => eZ _
  refine Eq.trans (b := Z (2048 + i.val) * Ideal.rsqrt (mean (fun k => Z (2048 + k) * Z (2048 + k)) (i.val / 64) + eps) * g i.val) ?_ rfl
  rw [← mean_fin (fun k => Z (2048 + k) * Z (2048 + k)) (n := 128) (fun k hk => (hZ _ (by omega)).mul (hZ _ (by omega)))
    (fun x => v152 (ix2 x i)) (by omega : i.val / 64 * 64 + 64 ≤ 128) fun x => eb x i, ← eg]
  refine congrArg (fun w : EReal => w * g1 (ix2 (0 : Fin 1) i)) ?_
  unfold k0_pay39 eps
  pointwise
  simp only [pay24_at, eK]

end Branch

theorem pay29_at (v66 v68 : FVec Ideal S256x128 .f32) (v87 : IVec S1x128 1) (v154 v165 : FVec Ideal S256x128 .f32) (g1 : Vec Ideal S1x128 .f32) (i : Fin 128) (r : Fin 256) :
    (k0_pay29 (F := Ideal) v66 v68 v87 v154 v165 g1 (ix4 (0 : Fin 1) (0 : Fin 1) i r) : EReal) = k0_pay28 (F := Ideal) v66 v68 v87 v154 v165 g1 (ix2 r i) := by
  unfold k0_pay29
  generalize k0_pay28 (F := Ideal) v66 v68 v87 v154 v165 g1 = K
  pointwise

theorem pay34_at (v66 v68 : FVec Ideal S256x128 .f32) (v87 : IVec S1x128 1) (v202 : FVec Ideal S256x128 .f32) (g1 : Vec Ideal S1x128 .f32) (i : Fin 128) (r : Fin 256) :
    (k0_pay34 (F := Ideal) v66 v68 v87 v202 g1 (ix4 (0 : Fin 1) (0 : Fin 1) i r) : EReal) = k0_pay33 (F := Ideal) v66 v68 v87 v202 g1 (ix2 r i) := by
  unfold k0_pay34
  generalize k0_pay33 (F := Ideal) v66 v68 v87 v202 g1 = K
  pointwise

theorem pay41_at (v66 v68 : FVec Ideal S256x128 .f32) (v87 : IVec S1x128 1) (v202 : FVec Ideal S256x128 .f32) (g1 : Vec Ideal S1x128 .f32) (i : Fin 128) (r : Fin 256) :
    (k0_pay41 (F := Ideal) v66 v68 v87 v202 g1 (ix4 (0 : Fin 1) (0 : Fin 1) i r) : EReal) = k0_pay40 (F := Ideal) v66 v68 v87 v202 g1 (ix2 r i) := by
  unfold k0_pay41
  generalize k0_pay40 (F := Ideal) v66 v68 v87 v202 g1 = K
  pointwise

theorem pay30_at (v : FVec Ideal S256x128 .f32) (i : Fin 128) (r : Fin 256) :
    (k0_pay30 (F := Ideal) v (ix4 (0 : Fin 1) (0 : Fin 1) i r) : EReal) = v (ix2 r i) := by
  unfold k0_pay30
  pointwise

theorem pay35_at (v : FVec Ideal S256x128 .f32) (i : Fin 128) (r : Fin 256) :
    (k0_pay35 (F := Ideal) v (ix4 (0 : Fin 1) (0 : Fin 1) i r) : EReal) = v (ix2 r i) := by
  unfold k0_pay35
  pointwise

theorem pay42_at (v : FVec Ideal S256x128 .f32) (i : Fin 128) (r : Fin 256) :
    (k0_pay42 (F := Ideal) v (ix4 (0 : Fin 1) (0 : Fin 1) i r) : EReal) = v (ix2 r i) := by
  unfold k0_pay42
  pointwise

theorem pay10_at (v : Vec Ideal S256x128 .f32) (r : Fin 256) (i : Fin 128) : (k0_pay10 (F := Ideal) v (ix2 r i) : EReal) = v (ix2 r i) := by
  unfold k0_pay10
  pointwise

theorem pay11_at (v : Vec Ideal S256x128 .f32) (r : Fin 256) (i : Fin 128) : (k0_pay11 (F := Ideal) v (ix2 r i) : EReal) = v (ix2 r i) := by
  unfold k0_pay11
  pointwise

theorem read_full {S : Shape} {e : EltTy} (m : Memref sig .tc .vmem S e) (h : m.IsWhole) (off : Fin S.rank → ℕ) (hz : off = fun _ => 0)
    (inb : ∀ a, off a + S.size a ≤ S.size a) (X : S.Idx → Elt Ideal e) :
    View.readAt (Elt Ideal) m.view (Rect.unit off S.size inb).toLoadRect (h.unread X) = X := by
  rw [View.readAt_eq_ld, h.read_unread, View.ld_unit_zero hz]

/-- The corner of the matrix. -/
theorem read_corner (m : Memref sig .tc .vmem S512x512 .bf16) (h : m.IsWhole) (inb) (x : S512x512.Idx → EReal) (k i : Fin 128) :
    (View.readAt (Elt Ideal) m.view (Rect.unit (s := S512x512) ![0, 0] S128x128.size inb).toLoadRect (h.unread x) (ix2 k i) : EReal)
      = x (ix2 (⟨k.val, by omega⟩ : Fin 512) (⟨i.val, by omega⟩ : Fin 512)) := by
  rw [View.readAt_apply, h.read_unread]
  refine congrArg x (funext fun b => Fin.ext ?_)
  fin_cases b
  · show 0 + 1 * k.val = k.val
    omega
  · show 0 + 1 * i.val = i.val
    omega

/-- A row of the keys' gains. -/
theorem read_gain (m : Memref sig .tc .vmem S3x128 .f32) (h : m.IsWhole) (k : Fin 3) (inb) (x : S3x128.Idx → EReal) (i : Fin 128) :
    (View.readAt (Elt Ideal) m.view (Rect.unit (s := S3x128) ![k.val, 0] S1x128.size inb).toLoadRect (h.unread x) (ix2 (0 : Fin 1) i) : EReal) = x (ix2 k i) := by
  rw [View.readAt_apply, h.read_unread]
  refine congrArg x (funext fun b => Fin.ext ?_)
  fin_cases b
  · show k.val + 1 * 0 = k.val
    omega
  · show 0 + 1 * i.val = i.val
    omega

theorem zero_off : (![0, 0] : Fin 2 → ℕ) = fun _ => 0 := by funext a; fin_cases a <;> rfl
theorem zero_off3 : (![0, 0, 0] : Fin 3 → ℕ) = fun _ => 0 := by funext a; fin_cases a <;> rfl

/-- Two stores one above the other. -/
theorem sides (p0 p1 : FVec Ideal S1x1x128x256 .f32) (f : ℕ → EReal) (r : Fin 256) (C : Fin 256)
    (hc : ∃ p ∈ ([⟨Rect.unit ![0, 0, 128, 0] S1x1x128x256.size inb_S1x1x256x256_S1x1x128x256_0_0_128_0, p0⟩,
      ⟨Rect.unit ![0, 0, 0, 0] S1x1x128x256.size inb_S1x1x256x256_S1x1x128x256_0_0_0_0, p1⟩] : List (View.Piece (Elt Ideal) S1x1x256x256 .f32)), (ix4 (0 : Fin 1) (0 : Fin 1) C r) ∈ p.1.set)
    (h1 : ∀ i : Fin 128, (p1 (ix4 (0 : Fin 1) (0 : Fin 1) i r) : EReal) = f i.val)
    (h0 : ∀ i : Fin 128, (p0 (ix4 (0 : Fin 1) (0 : Fin 1) i r) : EReal) = f (128 + i.val)) :
    (View.canon ([⟨Rect.unit ![0, 0, 128, 0] S1x1x128x256.size inb_S1x1x256x256_S1x1x128x256_0_0_128_0, p0⟩,
      ⟨Rect.unit ![0, 0, 0, 0] S1x1x128x256.size inb_S1x1x256x256_S1x1x128x256_0_0_0_0, p1⟩] : List (View.Piece (Elt Ideal) S1x1x256x256 .f32)) (ix4 (0 : Fin 1) (0 : Fin 1) C r) : EReal) = f C.val := by
  refine View.canon_eq_of_allAt _ _ _ hc (View.allAt_cons_unit _ _ _ _ _ (fun x hx => ?_)
    (View.allAt_cons_unit _ _ _ _ _ (fun x hx => ?_) fun p hp => absurd hp List.not_mem_nil))
  · obtain ⟨a, b, i, j, rfl⟩ : ∃ (a b : Fin 1) (i : Fin 128) (j : Fin 256), x = ix4 a b i j := ⟨x 0, x 1, x 2, x 3, eq_ix4 x⟩
    have hb : r = j := Fin.ext ((hx 3).trans (Nat.zero_add _))
    have hc : C.val = 128 + i.val := hx 2
    obtain rfl : a = 0 := Subsingleton.elim _ _
    obtain rfl : b = 0 := Subsingleton.elim _ _
    subst hb
    rw [hc]
    exact h0 i
  · obtain ⟨a, b, i, j, rfl⟩ : ∃ (a b : Fin 1) (i : Fin 128) (j : Fin 256), x = ix4 a b i j := ⟨x 0, x 1, x 2, x 3, eq_ix4 x⟩
    have hb : r = j := Fin.ext ((hx 3).trans (Nat.zero_add _))
    have hc : C.val = i.val := (hx 2).trans (Nat.zero_add _)
    obtain rfl : a = 0 := Subsingleton.elim _ _
    obtain rfl : b = 0 := Subsingleton.elim _ _
    subst hb
    rw [hc]
    exact h1 i

section Written
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x2432 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S3x128 .f32) (harg10 : arg10.IsWhole) (arg11 : Memref sig .tc .vmem S8x128x128 .bf16) (harg11 : arg11.IsWhole) (arg12 : Memref sig .tc .vmem S128x512 .f32) (harg12 : arg12.IsWhole) (arg16 : Memref sig .tc .vmem S256x512 .f32) (harg16 : arg16.IsWhole) (arg17 : Memref sig .tc .vmem S256x512 .f32) (harg17 : arg17.IsWhole) (arg18 : Memref sig .tc .vmem S256x256 .f32) (harg18 : arg18.IsWhole) (arg19 : Memref sig .tc .vmem S256x256 .bf16) (harg19 : arg19.IsWhole) (arg20 : Memref sig .tc .vmem S256x256 .bf16) (harg20 : arg20.IsWhole) (arg21 : Memref sig .tc .vmem S256x128 .f32) (harg21 : arg21.IsWhole) (arg22 : Memref sig .tc .vmem S1x1x256x256 .f32) (harg22 : arg22.IsWhole) (arg23 : Memref sig .tc .vmem S1x1x256x256 .f32) (harg23 : arg23.IsWhole) (arg24 : Memref sig .tc .vmem S1x1x256x256 .f32) (harg24 : arg24.IsWhole)
    (x0 : Vec Ideal S256x1024 .f32) (x1 : Vec Ideal S1x1024 .f32) (x2 : Vec Ideal S1x1x1024 .f32) (x3 : Vec Ideal S1x1x1024 .f32) (x4 : Vec Ideal S1024x2432 .bf16) (x5 : Vec Ideal S256x128 .f32) (x6 : Vec Ideal S256x128 .f32) (x7 : Vec Ideal S512x512 .bf16) (x8 : Vec Ideal S1x512 .f32) (x9 : Vec Ideal S3x128 .f32) (x10 : Vec Ideal S8x128x128 .bf16) (x11 : Vec Ideal S128x512 .f32)
  (r : Fin 256) (Z g cs sn : ℕ → EReal)
  (eZ : ∀ k : Fin 2432, (k0_pay3 (F := Ideal) x0 x1 x3 x2 x4 (ix2 r k) : EReal) = Z k.val) (hZ : ∀ k < 2432, IsR (Z k))
  (ec : ∀ i : Fin 128, (x5 (ix2 r i) : EReal) = if i.val % 64 < 32 then cs (i.val % 64) else cs (i.val % 64 - 32))
  (es : ∀ i : Fin 128, (x6 (ix2 r i) : EReal) = if i.val % 64 < 32 then -sn (i.val % 64) else sn (i.val % 64 - 32))
  (eb : ∀ k i : Fin 512, (x7 (ix2 k i) : EReal) = if k.val / 64 = i.val / 64 then ((1 / 64 : ℝ) : EReal) else 0)

theorem run_z : kernelRun0_A.sl.r (F := Ideal) c arg1 harg1 arg2 harg2 arg3 harg3 arg4 harg4 arg5 harg5 x0 x1 x2 x3 x4 = k0_pay3 (F := Ideal) x0 x1 x3 x2 x4 := by
  unfold kernelRun0_A.sl.r
  rw [read_full arg1 harg1 _ zero_off _ x0, read_full arg2 harg2 _ zero_off _ x1, read_full arg3 harg3 _ zero_off3 _ x2, read_full arg4 harg4 _ zero_off3 _ x3,
    read_full arg5 harg5 _ zero_off _ x4]

theorem run_cos (i : Fin 128) : (kernelRun0_A.sl.r_6 (F := Ideal) c arg6 harg6 x5 (ix2 r i) : EReal) = x5 (ix2 r i) := by
  unfold kernelRun0_A.sl.r_6
  rw [read_full arg6 harg6 _ zero_off _ x5, pay10_at]

theorem run_sin (i : Fin 128) : (kernelRun0_A.sl.r_7 (F := Ideal) c arg7 harg7 x6 (ix2 r i) : EReal) = x6 (ix2 r i) := by
  unfold kernelRun0_A.sl.r_7
  rw [read_full arg7 harg7 _ zero_off _ x6, pay11_at]

include eZ hZ ec es eb

theorem written18 (eg : ∀ i : Fin 128, (x9 (ix2 (0 : Fin 3) i) : EReal) = g i.val) (C : Fin 256) :
    (out0_A_18 (F := Ideal) c i arg1 harg1 arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 x0 x1 x2 x3 x4 x5 x6 x7 x8 x9 x10 x11 (ix4 (0 : Fin 1) (0 : Fin 1) C r) : EReal) = branch Z 1536 g cs sn C.val := by
  have hcov := cover0_A_18 (F := Ideal) c i arg1 harg1 arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 x0 x1 x2 x3 x4 x5 x6 x7 x8 x9 x10 x11
  unfold out0_A_18
  rw [View.read_writes_eq_canon _ _ _ hcov]
  have hc := hcov (ix4 (0 : Fin 1) (0 : Fin 1) C r)
  clear hcov
  revert hc
  unfold kernelRun0_A
  dsimp only
  intro hc
  refine sides _ _ (branch Z 1536 g cs sn) r C hc (fun i => ?_) (fun i => ?_)
  · have hi := i.isLt
    refine Eq.trans ?_ (if_pos hi).symm
    rw [pay29_at]
    unfold kernelRun0_A.sl.r_12 kernelRun0_A.sl.r_14 kernelRun0_A.sl.r_8
    rw [run_z]
    refine turned_at _ _ _ (mulf (k0_pay25 (F := Ideal) (k0_pay3 (F := Ideal) x0 x1 x3 x2 x4)) (rsqrt (k0_pay27 (F := Ideal) (k0_pay3 (F := Ideal) x0 x1 x3 x2 x4) _))) _ r _ cs sn (fun j => ?_) (fun j => ?_) (fun j => ?_) mask_at i
    · exact norm0_at _ _ _ r Z g eZ hZ (fun q => (read_gain arg10 harg10 0 _ x9 q).trans (eg q)) (fun k q => (read_corner arg8 harg8 _ x7 k q).trans (eb _ _)) j
    · rw [run_cos, ec]
    · rw [run_sin, es]
  · refine Eq.trans ?_ (if_neg (by omega)).symm
    rw [pay30_at]
    unfold kernelRun0_A.sl.r_13
    rw [run_z]
    refine (pay26_at _ r Z eZ i).trans ?_
    exact congrArg Z (by omega)

theorem written19 (eg : ∀ i : Fin 128, (x9 (ix2 (1 : Fin 3) i) : EReal) = g i.val) (C : Fin 256) :
    (out0_A_19 (F := Ideal) c i arg1 harg1 arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 x0 x1 x2 x3 x4 x5 x6 x7 x8 x9 x10 x11 (ix4 (0 : Fin 1) (0 : Fin 1) C r) : EReal) = branch Z 1792 g cs sn C.val := by
  have hcov := cover0_A_19 (F := Ideal) c i arg1 harg1 arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 x0 x1 x2 x3 x4 x5 x6 x7 x8 x9 x10 x11
  unfold out0_A_19
  rw [View.read_writes_eq_canon _ _ _ hcov]
  have hc := hcov (ix4 (0 : Fin 1) (0 : Fin 1) C r)
  clear hcov
  revert hc
  unfold kernelRun0_A
  dsimp only
  intro hc
  refine sides _ _ (branch Z 1792 g cs sn) r C hc (fun i => ?_) (fun i => ?_)
  · have hi := i.isLt
    refine Eq.trans ?_ (if_pos hi).symm
    rw [pay34_at]
    unfold kernelRun0_A.sl.r_16 kernelRun0_A.sl.r_8 kernelRun0_A.sl.r_11
    rw [run_z]
    refine turned_at _ _ _ _ _ r _ cs sn (fun j => ?_) (fun j => ?_) (fun j => ?_) mask_at i
    · exact norm1_at _ _ _ r Z g eZ hZ (fun q => (read_gain arg10 harg10 1 _ x9 q).trans (eg q)) (fun k q => (read_corner arg8 harg8 _ x7 k q).trans (eb _ _)) j
    · rw [run_cos, ec]
    · rw [run_sin, es]
  · refine Eq.trans ?_ (if_neg (by omega)).symm
    rw [pay35_at]
    unfold kernelRun0_A.sl.r_15
    rw [run_z]
    refine (pay31_at _ r Z eZ i).trans ?_
    exact congrArg Z (by omega)

theorem written20 (eg : ∀ i : Fin 128, (x9 (ix2 (2 : Fin 3) i) : EReal) = g i.val) (C : Fin 256) :
    (out0_A_20 (F := Ideal) c i arg1 harg1 arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 x0 x1 x2 x3 x4 x5 x6 x7 x8 x9 x10 x11 (ix4 (0 : Fin 1) (0 : Fin 1) C r) : EReal) = branch Z 2048 g cs sn C.val := by
  have hcov := cover0_A_20 (F := Ideal) c i arg1 harg1 arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 x0 x1 x2 x3 x4 x5 x6 x7 x8 x9 x10 x11
  unfold out0_A_20
  rw [View.read_writes_eq_canon _ _ _ hcov]
  have hc := hcov (ix4 (0 : Fin 1) (0 : Fin 1) C r)
  clear hcov
  revert hc
  unfold kernelRun0_A
  dsimp only
  intro hc
  refine sides _ _ (branch Z 2048 g cs sn) r C hc (fun i => ?_) (fun i => ?_)
  · have hi := i.isLt
    refine Eq.trans ?_ (if_pos hi).symm
    rw [pay41_at]
    unfold kernelRun0_A.sl.r_18 kernelRun0_A.sl.r_8 kernelRun0_A.sl.r_11
    rw [run_z]
    refine turned_at _ _ _ _ _ r _ cs sn (fun j => ?_) (fun j => ?_) (fun j => ?_) mask_at i
    · exact norm2_at _ _ _ r Z g eZ hZ (fun q => (read_gain arg10 harg10 2 _ x9 q).trans (eg q)) (fun k q => (read_corner arg8 harg8 _ x7 k q).trans (eb _ _)) j
    · rw [run_cos, ec]
    · rw [run_sin, es]
  · refine Eq.trans ?_ (if_neg (by omega)).symm
    rw [pay42_at]
    unfold kernelRun0_A.sl.r_17
    rw [run_z]
    refine (pay38_at _ r Z eZ i).trans ?_
    exact congrArg Z (by omega)

end Written

variable (m : (ℓ : Loc nD τ sig) → Buf (Elt Ideal) ℓ)

/-- The matrix that takes the means. -/
theorem host_bd (c : Dev nD) (n s : Fin 512) :
    (V m c main_v15 : S512x512.Idx → EReal) (ix2 n s) = (if n.val / 64 = s.val / 64 then ((1 / 64 : ℝ) : EReal) else 0) := by
  unfold V
  simp only [List.flatten_cons, List.flatten_nil, List.append_nil, List.cons_append, List.nil_append]
  after_reads_at
  have hn := n.isLt
  have hs := s.isLt
  rw [← part_bits]
  simp (disch := omega) only [ofNat_W, divsi_W, eq_W, select_ofBool]
  exact if_congr (by omega) rfl rfl

/-- The cosines, as launched. -/
def kcos (c : Dev nD) : FVec Ideal S8192x32 .f32 := m ((c : Thread nD τ).loc main_arg5)
/-- The sines, as launched. -/
def ksin (c : Dev nD) : FVec Ideal S8192x32 .f32 := m ((c : Thread nD τ).loc main_arg6)

theorem host_cos (c : Dev nD) :
    (V m c main_v0 : S8192x128.Idx → EReal)
      = concatenate S8192x128 1 [⟨S8192x32, kcos m c⟩, ⟨S8192x32, kcos m c⟩, ⟨S8192x32, kcos m c⟩, ⟨S8192x32, kcos m c⟩] concatenates_S8192x32_S8192x32_S8192x32_S8192x32_S8192x128_d1 := by
  unfold V
  simp only [List.flatten_cons, List.flatten_nil, List.append_nil, List.cons_append, List.nil_append]
  after_reads_simp
  rfl

theorem host_sin (c : Dev nD) :
    (V m c main_v3 : S8192x128.Idx → EReal)
      = concatenate S8192x128 1 [⟨S8192x32, Host.negf (ksin m c)⟩, ⟨S8192x32, ksin m c⟩, ⟨S8192x32, Host.negf (ksin m c)⟩, ⟨S8192x32, ksin m c⟩] concatenates_S8192x32_S8192x32_S8192x32_S8192x32_S8192x128_d1 := by
  unfold V
  simp only [List.flatten_cons, List.flatten_nil, List.append_nil, List.cons_append, List.nil_append]
  after_reads_simp
  rfl

/-- Four tables of 32 numbers side by side. -/
theorem pick (A B : Fin 32 → EReal) (a b : ℕ → EReal) (eA : ∀ j : Fin 32, A j = a j.val) (eB : ∀ j : Fin 32, B j = b j.val) (i : ℕ) (hi : i < 128) (p : _) :
    (if h : i < 32 then A ⟨i, h⟩ else if h : i - 32 < 32 then B ⟨i - 32, h⟩ else if h : i - 32 - 32 < 32 then A ⟨i - 32 - 32, h⟩ else B ⟨i - 32 - 32 - 32, p⟩)
      = if i % 64 < 32 then a (i % 64) else b (i % 64 - 32) := by
  by_cases h1 : i < 32
  · rw [dif_pos h1, if_pos (by omega), eA]
    exact congrArg a (by dsimp only; omega)
  · rw [dif_neg h1]
    by_cases h2 : i - 32 < 32
    · rw [dif_pos h2, if_neg (by omega), eB]
      exact congrArg b (by dsimp only; omega)
    · rw [dif_neg h2]
      by_cases h3 : i - 32 - 32 < 32
      · rw [dif_pos h3, if_pos (by omega), eA]
        exact congrArg a (by dsimp only; omega)
      · rw [dif_neg h3, if_neg (by omega), eB]
        exact congrArg b (by dsimp only; omega)

theorem cos_at (c : Dev nD) (p : Fin 8192) (i : Fin 128) :
    (V m c main_v0 : S8192x128.Idx → EReal) (ix2 p i)
      = if i.val % 64 < 32 then at2 (n := 8192) (m := 32) (kcos m c) p.val (i.val % 64) else at2 (n := 8192) (m := 32) (kcos m c) p.val (i.val % 64 - 32) := by
  rw [host_cos]
  generalize kcos m c = X
  have hi := i.isLt
  refine Eq.trans ?_ (pick (fun j => X (ix2 p j)) (fun j => X (ix2 p j)) (at2 (n := 8192) (m := 32) X p.val) (at2 (n := 8192) (m := 32) X p.val)
    (fun j => (at2_of (n := 8192) (m := 32) X p j)) (fun j => (at2_of (n := 8192) (m := 32) X p j)) i.val hi (by omega))
  pointwise

theorem sin_at (c : Dev nD) (p : Fin 8192) (i : Fin 128) :
    (V m c main_v3 : S8192x128.Idx → EReal) (ix2 p i)
      = if i.val % 64 < 32 then -at2 (n := 8192) (m := 32) (ksin m c) p.val (i.val % 64) else at2 (n := 8192) (m := 32) (ksin m c) p.val (i.val % 64 - 32) := by
  rw [host_sin]
  generalize ksin m c = X
  have hi := i.isLt
  refine Eq.trans ?_ (pick (fun j => -X (ix2 p j)) (fun j => X (ix2 p j)) (fun k => -at2 (n := 8192) (m := 32) X p.val k) (at2 (n := 8192) (m := 32) X p.val)
    (fun j => congrArg (fun x : EReal => -x) (at2_of (n := 8192) (m := 32) X p j)) (fun j => (at2_of (n := 8192) (m := 32) X p j)) i.val hi (by omega))
  pointwise

/-- The rows, as launched. -/
def kx (c : Dev nD) : S16384x1024.Idx → EReal := m ((c : Thread nD τ).loc main_arg0)
/-- The row's gains, as launched. -/
def kng (c : Dev nD) : S1x1024.Idx → EReal := m ((c : Thread nD τ).loc main_arg1)
/-- The shift, as launched. -/
def ksh (c : Dev nD) : S2x1x1024.Idx → EReal := m ((c : Thread nD τ).loc main_arg2)
/-- The scale, as launched. -/
def ksc (c : Dev nD) : S2x1x1024.Idx → EReal := m ((c : Thread nD τ).loc main_arg3)
/-- The weights, as launched. -/
def kw (c : Dev nD) : S1024x2432.Idx → EReal := m ((c : Thread nD τ).loc main_arg4)
/-- The keys' gains, as launched. -/
def kkg (c : Dev nD) : S3x128.Idx → EReal := m ((c : Thread nD τ).loc main_arg8)

theorem point_lt (t : Fin cfg0.N) : t.val < 64 := t.isLt

theorem in_index : ∀ t : Fin cfg0.N, win0_0.index t = ![t.val, 0] ∧ win0_1.index t = ![0, 0] ∧ win0_2.index t = ![t.val / 32, 0, 0] ∧ win0_3.index t = ![t.val / 32, 0, 0]
    ∧ win0_4.index t = ![0, 0] ∧ win0_5.index t = ![t.val % 32, 0] ∧ win0_6.index t = ![t.val % 32, 0] ∧ win0_7.index t = ![0, 0] ∧ win0_9.index t = ![0, 0] :=
  (by decide +kernel : ∀ t : Fin grid0.N, _)

theorem out_index : ∀ t : Fin cfg0.N, win0_18.index t = ![0, t.val / 32, 0, t.val % 32] ∧ win0_19.index t = ![0, t.val / 32, 0, t.val % 32] ∧ win0_20.index t = ![0, t.val / 32, 0, t.val % 32] :=
  (by decide +kernel : ∀ t : Fin grid0.N, _)

theorem blk0 (c : Dev nD) (t : Fin cfg0.N) (r : Fin 256) (x : Fin 1024) :
    (iblk m c 0 t : S256x1024.Idx → EReal) (ix2 r x) = kx m c (ix2 (⟨t.val * 256 + r.val, by have := point_lt t; omega⟩ : Fin 16384) x) := by
  have h0 := point_lt t
  have e := (in_index t).1
  blk_simp [iblk]
  rw [V_main_arg0]
  unfold kx
  refine congrArg _ ?_
  blk_ext [e]

theorem blk1 (c : Dev nD) (t : Fin cfg0.N) (x : Fin 1024) :
    (iblk m c 1 t : S1x1024.Idx → EReal) (ix2 (0 : Fin 1) x) = kng m c (ix2 (0 : Fin 1) x) := by
  have h0 := point_lt t
  have e := (in_index t).2.1
  blk_simp [iblk]
  rw [V_main_arg1]
  unfold kng
  refine congrArg _ ?_
  blk_ext [e]

theorem blk2 (c : Dev nD) (t : Fin cfg0.N) (x : Fin 1024) :
    (iblk m c 2 t : S1x1x1024.Idx → EReal) (ix3 (0 : Fin 1) (0 : Fin 1) x) = ksh m c (ix3 (⟨t.val / 32, by have := point_lt t; omega⟩ : Fin 2) (0 : Fin 1) x) := by
  have h0 := point_lt t
  have e := (in_index t).2.2.1
  blk_simp [iblk]
  rw [V_main_arg2]
  unfold ksh
  refine congrArg _ ?_
  blk_ext [e]

theorem blk3 (c : Dev nD) (t : Fin cfg0.N) (x : Fin 1024) :
    (iblk m c 3 t : S1x1x1024.Idx → EReal) (ix3 (0 : Fin 1) (0 : Fin 1) x) = ksc m c (ix3 (⟨t.val / 32, by have := point_lt t; omega⟩ : Fin 2) (0 : Fin 1) x) := by
  have h0 := point_lt t
  have e := (in_index t).2.2.2.1
  blk_simp [iblk]
  rw [V_main_arg3]
  unfold ksc
  refine congrArg _ ?_
  blk_ext [e]

theorem blk4 (c : Dev nD) (t : Fin cfg0.N) (x : Fin 1024) (C : Fin 2432) :
    (iblk m c 4 t : S1024x2432.Idx → EReal) (ix2 x C) = kw m c (ix2 x C) := by
  have h0 := point_lt t
  have e := (in_index t).2.2.2.2.1
  blk_simp [iblk]
  rw [V_main_arg4]
  unfold kw
  refine congrArg _ ?_
  blk_ext [e]

theorem blk9 (c : Dev nD) (t : Fin cfg0.N) (a : Fin 3) (i : Fin 128) :
    (iblk m c 9 t : S3x128.Idx → EReal) (ix2 a i) = kkg m c (ix2 a i) := by
  have h0 := point_lt t
  have e := (in_index t).2.2.2.2.2.2.2.2
  blk_simp [iblk]
  rw [V_main_arg8]
  unfold kkg
  refine congrArg _ ?_
  blk_ext [e]

theorem blk5 (c : Dev nD) (t : Fin cfg0.N) (r : Fin 256) (i : Fin 128) :
    (iblk m c 5 t : S256x128.Idx → EReal) (ix2 r i) = if i.val % 64 < 32 then at2 (n := 8192) (m := 32) (kcos m c) (t.val % 32 * 256 + r.val) (i.val % 64) else at2 (n := 8192) (m := 32) (kcos m c) (t.val % 32 * 256 + r.val) (i.val % 64 - 32) := by
  have h0 := point_lt t
  have e := (in_index t).2.2.2.2.2.1
  refine Eq.trans ?_ (cos_at m c (⟨(t.val % 32 * 256 + r.val), by omega⟩ : Fin 8192) i)
  blk_simp [iblk]
  refine congrArg _ ?_
  blk_ext [e]

theorem blk6 (c : Dev nD) (t : Fin cfg0.N) (r : Fin 256) (i : Fin 128) :
    (iblk m c 6 t : S256x128.Idx → EReal) (ix2 r i) = if i.val % 64 < 32 then -at2 (n := 8192) (m := 32) (ksin m c) (t.val % 32 * 256 + r.val) (i.val % 64) else at2 (n := 8192) (m := 32) (ksin m c) (t.val % 32 * 256 + r.val) (i.val % 64 - 32) := by
  have h0 := point_lt t
  have e := (in_index t).2.2.2.2.2.2.1
  refine Eq.trans ?_ (sin_at m c (⟨(t.val % 32 * 256 + r.val), by omega⟩ : Fin 8192) i)
  blk_simp [iblk]
  refine congrArg _ ?_
  blk_ext [e]

theorem blk7 (c : Dev nD) (t : Fin cfg0.N) (k i : Fin 512) :
    (iblk m c 7 t : S512x512.Idx → EReal) (ix2 k i) = if k.val / 64 = i.val / 64 then ((1 / 64 : ℝ) : EReal) else 0 := by
  have h0 := point_lt t
  have e := (in_index t).2.2.2.2.2.2.2.1
  refine Eq.trans ?_ (host_bd m c k i)
  blk_simp [iblk]
  refine congrArg _ ?_
  blk_ext [e]

/-- The projected rows. -/
def kz (c : Dev nD) : (⟨2, ![16384, 2432]⟩ : Shape).Idx → EReal := fun j => zedp (kx m c) (kng m c) (ksh m c) (ksc m c) (kw m c) (j 0) (j 1)

/-- The projected rows are real numbers. -/
def Real (c : Dev nD) : Prop := ∀ R < 16384, ∀ C < 2432, IsR (at2 (n := 16384) (m := 2432) (kz m c) R C)

/-- The compressed branch's buffer. -/
def cmps (c : Dev nD) : S1x2x256x8192.Idx → EReal := fun j =>
  branch (at2 (n := 16384) (m := 2432) (kz m c) ((j 1).val * 8192 + (j 3).val)) 1536 (at2 (n := 3) (m := 128) (kkg m c) 0) (at2 (n := 8192) (m := 32) (kcos m c) (j 3).val)
    (at2 (n := 8192) (m := 32) (ksin m c) (j 3).val) (j 2).val

theorem cmps_at (c : Dev nD) (a : Fin 1) (b : Fin 2) (C : Fin 256) (p : Fin 8192) : cmps m c (ix4 a b C p)
    = branch (at2 (n := 16384) (m := 2432) (kz m c) (b.val * 8192 + p.val)) 1536 (at2 (n := 3) (m := 128) (kkg m c) 0) (at2 (n := 8192) (m := 32) (kcos m c) p.val)
      (at2 (n := 8192) (m := 32) (ksin m c) p.val) C.val := rfl

/-- The selected branch's buffer. -/
def slcs (c : Dev nD) : S1x2x256x8192.Idx → EReal := fun j =>
  branch (at2 (n := 16384) (m := 2432) (kz m c) ((j 1).val * 8192 + (j 3).val)) 1792 (at2 (n := 3) (m := 128) (kkg m c) 1) (at2 (n := 8192) (m := 32) (kcos m c) (j 3).val)
    (at2 (n := 8192) (m := 32) (ksin m c) (j 3).val) (j 2).val

theorem slcs_at (c : Dev nD) (a : Fin 1) (b : Fin 2) (C : Fin 256) (p : Fin 8192) : slcs m c (ix4 a b C p)
    = branch (at2 (n := 16384) (m := 2432) (kz m c) (b.val * 8192 + p.val)) 1792 (at2 (n := 3) (m := 128) (kkg m c) 1) (at2 (n := 8192) (m := 32) (kcos m c) p.val)
      (at2 (n := 8192) (m := 32) (ksin m c) p.val) C.val := rfl

/-- The window branch's buffer. -/
def wins (c : Dev nD) : S1x2x256x8192.Idx → EReal := fun j =>
  branch (at2 (n := 16384) (m := 2432) (kz m c) ((j 1).val * 8192 + (j 3).val)) 2048 (at2 (n := 3) (m := 128) (kkg m c) 2) (at2 (n := 8192) (m := 32) (kcos m c) (j 3).val)
    (at2 (n := 8192) (m := 32) (ksin m c) (j 3).val) (j 2).val

theorem wins_at (c : Dev nD) (a : Fin 1) (b : Fin 2) (C : Fin 256) (p : Fin 8192) : wins m c (ix4 a b C p)
    = branch (at2 (n := 16384) (m := 2432) (kz m c) (b.val * 8192 + p.val)) 2048 (at2 (n := 3) (m := 128) (kkg m c) 2) (at2 (n := 8192) (m := 32) (kcos m c) p.val)
      (at2 (n := 8192) (m := 32) (ksin m c) p.val) C.val := rfl

/-- A projection from equal rows is equal. -/
theorem proj_same {f f' g g' s s' h h' w w' : Fin 1024 → EReal} (ef : f = f') (eg : g = g') (es : s = s') (eh : h = h') (ew : w = w') :
    (∑ x : Fin 1024, modulated f (g x) (s x) (h x) x * w x) = ∑ x : Fin 1024, modulated f' (g' x) (s' x) (h' x) x * w' x := by
  subst ef eg es eh ew
  rfl

/-- What the grid's point projects. -/
theorem block_zed (c : Dev nD) (t : Fin cfg0.N) (r : Fin 256) (C : Fin 2432) :
    (k0_pay3 (F := Ideal) (iblk m c 0 t) (iblk m c 1 t) (iblk m c 3 t) (iblk m c 2 t) (iblk m c 4 t) (ix2 r C) : EReal)
      = at2 (n := 16384) (m := 2432) (kz m c) (t.val * 256 + r.val) C.val := by
  have h0 := point_lt t
  have hr := r.isLt
  rw [at2_mk (n := 16384) (m := 2432) (kz m c) (by omega : t.val * 256 + r.val < 16384) C.isLt]
  refine (pay3_at (iblk m c 0 t) (iblk m c 1 t) (iblk m c 3 t) (iblk m c 2 t) (iblk m c 4 t) r C).trans ?_
  have hq : (⟨t.val / 32, by omega⟩ : Fin 2) = ⟨(t.val * 256 + r.val) / 8192, by omega⟩ := Fin.ext (by dsimp only; omega)
  have b2 : ∀ x : Fin 1024, (iblk m c 2 t : S1x1x1024.Idx → EReal) (ix3 (0 : Fin 1) (0 : Fin 1) x) = ksh m c (ix3 (⟨(t.val * 256 + r.val) / 8192, by omega⟩ : Fin 2) (0 : Fin 1) x) :=
    fun x => (blk2 m c t x).trans (congrArg (fun q => ksh m c (ix3 q (0 : Fin 1) x)) hq)
  have b3 : ∀ x : Fin 1024, (iblk m c 3 t : S1x1x1024.Idx → EReal) (ix3 (0 : Fin 1) (0 : Fin 1) x) = ksc m c (ix3 (⟨(t.val * 256 + r.val) / 8192, by omega⟩ : Fin 2) (0 : Fin 1) x) :=
    fun x => (blk3 m c t x).trans (congrArg (fun q => ksc m c (ix3 q (0 : Fin 1) x)) hq)
  exact proj_same (funext fun d => blk0 m c t r d) (funext fun x => blk1 m c t x) (funext b3) (funext b2) (funext fun x => blk4 m c t x C)

/-- What the kernel leaves of the compressed branch. -/
theorem final18 (c : Dev nD) (hR : Real m c) : (dats m 0 c).arrAt 18 cfg0.N = cmps m c := by
  refine (dats m 0 c).arrAt_eq_of_covers 18 (cmps m c) (by decide +kernel) fun t hf y => ?_
  have h0 := point_lt t
  obtain ⟨a, b, C, r, rfl⟩ : ∃ (a b : Fin 1) (C r : Fin 256), y = ix4 a b C r := ⟨y 0, y 1, y 2, y 3, eq_ix4 y⟩
  obtain rfl : a = 0 := Subsingleton.elim _ _
  obtain rfl : b = 0 := Subsingleton.elim _ _
  have hr := r.isLt
  blk_simp
  rw [after0_18]
  unfold outsAt0
  dsimp only
  have e : (win0_18.blk t).view.emb (ix4 (0 : Fin 1) (0 : Fin 1) C r) = ix4 (0 : Fin 1) (⟨t.val / 32, by omega⟩ : Fin 2) C (⟨t.val % 32 * 256 + r.val, by omega⟩ : Fin 8192) := by
    have e := (out_index t).1
    blk_ext [e]
  refine Eq.trans ?_ (congrArg (cmps m c) e.symm)
  refine (written18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r
    (at2 (n := 16384) (m := 2432) (kz m c) (t.val * 256 + r.val)) (at2 (n := 3) (m := 128) (kkg m c) 0)
    (at2 (n := 8192) (m := 32) (kcos m c) (t.val % 32 * 256 + r.val)) (at2 (n := 8192) (m := 32) (ksin m c) (t.val % 32 * 256 + r.val))
    (block_zed m c t r) (hR _ (by omega)) (blk5 m c t r) (blk6 m c t r) (blk7 m c t)
    (fun i => (blk9 m c t 0 i).trans (at2_of (n := 3) (m := 128) (kkg m c) 0 i)) C).trans ?_
  have hq : t.val * 256 + r.val = t.val / 32 * 8192 + (t.val % 32 * 256 + r.val) := by omega
  rw [hq, cmps_at]

/-- What the kernel leaves of the selected branch. -/
theorem final19 (c : Dev nD) (hR : Real m c) : (dats m 0 c).arrAt 19 cfg0.N = slcs m c := by
  refine (dats m 0 c).arrAt_eq_of_covers 19 (slcs m c) (by decide +kernel) fun t hf y => ?_
  have h0 := point_lt t
  obtain ⟨a, b, C, r, rfl⟩ : ∃ (a b : Fin 1) (C r : Fin 256), y = ix4 a b C r := ⟨y 0, y 1, y 2, y 3, eq_ix4 y⟩
  obtain rfl : a = 0 := Subsingleton.elim _ _
  obtain rfl : b = 0 := Subsingleton.elim _ _
  have hr := r.isLt
  blk_simp
  rw [after0_19]
  unfold outsAt0
  dsimp only
  have e : (win0_19.blk t).view.emb (ix4 (0 : Fin 1) (0 : Fin 1) C r) = ix4 (0 : Fin 1) (⟨t.val / 32, by omega⟩ : Fin 2) C (⟨t.val % 32 * 256 + r.val, by omega⟩ : Fin 8192) := by
    have e := (out_index t).2.1
    blk_ext [e]
  refine Eq.trans ?_ (congrArg (slcs m c) e.symm)
  refine (written19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r
    (at2 (n := 16384) (m := 2432) (kz m c) (t.val * 256 + r.val)) (at2 (n := 3) (m := 128) (kkg m c) 1)
    (at2 (n := 8192) (m := 32) (kcos m c) (t.val % 32 * 256 + r.val)) (at2 (n := 8192) (m := 32) (ksin m c) (t.val % 32 * 256 + r.val))
    (block_zed m c t r) (hR _ (by omega)) (blk5 m c t r) (blk6 m c t r) (blk7 m c t)
    (fun i => (blk9 m c t 1 i).trans (at2_of (n := 3) (m := 128) (kkg m c) 1 i)) C).trans ?_
  have hq : t.val * 256 + r.val = t.val / 32 * 8192 + (t.val % 32 * 256 + r.val) := by omega
  rw [hq, slcs_at]

/-- What the kernel leaves of the window branch. -/
theorem final20 (c : Dev nD) (hR : Real m c) : (dats m 0 c).arrAt 20 cfg0.N = wins m c := by
  refine (dats m 0 c).arrAt_eq_of_covers 20 (wins m c) (by decide +kernel) fun t hf y => ?_
  have h0 := point_lt t
  obtain ⟨a, b, C, r, rfl⟩ : ∃ (a b : Fin 1) (C r : Fin 256), y = ix4 a b C r := ⟨y 0, y 1, y 2, y 3, eq_ix4 y⟩
  obtain rfl : a = 0 := Subsingleton.elim _ _
  obtain rfl : b = 0 := Subsingleton.elim _ _
  have hr := r.isLt
  blk_simp
  rw [after0_20]
  unfold outsAt0
  dsimp only
  have e : (win0_20.blk t).view.emb (ix4 (0 : Fin 1) (0 : Fin 1) C r) = ix4 (0 : Fin 1) (⟨t.val / 32, by omega⟩ : Fin 2) C (⟨t.val % 32 * 256 + r.val, by omega⟩ : Fin 8192) := by
    have e := (out_index t).2.2
    blk_ext [e]
  refine Eq.trans ?_ (congrArg (wins m c) e.symm)
  refine (written20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r
    (at2 (n := 16384) (m := 2432) (kz m c) (t.val * 256 + r.val)) (at2 (n := 3) (m := 128) (kkg m c) 2)
    (at2 (n := 8192) (m := 32) (kcos m c) (t.val % 32 * 256 + r.val)) (at2 (n := 8192) (m := 32) (ksin m c) (t.val % 32 * 256 + r.val))
    (block_zed m c t r) (hR _ (by omega)) (blk5 m c t r) (blk6 m c t r) (blk7 m c t)
    (fun i => (blk9 m c t 2 i).trans (at2_of (n := 3) (m := 128) (kkg m c) 2 i)) C).trans ?_
  have hq : t.val * 256 + r.val = t.val / 32 * 8192 + (t.val % 32 * 256 + r.val) := by omega
  rw [hq, wins_at]

end Cert.PromptIdeal.Kernel

end
-- ==== Proof.Prompt.Finite.lean ====
/-
  The precondition as facts on the elements: the projected rows of a prompt are real numbers.
-/
module

public import proofs.«01_k».proof.Proof.Gen.Pre_projected_prompt
public import proofs.«01_k».proof.Proof.Nsa.Finite
public import proofs.«01_k».proof.Proof.Prompt.Spec
public import Idealize.ShloMosaic.Lib.Pointwise

@[expose] public section

set_option maxRecDepth 16384

noncomputable section

namespace Cert.Pre_projected_prompt.Read

open Idealize.ShloMosaic Idealize.ShloMosaic.TcCoe Idealize.SL.Sem
open Cert.Pre_projected_prompt Cert.Pre_projected_prompt.Facts Cert.Attn Cert.Mix Cert.Proj
open Cert.Pre_finite.Read (real_of_lt top_f32)

instance : Subsingleton S_.Idx := ⟨fun a b => funext fun i => i.elim0⟩

variable [Cert.Pre_projected_prompt.Facts]

theorem every (z : FVec Ideal S16384x2432 .f32)
    (h : Host.reduce IntOp.andi (cmpf .olt (Host.absf z) (broadcastInDim S16384x2432 ![] bcast_S_S16384x2432 (constant S_ .f32 0x7F800000#32))) (constantI S_ 1 1#1)
      reducesTo_S16384x2432_S_d0_1 h_S_ ix0 = 1#1) (i : S16384x2432.Idx) : IsR (z i) :=
  real_of_lt _ (top_f32 ▸ Host.reduce_andi_all _ _ _ _ _ h i)

theorem part (w : FVec Ideal S1024x2432 .bf16) (a b : FVec Ideal S2x8192x1024 .f32) (h : fn_part1 (F := Ideal) w a b = fun _ => 1#1) (R : Fin 16384) (C : Fin 2432) :
    IsR (∑ x : Fin 1024, ((a (ix3 (⟨R.val / 8192, by omega⟩ : Fin 2) (⟨R.val % 8192, by omega⟩ : Fin 8192) x) : EReal)
      + b (ix3 (⟨R.val / 8192, by omega⟩ : Fin 2) (⟨R.val % 8192, by omega⟩ : Fin 8192) x)) * w (ix2 x C)) := by
  have h := congrFun h ix0
  dsimp only [fn_part1] at h
  refine Eq.mp (congrArg IsR ?_) (every _ h (ix2 R C))
  pointwise

/-- What the precondition says of the arrays. -/
theorem parts (x0 : FVec Ideal S16384x1024 .f32) (x1 : FVec Ideal S1x1024 .f32) (x2 x3 : FVec Ideal S2x1x1024 .f32) (x4 : FVec Ideal S1024x2432 .bf16)
    (x5 x6 : FVec Ideal S8192x32 .f32) (x7 : FVec Ideal S1x512 .f32) (x8 : FVec Ideal S3x128 .f32) (x9 : FVec Ideal S8x128x128 .bf16) (x10 : FVec Ideal S128x512 .f32)
    (h : fn (F := Ideal) x0 x1 x2 x3 x4 x5 x6 x7 x8 x9 x10 = fun _ => 1#1) (R : Fin 16384) (C : Fin 2432) : IsR (zedp x0 x1 x2 x3 x4 R C) := by
  dsimp only [fn] at h
  refine Eq.mp (congrArg IsR ?_) (part _ _ _ h R C)
  unfold zedp
  refine Finset.sum_congr rfl fun x _ => congrArg (fun y : EReal => y * x4 (ix2 x C)) ?_
  unfold modulated eps
  pointwise

end Cert.Pre_projected_prompt.Read

end
-- ==== Proof.Prompt.Claims.lean ====
/-
  The claims on the projection of a prompt's rows: the frames, and that the kernel's three outputs are the reference's.
-/
module

public import proofs.«01_k».proof.Defs
public import proofs.«01_k».proof.Proof.Gen.Prompt
public import proofs.«01_k».proof.Proof.Gen.Prompt.Frame
public import proofs.«01_k».proof.Proof.Gen.PromptIdeal
public import proofs.«01_k».proof.Proof.Gen.PromptIdeal.Frame
public import proofs.«01_k».proof.Proof.Gen.PromptIdeal.Value
public import proofs.«01_k».proof.Proof.Gen.RefPromptIdeal
public import proofs.«01_k».proof.Proof.Gen.RefPromptIdeal.Run
public import proofs.«01_k».proof.Proof.Gen.Pre_projected_prompt
public import proofs.«01_k».proof.Proof.Prompt.Reference
public import proofs.«01_k».proof.Proof.Prompt.Equation
public import proofs.«01_k».proof.Proof.Prompt.Finite
public import Idealize.ShloMosaic.Lib.Claim

@[expose] public section

set_option maxRecDepth 16384

noncomputable section

namespace Cert.Proof.PromptClaims

open Idealize.ShloMosaic Idealize.ShloMosaic.TcCoe Idealize.SL.Sem Cert.Attn Cert.Mix Cert.Proj

/-- The kernel runs, leaves its arguments, and ends quiescent. -/
theorem frame_p : Cert.quiescent_Prompt := fun m ρ _ => Cert.Prompt.Gen.frame m ρ

/-- So does the idealized kernel, from a finite projection, -/
theorem frame_pi : Cert.quiescent_PromptIdeal := fun m ρ _ => Cert.PromptIdeal.Gen.frame m ρ

/-- and from any arrays. -/
theorem frame_pi_any : Cert.quiescent_PromptIdeal_pre_none := fun m ρ _ => Cert.PromptIdeal.Gen.frame m ρ

/-- The reference runs, leaves its arguments, and ends quiescent. -/
theorem frame_ri : Cert.quiescent_RefPromptIdeal := fun m ρ _ =>
  (θ_run Cert.RefPromptIdeal.defs _ _).mono (fun r h => ⟨fun c => (h c).2.2.2, sem_eq_zero_of_no_sems (by decide) r.2⟩)
    (Cert.RefPromptIdeal.Value.run (F := Ideal) m ρ)

/-- No constant of the kernel is renamed. -/
theorem preserves : Cert.preserves_Prompt_PromptIdeal := trivial

/-- The projection the precondition speaks of is of real numbers. -/
theorem real_of_pre (m : (ℓ : Loc Cert.PromptIdeal.nD Cert.PromptIdeal.τ Cert.PromptIdeal.sig) → Buf (Elt Ideal) ℓ) (h : Cert.Pre_PromptIdeal m)
    (c : Dev Cert.PromptIdeal.nD) : Cert.PromptIdeal.Kernel.Real m c := by
  refine fun R hR C hC => ?_
  refine Eq.mpr (congrArg IsR (at2_mk (n := 16384) (m := 2432) _ hR hC)) ?_
  exact Cert.Pre_projected_prompt.Read.parts _ _ _ _ _ _ _ _ _ _ _ (h c) ⟨R, hR⟩ ⟨C, hC⟩

/-- The reference's projected rows, of the kernel's arrays. -/
theorem same_rows (m : (ℓ : Loc Cert.PromptIdeal.nD Cert.PromptIdeal.τ Cert.PromptIdeal.sig) → Buf (Elt Ideal) ℓ) (c : Dev Cert.PromptIdeal.nD)
    (a0 : FVec Ideal Cert.RefPromptIdeal.S16384x1024 .f32) (a1 : FVec Ideal Cert.RefPromptIdeal.S1x1024 .f32) (a2 a3 : FVec Ideal Cert.RefPromptIdeal.S2x1x1024 .f32)
    (a4 : FVec Ideal Cert.RefPromptIdeal.S1024x2432 .bf16)
    (e0 : a0 = m ((c.tc : Thread Cert.PromptIdeal.nD Cert.PromptIdeal.τ).loc Cert.PromptIdeal.main_arg0))
    (e1 : a1 = m ((c.tc : Thread Cert.PromptIdeal.nD Cert.PromptIdeal.τ).loc Cert.PromptIdeal.main_arg1))
    (e2 : a2 = m ((c.tc : Thread Cert.PromptIdeal.nD Cert.PromptIdeal.τ).loc Cert.PromptIdeal.main_arg2))
    (e3 : a3 = m ((c.tc : Thread Cert.PromptIdeal.nD Cert.PromptIdeal.τ).loc Cert.PromptIdeal.main_arg3))
    (e4 : a4 = m ((c.tc : Thread Cert.PromptIdeal.nD Cert.PromptIdeal.τ).loc Cert.PromptIdeal.main_arg4)) :
    (Cert.RefPromptIdeal.Read.zz a0 a1 a2 a3 a4 : Cert.RefPromptIdeal.S16384x2432.Idx → EReal) = Cert.PromptIdeal.Kernel.kz m c := by
  subst e0 e1 e2 e3 e4
  refine funext fun j => ?_
  obtain ⟨R, C, rfl⟩ : ∃ (R : Fin 16384) (C : Fin 2432), j = ix2 R C := ⟨j 0, j 1, eq_ix2 j⟩
  exact Cert.RefPromptIdeal.Read.zz_at _ _ _ _ _ R C

/-- A branch's rows from equal arrays are equal. -/
theorem branch_same (o r : ℕ) (R p i : ℕ) {Z Z' : Cert.RefPromptIdeal.S16384x2432.Idx → EReal} {g g' : Cert.PromptIdeal.S3x128.Idx → EReal}
    {cs cs' sn sn' : Cert.PromptIdeal.S8192x32.Idx → EReal} (eZ : Z = Z') (eg : g = g') (ec : cs = cs') (es : sn = sn') :
    branch (at2 (n := 16384) (m := 2432) Z R) o (at2 (n := 3) (m := 128) g r) (at2 (n := 8192) (m := 32) cs p) (at2 (n := 8192) (m := 32) sn p) i
      = branch (at2 (n := 16384) (m := 2432) Z' R) o (at2 (n := 3) (m := 128) g' r) (at2 (n := 8192) (m := 32) cs' p) (at2 (n := 8192) (m := 32) sn' p) i := by
  subst eZ eg ec es
  rfl

/-- The kernel's outputs are the reference's, place by place. -/
theorem algebraic : Cert.algebraic_PromptIdeal_RefPromptIdeal := by
  intro m g m' g' hpre hargs
  refine ⟨fun c => Cert.PromptIdeal.Kernel.cmps m c, fun c => Cert.PromptIdeal.Kernel.slcs m c, fun c => Cert.PromptIdeal.Kernel.wins m c, ?_, ?_⟩
  · refine (θ_run _ _ _).mono (fun r h c => ?_) (Cert.PromptIdeal.Value.run_blocks m g)
    obtain ⟨-, -, -, -, -, -, h6, h7, h8, h9⟩ := h c
    exact ⟨h6.trans (Cert.PromptIdeal.Kernel.final18 m c (real_of_pre m hpre c)), h7.trans (Cert.PromptIdeal.Kernel.final19 m c (real_of_pre m hpre c)),
      h8.trans (Cert.PromptIdeal.Kernel.final20 m c (real_of_pre m hpre c)), h9⟩
  · refine (θ_run _ _ _).mono (fun r h c => ⟨(h c).1.trans ?_, (h c).2.1.trans ?_, (h c).2.2.1.trans ?_, (h c).2.2.2⟩) (Cert.RefPromptIdeal.Value.run (F := Ideal) m' g')
    · obtain ⟨e0, e1, e2, e3, e4, e5, e6, e7, e8, e9, e10⟩ := hargs c
      refine funext fun j => ?_
      obtain ⟨a, b, i, t, rfl⟩ : ∃ (a : Fin 1) (b : Fin 2) (i : Fin 256) (t : Fin 8192), j = ix4 a b i t := ⟨j 0, j 1, j 2, j 3, eq_ix4 j⟩
      obtain rfl : a = 0 := Subsingleton.elim _ _
      exact (Cert.RefPromptIdeal.Read.cmp_at m' c b i t).trans (branch_same 1536 0 (b.val * 8192 + t.val) t.val i.val (same_rows m c _ _ _ _ _ e0 e1 e2 e3 e4) e8 e5 e6)
    · obtain ⟨e0, e1, e2, e3, e4, e5, e6, e7, e8, e9, e10⟩ := hargs c
      refine funext fun j => ?_
      obtain ⟨a, b, i, t, rfl⟩ : ∃ (a : Fin 1) (b : Fin 2) (i : Fin 256) (t : Fin 8192), j = ix4 a b i t := ⟨j 0, j 1, j 2, j 3, eq_ix4 j⟩
      obtain rfl : a = 0 := Subsingleton.elim _ _
      exact (Cert.RefPromptIdeal.Read.slc_at m' c b i t).trans (branch_same 1792 1 (b.val * 8192 + t.val) t.val i.val (same_rows m c _ _ _ _ _ e0 e1 e2 e3 e4) e8 e5 e6)
    · obtain ⟨e0, e1, e2, e3, e4, e5, e6, e7, e8, e9, e10⟩ := hargs c
      refine funext fun j => ?_
      obtain ⟨a, b, i, t, rfl⟩ : ∃ (a : Fin 1) (b : Fin 2) (i : Fin 256) (t : Fin 8192), j = ix4 a b i t := ⟨j 0, j 1, j 2, j 3, eq_ix4 j⟩
      obtain rfl : a = 0 := Subsingleton.elim _ _
      exact (Cert.RefPromptIdeal.Read.win_at m' c b i t).trans (branch_same 2048 2 (b.val * 8192 + t.val) t.val i.val (same_rows m c _ _ _ _ _ e0 e1 e2 e3 e4) e8 e5 e6)

end Cert.Proof.PromptClaims

end
-- ==== Proof.lean ====
module

public import proofs.«01_k».proof.Defs
public import proofs.«01_k».proof.Proof.Nsa.Claims
public import proofs.«01_k».proof.Proof.Gen.Nsa
public import proofs.«01_k».proof.Proof.Gen.Nsa.Skeleton
public import proofs.«01_k».proof.Proof.Gen.Nsa.Loops
public import proofs.«01_k».proof.Proof.Gen.Nsa.Launch
public import proofs.«01_k».proof.Proof.Gen.Nsa.Points
public import proofs.«01_k».proof.Proof.Gen.Nsa.Frame
public import proofs.«01_k».proof.Proof.Gen.NsaIdeal
public import proofs.«01_k».proof.Proof.Gen.NsaIdeal.Skeleton
public import proofs.«01_k».proof.Proof.Gen.NsaIdeal.Loops
public import proofs.«01_k».proof.Proof.Gen.NsaIdeal.Launch
public import proofs.«01_k».proof.Proof.Gen.NsaIdeal.Points
public import proofs.«01_k».proof.Proof.Gen.NsaIdeal.Frame
public import proofs.«01_k».proof.Proof.Gen.RefIdeal
public import proofs.«01_k».proof.Proof.Gen.Pre_finite
public import proofs.«01_k».proof.Proof.Ffn.Claims
public import proofs.«01_k».proof.Proof.Moe.Claims
public import proofs.«01_k».proof.Proof.Combine.Claims
public import proofs.«01_k».proof.Proof.Post.Claims
public import proofs.«01_k».proof.Proof.Sample.Claims
public import proofs.«01_k».proof.Proof.Prompt.Claims
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.RefMoeIdeal
public import proofs.«01_k».proof.Proof.Gen.RefMoeIdeal.Run
public import proofs.«01_k».proof.Proof.Gen.Pre_experts
public import proofs.«01_k».proof.Proof.Gen.Combine
public import proofs.«01_k».proof.Proof.Gen.Combine.Frame
public import proofs.«01_k».proof.Proof.Gen.CombineIdeal
public import proofs.«01_k».proof.Proof.Gen.CombineIdeal.Frame
public import proofs.«01_k».proof.Proof.Gen.CombineIdeal.Value
public import proofs.«01_k».proof.Proof.Gen.RefCombineIdeal
public import proofs.«01_k».proof.Proof.Gen.RefCombineIdeal.Run
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostIdeal.Value
public import proofs.«01_k».proof.Proof.Gen.RefPostIdeal
public import proofs.«01_k».proof.Proof.Gen.RefPostIdeal.Run
public import proofs.«01_k».proof.Proof.Gen.Pre_heads_finite
public import proofs.«01_k».proof.Proof.Gen.Prompt
public import proofs.«01_k».proof.Proof.Gen.Prompt.Frame
public import proofs.«01_k».proof.Proof.Gen.PromptIdeal
public import proofs.«01_k».proof.Proof.Gen.PromptIdeal.Frame
public import proofs.«01_k».proof.Proof.Gen.PromptIdeal.Value
public import proofs.«01_k».proof.Proof.Gen.RefPromptIdeal
public import proofs.«01_k».proof.Proof.Gen.RefPromptIdeal.Run
public import proofs.«01_k».proof.Proof.Gen.Pre_projected_prompt
public import proofs.«01_k».proof.Proof.Gen.Pre
public import proofs.«01_k».proof.Proof.Gen.Pre.Frame
public import proofs.«01_k».proof.Proof.Gen.PreIdeal
public import proofs.«01_k».proof.Proof.Gen.PreIdeal.Frame
public import proofs.«01_k».proof.Proof.Gen.PreIdeal.Value
public import proofs.«01_k».proof.Proof.Gen.RefPreIdeal
public import proofs.«01_k».proof.Proof.Gen.RefPreIdeal.Run
public import proofs.«01_k».proof.Proof.Gen.Pre_projected
public import proofs.«01_k».proof.Proof.Gen.NsaIdeal.Value
public import proofs.«01_k».proof.Proof.Gen.RefIdeal.Run
public import Idealize.ShloMosaic.Adequacy
public import Idealize.ShloMosaic.Init

@[expose] public section

noncomputable section

namespace Cert.Proof

open Idealize.ShloMosaic Idealize.SL.Sem Cert.Nsa

theorem claim : Cert.Claim := ⟨Cert.Nsa.Gen.facts, Cert.NsaIdeal.Gen.facts, Cert.RefIdeal.Gen.facts, Cert.Ffn.Gen.facts, Cert.FfnIdeal.Gen.facts,
  Cert.RefFfnIdeal.Gen.facts, Cert.Moe.Gen.facts, Cert.MoeIdeal.Gen.facts, Cert.RefMoeIdeal.Gen.facts, Cert.Combine.Gen.facts, Cert.CombineIdeal.Gen.facts,
  Cert.RefCombineIdeal.Gen.facts, Cert.Post.Gen.facts, Cert.PostIdeal.Gen.facts, Cert.RefPostIdeal.Gen.facts, Cert.Pre.Gen.facts, Cert.PreIdeal.Gen.facts,
  Cert.RefPreIdeal.Gen.facts, Cert.Prompt.Gen.facts, Cert.PromptIdeal.Gen.facts, Cert.RefPromptIdeal.Gen.facts, Cert.Pre_finite.Gen.facts,
  Cert.Pre_experts.Gen.facts, Cert.Pre_heads_finite.Gen.facts, Cert.Pre_projected.Gen.facts, Cert.Pre_projected_prompt.Gen.facts, NsaClaims.frame_p, NsaClaims.frame_pi, NsaClaims.frame_pi_any, NsaClaims.frame_ri,
  FfnClaims.frame_p, FfnClaims.frame_pi, FfnClaims.frame_ri, MoeClaims.frame_p, MoeClaims.frame_pi, MoeClaims.frame_ri,
  CombineClaims.frame_p, CombineClaims.frame_pi, CombineClaims.frame_ri, PostClaims.frame_p, PostClaims.frame_pi, PostClaims.frame_pi_any, PostClaims.frame_ri,
  SampleClaims.frame_p, SampleClaims.frame_pi, SampleClaims.frame_pi_any, SampleClaims.frame_ri,
  PromptClaims.frame_p, PromptClaims.frame_pi, PromptClaims.frame_pi_any, PromptClaims.frame_ri,
  NsaClaims.preserves, NsaClaims.algebraic, FfnClaims.preserves, FfnClaims.algebraic, MoeClaims.preserves, MoeClaims.algebraic,
  CombineClaims.preserves, CombineClaims.algebraic, PostClaims.preserves, PostClaims.algebraic,
  SampleClaims.preserves, SampleClaims.algebraic, PromptClaims.preserves, PromptClaims.algebraic⟩

end Cert.Proof

end
